-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_finite_feed [hPre_finite_feed : Cert.Pre_finite_feed.Facts] (m : (ℓ : Loc Cert.GateIdeal.nD Cert.GateIdeal.τ Cert.GateIdeal.sig) → Buf (Elt Ideal) ℓ) : Prop :=
  ∀ c : Dev Cert.GateIdeal.nD,
    (Cert.Pre_finite_feed.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4))) = (fun _ => 1#1)

def Pre_GateReferenceIdeal (m : (ℓ : Loc Cert.GateReferenceIdeal.nD Cert.GateReferenceIdeal.τ Cert.GateReferenceIdeal.sig) → Buf (Elt Ideal) ℓ) : Prop :=
  True

def Pre_GateReferenceIdeal_finite_feed [hPre_finite_feed : Cert.Pre_finite_feed.Facts] (m : (ℓ : Loc Cert.GateReferenceIdeal.nD Cert.GateReferenceIdeal.τ Cert.GateReferenceIdeal.sig) → Buf (Elt Ideal) ℓ) : Prop :=
  ∀ c : Dev Cert.GateReferenceIdeal.nD,
    (Cert.Pre_finite_feed.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2)) (m ((c.tc : Thread Cert.GateReferenceIdeal.nD Cert.GateReferenceIdeal.τ).loc Cert.GateReferenceIdeal.main_arg3)) (m ((c.tc : Thread Cert.GateReferenceIdeal.nD Cert.GateReferenceIdeal.τ).loc Cert.GateReferenceIdeal.main_arg4))) = (fun _ => 1#1)

def Pre_Wgrad (m : (ℓ : Loc Cert.Wgrad.nD Cert.Wgrad.τ Cert.Wgrad.sig) → Buf (Elt Bits) ℓ) : Prop :=
  True

def Pre_WgradIdeal (m : (ℓ : Loc Cert.WgradIdeal.nD Cert.WgradIdeal.τ Cert.WgradIdeal.sig) → Buf (Elt Ideal) ℓ) : Prop :=
  True

def Pre_WgradReferenceIdeal (m : (ℓ : Loc Cert.WgradReferenceIdeal.nD Cert.WgradReferenceIdeal.τ Cert.WgradReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attention [hPre_finite_attention : Cert.Pre_finite_attention.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attention.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_finite_attention [hPre_finite_attention : Cert.Pre_finite_attention.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_finite_attention.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2))) = (fun _ => 1#1)

def Pre_ProjDx (m : (ℓ : Loc Cert.ProjDx.nD Cert.ProjDx.τ Cert.ProjDx.sig) → Buf (Elt Bits) ℓ) : Prop :=
  True

def Pre_ProjDxIdeal (m : (ℓ : Loc Cert.ProjDxIdeal.nD Cert.ProjDxIdeal.τ Cert.ProjDxIdeal.sig) → Buf (Elt Ideal) ℓ) : Prop :=
  True

def Pre_ProjDxReferenceIdeal (m : (ℓ : Loc Cert.ProjDxReferenceIdeal.nD Cert.ProjDxReferenceIdeal.τ Cert.ProjDxReferenceIdeal.sig) → Buf (Elt Ideal) ℓ) : Prop :=
  True

def Pre_ProjDw (m : (ℓ : Loc Cert.ProjDw.nD Cert.ProjDw.τ Cert.ProjDw.sig) → Buf (Elt Bits) ℓ) : Prop :=
  True

def Pre_ProjDwIdeal (m : (ℓ : Loc Cert.ProjDwIdeal.nD Cert.ProjDwIdeal.τ Cert.ProjDwIdeal.sig) → Buf (Elt Ideal) ℓ) : Prop :=
  True

def Pre_ProjDwReferenceIdeal (m : (ℓ : Loc Cert.ProjDwReferenceIdeal.nD Cert.ProjDwReferenceIdeal.τ Cert.ProjDwReferenceIdeal.sig) → Buf (Elt Ideal) ℓ) : Prop :=
  True

def Pre_MixDx (m : (ℓ : Loc Cert.MixDx.nD Cert.MixDx.τ Cert.MixDx.sig) → Buf (Elt Bits) ℓ) : Prop :=
  True

def Pre_MixDxIdeal (m : (ℓ : Loc Cert.MixDxIdeal.nD Cert.MixDxIdeal.τ Cert.MixDxIdeal.sig) → Buf (Elt Ideal) ℓ) : Prop :=
  True

def Pre_MixDxReferenceIdeal (m : (ℓ : Loc Cert.MixDxReferenceIdeal.nD Cert.MixDxReferenceIdeal.τ Cert.MixDxReferenceIdeal.sig) → Buf (Elt Ideal) ℓ) : Prop :=
  True

def Pre_MixDw (m : (ℓ : Loc Cert.MixDw.nD Cert.MixDw.τ Cert.MixDw.sig) → Buf (Elt Bits) ℓ) : Prop :=
  True

def Pre_MixDwIdeal (m : (ℓ : Loc Cert.MixDwIdeal.nD Cert.MixDwIdeal.τ Cert.MixDwIdeal.sig) → Buf (Elt Ideal) ℓ) : Prop :=
  True

def Pre_MixDwReferenceIdeal (m : (ℓ : Loc Cert.MixDwReferenceIdeal.nD Cert.MixDwReferenceIdeal.τ Cert.MixDwReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_XDh (m : (ℓ : Loc Cert.XDh.nD Cert.XDh.τ Cert.XDh.sig) → Buf (Elt Bits) ℓ) : Prop :=
  True

def Pre_XDhIdeal (m : (ℓ : Loc Cert.XDhIdeal.nD Cert.XDhIdeal.τ Cert.XDhIdeal.sig) → Buf (Elt Ideal) ℓ) : Prop :=
  True

def Pre_XDhReferenceIdeal (m : (ℓ : Loc Cert.XDhReferenceIdeal.nD Cert.XDhReferenceIdeal.τ Cert.XDhReferenceIdeal.sig) → Buf (Elt Ideal) ℓ) : Prop :=
  True

def Pre_XDo (m : (ℓ : Loc Cert.XDo.nD Cert.XDo.τ Cert.XDo.sig) → Buf (Elt Bits) ℓ) : Prop :=
  True

def Pre_XDoIdeal (m : (ℓ : Loc Cert.XDoIdeal.nD Cert.XDoIdeal.τ Cert.XDoIdeal.sig) → Buf (Elt Ideal) ℓ) : Prop :=
  True

def Pre_XDoReferenceIdeal (m : (ℓ : Loc Cert.XDoReferenceIdeal.nD Cert.XDoReferenceIdeal.τ Cert.XDoReferenceIdeal.sig) → Buf (Elt Ideal) ℓ) : Prop :=
  True

def Pre_XDwq (m : (ℓ : Loc Cert.XDwq.nD Cert.XDwq.τ Cert.XDwq.sig) → Buf (Elt Bits) ℓ) : Prop :=
  True

def Pre_XDwqIdeal (m : (ℓ : Loc Cert.XDwqIdeal.nD Cert.XDwqIdeal.τ Cert.XDwqIdeal.sig) → Buf (Elt Ideal) ℓ) : Prop :=
  True

def Pre_XDwqReferenceIdeal (m : (ℓ : Loc Cert.XDwqReferenceIdeal.nD Cert.XDwqReferenceIdeal.τ Cert.XDwqReferenceIdeal.sig) → Buf (Elt Ideal) ℓ) : Prop :=
  True

def Pre_XDwo (m : (ℓ : Loc Cert.XDwo.nD Cert.XDwo.τ Cert.XDwo.sig) → Buf (Elt Bits) ℓ) : Prop :=
  True

def Pre_XDwoIdeal (m : (ℓ : Loc Cert.XDwoIdeal.nD Cert.XDwoIdeal.τ Cert.XDwoIdeal.sig) → Buf (Elt Ideal) ℓ) : Prop :=
  True

def Pre_XDwoReferenceIdeal (m : (ℓ : Loc Cert.XDwoReferenceIdeal.nD Cert.XDwoReferenceIdeal.τ Cert.XDwoReferenceIdeal.sig) → Buf (Elt Ideal) ℓ) : Prop :=
  True

def Pre_Xq (m : (ℓ : Loc Cert.Xq.nD Cert.Xq.τ Cert.Xq.sig) → Buf (Elt Bits) ℓ) : Prop :=
  True

def Pre_XqIdeal (m : (ℓ : Loc Cert.XqIdeal.nD Cert.XqIdeal.τ Cert.XqIdeal.sig) → Buf (Elt Ideal) ℓ) : Prop :=
  True

def Pre_XqReferenceIdeal (m : (ℓ : Loc Cert.XqReferenceIdeal.nD Cert.XqReferenceIdeal.τ Cert.XqReferenceIdeal.sig) → Buf (Elt Ideal) ℓ) : Prop :=
  True

def Pre_Xo (m : (ℓ : Loc Cert.Xo.nD Cert.Xo.τ Cert.Xo.sig) → Buf (Elt Bits) ℓ) : Prop :=
  True

def Pre_XoIdeal (m : (ℓ : Loc Cert.XoIdeal.nD Cert.XoIdeal.τ Cert.XoIdeal.sig) → Buf (Elt Ideal) ℓ) : Prop :=
  True

def Pre_XoReferenceIdeal (m : (ℓ : Loc Cert.XoReferenceIdeal.nD Cert.XoReferenceIdeal.τ Cert.XoReferenceIdeal.sig) → Buf (Elt Ideal) ℓ) : Prop :=
  True

def Pre_MemDw (m : (ℓ : Loc Cert.MemDw.nD Cert.MemDw.τ Cert.MemDw.sig) → Buf (Elt Bits) ℓ) : Prop :=
  True

def Pre_MemDwIdeal (m : (ℓ : Loc Cert.MemDwIdeal.nD Cert.MemDwIdeal.τ Cert.MemDwIdeal.sig) → Buf (Elt Ideal) ℓ) : Prop :=
  True

def Pre_MemDwReferenceIdeal (m : (ℓ : Loc Cert.MemDwReferenceIdeal.nD Cert.MemDwReferenceIdeal.τ Cert.MemDwReferenceIdeal.sig) → Buf (Elt Ideal) ℓ) : Prop :=
  True

def Pre_MemDx (m : (ℓ : Loc Cert.MemDx.nD Cert.MemDx.τ Cert.MemDx.sig) → Buf (Elt Bits) ℓ) : Prop :=
  True

def Pre_MemDxIdeal (m : (ℓ : Loc Cert.MemDxIdeal.nD Cert.MemDxIdeal.τ Cert.MemDxIdeal.sig) → Buf (Elt Ideal) ℓ) : Prop :=
  True

def Pre_MemDxReferenceIdeal (m : (ℓ : Loc Cert.MemDxReferenceIdeal.nD Cert.MemDxReferenceIdeal.τ Cert.MemDxReferenceIdeal.sig) → Buf (Elt Ideal) ℓ) : Prop :=
  True

def Pre_Mem (m : (ℓ : Loc Cert.Mem.nD Cert.Mem.τ Cert.Mem.sig) → Buf (Elt Bits) ℓ) : Prop :=
  True

def Pre_MemIdeal (m : (ℓ : Loc Cert.MemIdeal.nD Cert.MemIdeal.τ Cert.MemIdeal.sig) → Buf (Elt Ideal) ℓ) : Prop :=
  True

def Pre_MemReferenceIdeal (m : (ℓ : Loc Cert.MemReferenceIdeal.nD Cert.MemReferenceIdeal.τ Cert.MemReferenceIdeal.sig) → Buf (Elt Ideal) ℓ) : Prop :=
  True

def Pre_PoolDx (m : (ℓ : Loc Cert.PoolDx.nD Cert.PoolDx.τ Cert.PoolDx.sig) → Buf (Elt Bits) ℓ) : Prop :=
  True

def Pre_PoolDxIdeal (m : (ℓ : Loc Cert.PoolDxIdeal.nD Cert.PoolDxIdeal.τ Cert.PoolDxIdeal.sig) → Buf (Elt Ideal) ℓ) : Prop :=
  True

def Pre_PoolDxReferenceIdeal (m : (ℓ : Loc Cert.PoolDxReferenceIdeal.nD Cert.PoolDxReferenceIdeal.τ Cert.PoolDxReferenceIdeal.sig) → Buf (Elt Ideal) ℓ) : Prop :=
  True

def Pre_PoolDw (m : (ℓ : Loc Cert.PoolDw.nD Cert.PoolDw.τ Cert.PoolDw.sig) → Buf (Elt Bits) ℓ) : Prop :=
  True

def Pre_PoolDwIdeal (m : (ℓ : Loc Cert.PoolDwIdeal.nD Cert.PoolDwIdeal.τ Cert.PoolDwIdeal.sig) → Buf (Elt Ideal) ℓ) : Prop :=
  True

def Pre_PoolDwReferenceIdeal (m : (ℓ : Loc Cert.PoolDwReferenceIdeal.nD Cert.PoolDwReferenceIdeal.τ Cert.PoolDwReferenceIdeal.sig) → Buf (Elt Ideal) ℓ) : Prop :=
  True

def Pre_Xattn (m : (ℓ : Loc Cert.Xattn.nD Cert.Xattn.τ Cert.Xattn.sig) → Buf (Elt Bits) ℓ) : Prop :=
  True

def Pre_XattnIdeal (m : (ℓ : Loc Cert.XattnIdeal.nD Cert.XattnIdeal.τ Cert.XattnIdeal.sig) → Buf (Elt Ideal) ℓ) : Prop :=
  True

def Pre_XattnIdeal_finite_rows [hPre_finite_rows : Cert.Pre_finite_rows.Facts] (m : (ℓ : Loc Cert.XattnIdeal.nD Cert.XattnIdeal.τ Cert.XattnIdeal.sig) → Buf (Elt Ideal) ℓ) : Prop :=
  ∀ c : Dev Cert.XattnIdeal.nD,
    (Cert.Pre_finite_rows.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2))) = (fun _ => 1#1)

def Pre_XattnReferenceIdeal (m : (ℓ : Loc Cert.XattnReferenceIdeal.nD Cert.XattnReferenceIdeal.τ Cert.XattnReferenceIdeal.sig) → Buf (Elt Ideal) ℓ) : Prop :=
  True

def Pre_XattnReferenceIdeal_finite_rows [hPre_finite_rows : Cert.Pre_finite_rows.Facts] (m : (ℓ : Loc Cert.XattnReferenceIdeal.nD Cert.XattnReferenceIdeal.τ Cert.XattnReferenceIdeal.sig) → Buf (Elt Ideal) ℓ) : Prop :=
  ∀ c : Dev Cert.XattnReferenceIdeal.nD,
    (Cert.Pre_finite_rows.fn (F := Ideal) (m ((c.tc : Thread Cert.XattnReferenceIdeal.nD Cert.XattnReferenceIdeal.τ).loc Cert.XattnReferenceIdeal.main_arg0)) (m ((c.tc : Thread Cert.XattnReferenceIdeal.nD Cert.XattnReferenceIdeal.τ).loc Cert.XattnReferenceIdeal.main_arg1)) (m ((c.tc : Thread Cert.XattnReferenceIdeal.nD Cert.XattnReferenceIdeal.τ).loc Cert.XattnReferenceIdeal.main_arg2))) = (fun _ => 1#1)

def Pre_NormDx (m : (ℓ : Loc Cert.NormDx.nD Cert.NormDx.τ Cert.NormDx.sig) → Buf (Elt Bits) ℓ) : Prop :=
  True

def Pre_NormDxIdeal (m : (ℓ : Loc Cert.NormDxIdeal.nD Cert.NormDxIdeal.τ Cert.NormDxIdeal.sig) → Buf (Elt Ideal) ℓ) : Prop :=
  True

def Pre_NormDxReferenceIdeal (m : (ℓ : Loc Cert.NormDxReferenceIdeal.nD Cert.NormDxReferenceIdeal.τ Cert.NormDxReferenceIdeal.sig) → Buf (Elt Ideal) ℓ) : Prop :=
  True

def Pre_Resid (m : (ℓ : Loc Cert.Resid.nD Cert.Resid.τ Cert.Resid.sig) → Buf (Elt Bits) ℓ) : Prop :=
  True

def Pre_ResidIdeal (m : (ℓ : Loc Cert.ResidIdeal.nD Cert.ResidIdeal.τ Cert.ResidIdeal.sig) → Buf (Elt Ideal) ℓ) : Prop :=
  True

def Pre_ResidReferenceIdeal (m : (ℓ : Loc Cert.ResidReferenceIdeal.nD Cert.ResidReferenceIdeal.τ Cert.ResidReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_Assemble (m : (ℓ : Loc Cert.Assemble.nD Cert.Assemble.τ Cert.Assemble.sig) → Buf (Elt Bits) ℓ) : Prop :=
  True

def Pre_AssembleIdeal (m : (ℓ : Loc Cert.AssembleIdeal.nD Cert.AssembleIdeal.τ Cert.AssembleIdeal.sig) → Buf (Elt Ideal) ℓ) : Prop :=
  True

def Pre_AssembleReferenceIdeal (m : (ℓ : Loc Cert.AssembleReferenceIdeal.nD Cert.AssembleReferenceIdeal.τ Cert.AssembleReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateIdeal_pre_finite_feed [hGateIdeal : Cert.GateIdeal.Facts] [hPre_finite_feed : Cert.Pre_finite_feed.Facts] : Prop :=
  ∀ (m : (ℓ : Loc Cert.GateIdeal.nD Cert.GateIdeal.τ Cert.GateIdeal.sig) → Buf (Elt Ideal) ℓ) (g : Dev Cert.GateIdeal.nD → PrngReg), Pre_GateIdeal_finite_feed m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3)
      ∧ r.2.mem ((c.tc : Thread Cert.GateReferenceIdeal.nD Cert.GateReferenceIdeal.τ).loc Cert.GateReferenceIdeal.main_arg4) = m ((c.tc : Thread Cert.GateReferenceIdeal.nD Cert.GateReferenceIdeal.τ).loc Cert.GateReferenceIdeal.main_arg4))
      ∧ r.2.sem = fun _ => 0)

def quiescent_GateReferenceIdeal_pre_finite_feed [hGateReferenceIdeal : Cert.GateReferenceIdeal.Facts] [hPre_finite_feed : Cert.Pre_finite_feed.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal_finite_feed m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3)
      ∧ r.2.mem ((c.tc : Thread Cert.GateReferenceIdeal.nD Cert.GateReferenceIdeal.τ).loc Cert.GateReferenceIdeal.main_arg4) = m ((c.tc : Thread Cert.GateReferenceIdeal.nD Cert.GateReferenceIdeal.τ).loc Cert.GateReferenceIdeal.main_arg4))
      ∧ r.2.sem = fun _ => 0)

def quiescent_Wgrad [hWgrad : Cert.Wgrad.Facts] : Prop :=
  ∀ (m : (ℓ : Loc Cert.Wgrad.nD Cert.Wgrad.τ Cert.Wgrad.sig) → Buf (Elt Bits) ℓ) (g : Dev Cert.Wgrad.nD → PrngReg), Pre_Wgrad m →
    θ_run (Cert.Wgrad.defs (F := Bits)) (onTc (τ := Cert.Wgrad.τ) (Cert.Wgrad.main (F := Bits))) ⟨m, fun _ => 0, g⟩ (fun r => (∀ c : Dev Cert.Wgrad.nD,
      r.2.mem ((c.tc : Thread Cert.Wgrad.nD Cert.Wgrad.τ).loc Cert.Wgrad.main_arg0) = m ((c.tc : Thread Cert.Wgrad.nD Cert.Wgrad.τ).loc Cert.Wgrad.main_arg0)
      ∧ r.2.mem ((c.tc : Thread Cert.Wgrad.nD Cert.Wgrad.τ).loc Cert.Wgrad.main_arg1) = m ((c.tc : Thread Cert.Wgrad.nD Cert.Wgrad.τ).loc Cert.Wgrad.main_arg1))
      ∧ r.2.sem = fun _ => 0)

def quiescent_WgradIdeal [hWgradIdeal : Cert.WgradIdeal.Facts] : Prop :=
  ∀ (m : (ℓ : Loc Cert.WgradIdeal.nD Cert.WgradIdeal.τ Cert.WgradIdeal.sig) → Buf (Elt Ideal) ℓ) (g : Dev Cert.WgradIdeal.nD → PrngReg), Pre_WgradIdeal m →
    θ_run (Cert.WgradIdeal.defs (F := Ideal)) (onTc (τ := Cert.WgradIdeal.τ) (Cert.WgradIdeal.main (F := Ideal))) ⟨m, fun _ => 0, g⟩ (fun r => (∀ c : Dev Cert.WgradIdeal.nD,
      r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
      ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1))
      ∧ r.2.sem = fun _ => 0)

def quiescent_WgradReferenceIdeal [hWgradReferenceIdeal : Cert.WgradReferenceIdeal.Facts] : Prop :=
  ∀ (m : (ℓ : Loc Cert.WgradReferenceIdeal.nD Cert.WgradReferenceIdeal.τ Cert.WgradReferenceIdeal.sig) → Buf (Elt Ideal) ℓ) (g : Dev Cert.WgradReferenceIdeal.nD → PrngReg), Pre_WgradReferenceIdeal m →
    θ_run (Cert.WgradReferenceIdeal.defs (F := Ideal)) (onTc (τ := Cert.WgradReferenceIdeal.τ) (Cert.WgradReferenceIdeal.main (F := Ideal))) ⟨m, fun _ => 0, g⟩ (fun r => (∀ c : Dev Cert.WgradReferenceIdeal.nD,
      r.2.mem ((c.tc : Thread Cert.WgradReferenceIdeal.nD Cert.WgradReferenceIdeal.τ).loc Cert.WgradReferenceIdeal.main_arg0) = m ((c.tc : Thread Cert.WgradReferenceIdeal.nD Cert.WgradReferenceIdeal.τ).loc Cert.WgradReferenceIdeal.main_arg0)
      ∧ r.2.mem ((c.tc : Thread Cert.WgradReferenceIdeal.nD Cert.WgradReferenceIdeal.τ).loc Cert.WgradReferenceIdeal.main_arg1) = m ((c.tc : Thread Cert.WgradReferenceIdeal.nD Cert.WgradReferenceIdeal.τ).loc Cert.WgradReferenceIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite_attention [hAttnIdeal : Cert.AttnIdeal.Facts] [hPre_finite_attention : Cert.Pre_finite_attention.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attention m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2))
      ∧ r.2.sem = fun _ => 0)

def quiescent_AttnReferenceIdeal_pre_finite_attention [hAttnReferenceIdeal : Cert.AttnReferenceIdeal.Facts] [hPre_finite_attention : Cert.Pre_finite_attention.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_finite_attention m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2))
      ∧ r.2.sem = fun _ => 0)

def quiescent_ProjDx [hProjDx : Cert.ProjDx.Facts] : Prop :=
  ∀ (m : (ℓ : Loc Cert.ProjDx.nD Cert.ProjDx.τ Cert.ProjDx.sig) → Buf (Elt Bits) ℓ) (g : Dev Cert.ProjDx.nD → PrngReg), Pre_ProjDx m →
    θ_run (Cert.ProjDx.defs (F := Bits)) (onTc (τ := Cert.ProjDx.τ) (Cert.ProjDx.main (F := Bits))) ⟨m, fun _ => 0, g⟩ (fun r => (∀ c : Dev Cert.ProjDx.nD,
      r.2.mem ((c.tc : Thread Cert.ProjDx.nD Cert.ProjDx.τ).loc Cert.ProjDx.main_arg0) = m ((c.tc : Thread Cert.ProjDx.nD Cert.ProjDx.τ).loc Cert.ProjDx.main_arg0)
      ∧ r.2.mem ((c.tc : Thread Cert.ProjDx.nD Cert.ProjDx.τ).loc Cert.ProjDx.main_arg1) = m ((c.tc : Thread Cert.ProjDx.nD Cert.ProjDx.τ).loc Cert.ProjDx.main_arg1))
      ∧ r.2.sem = fun _ => 0)

def quiescent_ProjDxIdeal [hProjDxIdeal : Cert.ProjDxIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg), Pre_ProjDxIdeal m →
    θ_run (Cert.ProjDxIdeal.defs (F := Ideal)) (onTc (τ := Cert.ProjDxIdeal.τ) (Cert.ProjDxIdeal.main (F := Ideal))) ⟨m, fun _ => 0, g⟩ (fun r => (∀ c : Dev Cert.ProjDxIdeal.nD,
      r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
      ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1))
      ∧ r.2.sem = fun _ => 0)

def quiescent_ProjDxReferenceIdeal [hProjDxReferenceIdeal : Cert.ProjDxReferenceIdeal.Facts] : Prop :=
  ∀ (m : (ℓ : Loc Cert.ProjDxReferenceIdeal.nD Cert.ProjDxReferenceIdeal.τ Cert.ProjDxReferenceIdeal.sig) → Buf (Elt Ideal) ℓ) (g : Dev Cert.ProjDxReferenceIdeal.nD → PrngReg), Pre_ProjDxReferenceIdeal m →
    θ_run (Cert.ProjDxReferenceIdeal.defs (F := Ideal)) (onTc (τ := Cert.ProjDxReferenceIdeal.τ) (Cert.ProjDxReferenceIdeal.main (F := Ideal))) ⟨m, fun _ => 0, g⟩ (fun r => (∀ c : Dev Cert.ProjDxReferenceIdeal.nD,
      r.2.mem ((c.tc : Thread Cert.ProjDxReferenceIdeal.nD Cert.ProjDxReferenceIdeal.τ).loc Cert.ProjDxReferenceIdeal.main_arg0) = m ((c.tc : Thread Cert.ProjDxReferenceIdeal.nD Cert.ProjDxReferenceIdeal.τ).loc Cert.ProjDxReferenceIdeal.main_arg0)
      ∧ r.2.mem ((c.tc : Thread Cert.ProjDxReferenceIdeal.nD Cert.ProjDxReferenceIdeal.τ).loc Cert.ProjDxReferenceIdeal.main_arg1) = m ((c.tc : Thread Cert.ProjDxReferenceIdeal.nD Cert.ProjDxReferenceIdeal.τ).loc Cert.ProjDxReferenceIdeal.main_arg1))
      ∧ r.2.sem = fun _ => 0)

def quiescent_ProjDw [hProjDw : Cert.ProjDw.Facts] : Prop :=
  ∀ (m : (ℓ : Loc Cert.ProjDw.nD Cert.ProjDw.τ Cert.ProjDw.sig) → Buf (Elt Bits) ℓ) (g : Dev Cert.ProjDw.nD → PrngReg), Pre_ProjDw m →
    θ_run (Cert.ProjDw.defs (F := Bits)) (onTc (τ := Cert.ProjDw.τ) (Cert.ProjDw.main (F := Bits))) ⟨m, fun _ => 0, g⟩ (fun r => (∀ c : Dev Cert.ProjDw.nD,
      r.2.mem ((c.tc : Thread Cert.ProjDw.nD Cert.ProjDw.τ).loc Cert.ProjDw.main_arg0) = m ((c.tc : Thread Cert.ProjDw.nD Cert.ProjDw.τ).loc Cert.ProjDw.main_arg0)
      ∧ r.2.mem ((c.tc : Thread Cert.ProjDw.nD Cert.ProjDw.τ).loc Cert.ProjDw.main_arg1) = m ((c.tc : Thread Cert.ProjDw.nD Cert.ProjDw.τ).loc Cert.ProjDw.main_arg1))
      ∧ r.2.sem = fun _ => 0)

def quiescent_ProjDwIdeal [hProjDwIdeal : Cert.ProjDwIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg), Pre_ProjDwIdeal m →
    θ_run (Cert.ProjDwIdeal.defs (F := Ideal)) (onTc (τ := Cert.ProjDwIdeal.τ) (Cert.ProjDwIdeal.main (F := Ideal))) ⟨m, fun _ => 0, g⟩ (fun r => (∀ c : Dev Cert.ProjDwIdeal.nD,
      r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
      ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ r.2.sem = fun _ => 0)

def quiescent_ProjDwReferenceIdeal [hProjDwReferenceIdeal : Cert.ProjDwReferenceIdeal.Facts] : Prop :=
  ∀ (m : (ℓ : Loc Cert.ProjDwReferenceIdeal.nD Cert.ProjDwReferenceIdeal.τ Cert.ProjDwReferenceIdeal.sig) → Buf (Elt Ideal) ℓ) (g : Dev Cert.ProjDwReferenceIdeal.nD → PrngReg), Pre_ProjDwReferenceIdeal m →
    θ_run (Cert.ProjDwReferenceIdeal.defs (F := Ideal)) (onTc (τ := Cert.ProjDwReferenceIdeal.τ) (Cert.ProjDwReferenceIdeal.main (F := Ideal))) ⟨m, fun _ => 0, g⟩ (fun r => (∀ c : Dev Cert.ProjDwReferenceIdeal.nD,
      r.2.mem ((c.tc : Thread Cert.ProjDwReferenceIdeal.nD Cert.ProjDwReferenceIdeal.τ).loc Cert.ProjDwReferenceIdeal.main_arg0) = m ((c.tc : Thread Cert.ProjDwReferenceIdeal.nD Cert.ProjDwReferenceIdeal.τ).loc Cert.ProjDwReferenceIdeal.main_arg0)
      ∧ r.2.mem ((c.tc : Thread Cert.ProjDwReferenceIdeal.nD Cert.ProjDwReferenceIdeal.τ).loc Cert.ProjDwReferenceIdeal.main_arg1) = m ((c.tc : Thread Cert.ProjDwReferenceIdeal.nD Cert.ProjDwReferenceIdeal.τ).loc Cert.ProjDwReferenceIdeal.main_arg1))
      ∧ r.2.sem = fun _ => 0)

def quiescent_MixDx [hMixDx : Cert.MixDx.Facts] : Prop :=
  ∀ (m : (ℓ : Loc Cert.MixDx.nD Cert.MixDx.τ Cert.MixDx.sig) → Buf (Elt Bits) ℓ) (g : Dev Cert.MixDx.nD → PrngReg), Pre_MixDx m →
    θ_run (Cert.MixDx.defs (F := Bits)) (onTc (τ := Cert.MixDx.τ) (Cert.MixDx.main (F := Bits))) ⟨m, fun _ => 0, g⟩ (fun r => (∀ c : Dev Cert.MixDx.nD,
      r.2.mem ((c.tc : Thread Cert.MixDx.nD Cert.MixDx.τ).loc Cert.MixDx.main_arg0) = m ((c.tc : Thread Cert.MixDx.nD Cert.MixDx.τ).loc Cert.MixDx.main_arg0)
      ∧ r.2.mem ((c.tc : Thread Cert.MixDx.nD Cert.MixDx.τ).loc Cert.MixDx.main_arg1) = m ((c.tc : Thread Cert.MixDx.nD Cert.MixDx.τ).loc Cert.MixDx.main_arg1))
      ∧ r.2.sem = fun _ => 0)

def quiescent_MixDxIdeal [hMixDxIdeal : Cert.MixDxIdeal.Facts] : Prop :=
  ∀ (m : (ℓ : Loc Cert.MixDxIdeal.nD Cert.MixDxIdeal.τ Cert.MixDxIdeal.sig) → Buf (Elt Ideal) ℓ) (g : Dev Cert.MixDxIdeal.nD → PrngReg), Pre_MixDxIdeal m →
    θ_run (Cert.MixDxIdeal.defs (F := Ideal)) (onTc (τ := Cert.MixDxIdeal.τ) (Cert.MixDxIdeal.main (F := Ideal))) ⟨m, fun _ => 0, g⟩ (fun r => (∀ c : Dev Cert.MixDxIdeal.nD,
      r.2.mem ((c.tc : Thread Cert.MixDxIdeal.nD Cert.MixDxIdeal.τ).loc Cert.MixDxIdeal.main_arg0) = m ((c.tc : Thread Cert.MixDxIdeal.nD Cert.MixDxIdeal.τ).loc Cert.MixDxIdeal.main_arg0)
      ∧ r.2.mem ((c.tc : Thread Cert.MixDxIdeal.nD Cert.MixDxIdeal.τ).loc Cert.MixDxIdeal.main_arg1) = m ((c.tc : Thread Cert.MixDxIdeal.nD Cert.MixDxIdeal.τ).loc Cert.MixDxIdeal.main_arg1))
      ∧ r.2.sem = fun _ => 0)

def quiescent_MixDxReferenceIdeal [hMixDxReferenceIdeal : Cert.MixDxReferenceIdeal.Facts] : Prop :=
  ∀ (m : (ℓ : Loc Cert.MixDxReferenceIdeal.nD Cert.MixDxReferenceIdeal.τ Cert.MixDxReferenceIdeal.sig) → Buf (Elt Ideal) ℓ) (g : Dev Cert.MixDxReferenceIdeal.nD → PrngReg), Pre_MixDxReferenceIdeal m →
    θ_run (Cert.MixDxReferenceIdeal.defs (F := Ideal)) (onTc (τ := Cert.MixDxReferenceIdeal.τ) (Cert.MixDxReferenceIdeal.main (F := Ideal))) ⟨m, fun _ => 0, g⟩ (fun r => (∀ c : Dev Cert.MixDxReferenceIdeal.nD,
      r.2.mem ((c.tc : Thread Cert.MixDxReferenceIdeal.nD Cert.MixDxReferenceIdeal.τ).loc Cert.MixDxReferenceIdeal.main_arg0) = m ((c.tc : Thread Cert.MixDxReferenceIdeal.nD Cert.MixDxReferenceIdeal.τ).loc Cert.MixDxReferenceIdeal.main_arg0)
      ∧ r.2.mem ((c.tc : Thread Cert.MixDxReferenceIdeal.nD Cert.MixDxReferenceIdeal.τ).loc Cert.MixDxReferenceIdeal.main_arg1) = m ((c.tc : Thread Cert.MixDxReferenceIdeal.nD Cert.MixDxReferenceIdeal.τ).loc Cert.MixDxReferenceIdeal.main_arg1))
      ∧ r.2.sem = fun _ => 0)

def quiescent_MixDw [hMixDw : Cert.MixDw.Facts] : Prop :=
  ∀ (m : (ℓ : Loc Cert.MixDw.nD Cert.MixDw.τ Cert.MixDw.sig) → Buf (Elt Bits) ℓ) (g : Dev Cert.MixDw.nD → PrngReg), Pre_MixDw m →
    θ_run (Cert.MixDw.defs (F := Bits)) (onTc (τ := Cert.MixDw.τ) (Cert.MixDw.main (F := Bits))) ⟨m, fun _ => 0, g⟩ (fun r => (∀ c : Dev Cert.MixDw.nD,
      r.2.mem ((c.tc : Thread Cert.MixDw.nD Cert.MixDw.τ).loc Cert.MixDw.main_arg0) = m ((c.tc : Thread Cert.MixDw.nD Cert.MixDw.τ).loc Cert.MixDw.main_arg0)
      ∧ r.2.mem ((c.tc : Thread Cert.MixDw.nD Cert.MixDw.τ).loc Cert.MixDw.main_arg1) = m ((c.tc : Thread Cert.MixDw.nD Cert.MixDw.τ).loc Cert.MixDw.main_arg1))
      ∧ r.2.sem = fun _ => 0)

def quiescent_MixDwIdeal [hMixDwIdeal : Cert.MixDwIdeal.Facts] : Prop :=
  ∀ (m : (ℓ : Loc Cert.MixDwIdeal.nD Cert.MixDwIdeal.τ Cert.MixDwIdeal.sig) → Buf (Elt Ideal) ℓ) (g : Dev Cert.MixDwIdeal.nD → PrngReg), Pre_MixDwIdeal m →
    θ_run (Cert.MixDwIdeal.defs (F := Ideal)) (onTc (τ := Cert.MixDwIdeal.τ) (Cert.MixDwIdeal.main (F := Ideal))) ⟨m, fun _ => 0, g⟩ (fun r => (∀ c : Dev Cert.MixDwIdeal.nD,
      r.2.mem ((c.tc : Thread Cert.MixDwIdeal.nD Cert.MixDwIdeal.τ).loc Cert.MixDwIdeal.main_arg0) = m ((c.tc : Thread Cert.MixDwIdeal.nD Cert.MixDwIdeal.τ).loc Cert.MixDwIdeal.main_arg0)
      ∧ r.2.mem ((c.tc : Thread Cert.MixDwIdeal.nD Cert.MixDwIdeal.τ).loc Cert.MixDwIdeal.main_arg1) = m ((c.tc : Thread Cert.MixDwIdeal.nD Cert.MixDwIdeal.τ).loc Cert.MixDwIdeal.main_arg1))
      ∧ r.2.sem = fun _ => 0)

def quiescent_MixDwReferenceIdeal [hMixDwReferenceIdeal : Cert.MixDwReferenceIdeal.Facts] : Prop :=
  ∀ (m : (ℓ : Loc Cert.MixDwReferenceIdeal.nD Cert.MixDwReferenceIdeal.τ Cert.MixDwReferenceIdeal.sig) → Buf (Elt Ideal) ℓ) (g : Dev Cert.MixDwReferenceIdeal.nD → PrngReg), Pre_MixDwReferenceIdeal m →
    θ_run (Cert.MixDwReferenceIdeal.defs (F := Ideal)) (onTc (τ := Cert.MixDwReferenceIdeal.τ) (Cert.MixDwReferenceIdeal.main (F := Ideal))) ⟨m, fun _ => 0, g⟩ (fun r => (∀ c : Dev Cert.MixDwReferenceIdeal.nD,
      r.2.mem ((c.tc : Thread Cert.MixDwReferenceIdeal.nD Cert.MixDwReferenceIdeal.τ).loc Cert.MixDwReferenceIdeal.main_arg0) = m ((c.tc : Thread Cert.MixDwReferenceIdeal.nD Cert.MixDwReferenceIdeal.τ).loc Cert.MixDwReferenceIdeal.main_arg0)
      ∧ r.2.mem ((c.tc : Thread Cert.MixDwReferenceIdeal.nD Cert.MixDwReferenceIdeal.τ).loc Cert.MixDwReferenceIdeal.main_arg1) = m ((c.tc : Thread Cert.MixDwReferenceIdeal.nD Cert.MixDwReferenceIdeal.τ).loc Cert.MixDwReferenceIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1))
      ∧ r.2.sem = fun _ => 0)

def quiescent_XDh [hXDh : Cert.XDh.Facts] : Prop :=
  ∀ (m : (ℓ : Loc Cert.XDh.nD Cert.XDh.τ Cert.XDh.sig) → Buf (Elt Bits) ℓ) (g : Dev Cert.XDh.nD → PrngReg), Pre_XDh m →
    θ_run (Cert.XDh.defs (F := Bits)) (onTc (τ := Cert.XDh.τ) (Cert.XDh.main (F := Bits))) ⟨m, fun _ => 0, g⟩ (fun r => (∀ c : Dev Cert.XDh.nD,
      r.2.mem ((c.tc : Thread Cert.XDh.nD Cert.XDh.τ).loc Cert.XDh.main_arg0) = m ((c.tc : Thread Cert.XDh.nD Cert.XDh.τ).loc Cert.XDh.main_arg0)
      ∧ r.2.mem ((c.tc : Thread Cert.XDh.nD Cert.XDh.τ).loc Cert.XDh.main_arg1) = m ((c.tc : Thread Cert.XDh.nD Cert.XDh.τ).loc Cert.XDh.main_arg1))
      ∧ r.2.sem = fun _ => 0)

def quiescent_XDhIdeal [hXDhIdeal : Cert.XDhIdeal.Facts] : Prop :=
  ∀ (m : (ℓ : Loc Cert.XDhIdeal.nD Cert.XDhIdeal.τ Cert.XDhIdeal.sig) → Buf (Elt Ideal) ℓ) (g : Dev Cert.XDhIdeal.nD → PrngReg), Pre_XDhIdeal m →
    θ_run (Cert.XDhIdeal.defs (F := Ideal)) (onTc (τ := Cert.XDhIdeal.τ) (Cert.XDhIdeal.main (F := Ideal))) ⟨m, fun _ => 0, g⟩ (fun r => (∀ c : Dev Cert.XDhIdeal.nD,
      r.2.mem ((c.tc : Thread Cert.XDhIdeal.nD Cert.XDhIdeal.τ).loc Cert.XDhIdeal.main_arg0) = m ((c.tc : Thread Cert.XDhIdeal.nD Cert.XDhIdeal.τ).loc Cert.XDhIdeal.main_arg0)
      ∧ r.2.mem ((c.tc : Thread Cert.XDhIdeal.nD Cert.XDhIdeal.τ).loc Cert.XDhIdeal.main_arg1) = m ((c.tc : Thread Cert.XDhIdeal.nD Cert.XDhIdeal.τ).loc Cert.XDhIdeal.main_arg1))
      ∧ r.2.sem = fun _ => 0)

def quiescent_XDhReferenceIdeal [hXDhReferenceIdeal : Cert.XDhReferenceIdeal.Facts] : Prop :=
  ∀ (m : (ℓ : Loc Cert.XDhReferenceIdeal.nD Cert.XDhReferenceIdeal.τ Cert.XDhReferenceIdeal.sig) → Buf (Elt Ideal) ℓ) (g : Dev Cert.XDhReferenceIdeal.nD → PrngReg), Pre_XDhReferenceIdeal m →
    θ_run (Cert.XDhReferenceIdeal.defs (F := Ideal)) (onTc (τ := Cert.XDhReferenceIdeal.τ) (Cert.XDhReferenceIdeal.main (F := Ideal))) ⟨m, fun _ => 0, g⟩ (fun r => (∀ c : Dev Cert.XDhReferenceIdeal.nD,
      r.2.mem ((c.tc : Thread Cert.XDhReferenceIdeal.nD Cert.XDhReferenceIdeal.τ).loc Cert.XDhReferenceIdeal.main_arg0) = m ((c.tc : Thread Cert.XDhReferenceIdeal.nD Cert.XDhReferenceIdeal.τ).loc Cert.XDhReferenceIdeal.main_arg0)
      ∧ r.2.mem ((c.tc : Thread Cert.XDhReferenceIdeal.nD Cert.XDhReferenceIdeal.τ).loc Cert.XDhReferenceIdeal.main_arg1) = m ((c.tc : Thread Cert.XDhReferenceIdeal.nD Cert.XDhReferenceIdeal.τ).loc Cert.XDhReferenceIdeal.main_arg1))
      ∧ r.2.sem = fun _ => 0)

def quiescent_XDo [hXDo : Cert.XDo.Facts] : Prop :=
  ∀ (m : (ℓ : Loc Cert.XDo.nD Cert.XDo.τ Cert.XDo.sig) → Buf (Elt Bits) ℓ) (g : Dev Cert.XDo.nD → PrngReg), Pre_XDo m →
    θ_run (Cert.XDo.defs (F := Bits)) (onTc (τ := Cert.XDo.τ) (Cert.XDo.main (F := Bits))) ⟨m, fun _ => 0, g⟩ (fun r => (∀ c : Dev Cert.XDo.nD,
      r.2.mem ((c.tc : Thread Cert.XDo.nD Cert.XDo.τ).loc Cert.XDo.main_arg0) = m ((c.tc : Thread Cert.XDo.nD Cert.XDo.τ).loc Cert.XDo.main_arg0)
      ∧ r.2.mem ((c.tc : Thread Cert.XDo.nD Cert.XDo.τ).loc Cert.XDo.main_arg1) = m ((c.tc : Thread Cert.XDo.nD Cert.XDo.τ).loc Cert.XDo.main_arg1))
      ∧ r.2.sem = fun _ => 0)

def quiescent_XDoIdeal [hXDoIdeal : Cert.XDoIdeal.Facts] : Prop :=
  ∀ (m : (ℓ : Loc Cert.XDoIdeal.nD Cert.XDoIdeal.τ Cert.XDoIdeal.sig) → Buf (Elt Ideal) ℓ) (g : Dev Cert.XDoIdeal.nD → PrngReg), Pre_XDoIdeal m →
    θ_run (Cert.XDoIdeal.defs (F := Ideal)) (onTc (τ := Cert.XDoIdeal.τ) (Cert.XDoIdeal.main (F := Ideal))) ⟨m, fun _ => 0, g⟩ (fun r => (∀ c : Dev Cert.XDoIdeal.nD,
      r.2.mem ((c.tc : Thread Cert.XDoIdeal.nD Cert.XDoIdeal.τ).loc Cert.XDoIdeal.main_arg0) = m ((c.tc : Thread Cert.XDoIdeal.nD Cert.XDoIdeal.τ).loc Cert.XDoIdeal.main_arg0)
      ∧ r.2.mem ((c.tc : Thread Cert.XDoIdeal.nD Cert.XDoIdeal.τ).loc Cert.XDoIdeal.main_arg1) = m ((c.tc : Thread Cert.XDoIdeal.nD Cert.XDoIdeal.τ).loc Cert.XDoIdeal.main_arg1))
      ∧ r.2.sem = fun _ => 0)

def quiescent_XDoReferenceIdeal [hXDoReferenceIdeal : Cert.XDoReferenceIdeal.Facts] : Prop :=
  ∀ (m : (ℓ : Loc Cert.XDoReferenceIdeal.nD Cert.XDoReferenceIdeal.τ Cert.XDoReferenceIdeal.sig) → Buf (Elt Ideal) ℓ) (g : Dev Cert.XDoReferenceIdeal.nD → PrngReg), Pre_XDoReferenceIdeal m →
    θ_run (Cert.XDoReferenceIdeal.defs (F := Ideal)) (onTc (τ := Cert.XDoReferenceIdeal.τ) (Cert.XDoReferenceIdeal.main (F := Ideal))) ⟨m, fun _ => 0, g⟩ (fun r => (∀ c : Dev Cert.XDoReferenceIdeal.nD,
      r.2.mem ((c.tc : Thread Cert.XDoReferenceIdeal.nD Cert.XDoReferenceIdeal.τ).loc Cert.XDoReferenceIdeal.main_arg0) = m ((c.tc : Thread Cert.XDoReferenceIdeal.nD Cert.XDoReferenceIdeal.τ).loc Cert.XDoReferenceIdeal.main_arg0)
      ∧ r.2.mem ((c.tc : Thread Cert.XDoReferenceIdeal.nD Cert.XDoReferenceIdeal.τ).loc Cert.XDoReferenceIdeal.main_arg1) = m ((c.tc : Thread Cert.XDoReferenceIdeal.nD Cert.XDoReferenceIdeal.τ).loc Cert.XDoReferenceIdeal.main_arg1))
      ∧ r.2.sem = fun _ => 0)

def quiescent_XDwq [hXDwq : Cert.XDwq.Facts] : Prop :=
  ∀ (m : (ℓ : Loc Cert.XDwq.nD Cert.XDwq.τ Cert.XDwq.sig) → Buf (Elt Bits) ℓ) (g : Dev Cert.XDwq.nD → PrngReg), Pre_XDwq m →
    θ_run (Cert.XDwq.defs (F := Bits)) (onTc (τ := Cert.XDwq.τ) (Cert.XDwq.main (F := Bits))) ⟨m, fun _ => 0, g⟩ (fun r => (∀ c : Dev Cert.XDwq.nD,
      r.2.mem ((c.tc : Thread Cert.XDwq.nD Cert.XDwq.τ).loc Cert.XDwq.main_arg0) = m ((c.tc : Thread Cert.XDwq.nD Cert.XDwq.τ).loc Cert.XDwq.main_arg0)
      ∧ r.2.mem ((c.tc : Thread Cert.XDwq.nD Cert.XDwq.τ).loc Cert.XDwq.main_arg1) = m ((c.tc : Thread Cert.XDwq.nD Cert.XDwq.τ).loc Cert.XDwq.main_arg1))
      ∧ r.2.sem = fun _ => 0)

def quiescent_XDwqIdeal [hXDwqIdeal : Cert.XDwqIdeal.Facts] : Prop :=
  ∀ (m : (ℓ : Loc Cert.XDwqIdeal.nD Cert.XDwqIdeal.τ Cert.XDwqIdeal.sig) → Buf (Elt Ideal) ℓ) (g : Dev Cert.XDwqIdeal.nD → PrngReg), Pre_XDwqIdeal m →
    θ_run (Cert.XDwqIdeal.defs (F := Ideal)) (onTc (τ := Cert.XDwqIdeal.τ) (Cert.XDwqIdeal.main (F := Ideal))) ⟨m, fun _ => 0, g⟩ (fun r => (∀ c : Dev Cert.XDwqIdeal.nD,
      r.2.mem ((c.tc : Thread Cert.XDwqIdeal.nD Cert.XDwqIdeal.τ).loc Cert.XDwqIdeal.main_arg0) = m ((c.tc : Thread Cert.XDwqIdeal.nD Cert.XDwqIdeal.τ).loc Cert.XDwqIdeal.main_arg0)
      ∧ r.2.mem ((c.tc : Thread Cert.XDwqIdeal.nD Cert.XDwqIdeal.τ).loc Cert.XDwqIdeal.main_arg1) = m ((c.tc : Thread Cert.XDwqIdeal.nD Cert.XDwqIdeal.τ).loc Cert.XDwqIdeal.main_arg1))
      ∧ r.2.sem = fun _ => 0)

def quiescent_XDwqReferenceIdeal [hXDwqReferenceIdeal : Cert.XDwqReferenceIdeal.Facts] : Prop :=
  ∀ (m : (ℓ : Loc Cert.XDwqReferenceIdeal.nD Cert.XDwqReferenceIdeal.τ Cert.XDwqReferenceIdeal.sig) → Buf (Elt Ideal) ℓ) (g : Dev Cert.XDwqReferenceIdeal.nD → PrngReg), Pre_XDwqReferenceIdeal m →
    θ_run (Cert.XDwqReferenceIdeal.defs (F := Ideal)) (onTc (τ := Cert.XDwqReferenceIdeal.τ) (Cert.XDwqReferenceIdeal.main (F := Ideal))) ⟨m, fun _ => 0, g⟩ (fun r => (∀ c : Dev Cert.XDwqReferenceIdeal.nD,
      r.2.mem ((c.tc : Thread Cert.XDwqReferenceIdeal.nD Cert.XDwqReferenceIdeal.τ).loc Cert.XDwqReferenceIdeal.main_arg0) = m ((c.tc : Thread Cert.XDwqReferenceIdeal.nD Cert.XDwqReferenceIdeal.τ).loc Cert.XDwqReferenceIdeal.main_arg0)
      ∧ r.2.mem ((c.tc : Thread Cert.XDwqReferenceIdeal.nD Cert.XDwqReferenceIdeal.τ).loc Cert.XDwqReferenceIdeal.main_arg1) = m ((c.tc : Thread Cert.XDwqReferenceIdeal.nD Cert.XDwqReferenceIdeal.τ).loc Cert.XDwqReferenceIdeal.main_arg1))
      ∧ r.2.sem = fun _ => 0)

def quiescent_XDwo [hXDwo : Cert.XDwo.Facts] : Prop :=
  ∀ (m : (ℓ : Loc Cert.XDwo.nD Cert.XDwo.τ Cert.XDwo.sig) → Buf (Elt Bits) ℓ) (g : Dev Cert.XDwo.nD → PrngReg), Pre_XDwo m →
    θ_run (Cert.XDwo.defs (F := Bits)) (onTc (τ := Cert.XDwo.τ) (Cert.XDwo.main (F := Bits))) ⟨m, fun _ => 0, g⟩ (fun r => (∀ c : Dev Cert.XDwo.nD,
      r.2.mem ((c.tc : Thread Cert.XDwo.nD Cert.XDwo.τ).loc Cert.XDwo.main_arg0) = m ((c.tc : Thread Cert.XDwo.nD Cert.XDwo.τ).loc Cert.XDwo.main_arg0)
      ∧ r.2.mem ((c.tc : Thread Cert.XDwo.nD Cert.XDwo.τ).loc Cert.XDwo.main_arg1) = m ((c.tc : Thread Cert.XDwo.nD Cert.XDwo.τ).loc Cert.XDwo.main_arg1))
      ∧ r.2.sem = fun _ => 0)

def quiescent_XDwoIdeal [hXDwoIdeal : Cert.XDwoIdeal.Facts] : Prop :=
  ∀ (m : (ℓ : Loc Cert.XDwoIdeal.nD Cert.XDwoIdeal.τ Cert.XDwoIdeal.sig) → Buf (Elt Ideal) ℓ) (g : Dev Cert.XDwoIdeal.nD → PrngReg), Pre_XDwoIdeal m →
    θ_run (Cert.XDwoIdeal.defs (F := Ideal)) (onTc (τ := Cert.XDwoIdeal.τ) (Cert.XDwoIdeal.main (F := Ideal))) ⟨m, fun _ => 0, g⟩ (fun r => (∀ c : Dev Cert.XDwoIdeal.nD,
      r.2.mem ((c.tc : Thread Cert.XDwoIdeal.nD Cert.XDwoIdeal.τ).loc Cert.XDwoIdeal.main_arg0) = m ((c.tc : Thread Cert.XDwoIdeal.nD Cert.XDwoIdeal.τ).loc Cert.XDwoIdeal.main_arg0)
      ∧ r.2.mem ((c.tc : Thread Cert.XDwoIdeal.nD Cert.XDwoIdeal.τ).loc Cert.XDwoIdeal.main_arg1) = m ((c.tc : Thread Cert.XDwoIdeal.nD Cert.XDwoIdeal.τ).loc Cert.XDwoIdeal.main_arg1))
      ∧ r.2.sem = fun _ => 0)

def quiescent_XDwoReferenceIdeal [hXDwoReferenceIdeal : Cert.XDwoReferenceIdeal.Facts] : Prop :=
  ∀ (m : (ℓ : Loc Cert.XDwoReferenceIdeal.nD Cert.XDwoReferenceIdeal.τ Cert.XDwoReferenceIdeal.sig) → Buf (Elt Ideal) ℓ) (g : Dev Cert.XDwoReferenceIdeal.nD → PrngReg), Pre_XDwoReferenceIdeal m →
    θ_run (Cert.XDwoReferenceIdeal.defs (F := Ideal)) (onTc (τ := Cert.XDwoReferenceIdeal.τ) (Cert.XDwoReferenceIdeal.main (F := Ideal))) ⟨m, fun _ => 0, g⟩ (fun r => (∀ c : Dev Cert.XDwoReferenceIdeal.nD,
      r.2.mem ((c.tc : Thread Cert.XDwoReferenceIdeal.nD Cert.XDwoReferenceIdeal.τ).loc Cert.XDwoReferenceIdeal.main_arg0) = m ((c.tc : Thread Cert.XDwoReferenceIdeal.nD Cert.XDwoReferenceIdeal.τ).loc Cert.XDwoReferenceIdeal.main_arg0)
      ∧ r.2.mem ((c.tc : Thread Cert.XDwoReferenceIdeal.nD Cert.XDwoReferenceIdeal.τ).loc Cert.XDwoReferenceIdeal.main_arg1) = m ((c.tc : Thread Cert.XDwoReferenceIdeal.nD Cert.XDwoReferenceIdeal.τ).loc Cert.XDwoReferenceIdeal.main_arg1))
      ∧ r.2.sem = fun _ => 0)

def quiescent_Xq [hXq : Cert.Xq.Facts] : Prop :=
  ∀ (m : (ℓ : Loc Cert.Xq.nD Cert.Xq.τ Cert.Xq.sig) → Buf (Elt Bits) ℓ) (g : Dev Cert.Xq.nD → PrngReg), Pre_Xq m →
    θ_run (Cert.Xq.defs (F := Bits)) (onTc (τ := Cert.Xq.τ) (Cert.Xq.main (F := Bits))) ⟨m, fun _ => 0, g⟩ (fun r => (∀ c : Dev Cert.Xq.nD,
      r.2.mem ((c.tc : Thread Cert.Xq.nD Cert.Xq.τ).loc Cert.Xq.main_arg0) = m ((c.tc : Thread Cert.Xq.nD Cert.Xq.τ).loc Cert.Xq.main_arg0)
      ∧ r.2.mem ((c.tc : Thread Cert.Xq.nD Cert.Xq.τ).loc Cert.Xq.main_arg1) = m ((c.tc : Thread Cert.Xq.nD Cert.Xq.τ).loc Cert.Xq.main_arg1))
      ∧ r.2.sem = fun _ => 0)

def quiescent_XqIdeal [hXqIdeal : Cert.XqIdeal.Facts] : Prop :=
  ∀ (m : (ℓ : Loc Cert.XqIdeal.nD Cert.XqIdeal.τ Cert.XqIdeal.sig) → Buf (Elt Ideal) ℓ) (g : Dev Cert.XqIdeal.nD → PrngReg), Pre_XqIdeal m →
    θ_run (Cert.XqIdeal.defs (F := Ideal)) (onTc (τ := Cert.XqIdeal.τ) (Cert.XqIdeal.main (F := Ideal))) ⟨m, fun _ => 0, g⟩ (fun r => (∀ c : Dev Cert.XqIdeal.nD,
      r.2.mem ((c.tc : Thread Cert.XqIdeal.nD Cert.XqIdeal.τ).loc Cert.XqIdeal.main_arg0) = m ((c.tc : Thread Cert.XqIdeal.nD Cert.XqIdeal.τ).loc Cert.XqIdeal.main_arg0)
      ∧ r.2.mem ((c.tc : Thread Cert.XqIdeal.nD Cert.XqIdeal.τ).loc Cert.XqIdeal.main_arg1) = m ((c.tc : Thread Cert.XqIdeal.nD Cert.XqIdeal.τ).loc Cert.XqIdeal.main_arg1))
      ∧ r.2.sem = fun _ => 0)

def quiescent_XqReferenceIdeal [hXqReferenceIdeal : Cert.XqReferenceIdeal.Facts] : Prop :=
  ∀ (m : (ℓ : Loc Cert.XqReferenceIdeal.nD Cert.XqReferenceIdeal.τ Cert.XqReferenceIdeal.sig) → Buf (Elt Ideal) ℓ) (g : Dev Cert.XqReferenceIdeal.nD → PrngReg), Pre_XqReferenceIdeal m →
    θ_run (Cert.XqReferenceIdeal.defs (F := Ideal)) (onTc (τ := Cert.XqReferenceIdeal.τ) (Cert.XqReferenceIdeal.main (F := Ideal))) ⟨m, fun _ => 0, g⟩ (fun r => (∀ c : Dev Cert.XqReferenceIdeal.nD,
      r.2.mem ((c.tc : Thread Cert.XqReferenceIdeal.nD Cert.XqReferenceIdeal.τ).loc Cert.XqReferenceIdeal.main_arg0) = m ((c.tc : Thread Cert.XqReferenceIdeal.nD Cert.XqReferenceIdeal.τ).loc Cert.XqReferenceIdeal.main_arg0)
      ∧ r.2.mem ((c.tc : Thread Cert.XqReferenceIdeal.nD Cert.XqReferenceIdeal.τ).loc Cert.XqReferenceIdeal.main_arg1) = m ((c.tc : Thread Cert.XqReferenceIdeal.nD Cert.XqReferenceIdeal.τ).loc Cert.XqReferenceIdeal.main_arg1))
      ∧ r.2.sem = fun _ => 0)

def quiescent_Xo [hXo : Cert.Xo.Facts] : Prop :=
  ∀ (m : (ℓ : Loc Cert.Xo.nD Cert.Xo.τ Cert.Xo.sig) → Buf (Elt Bits) ℓ) (g : Dev Cert.Xo.nD → PrngReg), Pre_Xo m →
    θ_run (Cert.Xo.defs (F := Bits)) (onTc (τ := Cert.Xo.τ) (Cert.Xo.main (F := Bits))) ⟨m, fun _ => 0, g⟩ (fun r => (∀ c : Dev Cert.Xo.nD,
      r.2.mem ((c.tc : Thread Cert.Xo.nD Cert.Xo.τ).loc Cert.Xo.main_arg0) = m ((c.tc : Thread Cert.Xo.nD Cert.Xo.τ).loc Cert.Xo.main_arg0)
      ∧ r.2.mem ((c.tc : Thread Cert.Xo.nD Cert.Xo.τ).loc Cert.Xo.main_arg1) = m ((c.tc : Thread Cert.Xo.nD Cert.Xo.τ).loc Cert.Xo.main_arg1))
      ∧ r.2.sem = fun _ => 0)

def quiescent_XoIdeal [hXoIdeal : Cert.XoIdeal.Facts] : Prop :=
  ∀ (m : (ℓ : Loc Cert.XoIdeal.nD Cert.XoIdeal.τ Cert.XoIdeal.sig) → Buf (Elt Ideal) ℓ) (g : Dev Cert.XoIdeal.nD → PrngReg), Pre_XoIdeal m →
    θ_run (Cert.XoIdeal.defs (F := Ideal)) (onTc (τ := Cert.XoIdeal.τ) (Cert.XoIdeal.main (F := Ideal))) ⟨m, fun _ => 0, g⟩ (fun r => (∀ c : Dev Cert.XoIdeal.nD,
      r.2.mem ((c.tc : Thread Cert.XoIdeal.nD Cert.XoIdeal.τ).loc Cert.XoIdeal.main_arg0) = m ((c.tc : Thread Cert.XoIdeal.nD Cert.XoIdeal.τ).loc Cert.XoIdeal.main_arg0)
      ∧ r.2.mem ((c.tc : Thread Cert.XoIdeal.nD Cert.XoIdeal.τ).loc Cert.XoIdeal.main_arg1) = m ((c.tc : Thread Cert.XoIdeal.nD Cert.XoIdeal.τ).loc Cert.XoIdeal.main_arg1))
      ∧ r.2.sem = fun _ => 0)

def quiescent_XoReferenceIdeal [hXoReferenceIdeal : Cert.XoReferenceIdeal.Facts] : Prop :=
  ∀ (m : (ℓ : Loc Cert.XoReferenceIdeal.nD Cert.XoReferenceIdeal.τ Cert.XoReferenceIdeal.sig) → Buf (Elt Ideal) ℓ) (g : Dev Cert.XoReferenceIdeal.nD → PrngReg), Pre_XoReferenceIdeal m →
    θ_run (Cert.XoReferenceIdeal.defs (F := Ideal)) (onTc (τ := Cert.XoReferenceIdeal.τ) (Cert.XoReferenceIdeal.main (F := Ideal))) ⟨m, fun _ => 0, g⟩ (fun r => (∀ c : Dev Cert.XoReferenceIdeal.nD,
      r.2.mem ((c.tc : Thread Cert.XoReferenceIdeal.nD Cert.XoReferenceIdeal.τ).loc Cert.XoReferenceIdeal.main_arg0) = m ((c.tc : Thread Cert.XoReferenceIdeal.nD Cert.XoReferenceIdeal.τ).loc Cert.XoReferenceIdeal.main_arg0)
      ∧ r.2.mem ((c.tc : Thread Cert.XoReferenceIdeal.nD Cert.XoReferenceIdeal.τ).loc Cert.XoReferenceIdeal.main_arg1) = m ((c.tc : Thread Cert.XoReferenceIdeal.nD Cert.XoReferenceIdeal.τ).loc Cert.XoReferenceIdeal.main_arg1))
      ∧ r.2.sem = fun _ => 0)

def quiescent_MemDw [hMemDw : Cert.MemDw.Facts] : Prop :=
  ∀ (m : (ℓ : Loc Cert.MemDw.nD Cert.MemDw.τ Cert.MemDw.sig) → Buf (Elt Bits) ℓ) (g : Dev Cert.MemDw.nD → PrngReg), Pre_MemDw m →
    θ_run (Cert.MemDw.defs (F := Bits)) (onTc (τ := Cert.MemDw.τ) (Cert.MemDw.main (F := Bits))) ⟨m, fun _ => 0, g⟩ (fun r => (∀ c : Dev Cert.MemDw.nD,
      r.2.mem ((c.tc : Thread Cert.MemDw.nD Cert.MemDw.τ).loc Cert.MemDw.main_arg0) = m ((c.tc : Thread Cert.MemDw.nD Cert.MemDw.τ).loc Cert.MemDw.main_arg0)
      ∧ r.2.mem ((c.tc : Thread Cert.MemDw.nD Cert.MemDw.τ).loc Cert.MemDw.main_arg1) = m ((c.tc : Thread Cert.MemDw.nD Cert.MemDw.τ).loc Cert.MemDw.main_arg1))
      ∧ r.2.sem = fun _ => 0)

def quiescent_MemDwIdeal [hMemDwIdeal : Cert.MemDwIdeal.Facts] : Prop :=
  ∀ (m : (ℓ : Loc Cert.MemDwIdeal.nD Cert.MemDwIdeal.τ Cert.MemDwIdeal.sig) → Buf (Elt Ideal) ℓ) (g : Dev Cert.MemDwIdeal.nD → PrngReg), Pre_MemDwIdeal m →
    θ_run (Cert.MemDwIdeal.defs (F := Ideal)) (onTc (τ := Cert.MemDwIdeal.τ) (Cert.MemDwIdeal.main (F := Ideal))) ⟨m, fun _ => 0, g⟩ (fun r => (∀ c : Dev Cert.MemDwIdeal.nD,
      r.2.mem ((c.tc : Thread Cert.MemDwIdeal.nD Cert.MemDwIdeal.τ).loc Cert.MemDwIdeal.main_arg0) = m ((c.tc : Thread Cert.MemDwIdeal.nD Cert.MemDwIdeal.τ).loc Cert.MemDwIdeal.main_arg0)
      ∧ r.2.mem ((c.tc : Thread Cert.MemDwIdeal.nD Cert.MemDwIdeal.τ).loc Cert.MemDwIdeal.main_arg1) = m ((c.tc : Thread Cert.MemDwIdeal.nD Cert.MemDwIdeal.τ).loc Cert.MemDwIdeal.main_arg1))
      ∧ r.2.sem = fun _ => 0)

def quiescent_MemDwReferenceIdeal [hMemDwReferenceIdeal : Cert.MemDwReferenceIdeal.Facts] : Prop :=
  ∀ (m : (ℓ : Loc Cert.MemDwReferenceIdeal.nD Cert.MemDwReferenceIdeal.τ Cert.MemDwReferenceIdeal.sig) → Buf (Elt Ideal) ℓ) (g : Dev Cert.MemDwReferenceIdeal.nD → PrngReg), Pre_MemDwReferenceIdeal m →
    θ_run (Cert.MemDwReferenceIdeal.defs (F := Ideal)) (onTc (τ := Cert.MemDwReferenceIdeal.τ) (Cert.MemDwReferenceIdeal.main (F := Ideal))) ⟨m, fun _ => 0, g⟩ (fun r => (∀ c : Dev Cert.MemDwReferenceIdeal.nD,
      r.2.mem ((c.tc : Thread Cert.MemDwReferenceIdeal.nD Cert.MemDwReferenceIdeal.τ).loc Cert.MemDwReferenceIdeal.main_arg0) = m ((c.tc : Thread Cert.MemDwReferenceIdeal.nD Cert.MemDwReferenceIdeal.τ).loc Cert.MemDwReferenceIdeal.main_arg0)
      ∧ r.2.mem ((c.tc : Thread Cert.MemDwReferenceIdeal.nD Cert.MemDwReferenceIdeal.τ).loc Cert.MemDwReferenceIdeal.main_arg1) = m ((c.tc : Thread Cert.MemDwReferenceIdeal.nD Cert.MemDwReferenceIdeal.τ).loc Cert.MemDwReferenceIdeal.main_arg1))
      ∧ r.2.sem = fun _ => 0)

def quiescent_MemDx [hMemDx : Cert.MemDx.Facts] : Prop :=
  ∀ (m : (ℓ : Loc Cert.MemDx.nD Cert.MemDx.τ Cert.MemDx.sig) → Buf (Elt Bits) ℓ) (g : Dev Cert.MemDx.nD → PrngReg), Pre_MemDx m →
    θ_run (Cert.MemDx.defs (F := Bits)) (onTc (τ := Cert.MemDx.τ) (Cert.MemDx.main (F := Bits))) ⟨m, fun _ => 0, g⟩ (fun r => (∀ c : Dev Cert.MemDx.nD,
      r.2.mem ((c.tc : Thread Cert.MemDx.nD Cert.MemDx.τ).loc Cert.MemDx.main_arg0) = m ((c.tc : Thread Cert.MemDx.nD Cert.MemDx.τ).loc Cert.MemDx.main_arg0)
      ∧ r.2.mem ((c.tc : Thread Cert.MemDx.nD Cert.MemDx.τ).loc Cert.MemDx.main_arg1) = m ((c.tc : Thread Cert.MemDx.nD Cert.MemDx.τ).loc Cert.MemDx.main_arg1))
      ∧ r.2.sem = fun _ => 0)

def quiescent_MemDxIdeal [hMemDxIdeal : Cert.MemDxIdeal.Facts] : Prop :=
  ∀ (m : (ℓ : Loc Cert.MemDxIdeal.nD Cert.MemDxIdeal.τ Cert.MemDxIdeal.sig) → Buf (Elt Ideal) ℓ) (g : Dev Cert.MemDxIdeal.nD → PrngReg), Pre_MemDxIdeal m →
    θ_run (Cert.MemDxIdeal.defs (F := Ideal)) (onTc (τ := Cert.MemDxIdeal.τ) (Cert.MemDxIdeal.main (F := Ideal))) ⟨m, fun _ => 0, g⟩ (fun r => (∀ c : Dev Cert.MemDxIdeal.nD,
      r.2.mem ((c.tc : Thread Cert.MemDxIdeal.nD Cert.MemDxIdeal.τ).loc Cert.MemDxIdeal.main_arg0) = m ((c.tc : Thread Cert.MemDxIdeal.nD Cert.MemDxIdeal.τ).loc Cert.MemDxIdeal.main_arg0)
      ∧ r.2.mem ((c.tc : Thread Cert.MemDxIdeal.nD Cert.MemDxIdeal.τ).loc Cert.MemDxIdeal.main_arg1) = m ((c.tc : Thread Cert.MemDxIdeal.nD Cert.MemDxIdeal.τ).loc Cert.MemDxIdeal.main_arg1))
      ∧ r.2.sem = fun _ => 0)

def quiescent_MemDxReferenceIdeal [hMemDxReferenceIdeal : Cert.MemDxReferenceIdeal.Facts] : Prop :=
  ∀ (m : (ℓ : Loc Cert.MemDxReferenceIdeal.nD Cert.MemDxReferenceIdeal.τ Cert.MemDxReferenceIdeal.sig) → Buf (Elt Ideal) ℓ) (g : Dev Cert.MemDxReferenceIdeal.nD → PrngReg), Pre_MemDxReferenceIdeal m →
    θ_run (Cert.MemDxReferenceIdeal.defs (F := Ideal)) (onTc (τ := Cert.MemDxReferenceIdeal.τ) (Cert.MemDxReferenceIdeal.main (F := Ideal))) ⟨m, fun _ => 0, g⟩ (fun r => (∀ c : Dev Cert.MemDxReferenceIdeal.nD,
      r.2.mem ((c.tc : Thread Cert.MemDxReferenceIdeal.nD Cert.MemDxReferenceIdeal.τ).loc Cert.MemDxReferenceIdeal.main_arg0) = m ((c.tc : Thread Cert.MemDxReferenceIdeal.nD Cert.MemDxReferenceIdeal.τ).loc Cert.MemDxReferenceIdeal.main_arg0)
      ∧ r.2.mem ((c.tc : Thread Cert.MemDxReferenceIdeal.nD Cert.MemDxReferenceIdeal.τ).loc Cert.MemDxReferenceIdeal.main_arg1) = m ((c.tc : Thread Cert.MemDxReferenceIdeal.nD Cert.MemDxReferenceIdeal.τ).loc Cert.MemDxReferenceIdeal.main_arg1))
      ∧ r.2.sem = fun _ => 0)

def quiescent_Mem [hMem : Cert.Mem.Facts] : Prop :=
  ∀ (m : (ℓ : Loc Cert.Mem.nD Cert.Mem.τ Cert.Mem.sig) → Buf (Elt Bits) ℓ) (g : Dev Cert.Mem.nD → PrngReg), Pre_Mem m →
    θ_run (Cert.Mem.defs (F := Bits)) (onTc (τ := Cert.Mem.τ) (Cert.Mem.main (F := Bits))) ⟨m, fun _ => 0, g⟩ (fun r => (∀ c : Dev Cert.Mem.nD,
      r.2.mem ((c.tc : Thread Cert.Mem.nD Cert.Mem.τ).loc Cert.Mem.main_arg0) = m ((c.tc : Thread Cert.Mem.nD Cert.Mem.τ).loc Cert.Mem.main_arg0)
      ∧ r.2.mem ((c.tc : Thread Cert.Mem.nD Cert.Mem.τ).loc Cert.Mem.main_arg1) = m ((c.tc : Thread Cert.Mem.nD Cert.Mem.τ).loc Cert.Mem.main_arg1))
      ∧ r.2.sem = fun _ => 0)

def quiescent_MemIdeal [hMemIdeal : Cert.MemIdeal.Facts] : Prop :=
  ∀ (m : (ℓ : Loc Cert.MemIdeal.nD Cert.MemIdeal.τ Cert.MemIdeal.sig) → Buf (Elt Ideal) ℓ) (g : Dev Cert.MemIdeal.nD → PrngReg), Pre_MemIdeal m →
    θ_run (Cert.MemIdeal.defs (F := Ideal)) (onTc (τ := Cert.MemIdeal.τ) (Cert.MemIdeal.main (F := Ideal))) ⟨m, fun _ => 0, g⟩ (fun r => (∀ c : Dev Cert.MemIdeal.nD,
      r.2.mem ((c.tc : Thread Cert.MemIdeal.nD Cert.MemIdeal.τ).loc Cert.MemIdeal.main_arg0) = m ((c.tc : Thread Cert.MemIdeal.nD Cert.MemIdeal.τ).loc Cert.MemIdeal.main_arg0)
      ∧ r.2.mem ((c.tc : Thread Cert.MemIdeal.nD Cert.MemIdeal.τ).loc Cert.MemIdeal.main_arg1) = m ((c.tc : Thread Cert.MemIdeal.nD Cert.MemIdeal.τ).loc Cert.MemIdeal.main_arg1))
      ∧ r.2.sem = fun _ => 0)

def quiescent_MemReferenceIdeal [hMemReferenceIdeal : Cert.MemReferenceIdeal.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1))
      ∧ r.2.sem = fun _ => 0)

def quiescent_PoolDx [hPoolDx : Cert.PoolDx.Facts] : Prop :=
  ∀ (m : (ℓ : Loc Cert.PoolDx.nD Cert.PoolDx.τ Cert.PoolDx.sig) → Buf (Elt Bits) ℓ) (g : Dev Cert.PoolDx.nD → PrngReg), Pre_PoolDx m →
    θ_run (Cert.PoolDx.defs (F := Bits)) (onTc (τ := Cert.PoolDx.τ) (Cert.PoolDx.main (F := Bits))) ⟨m, fun _ => 0, g⟩ (fun r => (∀ c : Dev Cert.PoolDx.nD,
      r.2.mem ((c.tc : Thread Cert.PoolDx.nD Cert.PoolDx.τ).loc Cert.PoolDx.main_arg0) = m ((c.tc : Thread Cert.PoolDx.nD Cert.PoolDx.τ).loc Cert.PoolDx.main_arg0)
      ∧ r.2.mem ((c.tc : Thread Cert.PoolDx.nD Cert.PoolDx.τ).loc Cert.PoolDx.main_arg1) = m ((c.tc : Thread Cert.PoolDx.nD Cert.PoolDx.τ).loc Cert.PoolDx.main_arg1)
      ∧ r.2.mem ((c.tc : Thread Cert.PoolDx.nD Cert.PoolDx.τ).loc Cert.PoolDx.main_arg2) = m ((c.tc : Thread Cert.PoolDx.nD Cert.PoolDx.τ).loc Cert.PoolDx.main_arg2)
      ∧ r.2.mem ((c.tc : Thread Cert.PoolDx.nD Cert.PoolDx.τ).loc Cert.PoolDx.main_arg3) = m ((c.tc : Thread Cert.PoolDx.nD Cert.PoolDx.τ).loc Cert.PoolDx.main_arg3))
      ∧ r.2.sem = fun _ => 0)

def quiescent_PoolDxIdeal [hPoolDxIdeal : Cert.PoolDxIdeal.Facts] : Prop :=
  ∀ (m : (ℓ : Loc Cert.PoolDxIdeal.nD Cert.PoolDxIdeal.τ Cert.PoolDxIdeal.sig) → Buf (Elt Ideal) ℓ) (g : Dev Cert.PoolDxIdeal.nD → PrngReg), Pre_PoolDxIdeal m →
    θ_run (Cert.PoolDxIdeal.defs (F := Ideal)) (onTc (τ := Cert.PoolDxIdeal.τ) (Cert.PoolDxIdeal.main (F := Ideal))) ⟨m, fun _ => 0, g⟩ (fun r => (∀ c : Dev Cert.PoolDxIdeal.nD,
      r.2.mem ((c.tc : Thread Cert.PoolDxIdeal.nD Cert.PoolDxIdeal.τ).loc Cert.PoolDxIdeal.main_arg0) = m ((c.tc : Thread Cert.PoolDxIdeal.nD Cert.PoolDxIdeal.τ).loc Cert.PoolDxIdeal.main_arg0)
      ∧ r.2.mem ((c.tc : Thread Cert.PoolDxIdeal.nD Cert.PoolDxIdeal.τ).loc Cert.PoolDxIdeal.main_arg1) = m ((c.tc : Thread Cert.PoolDxIdeal.nD Cert.PoolDxIdeal.τ).loc Cert.PoolDxIdeal.main_arg1)
      ∧ r.2.mem ((c.tc : Thread Cert.PoolDxIdeal.nD Cert.PoolDxIdeal.τ).loc Cert.PoolDxIdeal.main_arg2) = m ((c.tc : Thread Cert.PoolDxIdeal.nD Cert.PoolDxIdeal.τ).loc Cert.PoolDxIdeal.main_arg2)
      ∧ r.2.mem ((c.tc : Thread Cert.PoolDxIdeal.nD Cert.PoolDxIdeal.τ).loc Cert.PoolDxIdeal.main_arg3) = m ((c.tc : Thread Cert.PoolDxIdeal.nD Cert.PoolDxIdeal.τ).loc Cert.PoolDxIdeal.main_arg3))
      ∧ r.2.sem = fun _ => 0)

def quiescent_PoolDxReferenceIdeal [hPoolDxReferenceIdeal : Cert.PoolDxReferenceIdeal.Facts] : Prop :=
  ∀ (m : (ℓ : Loc Cert.PoolDxReferenceIdeal.nD Cert.PoolDxReferenceIdeal.τ Cert.PoolDxReferenceIdeal.sig) → Buf (Elt Ideal) ℓ) (g : Dev Cert.PoolDxReferenceIdeal.nD → PrngReg), Pre_PoolDxReferenceIdeal m →
    θ_run (Cert.PoolDxReferenceIdeal.defs (F := Ideal)) (onTc (τ := Cert.PoolDxReferenceIdeal.τ) (Cert.PoolDxReferenceIdeal.main (F := Ideal))) ⟨m, fun _ => 0, g⟩ (fun r => (∀ c : Dev Cert.PoolDxReferenceIdeal.nD,
      r.2.mem ((c.tc : Thread Cert.PoolDxReferenceIdeal.nD Cert.PoolDxReferenceIdeal.τ).loc Cert.PoolDxReferenceIdeal.main_arg0) = m ((c.tc : Thread Cert.PoolDxReferenceIdeal.nD Cert.PoolDxReferenceIdeal.τ).loc Cert.PoolDxReferenceIdeal.main_arg0)
      ∧ r.2.mem ((c.tc : Thread Cert.PoolDxReferenceIdeal.nD Cert.PoolDxReferenceIdeal.τ).loc Cert.PoolDxReferenceIdeal.main_arg1) = m ((c.tc : Thread Cert.PoolDxReferenceIdeal.nD Cert.PoolDxReferenceIdeal.τ).loc Cert.PoolDxReferenceIdeal.main_arg1)
      ∧ r.2.mem ((c.tc : Thread Cert.PoolDxReferenceIdeal.nD Cert.PoolDxReferenceIdeal.τ).loc Cert.PoolDxReferenceIdeal.main_arg2) = m ((c.tc : Thread Cert.PoolDxReferenceIdeal.nD Cert.PoolDxReferenceIdeal.τ).loc Cert.PoolDxReferenceIdeal.main_arg2)
      ∧ r.2.mem ((c.tc : Thread Cert.PoolDxReferenceIdeal.nD Cert.PoolDxReferenceIdeal.τ).loc Cert.PoolDxReferenceIdeal.main_arg3) = m ((c.tc : Thread Cert.PoolDxReferenceIdeal.nD Cert.PoolDxReferenceIdeal.τ).loc Cert.PoolDxReferenceIdeal.main_arg3))
      ∧ r.2.sem = fun _ => 0)

def quiescent_PoolDw [hPoolDw : Cert.PoolDw.Facts] : Prop :=
  ∀ (m : (ℓ : Loc Cert.PoolDw.nD Cert.PoolDw.τ Cert.PoolDw.sig) → Buf (Elt Bits) ℓ) (g : Dev Cert.PoolDw.nD → PrngReg), Pre_PoolDw m →
    θ_run (Cert.PoolDw.defs (F := Bits)) (onTc (τ := Cert.PoolDw.τ) (Cert.PoolDw.main (F := Bits))) ⟨m, fun _ => 0, g⟩ (fun r => (∀ c : Dev Cert.PoolDw.nD,
      r.2.mem ((c.tc : Thread Cert.PoolDw.nD Cert.PoolDw.τ).loc Cert.PoolDw.main_arg0) = m ((c.tc : Thread Cert.PoolDw.nD Cert.PoolDw.τ).loc Cert.PoolDw.main_arg0)
      ∧ r.2.mem ((c.tc : Thread Cert.PoolDw.nD Cert.PoolDw.τ).loc Cert.PoolDw.main_arg1) = m ((c.tc : Thread Cert.PoolDw.nD Cert.PoolDw.τ).loc Cert.PoolDw.main_arg1))
      ∧ r.2.sem = fun _ => 0)

def quiescent_PoolDwIdeal [hPoolDwIdeal : Cert.PoolDwIdeal.Facts] : Prop :=
  ∀ (m : (ℓ : Loc Cert.PoolDwIdeal.nD Cert.PoolDwIdeal.τ Cert.PoolDwIdeal.sig) → Buf (Elt Ideal) ℓ) (g : Dev Cert.PoolDwIdeal.nD → PrngReg), Pre_PoolDwIdeal m →
    θ_run (Cert.PoolDwIdeal.defs (F := Ideal)) (onTc (τ := Cert.PoolDwIdeal.τ) (Cert.PoolDwIdeal.main (F := Ideal))) ⟨m, fun _ => 0, g⟩ (fun r => (∀ c : Dev Cert.PoolDwIdeal.nD,
      r.2.mem ((c.tc : Thread Cert.PoolDwIdeal.nD Cert.PoolDwIdeal.τ).loc Cert.PoolDwIdeal.main_arg0) = m ((c.tc : Thread Cert.PoolDwIdeal.nD Cert.PoolDwIdeal.τ).loc Cert.PoolDwIdeal.main_arg0)
      ∧ r.2.mem ((c.tc : Thread Cert.PoolDwIdeal.nD Cert.PoolDwIdeal.τ).loc Cert.PoolDwIdeal.main_arg1) = m ((c.tc : Thread Cert.PoolDwIdeal.nD Cert.PoolDwIdeal.τ).loc Cert.PoolDwIdeal.main_arg1))
      ∧ r.2.sem = fun _ => 0)

def quiescent_PoolDwReferenceIdeal [hPoolDwReferenceIdeal : Cert.PoolDwReferenceIdeal.Facts] : Prop :=
  ∀ (m : (ℓ : Loc Cert.PoolDwReferenceIdeal.nD Cert.PoolDwReferenceIdeal.τ Cert.PoolDwReferenceIdeal.sig) → Buf (Elt Ideal) ℓ) (g : Dev Cert.PoolDwReferenceIdeal.nD → PrngReg), Pre_PoolDwReferenceIdeal m →
    θ_run (Cert.PoolDwReferenceIdeal.defs (F := Ideal)) (onTc (τ := Cert.PoolDwReferenceIdeal.τ) (Cert.PoolDwReferenceIdeal.main (F := Ideal))) ⟨m, fun _ => 0, g⟩ (fun r => (∀ c : Dev Cert.PoolDwReferenceIdeal.nD,
      r.2.mem ((c.tc : Thread Cert.PoolDwReferenceIdeal.nD Cert.PoolDwReferenceIdeal.τ).loc Cert.PoolDwReferenceIdeal.main_arg0) = m ((c.tc : Thread Cert.PoolDwReferenceIdeal.nD Cert.PoolDwReferenceIdeal.τ).loc Cert.PoolDwReferenceIdeal.main_arg0)
      ∧ r.2.mem ((c.tc : Thread Cert.PoolDwReferenceIdeal.nD Cert.PoolDwReferenceIdeal.τ).loc Cert.PoolDwReferenceIdeal.main_arg1) = m ((c.tc : Thread Cert.PoolDwReferenceIdeal.nD Cert.PoolDwReferenceIdeal.τ).loc Cert.PoolDwReferenceIdeal.main_arg1))
      ∧ r.2.sem = fun _ => 0)

def quiescent_Xattn [hXattn : Cert.Xattn.Facts] : Prop :=
  ∀ (m : (ℓ : Loc Cert.Xattn.nD Cert.Xattn.τ Cert.Xattn.sig) → Buf (Elt Bits) ℓ) (g : Dev Cert.Xattn.nD → PrngReg), Pre_Xattn m →
    θ_run (Cert.Xattn.defs (F := Bits)) (onTc (τ := Cert.Xattn.τ) (Cert.Xattn.main (F := Bits))) ⟨m, fun _ => 0, g⟩ (fun r => (∀ c : Dev Cert.Xattn.nD,
      r.2.mem ((c.tc : Thread Cert.Xattn.nD Cert.Xattn.τ).loc Cert.Xattn.main_arg0) = m ((c.tc : Thread Cert.Xattn.nD Cert.Xattn.τ).loc Cert.Xattn.main_arg0)
      ∧ r.2.mem ((c.tc : Thread Cert.Xattn.nD Cert.Xattn.τ).loc Cert.Xattn.main_arg1) = m ((c.tc : Thread Cert.Xattn.nD Cert.Xattn.τ).loc Cert.Xattn.main_arg1)
      ∧ r.2.mem ((c.tc : Thread Cert.Xattn.nD Cert.Xattn.τ).loc Cert.Xattn.main_arg2) = m ((c.tc : Thread Cert.Xattn.nD Cert.Xattn.τ).loc Cert.Xattn.main_arg2))
      ∧ r.2.sem = fun _ => 0)

def quiescent_XattnIdeal [hXattnIdeal : Cert.XattnIdeal.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2))
      ∧ r.2.sem = fun _ => 0)

def quiescent_XattnIdeal_pre_finite_rows [hXattnIdeal : Cert.XattnIdeal.Facts] [hPre_finite_rows : Cert.Pre_finite_rows.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal_finite_rows m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2))
      ∧ r.2.sem = fun _ => 0)

def quiescent_XattnReferenceIdeal [hXattnReferenceIdeal : Cert.XattnReferenceIdeal.Facts] : Prop :=
  ∀ (m : (ℓ : Loc Cert.XattnReferenceIdeal.nD Cert.XattnReferenceIdeal.τ Cert.XattnReferenceIdeal.sig) → Buf (Elt Ideal) ℓ) (g : Dev Cert.XattnReferenceIdeal.nD → PrngReg), Pre_XattnReferenceIdeal m →
    θ_run (Cert.XattnReferenceIdeal.defs (F := Ideal)) (onTc (τ := Cert.XattnReferenceIdeal.τ) (Cert.XattnReferenceIdeal.main (F := Ideal))) ⟨m, fun _ => 0, g⟩ (fun r => (∀ c : Dev Cert.XattnReferenceIdeal.nD,
      r.2.mem ((c.tc : Thread Cert.XattnReferenceIdeal.nD Cert.XattnReferenceIdeal.τ).loc Cert.XattnReferenceIdeal.main_arg0) = m ((c.tc : Thread Cert.XattnReferenceIdeal.nD Cert.XattnReferenceIdeal.τ).loc Cert.XattnReferenceIdeal.main_arg0)
      ∧ r.2.mem ((c.tc : Thread Cert.XattnReferenceIdeal.nD Cert.XattnReferenceIdeal.τ).loc Cert.XattnReferenceIdeal.main_arg1) = m ((c.tc : Thread Cert.XattnReferenceIdeal.nD Cert.XattnReferenceIdeal.τ).loc Cert.XattnReferenceIdeal.main_arg1)
      ∧ r.2.mem ((c.tc : Thread Cert.XattnReferenceIdeal.nD Cert.XattnReferenceIdeal.τ).loc Cert.XattnReferenceIdeal.main_arg2) = m ((c.tc : Thread Cert.XattnReferenceIdeal.nD Cert.XattnReferenceIdeal.τ).loc Cert.XattnReferenceIdeal.main_arg2))
      ∧ r.2.sem = fun _ => 0)

def quiescent_XattnReferenceIdeal_pre_finite_rows [hXattnReferenceIdeal : Cert.XattnReferenceIdeal.Facts] [hPre_finite_rows : Cert.Pre_finite_rows.Facts] : Prop :=
  ∀ (m : (ℓ : Loc Cert.XattnReferenceIdeal.nD Cert.XattnReferenceIdeal.τ Cert.XattnReferenceIdeal.sig) → Buf (Elt Ideal) ℓ) (g : Dev Cert.XattnReferenceIdeal.nD → PrngReg), Pre_XattnReferenceIdeal_finite_rows m →
    θ_run (Cert.XattnReferenceIdeal.defs (F := Ideal)) (onTc (τ := Cert.XattnReferenceIdeal.τ) (Cert.XattnReferenceIdeal.main (F := Ideal))) ⟨m, fun _ => 0, g⟩ (fun r => (∀ c : Dev Cert.XattnReferenceIdeal.nD,
      r.2.mem ((c.tc : Thread Cert.XattnReferenceIdeal.nD Cert.XattnReferenceIdeal.τ).loc Cert.XattnReferenceIdeal.main_arg0) = m ((c.tc : Thread Cert.XattnReferenceIdeal.nD Cert.XattnReferenceIdeal.τ).loc Cert.XattnReferenceIdeal.main_arg0)
      ∧ r.2.mem ((c.tc : Thread Cert.XattnReferenceIdeal.nD Cert.XattnReferenceIdeal.τ).loc Cert.XattnReferenceIdeal.main_arg1) = m ((c.tc : Thread Cert.XattnReferenceIdeal.nD Cert.XattnReferenceIdeal.τ).loc Cert.XattnReferenceIdeal.main_arg1)
      ∧ r.2.mem ((c.tc : Thread Cert.XattnReferenceIdeal.nD Cert.XattnReferenceIdeal.τ).loc Cert.XattnReferenceIdeal.main_arg2) = m ((c.tc : Thread Cert.XattnReferenceIdeal.nD Cert.XattnReferenceIdeal.τ).loc Cert.XattnReferenceIdeal.main_arg2))
      ∧ r.2.sem = fun _ => 0)

def quiescent_NormDx [hNormDx : Cert.NormDx.Facts] : Prop :=
  ∀ (m : (ℓ : Loc Cert.NormDx.nD Cert.NormDx.τ Cert.NormDx.sig) → Buf (Elt Bits) ℓ) (g : Dev Cert.NormDx.nD → PrngReg), Pre_NormDx m →
    θ_run (Cert.NormDx.defs (F := Bits)) (onTc (τ := Cert.NormDx.τ) (Cert.NormDx.main (F := Bits))) ⟨m, fun _ => 0, g⟩ (fun r => (∀ c : Dev Cert.NormDx.nD,
      r.2.mem ((c.tc : Thread Cert.NormDx.nD Cert.NormDx.τ).loc Cert.NormDx.main_arg0) = m ((c.tc : Thread Cert.NormDx.nD Cert.NormDx.τ).loc Cert.NormDx.main_arg0)
      ∧ r.2.mem ((c.tc : Thread Cert.NormDx.nD Cert.NormDx.τ).loc Cert.NormDx.main_arg1) = m ((c.tc : Thread Cert.NormDx.nD Cert.NormDx.τ).loc Cert.NormDx.main_arg1)
      ∧ r.2.mem ((c.tc : Thread Cert.NormDx.nD Cert.NormDx.τ).loc Cert.NormDx.main_arg2) = m ((c.tc : Thread Cert.NormDx.nD Cert.NormDx.τ).loc Cert.NormDx.main_arg2)
      ∧ r.2.mem ((c.tc : Thread Cert.NormDx.nD Cert.NormDx.τ).loc Cert.NormDx.main_arg3) = m ((c.tc : Thread Cert.NormDx.nD Cert.NormDx.τ).loc Cert.NormDx.main_arg3)
      ∧ r.2.mem ((c.tc : Thread Cert.NormDx.nD Cert.NormDx.τ).loc Cert.NormDx.main_arg4) = m ((c.tc : Thread Cert.NormDx.nD Cert.NormDx.τ).loc Cert.NormDx.main_arg4)
      ∧ r.2.mem ((c.tc : Thread Cert.NormDx.nD Cert.NormDx.τ).loc Cert.NormDx.main_arg5) = m ((c.tc : Thread Cert.NormDx.nD Cert.NormDx.τ).loc Cert.NormDx.main_arg5))
      ∧ r.2.sem = fun _ => 0)

def quiescent_NormDxIdeal [hNormDxIdeal : Cert.NormDxIdeal.Facts] : Prop :=
  ∀ (m : (ℓ : Loc Cert.NormDxIdeal.nD Cert.NormDxIdeal.τ Cert.NormDxIdeal.sig) → Buf (Elt Ideal) ℓ) (g : Dev Cert.NormDxIdeal.nD → PrngReg), Pre_NormDxIdeal m →
    θ_run (Cert.NormDxIdeal.defs (F := Ideal)) (onTc (τ := Cert.NormDxIdeal.τ) (Cert.NormDxIdeal.main (F := Ideal))) ⟨m, fun _ => 0, g⟩ (fun r => (∀ c : Dev Cert.NormDxIdeal.nD,
      r.2.mem ((c.tc : Thread Cert.NormDxIdeal.nD Cert.NormDxIdeal.τ).loc Cert.NormDxIdeal.main_arg0) = m ((c.tc : Thread Cert.NormDxIdeal.nD Cert.NormDxIdeal.τ).loc Cert.NormDxIdeal.main_arg0)
      ∧ r.2.mem ((c.tc : Thread Cert.NormDxIdeal.nD Cert.NormDxIdeal.τ).loc Cert.NormDxIdeal.main_arg1) = m ((c.tc : Thread Cert.NormDxIdeal.nD Cert.NormDxIdeal.τ).loc Cert.NormDxIdeal.main_arg1)
      ∧ r.2.mem ((c.tc : Thread Cert.NormDxIdeal.nD Cert.NormDxIdeal.τ).loc Cert.NormDxIdeal.main_arg2) = m ((c.tc : Thread Cert.NormDxIdeal.nD Cert.NormDxIdeal.τ).loc Cert.NormDxIdeal.main_arg2)
      ∧ r.2.mem ((c.tc : Thread Cert.NormDxIdeal.nD Cert.NormDxIdeal.τ).loc Cert.NormDxIdeal.main_arg3) = m ((c.tc : Thread Cert.NormDxIdeal.nD Cert.NormDxIdeal.τ).loc Cert.NormDxIdeal.main_arg3)
      ∧ r.2.mem ((c.tc : Thread Cert.NormDxIdeal.nD Cert.NormDxIdeal.τ).loc Cert.NormDxIdeal.main_arg4) = m ((c.tc : Thread Cert.NormDxIdeal.nD Cert.NormDxIdeal.τ).loc Cert.NormDxIdeal.main_arg4)
      ∧ r.2.mem ((c.tc : Thread Cert.NormDxIdeal.nD Cert.NormDxIdeal.τ).loc Cert.NormDxIdeal.main_arg5) = m ((c.tc : Thread Cert.NormDxIdeal.nD Cert.NormDxIdeal.τ).loc Cert.NormDxIdeal.main_arg5))
      ∧ r.2.sem = fun _ => 0)

def quiescent_NormDxReferenceIdeal [hNormDxReferenceIdeal : Cert.NormDxReferenceIdeal.Facts] : Prop :=
  ∀ (m : (ℓ : Loc Cert.NormDxReferenceIdeal.nD Cert.NormDxReferenceIdeal.τ Cert.NormDxReferenceIdeal.sig) → Buf (Elt Ideal) ℓ) (g : Dev Cert.NormDxReferenceIdeal.nD → PrngReg), Pre_NormDxReferenceIdeal m →
    θ_run (Cert.NormDxReferenceIdeal.defs (F := Ideal)) (onTc (τ := Cert.NormDxReferenceIdeal.τ) (Cert.NormDxReferenceIdeal.main (F := Ideal))) ⟨m, fun _ => 0, g⟩ (fun r => (∀ c : Dev Cert.NormDxReferenceIdeal.nD,
      r.2.mem ((c.tc : Thread Cert.NormDxReferenceIdeal.nD Cert.NormDxReferenceIdeal.τ).loc Cert.NormDxReferenceIdeal.main_arg0) = m ((c.tc : Thread Cert.NormDxReferenceIdeal.nD Cert.NormDxReferenceIdeal.τ).loc Cert.NormDxReferenceIdeal.main_arg0)
      ∧ r.2.mem ((c.tc : Thread Cert.NormDxReferenceIdeal.nD Cert.NormDxReferenceIdeal.τ).loc Cert.NormDxReferenceIdeal.main_arg1) = m ((c.tc : Thread Cert.NormDxReferenceIdeal.nD Cert.NormDxReferenceIdeal.τ).loc Cert.NormDxReferenceIdeal.main_arg1)
      ∧ r.2.mem ((c.tc : Thread Cert.NormDxReferenceIdeal.nD Cert.NormDxReferenceIdeal.τ).loc Cert.NormDxReferenceIdeal.main_arg2) = m ((c.tc : Thread Cert.NormDxReferenceIdeal.nD Cert.NormDxReferenceIdeal.τ).loc Cert.NormDxReferenceIdeal.main_arg2)
      ∧ r.2.mem ((c.tc : Thread Cert.NormDxReferenceIdeal.nD Cert.NormDxReferenceIdeal.τ).loc Cert.NormDxReferenceIdeal.main_arg3) = m ((c.tc : Thread Cert.NormDxReferenceIdeal.nD Cert.NormDxReferenceIdeal.τ).loc Cert.NormDxReferenceIdeal.main_arg3)
      ∧ r.2.mem ((c.tc : Thread Cert.NormDxReferenceIdeal.nD Cert.NormDxReferenceIdeal.τ).loc Cert.NormDxReferenceIdeal.main_arg4) = m ((c.tc : Thread Cert.NormDxReferenceIdeal.nD Cert.NormDxReferenceIdeal.τ).loc Cert.NormDxReferenceIdeal.main_arg4)
      ∧ r.2.mem ((c.tc : Thread Cert.NormDxReferenceIdeal.nD Cert.NormDxReferenceIdeal.τ).loc Cert.NormDxReferenceIdeal.main_arg5) = m ((c.tc : Thread Cert.NormDxReferenceIdeal.nD Cert.NormDxReferenceIdeal.τ).loc Cert.NormDxReferenceIdeal.main_arg5))
      ∧ r.2.sem = fun _ => 0)

def quiescent_Resid [hResid : Cert.Resid.Facts] : Prop :=
  ∀ (m : (ℓ : Loc Cert.Resid.nD Cert.Resid.τ Cert.Resid.sig) → Buf (Elt Bits) ℓ) (g : Dev Cert.Resid.nD → PrngReg), Pre_Resid m →
    θ_run (Cert.Resid.defs (F := Bits)) (onTc (τ := Cert.Resid.τ) (Cert.Resid.main (F := Bits))) ⟨m, fun _ => 0, g⟩ (fun r => (∀ c : Dev Cert.Resid.nD,
      r.2.mem ((c.tc : Thread Cert.Resid.nD Cert.Resid.τ).loc Cert.Resid.main_arg0) = m ((c.tc : Thread Cert.Resid.nD Cert.Resid.τ).loc Cert.Resid.main_arg0)
      ∧ r.2.mem ((c.tc : Thread Cert.Resid.nD Cert.Resid.τ).loc Cert.Resid.main_arg1) = m ((c.tc : Thread Cert.Resid.nD Cert.Resid.τ).loc Cert.Resid.main_arg1)
      ∧ r.2.mem ((c.tc : Thread Cert.Resid.nD Cert.Resid.τ).loc Cert.Resid.main_arg2) = m ((c.tc : Thread Cert.Resid.nD Cert.Resid.τ).loc Cert.Resid.main_arg2)
      ∧ r.2.mem ((c.tc : Thread Cert.Resid.nD Cert.Resid.τ).loc Cert.Resid.main_arg3) = m ((c.tc : Thread Cert.Resid.nD Cert.Resid.τ).loc Cert.Resid.main_arg3))
      ∧ r.2.sem = fun _ => 0)

def quiescent_ResidIdeal [hResidIdeal : Cert.ResidIdeal.Facts] : Prop :=
  ∀ (m : (ℓ : Loc Cert.ResidIdeal.nD Cert.ResidIdeal.τ Cert.ResidIdeal.sig) → Buf (Elt Ideal) ℓ) (g : Dev Cert.ResidIdeal.nD → PrngReg), Pre_ResidIdeal m →
    θ_run (Cert.ResidIdeal.defs (F := Ideal)) (onTc (τ := Cert.ResidIdeal.τ) (Cert.ResidIdeal.main (F := Ideal))) ⟨m, fun _ => 0, g⟩ (fun r => (∀ c : Dev Cert.ResidIdeal.nD,
      r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
      ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
      ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2)
      ∧ r.2.mem ((c.tc : Thread Cert.ResidIdeal.nD Cert.ResidIdeal.τ).loc Cert.ResidIdeal.main_arg3) = m ((c.tc : Thread Cert.ResidIdeal.nD Cert.ResidIdeal.τ).loc Cert.ResidIdeal.main_arg3))
      ∧ r.2.sem = fun _ => 0)

def quiescent_ResidReferenceIdeal [hResidReferenceIdeal : Cert.ResidReferenceIdeal.Facts] : Prop :=
  ∀ (m : (ℓ : Loc Cert.ResidReferenceIdeal.nD Cert.ResidReferenceIdeal.τ Cert.ResidReferenceIdeal.sig) → Buf (Elt Ideal) ℓ) (g : Dev Cert.ResidReferenceIdeal.nD → PrngReg), Pre_ResidReferenceIdeal m →
    θ_run (Cert.ResidReferenceIdeal.defs (F := Ideal)) (onTc (τ := Cert.ResidReferenceIdeal.τ) (Cert.ResidReferenceIdeal.main (F := Ideal))) ⟨m, fun _ => 0, g⟩ (fun r => (∀ c : Dev Cert.ResidReferenceIdeal.nD,
      r.2.mem ((c.tc : Thread Cert.ResidReferenceIdeal.nD Cert.ResidReferenceIdeal.τ).loc Cert.ResidReferenceIdeal.main_arg0) = m ((c.tc : Thread Cert.ResidReferenceIdeal.nD Cert.ResidReferenceIdeal.τ).loc Cert.ResidReferenceIdeal.main_arg0)
      ∧ r.2.mem ((c.tc : Thread Cert.ResidReferenceIdeal.nD Cert.ResidReferenceIdeal.τ).loc Cert.ResidReferenceIdeal.main_arg1) = m ((c.tc : Thread Cert.ResidReferenceIdeal.nD Cert.ResidReferenceIdeal.τ).loc Cert.ResidReferenceIdeal.main_arg1)
      ∧ r.2.mem ((c.tc : Thread Cert.ResidReferenceIdeal.nD Cert.ResidReferenceIdeal.τ).loc Cert.ResidReferenceIdeal.main_arg2) = m ((c.tc : Thread Cert.ResidReferenceIdeal.nD Cert.ResidReferenceIdeal.τ).loc Cert.ResidReferenceIdeal.main_arg2)
      ∧ r.2.mem ((c.tc : Thread Cert.ResidReferenceIdeal.nD Cert.ResidReferenceIdeal.τ).loc Cert.ResidReferenceIdeal.main_arg3) = m ((c.tc : Thread Cert.ResidReferenceIdeal.nD Cert.ResidReferenceIdeal.τ).loc Cert.ResidReferenceIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1))
      ∧ r.2.sem = fun _ => 0)

def quiescent_Assemble [hAssemble : Cert.Assemble.Facts] : Prop :=
  ∀ (m : (ℓ : Loc Cert.Assemble.nD Cert.Assemble.τ Cert.Assemble.sig) → Buf (Elt Bits) ℓ) (g : Dev Cert.Assemble.nD → PrngReg), Pre_Assemble m →
    θ_run (Cert.Assemble.defs (F := Bits)) (onTc (τ := Cert.Assemble.τ) (Cert.Assemble.main (F := Bits))) ⟨m, fun _ => 0, g⟩ (fun r => (∀ c : Dev Cert.Assemble.nD,
      r.2.mem ((c.tc : Thread Cert.Assemble.nD Cert.Assemble.τ).loc Cert.Assemble.main_arg0) = m ((c.tc : Thread Cert.Assemble.nD Cert.Assemble.τ).loc Cert.Assemble.main_arg0)
      ∧ r.2.mem ((c.tc : Thread Cert.Assemble.nD Cert.Assemble.τ).loc Cert.Assemble.main_arg1) = m ((c.tc : Thread Cert.Assemble.nD Cert.Assemble.τ).loc Cert.Assemble.main_arg1)
      ∧ r.2.mem ((c.tc : Thread Cert.Assemble.nD Cert.Assemble.τ).loc Cert.Assemble.main_arg2) = m ((c.tc : Thread Cert.Assemble.nD Cert.Assemble.τ).loc Cert.Assemble.main_arg2)
      ∧ r.2.mem ((c.tc : Thread Cert.Assemble.nD Cert.Assemble.τ).loc Cert.Assemble.main_arg3) = m ((c.tc : Thread Cert.Assemble.nD Cert.Assemble.τ).loc Cert.Assemble.main_arg3))
      ∧ r.2.sem = fun _ => 0)

def quiescent_AssembleIdeal [hAssembleIdeal : Cert.AssembleIdeal.Facts] : Prop :=
  ∀ (m : (ℓ : Loc Cert.AssembleIdeal.nD Cert.AssembleIdeal.τ Cert.AssembleIdeal.sig) → Buf (Elt Ideal) ℓ) (g : Dev Cert.AssembleIdeal.nD → PrngReg), Pre_AssembleIdeal m →
    θ_run (Cert.AssembleIdeal.defs (F := Ideal)) (onTc (τ := Cert.AssembleIdeal.τ) (Cert.AssembleIdeal.main (F := Ideal))) ⟨m, fun _ => 0, g⟩ (fun r => (∀ c : Dev Cert.AssembleIdeal.nD,
      r.2.mem ((c.tc : Thread Cert.AssembleIdeal.nD Cert.AssembleIdeal.τ).loc Cert.AssembleIdeal.main_arg0) = m ((c.tc : Thread Cert.AssembleIdeal.nD Cert.AssembleIdeal.τ).loc Cert.AssembleIdeal.main_arg0)
      ∧ r.2.mem ((c.tc : Thread Cert.AssembleIdeal.nD Cert.AssembleIdeal.τ).loc Cert.AssembleIdeal.main_arg1) = m ((c.tc : Thread Cert.AssembleIdeal.nD Cert.AssembleIdeal.τ).loc Cert.AssembleIdeal.main_arg1)
      ∧ r.2.mem ((c.tc : Thread Cert.AssembleIdeal.nD Cert.AssembleIdeal.τ).loc Cert.AssembleIdeal.main_arg2) = m ((c.tc : Thread Cert.AssembleIdeal.nD Cert.AssembleIdeal.τ).loc Cert.AssembleIdeal.main_arg2)
      ∧ r.2.mem ((c.tc : Thread Cert.AssembleIdeal.nD Cert.AssembleIdeal.τ).loc Cert.AssembleIdeal.main_arg3) = m ((c.tc : Thread Cert.AssembleIdeal.nD Cert.AssembleIdeal.τ).loc Cert.AssembleIdeal.main_arg3))
      ∧ r.2.sem = fun _ => 0)

def quiescent_AssembleReferenceIdeal [hAssembleReferenceIdeal : Cert.AssembleReferenceIdeal.Facts] : Prop :=
  ∀ (m : (ℓ : Loc Cert.AssembleReferenceIdeal.nD Cert.AssembleReferenceIdeal.τ Cert.AssembleReferenceIdeal.sig) → Buf (Elt Ideal) ℓ) (g : Dev Cert.AssembleReferenceIdeal.nD → PrngReg), Pre_AssembleReferenceIdeal m →
    θ_run (Cert.AssembleReferenceIdeal.defs (F := Ideal)) (onTc (τ := Cert.AssembleReferenceIdeal.τ) (Cert.AssembleReferenceIdeal.main (F := Ideal))) ⟨m, fun _ => 0, g⟩ (fun r => (∀ c : Dev Cert.AssembleReferenceIdeal.nD,
      r.2.mem ((c.tc : Thread Cert.AssembleReferenceIdeal.nD Cert.AssembleReferenceIdeal.τ).loc Cert.AssembleReferenceIdeal.main_arg0) = m ((c.tc : Thread Cert.AssembleReferenceIdeal.nD Cert.AssembleReferenceIdeal.τ).loc Cert.AssembleReferenceIdeal.main_arg0)
      ∧ r.2.mem ((c.tc : Thread Cert.AssembleReferenceIdeal.nD Cert.AssembleReferenceIdeal.τ).loc Cert.AssembleReferenceIdeal.main_arg1) = m ((c.tc : Thread Cert.AssembleReferenceIdeal.nD Cert.AssembleReferenceIdeal.τ).loc Cert.AssembleReferenceIdeal.main_arg1)
      ∧ r.2.mem ((c.tc : Thread Cert.AssembleReferenceIdeal.nD Cert.AssembleReferenceIdeal.τ).loc Cert.AssembleReferenceIdeal.main_arg2) = m ((c.tc : Thread Cert.AssembleReferenceIdeal.nD Cert.AssembleReferenceIdeal.τ).loc Cert.AssembleReferenceIdeal.main_arg2)
      ∧ r.2.mem ((c.tc : Thread Cert.AssembleReferenceIdeal.nD Cert.AssembleReferenceIdeal.τ).loc Cert.AssembleReferenceIdeal.main_arg3) = m ((c.tc : Thread Cert.AssembleReferenceIdeal.nD Cert.AssembleReferenceIdeal.τ).loc Cert.AssembleReferenceIdeal.main_arg3))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v65) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Gate_GateIdeal : Prop :=
  True

def algebraic_GateIdeal_GateReferenceIdeal_pre_finite_feed [hGateIdeal : Cert.GateIdeal.Facts] [hGateReferenceIdeal : Cert.GateReferenceIdeal.Facts] [hPre_finite_feed : Cert.Pre_finite_feed.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateIdeal_finite_feed m →
    (∀ c : Dev Cert.GateIdeal.nD,
      m' ((c.tc : Thread Cert.GateReferenceIdeal.nD Cert.GateReferenceIdeal.τ).loc Cert.GateReferenceIdeal.main_arg0) = m ((c.tc : Thread Cert.GateIdeal.nD Cert.GateIdeal.τ).loc Cert.GateIdeal.main_arg0)
      ∧ m' ((c.tc : Thread Cert.GateReferenceIdeal.nD Cert.GateReferenceIdeal.τ).loc Cert.GateReferenceIdeal.main_arg1) = m ((c.tc : Thread Cert.GateIdeal.nD Cert.GateIdeal.τ).loc Cert.GateIdeal.main_arg1)
      ∧ m' ((c.tc : Thread Cert.GateReferenceIdeal.nD Cert.GateReferenceIdeal.τ).loc Cert.GateReferenceIdeal.main_arg2) = m ((c.tc : Thread Cert.GateIdeal.nD Cert.GateIdeal.τ).loc Cert.GateIdeal.main_arg2)
      ∧ m' ((c.tc : Thread Cert.GateReferenceIdeal.nD Cert.GateReferenceIdeal.τ).loc Cert.GateReferenceIdeal.main_arg3) = m ((c.tc : Thread Cert.GateIdeal.nD Cert.GateIdeal.τ).loc Cert.GateIdeal.main_arg3)
      ∧ m' ((c.tc : Thread Cert.GateReferenceIdeal.nD Cert.GateReferenceIdeal.τ).loc Cert.GateReferenceIdeal.main_arg4) = m ((c.tc : Thread Cert.GateIdeal.nD Cert.GateIdeal.τ).loc Cert.GateIdeal.main_arg4)) →
    ∃ (v0 : (c : Dev Cert.GateIdeal.nD) → Buf (Elt Ideal) ((c.tc : Thread Cert.GateIdeal.nD Cert.GateIdeal.τ).loc Cert.GateIdeal.main_v6_0)) (v1 : (c : Dev Cert.GateIdeal.nD) → Buf (Elt Ideal) ((c.tc : Thread Cert.GateIdeal.nD Cert.GateIdeal.τ).loc Cert.GateIdeal.main_v6_1)) (v2 : (c : Dev Cert.GateIdeal.nD) → Buf (Elt Ideal) ((c.tc : Thread Cert.GateIdeal.nD Cert.GateIdeal.τ).loc Cert.GateIdeal.main_v6_2)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v6_0) = v0 c
          ∧ r.2.mem ((c.tc : Thread Cert.GateIdeal.nD Cert.GateIdeal.τ).loc Cert.GateIdeal.main_v6_1) = v1 c
          ∧ r.2.mem ((c.tc : Thread Cert.GateIdeal.nD Cert.GateIdeal.τ).loc Cert.GateIdeal.main_v6_2) = v2 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v24) = v0 c
          ∧ r.2.mem ((c.tc : Thread Cert.GateReferenceIdeal.nD Cert.GateReferenceIdeal.τ).loc Cert.GateReferenceIdeal.main_v27) = v1 c
          ∧ r.2.mem ((c.tc : Thread Cert.GateReferenceIdeal.nD Cert.GateReferenceIdeal.τ).loc Cert.GateReferenceIdeal.main_v21) = v2 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3)
          ∧ r.2.mem ((c.tc : Thread Cert.GateReferenceIdeal.nD Cert.GateReferenceIdeal.τ).loc Cert.GateReferenceIdeal.main_arg4) = m' ((c.tc : Thread Cert.GateReferenceIdeal.nD Cert.GateReferenceIdeal.τ).loc Cert.GateReferenceIdeal.main_arg4))

def preserves_Wgrad_WgradIdeal : Prop :=
  True

def algebraic_WgradIdeal_WgradReferenceIdeal [hWgradIdeal : Cert.WgradIdeal.Facts] [hWgradReferenceIdeal : Cert.WgradReferenceIdeal.Facts] : Prop :=
  ∀ (m : (ℓ : Loc Cert.WgradIdeal.nD Cert.WgradIdeal.τ Cert.WgradIdeal.sig) → Buf (Elt Ideal) ℓ) (g : Dev Cert.WgradIdeal.nD → PrngReg)
    (m' : (ℓ : Loc Cert.WgradReferenceIdeal.nD Cert.WgradReferenceIdeal.τ Cert.WgradReferenceIdeal.sig) → Buf (Elt Ideal) ℓ) (g' : Dev Cert.WgradReferenceIdeal.nD → PrngReg), Pre_WgradIdeal m →
    (∀ c : Dev Cert.WgradIdeal.nD,
      m' ((c.tc : Thread Cert.WgradReferenceIdeal.nD Cert.WgradReferenceIdeal.τ).loc Cert.WgradReferenceIdeal.main_arg0) = m ((c.tc : Thread Cert.WgradIdeal.nD Cert.WgradIdeal.τ).loc Cert.WgradIdeal.main_arg0)
      ∧ m' ((c.tc : Thread Cert.WgradReferenceIdeal.nD Cert.WgradReferenceIdeal.τ).loc Cert.WgradReferenceIdeal.main_arg1) = m ((c.tc : Thread Cert.WgradIdeal.nD Cert.WgradIdeal.τ).loc Cert.WgradIdeal.main_arg1)) →
    ∃ (v0 : (c : Dev Cert.WgradIdeal.nD) → Buf (Elt Ideal) ((c.tc : Thread Cert.WgradIdeal.nD Cert.WgradIdeal.τ).loc Cert.WgradIdeal.main_v0)),
      θ_run (Cert.WgradIdeal.defs (F := Ideal)) (onTc (τ := Cert.WgradIdeal.τ) (Cert.WgradIdeal.main (F := Ideal))) ⟨m, fun _ => 0, g⟩ (fun r => ∀ c : Dev Cert.WgradIdeal.nD,
          r.2.mem ((c.tc : Thread Cert.WgradIdeal.nD Cert.WgradIdeal.τ).loc Cert.WgradIdeal.main_v0) = v0 c
          ∧ r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
          ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1))
      ∧ θ_run (Cert.WgradReferenceIdeal.defs (F := Ideal)) (onTc (τ := Cert.WgradReferenceIdeal.τ) (Cert.WgradReferenceIdeal.main (F := Ideal))) ⟨m', fun _ => 0, g'⟩ (fun r => ∀ c : Dev Cert.WgradReferenceIdeal.nD,
          r.2.mem ((c.tc : Thread Cert.WgradReferenceIdeal.nD Cert.WgradReferenceIdeal.τ).loc Cert.WgradReferenceIdeal.main_v10) = v0 c
          ∧ r.2.mem ((c.tc : Thread Cert.WgradReferenceIdeal.nD Cert.WgradReferenceIdeal.τ).loc Cert.WgradReferenceIdeal.main_arg0) = m' ((c.tc : Thread Cert.WgradReferenceIdeal.nD Cert.WgradReferenceIdeal.τ).loc Cert.WgradReferenceIdeal.main_arg0)
          ∧ r.2.mem ((c.tc : Thread Cert.WgradReferenceIdeal.nD Cert.WgradReferenceIdeal.τ).loc Cert.WgradReferenceIdeal.main_arg1) = m' ((c.tc : Thread Cert.WgradReferenceIdeal.nD Cert.WgradReferenceIdeal.τ).loc Cert.WgradReferenceIdeal.main_arg1))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v0_0)) (v1 : (c : Dev Cert.FfnIdeal.nD) → Buf (Elt Ideal) ((c.tc : Thread Cert.FfnIdeal.nD Cert.FfnIdeal.τ).loc Cert.FfnIdeal.main_v0_1)) (v2 : (c : Dev Cert.FfnIdeal.nD) → Buf (Elt Ideal) ((c.tc : Thread Cert.FfnIdeal.nD Cert.FfnIdeal.τ).loc Cert.FfnIdeal.main_v0_2)) (v3 : (c : Dev Cert.FfnIdeal.nD) → Buf (Elt Ideal) ((c.tc : Thread Cert.FfnIdeal.nD Cert.FfnIdeal.τ).loc Cert.FfnIdeal.main_v0_3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0_0) = v0 c
          ∧ r.2.mem ((c.tc : Thread Cert.FfnIdeal.nD Cert.FfnIdeal.τ).loc Cert.FfnIdeal.main_v0_1) = v1 c
          ∧ r.2.mem ((c.tc : Thread Cert.FfnIdeal.nD Cert.FfnIdeal.τ).loc Cert.FfnIdeal.main_v0_2) = v2 c
          ∧ r.2.mem ((c.tc : Thread Cert.FfnIdeal.nD Cert.FfnIdeal.τ).loc Cert.FfnIdeal.main_v0_3) = v3 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v15) = v0 c
          ∧ r.2.mem ((c.tc : Thread Cert.FfnReferenceIdeal.nD Cert.FfnReferenceIdeal.τ).loc Cert.FfnReferenceIdeal.main_v18) = v1 c
          ∧ r.2.mem ((c.tc : Thread Cert.FfnReferenceIdeal.nD Cert.FfnReferenceIdeal.τ).loc Cert.FfnReferenceIdeal.main_v21) = v2 c
          ∧ r.2.mem ((c.tc : Thread Cert.FfnReferenceIdeal.nD Cert.FfnReferenceIdeal.τ).loc Cert.FfnReferenceIdeal.main_v22) = v3 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3))

def preserves_Attn_AttnIdeal : Prop :=
  IdealRules.named_const.Statement Cert.AttnIdeal.κ "mask" .f32 0xF149F2CA#32 ⊥

def algebraic_AttnIdeal_AttnReferenceIdeal_pre_finite_attention [hAttnIdeal : Cert.AttnIdeal.Facts] [hAttnReferenceIdeal : Cert.AttnReferenceIdeal.Facts] [hPre_finite_attention : Cert.Pre_finite_attention.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnIdeal_finite_attention m →
    (∀ c : Dev Cert.AttnIdeal.nD,
      m' ((c.tc : Thread Cert.AttnReferenceIdeal.nD Cert.AttnReferenceIdeal.τ).loc Cert.AttnReferenceIdeal.main_arg0) = m ((c.tc : Thread Cert.AttnIdeal.nD Cert.AttnIdeal.τ).loc Cert.AttnIdeal.main_arg0)
      ∧ m' ((c.tc : Thread Cert.AttnReferenceIdeal.nD Cert.AttnReferenceIdeal.τ).loc Cert.AttnReferenceIdeal.main_arg1) = m ((c.tc : Thread Cert.AttnIdeal.nD Cert.AttnIdeal.τ).loc Cert.AttnIdeal.main_arg1)
      ∧ m' ((c.tc : Thread Cert.AttnReferenceIdeal.nD Cert.AttnReferenceIdeal.τ).loc Cert.AttnReferenceIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v34_0)) (v1 : (c : Dev Cert.AttnIdeal.nD) → Buf (Elt Ideal) ((c.tc : Thread Cert.AttnIdeal.nD Cert.AttnIdeal.τ).loc Cert.AttnIdeal.main_v34_1)) (v2 : (c : Dev Cert.AttnIdeal.nD) → Buf (Elt Ideal) ((c.tc : Thread Cert.AttnIdeal.nD Cert.AttnIdeal.τ).loc Cert.AttnIdeal.main_v34_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v34_0) = v0 c
          ∧ r.2.mem ((c.tc : Thread Cert.AttnIdeal.nD Cert.AttnIdeal.τ).loc Cert.AttnIdeal.main_v34_1) = v1 c
          ∧ r.2.mem ((c.tc : Thread Cert.AttnIdeal.nD Cert.AttnIdeal.τ).loc Cert.AttnIdeal.main_v34_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v219) = v0 c
          ∧ r.2.mem ((c.tc : Thread Cert.AttnReferenceIdeal.nD Cert.AttnReferenceIdeal.τ).loc Cert.AttnReferenceIdeal.main_v220) = v1 c
          ∧ r.2.mem ((c.tc : Thread Cert.AttnReferenceIdeal.nD Cert.AttnReferenceIdeal.τ).loc Cert.AttnReferenceIdeal.main_v222) = v2 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2))

def preserves_ProjDx_ProjDxIdeal : Prop :=
  True

def algebraic_ProjDxIdeal_ProjDxReferenceIdeal [hProjDxIdeal : Cert.ProjDxIdeal.Facts] [hProjDxReferenceIdeal : Cert.ProjDxReferenceIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg)
    (m' : (ℓ : Loc Cert.ProjDxReferenceIdeal.nD Cert.ProjDxReferenceIdeal.τ Cert.ProjDxReferenceIdeal.sig) → Buf (Elt Ideal) ℓ) (g' : Dev Cert.ProjDxReferenceIdeal.nD → PrngReg), Pre_ProjDxIdeal m →
    (∀ c : Dev Cert.ProjDxIdeal.nD,
      m' ((c.tc : Thread Cert.ProjDxReferenceIdeal.nD Cert.ProjDxReferenceIdeal.τ).loc Cert.ProjDxReferenceIdeal.main_arg0) = m ((c.tc : Thread Cert.ProjDxIdeal.nD Cert.ProjDxIdeal.τ).loc Cert.ProjDxIdeal.main_arg0)
      ∧ m' ((c.tc : Thread Cert.ProjDxReferenceIdeal.nD Cert.ProjDxReferenceIdeal.τ).loc Cert.ProjDxReferenceIdeal.main_arg1) = m ((c.tc : Thread Cert.ProjDxIdeal.nD Cert.ProjDxIdeal.τ).loc Cert.ProjDxIdeal.main_arg1)) →
    ∃ (v0 : (c : Dev Cert.ProjDxIdeal.nD) → Buf (Elt Ideal) ((c.tc : Thread Cert.ProjDxIdeal.nD Cert.ProjDxIdeal.τ).loc Cert.ProjDxIdeal.main_v0)),
      θ_run (Cert.ProjDxIdeal.defs (F := Ideal)) (onTc (τ := Cert.ProjDxIdeal.τ) (Cert.ProjDxIdeal.main (F := Ideal))) ⟨m, fun _ => 0, g⟩ (fun r => ∀ c : Dev Cert.ProjDxIdeal.nD,
          r.2.mem ((c.tc : Thread Cert.ProjDxIdeal.nD Cert.ProjDxIdeal.τ).loc Cert.ProjDxIdeal.main_v0) = v0 c
          ∧ r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
          ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1))
      ∧ θ_run (Cert.ProjDxReferenceIdeal.defs (F := Ideal)) (onTc (τ := Cert.ProjDxReferenceIdeal.τ) (Cert.ProjDxReferenceIdeal.main (F := Ideal))) ⟨m', fun _ => 0, g'⟩ (fun r => ∀ c : Dev Cert.ProjDxReferenceIdeal.nD,
          r.2.mem ((c.tc : Thread Cert.ProjDxReferenceIdeal.nD Cert.ProjDxReferenceIdeal.τ).loc Cert.ProjDxReferenceIdeal.main_v4) = v0 c
          ∧ r.2.mem ((c.tc : Thread Cert.ProjDxReferenceIdeal.nD Cert.ProjDxReferenceIdeal.τ).loc Cert.ProjDxReferenceIdeal.main_arg0) = m' ((c.tc : Thread Cert.ProjDxReferenceIdeal.nD Cert.ProjDxReferenceIdeal.τ).loc Cert.ProjDxReferenceIdeal.main_arg0)
          ∧ r.2.mem ((c.tc : Thread Cert.ProjDxReferenceIdeal.nD Cert.ProjDxReferenceIdeal.τ).loc Cert.ProjDxReferenceIdeal.main_arg1) = m' ((c.tc : Thread Cert.ProjDxReferenceIdeal.nD Cert.ProjDxReferenceIdeal.τ).loc Cert.ProjDxReferenceIdeal.main_arg1))

def preserves_ProjDw_ProjDwIdeal : Prop :=
  True

def algebraic_ProjDwIdeal_ProjDwReferenceIdeal [hProjDwIdeal : Cert.ProjDwIdeal.Facts] [hProjDwReferenceIdeal : Cert.ProjDwReferenceIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg)
    (m' : (ℓ : Loc Cert.ProjDwReferenceIdeal.nD Cert.ProjDwReferenceIdeal.τ Cert.ProjDwReferenceIdeal.sig) → Buf (Elt Ideal) ℓ) (g' : Dev Cert.ProjDwReferenceIdeal.nD → PrngReg), Pre_ProjDwIdeal m →
    (∀ c : Dev Cert.ProjDwIdeal.nD,
      m' ((c.tc : Thread Cert.ProjDwReferenceIdeal.nD Cert.ProjDwReferenceIdeal.τ).loc Cert.ProjDwReferenceIdeal.main_arg0) = m ((c.tc : Thread Cert.ProjDwIdeal.nD Cert.ProjDwIdeal.τ).loc Cert.ProjDwIdeal.main_arg0)
      ∧ m' ((c.tc : Thread Cert.ProjDwReferenceIdeal.nD Cert.ProjDwReferenceIdeal.τ).loc Cert.ProjDwReferenceIdeal.main_arg1) = m ((c.tc : Thread Cert.ProjDwIdeal.nD Cert.ProjDwIdeal.τ).loc Cert.ProjDwIdeal.main_arg1)) →
    ∃ (v0 : (c : Dev Cert.ProjDwIdeal.nD) → Buf (Elt Ideal) ((c.tc : Thread Cert.ProjDwIdeal.nD Cert.ProjDwIdeal.τ).loc Cert.ProjDwIdeal.main_v0)),
      θ_run (Cert.ProjDwIdeal.defs (F := Ideal)) (onTc (τ := Cert.ProjDwIdeal.τ) (Cert.ProjDwIdeal.main (F := Ideal))) ⟨m, fun _ => 0, g⟩ (fun r => ∀ c : Dev Cert.ProjDwIdeal.nD,
          r.2.mem ((c.tc : Thread Cert.ProjDwIdeal.nD Cert.ProjDwIdeal.τ).loc Cert.ProjDwIdeal.main_v0) = v0 c
          ∧ r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
          ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ θ_run (Cert.ProjDwReferenceIdeal.defs (F := Ideal)) (onTc (τ := Cert.ProjDwReferenceIdeal.τ) (Cert.ProjDwReferenceIdeal.main (F := Ideal))) ⟨m', fun _ => 0, g'⟩ (fun r => ∀ c : Dev Cert.ProjDwReferenceIdeal.nD,
          r.2.mem ((c.tc : Thread Cert.ProjDwReferenceIdeal.nD Cert.ProjDwReferenceIdeal.τ).loc Cert.ProjDwReferenceIdeal.main_v7) = v0 c
          ∧ r.2.mem ((c.tc : Thread Cert.ProjDwReferenceIdeal.nD Cert.ProjDwReferenceIdeal.τ).loc Cert.ProjDwReferenceIdeal.main_arg0) = m' ((c.tc : Thread Cert.ProjDwReferenceIdeal.nD Cert.ProjDwReferenceIdeal.τ).loc Cert.ProjDwReferenceIdeal.main_arg0)
          ∧ r.2.mem ((c.tc : Thread Cert.ProjDwReferenceIdeal.nD Cert.ProjDwReferenceIdeal.τ).loc Cert.ProjDwReferenceIdeal.main_arg1) = m' ((c.tc : Thread Cert.ProjDwReferenceIdeal.nD Cert.ProjDwReferenceIdeal.τ).loc Cert.ProjDwReferenceIdeal.main_arg1))

def preserves_MixDx_MixDxIdeal : Prop :=
  True

def algebraic_MixDxIdeal_MixDxReferenceIdeal [hMixDxIdeal : Cert.MixDxIdeal.Facts] [hMixDxReferenceIdeal : Cert.MixDxReferenceIdeal.Facts] : Prop :=
  ∀ (m : (ℓ : Loc Cert.MixDxIdeal.nD Cert.MixDxIdeal.τ Cert.MixDxIdeal.sig) → Buf (Elt Ideal) ℓ) (g : Dev Cert.MixDxIdeal.nD → PrngReg)
    (m' : (ℓ : Loc Cert.MixDxReferenceIdeal.nD Cert.MixDxReferenceIdeal.τ Cert.MixDxReferenceIdeal.sig) → Buf (Elt Ideal) ℓ) (g' : Dev Cert.MixDxReferenceIdeal.nD → PrngReg), Pre_MixDxIdeal m →
    (∀ c : Dev Cert.MixDxIdeal.nD,
      m' ((c.tc : Thread Cert.MixDxReferenceIdeal.nD Cert.MixDxReferenceIdeal.τ).loc Cert.MixDxReferenceIdeal.main_arg0) = m ((c.tc : Thread Cert.MixDxIdeal.nD Cert.MixDxIdeal.τ).loc Cert.MixDxIdeal.main_arg0)
      ∧ m' ((c.tc : Thread Cert.MixDxReferenceIdeal.nD Cert.MixDxReferenceIdeal.τ).loc Cert.MixDxReferenceIdeal.main_arg1) = m ((c.tc : Thread Cert.MixDxIdeal.nD Cert.MixDxIdeal.τ).loc Cert.MixDxIdeal.main_arg1)) →
    ∃ (v0 : (c : Dev Cert.MixDxIdeal.nD) → Buf (Elt Ideal) ((c.tc : Thread Cert.MixDxIdeal.nD Cert.MixDxIdeal.τ).loc Cert.MixDxIdeal.main_v0)),
      θ_run (Cert.MixDxIdeal.defs (F := Ideal)) (onTc (τ := Cert.MixDxIdeal.τ) (Cert.MixDxIdeal.main (F := Ideal))) ⟨m, fun _ => 0, g⟩ (fun r => ∀ c : Dev Cert.MixDxIdeal.nD,
          r.2.mem ((c.tc : Thread Cert.MixDxIdeal.nD Cert.MixDxIdeal.τ).loc Cert.MixDxIdeal.main_v0) = v0 c
          ∧ r.2.mem ((c.tc : Thread Cert.MixDxIdeal.nD Cert.MixDxIdeal.τ).loc Cert.MixDxIdeal.main_arg0) = m ((c.tc : Thread Cert.MixDxIdeal.nD Cert.MixDxIdeal.τ).loc Cert.MixDxIdeal.main_arg0)
          ∧ r.2.mem ((c.tc : Thread Cert.MixDxIdeal.nD Cert.MixDxIdeal.τ).loc Cert.MixDxIdeal.main_arg1) = m ((c.tc : Thread Cert.MixDxIdeal.nD Cert.MixDxIdeal.τ).loc Cert.MixDxIdeal.main_arg1))
      ∧ θ_run (Cert.MixDxReferenceIdeal.defs (F := Ideal)) (onTc (τ := Cert.MixDxReferenceIdeal.τ) (Cert.MixDxReferenceIdeal.main (F := Ideal))) ⟨m', fun _ => 0, g'⟩ (fun r => ∀ c : Dev Cert.MixDxReferenceIdeal.nD,
          r.2.mem ((c.tc : Thread Cert.MixDxReferenceIdeal.nD Cert.MixDxReferenceIdeal.τ).loc Cert.MixDxReferenceIdeal.main_v5) = v0 c
          ∧ r.2.mem ((c.tc : Thread Cert.MixDxReferenceIdeal.nD Cert.MixDxReferenceIdeal.τ).loc Cert.MixDxReferenceIdeal.main_arg0) = m' ((c.tc : Thread Cert.MixDxReferenceIdeal.nD Cert.MixDxReferenceIdeal.τ).loc Cert.MixDxReferenceIdeal.main_arg0)
          ∧ r.2.mem ((c.tc : Thread Cert.MixDxReferenceIdeal.nD Cert.MixDxReferenceIdeal.τ).loc Cert.MixDxReferenceIdeal.main_arg1) = m' ((c.tc : Thread Cert.MixDxReferenceIdeal.nD Cert.MixDxReferenceIdeal.τ).loc Cert.MixDxReferenceIdeal.main_arg1))

def preserves_MixDw_MixDwIdeal : Prop :=
  True

def algebraic_MixDwIdeal_MixDwReferenceIdeal [hMixDwIdeal : Cert.MixDwIdeal.Facts] [hMixDwReferenceIdeal : Cert.MixDwReferenceIdeal.Facts] : Prop :=
  ∀ (m : (ℓ : Loc Cert.MixDwIdeal.nD Cert.MixDwIdeal.τ Cert.MixDwIdeal.sig) → Buf (Elt Ideal) ℓ) (g : Dev Cert.MixDwIdeal.nD → PrngReg)
    (m' : (ℓ : Loc Cert.MixDwReferenceIdeal.nD Cert.MixDwReferenceIdeal.τ Cert.MixDwReferenceIdeal.sig) → Buf (Elt Ideal) ℓ) (g' : Dev Cert.MixDwReferenceIdeal.nD → PrngReg), Pre_MixDwIdeal m →
    (∀ c : Dev Cert.MixDwIdeal.nD,
      m' ((c.tc : Thread Cert.MixDwReferenceIdeal.nD Cert.MixDwReferenceIdeal.τ).loc Cert.MixDwReferenceIdeal.main_arg0) = m ((c.tc : Thread Cert.MixDwIdeal.nD Cert.MixDwIdeal.τ).loc Cert.MixDwIdeal.main_arg0)
      ∧ m' ((c.tc : Thread Cert.MixDwReferenceIdeal.nD Cert.MixDwReferenceIdeal.τ).loc Cert.MixDwReferenceIdeal.main_arg1) = m ((c.tc : Thread Cert.MixDwIdeal.nD Cert.MixDwIdeal.τ).loc Cert.MixDwIdeal.main_arg1)) →
    ∃ (v0 : (c : Dev Cert.MixDwIdeal.nD) → Buf (Elt Ideal) ((c.tc : Thread Cert.MixDwIdeal.nD Cert.MixDwIdeal.τ).loc Cert.MixDwIdeal.main_v0)),
      θ_run (Cert.MixDwIdeal.defs (F := Ideal)) (onTc (τ := Cert.MixDwIdeal.τ) (Cert.MixDwIdeal.main (F := Ideal))) ⟨m, fun _ => 0, g⟩ (fun r => ∀ c : Dev Cert.MixDwIdeal.nD,
          r.2.mem ((c.tc : Thread Cert.MixDwIdeal.nD Cert.MixDwIdeal.τ).loc Cert.MixDwIdeal.main_v0) = v0 c
          ∧ r.2.mem ((c.tc : Thread Cert.MixDwIdeal.nD Cert.MixDwIdeal.τ).loc Cert.MixDwIdeal.main_arg0) = m ((c.tc : Thread Cert.MixDwIdeal.nD Cert.MixDwIdeal.τ).loc Cert.MixDwIdeal.main_arg0)
          ∧ r.2.mem ((c.tc : Thread Cert.MixDwIdeal.nD Cert.MixDwIdeal.τ).loc Cert.MixDwIdeal.main_arg1) = m ((c.tc : Thread Cert.MixDwIdeal.nD Cert.MixDwIdeal.τ).loc Cert.MixDwIdeal.main_arg1))
      ∧ θ_run (Cert.MixDwReferenceIdeal.defs (F := Ideal)) (onTc (τ := Cert.MixDwReferenceIdeal.τ) (Cert.MixDwReferenceIdeal.main (F := Ideal))) ⟨m', fun _ => 0, g'⟩ (fun r => ∀ c : Dev Cert.MixDwReferenceIdeal.nD,
          r.2.mem ((c.tc : Thread Cert.MixDwReferenceIdeal.nD Cert.MixDwReferenceIdeal.τ).loc Cert.MixDwReferenceIdeal.main_v6) = v0 c
          ∧ r.2.mem ((c.tc : Thread Cert.MixDwReferenceIdeal.nD Cert.MixDwReferenceIdeal.τ).loc Cert.MixDwReferenceIdeal.main_arg0) = m' ((c.tc : Thread Cert.MixDwReferenceIdeal.nD Cert.MixDwReferenceIdeal.τ).loc Cert.MixDwReferenceIdeal.main_arg0)
          ∧ r.2.mem ((c.tc : Thread Cert.MixDwReferenceIdeal.nD Cert.MixDwReferenceIdeal.τ).loc Cert.MixDwReferenceIdeal.main_arg1) = m' ((c.tc : Thread Cert.MixDwReferenceIdeal.nD Cert.MixDwReferenceIdeal.τ).loc Cert.MixDwReferenceIdeal.main_arg1))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v2) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)) →
    ∃ (v0 : (c : Dev Cert.MixIdeal.nD) → Buf (Elt Ideal) ((c.tc : Thread Cert.MixIdeal.nD Cert.MixIdeal.τ).loc Cert.MixIdeal.main_v0)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v2) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1))

def preserves_XDh_XDhIdeal : Prop :=
  True

def algebraic_XDhIdeal_XDhReferenceIdeal [hXDhIdeal : Cert.XDhIdeal.Facts] [hXDhReferenceIdeal : Cert.XDhReferenceIdeal.Facts] : Prop :=
  ∀ (m : (ℓ : Loc Cert.XDhIdeal.nD Cert.XDhIdeal.τ Cert.XDhIdeal.sig) → Buf (Elt Ideal) ℓ) (g : Dev Cert.XDhIdeal.nD → PrngReg)
    (m' : (ℓ : Loc Cert.XDhReferenceIdeal.nD Cert.XDhReferenceIdeal.τ Cert.XDhReferenceIdeal.sig) → Buf (Elt Ideal) ℓ) (g' : Dev Cert.XDhReferenceIdeal.nD → PrngReg), Pre_XDhIdeal m →
    (∀ c : Dev Cert.XDhIdeal.nD,
      m' ((c.tc : Thread Cert.XDhReferenceIdeal.nD Cert.XDhReferenceIdeal.τ).loc Cert.XDhReferenceIdeal.main_arg0) = m ((c.tc : Thread Cert.XDhIdeal.nD Cert.XDhIdeal.τ).loc Cert.XDhIdeal.main_arg0)
      ∧ m' ((c.tc : Thread Cert.XDhReferenceIdeal.nD Cert.XDhReferenceIdeal.τ).loc Cert.XDhReferenceIdeal.main_arg1) = m ((c.tc : Thread Cert.XDhIdeal.nD Cert.XDhIdeal.τ).loc Cert.XDhIdeal.main_arg1)) →
    ∃ (v0 : (c : Dev Cert.XDhIdeal.nD) → Buf (Elt Ideal) ((c.tc : Thread Cert.XDhIdeal.nD Cert.XDhIdeal.τ).loc Cert.XDhIdeal.main_v0)),
      θ_run (Cert.XDhIdeal.defs (F := Ideal)) (onTc (τ := Cert.XDhIdeal.τ) (Cert.XDhIdeal.main (F := Ideal))) ⟨m, fun _ => 0, g⟩ (fun r => ∀ c : Dev Cert.XDhIdeal.nD,
          r.2.mem ((c.tc : Thread Cert.XDhIdeal.nD Cert.XDhIdeal.τ).loc Cert.XDhIdeal.main_v0) = v0 c
          ∧ r.2.mem ((c.tc : Thread Cert.XDhIdeal.nD Cert.XDhIdeal.τ).loc Cert.XDhIdeal.main_arg0) = m ((c.tc : Thread Cert.XDhIdeal.nD Cert.XDhIdeal.τ).loc Cert.XDhIdeal.main_arg0)
          ∧ r.2.mem ((c.tc : Thread Cert.XDhIdeal.nD Cert.XDhIdeal.τ).loc Cert.XDhIdeal.main_arg1) = m ((c.tc : Thread Cert.XDhIdeal.nD Cert.XDhIdeal.τ).loc Cert.XDhIdeal.main_arg1))
      ∧ θ_run (Cert.XDhReferenceIdeal.defs (F := Ideal)) (onTc (τ := Cert.XDhReferenceIdeal.τ) (Cert.XDhReferenceIdeal.main (F := Ideal))) ⟨m', fun _ => 0, g'⟩ (fun r => ∀ c : Dev Cert.XDhReferenceIdeal.nD,
          r.2.mem ((c.tc : Thread Cert.XDhReferenceIdeal.nD Cert.XDhReferenceIdeal.τ).loc Cert.XDhReferenceIdeal.main_v4) = v0 c
          ∧ r.2.mem ((c.tc : Thread Cert.XDhReferenceIdeal.nD Cert.XDhReferenceIdeal.τ).loc Cert.XDhReferenceIdeal.main_arg0) = m' ((c.tc : Thread Cert.XDhReferenceIdeal.nD Cert.XDhReferenceIdeal.τ).loc Cert.XDhReferenceIdeal.main_arg0)
          ∧ r.2.mem ((c.tc : Thread Cert.XDhReferenceIdeal.nD Cert.XDhReferenceIdeal.τ).loc Cert.XDhReferenceIdeal.main_arg1) = m' ((c.tc : Thread Cert.XDhReferenceIdeal.nD Cert.XDhReferenceIdeal.τ).loc Cert.XDhReferenceIdeal.main_arg1))

def preserves_XDo_XDoIdeal : Prop :=
  True

def algebraic_XDoIdeal_XDoReferenceIdeal [hXDoIdeal : Cert.XDoIdeal.Facts] [hXDoReferenceIdeal : Cert.XDoReferenceIdeal.Facts] : Prop :=
  ∀ (m : (ℓ : Loc Cert.XDoIdeal.nD Cert.XDoIdeal.τ Cert.XDoIdeal.sig) → Buf (Elt Ideal) ℓ) (g : Dev Cert.XDoIdeal.nD → PrngReg)
    (m' : (ℓ : Loc Cert.XDoReferenceIdeal.nD Cert.XDoReferenceIdeal.τ Cert.XDoReferenceIdeal.sig) → Buf (Elt Ideal) ℓ) (g' : Dev Cert.XDoReferenceIdeal.nD → PrngReg), Pre_XDoIdeal m →
    (∀ c : Dev Cert.XDoIdeal.nD,
      m' ((c.tc : Thread Cert.XDoReferenceIdeal.nD Cert.XDoReferenceIdeal.τ).loc Cert.XDoReferenceIdeal.main_arg0) = m ((c.tc : Thread Cert.XDoIdeal.nD Cert.XDoIdeal.τ).loc Cert.XDoIdeal.main_arg0)
      ∧ m' ((c.tc : Thread Cert.XDoReferenceIdeal.nD Cert.XDoReferenceIdeal.τ).loc Cert.XDoReferenceIdeal.main_arg1) = m ((c.tc : Thread Cert.XDoIdeal.nD Cert.XDoIdeal.τ).loc Cert.XDoIdeal.main_arg1)) →
    ∃ (v0 : (c : Dev Cert.XDoIdeal.nD) → Buf (Elt Ideal) ((c.tc : Thread Cert.XDoIdeal.nD Cert.XDoIdeal.τ).loc Cert.XDoIdeal.main_v0)),
      θ_run (Cert.XDoIdeal.defs (F := Ideal)) (onTc (τ := Cert.XDoIdeal.τ) (Cert.XDoIdeal.main (F := Ideal))) ⟨m, fun _ => 0, g⟩ (fun r => ∀ c : Dev Cert.XDoIdeal.nD,
          r.2.mem ((c.tc : Thread Cert.XDoIdeal.nD Cert.XDoIdeal.τ).loc Cert.XDoIdeal.main_v0) = v0 c
          ∧ r.2.mem ((c.tc : Thread Cert.XDoIdeal.nD Cert.XDoIdeal.τ).loc Cert.XDoIdeal.main_arg0) = m ((c.tc : Thread Cert.XDoIdeal.nD Cert.XDoIdeal.τ).loc Cert.XDoIdeal.main_arg0)
          ∧ r.2.mem ((c.tc : Thread Cert.XDoIdeal.nD Cert.XDoIdeal.τ).loc Cert.XDoIdeal.main_arg1) = m ((c.tc : Thread Cert.XDoIdeal.nD Cert.XDoIdeal.τ).loc Cert.XDoIdeal.main_arg1))
      ∧ θ_run (Cert.XDoReferenceIdeal.defs (F := Ideal)) (onTc (τ := Cert.XDoReferenceIdeal.τ) (Cert.XDoReferenceIdeal.main (F := Ideal))) ⟨m', fun _ => 0, g'⟩ (fun r => ∀ c : Dev Cert.XDoReferenceIdeal.nD,
          r.2.mem ((c.tc : Thread Cert.XDoReferenceIdeal.nD Cert.XDoReferenceIdeal.τ).loc Cert.XDoReferenceIdeal.main_v5) = v0 c
          ∧ r.2.mem ((c.tc : Thread Cert.XDoReferenceIdeal.nD Cert.XDoReferenceIdeal.τ).loc Cert.XDoReferenceIdeal.main_arg0) = m' ((c.tc : Thread Cert.XDoReferenceIdeal.nD Cert.XDoReferenceIdeal.τ).loc Cert.XDoReferenceIdeal.main_arg0)
          ∧ r.2.mem ((c.tc : Thread Cert.XDoReferenceIdeal.nD Cert.XDoReferenceIdeal.τ).loc Cert.XDoReferenceIdeal.main_arg1) = m' ((c.tc : Thread Cert.XDoReferenceIdeal.nD Cert.XDoReferenceIdeal.τ).loc Cert.XDoReferenceIdeal.main_arg1))

def preserves_XDwq_XDwqIdeal : Prop :=
  True

def algebraic_XDwqIdeal_XDwqReferenceIdeal [hXDwqIdeal : Cert.XDwqIdeal.Facts] [hXDwqReferenceIdeal : Cert.XDwqReferenceIdeal.Facts] : Prop :=
  ∀ (m : (ℓ : Loc Cert.XDwqIdeal.nD Cert.XDwqIdeal.τ Cert.XDwqIdeal.sig) → Buf (Elt Ideal) ℓ) (g : Dev Cert.XDwqIdeal.nD → PrngReg)
    (m' : (ℓ : Loc Cert.XDwqReferenceIdeal.nD Cert.XDwqReferenceIdeal.τ Cert.XDwqReferenceIdeal.sig) → Buf (Elt Ideal) ℓ) (g' : Dev Cert.XDwqReferenceIdeal.nD → PrngReg), Pre_XDwqIdeal m →
    (∀ c : Dev Cert.XDwqIdeal.nD,
      m' ((c.tc : Thread Cert.XDwqReferenceIdeal.nD Cert.XDwqReferenceIdeal.τ).loc Cert.XDwqReferenceIdeal.main_arg0) = m ((c.tc : Thread Cert.XDwqIdeal.nD Cert.XDwqIdeal.τ).loc Cert.XDwqIdeal.main_arg0)
      ∧ m' ((c.tc : Thread Cert.XDwqReferenceIdeal.nD Cert.XDwqReferenceIdeal.τ).loc Cert.XDwqReferenceIdeal.main_arg1) = m ((c.tc : Thread Cert.XDwqIdeal.nD Cert.XDwqIdeal.τ).loc Cert.XDwqIdeal.main_arg1)) →
    ∃ (v0 : (c : Dev Cert.XDwqIdeal.nD) → Buf (Elt Ideal) ((c.tc : Thread Cert.XDwqIdeal.nD Cert.XDwqIdeal.τ).loc Cert.XDwqIdeal.main_v0)),
      θ_run (Cert.XDwqIdeal.defs (F := Ideal)) (onTc (τ := Cert.XDwqIdeal.τ) (Cert.XDwqIdeal.main (F := Ideal))) ⟨m, fun _ => 0, g⟩ (fun r => ∀ c : Dev Cert.XDwqIdeal.nD,
          r.2.mem ((c.tc : Thread Cert.XDwqIdeal.nD Cert.XDwqIdeal.τ).loc Cert.XDwqIdeal.main_v0) = v0 c
          ∧ r.2.mem ((c.tc : Thread Cert.XDwqIdeal.nD Cert.XDwqIdeal.τ).loc Cert.XDwqIdeal.main_arg0) = m ((c.tc : Thread Cert.XDwqIdeal.nD Cert.XDwqIdeal.τ).loc Cert.XDwqIdeal.main_arg0)
          ∧ r.2.mem ((c.tc : Thread Cert.XDwqIdeal.nD Cert.XDwqIdeal.τ).loc Cert.XDwqIdeal.main_arg1) = m ((c.tc : Thread Cert.XDwqIdeal.nD Cert.XDwqIdeal.τ).loc Cert.XDwqIdeal.main_arg1))
      ∧ θ_run (Cert.XDwqReferenceIdeal.defs (F := Ideal)) (onTc (τ := Cert.XDwqReferenceIdeal.τ) (Cert.XDwqReferenceIdeal.main (F := Ideal))) ⟨m', fun _ => 0, g'⟩ (fun r => ∀ c : Dev Cert.XDwqReferenceIdeal.nD,
          r.2.mem ((c.tc : Thread Cert.XDwqReferenceIdeal.nD Cert.XDwqReferenceIdeal.τ).loc Cert.XDwqReferenceIdeal.main_v7) = v0 c
          ∧ r.2.mem ((c.tc : Thread Cert.XDwqReferenceIdeal.nD Cert.XDwqReferenceIdeal.τ).loc Cert.XDwqReferenceIdeal.main_arg0) = m' ((c.tc : Thread Cert.XDwqReferenceIdeal.nD Cert.XDwqReferenceIdeal.τ).loc Cert.XDwqReferenceIdeal.main_arg0)
          ∧ r.2.mem ((c.tc : Thread Cert.XDwqReferenceIdeal.nD Cert.XDwqReferenceIdeal.τ).loc Cert.XDwqReferenceIdeal.main_arg1) = m' ((c.tc : Thread Cert.XDwqReferenceIdeal.nD Cert.XDwqReferenceIdeal.τ).loc Cert.XDwqReferenceIdeal.main_arg1))

def preserves_XDwo_XDwoIdeal : Prop :=
  True

def algebraic_XDwoIdeal_XDwoReferenceIdeal [hXDwoIdeal : Cert.XDwoIdeal.Facts] [hXDwoReferenceIdeal : Cert.XDwoReferenceIdeal.Facts] : Prop :=
  ∀ (m : (ℓ : Loc Cert.XDwoIdeal.nD Cert.XDwoIdeal.τ Cert.XDwoIdeal.sig) → Buf (Elt Ideal) ℓ) (g : Dev Cert.XDwoIdeal.nD → PrngReg)
    (m' : (ℓ : Loc Cert.XDwoReferenceIdeal.nD Cert.XDwoReferenceIdeal.τ Cert.XDwoReferenceIdeal.sig) → Buf (Elt Ideal) ℓ) (g' : Dev Cert.XDwoReferenceIdeal.nD → PrngReg), Pre_XDwoIdeal m →
    (∀ c : Dev Cert.XDwoIdeal.nD,
      m' ((c.tc : Thread Cert.XDwoReferenceIdeal.nD Cert.XDwoReferenceIdeal.τ).loc Cert.XDwoReferenceIdeal.main_arg0) = m ((c.tc : Thread Cert.XDwoIdeal.nD Cert.XDwoIdeal.τ).loc Cert.XDwoIdeal.main_arg0)
      ∧ m' ((c.tc : Thread Cert.XDwoReferenceIdeal.nD Cert.XDwoReferenceIdeal.τ).loc Cert.XDwoReferenceIdeal.main_arg1) = m ((c.tc : Thread Cert.XDwoIdeal.nD Cert.XDwoIdeal.τ).loc Cert.XDwoIdeal.main_arg1)) →
    ∃ (v0 : (c : Dev Cert.XDwoIdeal.nD) → Buf (Elt Ideal) ((c.tc : Thread Cert.XDwoIdeal.nD Cert.XDwoIdeal.τ).loc Cert.XDwoIdeal.main_v0)),
      θ_run (Cert.XDwoIdeal.defs (F := Ideal)) (onTc (τ := Cert.XDwoIdeal.τ) (Cert.XDwoIdeal.main (F := Ideal))) ⟨m, fun _ => 0, g⟩ (fun r => ∀ c : Dev Cert.XDwoIdeal.nD,
          r.2.mem ((c.tc : Thread Cert.XDwoIdeal.nD Cert.XDwoIdeal.τ).loc Cert.XDwoIdeal.main_v0) = v0 c
          ∧ r.2.mem ((c.tc : Thread Cert.XDwoIdeal.nD Cert.XDwoIdeal.τ).loc Cert.XDwoIdeal.main_arg0) = m ((c.tc : Thread Cert.XDwoIdeal.nD Cert.XDwoIdeal.τ).loc Cert.XDwoIdeal.main_arg0)
          ∧ r.2.mem ((c.tc : Thread Cert.XDwoIdeal.nD Cert.XDwoIdeal.τ).loc Cert.XDwoIdeal.main_arg1) = m ((c.tc : Thread Cert.XDwoIdeal.nD Cert.XDwoIdeal.τ).loc Cert.XDwoIdeal.main_arg1))
      ∧ θ_run (Cert.XDwoReferenceIdeal.defs (F := Ideal)) (onTc (τ := Cert.XDwoReferenceIdeal.τ) (Cert.XDwoReferenceIdeal.main (F := Ideal))) ⟨m', fun _ => 0, g'⟩ (fun r => ∀ c : Dev Cert.XDwoReferenceIdeal.nD,
          r.2.mem ((c.tc : Thread Cert.XDwoReferenceIdeal.nD Cert.XDwoReferenceIdeal.τ).loc Cert.XDwoReferenceIdeal.main_v6) = v0 c
          ∧ r.2.mem ((c.tc : Thread Cert.XDwoReferenceIdeal.nD Cert.XDwoReferenceIdeal.τ).loc Cert.XDwoReferenceIdeal.main_arg0) = m' ((c.tc : Thread Cert.XDwoReferenceIdeal.nD Cert.XDwoReferenceIdeal.τ).loc Cert.XDwoReferenceIdeal.main_arg0)
          ∧ r.2.mem ((c.tc : Thread Cert.XDwoReferenceIdeal.nD Cert.XDwoReferenceIdeal.τ).loc Cert.XDwoReferenceIdeal.main_arg1) = m' ((c.tc : Thread Cert.XDwoReferenceIdeal.nD Cert.XDwoReferenceIdeal.τ).loc Cert.XDwoReferenceIdeal.main_arg1))

def preserves_Xq_XqIdeal : Prop :=
  True

def algebraic_XqIdeal_XqReferenceIdeal [hXqIdeal : Cert.XqIdeal.Facts] [hXqReferenceIdeal : Cert.XqReferenceIdeal.Facts] : Prop :=
  ∀ (m : (ℓ : Loc Cert.XqIdeal.nD Cert.XqIdeal.τ Cert.XqIdeal.sig) → Buf (Elt Ideal) ℓ) (g : Dev Cert.XqIdeal.nD → PrngReg)
    (m' : (ℓ : Loc Cert.XqReferenceIdeal.nD Cert.XqReferenceIdeal.τ Cert.XqReferenceIdeal.sig) → Buf (Elt Ideal) ℓ) (g' : Dev Cert.XqReferenceIdeal.nD → PrngReg), Pre_XqIdeal m →
    (∀ c : Dev Cert.XqIdeal.nD,
      m' ((c.tc : Thread Cert.XqReferenceIdeal.nD Cert.XqReferenceIdeal.τ).loc Cert.XqReferenceIdeal.main_arg0) = m ((c.tc : Thread Cert.XqIdeal.nD Cert.XqIdeal.τ).loc Cert.XqIdeal.main_arg0)
      ∧ m' ((c.tc : Thread Cert.XqReferenceIdeal.nD Cert.XqReferenceIdeal.τ).loc Cert.XqReferenceIdeal.main_arg1) = m ((c.tc : Thread Cert.XqIdeal.nD Cert.XqIdeal.τ).loc Cert.XqIdeal.main_arg1)) →
    ∃ (v0 : (c : Dev Cert.XqIdeal.nD) → Buf (Elt Ideal) ((c.tc : Thread Cert.XqIdeal.nD Cert.XqIdeal.τ).loc Cert.XqIdeal.main_v0)),
      θ_run (Cert.XqIdeal.defs (F := Ideal)) (onTc (τ := Cert.XqIdeal.τ) (Cert.XqIdeal.main (F := Ideal))) ⟨m, fun _ => 0, g⟩ (fun r => ∀ c : Dev Cert.XqIdeal.nD,
          r.2.mem ((c.tc : Thread Cert.XqIdeal.nD Cert.XqIdeal.τ).loc Cert.XqIdeal.main_v0) = v0 c
          ∧ r.2.mem ((c.tc : Thread Cert.XqIdeal.nD Cert.XqIdeal.τ).loc Cert.XqIdeal.main_arg0) = m ((c.tc : Thread Cert.XqIdeal.nD Cert.XqIdeal.τ).loc Cert.XqIdeal.main_arg0)
          ∧ r.2.mem ((c.tc : Thread Cert.XqIdeal.nD Cert.XqIdeal.τ).loc Cert.XqIdeal.main_arg1) = m ((c.tc : Thread Cert.XqIdeal.nD Cert.XqIdeal.τ).loc Cert.XqIdeal.main_arg1))
      ∧ θ_run (Cert.XqReferenceIdeal.defs (F := Ideal)) (onTc (τ := Cert.XqReferenceIdeal.τ) (Cert.XqReferenceIdeal.main (F := Ideal))) ⟨m', fun _ => 0, g'⟩ (fun r => ∀ c : Dev Cert.XqReferenceIdeal.nD,
          r.2.mem ((c.tc : Thread Cert.XqReferenceIdeal.nD Cert.XqReferenceIdeal.τ).loc Cert.XqReferenceIdeal.main_v3) = v0 c
          ∧ r.2.mem ((c.tc : Thread Cert.XqReferenceIdeal.nD Cert.XqReferenceIdeal.τ).loc Cert.XqReferenceIdeal.main_arg0) = m' ((c.tc : Thread Cert.XqReferenceIdeal.nD Cert.XqReferenceIdeal.τ).loc Cert.XqReferenceIdeal.main_arg0)
          ∧ r.2.mem ((c.tc : Thread Cert.XqReferenceIdeal.nD Cert.XqReferenceIdeal.τ).loc Cert.XqReferenceIdeal.main_arg1) = m' ((c.tc : Thread Cert.XqReferenceIdeal.nD Cert.XqReferenceIdeal.τ).loc Cert.XqReferenceIdeal.main_arg1))

def preserves_Xo_XoIdeal : Prop :=
  True

def algebraic_XoIdeal_XoReferenceIdeal [hXoIdeal : Cert.XoIdeal.Facts] [hXoReferenceIdeal : Cert.XoReferenceIdeal.Facts] : Prop :=
  ∀ (m : (ℓ : Loc Cert.XoIdeal.nD Cert.XoIdeal.τ Cert.XoIdeal.sig) → Buf (Elt Ideal) ℓ) (g : Dev Cert.XoIdeal.nD → PrngReg)
    (m' : (ℓ : Loc Cert.XoReferenceIdeal.nD Cert.XoReferenceIdeal.τ Cert.XoReferenceIdeal.sig) → Buf (Elt Ideal) ℓ) (g' : Dev Cert.XoReferenceIdeal.nD → PrngReg), Pre_XoIdeal m →
    (∀ c : Dev Cert.XoIdeal.nD,
      m' ((c.tc : Thread Cert.XoReferenceIdeal.nD Cert.XoReferenceIdeal.τ).loc Cert.XoReferenceIdeal.main_arg0) = m ((c.tc : Thread Cert.XoIdeal.nD Cert.XoIdeal.τ).loc Cert.XoIdeal.main_arg0)
      ∧ m' ((c.tc : Thread Cert.XoReferenceIdeal.nD Cert.XoReferenceIdeal.τ).loc Cert.XoReferenceIdeal.main_arg1) = m ((c.tc : Thread Cert.XoIdeal.nD Cert.XoIdeal.τ).loc Cert.XoIdeal.main_arg1)) →
    ∃ (v0 : (c : Dev Cert.XoIdeal.nD) → Buf (Elt Ideal) ((c.tc : Thread Cert.XoIdeal.nD Cert.XoIdeal.τ).loc Cert.XoIdeal.main_v0)),
      θ_run (Cert.XoIdeal.defs (F := Ideal)) (onTc (τ := Cert.XoIdeal.τ) (Cert.XoIdeal.main (F := Ideal))) ⟨m, fun _ => 0, g⟩ (fun r => ∀ c : Dev Cert.XoIdeal.nD,
          r.2.mem ((c.tc : Thread Cert.XoIdeal.nD Cert.XoIdeal.τ).loc Cert.XoIdeal.main_v0) = v0 c
          ∧ r.2.mem ((c.tc : Thread Cert.XoIdeal.nD Cert.XoIdeal.τ).loc Cert.XoIdeal.main_arg0) = m ((c.tc : Thread Cert.XoIdeal.nD Cert.XoIdeal.τ).loc Cert.XoIdeal.main_arg0)
          ∧ r.2.mem ((c.tc : Thread Cert.XoIdeal.nD Cert.XoIdeal.τ).loc Cert.XoIdeal.main_arg1) = m ((c.tc : Thread Cert.XoIdeal.nD Cert.XoIdeal.τ).loc Cert.XoIdeal.main_arg1))
      ∧ θ_run (Cert.XoReferenceIdeal.defs (F := Ideal)) (onTc (τ := Cert.XoReferenceIdeal.τ) (Cert.XoReferenceIdeal.main (F := Ideal))) ⟨m', fun _ => 0, g'⟩ (fun r => ∀ c : Dev Cert.XoReferenceIdeal.nD,
          r.2.mem ((c.tc : Thread Cert.XoReferenceIdeal.nD Cert.XoReferenceIdeal.τ).loc Cert.XoReferenceIdeal.main_v2) = v0 c
          ∧ r.2.mem ((c.tc : Thread Cert.XoReferenceIdeal.nD Cert.XoReferenceIdeal.τ).loc Cert.XoReferenceIdeal.main_arg0) = m' ((c.tc : Thread Cert.XoReferenceIdeal.nD Cert.XoReferenceIdeal.τ).loc Cert.XoReferenceIdeal.main_arg0)
          ∧ r.2.mem ((c.tc : Thread Cert.XoReferenceIdeal.nD Cert.XoReferenceIdeal.τ).loc Cert.XoReferenceIdeal.main_arg1) = m' ((c.tc : Thread Cert.XoReferenceIdeal.nD Cert.XoReferenceIdeal.τ).loc Cert.XoReferenceIdeal.main_arg1))

def preserves_MemDw_MemDwIdeal : Prop :=
  True

def algebraic_MemDwIdeal_MemDwReferenceIdeal [hMemDwIdeal : Cert.MemDwIdeal.Facts] [hMemDwReferenceIdeal : Cert.MemDwReferenceIdeal.Facts] : Prop :=
  ∀ (m : (ℓ : Loc Cert.MemDwIdeal.nD Cert.MemDwIdeal.τ Cert.MemDwIdeal.sig) → Buf (Elt Ideal) ℓ) (g : Dev Cert.MemDwIdeal.nD → PrngReg)
    (m' : (ℓ : Loc Cert.MemDwReferenceIdeal.nD Cert.MemDwReferenceIdeal.τ Cert.MemDwReferenceIdeal.sig) → Buf (Elt Ideal) ℓ) (g' : Dev Cert.MemDwReferenceIdeal.nD → PrngReg), Pre_MemDwIdeal m →
    (∀ c : Dev Cert.MemDwIdeal.nD,
      m' ((c.tc : Thread Cert.MemDwReferenceIdeal.nD Cert.MemDwReferenceIdeal.τ).loc Cert.MemDwReferenceIdeal.main_arg0) = m ((c.tc : Thread Cert.MemDwIdeal.nD Cert.MemDwIdeal.τ).loc Cert.MemDwIdeal.main_arg0)
      ∧ m' ((c.tc : Thread Cert.MemDwReferenceIdeal.nD Cert.MemDwReferenceIdeal.τ).loc Cert.MemDwReferenceIdeal.main_arg1) = m ((c.tc : Thread Cert.MemDwIdeal.nD Cert.MemDwIdeal.τ).loc Cert.MemDwIdeal.main_arg1)) →
    ∃ (v0 : (c : Dev Cert.MemDwIdeal.nD) → Buf (Elt Ideal) ((c.tc : Thread Cert.MemDwIdeal.nD Cert.MemDwIdeal.τ).loc Cert.MemDwIdeal.main_v0)),
      θ_run (Cert.MemDwIdeal.defs (F := Ideal)) (onTc (τ := Cert.MemDwIdeal.τ) (Cert.MemDwIdeal.main (F := Ideal))) ⟨m, fun _ => 0, g⟩ (fun r => ∀ c : Dev Cert.MemDwIdeal.nD,
          r.2.mem ((c.tc : Thread Cert.MemDwIdeal.nD Cert.MemDwIdeal.τ).loc Cert.MemDwIdeal.main_v0) = v0 c
          ∧ r.2.mem ((c.tc : Thread Cert.MemDwIdeal.nD Cert.MemDwIdeal.τ).loc Cert.MemDwIdeal.main_arg0) = m ((c.tc : Thread Cert.MemDwIdeal.nD Cert.MemDwIdeal.τ).loc Cert.MemDwIdeal.main_arg0)
          ∧ r.2.mem ((c.tc : Thread Cert.MemDwIdeal.nD Cert.MemDwIdeal.τ).loc Cert.MemDwIdeal.main_arg1) = m ((c.tc : Thread Cert.MemDwIdeal.nD Cert.MemDwIdeal.τ).loc Cert.MemDwIdeal.main_arg1))
      ∧ θ_run (Cert.MemDwReferenceIdeal.defs (F := Ideal)) (onTc (τ := Cert.MemDwReferenceIdeal.τ) (Cert.MemDwReferenceIdeal.main (F := Ideal))) ⟨m', fun _ => 0, g'⟩ (fun r => ∀ c : Dev Cert.MemDwReferenceIdeal.nD,
          r.2.mem ((c.tc : Thread Cert.MemDwReferenceIdeal.nD Cert.MemDwReferenceIdeal.τ).loc Cert.MemDwReferenceIdeal.main_v6) = v0 c
          ∧ r.2.mem ((c.tc : Thread Cert.MemDwReferenceIdeal.nD Cert.MemDwReferenceIdeal.τ).loc Cert.MemDwReferenceIdeal.main_arg0) = m' ((c.tc : Thread Cert.MemDwReferenceIdeal.nD Cert.MemDwReferenceIdeal.τ).loc Cert.MemDwReferenceIdeal.main_arg0)
          ∧ r.2.mem ((c.tc : Thread Cert.MemDwReferenceIdeal.nD Cert.MemDwReferenceIdeal.τ).loc Cert.MemDwReferenceIdeal.main_arg1) = m' ((c.tc : Thread Cert.MemDwReferenceIdeal.nD Cert.MemDwReferenceIdeal.τ).loc Cert.MemDwReferenceIdeal.main_arg1))

def preserves_MemDx_MemDxIdeal : Prop :=
  True

def algebraic_MemDxIdeal_MemDxReferenceIdeal [hMemDxIdeal : Cert.MemDxIdeal.Facts] [hMemDxReferenceIdeal : Cert.MemDxReferenceIdeal.Facts] : Prop :=
  ∀ (m : (ℓ : Loc Cert.MemDxIdeal.nD Cert.MemDxIdeal.τ Cert.MemDxIdeal.sig) → Buf (Elt Ideal) ℓ) (g : Dev Cert.MemDxIdeal.nD → PrngReg)
    (m' : (ℓ : Loc Cert.MemDxReferenceIdeal.nD Cert.MemDxReferenceIdeal.τ Cert.MemDxReferenceIdeal.sig) → Buf (Elt Ideal) ℓ) (g' : Dev Cert.MemDxReferenceIdeal.nD → PrngReg), Pre_MemDxIdeal m →
    (∀ c : Dev Cert.MemDxIdeal.nD,
      m' ((c.tc : Thread Cert.MemDxReferenceIdeal.nD Cert.MemDxReferenceIdeal.τ).loc Cert.MemDxReferenceIdeal.main_arg0) = m ((c.tc : Thread Cert.MemDxIdeal.nD Cert.MemDxIdeal.τ).loc Cert.MemDxIdeal.main_arg0)
      ∧ m' ((c.tc : Thread Cert.MemDxReferenceIdeal.nD Cert.MemDxReferenceIdeal.τ).loc Cert.MemDxReferenceIdeal.main_arg1) = m ((c.tc : Thread Cert.MemDxIdeal.nD Cert.MemDxIdeal.τ).loc Cert.MemDxIdeal.main_arg1)) →
    ∃ (v0 : (c : Dev Cert.MemDxIdeal.nD) → Buf (Elt Ideal) ((c.tc : Thread Cert.MemDxIdeal.nD Cert.MemDxIdeal.τ).loc Cert.MemDxIdeal.main_v0)),
      θ_run (Cert.MemDxIdeal.defs (F := Ideal)) (onTc (τ := Cert.MemDxIdeal.τ) (Cert.MemDxIdeal.main (F := Ideal))) ⟨m, fun _ => 0, g⟩ (fun r => ∀ c : Dev Cert.MemDxIdeal.nD,
          r.2.mem ((c.tc : Thread Cert.MemDxIdeal.nD Cert.MemDxIdeal.τ).loc Cert.MemDxIdeal.main_v0) = v0 c
          ∧ r.2.mem ((c.tc : Thread Cert.MemDxIdeal.nD Cert.MemDxIdeal.τ).loc Cert.MemDxIdeal.main_arg0) = m ((c.tc : Thread Cert.MemDxIdeal.nD Cert.MemDxIdeal.τ).loc Cert.MemDxIdeal.main_arg0)
          ∧ r.2.mem ((c.tc : Thread Cert.MemDxIdeal.nD Cert.MemDxIdeal.τ).loc Cert.MemDxIdeal.main_arg1) = m ((c.tc : Thread Cert.MemDxIdeal.nD Cert.MemDxIdeal.τ).loc Cert.MemDxIdeal.main_arg1))
      ∧ θ_run (Cert.MemDxReferenceIdeal.defs (F := Ideal)) (onTc (τ := Cert.MemDxReferenceIdeal.τ) (Cert.MemDxReferenceIdeal.main (F := Ideal))) ⟨m', fun _ => 0, g'⟩ (fun r => ∀ c : Dev Cert.MemDxReferenceIdeal.nD,
          r.2.mem ((c.tc : Thread Cert.MemDxReferenceIdeal.nD Cert.MemDxReferenceIdeal.τ).loc Cert.MemDxReferenceIdeal.main_v4) = v0 c
          ∧ r.2.mem ((c.tc : Thread Cert.MemDxReferenceIdeal.nD Cert.MemDxReferenceIdeal.τ).loc Cert.MemDxReferenceIdeal.main_arg0) = m' ((c.tc : Thread Cert.MemDxReferenceIdeal.nD Cert.MemDxReferenceIdeal.τ).loc Cert.MemDxReferenceIdeal.main_arg0)
          ∧ r.2.mem ((c.tc : Thread Cert.MemDxReferenceIdeal.nD Cert.MemDxReferenceIdeal.τ).loc Cert.MemDxReferenceIdeal.main_arg1) = m' ((c.tc : Thread Cert.MemDxReferenceIdeal.nD Cert.MemDxReferenceIdeal.τ).loc Cert.MemDxReferenceIdeal.main_arg1))

def preserves_Mem_MemIdeal : Prop :=
  True

def algebraic_MemIdeal_MemReferenceIdeal [hMemIdeal : Cert.MemIdeal.Facts] [hMemReferenceIdeal : Cert.MemReferenceIdeal.Facts] : Prop :=
  ∀ (m : (ℓ : Loc Cert.MemIdeal.nD Cert.MemIdeal.τ Cert.MemIdeal.sig) → Buf (Elt Ideal) ℓ) (g : Dev Cert.MemIdeal.nD → PrngReg)
    (m' : (ℓ : Loc Cert.MemReferenceIdeal.nD Cert.MemReferenceIdeal.τ Cert.MemReferenceIdeal.sig) → Buf (Elt Ideal) ℓ) (g' : Dev Cert.MemReferenceIdeal.nD → PrngReg), Pre_MemIdeal m →
    (∀ c : Dev Cert.MemIdeal.nD,
      m' ((c.tc : Thread Cert.MemReferenceIdeal.nD Cert.MemReferenceIdeal.τ).loc Cert.MemReferenceIdeal.main_arg0) = m ((c.tc : Thread Cert.MemIdeal.nD Cert.MemIdeal.τ).loc Cert.MemIdeal.main_arg0)
      ∧ m' ((c.tc : Thread Cert.MemReferenceIdeal.nD Cert.MemReferenceIdeal.τ).loc Cert.MemReferenceIdeal.main_arg1) = m ((c.tc : Thread Cert.MemIdeal.nD Cert.MemIdeal.τ).loc Cert.MemIdeal.main_arg1)) →
    ∃ (v0 : (c : Dev Cert.MemIdeal.nD) → Buf (Elt Ideal) ((c.tc : Thread Cert.MemIdeal.nD Cert.MemIdeal.τ).loc Cert.MemIdeal.main_v0)),
      θ_run (Cert.MemIdeal.defs (F := Ideal)) (onTc (τ := Cert.MemIdeal.τ) (Cert.MemIdeal.main (F := Ideal))) ⟨m, fun _ => 0, g⟩ (fun r => ∀ c : Dev Cert.MemIdeal.nD,
          r.2.mem ((c.tc : Thread Cert.MemIdeal.nD Cert.MemIdeal.τ).loc Cert.MemIdeal.main_v0) = v0 c
          ∧ r.2.mem ((c.tc : Thread Cert.MemIdeal.nD Cert.MemIdeal.τ).loc Cert.MemIdeal.main_arg0) = m ((c.tc : Thread Cert.MemIdeal.nD Cert.MemIdeal.τ).loc Cert.MemIdeal.main_arg0)
          ∧ r.2.mem ((c.tc : Thread Cert.MemIdeal.nD Cert.MemIdeal.τ).loc Cert.MemIdeal.main_arg1) = m ((c.tc : Thread Cert.MemIdeal.nD Cert.MemIdeal.τ).loc Cert.MemIdeal.main_arg1))
      ∧ θ_run (Cert.MemReferenceIdeal.defs (F := Ideal)) (onTc (τ := Cert.MemReferenceIdeal.τ) (Cert.MemReferenceIdeal.main (F := Ideal))) ⟨m', fun _ => 0, g'⟩ (fun r => ∀ c : Dev Cert.MemReferenceIdeal.nD,
          r.2.mem ((c.tc : Thread Cert.MemReferenceIdeal.nD Cert.MemReferenceIdeal.τ).loc Cert.MemReferenceIdeal.main_v3) = v0 c
          ∧ r.2.mem ((c.tc : Thread Cert.MemReferenceIdeal.nD Cert.MemReferenceIdeal.τ).loc Cert.MemReferenceIdeal.main_arg0) = m' ((c.tc : Thread Cert.MemReferenceIdeal.nD Cert.MemReferenceIdeal.τ).loc Cert.MemReferenceIdeal.main_arg0)
          ∧ r.2.mem ((c.tc : Thread Cert.MemReferenceIdeal.nD Cert.MemReferenceIdeal.τ).loc Cert.MemReferenceIdeal.main_arg1) = m' ((c.tc : Thread Cert.MemReferenceIdeal.nD Cert.MemReferenceIdeal.τ).loc Cert.MemReferenceIdeal.main_arg1))

def preserves_PoolDx_PoolDxIdeal : Prop :=
  True

def algebraic_PoolDxIdeal_PoolDxReferenceIdeal [hPoolDxIdeal : Cert.PoolDxIdeal.Facts] [hPoolDxReferenceIdeal : Cert.PoolDxReferenceIdeal.Facts] : Prop :=
  ∀ (m : (ℓ : Loc Cert.PoolDxIdeal.nD Cert.PoolDxIdeal.τ Cert.PoolDxIdeal.sig) → Buf (Elt Ideal) ℓ) (g : Dev Cert.PoolDxIdeal.nD → PrngReg)
    (m' : (ℓ : Loc Cert.PoolDxReferenceIdeal.nD Cert.PoolDxReferenceIdeal.τ Cert.PoolDxReferenceIdeal.sig) → Buf (Elt Ideal) ℓ) (g' : Dev Cert.PoolDxReferenceIdeal.nD → PrngReg), Pre_PoolDxIdeal m →
    (∀ c : Dev Cert.PoolDxIdeal.nD,
      m' ((c.tc : Thread Cert.PoolDxReferenceIdeal.nD Cert.PoolDxReferenceIdeal.τ).loc Cert.PoolDxReferenceIdeal.main_arg0) = m ((c.tc : Thread Cert.PoolDxIdeal.nD Cert.PoolDxIdeal.τ).loc Cert.PoolDxIdeal.main_arg0)
      ∧ m' ((c.tc : Thread Cert.PoolDxReferenceIdeal.nD Cert.PoolDxReferenceIdeal.τ).loc Cert.PoolDxReferenceIdeal.main_arg1) = m ((c.tc : Thread Cert.PoolDxIdeal.nD Cert.PoolDxIdeal.τ).loc Cert.PoolDxIdeal.main_arg1)
      ∧ m' ((c.tc : Thread Cert.PoolDxReferenceIdeal.nD Cert.PoolDxReferenceIdeal.τ).loc Cert.PoolDxReferenceIdeal.main_arg2) = m ((c.tc : Thread Cert.PoolDxIdeal.nD Cert.PoolDxIdeal.τ).loc Cert.PoolDxIdeal.main_arg2)
      ∧ m' ((c.tc : Thread Cert.PoolDxReferenceIdeal.nD Cert.PoolDxReferenceIdeal.τ).loc Cert.PoolDxReferenceIdeal.main_arg3) = m ((c.tc : Thread Cert.PoolDxIdeal.nD Cert.PoolDxIdeal.τ).loc Cert.PoolDxIdeal.main_arg3)) →
    ∃ (v0 : (c : Dev Cert.PoolDxIdeal.nD) → Buf (Elt Ideal) ((c.tc : Thread Cert.PoolDxIdeal.nD Cert.PoolDxIdeal.τ).loc Cert.PoolDxIdeal.main_v0_0)) (v1 : (c : Dev Cert.PoolDxIdeal.nD) → Buf (Elt Ideal) ((c.tc : Thread Cert.PoolDxIdeal.nD Cert.PoolDxIdeal.τ).loc Cert.PoolDxIdeal.main_v0_1)) (v2 : (c : Dev Cert.PoolDxIdeal.nD) → Buf (Elt Ideal) ((c.tc : Thread Cert.PoolDxIdeal.nD Cert.PoolDxIdeal.τ).loc Cert.PoolDxIdeal.main_v0_2)),
      θ_run (Cert.PoolDxIdeal.defs (F := Ideal)) (onTc (τ := Cert.PoolDxIdeal.τ) (Cert.PoolDxIdeal.main (F := Ideal))) ⟨m, fun _ => 0, g⟩ (fun r => ∀ c : Dev Cert.PoolDxIdeal.nD,
          r.2.mem ((c.tc : Thread Cert.PoolDxIdeal.nD Cert.PoolDxIdeal.τ).loc Cert.PoolDxIdeal.main_v0_0) = v0 c
          ∧ r.2.mem ((c.tc : Thread Cert.PoolDxIdeal.nD Cert.PoolDxIdeal.τ).loc Cert.PoolDxIdeal.main_v0_1) = v1 c
          ∧ r.2.mem ((c.tc : Thread Cert.PoolDxIdeal.nD Cert.PoolDxIdeal.τ).loc Cert.PoolDxIdeal.main_v0_2) = v2 c
          ∧ r.2.mem ((c.tc : Thread Cert.PoolDxIdeal.nD Cert.PoolDxIdeal.τ).loc Cert.PoolDxIdeal.main_arg0) = m ((c.tc : Thread Cert.PoolDxIdeal.nD Cert.PoolDxIdeal.τ).loc Cert.PoolDxIdeal.main_arg0)
          ∧ r.2.mem ((c.tc : Thread Cert.PoolDxIdeal.nD Cert.PoolDxIdeal.τ).loc Cert.PoolDxIdeal.main_arg1) = m ((c.tc : Thread Cert.PoolDxIdeal.nD Cert.PoolDxIdeal.τ).loc Cert.PoolDxIdeal.main_arg1)
          ∧ r.2.mem ((c.tc : Thread Cert.PoolDxIdeal.nD Cert.PoolDxIdeal.τ).loc Cert.PoolDxIdeal.main_arg2) = m ((c.tc : Thread Cert.PoolDxIdeal.nD Cert.PoolDxIdeal.τ).loc Cert.PoolDxIdeal.main_arg2)
          ∧ r.2.mem ((c.tc : Thread Cert.PoolDxIdeal.nD Cert.PoolDxIdeal.τ).loc Cert.PoolDxIdeal.main_arg3) = m ((c.tc : Thread Cert.PoolDxIdeal.nD Cert.PoolDxIdeal.τ).loc Cert.PoolDxIdeal.main_arg3))
      ∧ θ_run (Cert.PoolDxReferenceIdeal.defs (F := Ideal)) (onTc (τ := Cert.PoolDxReferenceIdeal.τ) (Cert.PoolDxReferenceIdeal.main (F := Ideal))) ⟨m', fun _ => 0, g'⟩ (fun r => ∀ c : Dev Cert.PoolDxReferenceIdeal.nD,
          r.2.mem ((c.tc : Thread Cert.PoolDxReferenceIdeal.nD Cert.PoolDxReferenceIdeal.τ).loc Cert.PoolDxReferenceIdeal.main_v17) = v0 c
          ∧ r.2.mem ((c.tc : Thread Cert.PoolDxReferenceIdeal.nD Cert.PoolDxReferenceIdeal.τ).loc Cert.PoolDxReferenceIdeal.main_v18) = v1 c
          ∧ r.2.mem ((c.tc : Thread Cert.PoolDxReferenceIdeal.nD Cert.PoolDxReferenceIdeal.τ).loc Cert.PoolDxReferenceIdeal.main_v10) = v2 c
          ∧ r.2.mem ((c.tc : Thread Cert.PoolDxReferenceIdeal.nD Cert.PoolDxReferenceIdeal.τ).loc Cert.PoolDxReferenceIdeal.main_arg0) = m' ((c.tc : Thread Cert.PoolDxReferenceIdeal.nD Cert.PoolDxReferenceIdeal.τ).loc Cert.PoolDxReferenceIdeal.main_arg0)
          ∧ r.2.mem ((c.tc : Thread Cert.PoolDxReferenceIdeal.nD Cert.PoolDxReferenceIdeal.τ).loc Cert.PoolDxReferenceIdeal.main_arg1) = m' ((c.tc : Thread Cert.PoolDxReferenceIdeal.nD Cert.PoolDxReferenceIdeal.τ).loc Cert.PoolDxReferenceIdeal.main_arg1)
          ∧ r.2.mem ((c.tc : Thread Cert.PoolDxReferenceIdeal.nD Cert.PoolDxReferenceIdeal.τ).loc Cert.PoolDxReferenceIdeal.main_arg2) = m' ((c.tc : Thread Cert.PoolDxReferenceIdeal.nD Cert.PoolDxReferenceIdeal.τ).loc Cert.PoolDxReferenceIdeal.main_arg2)
          ∧ r.2.mem ((c.tc : Thread Cert.PoolDxReferenceIdeal.nD Cert.PoolDxReferenceIdeal.τ).loc Cert.PoolDxReferenceIdeal.main_arg3) = m' ((c.tc : Thread Cert.PoolDxReferenceIdeal.nD Cert.PoolDxReferenceIdeal.τ).loc Cert.PoolDxReferenceIdeal.main_arg3))

def preserves_PoolDw_PoolDwIdeal : Prop :=
  True

def algebraic_PoolDwIdeal_PoolDwReferenceIdeal [hPoolDwIdeal : Cert.PoolDwIdeal.Facts] [hPoolDwReferenceIdeal : Cert.PoolDwReferenceIdeal.Facts] : Prop :=
  ∀ (m : (ℓ : Loc Cert.PoolDwIdeal.nD Cert.PoolDwIdeal.τ Cert.PoolDwIdeal.sig) → Buf (Elt Ideal) ℓ) (g : Dev Cert.PoolDwIdeal.nD → PrngReg)
    (m' : (ℓ : Loc Cert.PoolDwReferenceIdeal.nD Cert.PoolDwReferenceIdeal.τ Cert.PoolDwReferenceIdeal.sig) → Buf (Elt Ideal) ℓ) (g' : Dev Cert.PoolDwReferenceIdeal.nD → PrngReg), Pre_PoolDwIdeal m →
    (∀ c : Dev Cert.PoolDwIdeal.nD,
      m' ((c.tc : Thread Cert.PoolDwReferenceIdeal.nD Cert.PoolDwReferenceIdeal.τ).loc Cert.PoolDwReferenceIdeal.main_arg0) = m ((c.tc : Thread Cert.PoolDwIdeal.nD Cert.PoolDwIdeal.τ).loc Cert.PoolDwIdeal.main_arg0)
      ∧ m' ((c.tc : Thread Cert.PoolDwReferenceIdeal.nD Cert.PoolDwReferenceIdeal.τ).loc Cert.PoolDwReferenceIdeal.main_arg1) = m ((c.tc : Thread Cert.PoolDwIdeal.nD Cert.PoolDwIdeal.τ).loc Cert.PoolDwIdeal.main_arg1)) →
    ∃ (v0 : (c : Dev Cert.PoolDwIdeal.nD) → Buf (Elt Ideal) ((c.tc : Thread Cert.PoolDwIdeal.nD Cert.PoolDwIdeal.τ).loc Cert.PoolDwIdeal.main_v0)),
      θ_run (Cert.PoolDwIdeal.defs (F := Ideal)) (onTc (τ := Cert.PoolDwIdeal.τ) (Cert.PoolDwIdeal.main (F := Ideal))) ⟨m, fun _ => 0, g⟩ (fun r => ∀ c : Dev Cert.PoolDwIdeal.nD,
          r.2.mem ((c.tc : Thread Cert.PoolDwIdeal.nD Cert.PoolDwIdeal.τ).loc Cert.PoolDwIdeal.main_v0) = v0 c
          ∧ r.2.mem ((c.tc : Thread Cert.PoolDwIdeal.nD Cert.PoolDwIdeal.τ).loc Cert.PoolDwIdeal.main_arg0) = m ((c.tc : Thread Cert.PoolDwIdeal.nD Cert.PoolDwIdeal.τ).loc Cert.PoolDwIdeal.main_arg0)
          ∧ r.2.mem ((c.tc : Thread Cert.PoolDwIdeal.nD Cert.PoolDwIdeal.τ).loc Cert.PoolDwIdeal.main_arg1) = m ((c.tc : Thread Cert.PoolDwIdeal.nD Cert.PoolDwIdeal.τ).loc Cert.PoolDwIdeal.main_arg1))
      ∧ θ_run (Cert.PoolDwReferenceIdeal.defs (F := Ideal)) (onTc (τ := Cert.PoolDwReferenceIdeal.τ) (Cert.PoolDwReferenceIdeal.main (F := Ideal))) ⟨m', fun _ => 0, g'⟩ (fun r => ∀ c : Dev Cert.PoolDwReferenceIdeal.nD,
          r.2.mem ((c.tc : Thread Cert.PoolDwReferenceIdeal.nD Cert.PoolDwReferenceIdeal.τ).loc Cert.PoolDwReferenceIdeal.main_v10) = v0 c
          ∧ r.2.mem ((c.tc : Thread Cert.PoolDwReferenceIdeal.nD Cert.PoolDwReferenceIdeal.τ).loc Cert.PoolDwReferenceIdeal.main_arg0) = m' ((c.tc : Thread Cert.PoolDwReferenceIdeal.nD Cert.PoolDwReferenceIdeal.τ).loc Cert.PoolDwReferenceIdeal.main_arg0)
          ∧ r.2.mem ((c.tc : Thread Cert.PoolDwReferenceIdeal.nD Cert.PoolDwReferenceIdeal.τ).loc Cert.PoolDwReferenceIdeal.main_arg1) = m' ((c.tc : Thread Cert.PoolDwReferenceIdeal.nD Cert.PoolDwReferenceIdeal.τ).loc Cert.PoolDwReferenceIdeal.main_arg1))

def preserves_Xattn_XattnIdeal : Prop :=
  True

def algebraic_XattnIdeal_XattnReferenceIdeal_pre_finite_rows [hXattnIdeal : Cert.XattnIdeal.Facts] [hXattnReferenceIdeal : Cert.XattnReferenceIdeal.Facts] [hPre_finite_rows : Cert.Pre_finite_rows.Facts] : Prop :=
  ∀ (m : (ℓ : Loc Cert.XattnIdeal.nD Cert.XattnIdeal.τ Cert.XattnIdeal.sig) → Buf (Elt Ideal) ℓ) (g : Dev Cert.XattnIdeal.nD → PrngReg)
    (m' : (ℓ : Loc Cert.XattnReferenceIdeal.nD Cert.XattnReferenceIdeal.τ Cert.XattnReferenceIdeal.sig) → Buf (Elt Ideal) ℓ) (g' : Dev Cert.XattnReferenceIdeal.nD → PrngReg), Pre_XattnIdeal_finite_rows m →
    (∀ c : Dev Cert.XattnIdeal.nD,
      m' ((c.tc : Thread Cert.XattnReferenceIdeal.nD Cert.XattnReferenceIdeal.τ).loc Cert.XattnReferenceIdeal.main_arg0) = m ((c.tc : Thread Cert.XattnIdeal.nD Cert.XattnIdeal.τ).loc Cert.XattnIdeal.main_arg0)
      ∧ m' ((c.tc : Thread Cert.XattnReferenceIdeal.nD Cert.XattnReferenceIdeal.τ).loc Cert.XattnReferenceIdeal.main_arg1) = m ((c.tc : Thread Cert.XattnIdeal.nD Cert.XattnIdeal.τ).loc Cert.XattnIdeal.main_arg1)
      ∧ m' ((c.tc : Thread Cert.XattnReferenceIdeal.nD Cert.XattnReferenceIdeal.τ).loc Cert.XattnReferenceIdeal.main_arg2) = m ((c.tc : Thread Cert.XattnIdeal.nD Cert.XattnIdeal.τ).loc Cert.XattnIdeal.main_arg2)) →
    ∃ (v0 : (c : Dev Cert.XattnIdeal.nD) → Buf (Elt Ideal) ((c.tc : Thread Cert.XattnIdeal.nD Cert.XattnIdeal.τ).loc Cert.XattnIdeal.main_v0)),
      θ_run (Cert.XattnIdeal.defs (F := Ideal)) (onTc (τ := Cert.XattnIdeal.τ) (Cert.XattnIdeal.main (F := Ideal))) ⟨m, fun _ => 0, g⟩ (fun r => ∀ c : Dev Cert.XattnIdeal.nD,
          r.2.mem ((c.tc : Thread Cert.XattnIdeal.nD Cert.XattnIdeal.τ).loc Cert.XattnIdeal.main_v0) = v0 c
          ∧ r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
          ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
          ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2))
      ∧ θ_run (Cert.XattnReferenceIdeal.defs (F := Ideal)) (onTc (τ := Cert.XattnReferenceIdeal.τ) (Cert.XattnReferenceIdeal.main (F := Ideal))) ⟨m', fun _ => 0, g'⟩ (fun r => ∀ c : Dev Cert.XattnReferenceIdeal.nD,
          r.2.mem ((c.tc : Thread Cert.XattnReferenceIdeal.nD Cert.XattnReferenceIdeal.τ).loc Cert.XattnReferenceIdeal.main_v23) = v0 c
          ∧ r.2.mem ((c.tc : Thread Cert.XattnReferenceIdeal.nD Cert.XattnReferenceIdeal.τ).loc Cert.XattnReferenceIdeal.main_arg0) = m' ((c.tc : Thread Cert.XattnReferenceIdeal.nD Cert.XattnReferenceIdeal.τ).loc Cert.XattnReferenceIdeal.main_arg0)
          ∧ r.2.mem ((c.tc : Thread Cert.XattnReferenceIdeal.nD Cert.XattnReferenceIdeal.τ).loc Cert.XattnReferenceIdeal.main_arg1) = m' ((c.tc : Thread Cert.XattnReferenceIdeal.nD Cert.XattnReferenceIdeal.τ).loc Cert.XattnReferenceIdeal.main_arg1)
          ∧ r.2.mem ((c.tc : Thread Cert.XattnReferenceIdeal.nD Cert.XattnReferenceIdeal.τ).loc Cert.XattnReferenceIdeal.main_arg2) = m' ((c.tc : Thread Cert.XattnReferenceIdeal.nD Cert.XattnReferenceIdeal.τ).loc Cert.XattnReferenceIdeal.main_arg2))

def preserves_NormDx_NormDxIdeal : Prop :=
  True

def algebraic_NormDxIdeal_NormDxReferenceIdeal [hNormDxIdeal : Cert.NormDxIdeal.Facts] [hNormDxReferenceIdeal : Cert.NormDxReferenceIdeal.Facts] : Prop :=
  ∀ (m : (ℓ : Loc Cert.NormDxIdeal.nD Cert.NormDxIdeal.τ Cert.NormDxIdeal.sig) → Buf (Elt Ideal) ℓ) (g : Dev Cert.NormDxIdeal.nD → PrngReg)
    (m' : (ℓ : Loc Cert.NormDxReferenceIdeal.nD Cert.NormDxReferenceIdeal.τ Cert.NormDxReferenceIdeal.sig) → Buf (Elt Ideal) ℓ) (g' : Dev Cert.NormDxReferenceIdeal.nD → PrngReg), Pre_NormDxIdeal m →
    (∀ c : Dev Cert.NormDxIdeal.nD,
      m' ((c.tc : Thread Cert.NormDxReferenceIdeal.nD Cert.NormDxReferenceIdeal.τ).loc Cert.NormDxReferenceIdeal.main_arg0) = m ((c.tc : Thread Cert.NormDxIdeal.nD Cert.NormDxIdeal.τ).loc Cert.NormDxIdeal.main_arg0)
      ∧ m' ((c.tc : Thread Cert.NormDxReferenceIdeal.nD Cert.NormDxReferenceIdeal.τ).loc Cert.NormDxReferenceIdeal.main_arg1) = m ((c.tc : Thread Cert.NormDxIdeal.nD Cert.NormDxIdeal.τ).loc Cert.NormDxIdeal.main_arg1)
      ∧ m' ((c.tc : Thread Cert.NormDxReferenceIdeal.nD Cert.NormDxReferenceIdeal.τ).loc Cert.NormDxReferenceIdeal.main_arg2) = m ((c.tc : Thread Cert.NormDxIdeal.nD Cert.NormDxIdeal.τ).loc Cert.NormDxIdeal.main_arg2)
      ∧ m' ((c.tc : Thread Cert.NormDxReferenceIdeal.nD Cert.NormDxReferenceIdeal.τ).loc Cert.NormDxReferenceIdeal.main_arg3) = m ((c.tc : Thread Cert.NormDxIdeal.nD Cert.NormDxIdeal.τ).loc Cert.NormDxIdeal.main_arg3)
      ∧ m' ((c.tc : Thread Cert.NormDxReferenceIdeal.nD Cert.NormDxReferenceIdeal.τ).loc Cert.NormDxReferenceIdeal.main_arg4) = m ((c.tc : Thread Cert.NormDxIdeal.nD Cert.NormDxIdeal.τ).loc Cert.NormDxIdeal.main_arg4)
      ∧ m' ((c.tc : Thread Cert.NormDxReferenceIdeal.nD Cert.NormDxReferenceIdeal.τ).loc Cert.NormDxReferenceIdeal.main_arg5) = m ((c.tc : Thread Cert.NormDxIdeal.nD Cert.NormDxIdeal.τ).loc Cert.NormDxIdeal.main_arg5)) →
    ∃ (v0 : (c : Dev Cert.NormDxIdeal.nD) → Buf (Elt Ideal) ((c.tc : Thread Cert.NormDxIdeal.nD Cert.NormDxIdeal.τ).loc Cert.NormDxIdeal.main_v0_0)) (v1 : (c : Dev Cert.NormDxIdeal.nD) → Buf (Elt Ideal) ((c.tc : Thread Cert.NormDxIdeal.nD Cert.NormDxIdeal.τ).loc Cert.NormDxIdeal.main_v0_1)) (v2 : (c : Dev Cert.NormDxIdeal.nD) → Buf (Elt Ideal) ((c.tc : Thread Cert.NormDxIdeal.nD Cert.NormDxIdeal.τ).loc Cert.NormDxIdeal.main_v0_2)) (v3 : (c : Dev Cert.NormDxIdeal.nD) → Buf (Elt Ideal) ((c.tc : Thread Cert.NormDxIdeal.nD Cert.NormDxIdeal.τ).loc Cert.NormDxIdeal.main_v0_3)),
      θ_run (Cert.NormDxIdeal.defs (F := Ideal)) (onTc (τ := Cert.NormDxIdeal.τ) (Cert.NormDxIdeal.main (F := Ideal))) ⟨m, fun _ => 0, g⟩ (fun r => ∀ c : Dev Cert.NormDxIdeal.nD,
          r.2.mem ((c.tc : Thread Cert.NormDxIdeal.nD Cert.NormDxIdeal.τ).loc Cert.NormDxIdeal.main_v0_0) = v0 c
          ∧ r.2.mem ((c.tc : Thread Cert.NormDxIdeal.nD Cert.NormDxIdeal.τ).loc Cert.NormDxIdeal.main_v0_1) = v1 c
          ∧ r.2.mem ((c.tc : Thread Cert.NormDxIdeal.nD Cert.NormDxIdeal.τ).loc Cert.NormDxIdeal.main_v0_2) = v2 c
          ∧ r.2.mem ((c.tc : Thread Cert.NormDxIdeal.nD Cert.NormDxIdeal.τ).loc Cert.NormDxIdeal.main_v0_3) = v3 c
          ∧ r.2.mem ((c.tc : Thread Cert.NormDxIdeal.nD Cert.NormDxIdeal.τ).loc Cert.NormDxIdeal.main_arg0) = m ((c.tc : Thread Cert.NormDxIdeal.nD Cert.NormDxIdeal.τ).loc Cert.NormDxIdeal.main_arg0)
          ∧ r.2.mem ((c.tc : Thread Cert.NormDxIdeal.nD Cert.NormDxIdeal.τ).loc Cert.NormDxIdeal.main_arg1) = m ((c.tc : Thread Cert.NormDxIdeal.nD Cert.NormDxIdeal.τ).loc Cert.NormDxIdeal.main_arg1)
          ∧ r.2.mem ((c.tc : Thread Cert.NormDxIdeal.nD Cert.NormDxIdeal.τ).loc Cert.NormDxIdeal.main_arg2) = m ((c.tc : Thread Cert.NormDxIdeal.nD Cert.NormDxIdeal.τ).loc Cert.NormDxIdeal.main_arg2)
          ∧ r.2.mem ((c.tc : Thread Cert.NormDxIdeal.nD Cert.NormDxIdeal.τ).loc Cert.NormDxIdeal.main_arg3) = m ((c.tc : Thread Cert.NormDxIdeal.nD Cert.NormDxIdeal.τ).loc Cert.NormDxIdeal.main_arg3)
          ∧ r.2.mem ((c.tc : Thread Cert.NormDxIdeal.nD Cert.NormDxIdeal.τ).loc Cert.NormDxIdeal.main_arg4) = m ((c.tc : Thread Cert.NormDxIdeal.nD Cert.NormDxIdeal.τ).loc Cert.NormDxIdeal.main_arg4)
          ∧ r.2.mem ((c.tc : Thread Cert.NormDxIdeal.nD Cert.NormDxIdeal.τ).loc Cert.NormDxIdeal.main_arg5) = m ((c.tc : Thread Cert.NormDxIdeal.nD Cert.NormDxIdeal.τ).loc Cert.NormDxIdeal.main_arg5))
      ∧ θ_run (Cert.NormDxReferenceIdeal.defs (F := Ideal)) (onTc (τ := Cert.NormDxReferenceIdeal.τ) (Cert.NormDxReferenceIdeal.main (F := Ideal))) ⟨m', fun _ => 0, g'⟩ (fun r => ∀ c : Dev Cert.NormDxReferenceIdeal.nD,
          r.2.mem ((c.tc : Thread Cert.NormDxReferenceIdeal.nD Cert.NormDxReferenceIdeal.τ).loc Cert.NormDxReferenceIdeal.main_v34) = v0 c
          ∧ r.2.mem ((c.tc : Thread Cert.NormDxReferenceIdeal.nD Cert.NormDxReferenceIdeal.τ).loc Cert.NormDxReferenceIdeal.main_v17) = v1 c
          ∧ r.2.mem ((c.tc : Thread Cert.NormDxReferenceIdeal.nD Cert.NormDxReferenceIdeal.τ).loc Cert.NormDxReferenceIdeal.main_v69) = v2 c
          ∧ r.2.mem ((c.tc : Thread Cert.NormDxReferenceIdeal.nD Cert.NormDxReferenceIdeal.τ).loc Cert.NormDxReferenceIdeal.main_v52) = v3 c
          ∧ r.2.mem ((c.tc : Thread Cert.NormDxReferenceIdeal.nD Cert.NormDxReferenceIdeal.τ).loc Cert.NormDxReferenceIdeal.main_arg0) = m' ((c.tc : Thread Cert.NormDxReferenceIdeal.nD Cert.NormDxReferenceIdeal.τ).loc Cert.NormDxReferenceIdeal.main_arg0)
          ∧ r.2.mem ((c.tc : Thread Cert.NormDxReferenceIdeal.nD Cert.NormDxReferenceIdeal.τ).loc Cert.NormDxReferenceIdeal.main_arg1) = m' ((c.tc : Thread Cert.NormDxReferenceIdeal.nD Cert.NormDxReferenceIdeal.τ).loc Cert.NormDxReferenceIdeal.main_arg1)
          ∧ r.2.mem ((c.tc : Thread Cert.NormDxReferenceIdeal.nD Cert.NormDxReferenceIdeal.τ).loc Cert.NormDxReferenceIdeal.main_arg2) = m' ((c.tc : Thread Cert.NormDxReferenceIdeal.nD Cert.NormDxReferenceIdeal.τ).loc Cert.NormDxReferenceIdeal.main_arg2)
          ∧ r.2.mem ((c.tc : Thread Cert.NormDxReferenceIdeal.nD Cert.NormDxReferenceIdeal.τ).loc Cert.NormDxReferenceIdeal.main_arg3) = m' ((c.tc : Thread Cert.NormDxReferenceIdeal.nD Cert.NormDxReferenceIdeal.τ).loc Cert.NormDxReferenceIdeal.main_arg3)
          ∧ r.2.mem ((c.tc : Thread Cert.NormDxReferenceIdeal.nD Cert.NormDxReferenceIdeal.τ).loc Cert.NormDxReferenceIdeal.main_arg4) = m' ((c.tc : Thread Cert.NormDxReferenceIdeal.nD Cert.NormDxReferenceIdeal.τ).loc Cert.NormDxReferenceIdeal.main_arg4)
          ∧ r.2.mem ((c.tc : Thread Cert.NormDxReferenceIdeal.nD Cert.NormDxReferenceIdeal.τ).loc Cert.NormDxReferenceIdeal.main_arg5) = m' ((c.tc : Thread Cert.NormDxReferenceIdeal.nD Cert.NormDxReferenceIdeal.τ).loc Cert.NormDxReferenceIdeal.main_arg5))

def preserves_Resid_ResidIdeal : Prop :=
  True

def algebraic_ResidIdeal_ResidReferenceIdeal [hResidIdeal : Cert.ResidIdeal.Facts] [hResidReferenceIdeal : Cert.ResidReferenceIdeal.Facts] : Prop :=
  ∀ (m : (ℓ : Loc Cert.ResidIdeal.nD Cert.ResidIdeal.τ Cert.ResidIdeal.sig) → Buf (Elt Ideal) ℓ) (g : Dev Cert.ResidIdeal.nD → PrngReg)
    (m' : (ℓ : Loc Cert.ResidReferenceIdeal.nD Cert.ResidReferenceIdeal.τ Cert.ResidReferenceIdeal.sig) → Buf (Elt Ideal) ℓ) (g' : Dev Cert.ResidReferenceIdeal.nD → PrngReg), Pre_ResidIdeal m →
    (∀ c : Dev Cert.ResidIdeal.nD,
      m' ((c.tc : Thread Cert.ResidReferenceIdeal.nD Cert.ResidReferenceIdeal.τ).loc Cert.ResidReferenceIdeal.main_arg0) = m ((c.tc : Thread Cert.ResidIdeal.nD Cert.ResidIdeal.τ).loc Cert.ResidIdeal.main_arg0)
      ∧ m' ((c.tc : Thread Cert.ResidReferenceIdeal.nD Cert.ResidReferenceIdeal.τ).loc Cert.ResidReferenceIdeal.main_arg1) = m ((c.tc : Thread Cert.ResidIdeal.nD Cert.ResidIdeal.τ).loc Cert.ResidIdeal.main_arg1)
      ∧ m' ((c.tc : Thread Cert.ResidReferenceIdeal.nD Cert.ResidReferenceIdeal.τ).loc Cert.ResidReferenceIdeal.main_arg2) = m ((c.tc : Thread Cert.ResidIdeal.nD Cert.ResidIdeal.τ).loc Cert.ResidIdeal.main_arg2)
      ∧ m' ((c.tc : Thread Cert.ResidReferenceIdeal.nD Cert.ResidReferenceIdeal.τ).loc Cert.ResidReferenceIdeal.main_arg3) = m ((c.tc : Thread Cert.ResidIdeal.nD Cert.ResidIdeal.τ).loc Cert.ResidIdeal.main_arg3)) →
    ∃ (v0 : (c : Dev Cert.ResidIdeal.nD) → Buf (Elt Ideal) ((c.tc : Thread Cert.ResidIdeal.nD Cert.ResidIdeal.τ).loc Cert.ResidIdeal.main_v0_0)) (v1 : (c : Dev Cert.ResidIdeal.nD) → Buf (Elt Ideal) ((c.tc : Thread Cert.ResidIdeal.nD Cert.ResidIdeal.τ).loc Cert.ResidIdeal.main_v0_1)) (v2 : (c : Dev Cert.ResidIdeal.nD) → Buf (Elt Ideal) ((c.tc : Thread Cert.ResidIdeal.nD Cert.ResidIdeal.τ).loc Cert.ResidIdeal.main_v0_2)),
      θ_run (Cert.ResidIdeal.defs (F := Ideal)) (onTc (τ := Cert.ResidIdeal.τ) (Cert.ResidIdeal.main (F := Ideal))) ⟨m, fun _ => 0, g⟩ (fun r => ∀ c : Dev Cert.ResidIdeal.nD,
          r.2.mem ((c.tc : Thread Cert.ResidIdeal.nD Cert.ResidIdeal.τ).loc Cert.ResidIdeal.main_v0_0) = v0 c
          ∧ r.2.mem ((c.tc : Thread Cert.ResidIdeal.nD Cert.ResidIdeal.τ).loc Cert.ResidIdeal.main_v0_1) = v1 c
          ∧ r.2.mem ((c.tc : Thread Cert.ResidIdeal.nD Cert.ResidIdeal.τ).loc Cert.ResidIdeal.main_v0_2) = v2 c
          ∧ r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
          ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
          ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2)
          ∧ r.2.mem ((c.tc : Thread Cert.ResidIdeal.nD Cert.ResidIdeal.τ).loc Cert.ResidIdeal.main_arg3) = m ((c.tc : Thread Cert.ResidIdeal.nD Cert.ResidIdeal.τ).loc Cert.ResidIdeal.main_arg3))
      ∧ θ_run (Cert.ResidReferenceIdeal.defs (F := Ideal)) (onTc (τ := Cert.ResidReferenceIdeal.τ) (Cert.ResidReferenceIdeal.main (F := Ideal))) ⟨m', fun _ => 0, g'⟩ (fun r => ∀ c : Dev Cert.ResidReferenceIdeal.nD,
          r.2.mem ((c.tc : Thread Cert.ResidReferenceIdeal.nD Cert.ResidReferenceIdeal.τ).loc Cert.ResidReferenceIdeal.main_v12) = v0 c
          ∧ r.2.mem ((c.tc : Thread Cert.ResidReferenceIdeal.nD Cert.ResidReferenceIdeal.τ).loc Cert.ResidReferenceIdeal.main_v25) = v1 c
          ∧ r.2.mem ((c.tc : Thread Cert.ResidReferenceIdeal.nD Cert.ResidReferenceIdeal.τ).loc Cert.ResidReferenceIdeal.main_v26) = v2 c
          ∧ r.2.mem ((c.tc : Thread Cert.ResidReferenceIdeal.nD Cert.ResidReferenceIdeal.τ).loc Cert.ResidReferenceIdeal.main_arg0) = m' ((c.tc : Thread Cert.ResidReferenceIdeal.nD Cert.ResidReferenceIdeal.τ).loc Cert.ResidReferenceIdeal.main_arg0)
          ∧ r.2.mem ((c.tc : Thread Cert.ResidReferenceIdeal.nD Cert.ResidReferenceIdeal.τ).loc Cert.ResidReferenceIdeal.main_arg1) = m' ((c.tc : Thread Cert.ResidReferenceIdeal.nD Cert.ResidReferenceIdeal.τ).loc Cert.ResidReferenceIdeal.main_arg1)
          ∧ r.2.mem ((c.tc : Thread Cert.ResidReferenceIdeal.nD Cert.ResidReferenceIdeal.τ).loc Cert.ResidReferenceIdeal.main_arg2) = m' ((c.tc : Thread Cert.ResidReferenceIdeal.nD Cert.ResidReferenceIdeal.τ).loc Cert.ResidReferenceIdeal.main_arg2)
          ∧ r.2.mem ((c.tc : Thread Cert.ResidReferenceIdeal.nD Cert.ResidReferenceIdeal.τ).loc Cert.ResidReferenceIdeal.main_arg3) = m' ((c.tc : Thread Cert.ResidReferenceIdeal.nD Cert.ResidReferenceIdeal.τ).loc Cert.ResidReferenceIdeal.main_arg3))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v12) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_Loss_LossIdeal : Prop :=
  True

def algebraic_LossIdeal_LossReferenceIdeal [hLossIdeal : Cert.LossIdeal.Facts] [hLossReferenceIdeal : Cert.LossReferenceIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal m →
    (∀ c : Dev Cert.LossIdeal.nD,
      m' ((c.tc : Thread Cert.LossReferenceIdeal.nD Cert.LossReferenceIdeal.τ).loc Cert.LossReferenceIdeal.main_arg0) = m ((c.tc : Thread Cert.LossIdeal.nD Cert.LossIdeal.τ).loc Cert.LossIdeal.main_arg0)
      ∧ m' ((c.tc : Thread Cert.LossReferenceIdeal.nD Cert.LossReferenceIdeal.τ).loc Cert.LossReferenceIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v14) = v0 c
          ∧ r.2.mem ((c.tc : Thread Cert.LossReferenceIdeal.nD Cert.LossReferenceIdeal.τ).loc Cert.LossReferenceIdeal.main_v15) = v1 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1))

def preserves_Assemble_AssembleIdeal : Prop :=
  True

def algebraic_AssembleIdeal_AssembleReferenceIdeal [hAssembleIdeal : Cert.AssembleIdeal.Facts] [hAssembleReferenceIdeal : Cert.AssembleReferenceIdeal.Facts] : Prop :=
  ∀ (m : (ℓ : Loc Cert.AssembleIdeal.nD Cert.AssembleIdeal.τ Cert.AssembleIdeal.sig) → Buf (Elt Ideal) ℓ) (g : Dev Cert.AssembleIdeal.nD → PrngReg)
    (m' : (ℓ : Loc Cert.AssembleReferenceIdeal.nD Cert.AssembleReferenceIdeal.τ Cert.AssembleReferenceIdeal.sig) → Buf (Elt Ideal) ℓ) (g' : Dev Cert.AssembleReferenceIdeal.nD → PrngReg), Pre_AssembleIdeal m →
    (∀ c : Dev Cert.AssembleIdeal.nD,
      m' ((c.tc : Thread Cert.AssembleReferenceIdeal.nD Cert.AssembleReferenceIdeal.τ).loc Cert.AssembleReferenceIdeal.main_arg0) = m ((c.tc : Thread Cert.AssembleIdeal.nD Cert.AssembleIdeal.τ).loc Cert.AssembleIdeal.main_arg0)
      ∧ m' ((c.tc : Thread Cert.AssembleReferenceIdeal.nD Cert.AssembleReferenceIdeal.τ).loc Cert.AssembleReferenceIdeal.main_arg1) = m ((c.tc : Thread Cert.AssembleIdeal.nD Cert.AssembleIdeal.τ).loc Cert.AssembleIdeal.main_arg1)
      ∧ m' ((c.tc : Thread Cert.AssembleReferenceIdeal.nD Cert.AssembleReferenceIdeal.τ).loc Cert.AssembleReferenceIdeal.main_arg2) = m ((c.tc : Thread Cert.AssembleIdeal.nD Cert.AssembleIdeal.τ).loc Cert.AssembleIdeal.main_arg2)
      ∧ m' ((c.tc : Thread Cert.AssembleReferenceIdeal.nD Cert.AssembleReferenceIdeal.τ).loc Cert.AssembleReferenceIdeal.main_arg3) = m ((c.tc : Thread Cert.AssembleIdeal.nD Cert.AssembleIdeal.τ).loc Cert.AssembleIdeal.main_arg3)) →
    ∃ (v0 : (c : Dev Cert.AssembleIdeal.nD) → Buf (Elt Ideal) ((c.tc : Thread Cert.AssembleIdeal.nD Cert.AssembleIdeal.τ).loc Cert.AssembleIdeal.main_v0)),
      θ_run (Cert.AssembleIdeal.defs (F := Ideal)) (onTc (τ := Cert.AssembleIdeal.τ) (Cert.AssembleIdeal.main (F := Ideal))) ⟨m, fun _ => 0, g⟩ (fun r => ∀ c : Dev Cert.AssembleIdeal.nD,
          r.2.mem ((c.tc : Thread Cert.AssembleIdeal.nD Cert.AssembleIdeal.τ).loc Cert.AssembleIdeal.main_v0) = v0 c
          ∧ r.2.mem ((c.tc : Thread Cert.AssembleIdeal.nD Cert.AssembleIdeal.τ).loc Cert.AssembleIdeal.main_arg0) = m ((c.tc : Thread Cert.AssembleIdeal.nD Cert.AssembleIdeal.τ).loc Cert.AssembleIdeal.main_arg0)
          ∧ r.2.mem ((c.tc : Thread Cert.AssembleIdeal.nD Cert.AssembleIdeal.τ).loc Cert.AssembleIdeal.main_arg1) = m ((c.tc : Thread Cert.AssembleIdeal.nD Cert.AssembleIdeal.τ).loc Cert.AssembleIdeal.main_arg1)
          ∧ r.2.mem ((c.tc : Thread Cert.AssembleIdeal.nD Cert.AssembleIdeal.τ).loc Cert.AssembleIdeal.main_arg2) = m ((c.tc : Thread Cert.AssembleIdeal.nD Cert.AssembleIdeal.τ).loc Cert.AssembleIdeal.main_arg2)
          ∧ r.2.mem ((c.tc : Thread Cert.AssembleIdeal.nD Cert.AssembleIdeal.τ).loc Cert.AssembleIdeal.main_arg3) = m ((c.tc : Thread Cert.AssembleIdeal.nD Cert.AssembleIdeal.τ).loc Cert.AssembleIdeal.main_arg3))
      ∧ θ_run (Cert.AssembleReferenceIdeal.defs (F := Ideal)) (onTc (τ := Cert.AssembleReferenceIdeal.τ) (Cert.AssembleReferenceIdeal.main (F := Ideal))) ⟨m', fun _ => 0, g'⟩ (fun r => ∀ c : Dev Cert.AssembleReferenceIdeal.nD,
          r.2.mem ((c.tc : Thread Cert.AssembleReferenceIdeal.nD Cert.AssembleReferenceIdeal.τ).loc Cert.AssembleReferenceIdeal.main_v6) = v0 c
          ∧ r.2.mem ((c.tc : Thread Cert.AssembleReferenceIdeal.nD Cert.AssembleReferenceIdeal.τ).loc Cert.AssembleReferenceIdeal.main_arg0) = m' ((c.tc : Thread Cert.AssembleReferenceIdeal.nD Cert.AssembleReferenceIdeal.τ).loc Cert.AssembleReferenceIdeal.main_arg0)
          ∧ r.2.mem ((c.tc : Thread Cert.AssembleReferenceIdeal.nD Cert.AssembleReferenceIdeal.τ).loc Cert.AssembleReferenceIdeal.main_arg1) = m' ((c.tc : Thread Cert.AssembleReferenceIdeal.nD Cert.AssembleReferenceIdeal.τ).loc Cert.AssembleReferenceIdeal.main_arg1)
          ∧ r.2.mem ((c.tc : Thread Cert.AssembleReferenceIdeal.nD Cert.AssembleReferenceIdeal.τ).loc Cert.AssembleReferenceIdeal.main_arg2) = m' ((c.tc : Thread Cert.AssembleReferenceIdeal.nD Cert.AssembleReferenceIdeal.τ).loc Cert.AssembleReferenceIdeal.main_arg2)
          ∧ r.2.mem ((c.tc : Thread Cert.AssembleReferenceIdeal.nD Cert.AssembleReferenceIdeal.τ).loc Cert.AssembleReferenceIdeal.main_arg3) = m' ((c.tc : Thread Cert.AssembleReferenceIdeal.nD Cert.AssembleReferenceIdeal.τ).loc Cert.AssembleReferenceIdeal.main_arg3))

def Claim : Prop :=
  ∃ (hKernel : Cert.Kernel.Facts) (hKernelIdeal : Cert.KernelIdeal.Facts) (hReferenceIdeal : Cert.ReferenceIdeal.Facts) (hGate : Cert.Gate.Facts) (hGateIdeal : Cert.GateIdeal.Facts) (hGateReferenceIdeal : Cert.GateReferenceIdeal.Facts) (hWgrad : Cert.Wgrad.Facts) (hWgradIdeal : Cert.WgradIdeal.Facts) (hWgradReferenceIdeal : Cert.WgradReferenceIdeal.Facts) (hFfn : Cert.Ffn.Facts) (hFfnIdeal : Cert.FfnIdeal.Facts) (hFfnReferenceIdeal : Cert.FfnReferenceIdeal.Facts) (hAttn : Cert.Attn.Facts) (hAttnIdeal : Cert.AttnIdeal.Facts) (hAttnReferenceIdeal : Cert.AttnReferenceIdeal.Facts) (hProjDx : Cert.ProjDx.Facts) (hProjDxIdeal : Cert.ProjDxIdeal.Facts) (hProjDxReferenceIdeal : Cert.ProjDxReferenceIdeal.Facts) (hProjDw : Cert.ProjDw.Facts) (hProjDwIdeal : Cert.ProjDwIdeal.Facts) (hProjDwReferenceIdeal : Cert.ProjDwReferenceIdeal.Facts) (hMixDx : Cert.MixDx.Facts) (hMixDxIdeal : Cert.MixDxIdeal.Facts) (hMixDxReferenceIdeal : Cert.MixDxReferenceIdeal.Facts) (hMixDw : Cert.MixDw.Facts) (hMixDwIdeal : Cert.MixDwIdeal.Facts) (hMixDwReferenceIdeal : Cert.MixDwReferenceIdeal.Facts) (hProj : Cert.Proj.Facts) (hProjIdeal : Cert.ProjIdeal.Facts) (hProjReferenceIdeal : Cert.ProjReferenceIdeal.Facts) (hMix : Cert.Mix.Facts) (hMixIdeal : Cert.MixIdeal.Facts) (hMixReferenceIdeal : Cert.MixReferenceIdeal.Facts) (hXDh : Cert.XDh.Facts) (hXDhIdeal : Cert.XDhIdeal.Facts) (hXDhReferenceIdeal : Cert.XDhReferenceIdeal.Facts) (hXDo : Cert.XDo.Facts) (hXDoIdeal : Cert.XDoIdeal.Facts) (hXDoReferenceIdeal : Cert.XDoReferenceIdeal.Facts) (hXDwq : Cert.XDwq.Facts) (hXDwqIdeal : Cert.XDwqIdeal.Facts) (hXDwqReferenceIdeal : Cert.XDwqReferenceIdeal.Facts) (hXDwo : Cert.XDwo.Facts) (hXDwoIdeal : Cert.XDwoIdeal.Facts) (hXDwoReferenceIdeal : Cert.XDwoReferenceIdeal.Facts) (hXq : Cert.Xq.Facts) (hXqIdeal : Cert.XqIdeal.Facts) (hXqReferenceIdeal : Cert.XqReferenceIdeal.Facts) (hXo : Cert.Xo.Facts) (hXoIdeal : Cert.XoIdeal.Facts) (hXoReferenceIdeal : Cert.XoReferenceIdeal.Facts) (hMemDw : Cert.MemDw.Facts) (hMemDwIdeal : Cert.MemDwIdeal.Facts) (hMemDwReferenceIdeal : Cert.MemDwReferenceIdeal.Facts) (hMemDx : Cert.MemDx.Facts) (hMemDxIdeal : Cert.MemDxIdeal.Facts) (hMemDxReferenceIdeal : Cert.MemDxReferenceIdeal.Facts) (hMem : Cert.Mem.Facts) (hMemIdeal : Cert.MemIdeal.Facts) (hMemReferenceIdeal : Cert.MemReferenceIdeal.Facts) (hPoolDx : Cert.PoolDx.Facts) (hPoolDxIdeal : Cert.PoolDxIdeal.Facts) (hPoolDxReferenceIdeal : Cert.PoolDxReferenceIdeal.Facts) (hPoolDw : Cert.PoolDw.Facts) (hPoolDwIdeal : Cert.PoolDwIdeal.Facts) (hPoolDwReferenceIdeal : Cert.PoolDwReferenceIdeal.Facts) (hXattn : Cert.Xattn.Facts) (hXattnIdeal : Cert.XattnIdeal.Facts) (hXattnReferenceIdeal : Cert.XattnReferenceIdeal.Facts) (hNormDx : Cert.NormDx.Facts) (hNormDxIdeal : Cert.NormDxIdeal.Facts) (hNormDxReferenceIdeal : Cert.NormDxReferenceIdeal.Facts) (hResid : Cert.Resid.Facts) (hResidIdeal : Cert.ResidIdeal.Facts) (hResidReferenceIdeal : Cert.ResidReferenceIdeal.Facts) (hNorm : Cert.Norm.Facts) (hNormIdeal : Cert.NormIdeal.Facts) (hNormReferenceIdeal : Cert.NormReferenceIdeal.Facts) (hLoss : Cert.Loss.Facts) (hLossIdeal : Cert.LossIdeal.Facts) (hLossReferenceIdeal : Cert.LossReferenceIdeal.Facts) (hAssemble : Cert.Assemble.Facts) (hAssembleIdeal : Cert.AssembleIdeal.Facts) (hAssembleReferenceIdeal : Cert.AssembleReferenceIdeal.Facts) (hPre_finite_scores : Cert.Pre_finite_scores.Facts) (hPre_finite_feed : Cert.Pre_finite_feed.Facts) (hPre_finite_attention : Cert.Pre_finite_attention.Facts) (hPre_finite_rows : Cert.Pre_finite_rows.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Gate (hGate := hGate)
    ∧ quiescent_GateIdeal (hGateIdeal := hGateIdeal)
    ∧ quiescent_GateIdeal_pre_finite_feed (hGateIdeal := hGateIdeal) (hPre_finite_feed := hPre_finite_feed)
    ∧ quiescent_GateReferenceIdeal (hGateReferenceIdeal := hGateReferenceIdeal)
    ∧ quiescent_GateReferenceIdeal_pre_finite_feed (hGateReferenceIdeal := hGateReferenceIdeal) (hPre_finite_feed := hPre_finite_feed)
    ∧ quiescent_Wgrad (hWgrad := hWgrad)
    ∧ quiescent_WgradIdeal (hWgradIdeal := hWgradIdeal)
    ∧ quiescent_WgradReferenceIdeal (hWgradReferenceIdeal := hWgradReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Attn (hAttn := hAttn)
    ∧ quiescent_AttnIdeal (hAttnIdeal := hAttnIdeal)
    ∧ quiescent_AttnIdeal_pre_finite_attention (hAttnIdeal := hAttnIdeal) (hPre_finite_attention := hPre_finite_attention)
    ∧ quiescent_AttnReferenceIdeal (hAttnReferenceIdeal := hAttnReferenceIdeal)
    ∧ quiescent_AttnReferenceIdeal_pre_finite_attention (hAttnReferenceIdeal := hAttnReferenceIdeal) (hPre_finite_attention := hPre_finite_attention)
    ∧ quiescent_ProjDx (hProjDx := hProjDx)
    ∧ quiescent_ProjDxIdeal (hProjDxIdeal := hProjDxIdeal)
    ∧ quiescent_ProjDxReferenceIdeal (hProjDxReferenceIdeal := hProjDxReferenceIdeal)
    ∧ quiescent_ProjDw (hProjDw := hProjDw)
    ∧ quiescent_ProjDwIdeal (hProjDwIdeal := hProjDwIdeal)
    ∧ quiescent_ProjDwReferenceIdeal (hProjDwReferenceIdeal := hProjDwReferenceIdeal)
    ∧ quiescent_MixDx (hMixDx := hMixDx)
    ∧ quiescent_MixDxIdeal (hMixDxIdeal := hMixDxIdeal)
    ∧ quiescent_MixDxReferenceIdeal (hMixDxReferenceIdeal := hMixDxReferenceIdeal)
    ∧ quiescent_MixDw (hMixDw := hMixDw)
    ∧ quiescent_MixDwIdeal (hMixDwIdeal := hMixDwIdeal)
    ∧ quiescent_MixDwReferenceIdeal (hMixDwReferenceIdeal := hMixDwReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_Mix (hMix := hMix)
    ∧ quiescent_MixIdeal (hMixIdeal := hMixIdeal)
    ∧ quiescent_MixReferenceIdeal (hMixReferenceIdeal := hMixReferenceIdeal)
    ∧ quiescent_XDh (hXDh := hXDh)
    ∧ quiescent_XDhIdeal (hXDhIdeal := hXDhIdeal)
    ∧ quiescent_XDhReferenceIdeal (hXDhReferenceIdeal := hXDhReferenceIdeal)
    ∧ quiescent_XDo (hXDo := hXDo)
    ∧ quiescent_XDoIdeal (hXDoIdeal := hXDoIdeal)
    ∧ quiescent_XDoReferenceIdeal (hXDoReferenceIdeal := hXDoReferenceIdeal)
    ∧ quiescent_XDwq (hXDwq := hXDwq)
    ∧ quiescent_XDwqIdeal (hXDwqIdeal := hXDwqIdeal)
    ∧ quiescent_XDwqReferenceIdeal (hXDwqReferenceIdeal := hXDwqReferenceIdeal)
    ∧ quiescent_XDwo (hXDwo := hXDwo)
    ∧ quiescent_XDwoIdeal (hXDwoIdeal := hXDwoIdeal)
    ∧ quiescent_XDwoReferenceIdeal (hXDwoReferenceIdeal := hXDwoReferenceIdeal)
    ∧ quiescent_Xq (hXq := hXq)
    ∧ quiescent_XqIdeal (hXqIdeal := hXqIdeal)
    ∧ quiescent_XqReferenceIdeal (hXqReferenceIdeal := hXqReferenceIdeal)
    ∧ quiescent_Xo (hXo := hXo)
    ∧ quiescent_XoIdeal (hXoIdeal := hXoIdeal)
    ∧ quiescent_XoReferenceIdeal (hXoReferenceIdeal := hXoReferenceIdeal)
    ∧ quiescent_MemDw (hMemDw := hMemDw)
    ∧ quiescent_MemDwIdeal (hMemDwIdeal := hMemDwIdeal)
    ∧ quiescent_MemDwReferenceIdeal (hMemDwReferenceIdeal := hMemDwReferenceIdeal)
    ∧ quiescent_MemDx (hMemDx := hMemDx)
    ∧ quiescent_MemDxIdeal (hMemDxIdeal := hMemDxIdeal)
    ∧ quiescent_MemDxReferenceIdeal (hMemDxReferenceIdeal := hMemDxReferenceIdeal)
    ∧ quiescent_Mem (hMem := hMem)
    ∧ quiescent_MemIdeal (hMemIdeal := hMemIdeal)
    ∧ quiescent_MemReferenceIdeal (hMemReferenceIdeal := hMemReferenceIdeal)
    ∧ quiescent_PoolDx (hPoolDx := hPoolDx)
    ∧ quiescent_PoolDxIdeal (hPoolDxIdeal := hPoolDxIdeal)
    ∧ quiescent_PoolDxReferenceIdeal (hPoolDxReferenceIdeal := hPoolDxReferenceIdeal)
    ∧ quiescent_PoolDw (hPoolDw := hPoolDw)
    ∧ quiescent_PoolDwIdeal (hPoolDwIdeal := hPoolDwIdeal)
    ∧ quiescent_PoolDwReferenceIdeal (hPoolDwReferenceIdeal := hPoolDwReferenceIdeal)
    ∧ quiescent_Xattn (hXattn := hXattn)
    ∧ quiescent_XattnIdeal (hXattnIdeal := hXattnIdeal)
    ∧ quiescent_XattnIdeal_pre_finite_rows (hXattnIdeal := hXattnIdeal) (hPre_finite_rows := hPre_finite_rows)
    ∧ quiescent_XattnReferenceIdeal (hXattnReferenceIdeal := hXattnReferenceIdeal)
    ∧ quiescent_XattnReferenceIdeal_pre_finite_rows (hXattnReferenceIdeal := hXattnReferenceIdeal) (hPre_finite_rows := hPre_finite_rows)
    ∧ quiescent_NormDx (hNormDx := hNormDx)
    ∧ quiescent_NormDxIdeal (hNormDxIdeal := hNormDxIdeal)
    ∧ quiescent_NormDxReferenceIdeal (hNormDxReferenceIdeal := hNormDxReferenceIdeal)
    ∧ quiescent_Resid (hResid := hResid)
    ∧ quiescent_ResidIdeal (hResidIdeal := hResidIdeal)
    ∧ quiescent_ResidReferenceIdeal (hResidReferenceIdeal := hResidReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_Loss (hLoss := hLoss)
    ∧ quiescent_LossIdeal (hLossIdeal := hLossIdeal)
    ∧ quiescent_LossReferenceIdeal (hLossReferenceIdeal := hLossReferenceIdeal)
    ∧ quiescent_Assemble (hAssemble := hAssemble)
    ∧ quiescent_AssembleIdeal (hAssembleIdeal := hAssembleIdeal)
    ∧ quiescent_AssembleReferenceIdeal (hAssembleReferenceIdeal := hAssembleReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Gate_GateIdeal
    ∧ algebraic_GateIdeal_GateReferenceIdeal_pre_finite_feed (hGateIdeal := hGateIdeal) (hGateReferenceIdeal := hGateReferenceIdeal) (hPre_finite_feed := hPre_finite_feed)
    ∧ preserves_Wgrad_WgradIdeal
    ∧ algebraic_WgradIdeal_WgradReferenceIdeal (hWgradIdeal := hWgradIdeal) (hWgradReferenceIdeal := hWgradReferenceIdeal)
    ∧ preserves_Ffn_FfnIdeal
    ∧ algebraic_FfnIdeal_FfnReferenceIdeal (hFfnIdeal := hFfnIdeal) (hFfnReferenceIdeal := hFfnReferenceIdeal)
    ∧ preserves_Attn_AttnIdeal
    ∧ algebraic_AttnIdeal_AttnReferenceIdeal_pre_finite_attention (hAttnIdeal := hAttnIdeal) (hAttnReferenceIdeal := hAttnReferenceIdeal) (hPre_finite_attention := hPre_finite_attention)
    ∧ preserves_ProjDx_ProjDxIdeal
    ∧ algebraic_ProjDxIdeal_ProjDxReferenceIdeal (hProjDxIdeal := hProjDxIdeal) (hProjDxReferenceIdeal := hProjDxReferenceIdeal)
    ∧ preserves_ProjDw_ProjDwIdeal
    ∧ algebraic_ProjDwIdeal_ProjDwReferenceIdeal (hProjDwIdeal := hProjDwIdeal) (hProjDwReferenceIdeal := hProjDwReferenceIdeal)
    ∧ preserves_MixDx_MixDxIdeal
    ∧ algebraic_MixDxIdeal_MixDxReferenceIdeal (hMixDxIdeal := hMixDxIdeal) (hMixDxReferenceIdeal := hMixDxReferenceIdeal)
    ∧ preserves_MixDw_MixDwIdeal
    ∧ algebraic_MixDwIdeal_MixDwReferenceIdeal (hMixDwIdeal := hMixDwIdeal) (hMixDwReferenceIdeal := hMixDwReferenceIdeal)
    ∧ preserves_Proj_ProjIdeal
    ∧ algebraic_ProjIdeal_ProjReferenceIdeal (hProjIdeal := hProjIdeal) (hProjReferenceIdeal := hProjReferenceIdeal)
    ∧ preserves_Mix_MixIdeal
    ∧ algebraic_MixIdeal_MixReferenceIdeal (hMixIdeal := hMixIdeal) (hMixReferenceIdeal := hMixReferenceIdeal)
    ∧ preserves_XDh_XDhIdeal
    ∧ algebraic_XDhIdeal_XDhReferenceIdeal (hXDhIdeal := hXDhIdeal) (hXDhReferenceIdeal := hXDhReferenceIdeal)
    ∧ preserves_XDo_XDoIdeal
    ∧ algebraic_XDoIdeal_XDoReferenceIdeal (hXDoIdeal := hXDoIdeal) (hXDoReferenceIdeal := hXDoReferenceIdeal)
    ∧ preserves_XDwq_XDwqIdeal
    ∧ algebraic_XDwqIdeal_XDwqReferenceIdeal (hXDwqIdeal := hXDwqIdeal) (hXDwqReferenceIdeal := hXDwqReferenceIdeal)
    ∧ preserves_XDwo_XDwoIdeal
    ∧ algebraic_XDwoIdeal_XDwoReferenceIdeal (hXDwoIdeal := hXDwoIdeal) (hXDwoReferenceIdeal := hXDwoReferenceIdeal)
    ∧ preserves_Xq_XqIdeal
    ∧ algebraic_XqIdeal_XqReferenceIdeal (hXqIdeal := hXqIdeal) (hXqReferenceIdeal := hXqReferenceIdeal)
    ∧ preserves_Xo_XoIdeal
    ∧ algebraic_XoIdeal_XoReferenceIdeal (hXoIdeal := hXoIdeal) (hXoReferenceIdeal := hXoReferenceIdeal)
    ∧ preserves_MemDw_MemDwIdeal
    ∧ algebraic_MemDwIdeal_MemDwReferenceIdeal (hMemDwIdeal := hMemDwIdeal) (hMemDwReferenceIdeal := hMemDwReferenceIdeal)
    ∧ preserves_MemDx_MemDxIdeal
    ∧ algebraic_MemDxIdeal_MemDxReferenceIdeal (hMemDxIdeal := hMemDxIdeal) (hMemDxReferenceIdeal := hMemDxReferenceIdeal)
    ∧ preserves_Mem_MemIdeal
    ∧ algebraic_MemIdeal_MemReferenceIdeal (hMemIdeal := hMemIdeal) (hMemReferenceIdeal := hMemReferenceIdeal)
    ∧ preserves_PoolDx_PoolDxIdeal
    ∧ algebraic_PoolDxIdeal_PoolDxReferenceIdeal (hPoolDxIdeal := hPoolDxIdeal) (hPoolDxReferenceIdeal := hPoolDxReferenceIdeal)
    ∧ preserves_PoolDw_PoolDwIdeal
    ∧ algebraic_PoolDwIdeal_PoolDwReferenceIdeal (hPoolDwIdeal := hPoolDwIdeal) (hPoolDwReferenceIdeal := hPoolDwReferenceIdeal)
    ∧ preserves_Xattn_XattnIdeal
    ∧ algebraic_XattnIdeal_XattnReferenceIdeal_pre_finite_rows (hXattnIdeal := hXattnIdeal) (hXattnReferenceIdeal := hXattnReferenceIdeal) (hPre_finite_rows := hPre_finite_rows)
    ∧ preserves_NormDx_NormDxIdeal
    ∧ algebraic_NormDxIdeal_NormDxReferenceIdeal (hNormDxIdeal := hNormDxIdeal) (hNormDxReferenceIdeal := hNormDxReferenceIdeal)
    ∧ preserves_Resid_ResidIdeal
    ∧ algebraic_ResidIdeal_ResidReferenceIdeal (hResidIdeal := hResidIdeal) (hResidReferenceIdeal := hResidReferenceIdeal)
    ∧ preserves_Norm_NormIdeal
    ∧ algebraic_NormIdeal_NormReferenceIdeal (hNormIdeal := hNormIdeal) (hNormReferenceIdeal := hNormReferenceIdeal)
    ∧ preserves_Loss_LossIdeal
    ∧ algebraic_LossIdeal_LossReferenceIdeal (hLossIdeal := hLossIdeal) (hLossReferenceIdeal := hLossReferenceIdeal)
    ∧ preserves_Assemble_AssembleIdeal
    ∧ algebraic_AssembleIdeal_AssembleReferenceIdeal (hAssembleIdeal := hAssembleIdeal) (hAssembleReferenceIdeal := hAssembleReferenceIdeal)
-- ==== Pre_finite_attention.lean ====
abbrev S4096x3328 : Shape := ⟨2, ![4096, 3328]⟩
abbrev S1x16 : Shape := ⟨2, ![1, 16]⟩
abbrev S4096x2048 : Shape := ⟨2, ![4096, 2048]⟩
abbrev S4096x1024 : Shape := ⟨2, ![4096, 1024]⟩
abbrev S4096x256 : Shape := ⟨2, ![4096, 256]⟩
abbrev S1x4096x1x256 : Shape := ⟨4, ![1, 4096, 1, 256]⟩
abbrev S1x4096x4x256 : Shape := ⟨4, ![1, 4096, 4, 256]⟩
abbrev S_ : Shape := ⟨0, ![]⟩
abbrev S1x16x64 : Shape := ⟨3, ![1, 16, 64]⟩
abbrev S1x1024 : Shape := ⟨2, ![1, 1024]⟩

class Facts : Prop where
  slices_S4096x3328_S4096x1024_0_0 : S4096x3328.Slices ![0, 0] S4096x1024
  slices_S4096x3328_S4096x256_0_3072 : S4096x3328.Slices ![0, 3072] S4096x256
  shapeCasts_S4096x256_S1x4096x1x256 : S4096x256.ShapeCasts S1x4096x1x256
  bcast_S1x4096x1x256_S1x4096x4x256_0_1_2_3 : S1x4096x1x256.BroadcastsInDim S1x4096x4x256 (![0, 1, 2, 3] : Fin 4 → Fin S1x4096x4x256.rank)
  shapeCasts_S1x4096x4x256_S4096x1024 : S1x4096x4x256.ShapeCasts S4096x1024
  slices_S4096x2048_S4096x1024_0_0 : S4096x2048.Slices ![0, 0] S4096x1024
  bitsLt_bf16_f32 : FTy.bits .bf16 < FTy.bits .f32
  bcast_S_S4096x1024 : S_.BroadcastsInDim S4096x1024 (![] : Fin 0 → Fin S4096x1024.rank)
  bcast_S1x16_S1x16x64_0_1 : S1x16.BroadcastsInDim S1x16x64 (![0, 1] : Fin 2 → Fin S1x16x64.rank)
  shapeCasts_S1x16x64_S1x1024 : S1x16x64.ShapeCasts S1x1024
  bcast_S_S1x1024 : S_.BroadcastsInDim S1x1024 (![] : Fin 0 → Fin S1x1024.rank)
  bcast_S1x1024_S4096x1024_0_1 : S1x1024.BroadcastsInDim S4096x1024 (![0, 1] : Fin 2 → Fin S4096x1024.rank)

variable [Facts]

def fn_part1 {F : FTy → Type} [FloatOps F] (main_v17 : IVec S4096x1024 1) (main_v20 : FVec F S1x1024 .f32) : IVec S4096x1024 1 :=
  let main_cst_2 : FVec F S_ .f32 := constant S_ .f32 0x7F800000#32
  let main_v21 : FVec F S1x1024 .f32 := broadcastInDim S1x1024 ![] bcast_S_S1x1024 main_cst_2
  let main_v22 : IVec S1x1024 1 := cmpf .olt main_v20 main_v21
  let main_v23 : IVec S4096x1024 1 := broadcastInDim S4096x1024 ![0, 1] bcast_S1x1024_S4096x1024_0_1 main_v22
  let main_v24 : IVec S4096x1024 1 := andi main_v17 main_v23
  main_v24

def fn {F : FTy → Type} [FloatOps F] (main_arg0 : FVec F S4096x3328 .f32) (main_arg1 : FVec F S1x16 .f32) (main_arg2 : FVec F S4096x2048 .bf16) : IVec S4096x1024 1 :=
  let main_v0 : FVec F S4096x1024 .f32 := (extractStridedSlice S4096x1024 ![0, 0] · slices_S4096x3328_S4096x1024_0_0) main_arg0
  let main_v1 : FVec F S4096x256 .f32 := (extractStridedSlice S4096x256 ![0, 3072] · slices_S4096x3328_S4096x256_0_3072) main_arg0
  let main_v2 : FVec F S1x4096x1x256 .f32 := shapeCast S1x4096x1x256 main_v1 shapeCasts_S4096x256_S1x4096x1x256
  let main_v3 : FVec F S1x4096x4x256 .f32 := broadcastInDim S1x4096x4x256 ![0, 1, 2, 3] bcast_S1x4096x1x256_S1x4096x4x256_0_1_2_3 main_v2
  let main_v4 : FVec F S4096x1024 .f32 := shapeCast S4096x1024 main_v3 shapeCasts_S1x4096x4x256_S4096x1024
  let main_v5 : FVec F S4096x1024 .bf16 := (extractStridedSlice S4096x1024 ![0, 0] · slices_S4096x2048_S4096x1024_0_0) main_arg2
  let main_v6 : FVec F S4096x1024 .f32 := (extf .f32 · bitsLt_bf16_f32) main_v5
  let main_v7 : FVec F S4096x1024 .f32 := Host.absf main_v0
  let main_cst : FVec F S_ .f32 := constant S_ .f32 0x7F800000#32
  let main_v8 : FVec F S4096x1024 .f32 := broadcastInDim S4096x1024 ![] bcast_S_S4096x1024 main_cst
  let main_v9 : IVec S4096x1024 1 := cmpf .olt main_v7 main_v8
  let main_v10 : FVec F S4096x1024 .f32 := Host.absf main_v4
  let main_cst_0 : FVec F S_ .f32 := constant S_ .f32 0x7F800000#32
  let main_v11 : FVec F S4096x1024 .f32 := broadcastInDim S4096x1024 ![] bcast_S_S4096x1024 main_cst_0
  let main_v12 : IVec S4096x1024 1 := cmpf .olt main_v10 main_v11
  let main_v13 : IVec S4096x1024 1 := andi main_v9 main_v12
  let main_v14 : FVec F S4096x1024 .f32 := Host.absf main_v6
  let main_cst_1 : FVec F S_ .f32 := constant S_ .f32 0x7F800000#32
  let main_v15 : FVec F S4096x1024 .f32 := broadcastInDim S4096x1024 ![] bcast_S_S4096x1024 main_cst_1
  let main_v16 : IVec S4096x1024 1 := cmpf .olt main_v14 main_v15
  let main_v17 : IVec S4096x1024 1 := andi main_v13 main_v16
  let main_v18 : FVec F S1x16x64 .f32 := broadcastInDim S1x16x64 ![0, 1] bcast_S1x16_S1x16x64_0_1 main_arg1
  let main_v19 : FVec F S1x1024 .f32 := shapeCast S1x1024 main_v18 shapeCasts_S1x16x64_S1x1024
  let main_v20 : FVec F S1x1024 .f32 := Host.absf main_v19
  fn_part1 (F := F) main_v17 main_v20
-- ==== Pre_finite_feed.lean ====
abbrev S4096x2048 : Shape := ⟨2, ![4096, 2048]⟩
abbrev S8x2048x704 : Shape := ⟨3, ![8, 2048, 704]⟩
abbrev S8x704x2048 : Shape := ⟨3, ![8, 704, 2048]⟩
abbrev S5632x2048 : Shape := ⟨2, ![5632, 2048]⟩
abbrev S25088x2048 : Shape := ⟨2, ![25088, 2048]⟩
abbrev S_ : Shape := ⟨0, ![]⟩

class Facts : Prop where
  transposes_S8x2048x704_S8x704x2048_0_2_1 : S8x2048x704.Transposes [0, 2, 1] S8x704x2048
  shapeCasts_S8x704x2048_S5632x2048 : S8x704x2048.ShapeCasts S5632x2048
  concatenates_S4096x2048_S4096x2048_S5632x2048_S5632x2048_S5632x2048_S25088x2048_d0 : Shape.Concatenates [S4096x2048, S4096x2048, S5632x2048, S5632x2048, S5632x2048] S25088x2048 0
  bitsLt_bf16_f32 : FTy.bits .bf16 < FTy.bits .f32
  bcast_S_S25088x2048 : S_.BroadcastsInDim S25088x2048 (![] : Fin 0 → Fin S25088x2048.rank)

variable [Facts]

def fn {F : FTy → Type} [FloatOps F] (main_arg0 : FVec F S4096x2048 .bf16) (main_arg1 : FVec F S8x2048x704 .bf16) (main_arg2 : FVec F S8x2048x704 .bf16) (main_arg3 : FVec F S8x704x2048 .bf16) (main_arg4 : FVec F S4096x2048 .bf16) : IVec S25088x2048 1 :=
  let main_v0 : FVec F S8x704x2048 .bf16 := (transpose S8x704x2048 [0, 2, 1] · transposes_S8x2048x704_S8x704x2048_0_2_1) main_arg1
  let main_v1 : FVec F S5632x2048 .bf16 := shapeCast S5632x2048 main_v0 shapeCasts_S8x704x2048_S5632x2048
  let main_v2 : FVec F S8x704x2048 .bf16 := (transpose S8x704x2048 [0, 2, 1] · transposes_S8x2048x704_S8x704x2048_0_2_1) main_arg2
  let main_v3 : FVec F S5632x2048 .bf16 := shapeCast S5632x2048 main_v2 shapeCasts_S8x704x2048_S5632x2048
  let main_v4 : FVec F S5632x2048 .bf16 := shapeCast S5632x2048 main_arg3 shapeCasts_S8x704x2048_S5632x2048
  let main_v5 : FVec F S25088x2048 .bf16 := concatenate S25088x2048 0 [⟨S4096x2048, main_arg0⟩, ⟨S4096x2048, main_arg4⟩, ⟨S5632x2048, main_v4⟩, ⟨S5632x2048, main_v1⟩, ⟨S5632x2048, main_v3⟩] concatenates_S4096x2048_S4096x2048_S5632x2048_S5632x2048_S5632x2048_S25088x2048_d0
  let main_v6 : FVec F S25088x2048 .f32 := (extf .f32 · bitsLt_bf16_f32) main_v5
  let main_v7 : FVec F S25088x2048 .f32 := Host.absf main_v6
  let main_cst : FVec F S_ .f32 := constant S_ .f32 0x7F800000#32
  let main_v8 : FVec F S25088x2048 .f32 := broadcastInDim S25088x2048 ![] bcast_S_S25088x2048 main_cst
  let main_v9 : IVec S25088x2048 1 := cmpf .olt main_v7 main_v8
  main_v9
-- ==== Pre_finite_rows.lean ====
abbrev S4096x512 : Shape := ⟨2, ![4096, 512]⟩
abbrev S256x512 : Shape := ⟨2, ![256, 512]⟩
abbrev S4352x512 : Shape := ⟨2, ![4352, 512]⟩
abbrev S_ : Shape := ⟨0, ![]⟩

class Facts : Prop where
  concatenates_S4096x512_S256x512_S4352x512_d0 : Shape.Concatenates [S4096x512, S256x512] S4352x512 0
  bitsLt_bf16_f32 : FTy.bits .bf16 < FTy.bits .f32
  bcast_S_S4352x512 : S_.BroadcastsInDim S4352x512 (![] : Fin 0 → Fin S4352x512.rank)

variable [Facts]

def fn {F : FTy → Type} [FloatOps F] (main_arg0 : FVec F S4096x512 .bf16) (main_arg1 : FVec F S256x512 .bf16) (main_arg2 : FVec F S256x512 .bf16) : IVec S4352x512 1 :=
  let main_v0 : FVec F S4352x512 .bf16 := (fun a b => concatenate S4352x512 0 [⟨S4096x512, a⟩, ⟨S256x512, b⟩] concatenates_S4096x512_S256x512_S4352x512_d0) main_arg0 main_arg1
  let main_v1 : FVec F S4352x512 .f32 := (extf .f32 · bitsLt_bf16_f32) main_v0
  let main_v2 : FVec F S4352x512 .f32 := Host.absf main_v1
  let main_cst : FVec F S_ .f32 := constant S_ .f32 0x7F800000#32
  let main_v3 : FVec F S4352x512 .f32 := broadcastInDim S4352x512 ![] bcast_S_S4352x512 main_cst
  let main_v4 : IVec S4352x512 1 := cmpf .olt main_v2 main_v3
  main_v4
-- ==== Pre_finite_scores.lean ====
abbrev S4096x512 : Shape := ⟨2, ![4096, 512]⟩
abbrev S256x512 : Shape := ⟨2, ![256, 512]⟩
abbrev S4352x512 : Shape := ⟨2, ![4352, 512]⟩
abbrev S_ : Shape := ⟨0, ![]⟩

class Facts : Prop where
  concatenates_S4096x512_S256x512_S4352x512_d0 : Shape.Concatenates [S4096x512, S256x512] S4352x512 0
  bitsLt_bf16_f32 : FTy.bits .bf16 < FTy.bits .f32
  bcast_S_S4352x512 : S_.BroadcastsInDim S4352x512 (![] : Fin 0 → Fin S4352x512.rank)

variable [Facts]

def fn {F : FTy → Type} [FloatOps F] (main_arg0 : FVec F S4096x512 .bf16) (main_arg1 : FVec F S256x512 .bf16) (main_arg2 : FVec F S256x512 .bf16) (main_arg3 : FVec F S4096x512 .bf16) : IVec S4352x512 1 :=
  let main_v0 : FVec F S4352x512 .bf16 := (fun a b => concatenate S4352x512 0 [⟨S4096x512, a⟩, ⟨S256x512, b⟩] concatenates_S4096x512_S256x512_S4352x512_d0) main_arg0 main_arg1
  let main_v1 : FVec F S4352x512 .f32 := (extf .f32 · bitsLt_bf16_f32) main_v0
  let main_v2 : FVec F S4352x512 .f32 := Host.absf main_v1
  let main_cst : FVec F S_ .f32 := constant S_ .f32 0x7F800000#32
  let main_v3 : FVec F S4352x512 .f32 := broadcastInDim S4352x512 ![] bcast_S_S4352x512 main_cst
  let main_v4 : IVec S4352x512 1 := cmpf .olt main_v2 main_v3
  main_v4
-- ==== Kernel.lean ====
abbrev S4096x512 : Shape := ⟨2, ![4096, 512]⟩
abbrev S256x512 : Shape := ⟨2, ![256, 512]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x512, .bf16⟩
  | .hbm, ⟨1, _⟩ => ⟨S256x512, .bf16⟩
  | .hbm, ⟨2, _⟩ => ⟨S256x512, .bf16⟩
  | .hbm, ⟨3, _⟩ => ⟨S4096x512, .bf16⟩
  | .hbm, ⟨4, _⟩ => ⟨S4096x512, .bf16⟩
  | .hbm, ⟨5, _⟩ => ⟨S256x512, .f32⟩
  | .hbm, ⟨6, _⟩ => ⟨S256x512, .f32⟩
  | .local _ .vmem, ⟨0, _⟩ => ⟨S512x512, .bf16⟩
  | .local _ .vmem, ⟨1, _⟩ => ⟨S512x512, .bf16⟩
  | .local _ .vmem, ⟨2, _⟩ => ⟨S256x512, .bf16⟩
  | .local _ .vmem, ⟨3, _⟩ => ⟨S256x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S256x512, .f32⟩
  | .local _ .vmem, ⟨9, _⟩ => ⟨S256x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S4096x512 : Shape := ⟨2, ![4096, 512]⟩
abbrev S256x512 : Shape := ⟨2, ![256, 512]⟩
abbrev S1x4096x4x128 : Shape := ⟨4, ![1, 4096, 4, 128]⟩
abbrev S1x256x4x128 : Shape := ⟨4, ![1, 256, 4, 128]⟩
abbrev S1x4x4096x256 : Shape := ⟨4, ![1, 4, 4096, 256]⟩
abbrev S_ : Shape := ⟨0, ![]⟩
abbrev S1x4x4096 : Shape := ⟨3, ![1, 4, 4096]⟩
abbrev S1x4x4096x1 : Shape := ⟨4, ![1, 4, 4096, 1]⟩
abbrev S1x4x128x4096 : Shape := ⟨4, ![1, 4, 128, 4096]⟩
abbrev S1x4x128x256 : Shape := ⟨4, ![1, 4, 128, 256]⟩
abbrev S4x4096 : Shape := ⟨2, ![4, 4096]⟩
abbrev S1x4x256x128 : Shape := ⟨4, ![1, 4, 256, 128]⟩
abbrev S1x4x4096x128 : Shape := ⟨4, ![1, 4, 4096, 128]⟩

abbrev nBuf : Space → Nat
  | .hbm => 87
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S256x512, .bf16⟩
  | .hbm, ⟨2, _⟩ => ⟨S256x512, .bf16⟩
  | .hbm, ⟨3, _⟩ => ⟨S4096x512, .bf16⟩
  | .hbm, ⟨4, _⟩ => ⟨S4096x512, .f32⟩
  | .hbm, ⟨5, _⟩ => ⟨S256x512, .f32⟩
  | .hbm, ⟨6, _⟩ => ⟨S256x512, .f32⟩
  | .hbm, ⟨7, _⟩ => ⟨S4096x512, .f32⟩
  | .hbm, ⟨8, _⟩ => ⟨S1x4096x4x128, .f32⟩
  | .hbm, ⟨9, _⟩ => ⟨S1x256x4x128, .f32⟩
  | .hbm, ⟨10, _⟩ => ⟨S1x256x4x128, .f32⟩
  | .hbm, ⟨11, _⟩ => ⟨S1x4x4096x256, .f32⟩
  | .hbm, ⟨12, _⟩ => ⟨S_, .f32⟩
  | .hbm, ⟨13, _⟩ => ⟨S1x4x4096x256, .f32⟩
  | .hbm, ⟨14, _⟩ => ⟨S1x4x4096x256, .f32⟩
  | .hbm, ⟨15, _⟩ => ⟨S_, .f32⟩
  | .hbm, ⟨16, _⟩ => ⟨S1x4x4096, .f32⟩
  | .hbm, ⟨17, _⟩ => ⟨S1x4x4096x1, .f32⟩
  | .hbm, ⟨18, _⟩ => ⟨S1x4x4096x256, .f32⟩
  | .hbm, ⟨19, _⟩ => ⟨S1x4x4096x256, .i1⟩
  | .hbm, ⟨20, _⟩ => ⟨S1x4x4096x256, .f32⟩
  | .hbm, ⟨21, _⟩ => ⟨S_, .f32⟩
  | .hbm, ⟨22, _⟩ => ⟨S1x4x4096, .f32⟩
  | .hbm, ⟨23, _⟩ => ⟨S_, .f32⟩
  | .hbm, ⟨24, _⟩ => ⟨S1x4x4096, .f32⟩
  | .hbm, ⟨25, _⟩ => ⟨S1x4x4096, .f32⟩
  | .hbm, ⟨26, _⟩ => ⟨S_, .f32⟩
  | .hbm, ⟨27, _⟩ => ⟨S1x4x4096, .f32⟩
  | .hbm, ⟨28, _⟩ => ⟨S1x4x4096, .i1⟩
  | .hbm, ⟨29, _⟩ => ⟨S_, .f32⟩
  | .hbm, ⟨30, _⟩ => ⟨S1x4x4096, .f32⟩
  | .hbm, ⟨31, _⟩ => ⟨S1x4x4096, .i1⟩
  | .hbm, ⟨32, _⟩ => ⟨S_, .f32⟩
  | .hbm, ⟨33, _⟩ => ⟨S1x4x4096, .f32⟩
  | .hbm, ⟨34, _⟩ => ⟨S_, .f32⟩
  | .hbm, ⟨35, _⟩ => ⟨S1x4x4096, .f32⟩
  | .hbm, ⟨36, _⟩ => ⟨S_, .f32⟩
  | .hbm, ⟨37, _⟩ => ⟨S1x4x4096, .f32⟩
  | .hbm, ⟨38, _⟩ => ⟨S1x4x4096, .f32⟩
  | .hbm, ⟨39, _⟩ => ⟨S1x4x4096, .f32⟩
  | .hbm, ⟨40, _⟩ => ⟨S1x4x4096x1, .f32⟩
  | .hbm, ⟨41, _⟩ => ⟨S1x4x4096x256, .f32⟩
  | .hbm, ⟨42, _⟩ => ⟨S1x4x4096x256, .f32⟩
  | .hbm, ⟨43, _⟩ => ⟨S1x4x4096x256, .f32⟩
  | .hbm, ⟨44, _⟩ => ⟨S_, .f32⟩
  | .hbm, ⟨45, _⟩ => ⟨S1x4x4096, .f32⟩
  | .hbm, ⟨46, _⟩ => ⟨S1x4x4096x1, .f32⟩
  | .hbm, ⟨47, _⟩ => ⟨S1x4x4096x256, .f32⟩
  | .hbm, ⟨48, _⟩ => ⟨S1x4x4096x256, .f32⟩
  | .hbm, ⟨49, _⟩ => ⟨S1x4x4096x1, .f32⟩
  | .hbm, ⟨50, _⟩ => ⟨S_, .f32⟩
  | .hbm, ⟨51, _⟩ => ⟨S1x4x4096x1, .f32⟩
  | .hbm, ⟨52, _⟩ => ⟨S1x4x4096x1, .f32⟩
  | .hbm, ⟨53, _⟩ => ⟨S1x4x128x4096, .f32⟩
  | .hbm, ⟨54, _⟩ => ⟨S1x4096x4x128, .f32⟩
  | .hbm, ⟨55, _⟩ => ⟨S4096x512, .f32⟩
  | .hbm, ⟨56, _⟩ => ⟨S1x4096x4x128, .f32⟩
  | .hbm, ⟨57, _⟩ => ⟨S1x4x128x4096, .f32⟩
  | .hbm, ⟨58, _⟩ => ⟨S1x4x4096x256, .f32⟩
  | .hbm, ⟨59, _⟩ => ⟨S1x4x128x256, .f32⟩
  | .hbm, ⟨60, _⟩ => ⟨S1x256x4x128, .f32⟩
  | .hbm, ⟨61, _⟩ => ⟨S1x4x4096x256, .f32⟩
  | .hbm, ⟨62, _⟩ => ⟨S1x4x4096x256, .f32⟩
  | .hbm, ⟨63, _⟩ => ⟨S1x4x4096x256, .f32⟩
  | .hbm, ⟨64, _⟩ => ⟨S_, .f32⟩
  | .hbm, ⟨65, _⟩ => ⟨S1x4x4096, .f32⟩
  | .hbm, ⟨66, _⟩ => ⟨S1x4x4096x1, .f32⟩
  | .hbm, ⟨67, _⟩ => ⟨S1x4x4096x1, .f32⟩
  | .hbm, ⟨68, _⟩ => ⟨S1x4x4096x256, .f32⟩
  | .hbm, ⟨69, _⟩ => ⟨S1x4x4096x256, .f32⟩
  | .hbm, ⟨70, _⟩ => ⟨S_, .f32⟩
  | .hbm, ⟨71, _⟩ => ⟨S4x4096, .f32⟩
  | .hbm, ⟨72, _⟩ => ⟨S1x4x4096, .f32⟩
  | .hbm, ⟨73, _⟩ => ⟨S1x4x4096x256, .f32⟩
  | .hbm, ⟨74, _⟩ => ⟨S1x4x4096x256, .f32⟩
  | .hbm, ⟨75, _⟩ => ⟨S1x4x4096x256, .f32⟩
  | .hbm, ⟨76, _⟩ => ⟨S_, .f32⟩
  | .hbm, ⟨77, _⟩ => ⟨S1x4x4096x256, .f32⟩
  | .hbm, ⟨78, _⟩ => ⟨S1x4x4096x256, .f32⟩
  | .hbm, ⟨79, _⟩ => ⟨S1x4x256x128, .f32⟩
  | .hbm, ⟨80, _⟩ => ⟨S1x256x4x128, .f32⟩
  | .hbm, ⟨81, _⟩ => ⟨S1x4x4096x128, .f32⟩
  | .hbm, ⟨82, _⟩ => ⟨S1x4096x4x128, .f32⟩
  | .hbm, ⟨83, _⟩ => ⟨S256x512, .f32⟩
  | .hbm, ⟨84, _⟩ => ⟨S256x512, .f32⟩
  | .hbm, ⟨85, _⟩ => ⟨S4096x512, .f32⟩
  | .hbm, ⟨86, _⟩ => ⟨S4096x512, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_12 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Gate.lean ====
abbrev S4096x2048 : Shape := ⟨2, ![4096, 2048]⟩
abbrev S8x2048x704 : Shape := ⟨3, ![8, 2048, 704]⟩
abbrev S8x704x2048 : Shape := ⟨3, ![8, 704, 2048]⟩
abbrev S8x704x4096 : Shape := ⟨3, ![8, 704, 4096]⟩
abbrev S8x4096x704 : Shape := ⟨3, ![8, 4096, 704]⟩
abbrev S512x2048 : Shape := ⟨2, ![512, 2048]⟩
abbrev S1x512x704 : Shape := ⟨3, ![1, 512, 704]⟩
abbrev S1x2048x704 : Shape := ⟨3, ![1, 2048, 704]⟩
abbrev S1x704x2048 : Shape := ⟨3, ![1, 704, 2048]⟩
abbrev S1x704x512 : Shape := ⟨3, ![1, 704, 512]⟩
abbrev S704x2048 : Shape := ⟨2, ![704, 2048]⟩
abbrev S512x704 : Shape := ⟨2, ![512, 704]⟩
abbrev S704x512 : Shape := ⟨2, ![704, 512]⟩
abbrev S2048x704 : Shape := ⟨2, ![2048, 704]⟩

abbrev nBuf : Space → Nat
  | .hbm => 14
  | .vmem => 19
  | .smem => 0
  | _ => 0

abbrev bufTy : (tb : Table) → Fin (tcTables nBuf tb) → BufTy
  | .hbm, ⟨0, _⟩ => ⟨S4096x2048, .bf16⟩
  | .hbm, ⟨1, _⟩ => ⟨S8x2048x704, .bf16⟩
  | .hbm, ⟨2, _⟩ => ⟨S8x2048x704, .bf16⟩
  | .hbm, ⟨3, _⟩ => ⟨S8x704x2048, .bf16⟩
  | .hbm, ⟨4, _⟩ => ⟨S4096x2048, .bf16⟩
  | .hbm, ⟨5, _⟩ => ⟨S8x704x4096, .f32⟩
  | .hbm, ⟨6, _⟩ => ⟨S8x4096x704, .f32⟩
  | .hbm, ⟨7, _⟩ => ⟨S8x4096x704, .bf16⟩
  | .hbm, ⟨8, _⟩ => ⟨S8x704x4096, .f32⟩
  | .hbm, ⟨9, _⟩ => ⟨S8x4096x704, .f32⟩
  | .hbm, ⟨10, _⟩ => ⟨S8x4096x704, .bf16⟩
  | .hbm, ⟨11, _⟩ => ⟨S8x704x4096, .bf16⟩
  | .hbm, ⟨12, _⟩ => ⟨S8x704x4096, .bf16⟩
  | .hbm, ⟨13, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S1x512x704, .bf16⟩
  | .local _ .vmem, ⟨3, _⟩ => ⟨S1x512x704, .bf16⟩
  | .local _ .vmem, ⟨4, _⟩ => ⟨S1x512x704, .bf16⟩
  | .local _ .vmem, ⟨5, _⟩ => ⟨S1x512x704, .bf16⟩
  | .local _ .vmem, ⟨6, _⟩ => ⟨S1x2048x704, .bf16⟩
  | .local _ .vmem, ⟨7, _⟩ => ⟨S1x2048x704, .bf16⟩
  | .local _ .vmem, ⟨8, _⟩ => ⟨S1x2048x704, .bf16⟩
  | .local _ .vmem, ⟨9, _⟩ => ⟨S1x2048x704, .bf16⟩
  | .local _ .vmem, ⟨10, _⟩ => ⟨S1x704x2048, .bf16⟩
  | .local _ .vmem, ⟨11, _⟩ => ⟨S1x704x2048, .bf16⟩
  | .local _ .vmem, ⟨12, _⟩ => ⟨S1x704x512, .bf16⟩
  | .local _ .vmem, ⟨13, _⟩ => ⟨S1x704x512, .bf16⟩
  | .local _ .vmem, ⟨14, _⟩ => ⟨S1x704x512, .bf16⟩
  | .local _ .vmem, ⟨15, _⟩ => ⟨S1x704x512, .bf16⟩
  | .local _ .vmem, ⟨16, _⟩ => ⟨S512x2048, .f32⟩
  | .local _ .vmem, ⟨17, _⟩ => ⟨S512x2048, .f32⟩
  | .local _ .vmem, ⟨18, _⟩ => ⟨S512x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 8], ![false, false]⟩

def k0_cond3 (i : grid0.Coords) : BitVec 1 :=
  let arg1 : BitVec 32 := BitVec.ofNat 32 (i 1).val
  let c7_i32 : BitVec 32 := 7#32
  let v52 : BitVec 1 := Scalar.cmpi .eq arg1 c7_i32
  let v53 : BitVec 32 := Scalar.extui v52
  let c0_i32_32 : BitVec 32 := 0#32
  let v54 : BitVec 1 := Scalar.cmpi .ne v53 c0_i32_32
  v54

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x704x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x704x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x704x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== GateReferenceIdeal.lean ====
abbrev S4096x2048 : Shape := ⟨2, ![4096, 2048]⟩
abbrev S8x2048x704 : Shape := ⟨3, ![8, 2048, 704]⟩
abbrev S8x704x2048 : Shape := ⟨3, ![8, 704, 2048]⟩
abbrev S2048x8x704 : Shape := ⟨3, ![2048, 8, 704]⟩
abbrev S2048x5632 : Shape := ⟨2, ![2048, 5632]⟩
abbrev S5632x2048 : Shape := ⟨2, ![5632, 2048]⟩
abbrev S4096x5632 : Shape := ⟨2, ![4096, 5632]⟩
abbrev S_ : Shape := ⟨0, ![]⟩
abbrev S5632x4096 : Shape := ⟨2, ![5632, 4096]⟩
abbrev S8x704x4096 : Shape := ⟨3, ![8, 704, 4096]⟩

abbrev nBuf : Space → Nat
  | .hbm => 48
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x704, .bf16⟩
  | .hbm, ⟨2, _⟩ => ⟨S8x2048x704, .bf16⟩
  | .hbm, ⟨3, _⟩ => ⟨S8x704x2048, .bf16⟩
  | .hbm, ⟨4, _⟩ => ⟨S4096x2048, .bf16⟩
  | .hbm, ⟨5, _⟩ => ⟨S4096x2048, .f32⟩
  | .hbm, ⟨6, _⟩ => ⟨S4096x2048, .f32⟩
  | .hbm, ⟨7, _⟩ => ⟨S8x2048x704, .f32⟩
  | .hbm, ⟨8, _⟩ => ⟨S2048x8x704, .f32⟩
  | .hbm, ⟨9, _⟩ => ⟨S2048x5632, .f32⟩
  | .hbm, ⟨10, _⟩ => ⟨S8x2048x704, .f32⟩
  | .hbm, ⟨11, _⟩ => ⟨S2048x8x704, .f32⟩
  | .hbm, ⟨12, _⟩ => ⟨S2048x5632, .f32⟩
  | .hbm, ⟨13, _⟩ => ⟨S8x704x2048, .f32⟩
  | .hbm, ⟨14, _⟩ => ⟨S5632x2048, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S_, .f32⟩
  | .hbm, ⟨20, _⟩ => ⟨S4096x5632, .f32⟩
  | .hbm, ⟨21, _⟩ => ⟨S4096x5632, .f32⟩
  | .hbm, ⟨22, _⟩ => ⟨S_, .f32⟩
  | .hbm, ⟨23, _⟩ => ⟨S4096x5632, .f32⟩
  | .hbm, ⟨24, _⟩ => ⟨S4096x5632, .f32⟩
  | .hbm, ⟨25, _⟩ => ⟨S_, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S4096x5632, .f32⟩
  | .hbm, ⟨31, _⟩ => ⟨S4096x2048, .f32⟩
  | .hbm, ⟨32, _⟩ => ⟨S4096x5632, .f32⟩
  | .hbm, ⟨33, _⟩ => ⟨S4096x5632, .f32⟩
  | .hbm, ⟨34, _⟩ => ⟨S4096x5632, .f32⟩
  | .hbm, ⟨35, _⟩ => ⟨S4096x5632, .f32⟩
  | .hbm, ⟨36, _⟩ => ⟨S4096x5632, .f32⟩
  | .hbm, ⟨37, _⟩ => ⟨S4096x5632, .f32⟩
  | .hbm, ⟨38, _⟩ => ⟨S4096x5632, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S5632x4096, .f32⟩
  | .hbm, ⟨43, _⟩ => ⟨S8x704x4096, .f32⟩
  | .hbm, ⟨44, _⟩ => ⟨S8x704x4096, .bf16⟩
  | .hbm, ⟨45, _⟩ => ⟨S5632x4096, .f32⟩
  | .hbm, ⟨46, _⟩ => ⟨S8x704x4096, .f32⟩
  | .hbm, ⟨47, _⟩ => ⟨S8x704x4096, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_v12_2 : Ref sig .tc := ⟨.hbm, 24, rfl⟩
abbrev main_call0_cst_1 : Ref sig .tc := ⟨.hbm, 25, rfl⟩
abbrev main_call0_v6 : Ref sig .tc := ⟨.hbm, 26, rfl⟩
abbrev main_call0_v7 : Ref sig .tc := ⟨.hbm, 27, rfl⟩
abbrev main_v12_1 : Ref sig .tc := ⟨.hbm, 28, rfl⟩
abbrev main_v12_0 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩

abbrev nD : Nat := 1
abbrev τ : Topo := Topo.v7x

variable {F : FTy → Type} [FloatOps F]
-- ==== Wgrad.lean ====
abbrev S8x704x4096 : Shape := ⟨3, ![8, 704, 4096]⟩
abbrev S4096x2048 : Shape := ⟨2, ![4096, 2048]⟩
abbrev S8x704x2048 : Shape := ⟨3, ![8, 704, 2048]⟩
abbrev S1x704x4096 : Shape := ⟨3, ![1, 704, 4096]⟩
abbrev S1x704x2048 : Shape := ⟨3, ![1, 704, 2048]⟩
abbrev S704x4096 : Shape := ⟨2, ![704, 4096]⟩
abbrev S704x2048 : Shape := ⟨2, ![704, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8x704x4096, .bf16⟩
  | .hbm, ⟨1, _⟩ => ⟨S4096x2048, .bf16⟩
  | .hbm, ⟨2, _⟩ => ⟨S8x704x2048, .bf16⟩
  | .local _ .vmem, ⟨0, _⟩ => ⟨S1x704x4096, .bf16⟩
  | .local _ .vmem, ⟨1, _⟩ => ⟨S1x704x4096, .bf16⟩
  | .local _ .vmem, ⟨2, _⟩ => ⟨S4096x2048, .bf16⟩
  | .local _ .vmem, ⟨3, _⟩ => ⟨S1x704x2048, .bf16⟩
  | .local _ .vmem, ⟨4, _⟩ => ⟨S1x704x2048, .bf16⟩
  | _, _ => ⟨S8x704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x704x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== WgradReferenceIdeal.lean ====
abbrev S8x704x4096 : Shape := ⟨3, ![8, 704, 4096]⟩
abbrev S4096x2048 : Shape := ⟨2, ![4096, 2048]⟩
abbrev S5632x4096 : Shape := ⟨2, ![5632, 4096]⟩
abbrev S4096x5632 : Shape := ⟨2, ![4096, 5632]⟩
abbrev S_ : Shape := ⟨0, ![]⟩
abbrev S2048x5632 : Shape := ⟨2, ![2048, 5632]⟩
abbrev S5632x2048 : Shape := ⟨2, ![5632, 2048]⟩
abbrev S8x704x2048 : Shape := ⟨3, ![8, 704, 2048]⟩

abbrev nBuf : Space → Nat
  | .hbm => 14
  | .vmem => 0
  | .smem => 0
  | _ => 0

abbrev bufTy : (tb : Table) → Fin (tcTables nBuf tb) → BufTy
  | .hbm, ⟨0, _⟩ => ⟨S8x704x4096, .bf16⟩
  | .hbm, ⟨1, _⟩ => ⟨S4096x2048, .bf16⟩
  | .hbm, ⟨2, _⟩ => ⟨S4096x2048, .f32⟩
  | .hbm, ⟨3, _⟩ => ⟨S8x704x4096, .f32⟩
  | .hbm, ⟨4, _⟩ => ⟨S5632x4096, .f32⟩
  | .hbm, ⟨5, _⟩ => ⟨S4096x5632, .f32⟩
  | .hbm, ⟨6, _⟩ => ⟨S_, .f32⟩
  | .hbm, ⟨7, _⟩ => ⟨S2048x5632, .f32⟩
  | .hbm, ⟨8, _⟩ => ⟨S4096x5632, .f32⟩
  | .hbm, ⟨9, _⟩ => ⟨S5632x2048, .f32⟩
  | .hbm, ⟨10, _⟩ => ⟨S2048x5632, .f32⟩
  | .hbm, ⟨11, _⟩ => ⟨S5632x2048, .f32⟩
  | .hbm, ⟨12, _⟩ => ⟨S8x704x2048, .f32⟩
  | .hbm, ⟨13, _⟩ => ⟨S8x704x2048, .bf16⟩
  | _, _ => ⟨S8x704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Ffn.lean ====
abbrev S4096x2048 : Shape := ⟨2, ![4096, 2048]⟩
abbrev S8x2048x704 : Shape := ⟨3, ![8, 2048, 704]⟩
abbrev S8x704x2048 : Shape := ⟨3, ![8, 704, 2048]⟩
abbrev S8x4096x704 : Shape := ⟨3, ![8, 4096, 704]⟩
abbrev S8x704x4096 : Shape := ⟨3, ![8, 704, 4096]⟩
abbrev S512x2048 : Shape := ⟨2, ![512, 2048]⟩
abbrev S1x2048x704 : Shape := ⟨3, ![1, 2048, 704]⟩
abbrev S1x704x2048 : Shape := ⟨3, ![1, 704, 2048]⟩
abbrev S1x512x704 : Shape := ⟨3, ![1, 512, 704]⟩
abbrev S1x704x512 : Shape := ⟨3, ![1, 704, 512]⟩
abbrev S2048x704 : Shape := ⟨2, ![2048, 704]⟩
abbrev S512x704 : Shape := ⟨2, ![512, 704]⟩
abbrev S704x512 : Shape := ⟨2, ![704, 512]⟩
abbrev S704x2048 : Shape := ⟨2, ![704, 2048]⟩

abbrev nBuf : Space → Nat
  | .hbm => 8
  | .vmem => 17
  | .smem => 0
  | _ => 0

abbrev bufTy : (tb : Table) → Fin (tcTables nBuf tb) → BufTy
  | .hbm, ⟨0, _⟩ => ⟨S4096x2048, .bf16⟩
  | .hbm, ⟨1, _⟩ => ⟨S8x2048x704, .bf16⟩
  | .hbm, ⟨2, _⟩ => ⟨S8x2048x704, .bf16⟩
  | .hbm, ⟨3, _⟩ => ⟨S8x704x2048, .bf16⟩
  | .hbm, ⟨4, _⟩ => ⟨S8x4096x704, .bf16⟩
  | .hbm, ⟨5, _⟩ => ⟨S8x4096x704, .bf16⟩
  | .hbm, ⟨6, _⟩ => ⟨S8x704x4096, .bf16⟩
  | .hbm, ⟨7, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x2048x704, .bf16⟩
  | .local _ .vmem, ⟨5, _⟩ => ⟨S1x2048x704, .bf16⟩
  | .local _ .vmem, ⟨6, _⟩ => ⟨S1x704x2048, .bf16⟩
  | .local _ .vmem, ⟨7, _⟩ => ⟨S1x704x2048, .bf16⟩
  | .local _ .vmem, ⟨8, _⟩ => ⟨S1x512x704, .bf16⟩
  | .local _ .vmem, ⟨9, _⟩ => ⟨S1x512x704, .bf16⟩
  | .local _ .vmem, ⟨10, _⟩ => ⟨S1x512x704, .bf16⟩
  | .local _ .vmem, ⟨11, _⟩ => ⟨S1x512x704, .bf16⟩
  | .local _ .vmem, ⟨12, _⟩ => ⟨S1x704x512, .bf16⟩
  | .local _ .vmem, ⟨13, _⟩ => ⟨S1x704x512, .bf16⟩
  | .local _ .vmem, ⟨14, _⟩ => ⟨S512x2048, .f32⟩
  | .local _ .vmem, ⟨15, _⟩ => ⟨S512x2048, .f32⟩
  | .local _ .vmem, ⟨16, _⟩ => ⟨S512x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

def k0_cond3 (i : grid0.Coords) : BitVec 1 :=
  let arg1 : BitVec 32 := BitVec.ofNat 32 (i 1).val
  let c7_i32 : BitVec 32 := 7#32
  let v39 : BitVec 1 := Scalar.cmpi .eq arg1 c7_i32
  let v40 : BitVec 32 := Scalar.extui v39
  let c0_i32_27 : BitVec 32 := 0#32
  let v41 : BitVec 1 := Scalar.cmpi .ne v40 c0_i32_27
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x704x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x704x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== FfnReferenceIdeal.lean ====
abbrev S4096x2048 : Shape := ⟨2, ![4096, 2048]⟩
abbrev S8x2048x704 : Shape := ⟨3, ![8, 2048, 704]⟩
abbrev S8x704x2048 : Shape := ⟨3, ![8, 704, 2048]⟩
abbrev S2048x8x704 : Shape := ⟨3, ![2048, 8, 704]⟩
abbrev S2048x5632 : Shape := ⟨2, ![2048, 5632]⟩
abbrev S5632x2048 : Shape := ⟨2, ![5632, 2048]⟩
abbrev S4096x5632 : Shape := ⟨2, ![4096, 5632]⟩
abbrev S_ : Shape := ⟨0, ![]⟩
abbrev S4096x8x704 : Shape := ⟨3, ![4096, 8, 704]⟩
abbrev S8x4096x704 : Shape := ⟨3, ![8, 4096, 704]⟩
abbrev S5632x4096 : Shape := ⟨2, ![5632, 4096]⟩
abbrev S8x704x4096 : Shape := ⟨3, ![8, 704, 4096]⟩

abbrev nBuf : Space → Nat
  | .hbm => 35
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x704, .bf16⟩
  | .hbm, ⟨2, _⟩ => ⟨S8x2048x704, .bf16⟩
  | .hbm, ⟨3, _⟩ => ⟨S8x704x2048, .bf16⟩
  | .hbm, ⟨4, _⟩ => ⟨S4096x2048, .f32⟩
  | .hbm, ⟨5, _⟩ => ⟨S8x2048x704, .f32⟩
  | .hbm, ⟨6, _⟩ => ⟨S2048x8x704, .f32⟩
  | .hbm, ⟨7, _⟩ => ⟨S2048x5632, .f32⟩
  | .hbm, ⟨8, _⟩ => ⟨S8x2048x704, .f32⟩
  | .hbm, ⟨9, _⟩ => ⟨S2048x8x704, .f32⟩
  | .hbm, ⟨10, _⟩ => ⟨S2048x5632, .f32⟩
  | .hbm, ⟨11, _⟩ => ⟨S8x704x2048, .f32⟩
  | .hbm, ⟨12, _⟩ => ⟨S5632x2048, .f32⟩
  | .hbm, ⟨13, _⟩ => ⟨S4096x5632, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S_, .f32⟩
  | .hbm, ⟨18, _⟩ => ⟨S4096x5632, .f32⟩
  | .hbm, ⟨19, _⟩ => ⟨S4096x5632, .f32⟩
  | .hbm, ⟨20, _⟩ => ⟨S_, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x8x704, .f32⟩
  | .hbm, ⟨26, _⟩ => ⟨S8x4096x704, .f32⟩
  | .hbm, ⟨27, _⟩ => ⟨S8x4096x704, .bf16⟩
  | .hbm, ⟨28, _⟩ => ⟨S4096x8x704, .f32⟩
  | .hbm, ⟨29, _⟩ => ⟨S8x4096x704, .f32⟩
  | .hbm, ⟨30, _⟩ => ⟨S8x4096x704, .bf16⟩
  | .hbm, ⟨31, _⟩ => ⟨S5632x4096, .f32⟩
  | .hbm, ⟨32, _⟩ => ⟨S8x704x4096, .f32⟩
  | .hbm, ⟨33, _⟩ => ⟨S8x704x4096, .bf16⟩
  | .hbm, ⟨34, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]
-- ==== Attn.lean ====
abbrev S4096x3328 : Shape := ⟨2, ![4096, 3328]⟩
abbrev S1x16 : Shape := ⟨2, ![1, 16]⟩
abbrev S4096x2048 : Shape := ⟨2, ![4096, 2048]⟩
abbrev S8 : Shape := ⟨1, ![8]⟩
abbrev S_ : Shape := ⟨0, ![]⟩
abbrev S4096 : Shape := ⟨1, ![4096]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S4096x56 : Shape := ⟨2, ![4096, 56]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S4096x384 : Shape := ⟨2, ![4096, 384]⟩
abbrev S4096x1024 : Shape := ⟨2, ![4096, 1024]⟩
abbrev S32x256x256 : Shape := ⟨3, ![32, 256, 256]⟩
abbrev S1x128 : Shape := ⟨2, ![1, 128]⟩
abbrev S128x1024 : Shape := ⟨2, ![128, 1024]⟩
abbrev S128x128 : Shape := ⟨2, ![128, 128]⟩
abbrev S128x384 : Shape := ⟨2, ![128, 384]⟩
abbrev S1x256x256 : Shape := ⟨3, ![1, 256, 256]⟩
abbrev S256x128 : Shape := ⟨2, ![256, 128]⟩
abbrev S128x256 : Shape := ⟨2, ![128, 256]⟩
abbrev S256x64 : Shape := ⟨2, ![256, 64]⟩
abbrev S64x256 : Shape := ⟨2, ![64, 256]⟩
abbrev S128x64 : Shape := ⟨2, ![128, 64]⟩
abbrev S1x1 : Shape := ⟨2, ![1, 1]⟩
abbrev S128 : Shape := ⟨1, ![128]⟩
abbrev S128x1 : Shape := ⟨2, ![128, 1]⟩
abbrev S1 : Shape := ⟨1, ![1]⟩
abbrev S256x256 : Shape := ⟨2, ![256, 256]⟩

abbrev nBuf : Space → Nat
  | .hbm => 47
  | .vmem => 21
  | .smem => 1
  | _ => 0

abbrev bufTy : (tb : Table) → Fin (tcTables nBuf tb) → BufTy
  | .hbm, ⟨0, _⟩ => ⟨S4096x3328, .f32⟩
  | .hbm, ⟨1, _⟩ => ⟨S1x16, .f32⟩
  | .hbm, ⟨2, _⟩ => ⟨S4096x2048, .bf16⟩
  | .hbm, ⟨3, _⟩ => ⟨S8, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S4096, .f32⟩
  | .hbm, ⟨15, _⟩ => ⟨S4096x1, .f32⟩
  | .hbm, ⟨16, _⟩ => ⟨S1x8, .f32⟩
  | .hbm, ⟨17, _⟩ => ⟨S4096x8, .f32⟩
  | .hbm, ⟨18, _⟩ => ⟨S4096x8, .f32⟩
  | .hbm, ⟨19, _⟩ => ⟨S4096x8, .f32⟩
  | .hbm, ⟨20, _⟩ => ⟨S4096x8, .f32⟩
  | .hbm, ⟨21, _⟩ => ⟨S4096x8, .f32⟩
  | .hbm, ⟨22, _⟩ => ⟨S_, .f32⟩
  | .hbm, ⟨23, _⟩ => ⟨S4096x48, .f32⟩
  | .hbm, ⟨24, _⟩ => ⟨S4096x64, .f32⟩
  | .hbm, ⟨25, _⟩ => ⟨S4096x8, .f32⟩
  | .hbm, ⟨26, _⟩ => ⟨S_, .f32⟩
  | .hbm, ⟨27, _⟩ => ⟨S4096x56, .f32⟩
  | .hbm, ⟨28, _⟩ => ⟨S4096x64, .f32⟩
  | .hbm, ⟨29, _⟩ => ⟨S_, .f32⟩
  | .hbm, ⟨30, _⟩ => ⟨S4096x8, .f32⟩
  | .hbm, ⟨31, _⟩ => ⟨S_, .f32⟩
  | .hbm, ⟨32, _⟩ => ⟨S4096x48, .f32⟩
  | .hbm, ⟨33, _⟩ => ⟨S4096x64, .f32⟩
  | .hbm, ⟨34, _⟩ => ⟨S1x4096x1x64, .f32⟩
  | .hbm, ⟨35, _⟩ => ⟨S1x4096x2x64, .f32⟩
  | .hbm, ⟨36, _⟩ => ⟨S4096x128, .f32⟩
  | .hbm, ⟨37, _⟩ => ⟨S1x4096x1x64, .f32⟩
  | .hbm, ⟨38, _⟩ => ⟨S1x4096x2x64, .f32⟩
  | .hbm, ⟨39, _⟩ => ⟨S4096x128, .f32⟩
  | .hbm, ⟨40, _⟩ => ⟨S1x4096x1x64, .f32⟩
  | .hbm, ⟨41, _⟩ => ⟨S1x4096x2x64, .f32⟩
  | .hbm, ⟨42, _⟩ => ⟨S4096x128, .f32⟩
  | .hbm, ⟨43, _⟩ => ⟨S4096x384, .f32⟩
  | .hbm, ⟨44, _⟩ => ⟨S4096x1024, .bf16⟩
  | .hbm, ⟨45, _⟩ => ⟨S32x256x256, .f32⟩
  | .hbm, ⟨46, _⟩ => ⟨S1x128, .f32⟩
  | .local _ .vmem, ⟨0, _⟩ => ⟨S128x1024, .f32⟩
  | .local _ .vmem, ⟨1, _⟩ => ⟨S128x1024, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x384, .f32⟩
  | .local _ .vmem, ⟨11, _⟩ => ⟨S128x384, .f32⟩
  | .local _ .vmem, ⟨12, _⟩ => ⟨S128x384, .f32⟩
  | .local _ .vmem, ⟨13, _⟩ => ⟨S128x384, .f32⟩
  | .local _ .vmem, ⟨14, _⟩ => ⟨S128x1024, .bf16⟩
  | .local _ .vmem, ⟨15, _⟩ => ⟨S128x1024, .bf16⟩
  | .local _ .vmem, ⟨16, _⟩ => ⟨S128x1024, .bf16⟩
  | .local _ .vmem, ⟨17, _⟩ => ⟨S128x1024, .bf16⟩
  | .local _ .vmem, ⟨18, _⟩ => ⟨S1x256x256, .f32⟩
  | .local _ .vmem, ⟨19, _⟩ => ⟨S1x256x256, .f32⟩
  | .local _ .vmem, ⟨20, _⟩ => ⟨S1x128, .f32⟩
  | .local _ .smem, ⟨0, _⟩ => ⟨S1x16, .f32⟩
  | _, _ => ⟨S4096x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34_0 : Ref sig .tc := ⟨.hbm, 44, rfl⟩
abbrev main_v34_1 : Ref sig .tc := ⟨.hbm, 45, rfl⟩
abbrev main_v34_2 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg7_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c24_i32 : BitVec 32 := 24#32
  let c0_i32 : BitVec 32 := 0#32
  ![arg0.toNat, c24_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c24_i32 : BitVec 32 := 24#32
  let c0_i32_0 : BitVec 32 := 0#32
  ![v1.toNat, c24_i32.toNat]

def cc0_transform_3 (i : grid0.Coords) : Fin 2 → Nat :=
  let arg0 : BitVec 32 := BitVec.ofNat 32 (i 0).val
  let c25_i32 : BitVec 32 := 25#32
  let c0_i32 : BitVec 32 := 0#32
  ![arg0.toNat, c25_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c25_i32 : BitVec 32 := 25#32
  let c0_i32_0 : BitVec 32 := 0#32
  ![v1.toNat, c25_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .smem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== AttnIdeal.lean ====
variable {F : FTy → Type} [FloatOps F] [Named F]
def κ : String → Option EReal := fun
  | "mask" => some ⊥
  | _ => none
-- ==== AttnReferenceIdeal.lean ====
abbrev S4096x3328 : Shape := ⟨2, ![4096, 3328]⟩
abbrev S1x16 : Shape := ⟨2, ![1, 16]⟩
abbrev S4096x2048 : Shape := ⟨2, ![4096, 2048]⟩
abbrev S4096x1024 : Shape := ⟨2, ![4096, 1024]⟩
abbrev S4096x128 : Shape := ⟨2, ![4096, 128]⟩
abbrev S_ : Shape := ⟨0, ![]⟩
abbrev S4224x128 : Shape := ⟨2, ![4224, 128]⟩
abbrev S33x128x128 : Shape := ⟨3, ![33, 128, 128]⟩
abbrev S32x128x128 : Shape := ⟨3, ![32, 128, 128]⟩
abbrev S32x256x128 : Shape := ⟨3, ![32, 256, 128]⟩
abbrev S8 : Shape := ⟨1, ![8]⟩
abbrev S4096 : Shape := ⟨1, ![4096]⟩
abbrev S4096x1 : Shape := ⟨2, ![4096, 1]⟩
abbrev S1x8 : Shape := ⟨2, ![1, 8]⟩
abbrev S4096x8 : Shape := ⟨2, ![4096, 8]⟩
abbrev S4096x1x8 : Shape := ⟨3, ![4096, 1, 8]⟩
abbrev S4096x16x64 : Shape := ⟨3, ![4096, 16, 64]⟩
abbrev S4096x16x8 : Shape := ⟨3, ![4096, 16, 8]⟩
abbrev S4096x16x48 : Shape := ⟨3, ![4096, 16, 48]⟩
abbrev S32x256x2x64 : Shape := ⟨4, ![32, 256, 2, 64]⟩
abbrev S4224x1x8 : Shape := ⟨3, ![4224, 1, 8]⟩
abbrev S33x128x1x8 : Shape := ⟨4, ![33, 128, 1, 8]⟩
abbrev S32x128x1x8 : Shape := ⟨4, ![32, 128, 1, 8]⟩
abbrev S32x256x1x8 : Shape := ⟨4, ![32, 256, 1, 8]⟩
abbrev S32x256x2x8 : Shape := ⟨4, ![32, 256, 2, 8]⟩
abbrev S32x256x2x48 : Shape := ⟨4, ![32, 256, 2, 48]⟩
abbrev S32x128x2x8x64 : Shape := ⟨5, ![32, 128, 2, 8, 64]⟩
abbrev S32x2x256x128x8 : Shape := ⟨5, ![32, 2, 256, 128, 8]⟩
abbrev S32x2x8x128x256 : Shape := ⟨5, ![32, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S32x1x1x128x256 : Shape := ⟨5, ![32, 1, 1, 128, 256]⟩
abbrev S2x8 : Shape := ⟨2, ![2, 8]⟩
abbrev S1x2x8x1x1 : Shape := ⟨5, ![1, 2, 8, 1, 1]⟩
abbrev S32x2x8x128x1 : Shape := ⟨5, ![32, 2, 8, 128, 1]⟩
abbrev S32x2x8x128x257 : Shape := ⟨5, ![32, 2, 8, 128, 257]⟩
abbrev S32x2x8x128 : Shape := ⟨4, ![32, 2, 8, 128]⟩
abbrev S32x2x64x8x128 : Shape := ⟨5, ![32, 2, 64, 8, 128]⟩
abbrev S32x2x64x256 : Shape := ⟨4, ![32, 2, 64, 256]⟩
abbrev S32x2x128x8x64 : Shape := ⟨5, ![32, 2, 128, 8, 64]⟩
abbrev S32x2x256x64 : Shape := ⟨4, ![32, 2, 256, 64]⟩
abbrev S32x256x256 : Shape := ⟨3, ![32, 256, 256]⟩
abbrev S1x112 : Shape := ⟨2, ![1, 112]⟩
abbrev S1x128 : Shape := ⟨2, ![1, 128]⟩

abbrev nBuf : Space → Nat
  | .hbm => 274
  | .vmem => 0
  | .smem => 0
  | _ => 0

abbrev hbmTy0_0 (i : Nat) : BufTy := match i % 128 with
  | 0 => ⟨S4096x3328, .f32⟩
  | 1 => ⟨S1x16, .f32⟩
  | 2 => ⟨S4096x2048, .bf16⟩
  | 3 => ⟨S4096x1024, .bf16⟩
  | 4 => ⟨S4096x1024, .f32⟩
  | 5 => ⟨S4096x1024, .f32⟩
  | 6 => ⟨S4096x128, .f32⟩
  | 7 => ⟨S4096x128, .f32⟩
  | 8 => ⟨S_, .i32⟩
  | 9 => ⟨S_, .f32⟩
  | 10 => ⟨S4224x128, .f32⟩
  | 11 => ⟨S33x128x128, .f32⟩
  | 12 => ⟨S32x128x128, .f32⟩
  | 13 => ⟨S32x128x128, .f32⟩
  | 14 => ⟨S32x256x128, .f32⟩
  | 15 => ⟨S_, .i32⟩
  | 16 => ⟨S_, .f32⟩
  | 17 => ⟨S4224x128, .f32⟩
  | 18 => ⟨S33x128x128, .f32⟩
  | 19 => ⟨S32x128x128, .f32⟩
  | 20 => ⟨S32x128x128, .f32⟩
  | 21 => ⟨S32x256x128, .f32⟩
  | 22 => ⟨S8, .f32⟩
  | 23 => ⟨S8, .f32⟩
  | 24 => ⟨S_, .f32⟩
  | 25 => ⟨S8, .f32⟩
  | 26 => ⟨S8, .f32⟩
  | 27 => ⟨S_, .f32⟩
  | 28 => ⟨S8, .f32⟩
  | 29 => ⟨S8, .f32⟩
  | 30 => ⟨S_, .f32⟩
  | 31 => ⟨S8, .f32⟩
  | 32 => ⟨S8, .f32⟩
  | 33 => ⟨S4096, .f32⟩
  | 34 => ⟨S4096x1, .f32⟩
  | 35 => ⟨S1x8, .f32⟩
  | 36 => ⟨S4096x8, .f32⟩
  | 37 => ⟨S4096x8, .f32⟩
  | 38 => ⟨S4096x8, .f32⟩
  | 39 => ⟨S4096x8, .f32⟩
  | 40 => ⟨S4096x1x8, .f32⟩
  | 41 => ⟨S4096x8, .f32⟩
  | 42 => ⟨S4096x1x8, .f32⟩
  | 43 => ⟨S4096x16x64, .f32⟩
  | 44 => ⟨S4096x16x8, .f32⟩
  | 45 => ⟨S4096x16x8, .f32⟩
  | 46 => ⟨S4096x16x8, .f32⟩
  | 47 => ⟨S4096x16x8, .f32⟩
  | 48 => ⟨S4096x16x8, .f32⟩
  | 49 => ⟨S4096x16x8, .f32⟩
  | 50 => ⟨S4096x16x8, .f32⟩
  | 51 => ⟨S4096x16x8, .f32⟩
  | 52 => ⟨S4096x16x8, .f32⟩
  | 53 => ⟨S4096x16x8, .f32⟩
  | 54 => ⟨S4096x16x8, .f32⟩
  | 55 => ⟨S4096x16x8, .f32⟩
  | 56 => ⟨S4096x16x48, .f32⟩
  | 57 => ⟨S4096x16x64, .f32⟩
  | 58 => ⟨S32x256x2x64, .f32⟩
  | 59 => ⟨S_, .i32⟩
  | 60 => ⟨S_, .f32⟩
  | 61 => ⟨S4224x1x8, .f32⟩
  | 62 => ⟨S33x128x1x8, .f32⟩
  | 63 => ⟨S32x128x1x8, .f32⟩
  | 64 => ⟨S32x128x1x8, .f32⟩
  | 65 => ⟨S32x256x1x8, .f32⟩
  | 66 => ⟨S_, .i32⟩
  | 67 => ⟨S_, .f32⟩
  | 68 => ⟨S4224x1x8, .f32⟩
  | 69 => ⟨S33x128x1x8, .f32⟩
  | 70 => ⟨S32x128x1x8, .f32⟩
  | 71 => ⟨S32x128x1x8, .f32⟩
  | 72 => ⟨S32x256x1x8, .f32⟩
  | 73 => ⟨S32x256x2x8, .f32⟩
  | 74 => ⟨S32x256x2x8, .f32⟩
  | 75 => ⟨S32x256x2x8, .f32⟩
  | 76 => ⟨S32x256x2x8, .f32⟩
  | 77 => ⟨S32x256x2x8, .f32⟩
  | 78 => ⟨S32x256x2x8, .f32⟩
  | 79 => ⟨S32x256x2x8, .f32⟩
  | 80 => ⟨S32x256x2x8, .f32⟩
  | 81 => ⟨S32x256x2x8, .f32⟩
  | 82 => ⟨S32x256x2x8, .f32⟩
  | 83 => ⟨S32x256x2x8, .f32⟩
  | 84 => ⟨S32x256x2x8, .f32⟩
  | 85 => ⟨S32x256x2x48, .f32⟩
  | 86 => ⟨S32x256x2x64, .f32⟩
  | 87 => ⟨S32x256x2x64, .f32⟩
  | 88 => ⟨S32x128x2x8x64, .f32⟩
  | 89 => ⟨S32x2x256x128x8, .f32⟩
  | 90 => ⟨S32x2x8x128x256, .f32⟩
  | 91 => ⟨S_, .f32⟩
  | 92 => ⟨S32x2x8x128x256, .f32⟩
  | 93 => ⟨S32x2x8x128x256, .f32⟩
  | 94 => ⟨S128, .i32⟩
  | 95 => ⟨S128x1, .i32⟩
  | 96 => ⟨S256, .i32⟩
  | 97 => ⟨S1x256, .i32⟩
  | 98 => ⟨S_, .i32⟩
  | 99 => ⟨S128x1, .i32⟩
  | 100 => ⟨S128x1, .i32⟩
  | 101 => ⟨S128x256, .i32⟩
  | 102 => ⟨S128x256, .i32⟩
  | 103 => ⟨S128x256, .i32⟩
  | 104 => ⟨S_, .i32⟩
  | 105 => ⟨S128x256, .i32⟩
  | 106 => ⟨S128x256, .i1⟩
  | 107 => ⟨S_, .i32⟩
  | 108 => ⟨S128x256, .i32⟩
  | 109 => ⟨S128x256, .i1⟩
  | 110 => ⟨S128x256, .i1⟩
  | 111 => ⟨S32, .i32⟩
  | 112 => ⟨S32x1x1, .i32⟩
  | 113 => ⟨S_, .i32⟩
  | 114 => ⟨S32x1x1, .i32⟩
  | 115 => ⟨S32x1x1, .i1⟩
  | 116 => ⟨S_, .i32⟩
  | 117 => ⟨S1x256, .i32⟩
  | 118 => ⟨S1x256, .i1⟩
  | 119 => ⟨S1x1x256, .i1⟩
  | 120 => ⟨S32x1x256, .i1⟩
  | 121 => ⟨S32x1x256, .i1⟩
  | 122 => ⟨S32x1x256, .i1⟩
  | 123 => ⟨S1x128x256, .i1⟩
  | 124 => ⟨S32x128x256, .i1⟩
  | 125 => ⟨S32x128x256, .i1⟩
  | 126 => ⟨S32x128x256, .i1⟩
  | 127 => ⟨S32x1x1x128x256, .i1⟩
  | _ => ⟨S4096x3328, .f32⟩

abbrev hbmTy0_1 (i : Nat) : BufTy := match i % 128 with
  | 0 => ⟨S_, .f32⟩
  | 1 => ⟨S_, .f32⟩
  | 2 => ⟨S32x2x8x128x256, .i1⟩
  | 3 => ⟨S32x2x8x128x256, .f32⟩
  | 4 => ⟨S32x2x8x128x256, .f32⟩
  | 5 => ⟨S_, .f32⟩
  | 6 => ⟨S32x2x8x128x256, .f32⟩
  | 7 => ⟨S2x8, .f32⟩
  | 8 => ⟨S1x2x8x1x1, .f32⟩
  | 9 => ⟨S32x2x8x128x1, .f32⟩
  | 10 => ⟨S32x2x8x128x257, .f32⟩
  | 11 => ⟨S_, .f32⟩
  | 12 => ⟨S32x2x8x128, .f32⟩
  | 13 => ⟨S32x2x8x128x1, .f32⟩
  | 14 => ⟨S32x2x8x128x257, .f32⟩
  | 15 => ⟨S32x2x8x128x257, .i1⟩
  | 16 => ⟨S32x2x8x128x257, .f32⟩
  | 17 => ⟨S_, .f32⟩
  | 18 => ⟨S32x2x8x128, .f32⟩
  | 19 => ⟨S_, .f32⟩
  | 20 => ⟨S32x2x8x128, .f32⟩
  | 21 => ⟨S32x2x8x128, .f32⟩
  | 22 => ⟨S_, .f32⟩
  | 23 => ⟨S32x2x8x128, .f32⟩
  | 24 => ⟨S32x2x8x128, .i1⟩
  | 25 => ⟨S_, .f32⟩
  | 26 => ⟨S32x2x8x128, .f32⟩
  | 27 => ⟨S32x2x8x128, .i1⟩
  | 28 => ⟨S_, .f32⟩
  | 29 => ⟨S32x2x8x128, .f32⟩
  | 30 => ⟨S_, .f32⟩
  | 31 => ⟨S32x2x8x128, .f32⟩
  | 32 => ⟨S_, .f32⟩
  | 33 => ⟨S32x2x8x128, .f32⟩
  | 34 => ⟨S32x2x8x128, .f32⟩
  | 35 => ⟨S32x2x8x128, .f32⟩
  | 36 => ⟨S32x2x8x128x1, .f32⟩
  | 37 => ⟨S32x2x8x128x257, .f32⟩
  | 38 => ⟨S32x2x8x128x257, .f32⟩
  | 39 => ⟨S32x2x8x128x257, .f32⟩
  | 40 => ⟨S_, .f32⟩
  | 41 => ⟨S32x2x8x128, .f32⟩
  | 42 => ⟨S32x2x8x128x1, .f32⟩
  | 43 => ⟨S32x2x8x128x257, .f32⟩
  | 44 => ⟨S32x2x8x128x257, .f32⟩
  | 45 => ⟨S32x2x8x128x1, .f32⟩
  | 46 => ⟨S_, .f32⟩
  | 47 => ⟨S32x2x8x128x1, .f32⟩
  | 48 => ⟨S32x2x8x128x1, .f32⟩
  | 49 => ⟨S32x2x8x128x256, .f32⟩
  | 50 => ⟨S32x2x64x8x128, .f32⟩
  | 51 => ⟨S32x128x2x8x64, .f32⟩
  | 52 => ⟨S4096x1024, .f32⟩
  | 53 => ⟨S32x128x2x8x64, .f32⟩
  | 54 => ⟨S32x2x64x8x128, .f32⟩
  | 55 => ⟨S32x2x8x128x256, .f32⟩
  | 56 => ⟨S32x2x64x256, .f32⟩
  | 57 => ⟨S32x256x2x64, .f32⟩
  | 58 => ⟨S_, .f32⟩
  | 59 => ⟨S32x2x8x128x257, .f32⟩
  | 60 => ⟨S32x2x8x128x257, .f32⟩
  | 61 => ⟨S32x2x8x128x257, .f32⟩
  | 62 => ⟨S32x2x8x128x257, .f32⟩
  | 63 => ⟨S_, .f32⟩
  | 64 => ⟨S32x2x8x128, .f32⟩
  | 65 => ⟨S32x2x8x128x1, .f32⟩
  | 66 => ⟨S32x2x8x128x1, .f32⟩
  | 67 => ⟨S32x2x8x128x257, .f32⟩
  | 68 => ⟨S32x2x8x128x257, .f32⟩
  | 69 => ⟨S_, .f32⟩
  | 70 => ⟨S32x2x8x128, .f32⟩
  | 71 => ⟨S32x2x8x128x257, .f32⟩
  | 72 => ⟨S32x2x8x128x257, .f32⟩
  | 73 => ⟨S32x2x8x128x257, .f32⟩
  | 74 => ⟨S32x2x8x128x256, .f32⟩
  | 75 => ⟨S32x2x8x128x1, .f32⟩
  | 76 => ⟨S_, .f32⟩
  | 77 => ⟨S2x8, .f32⟩
  | 78 => ⟨S1x2x8x1x1, .f32⟩
  | 79 => ⟨S_, .f32⟩
  | 80 => ⟨S2x8, .f32⟩
  | 81 => ⟨S1x16, .f32⟩
  | 82 => ⟨S_, .f32⟩
  | 83 => ⟨S32x2x8x128x256, .f32⟩
  | 84 => ⟨S32x2x8x128x256, .f32⟩
  | 85 => ⟨S_, .f32⟩
  | 86 => ⟨S32x2x8x128x256, .f32⟩
  | 87 => ⟨S32x2x8x128x256, .f32⟩
  | 88 => ⟨S32x2x256x128x8, .f32⟩
  | 89 => ⟨S32x2x128x8x64, .f32⟩
  | 90 => ⟨S32x128x2x8x64, .f32⟩
  | 91 => ⟨S32x2x256x64, .f32⟩
  | 92 => ⟨S32x256x2x64, .f32⟩
  | 93 => ⟨S4096x16x64, .f32⟩
  | 94 => ⟨S32x256x128, .f32⟩
  | 95 => ⟨S32x256x2x8, .f32⟩
  | 96 => ⟨S32x256x2x8, .f32⟩
  | 97 => ⟨S32x256x2x48, .f32⟩
  | 98 => ⟨S_, .f32⟩
  | 99 => ⟨S32x256x2x64, .f32⟩
  | 100 => ⟨S32x256x2x8, .f32⟩
  | 101 => ⟨S32x256x2x8, .f32⟩
  | 102 => ⟨S32x256x2x8, .f32⟩
  | 103 => ⟨S32x256x2x8, .f32⟩
  | 104 => ⟨S32x256x2x8, .f32⟩
  | 105 => ⟨S32x256x2x8, .f32⟩
  | 106 => ⟨S32x256x2x8, .f32⟩
  | 107 => ⟨S32x256x2x8, .f32⟩
  | 108 => ⟨S32x256x2x8, .f32⟩
  | 109 => ⟨S32x256x2x8, .f32⟩
  | 110 => ⟨S32x256x2x8, .f32⟩
  | 111 => ⟨S_, .f32⟩
  | 112 => ⟨S32x256x2x64, .f32⟩
  | 113 => ⟨S32x256x2x64, .f32⟩
  | 114 => ⟨S_, .f32⟩
  | 115 => ⟨S32x256x2x64, .f32⟩
  | 116 => ⟨S32x256x2x64, .f32⟩
  | 117 => ⟨S32x256x128, .f32⟩
  | 118 => ⟨S4096x16x8, .f32⟩
  | 119 => ⟨S4096x16x8, .f32⟩
  | 120 => ⟨S4096x16x48, .f32⟩
  | 121 => ⟨S_, .f32⟩
  | 122 => ⟨S4096x16x64, .f32⟩
  | 123 => ⟨S4096x16x8, .f32⟩
  | 124 => ⟨S4096x16x8, .f32⟩
  | 125 => ⟨S4096x16x8, .f32⟩
  | 126 => ⟨S4096x16x8, .f32⟩
  | 127 => ⟨S4096x16x8, .f32⟩
  | _ => ⟨S4096x3328, .f32⟩

abbrev hbmTy0_2 (i : Nat) : BufTy := match i % 128 with
  | 0 => ⟨S4096x16x8, .f32⟩
  | 1 => ⟨S4096x16x8, .f32⟩
  | 2 => ⟨S4096x16x8, .f32⟩
  | 3 => ⟨S4096x16x8, .f32⟩
  | 4 => ⟨S4096x16x8, .f32⟩
  | 5 => ⟨S4096x16x8, .f32⟩
  | 6 => ⟨S_, .f32⟩
  | 7 => ⟨S4096x16x64, .f32⟩
  | 8 => ⟨S4096x16x64, .f32⟩
  | 9 => ⟨S_, .f32⟩
  | 10 => ⟨S4096x16x64, .f32⟩
  | 11 => ⟨S4096x16x64, .f32⟩
  | 12 => ⟨S4096x1024, .f32⟩
  | 13 => ⟨S4096x1024, .bf16⟩
  | 14 => ⟨S32x256x256, .f32⟩
  | 15 => ⟨S_, .f32⟩
  | 16 => ⟨S1x112, .f32⟩
  | 17 => ⟨S1x128, .f32⟩
  | _ => ⟨S4096x3328, .f32⟩

abbrev hbmTy (i : Nat) : BufTy := match i / 128 with
  | 0 => hbmTy0_0 i
  | 1 => hbmTy0_1 i
  | 2 => hbmTy0_2 i
  | _ => ⟨S4096x3328, .f32⟩

abbrev bufTy : (tb : Table) → Fin (tcTables nBuf tb) → BufTy
  | .hbm, ⟨i, _⟩ => hbmTy i
  | _, _ => ⟨S4096x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_call1_v0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_c_3 : Ref sig .tc := ⟨.hbm, 59, rfl⟩
abbrev main_call2_v0 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_c_4 : Ref sig .tc := ⟨.hbm, 66, rfl⟩
abbrev main_call3_v0 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_cst_5 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_c_6 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_c_7 : Ref sig .tc := ⟨.hbm, 104, rfl⟩
abbrev main_v88 : Ref sig .tc := ⟨.hbm, 105, rfl⟩
abbrev main_v89 : Ref sig .tc := ⟨.hbm, 106, rfl⟩
abbrev main_c_8 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_c_9 : Ref sig .tc := ⟨.hbm, 113, rfl⟩
abbrev main_v95 : Ref sig .tc := ⟨.hbm, 114, rfl⟩
abbrev main_v96 : Ref sig .tc := ⟨.hbm, 115, rfl⟩
abbrev main_c_10 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_cst_11 : Ref sig .tc := ⟨.hbm, 128, rfl⟩
abbrev main_call4_v0 : Ref sig .tc := ⟨.hbm, 129, rfl⟩
abbrev main_v108_1 : Ref sig .tc := ⟨.hbm, 130, rfl⟩
abbrev main_call4_v2 : Ref sig .tc := ⟨.hbm, 131, rfl⟩
abbrev main_v108_0 : Ref sig .tc := ⟨.hbm, 132, rfl⟩
abbrev main_call4_cst : Ref sig .tc := ⟨.hbm, 133, rfl⟩
abbrev main_v108_2 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_cst_12 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_cst_13 : Ref sig .tc := ⟨.hbm, 145, rfl⟩
abbrev main_v118 : Ref sig .tc := ⟨.hbm, 146, rfl⟩
abbrev main_cst_14 : Ref sig .tc := ⟨.hbm, 147, rfl⟩
abbrev main_v119 : Ref sig .tc := ⟨.hbm, 148, rfl⟩
abbrev main_v120 : Ref sig .tc := ⟨.hbm, 149, rfl⟩
abbrev main_cst_15 : Ref sig .tc := ⟨.hbm, 150, rfl⟩
abbrev main_v121 : Ref sig .tc := ⟨.hbm, 151, rfl⟩
abbrev main_v122 : Ref sig .tc := ⟨.hbm, 152, rfl⟩
abbrev main_cst_16 : Ref sig .tc := ⟨.hbm, 153, rfl⟩
abbrev main_v123 : Ref sig .tc := ⟨.hbm, 154, rfl⟩
abbrev main_v124 : Ref sig .tc := ⟨.hbm, 155, rfl⟩
abbrev main_cst_17 : Ref sig .tc := ⟨.hbm, 156, rfl⟩
abbrev main_v125 : Ref sig .tc := ⟨.hbm, 157, rfl⟩
abbrev main_cst_18 : Ref sig .tc := ⟨.hbm, 158, rfl⟩
abbrev main_v126 : Ref sig .tc := ⟨.hbm, 159, rfl⟩
abbrev main_cst_19 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_cst_20 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_cst_21 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_cst_22 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_cst_23 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_cst_24 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_cst_25 : Ref sig .tc := ⟨.hbm, 204, rfl⟩
abbrev main_v165 : Ref sig .tc := ⟨.hbm, 205, rfl⟩
abbrev main_v166 : Ref sig .tc := ⟨.hbm, 206, rfl⟩
abbrev main_cst_26 : Ref sig .tc := ⟨.hbm, 207, rfl⟩
abbrev main_v167 : Ref sig .tc := ⟨.hbm, 208, rfl⟩
abbrev main_v168 : Ref sig .tc := ⟨.hbm, 209, rfl⟩
abbrev main_call5_cst : Ref sig .tc := ⟨.hbm, 210, rfl⟩
abbrev main_call5_v0 : Ref sig .tc := ⟨.hbm, 211, rfl⟩
abbrev main_v169 : Ref sig .tc := ⟨.hbm, 212, rfl⟩
abbrev main_cst_27 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_cst_28 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_cst_29 : Ref sig .tc := ⟨.hbm, 239, rfl⟩
abbrev main_v194 : Ref sig .tc := ⟨.hbm, 240, rfl⟩
abbrev main_v195 : Ref sig .tc := ⟨.hbm, 241, rfl⟩
abbrev main_cst_30 : Ref sig .tc := ⟨.hbm, 242, rfl⟩
abbrev main_v196 : Ref sig .tc := ⟨.hbm, 243, rfl⟩
abbrev main_v197 : Ref sig .tc := ⟨.hbm, 244, rfl⟩
abbrev main_v198 : Ref sig .tc := ⟨.hbm, 245, rfl⟩
abbrev main_v199 : Ref sig .tc := ⟨.hbm, 246, rfl⟩
abbrev main_v200 : Ref sig .tc := ⟨.hbm, 247, rfl⟩
abbrev main_v201 : Ref sig .tc := ⟨.hbm, 248, rfl⟩
abbrev main_cst_31 : Ref sig .tc := ⟨.hbm, 249, rfl⟩
abbrev main_v202 : Ref sig .tc := ⟨.hbm, 250, rfl⟩
abbrev main_v203 : Ref sig .tc := ⟨.hbm, 251, rfl⟩
abbrev main_v204 : Ref sig .tc := ⟨.hbm, 252, rfl⟩
abbrev main_v205 : Ref sig .tc := ⟨.hbm, 253, rfl⟩
abbrev main_v206 : Ref sig .tc := ⟨.hbm, 254, rfl⟩
abbrev main_v207 : Ref sig .tc := ⟨.hbm, 255, rfl⟩
abbrev main_v208 : Ref sig .tc := ⟨.hbm, 256, rfl⟩
abbrev main_v209 : Ref sig .tc := ⟨.hbm, 257, rfl⟩
abbrev main_v210 : Ref sig .tc := ⟨.hbm, 258, rfl⟩
abbrev main_v211 : Ref sig .tc := ⟨.hbm, 259, rfl⟩
abbrev main_v212 : Ref sig .tc := ⟨.hbm, 260, rfl⟩
abbrev main_v213 : Ref sig .tc := ⟨.hbm, 261, rfl⟩
abbrev main_cst_32 : Ref sig .tc := ⟨.hbm, 262, rfl⟩
abbrev main_v214 : Ref sig .tc := ⟨.hbm, 263, rfl⟩
abbrev main_v215 : Ref sig .tc := ⟨.hbm, 264, rfl⟩
abbrev main_cst_33 : Ref sig .tc := ⟨.hbm, 265, rfl⟩
abbrev main_v216 : Ref sig .tc := ⟨.hbm, 266, rfl⟩
abbrev main_v217 : Ref sig .tc := ⟨.hbm, 267, rfl⟩
abbrev main_v218 : Ref sig .tc := ⟨.hbm, 268, rfl⟩
abbrev main_v219 : Ref sig .tc := ⟨.hbm, 269, rfl⟩
abbrev main_v220 : Ref sig .tc := ⟨.hbm, 270, rfl⟩
abbrev main_cst_34 : Ref sig .tc := ⟨.hbm, 271, rfl⟩
abbrev main_v221 : Ref sig .tc := ⟨.hbm, 272, rfl⟩
abbrev main_v222 : Ref sig .tc := ⟨.hbm, 273, rfl⟩

abbrev nD : Nat := 1
abbrev τ : Topo := Topo.v7x

variable {F : FTy → Type} [FloatOps F]
-- ==== ProjDx.lean ====
abbrev S4096x3328 : Shape := ⟨2, ![4096, 3328]⟩
abbrev S2048x3328 : Shape := ⟨2, ![2048, 3328]⟩
abbrev S4096x2048 : Shape := ⟨2, ![4096, 2048]⟩
abbrev S512x3328 : Shape := ⟨2, ![512, 3328]⟩
abbrev S1024x3328 : Shape := ⟨2, ![1024, 3328]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x3328, .bf16⟩
  | .hbm, ⟨1, _⟩ => ⟨S2048x3328, .bf16⟩
  | .hbm, ⟨2, _⟩ => ⟨S4096x2048, .f32⟩
  | .local _ .vmem, ⟨0, _⟩ => ⟨S512x3328, .bf16⟩
  | .local _ .vmem, ⟨1, _⟩ => ⟨S512x3328, .bf16⟩
  | .local _ .vmem, ⟨2, _⟩ => ⟨S1024x3328, .bf16⟩
  | .local _ .vmem, ⟨3, _⟩ => ⟨S1024x3328, .bf16⟩
  | .local _ .vmem, ⟨4, _⟩ => ⟨S512x1024, .f32⟩
  | .local _ .vmem, ⟨5, _⟩ => ⟨S512x1024, .f32⟩
  | _, _ => ⟨S4096x3328, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x3328 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x3328 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjDxReferenceIdeal.lean ====
abbrev S4096x3328 : Shape := ⟨2, ![4096, 3328]⟩
abbrev S2048x3328 : Shape := ⟨2, ![2048, 3328]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x3328, .bf16⟩
  | .hbm, ⟨1, _⟩ => ⟨S2048x3328, .bf16⟩
  | .hbm, ⟨2, _⟩ => ⟨S4096x3328, .f32⟩
  | .hbm, ⟨3, _⟩ => ⟨S2048x3328, .f32⟩
  | .hbm, ⟨4, _⟩ => ⟨S_, .f32⟩
  | .hbm, ⟨5, _⟩ => ⟨S4096x2048, .f32⟩
  | .hbm, ⟨6, _⟩ => ⟨S4096x3328, .f32⟩
  | .hbm, ⟨7, _⟩ => ⟨S4096x2048, .f32⟩
  | _, _ => ⟨S4096x3328, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ProjDw.lean ====
abbrev S2048x4096 : Shape := ⟨2, ![2048, 4096]⟩
abbrev S4096x3328 : Shape := ⟨2, ![4096, 3328]⟩
abbrev S2048x3328 : Shape := ⟨2, ![2048, 3328]⟩
abbrev S1024x4096 : Shape := ⟨2, ![1024, 4096]⟩
abbrev S4096x256 : Shape := ⟨2, ![4096, 256]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S2048x4096, .bf16⟩
  | .hbm, ⟨1, _⟩ => ⟨S4096x3328, .bf16⟩
  | .hbm, ⟨2, _⟩ => ⟨S2048x3328, .bf16⟩
  | .local _ .vmem, ⟨0, _⟩ => ⟨S1024x4096, .bf16⟩
  | .local _ .vmem, ⟨1, _⟩ => ⟨S1024x4096, .bf16⟩
  | .local _ .vmem, ⟨2, _⟩ => ⟨S4096x256, .bf16⟩
  | .local _ .vmem, ⟨3, _⟩ => ⟨S4096x256, .bf16⟩
  | .local _ .vmem, ⟨4, _⟩ => ⟨S1024x256, .bf16⟩
  | .local _ .vmem, ⟨5, _⟩ => ⟨S1024x256, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjDwReferenceIdeal.lean ====
abbrev S2048x4096 : Shape := ⟨2, ![2048, 4096]⟩
abbrev S4096x3328 : Shape := ⟨2, ![4096, 3328]⟩
abbrev S4096x2048 : Shape := ⟨2, ![4096, 2048]⟩
abbrev S_ : Shape := ⟨0, ![]⟩
abbrev S2048x3328 : Shape := ⟨2, ![2048, 3328]⟩
abbrev S3328x2048 : Shape := ⟨2, ![3328, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x3328, .bf16⟩
  | .hbm, ⟨2, _⟩ => ⟨S4096x2048, .bf16⟩
  | .hbm, ⟨3, _⟩ => ⟨S4096x2048, .f32⟩
  | .hbm, ⟨4, _⟩ => ⟨S4096x3328, .f32⟩
  | .hbm, ⟨5, _⟩ => ⟨S_, .f32⟩
  | .hbm, ⟨6, _⟩ => ⟨S2048x3328, .f32⟩
  | .hbm, ⟨7, _⟩ => ⟨S4096x3328, .f32⟩
  | .hbm, ⟨8, _⟩ => ⟨S3328x2048, .f32⟩
  | .hbm, ⟨9, _⟩ => ⟨S2048x3328, .f32⟩
  | .hbm, ⟨10, _⟩ => ⟨S2048x3328, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== MixDx.lean ====
abbrev S4096x2048 : Shape := ⟨2, ![4096, 2048]⟩
abbrev S2048x2048 : Shape := ⟨2, ![2048, 2048]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MixDxReferenceIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MixDw.lean ====
abbrev S4096x2048 : Shape := ⟨2, ![4096, 2048]⟩
abbrev S2048x2048 : Shape := ⟨2, ![2048, 2048]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDwReferenceIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S2048x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proj.lean ====
abbrev S4096x2048 : Shape := ⟨2, ![4096, 2048]⟩
abbrev S2048x3328 : Shape := ⟨2, ![2048, 3328]⟩
abbrev S4096x3328 : Shape := ⟨2, ![4096, 3328]⟩
abbrev S512x2048 : Shape := ⟨2, ![512, 2048]⟩
abbrev S2048x1664 : Shape := ⟨2, ![2048, 1664]⟩
abbrev S512x1664 : Shape := ⟨2, ![512, 1664]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x3328, .bf16⟩
  | .hbm, ⟨2, _⟩ => ⟨S4096x3328, .f32⟩
  | .local _ .vmem, ⟨0, _⟩ => ⟨S512x2048, .bf16⟩
  | .local _ .vmem, ⟨1, _⟩ => ⟨S512x2048, .bf16⟩
  | .local _ .vmem, ⟨2, _⟩ => ⟨S2048x1664, .bf16⟩
  | .local _ .vmem, ⟨3, _⟩ => ⟨S2048x1664, .bf16⟩
  | .local _ .vmem, ⟨4, _⟩ => ⟨S512x1664, .f32⟩
  | .local _ .vmem, ⟨5, _⟩ => ⟨S512x1664, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjReferenceIdeal.lean ====
abbrev S4096x2048 : Shape := ⟨2, ![4096, 2048]⟩
abbrev S2048x3328 : Shape := ⟨2, ![2048, 3328]⟩
abbrev S4096x3328 : Shape := ⟨2, ![4096, 3328]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x3328, .bf16⟩
  | .hbm, ⟨2, _⟩ => ⟨S4096x2048, .f32⟩
  | .hbm, ⟨3, _⟩ => ⟨S2048x3328, .f32⟩
  | .hbm, ⟨4, _⟩ => ⟨S4096x3328, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Mix.lean ====
abbrev S4096x2048 : Shape := ⟨2, ![4096, 2048]⟩
abbrev S2048x2048 : Shape := ⟨2, ![2048, 2048]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MixReferenceIdeal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== XDh.lean ====
abbrev S4096x512 : Shape := ⟨2, ![4096, 512]⟩
abbrev S2048x512 : Shape := ⟨2, ![2048, 512]⟩
abbrev S4096x2048 : Shape := ⟨2, ![4096, 2048]⟩
abbrev S512x512 : Shape := ⟨2, ![512, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S2048x512, .bf16⟩
  | .hbm, ⟨2, _⟩ => ⟨S4096x2048, .f32⟩
  | .local _ .vmem, ⟨0, _⟩ => ⟨S512x512, .bf16⟩
  | .local _ .vmem, ⟨1, _⟩ => ⟨S512x512, .bf16⟩
  | .local _ .vmem, ⟨2, _⟩ => ⟨S2048x512, .bf16⟩
  | .local _ .vmem, ⟨3, _⟩ => ⟨S512x2048, .f32⟩
  | .local _ .vmem, ⟨4, _⟩ => ⟨S512x2048, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== XDhReferenceIdeal.lean ====
abbrev S4096x512 : Shape := ⟨2, ![4096, 512]⟩
abbrev S2048x512 : Shape := ⟨2, ![2048, 512]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S2048x512, .bf16⟩
  | .hbm, ⟨2, _⟩ => ⟨S4096x512, .f32⟩
  | .hbm, ⟨3, _⟩ => ⟨S2048x512, .f32⟩
  | .hbm, ⟨4, _⟩ => ⟨S_, .f32⟩
  | .hbm, ⟨5, _⟩ => ⟨S4096x2048, .f32⟩
  | .hbm, ⟨6, _⟩ => ⟨S4096x512, .f32⟩
  | .hbm, ⟨7, _⟩ => ⟨S4096x2048, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== XDo.lean ====
abbrev S4096x2048 : Shape := ⟨2, ![4096, 2048]⟩
abbrev S512x2048 : Shape := ⟨2, ![512, 2048]⟩
abbrev S4096x512 : Shape := ⟨2, ![4096, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S512x2048, .bf16⟩
  | .hbm, ⟨2, _⟩ => ⟨S4096x512, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x512, .bf16⟩
  | .local _ .vmem, ⟨4, _⟩ => ⟨S512x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== XDoReferenceIdeal.lean ====
abbrev S4096x2048 : Shape := ⟨2, ![4096, 2048]⟩
abbrev S512x2048 : Shape := ⟨2, ![512, 2048]⟩
abbrev S_ : Shape := ⟨0, ![]⟩
abbrev S4096x512 : Shape := ⟨2, ![4096, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S512x2048, .bf16⟩
  | .hbm, ⟨2, _⟩ => ⟨S4096x2048, .f32⟩
  | .hbm, ⟨3, _⟩ => ⟨S512x2048, .f32⟩
  | .hbm, ⟨4, _⟩ => ⟨S_, .f32⟩
  | .hbm, ⟨5, _⟩ => ⟨S4096x512, .f32⟩
  | .hbm, ⟨6, _⟩ => ⟨S4096x2048, .f32⟩
  | .hbm, ⟨7, _⟩ => ⟨S4096x512, .f32⟩
  | .hbm, ⟨8, _⟩ => ⟨S4096x512, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== XDwq.lean ====
abbrev S2048x4096 : Shape := ⟨2, ![2048, 4096]⟩
abbrev S4096x512 : Shape := ⟨2, ![4096, 512]⟩
abbrev S2048x512 : Shape := ⟨2, ![2048, 512]⟩
abbrev S1024x512 : Shape := ⟨2, ![1024, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x4096, .bf16⟩
  | .hbm, ⟨1, _⟩ => ⟨S4096x512, .bf16⟩
  | .hbm, ⟨2, _⟩ => ⟨S2048x512, .bf16⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== XDwqReferenceIdeal.lean ====
abbrev S2048x4096 : Shape := ⟨2, ![2048, 4096]⟩
abbrev S4096x512 : Shape := ⟨2, ![4096, 512]⟩
abbrev S4096x2048 : Shape := ⟨2, ![4096, 2048]⟩
abbrev S_ : Shape := ⟨0, ![]⟩
abbrev S2048x512 : Shape := ⟨2, ![2048, 512]⟩
abbrev S512x2048 : Shape := ⟨2, ![512, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x512, .bf16⟩
  | .hbm, ⟨2, _⟩ => ⟨S4096x2048, .bf16⟩
  | .hbm, ⟨3, _⟩ => ⟨S4096x2048, .f32⟩
  | .hbm, ⟨4, _⟩ => ⟨S4096x512, .f32⟩
  | .hbm, ⟨5, _⟩ => ⟨S_, .f32⟩
  | .hbm, ⟨6, _⟩ => ⟨S2048x512, .f32⟩
  | .hbm, ⟨7, _⟩ => ⟨S4096x512, .f32⟩
  | .hbm, ⟨8, _⟩ => ⟨S512x2048, .f32⟩
  | .hbm, ⟨9, _⟩ => ⟨S2048x512, .f32⟩
  | .hbm, ⟨10, _⟩ => ⟨S2048x512, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== XDwo.lean ====
abbrev S4096x512 : Shape := ⟨2, ![4096, 512]⟩
abbrev S4096x2048 : Shape := ⟨2, ![4096, 2048]⟩
abbrev S512x2048 : Shape := ⟨2, ![512, 2048]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S4096x2048, .bf16⟩
  | .hbm, ⟨2, _⟩ => ⟨S512x2048, .bf16⟩
  | .local _ .vmem, ⟨0, _⟩ => ⟨S512x512, .bf16⟩
  | .local _ .vmem, ⟨1, _⟩ => ⟨S512x512, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== XDwoReferenceIdeal.lean ====
abbrev S4096x512 : Shape := ⟨2, ![4096, 512]⟩
abbrev S4096x2048 : Shape := ⟨2, ![4096, 2048]⟩
abbrev S_ : Shape := ⟨0, ![]⟩
abbrev S512x2048 : Shape := ⟨2, ![512, 2048]⟩
abbrev S2048x512 : Shape := ⟨2, ![2048, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x2048, .bf16⟩
  | .hbm, ⟨2, _⟩ => ⟨S4096x512, .f32⟩
  | .hbm, ⟨3, _⟩ => ⟨S4096x2048, .f32⟩
  | .hbm, ⟨4, _⟩ => ⟨S_, .f32⟩
  | .hbm, ⟨5, _⟩ => ⟨S512x2048, .f32⟩
  | .hbm, ⟨6, _⟩ => ⟨S4096x2048, .f32⟩
  | .hbm, ⟨7, _⟩ => ⟨S2048x512, .f32⟩
  | .hbm, ⟨8, _⟩ => ⟨S512x2048, .f32⟩
  | .hbm, ⟨9, _⟩ => ⟨S512x2048, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Xq.lean ====
abbrev S4096x2048 : Shape := ⟨2, ![4096, 2048]⟩
abbrev S2048x512 : Shape := ⟨2, ![2048, 512]⟩
abbrev S4096x512 : Shape := ⟨2, ![4096, 512]⟩
abbrev S512x2048 : Shape := ⟨2, ![512, 2048]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x512, .bf16⟩
  | .hbm, ⟨2, _⟩ => ⟨S4096x512, .bf16⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S512x512, .bf16⟩
  | .local _ .vmem, ⟨4, _⟩ => ⟨S512x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== XqReferenceIdeal.lean ====
abbrev S4096x2048 : Shape := ⟨2, ![4096, 2048]⟩
abbrev S2048x512 : Shape := ⟨2, ![2048, 512]⟩
abbrev S4096x512 : Shape := ⟨2, ![4096, 512]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x512, .bf16⟩
  | .hbm, ⟨2, _⟩ => ⟨S4096x2048, .f32⟩
  | .hbm, ⟨3, _⟩ => ⟨S2048x512, .f32⟩
  | .hbm, ⟨4, _⟩ => ⟨S4096x512, .f32⟩
  | .hbm, ⟨5, _⟩ => ⟨S4096x512, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Xo.lean ====
abbrev S4096x512 : Shape := ⟨2, ![4096, 512]⟩
abbrev S512x2048 : Shape := ⟨2, ![512, 2048]⟩
abbrev S4096x2048 : Shape := ⟨2, ![4096, 2048]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S512x2048, .bf16⟩
  | .hbm, ⟨2, _⟩ => ⟨S4096x2048, .f32⟩
  | .local _ .vmem, ⟨0, _⟩ => ⟨S512x512, .bf16⟩
  | .local _ .vmem, ⟨1, _⟩ => ⟨S512x512, .bf16⟩
  | .local _ .vmem, ⟨2, _⟩ => ⟨S512x2048, .bf16⟩
  | .local _ .vmem, ⟨3, _⟩ => ⟨S512x2048, .f32⟩
  | .local _ .vmem, ⟨4, _⟩ => ⟨S512x2048, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== XoReferenceIdeal.lean ====
abbrev S4096x512 : Shape := ⟨2, ![4096, 512]⟩
abbrev S512x2048 : Shape := ⟨2, ![512, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x2048, .bf16⟩
  | .hbm, ⟨2, _⟩ => ⟨S4096x512, .f32⟩
  | .hbm, ⟨3, _⟩ => ⟨S512x2048, .f32⟩
  | .hbm, ⟨4, _⟩ => ⟨S4096x2048, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MemDw.lean ====
abbrev S256x2048 : Shape := ⟨2, ![256, 2048]⟩
abbrev S256x512 : Shape := ⟨2, ![256, 512]⟩
abbrev S2048x512 : Shape := ⟨2, ![2048, 512]⟩
abbrev S256x1024 : Shape := ⟨2, ![256, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S256x512, .bf16⟩
  | .hbm, ⟨2, _⟩ => ⟨S2048x512, .bf16⟩
  | .local _ .vmem, ⟨0, _⟩ => ⟨S256x1024, .bf16⟩
  | .local _ .vmem, ⟨1, _⟩ => ⟨S256x1024, .bf16⟩
  | .local _ .vmem, ⟨2, _⟩ => ⟨S256x512, .bf16⟩
  | .local _ .vmem, ⟨3, _⟩ => ⟨S1024x512, .bf16⟩
  | .local _ .vmem, ⟨4, _⟩ => ⟨S1024x512, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemDwReferenceIdeal.lean ====
abbrev S256x2048 : Shape := ⟨2, ![256, 2048]⟩
abbrev S256x512 : Shape := ⟨2, ![256, 512]⟩
abbrev S_ : Shape := ⟨0, ![]⟩
abbrev S2048x512 : Shape := ⟨2, ![2048, 512]⟩
abbrev S512x2048 : Shape := ⟨2, ![512, 2048]⟩

abbrev nBuf : Space → Nat
  | .hbm => 10
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x512, .bf16⟩
  | .hbm, ⟨2, _⟩ => ⟨S256x2048, .f32⟩
  | .hbm, ⟨3, _⟩ => ⟨S256x512, .f32⟩
  | .hbm, ⟨4, _⟩ => ⟨S_, .f32⟩
  | .hbm, ⟨5, _⟩ => ⟨S2048x512, .f32⟩
  | .hbm, ⟨6, _⟩ => ⟨S256x512, .f32⟩
  | .hbm, ⟨7, _⟩ => ⟨S512x2048, .f32⟩
  | .hbm, ⟨8, _⟩ => ⟨S2048x512, .f32⟩
  | .hbm, ⟨9, _⟩ => ⟨S2048x512, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MemDx.lean ====
abbrev S256x1024 : Shape := ⟨2, ![256, 1024]⟩
abbrev S2048x1024 : Shape := ⟨2, ![2048, 1024]⟩
abbrev S256x2048 : Shape := ⟨2, ![256, 2048]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S2048x1024, .bf16⟩
  | .hbm, ⟨2, _⟩ => ⟨S256x2048, .f32⟩
  | .local _ .vmem, ⟨0, _⟩ => ⟨S256x1024, .bf16⟩
  | .local _ .vmem, ⟨1, _⟩ => ⟨S2048x1024, .bf16⟩
  | .local _ .vmem, ⟨2, _⟩ => ⟨S256x2048, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== MemDxReferenceIdeal.lean ====
abbrev S256x1024 : Shape := ⟨2, ![256, 1024]⟩
abbrev S2048x1024 : Shape := ⟨2, ![2048, 1024]⟩
abbrev S_ : Shape := ⟨0, ![]⟩
abbrev S256x2048 : Shape := ⟨2, ![256, 2048]⟩

abbrev nBuf : Space → Nat
  | .hbm => 8
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S2048x1024, .bf16⟩
  | .hbm, ⟨2, _⟩ => ⟨S256x1024, .f32⟩
  | .hbm, ⟨3, _⟩ => ⟨S2048x1024, .f32⟩
  | .hbm, ⟨4, _⟩ => ⟨S_, .f32⟩
  | .hbm, ⟨5, _⟩ => ⟨S256x2048, .f32⟩
  | .hbm, ⟨6, _⟩ => ⟨S256x1024, .f32⟩
  | .hbm, ⟨7, _⟩ => ⟨S256x2048, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Mem.lean ====
abbrev S256x2048 : Shape := ⟨2, ![256, 2048]⟩
abbrev S2048x512 : Shape := ⟨2, ![2048, 512]⟩
abbrev S256x512 : Shape := ⟨2, ![256, 512]⟩

abbrev nBuf : Space → Nat
  | .hbm => 3
  | .vmem => 3
  | .smem => 0
  | _ => 0

abbrev bufTy : (tb : Table) → Fin (tcTables nBuf tb) → BufTy
  | .hbm, ⟨0, _⟩ => ⟨S256x2048, .bf16⟩
  | .hbm, ⟨1, _⟩ => ⟨S2048x512, .bf16⟩
  | .hbm, ⟨2, _⟩ => ⟨S256x512, .bf16⟩
  | .local _ .vmem, ⟨0, _⟩ => ⟨S256x2048, .bf16⟩
  | .local _ .vmem, ⟨1, _⟩ => ⟨S2048x512, .bf16⟩
  | .local _ .vmem, ⟨2, _⟩ => ⟨S256x512, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== MemReferenceIdeal.lean ====
abbrev S256x2048 : Shape := ⟨2, ![256, 2048]⟩
abbrev S2048x512 : Shape := ⟨2, ![2048, 512]⟩
abbrev S256x512 : Shape := ⟨2, ![256, 512]⟩

abbrev nBuf : Space → Nat
  | .hbm => 6
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x512, .bf16⟩
  | .hbm, ⟨2, _⟩ => ⟨S256x2048, .f32⟩
  | .hbm, ⟨3, _⟩ => ⟨S2048x512, .f32⟩
  | .hbm, ⟨4, _⟩ => ⟨S256x512, .f32⟩
  | .hbm, ⟨5, _⟩ => ⟨S256x512, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== PoolDx.lean ====
abbrev S4096x2048 : Shape := ⟨2, ![4096, 2048]⟩
abbrev S4x512x512 : Shape := ⟨3, ![4, 512, 512]⟩
abbrev S1x2048 : Shape := ⟨2, ![1, 2048]⟩
abbrev S256x2048 : Shape := ⟨2, ![256, 2048]⟩
abbrev S256x512 : Shape := ⟨2, ![256, 512]⟩
abbrev S1x512x512 : Shape := ⟨3, ![1, 512, 512]⟩
abbrev S512x512 : Shape := ⟨2, ![512, 512]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S4x512x512, .bf16⟩
  | .hbm, ⟨3, _⟩ => ⟨S1x2048, .f32⟩
  | .hbm, ⟨4, _⟩ => ⟨S4096x2048, .f32⟩
  | .hbm, ⟨5, _⟩ => ⟨S4096x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S4x512x512, .bf16⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== PoolDxReferenceIdeal.lean ====
abbrev S4096x2048 : Shape := ⟨2, ![4096, 2048]⟩
abbrev S4x512x512 : Shape := ⟨3, ![4, 512, 512]⟩
abbrev S1x2048 : Shape := ⟨2, ![1, 2048]⟩
abbrev S4096x4x512 : Shape := ⟨3, ![4096, 4, 512]⟩
abbrev S4x512x4096 : Shape := ⟨3, ![4, 512, 4096]⟩
abbrev S_ : Shape := ⟨0, ![]⟩
abbrev S2048 : Shape := ⟨1, ![2048]⟩
abbrev S4x4096x512 : Shape := ⟨3, ![4, 4096, 512]⟩

abbrev nBuf : Space → Nat
  | .hbm => 24
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S4x512x512, .bf16⟩
  | .hbm, ⟨3, _⟩ => ⟨S1x2048, .f32⟩
  | .hbm, ⟨4, _⟩ => ⟨S4096x2048, .f32⟩
  | .hbm, ⟨5, _⟩ => ⟨S4x512x512, .f32⟩
  | .hbm, ⟨6, _⟩ => ⟨S4096x4x512, .f32⟩
  | .hbm, ⟨7, _⟩ => ⟨S4x512x4096, .f32⟩
  | .hbm, ⟨8, _⟩ => ⟨S4096x4x512, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x4x512, .f32⟩
  | .hbm, ⟨19, _⟩ => ⟨S4x512x4096, .f32⟩
  | .hbm, ⟨20, _⟩ => ⟨S4x4096x512, .f32⟩
  | .hbm, ⟨21, _⟩ => ⟨S4096x4x512, .f32⟩
  | .hbm, ⟨22, _⟩ => ⟨S4096x2048, .f32⟩
  | .hbm, ⟨23, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]
-- ==== PoolDw.lean ====
abbrev S4096x2048 : Shape := ⟨2, ![4096, 2048]⟩
abbrev S4x512x512 : Shape := ⟨3, ![4, 512, 512]⟩
abbrev S512x512 : Shape := ⟨2, ![512, 512]⟩
abbrev S1x512x512 : Shape := ⟨3, ![1, 512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4x512x512, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1x512x512, .f32⟩
  | .local _ .vmem, ⟨5, _⟩ => ⟨S1x512x512, .f32⟩
  | .local _ .vmem, ⟨6, _⟩ => ⟨S512x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond3 (i : grid0.Coords) : BitVec 1 :=
  let arg1 : BitVec 32 := BitVec.ofNat 32 (i 1).val
  let c7_i32 : BitVec 32 := 7#32
  let v9 : BitVec 1 := Scalar.cmpi .eq arg1 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== PoolDwReferenceIdeal.lean ====
abbrev S4096x2048 : Shape := ⟨2, ![4096, 2048]⟩
abbrev S_ : Shape := ⟨0, ![]⟩
abbrev S4x512x512 : Shape := ⟨3, ![4, 512, 512]⟩
abbrev S4096x4x512 : Shape := ⟨3, ![4096, 4, 512]⟩
abbrev S4x512x4096 : Shape := ⟨3, ![4, 512, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4x512x512, .f32⟩
  | .hbm, ⟨6, _⟩ => ⟨S4096x4x512, .f32⟩
  | .hbm, ⟨7, _⟩ => ⟨S4x512x4096, .f32⟩
  | .hbm, ⟨8, _⟩ => ⟨S4096x4x512, .f32⟩
  | .hbm, ⟨9, _⟩ => ⟨S4096x2048, .f32⟩
  | .hbm, ⟨10, _⟩ => ⟨S4096x4x512, .f32⟩
  | .hbm, ⟨11, _⟩ => ⟨S4x512x4096, .f32⟩
  | .hbm, ⟨12, _⟩ => ⟨S4x512x512, .f32⟩
  | .hbm, ⟨13, _⟩ => ⟨S4x512x512, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Xattn.lean ====
abbrev S4096x512 : Shape := ⟨2, ![4096, 512]⟩
abbrev S256x512 : Shape := ⟨2, ![256, 512]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S256x512, .bf16⟩
  | .hbm, ⟨2, _⟩ => ⟨S256x512, .bf16⟩
  | .hbm, ⟨3, _⟩ => ⟨S4096x512, .bf16⟩
  | .local _ .vmem, ⟨0, _⟩ => ⟨S512x512, .bf16⟩
  | .local _ .vmem, ⟨1, _⟩ => ⟨S512x512, .bf16⟩
  | .local _ .vmem, ⟨2, _⟩ => ⟨S256x512, .bf16⟩
  | .local _ .vmem, ⟨3, _⟩ => ⟨S256x512, .bf16⟩
  | .local _ .vmem, ⟨4, _⟩ => ⟨S512x512, .bf16⟩
  | .local _ .vmem, ⟨5, _⟩ => ⟨S512x512, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== XattnReferenceIdeal.lean ====
abbrev S4096x512 : Shape := ⟨2, ![4096, 512]⟩
abbrev S256x512 : Shape := ⟨2, ![256, 512]⟩
abbrev S1x4096x4x128 : Shape := ⟨4, ![1, 4096, 4, 128]⟩
abbrev S1x256x4x128 : Shape := ⟨4, ![1, 256, 4, 128]⟩
abbrev S1x4x4096x256 : Shape := ⟨4, ![1, 4, 4096, 256]⟩
abbrev S_ : Shape := ⟨0, ![]⟩
abbrev S1x4x4096 : Shape := ⟨3, ![1, 4, 4096]⟩
abbrev S1x4x4096x1 : Shape := ⟨4, ![1, 4, 4096, 1]⟩
abbrev S1x4x128x4096 : Shape := ⟨4, ![1, 4, 128, 4096]⟩

abbrev nBuf : Space → Nat
  | .hbm => 31
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S256x512, .bf16⟩
  | .hbm, ⟨2, _⟩ => ⟨S256x512, .bf16⟩
  | .hbm, ⟨3, _⟩ => ⟨S4096x512, .f32⟩
  | .hbm, ⟨4, _⟩ => ⟨S256x512, .f32⟩
  | .hbm, ⟨5, _⟩ => ⟨S256x512, .f32⟩
  | .hbm, ⟨6, _⟩ => ⟨S1x4096x4x128, .f32⟩
  | .hbm, ⟨7, _⟩ => ⟨S1x256x4x128, .f32⟩
  | .hbm, ⟨8, _⟩ => ⟨S1x256x4x128, .f32⟩
  | .hbm, ⟨9, _⟩ => ⟨S1x4x4096x256, .f32⟩
  | .hbm, ⟨10, _⟩ => ⟨S_, .f32⟩
  | .hbm, ⟨11, _⟩ => ⟨S1x4x4096x256, .f32⟩
  | .hbm, ⟨12, _⟩ => ⟨S1x4x4096x256, .f32⟩
  | .hbm, ⟨13, _⟩ => ⟨S_, .f32⟩
  | .hbm, ⟨14, _⟩ => ⟨S1x4x4096, .f32⟩
  | .hbm, ⟨15, _⟩ => ⟨S_, .f32⟩
  | .hbm, ⟨16, _⟩ => ⟨S1x4x4096, .f32⟩
  | .hbm, ⟨17, _⟩ => ⟨S1x4x4096, .f32⟩
  | .hbm, ⟨18, _⟩ => ⟨S1x4x4096x1, .f32⟩
  | .hbm, ⟨19, _⟩ => ⟨S1x4x4096x256, .f32⟩
  | .hbm, ⟨20, _⟩ => ⟨S1x4x4096x256, .f32⟩
  | .hbm, ⟨21, _⟩ => ⟨S1x4x4096x256, .f32⟩
  | .hbm, ⟨22, _⟩ => ⟨S_, .f32⟩
  | .hbm, ⟨23, _⟩ => ⟨S1x4x4096, .f32⟩
  | .hbm, ⟨24, _⟩ => ⟨S1x4x4096x1, .f32⟩
  | .hbm, ⟨25, _⟩ => ⟨S1x4x4096x256, .f32⟩
  | .hbm, ⟨26, _⟩ => ⟨S1x4x4096x256, .f32⟩
  | .hbm, ⟨27, _⟩ => ⟨S1x4x128x4096, .f32⟩
  | .hbm, ⟨28, _⟩ => ⟨S1x4096x4x128, .f32⟩
  | .hbm, ⟨29, _⟩ => ⟨S4096x512, .f32⟩
  | .hbm, ⟨30, _⟩ => ⟨S4096x512, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== NormDx.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 10
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S1x2048, .f32⟩
  | .hbm, ⟨6, _⟩ => ⟨S4096x2048, .f32⟩
  | .hbm, ⟨7, _⟩ => ⟨S1x2048, .f32⟩
  | .hbm, ⟨8, _⟩ => ⟨S4096x2048, .bf16⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S1x2048, .f32⟩
  | .local _ .vmem, ⟨13, _⟩ => ⟨S256x2048, .bf16⟩
  | .local _ .vmem, ⟨14, _⟩ => ⟨S256x2048, .bf16⟩
  | .local _ .vmem, ⟨15, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== NormDxReferenceIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 92
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S1x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S4096x2048, .f32⟩
  | .hbm, ⟨36, _⟩ => ⟨S4096x2048, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S_, .f32⟩
  | .hbm, ⟨70, _⟩ => ⟨S2048, .f32⟩
  | .hbm, ⟨71, _⟩ => ⟨S1x2048, .f32⟩
  | .hbm, ⟨72, _⟩ => ⟨S4096x2048, .f32⟩
  | .hbm, ⟨73, _⟩ => ⟨S4096x2048, .f32⟩
  | .hbm, ⟨74, _⟩ => ⟨S4096x2048, .f32⟩
  | .hbm, ⟨75, _⟩ => ⟨S_, .f32⟩
  | .hbm, ⟨76, _⟩ => ⟨S4096, .f32⟩
  | .hbm, ⟨77, _⟩ => ⟨S4096x1, .f32⟩
  | .hbm, ⟨78, _⟩ => ⟨S4096x2048, .f32⟩
  | .hbm, ⟨79, _⟩ => ⟨S4096x2048, .f32⟩
  | .hbm, ⟨80, _⟩ => ⟨S4096x1, .f32⟩
  | .hbm, ⟨81, _⟩ => ⟨S_, .f32⟩
  | .hbm, ⟨82, _⟩ => ⟨S4096x1, .f32⟩
  | .hbm, ⟨83, _⟩ => ⟨S4096x1, .f32⟩
  | .hbm, ⟨84, _⟩ => ⟨S_, .f32⟩
  | .hbm, ⟨85, _⟩ => ⟨S4096, .f32⟩
  | .hbm, ⟨86, _⟩ => ⟨S4096x2048, .f32⟩
  | .hbm, ⟨87, _⟩ => ⟨S4096x2048, .f32⟩
  | .hbm, ⟨88, _⟩ => ⟨S4096x2048, .f32⟩
  | .hbm, ⟨89, _⟩ => ⟨S4096x2048, .f32⟩
  | .hbm, ⟨90, _⟩ => ⟨S4096x2048, .f32⟩
  | .hbm, ⟨91, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_11 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_13 : Ref sig .tc := ⟨.hbm, 81, rfl⟩
abbrev main_v61 : Ref sig .tc := ⟨.hbm, 82, rfl⟩
abbrev main_v62 : Ref sig .tc := ⟨.hbm, 83, rfl⟩
abbrev main_cst_14 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩

abbrev nD : Nat := 1
abbrev τ : Topo := Topo.v7x

variable {F : FTy → Type} [FloatOps F]
-- ==== Resid.lean ====
abbrev S4096x2048 : Shape := ⟨2, ![4096, 2048]⟩
abbrev S1x2048 : Shape := ⟨2, ![1, 2048]⟩
abbrev S2048x4096 : Shape := ⟨2, ![2048, 4096]⟩
abbrev S256x2048 : Shape := ⟨2, ![256, 2048]⟩
abbrev S2048x256 : Shape := ⟨2, ![2048, 256]⟩
abbrev S256 : Shape := ⟨1, ![256]⟩
abbrev S256x1 : Shape := ⟨2, ![256, 1]⟩

abbrev nBuf : Space → Nat
  | .hbm => 7
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .hbm, ⟨6, _⟩ => ⟨S2048x4096, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S2048x256, .bf16⟩
  | .local _ .vmem, ⟨11, _⟩ => ⟨S2048x256, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ResidReferenceIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048x4096 : Shape := ⟨2, ![2048, 4096]⟩

abbrev nBuf : Space → Nat
  | .hbm => 37
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .bf16⟩
  | .hbm, ⟨36, _⟩ => ⟨S2048x4096, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Norm.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Loss.lean ====
abbrev S4096x2048 : Shape := ⟨2, ![4096, 2048]⟩
abbrev S1x1 : Shape := ⟨2, ![1, 1]⟩
abbrev S256x2048 : Shape := ⟨2, ![256, 2048]⟩
abbrev S1x2048 : Shape := ⟨2, ![1, 2048]⟩
abbrev S2048 : Shape := ⟨1, ![2048]⟩
abbrev S1 : Shape := ⟨1, ![1]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x1, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x1, .f32⟩
  | .local _ .vmem, ⟨7, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v17 : BitVec 1 := Scalar.cmpi .eq arg0 c15_i32
  let v18 : BitVec 32 := Scalar.extui v17
  let c0_i32_11 : BitVec 32 := 0#32
  let v19 : BitVec 1 := Scalar.cmpi .ne v18 c0_i32_11
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossReferenceIdeal.lean ====
abbrev S4096x2048 : Shape := ⟨2, ![4096, 2048]⟩
abbrev S_ : Shape := ⟨0, ![]⟩
abbrev S4096 : Shape := ⟨1, ![4096]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x2048, .f32⟩
  | .hbm, ⟨24, _⟩ => ⟨S4096x2048, .f32⟩
  | .hbm, ⟨25, _⟩ => ⟨S1x1, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Assemble.lean ====
abbrev S4096x1024 : Shape := ⟨2, ![4096, 1024]⟩
abbrev S32x256x256 : Shape := ⟨3, ![32, 256, 256]⟩
abbrev S4096x3328 : Shape := ⟨2, ![4096, 3328]⟩
abbrev S128x1024 : Shape := ⟨2, ![128, 1024]⟩
abbrev S1x256x256 : Shape := ⟨3, ![1, 256, 256]⟩
abbrev S128x3328 : Shape := ⟨2, ![128, 3328]⟩
abbrev S1x128x256 : Shape := ⟨3, ![1, 128, 256]⟩
abbrev S128x256 : Shape := ⟨2, ![128, 256]⟩

abbrev nBuf : Space → Nat
  | .hbm => 5
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S32x256x256, .f32⟩
  | .hbm, ⟨2, _⟩ => ⟨S4096x1024, .bf16⟩
  | .hbm, ⟨3, _⟩ => ⟨S4096x1024, .bf16⟩
  | .hbm, ⟨4, _⟩ => ⟨S4096x3328, .bf16⟩
  | .local _ .vmem, ⟨0, _⟩ => ⟨S128x1024, .bf16⟩
  | .local _ .vmem, ⟨1, _⟩ => ⟨S128x1024, .bf16⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x3328, .bf16⟩
  | .local _ .vmem, ⟨11, _⟩ => ⟨S128x3328, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x3328 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== AssembleReferenceIdeal.lean ====
abbrev S4096x1024 : Shape := ⟨2, ![4096, 1024]⟩
abbrev S32x256x256 : Shape := ⟨3, ![32, 256, 256]⟩
abbrev S32x128x256 : Shape := ⟨3, ![32, 128, 256]⟩
abbrev S31x128x256 : Shape := ⟨3, ![31, 128, 256]⟩
abbrev S_ : Shape := ⟨0, ![]⟩
abbrev S4096x256 : Shape := ⟨2, ![4096, 256]⟩
abbrev S4096x3328 : Shape := ⟨2, ![4096, 3328]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S32x256x256, .f32⟩
  | .hbm, ⟨2, _⟩ => ⟨S4096x1024, .bf16⟩
  | .hbm, ⟨3, _⟩ => ⟨S4096x1024, .bf16⟩
  | .hbm, ⟨4, _⟩ => ⟨S32x128x256, .f32⟩
  | .hbm, ⟨5, _⟩ => ⟨S31x128x256, .f32⟩
  | .hbm, ⟨6, _⟩ => ⟨S_, .i32⟩
  | .hbm, ⟨7, _⟩ => ⟨S_, .f32⟩
  | .hbm, ⟨8, _⟩ => ⟨S32x128x256, .f32⟩
  | .hbm, ⟨9, _⟩ => ⟨S32x128x256, .f32⟩
  | .hbm, ⟨10, _⟩ => ⟨S4096x256, .f32⟩
  | .hbm, ⟨11, _⟩ => ⟨S4096x256, .bf16⟩
  | .hbm, ⟨12, _⟩ => ⟨S4096x3328, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Proof.Math.lean ====
/- The gradient of one row of a softmax attention, over the extended reals: the two ways of writing it, and why they
   agree when the scores are finite. -/
module

public import Idealize.ShloMosaic.PureOps
public import Idealize.ShloMosaic.Lib.Pointwise
public import Idealize.ShloMosaic.Lib.IdealHost

@[expose] public section

noncomputable section

namespace Cert.Row

open Idealize.ShloMosaic

/-- An extended real that is an ordinary real number. -/
def Finite (x : EReal) : Prop := x ≠ ⊤ ∧ x ≠ ⊥

theorem Finite.exists {x : EReal} (h : Finite x) : ∃ r : ℝ, x = (r : EReal) :=
  ⟨x.toReal, (EReal.coe_toReal h.1 h.2).symm⟩

theorem finite_coe (r : ℝ) : Finite (r : EReal) := ⟨EReal.coe_ne_top r, EReal.coe_ne_bot r⟩

theorem Finite.add {x y : EReal} (hx : Finite x) (hy : Finite y) : Finite (x + y) := by
  obtain ⟨a, rfl⟩ := hx.exists; obtain ⟨b, rfl⟩ := hy.exists
  rw [← EReal.coe_add]; exact finite_coe _

theorem Finite.mul {x y : EReal} (hx : Finite x) (hy : Finite y) : Finite (x * y) := by
  obtain ⟨a, rfl⟩ := hx.exists; obtain ⟨b, rfl⟩ := hy.exists
  rw [← EReal.coe_mul]; exact finite_coe _

theorem Finite.sub {x y : EReal} (hx : Finite x) (hy : Finite y) : Finite (x - y) := by
  obtain ⟨a, rfl⟩ := hx.exists; obtain ⟨b, rfl⟩ := hy.exists
  rw [← EReal.coe_sub]; exact finite_coe _

theorem Finite.sum {ι : Type} (s : Finset ι) (f : ι → EReal) (h : ∀ i, Finite (f i)) : Finite (∑ i ∈ s, f i) := by
  classical
  induction s using Finset.induction with
  | empty => simpa using finite_coe 0
  | insert a s ha ih => rw [Finset.sum_insert ha]; exact (h a).add ih

/-- A number that is not negative and not infinite may be taken into a sum of any extended reals. -/
theorem mul_sum {ι : Type} {x : EReal} (h0 : 0 ≤ x) (ht : x ≠ ⊤) (s : Finset ι) (f : ι → EReal) :
    x * ∑ i ∈ s, f i = ∑ i ∈ s, x * f i := by
  classical
  induction s using Finset.induction with
  | empty => simp
  | insert a s ha ih =>
    rw [Finset.sum_insert ha, Finset.sum_insert ha, EReal.left_distrib_of_nonneg_of_ne_top h0 ht, ih]

/-- The factor the scores are scaled by. -/
def scale : EReal := Ideal.ofBits .f32 0x3DB504F3#32

/-- What a maximum starts from. -/
def lowest : EReal := Ideal.ofBits .f32 0xFF800000#32

theorem scale_finite : Finite scale := by
  rw [show scale = ((scale.toReal : ℝ) : EReal) from ?_]
  · exact finite_coe _
  · unfold scale
    simp [Ideal.ofBits, Ideal.ieee, -EReal.coe_mul]

theorem lowest_eq : lowest = ⊥ := by
  unfold lowest
  simp [Ideal.ofBits, Ideal.ieee]

/-! ## The attention of one row: 128 lanes, 256 tokens -/

/-- The row's scaled score at a token. -/
def score (q : Fin 128 → EReal) (k : Fin 256 → Fin 128 → EReal) (m : Fin 256) : EReal := (∑ d, q d * k m d) * scale

/-- The row's largest score. -/
def peak (q : Fin 128 → EReal) (k : Fin 256 → Fin 128 → EReal) : EReal := Finset.univ.fold max lowest (score q k)

/-- The exponential of the score less the largest one. -/
def weight (q : Fin 128 → EReal) (k : Fin 256 → Fin 128 → EReal) (m : Fin 256) : EReal :=
  Ideal.exp (score q k m - peak q k)

/-- The sum of the row's weights. -/
def total (q : Fin 128 → EReal) (k : Fin 256 → Fin 128 → EReal) : EReal := ∑ m, weight q k m

/-- The probability of a token: its weight times the reciprocal of the sum. -/
def prob (q : Fin 128 → EReal) (k : Fin 256 → Fin 128 → EReal) (m : Fin 256) : EReal :=
  weight q k m * Ideal.div 1 (total q k)

/-- The gradient at the probability of a token. -/
def dprob (v : Fin 256 → Fin 128 → EReal) (g : Fin 128 → EReal) (m : Fin 256) : EReal := ∑ d, g d * v m d

/-- The gradient at the unscaled score of a token, in the short form: the probability times the gradient's excess
    over its mean. -/
def dscore (q : Fin 128 → EReal) (k v : Fin 256 → Fin 128 → EReal) (g : Fin 128 → EReal) (m : Fin 256) : EReal :=
  prob q k m * (dprob v g m - ∑ l, prob q k l * dprob v g l) * scale

/-- The same gradient in the long form: through the quotient of the weight by the sum, one term for the dividend and
    one for the divisor, and then through the exponential. -/
def dscoreLong (q : Fin 128 → EReal) (k v : Fin 256 → Fin 128 → EReal) (g : Fin 128 → EReal) (m : Fin 256) : EReal :=
  (Ideal.div (dprob v g m) (total q k)
      + -∑ l, dprob v g l * Ideal.div 1 (total q k * total q k) * weight q k l) * weight q k m * scale

section
variable {q : Fin 128 → EReal} {k : Fin 256 → Fin 128 → EReal} (hq : ∀ d, Finite (q d)) (hk : ∀ m d, Finite (k m d))
include hq hk

theorem score_finite (m : Fin 256) : Finite (score q k m) :=
  (Finite.sum _ _ fun d => (hq d).mul (hk m d)).mul scale_finite

theorem peak_finite : Finite (peak q k) := by
  refine ⟨ne_of_lt ?_, ne_of_gt ?_⟩
  · refine (Finset.fold_max_lt _).mpr ⟨by rw [lowest_eq]; exact bot_lt_top, fun m _ => ?_⟩
    exact lt_of_le_of_ne le_top (score_finite hq hk m).1
  · refine lt_of_lt_of_le (lt_of_le_of_ne bot_le (score_finite hq hk 0).2.symm) ?_
    exact (Finset.le_fold_max _).mpr (Or.inr ⟨0, Finset.mem_univ _, le_rfl⟩)

/-- Every weight is a positive real number. -/
theorem weight_pos (m : Fin 256) : ∃ a : ℝ, 0 < a ∧ weight q k m = (a : EReal) := by
  obtain ⟨r, hr⟩ := ((score_finite hq hk m).sub (peak_finite hq hk)).exists
  exact ⟨Real.exp r, Real.exp_pos r, by unfold weight; rw [hr]; rfl⟩

/-- So is their sum. -/
theorem total_pos : ∃ a : ℝ, 0 < a ∧ total q k = (a : EReal) := by
  choose w hw hwe using weight_pos hq hk
  refine ⟨∑ m, w m, Finset.sum_pos (fun m _ => hw m) ⟨0, Finset.mem_univ _⟩, ?_⟩
  unfold total
  simp only [hwe]
  exact (map_sum (⟨⟨fun r : ℝ => (r : EReal), rfl⟩, fun a b => EReal.coe_add a b⟩ : ℝ →+ EReal) w Finset.univ).symm

/-- The probability is the quotient. -/
theorem prob_eq_div (m : Fin 256) : prob q k m = Ideal.div (weight q k m) (total q k) := by
  obtain ⟨L, hL, hLe⟩ := total_pos hq hk
  exact Ideal.mul_one_div (by rw [hLe]; exact_mod_cast hL.ne')

/-- The two forms of the gradient at a score agree, whatever the incoming gradient and the values are. -/
theorem dscore_eq_long (v : Fin 256 → Fin 128 → EReal) (g : Fin 128 → EReal) (m : Fin 256) :
    dscore q k v g m = dscoreLong q k v g m := by
  obtain ⟨L, hL, hLe⟩ := total_pos hq hk
  choose w hw hwe using weight_pos hq hk
  have hL0 : (L : EReal) ≠ 0 := by exact_mod_cast hL.ne'
  have hLL : (L : EReal) * (L : EReal) ≠ 0 := by
    rw [← EReal.coe_mul]; exact_mod_cast (mul_pos hL hL).ne'
  have hinv : ∀ r : ℝ, r ≠ 0 → Ideal.div 1 (r : EReal) = ((r⁻¹ : ℝ) : EReal) := fun r hr => by
    unfold Ideal.div
    rw [if_neg (by exact_mod_cast hr), one_mul]; rfl
  unfold dscore dscoreLong prob
  simp only [hwe, hLe]
  rw [show ((L : EReal) * (L : EReal)) = ((L * L : ℝ) : EReal) from (EReal.coe_mul L L).symm, hinv L hL.ne',
    hinv (L * L) (mul_pos hL hL).ne', ← Ideal.mul_one_div hL0, hinv L hL.ne']
  congr 1
  have hp : (0 : EReal) ≤ ((w m * L⁻¹ : ℝ) : EReal) := by
    exact_mod_cast (mul_pos (hw m) (inv_pos.mpr hL)).le
  rw [mul_comm _ ((w m : ℝ) : EReal), ← EReal.coe_mul, sub_eq_add_neg,
    EReal.left_distrib_of_nonneg_of_ne_top hp (EReal.coe_ne_top _),
    EReal.left_distrib_of_nonneg_of_ne_top (by exact_mod_cast (hw m).le) (EReal.coe_ne_top _)]
  congr 1
  · rw [EReal.coe_mul, mul_assoc, mul_comm ((L⁻¹ : ℝ) : EReal)]
  · rw [mul_neg, mul_neg, mul_sum hp (EReal.coe_ne_top _), mul_sum (by exact_mod_cast (hw m).le) (EReal.coe_ne_top _)]
    congr 1
    refine Finset.sum_congr rfl fun l _ => ?_
    rw [mul_inv, EReal.coe_mul, EReal.coe_mul, mul_comm ((w l : ℝ) : EReal)]
    ac_rfl

end

end Cert.Row

end
-- ==== Proof.Heads.lean ====
/- What the four heads' arithmetic of one grid point computes, element by element: every head runs the same chain of
   operations over its own 128 columns of the blocks. -/
module

public import proofs.«01_k».proof.Proof.Gen.KernelIdeal.Skeleton
public import proofs.«01_k».proof.Proof.Math
public import Idealize.ShloMosaic.Lib.Pointwise

@[expose] public section

set_option maxRecDepth 16384

noncomputable section

namespace Cert.KernelIdeal.Heads

open Cert.KernelIdeal Cert.KernelIdeal.Gen Idealize.ShloMosaic Cert.Row

/-- Row `r` of a matrix of 128 columns. -/
abbrev row {n : Nat} (x : FVec Ideal (⟨2, ![n, 128]⟩ : Shape) .bf16) (r : Fin n) : Fin 128 → EReal := fun d => x (ix2 r d)

variable (q g : FVec Ideal S512x128 .bf16) (k v : FVec Ideal S256x128 .bf16)

/-- The scale, as the program passes it from the first part of the body to the second. -/
abbrev sc : Ideal .f32 := Ideal.ofBits .f32 0x3DB504F3#32

/-- The probabilities of a head. -/
theorem probs_at (r : Fin 512) (m : Fin 256) : k0_pay8 (F := Ideal) q k (ix2 r m) = prob (row q r) (row k) m := by
  pointwise [k0_pay8]
  rfl

/-- The gradients at a head's scores. -/
theorem dscores_at (r : Fin 512) (m : Fin 256) :
    (k0_pay11 (k0_pay10 q k v g) sc (ix2 r m) : EReal) = dscore (row q r) (row k) (row v) (row g r) m := by
  pointwise [k0_pay11, k0_pay10, probs_at]
  rfl

/-- The gradient at a head's queries. -/
theorem dq_at (r : Fin 512) (d : Fin 128) :
    (k0_pay12 k (k0_pay10 q k v g) sc (ix2 r d) : EReal)
      = ∑ m, dscore (row q r) (row k) (row v) (row g r) m * k (ix2 m d) := by
  pointwise [k0_pay12, dscores_at]

/-- The keys' gradient after a point: what it was, and the point's rows. -/
theorem dk_at (p : FVec Ideal S256x128 .f32) (m : Fin 256) (d : Fin 128) :
    (k0_pay13 q (k0_pay10 q k v g) sc p (ix2 m d) : EReal)
      = p (ix2 m d) + ∑ r, dscore (row q r) (row k) (row v) (row g r) m * q (ix2 r d) := by
  pointwise [k0_pay13, dscores_at]

/-- The values' gradient after a point. -/
theorem dv_at (p : FVec Ideal S256x128 .f32) (m : Fin 256) (d : Fin 128) :
    k0_pay9 (F := Ideal) q k g p (ix2 m d) = p (ix2 m d) + ∑ r, prob (row q r) (row k) m * g (ix2 r d) := by
  pointwise [k0_pay9, probs_at]

/-! The second, third and fourth heads are the first head's operations. -/

theorem dq_1 : k0_pay17 k v g (k0_pay14 q k) (constant S512x256 .f32 0x00000000#32)
    = k0_pay12 k (k0_pay10 q k v g) sc := rfl
theorem dq_2 : k0_pay23 k v g (k0_pay19 q k) = k0_pay12 k (k0_pay10 q k v g) sc := rfl

theorem dk_1 (p : FVec Ideal S256x128 .f32) :
    k0_pay18 q v g (k0_pay14 q k) (constant S512x256 .f32 0x00000000#32) p = k0_pay13 q (k0_pay10 q k v g) sc p := rfl
theorem dk_2 (p : FVec Ideal S256x128 .f32) :
    k0_pay24 q v g (k0_pay19 q k) p = k0_pay13 q (k0_pay10 q k v g) sc p := rfl
theorem dk_3 (p : FVec Ideal S256x128 .f32) :
    k0_pay4 q v g (k0_pay25 q k) (k0_pay26 q k) p = k0_pay13 q (k0_pay10 q k v g) sc p := rfl

theorem dv_1 (p : FVec Ideal S256x128 .f32) : k0_pay15 (F := Ideal) q k g p = k0_pay9 (F := Ideal) q k g p := rfl
theorem dv_2 (p : FVec Ideal S256x128 .f32) : k0_pay21 g (k0_pay19 q k) (k0_pay20 p) = k0_pay9 (F := Ideal) q k g p := rfl
theorem dv_3 (p : FVec Ideal S256x128 .f32) : k0_pay2 g (k0_pay25 q k) (k0_pay26 q k) p = k0_pay9 (F := Ideal) q k g p := rfl

/-- The queries' gradient of a whole block: the four heads side by side. -/
theorem dq_block (a b e : FVec Ideal S512x128 .f32) (j : S512x512.Idx) :
    k0_pay5 a b e k v g (k0_pay25 q k) (k0_pay26 q k) j
      = concatenate S512x512 1 [⟨S512x128, a⟩, ⟨S512x128, b⟩, ⟨S512x128, e⟩, ⟨S512x128, k0_pay12 k (k0_pay10 q k v g) sc⟩]
          concatenates_S512x128_S512x128_S512x128_S512x128_S512x512_d1 j := rfl

end Cert.KernelIdeal.Heads

end
-- ==== Proof.Blocks.lean ====
/- The three gradients of an attention of four heads of 128 lanes, over any number of query rows; and one grid point's
   share of them: what the point leaves in each of its three output buffers. -/
module

public import proofs.«01_k».proof.Proof.Gen.KernelIdeal.Value
public import proofs.«01_k».proof.Proof.Heads
public import Idealize.ShloMosaic.Lib.Pipeline.ValueKit
public import Idealize.ShloMosaic.Lib.Pipeline.ReadBack

@[expose] public section

set_option maxRecDepth 16384

noncomputable section

namespace Cert.Grad

open Idealize.ShloMosaic Cert.Row

/-- A matrix of 512 columns: four heads of 128 lanes. -/
abbrev Wide (n : ℕ) : Type := FVec Ideal (⟨2, ![n, 512]⟩ : Shape) .bf16

/-- Lane `d` of head `h`. -/
def lane (h : Fin 4) (d : Fin 128) : Fin 512 := ⟨128 * h.val + d.val, by omega⟩

/-- The head of a column. -/
def head (l : Fin 512) : Fin 4 := ⟨l.val / 128, by omega⟩

theorem head_lane (h : Fin 4) (d : Fin 128) : head (lane h d) = h := by
  refine Fin.ext ?_; show (128 * h.val + d.val) / 128 = h.val; omega

/-- Row `r` of head `h`. -/
def hrow {n : ℕ} (x : Wide n) (h : Fin 4) (r : Fin n) : Fin 128 → EReal := fun d => x (ix2 r (lane h d))

/-- The gradient in the queries. -/
def gradQ {n : ℕ} (q : Wide n) (k v : Wide 256) (g : Wide n) (r : Fin n) (l : Fin 512) : EReal :=
  ∑ m, dscore (hrow q (head l) r) (hrow k (head l)) (hrow v (head l)) (hrow g (head l) r) m * k (ix2 m l)

/-- The gradient in the keys: a sum over the query rows. -/
def gradK {n : ℕ} (q : Wide n) (k v : Wide 256) (g : Wide n) (m : Fin 256) (l : Fin 512) : EReal :=
  ∑ r, dscore (hrow q (head l) r) (hrow k (head l)) (hrow v (head l)) (hrow g (head l) r) m * q (ix2 r l)

/-- The gradient in the values: a sum over the query rows. -/
def gradV {n : ℕ} (q : Wide n) (k : Wide 256) (g : Wide n) (m : Fin 256) (l : Fin 512) : EReal :=
  ∑ r, prob (hrow q (head l) r) (hrow k (head l)) m * g (ix2 r l)

end Cert.Grad

namespace Cert.KernelIdeal.Value

open Cert.KernelIdeal Cert.KernelIdeal.Gen Cert.KernelIdeal.Heads Cert.Row Cert.Grad Idealize.ShloMosaic
open Idealize.ShloMosaic.TcCoe Idealize.SL.Sem

/-- A load of a head's columns, at an element. -/
theorem ld_head {n : ℕ} {e : EltTy} (x : (⟨2, ![n, 512]⟩ : Shape).Idx → Elt Ideal e) (h : Fin 4) (o : ℕ) (ho : o = 128 * h.val)
    (inb : ∀ a, (![0, o] : Fin 2 → ℕ) a + (![n, 128] : Fin 2 → ℕ) a ≤ (⟨2, ![n, 512]⟩ : Shape).size a) (r : Fin n) (d : Fin 128) :
    View.ld (S := (⟨2, ![n, 512]⟩ : Shape)) x (Rect.unit (s := (⟨2, ![n, 512]⟩ : Shape)) ![0, o] ![n, 128] inb) (ix2 r d)
      = x (ix2 r (lane h d)) := by
  refine View.ld_unit_apply_of x _ _ inb (ix2 r d) (ix2 r (lane h d)) fun a => ?_
  subst ho
  fin_cases a
  · show r.val = 0 + r.val; omega
  · rfl

/-- Columns `o` to `o + 127` of a block of 512 rows, and of one of 256. -/
abbrev cols (o : ℕ) (iq : ∀ a, (![0, o] : Fin 2 → ℕ) a + (![512, 128] : Fin 2 → ℕ) a ≤ S512x512.size a)
    (x : FVec Ideal S512x512 .bf16) : FVec Ideal S512x128 .bf16 :=
  View.ld (Val := Elt Ideal) (S := S512x512) (e' := .bf16) x (Rect.unit (s := S512x512) ![0, o] ![512, 128] iq)
abbrev colsK {e : EltTy} (o : ℕ) (ik : ∀ a, (![0, o] : Fin 2 → ℕ) a + (![256, 128] : Fin 2 → ℕ) a ≤ S256x512.size a)
    (x : S256x512.Idx → Elt Ideal e) : S256x128.Idx → Elt Ideal e :=
  View.ld (Val := Elt Ideal) (S := S256x512) (e' := e) x (Rect.unit (s := S256x512) ![0, o] ![256, 128] ik)

/-- The place in the whole buffer of an element of a head's columns. -/
theorem place {n : ℕ} (h : Fin 4) (x : (⟨2, ![n, 128]⟩ : Shape).Idx) (j : (⟨2, ![n, 512]⟩ : Shape).Idx)
    (h0 : (j 0).val = (x 0).val) (h1 : (j 1).val = 128 * h.val + (x 1).val) :
    ∃ (a : Fin n) (b : Fin 128), x = ix2 a b ∧ j = ix2 a (lane h b) := by
  refine ⟨x 0, x 1, funext fun a => ?_, funext fun a => ?_⟩
  · fin_cases a <;> rfl
  · fin_cases a
    · exact Fin.ext h0
    · exact Fin.ext h1

section
variable (q g : FVec Ideal S512x512 .bf16) (k v : FVec Ideal S256x512 .bf16) (p : FVec Ideal S256x512 .f32)
variable (h : Fin 4) (o : ℕ) (ho : o = 128 * h.val)
variable (iq : ∀ a, (![0, o] : Fin 2 → ℕ) a + (![512, 128] : Fin 2 → ℕ) a ≤ S512x512.size a)
variable (ik : ∀ a, (![0, o] : Fin 2 → ℕ) a + (![256, 128] : Fin 2 → ℕ) a ≤ S256x512.size a)

include ho

theorem row_cols (r : Fin 512) : row (cols o iq q) r = hrow q h r := funext fun d => ld_head (e := .bf16) q h o ho iq r d
theorem row_colsK : row (colsK (e := .bf16) o ik k) = hrow k h := funext fun m => funext fun d => ld_head (e := .bf16) k h o ho ik m d

/-- What a head adds to its columns of the keys' gradient. -/
theorem head_dk (m : Fin 256) (d : Fin 128) :
    (k0_pay13 (cols o iq q) (k0_pay10 (cols o iq q) (colsK (e := .bf16) o ik k) (colsK (e := .bf16) o ik v) (cols o iq g)) sc (colsK (e := .f32) o ik p) (ix2 m d) : EReal)
      = p (ix2 m (lane h d)) + gradK q k v g m (lane h d) := by
  refine (dk_at _ _ _ _ _ m d).trans (congrArg₂ _ (ld_head (e := .f32) p h o ho ik m d) (Finset.sum_congr rfl fun r _ => ?_))
  rw [row_cols q h o ho iq, row_cols g h o ho iq, row_colsK k h o ho ik, row_colsK v h o ho ik, head_lane]
  exact congrArg _ (ld_head (e := .bf16) q h o ho iq r d)

/-- What a head adds to its columns of the values' gradient. -/
theorem head_dv (m : Fin 256) (d : Fin 128) :
    k0_pay9 (F := Ideal) (cols o iq q) (colsK (e := .bf16) o ik k) (cols o iq g) (colsK (e := .f32) o ik p) (ix2 m d)
      = p (ix2 m (lane h d)) + gradV q k g m (lane h d) := by
  refine (dv_at _ _ _ _ m d).trans (congrArg₂ _ (ld_head (e := .f32) p h o ho ik m d) (Finset.sum_congr rfl fun r _ => ?_))
  rw [row_cols q h o ho iq, row_colsK k h o ho ik, head_lane]
  exact congrArg _ (ld_head (e := .bf16) g h o ho iq r d)

/-- A head's columns of the queries' gradient. -/
theorem head_dq (r : Fin 512) (d : Fin 128) :
    (k0_pay12 (colsK (e := .bf16) o ik k) (k0_pay10 (cols o iq q) (colsK (e := .bf16) o ik k) (colsK (e := .bf16) o ik v) (cols o iq g)) sc (ix2 r d) : EReal)
      = gradQ q k v g r (lane h d) := by
  refine (dq_at _ _ _ _ r d).trans (Finset.sum_congr rfl fun m _ => ?_)
  rw [row_cols q h o ho iq, row_cols g h o ho iq, row_colsK k h o ho ik, row_colsK v h o ho ik, head_lane]
  exact congrArg _ (ld_head (e := .bf16) k h o ho ik m d)

end

/-- Four pieces put side by side, at an element. -/
theorem side_by_side (G : Fin 512 → Fin 512 → EReal) (a b e f : FVec Ideal S512x128 .f32)
    (ha : ∀ r d, a (ix2 r d) = G r (lane 0 d)) (hb : ∀ r d, b (ix2 r d) = G r (lane 1 d))
    (he : ∀ r d, e (ix2 r d) = G r (lane 2 d)) (hf : ∀ r d, f (ix2 r d) = G r (lane 3 d)) (r : Fin 512) (l : Fin 512) :
    (concatenate S512x512 1 [⟨S512x128, a⟩, ⟨S512x128, b⟩, ⟨S512x128, e⟩, ⟨S512x128, f⟩]
      concatenates_S512x128_S512x128_S512x128_S512x128_S512x512_d1 (ix2 r l) : EReal) = G r l := by
  pointwise
  simp only [ha, hb, he, hf]
  split_ifs <;> exact congrArg (G r) (Fin.ext (by simp only [lane, Fin.val_zero, Fin.val_one, Fin.val_two, Fin.isValue]; omega))

/-- Stores that cover a buffer leave the same contents whatever was stored before them. -/
theorem canon_over {Val : EltTy → Type} [∀ e, Nonempty (Val e)] {S : Shape} {e : EltTy} (L' : List (View.Piece Val S e)) (y : S.Idx) :
    ∀ L : List (View.Piece Val S e), (∃ p ∈ L, y ∈ p.1.set) → View.canon (L ++ L') y = View.canon L y
  | [], h => by obtain ⟨p, hp, _⟩ := h; exact absurd hp List.not_mem_nil
  | p :: L, h => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_over L' y L ?_
      obtain ⟨q, hq, hy⟩ := h
      rcases List.mem_cons.mp hq with rfl | hq
      · exact absurd hy hm
      · exact ⟨q, hq, hy⟩

theorem canon_four {Val : EltTy → Type} [∀ e, Nonempty (Val e)] {S : Shape} {e : EltTy} (a b c d f : View.Piece Val S e)
    (h : ∀ y, ∃ p ∈ [a, b, c, d], y ∈ p.1.set) (y : S.Idx) : View.canon [a, b, c, d, f] y = View.canon [a, b, c, d] y :=
  canon_over [f] y [a, b, c, d] (h y)

variable (m : (ℓ : Loc nD τ sig) → Buf (Elt Ideal) ℓ) (c : Dev nD)

/-- The blocks a grid point reads. -/
abbrev bq (t : Fin cfg0.N) : FVec Ideal S512x512 .bf16 := iblk m c 0 t
abbrev bk (t : Fin cfg0.N) : FVec Ideal S256x512 .bf16 := iblk m c 1 t
abbrev bv (t : Fin cfg0.N) : FVec Ideal S256x512 .bf16 := iblk m c 2 t
abbrev bg (t : Fin cfg0.N) : FVec Ideal S512x512 .bf16 := iblk m c 3 t

/-- What the buffers of the keys' and the values' gradients are filled with at the first point. -/
theorem zero_k (j : S256x512.Idx) : k0_pay6 (F := Ideal) j = (0 : EReal) := by pointwise [k0_pay6]
theorem zero_v (j : S256x512.Idx) : k0_pay7 (F := Ideal) j = (0 : EReal) := by pointwise [k0_pay7]

/-- The keys' gradient after a point that is not the first. -/
theorem dk_next (t : Fin cfg0.N) (ht : ¬ t.val % 8 = 0) (j : S256x512.Idx) :
    (outsAt0 m c t.val t.isLt).2.1 j
      = (show EReal from (outsAt0 m c (t.val - 1) (by omega)).2.1 j) + gradK (bq m c t) (bk m c t) (bv m c t) (bg m c t) (j 0) (j 1) := by
  rw [outsAt0_B m c t ht]
  dsimp only
  frame_open
  simp (disch := decide) only [↓ View.readCov_skip, ↓ View.readCov_cons_toLoadRect, ↓ View.readCov_fill]
  frame_out
  canon_tiles x hx
  · obtain ⟨a, b, rfl, rfl⟩ := place 3 x j hx0 hx1
    exact (congrFun (dk_3 _ _ _ _ _) _).trans (head_dk _ _ _ _ _ 3 384 rfl _ _ a b)
  · obtain ⟨a, b, rfl, rfl⟩ := place 2 x j hx0 hx1
    exact (congrFun (dk_2 _ _ _ _ _) _).trans (head_dk _ _ _ _ _ 2 256 rfl _ _ a b)
  · obtain ⟨a, b, rfl, rfl⟩ := place 1 x j hx0 hx1
    exact (congrFun (dk_1 _ _ _ _ _) _).trans (head_dk _ _ _ _ _ 1 128 rfl _ _ a b)
  · obtain ⟨a, b, rfl, rfl⟩ := place 0 x j hx0 (by omega)
    exact head_dk _ _ _ _ _ 0 0 rfl _ _ a b

/-- The keys' gradient after the first point. -/
theorem dk_first (t : Fin cfg0.N) (ht : t.val % 8 = 0) (j : S256x512.Idx) :
    (outsAt0 m c t.val t.isLt).2.1 j = k0_pay6 (F := Ideal) j + gradK (bq m c t) (bk m c t) (bv m c t) (bg m c t) (j 0) (j 1) := by
  rw [outsAt0_A m c t ht]
  dsimp only
  frame_open
  simp (disch := decide) only [↓ View.readCov_skip, ↓ View.readCov_cons_toLoadRect, ↓ View.readCov_fill]
  frame_out
  refine (canon_four _ _ _ _ _ (View.cover_of_tiled_head _ _ _ rfl) j).trans ?_
  canon_tiles x hx
  · obtain ⟨a, b, rfl, rfl⟩ := place 3 x j hx0 hx1
    exact (congrFun (dk_3 _ _ _ _ _) _).trans (head_dk _ _ _ _ _ 3 384 rfl _ _ a b)
  · obtain ⟨a, b, rfl, rfl⟩ := place 2 x j hx0 hx1
    exact (congrFun (dk_2 _ _ _ _ _) _).trans (head_dk _ _ _ _ _ 2 256 rfl _ _ a b)
  · obtain ⟨a, b, rfl, rfl⟩ := place 1 x j hx0 hx1
    exact (congrFun (dk_1 _ _ _ _ _) _).trans (head_dk _ _ _ _ _ 1 128 rfl _ _ a b)
  · obtain ⟨a, b, rfl, rfl⟩ := place 0 x j hx0 (by omega)
    exact head_dk _ _ _ _ _ 0 0 rfl _ _ a b

/-- The values' gradient after a point that is not the first. -/
theorem dv_next (t : Fin cfg0.N) (ht : ¬ t.val % 8 = 0) (j : S256x512.Idx) :
    (outsAt0 m c t.val t.isLt).2.2 j
      = (show EReal from (outsAt0 m c (t.val - 1) (by omega)).2.2 j) + gradV (bq m c t) (bk m c t) (bg m c t) (j 0) (j 1) := by
  rw [outsAt0_B m c t ht]
  dsimp only
  frame_open
  simp (disch := decide) only [↓ View.readCov_skip, ↓ View.readCov_cons_toLoadRect, ↓ View.readCov_fill]
  frame_out
  canon_tiles x hx
  · obtain ⟨a, b, rfl, rfl⟩ := place 3 x j hx0 hx1
    exact (congrFun (dv_3 _ _ _ _) _).trans (head_dv _ _ _ _ 3 384 rfl _ _ a b)
  · obtain ⟨a, b, rfl, rfl⟩ := place 2 x j hx0 hx1
    exact (congrFun (dv_2 _ _ _ _) _).trans (head_dv _ _ _ _ 2 256 rfl _ _ a b)
  · obtain ⟨a, b, rfl, rfl⟩ := place 1 x j hx0 hx1
    exact (congrFun (dv_1 _ _ _ _) _).trans (head_dv _ _ _ _ 1 128 rfl _ _ a b)
  · obtain ⟨a, b, rfl, rfl⟩ := place 0 x j hx0 (by omega)
    exact head_dv _ _ _ _ 0 0 rfl _ _ a b

/-- The values' gradient after the first point. -/
theorem dv_first (t : Fin cfg0.N) (ht : t.val % 8 = 0) (j : S256x512.Idx) :
    (outsAt0 m c t.val t.isLt).2.2 j = k0_pay7 (F := Ideal) j + gradV (bq m c t) (bk m c t) (bg m c t) (j 0) (j 1) := by
  rw [outsAt0_A m c t ht]
  dsimp only
  frame_open
  simp (disch := decide) only [↓ View.readCov_skip, ↓ View.readCov_cons_toLoadRect, ↓ View.readCov_fill]
  frame_out
  refine (canon_four _ _ _ _ _ (View.cover_of_tiled_head _ _ _ rfl) j).trans ?_
  canon_tiles x hx
  · obtain ⟨a, b, rfl, rfl⟩ := place 3 x j hx0 hx1
    exact (congrFun (dv_3 _ _ _ _) _).trans (head_dv _ _ _ _ 3 384 rfl _ _ a b)
  · obtain ⟨a, b, rfl, rfl⟩ := place 2 x j hx0 hx1
    exact (congrFun (dv_2 _ _ _ _) _).trans (head_dv _ _ _ _ 2 256 rfl _ _ a b)
  · obtain ⟨a, b, rfl, rfl⟩ := place 1 x j hx0 hx1
    exact (congrFun (dv_1 _ _ _ _) _).trans (head_dv _ _ _ _ 1 128 rfl _ _ a b)
  · obtain ⟨a, b, rfl, rfl⟩ := place 0 x j hx0 (by omega)
    exact head_dv _ _ _ _ 0 0 rfl _ _ a b

/-- The queries' gradient of the point's own rows. -/
theorem dq_point (t : Fin cfg0.N) (r l : Fin 512) :
    (outsAt0 m c t.val t.isLt).1 (ix2 r l) = gradQ (bq m c t) (bk m c t) (bv m c t) (bg m c t) r l := by
  by_cases ht : t.val % 8 = 0
  · rw [outsAt0_A m c t ht]
    dsimp only
    frame_out
    exact (dq_block _ _ _ _ _ _ _ _).trans (side_by_side _ _ _ _ _
      (fun r d => head_dq _ _ _ _ 0 0 rfl _ _ r d) (fun r d => (congrFun (dq_1 _ _ _ _) _).trans (head_dq _ _ _ _ 1 128 rfl _ _ r d))
      (fun r d => (congrFun (dq_2 _ _ _ _) _).trans (head_dq _ _ _ _ 2 256 rfl _ _ r d)) (fun r d => head_dq _ _ _ _ 3 384 rfl _ _ r d) r l)
  · rw [outsAt0_B m c t ht]
    dsimp only
    frame_out
    exact (dq_block _ _ _ _ _ _ _ _).trans (side_by_side _ _ _ _ _
      (fun r d => head_dq _ _ _ _ 0 0 rfl _ _ r d) (fun r d => (congrFun (dq_1 _ _ _ _) _).trans (head_dq _ _ _ _ 1 128 rfl _ _ r d))
      (fun r d => (congrFun (dq_2 _ _ _ _) _).trans (head_dq _ _ _ _ 2 256 rfl _ _ r d)) (fun r d => head_dq _ _ _ _ 3 384 rfl _ _ r d) r l)

end Cert.KernelIdeal.Value

end
-- ==== Proof.Arrays.lean ====
/- What the kernel's three result arrays hold: the gradients of the attention over all 4096 query rows. -/
module

public import proofs.«01_k».proof.Proof.Blocks

@[expose] public section

set_option maxRecDepth 16384

noncomputable section

namespace Cert.KernelIdeal.Value

open Cert.KernelIdeal Cert.KernelIdeal.Gen Cert.Row Cert.Grad Idealize.ShloMosaic
open Idealize.ShloMosaic.TcCoe Idealize.SL.Sem

variable (m : (ℓ : Loc nD τ sig) → Buf (Elt Ideal) ℓ) (c : Dev nD)

/-- The argument arrays. -/
abbrev aq : Wide 4096 := m ((c.tc : Thread nD τ).loc main_arg0)
abbrev ak : Wide 256 := m ((c.tc : Thread nD τ).loc main_arg1)
abbrev av : Wide 256 := m ((c.tc : Thread nD τ).loc main_arg2)
abbrev ag : Wide 4096 := m ((c.tc : Thread nD τ).loc main_arg3)

/-- Which block each window is at, at a point. -/
theorem idx_val : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

theorem point_lt (t : Fin cfg0.N) : t.val < 8 := Nat.lt_of_lt_of_eq t.isLt N_0

/-- Row `r` of the block of point `t`. -/
def rowOf (t : Fin cfg0.N) (r : Fin 512) : Fin 4096 := ⟨t.val * 512 + r.val, by have := point_lt t; omega⟩

theorem bq_at (t : Fin cfg0.N) (r l : Fin 512) : bq m c t (ix2 r l) = aq m c (ix2 (rowOf t r) l) := by
  unfold rowOf; blk_ext! [iblk, V, idx_val t]
theorem bg_at (t : Fin cfg0.N) (r l : Fin 512) : bg m c t (ix2 r l) = ag m c (ix2 (rowOf t r) l) := by
  unfold rowOf; blk_ext! [iblk, V, idx_val t]
theorem bk_eq (t : Fin cfg0.N) : bk m c t = ak m c := by
  funext j; idx_vars j; blk_ext! [iblk, V, idx_val t]
theorem bv_eq (t : Fin cfg0.N) : bv m c t = av m c := by
  funext j; idx_vars j; blk_ext! [iblk, V, idx_val t]

theorem hrow_q (t : Fin cfg0.N) (h : Fin 4) (r : Fin 512) : hrow (bq m c t) h r = hrow (aq m c) h (rowOf t r) :=
  funext fun _ => bq_at m c t r _
theorem hrow_g (t : Fin cfg0.N) (h : Fin 4) (r : Fin 512) : hrow (bg m c t) h r = hrow (ag m c) h (rowOf t r) :=
  funext fun _ => bg_at m c t r _

/-- The points' shares of the keys' gradient add up to the whole one. -/
theorem sum_gradK (a : Fin 256) (l : Fin 512) :
    ∑ t : Fin cfg0.N, gradK (bq m c t) (bk m c t) (bv m c t) (bg m c t) a l = gradK (aq m c) (ak m c) (av m c) (ag m c) a l := by
  unfold gradK
  refine Fin.sum_mul_add_congr fun t r hl => ?_
  rw [hrow_q, hrow_g, bk_eq, bv_eq, bq_at]
  rfl

/-- So do their shares of the values' gradient. -/
theorem sum_gradV (a : Fin 256) (l : Fin 512) :
    ∑ t : Fin cfg0.N, gradV (bq m c t) (bk m c t) (bg m c t) a l = gradV (aq m c) (ak m c) (ag m c) a l := by
  unfold gradV
  refine Fin.sum_mul_add_congr fun t r hl => ?_
  rw [hrow_q, bk_eq, bg_at]
  rfl

/-- The queries' gradient. -/
theorem final_dq : (dats m 0 c).arrAt 4 cfg0.N = fun i : S4096x512.Idx => (gradQ (aq m c) (ak m c) (av m c) (ag m c) (i 0) (i 1) : EReal) := by
  refine (dats m 0 c).arrAt_eq_of_covers 4 _ (by decide +kernel) fun t hf y => ?_
  blk_simp [idx_val t]
  rw [after0_4]
  obtain ⟨r, l, rfl⟩ : ∃ r l : Fin 512, y = ix2 r l := ⟨y 0, y 1, by funext a; fin_cases a <;> rfl⟩
  have e0 : (win0_4.blk t).view.emb (ix2 r l) 0 = rowOf t r := Fin.ext (by simp [rowOf, idx_val t])
  have e1 : (win0_4.blk t).view.emb (ix2 r l) 1 = l := Fin.ext (by simp [idx_val t])
  rw [dq_point, e0, e1]
  unfold gradQ
  rw [hrow_q, hrow_g, bk_eq, bv_eq]

/-- The keys' gradient. -/
theorem final_dk : (dats m 0 c).arrAt 5 cfg0.N = fun i : S256x512.Idx => (gradK (aq m c) (ak m c) (av m c) (ag m c) (i 0) (i 1) : EReal) := by
  refine (dats m 0 c).arrAt_eq_of_after_last 5 t0_7 (by decide +kernel) _ fun j => ?_
  blk_simp
  rw [after0_5, Pipeline.eq_sum_fin_of_reset_step_apply_last (fun n h => (outsAt0 m c n h).2.1) 8 (k0_pay6 (F := Ideal)) _
    (fun t h j => dk_first m c t h j) (fun t h j => dk_next m c t h j) (le_of_eq N_0) t0_7 rfl j]
  exact (congrArg₂ (· + ·) (zero_k j) (sum_gradK m c (j 0) (j 1))).trans (zero_add (M := EReal) _)

/-- The values' gradient. -/
theorem final_dv : (dats m 0 c).arrAt 6 cfg0.N = fun i : S256x512.Idx => (gradV (aq m c) (ak m c) (ag m c) (i 0) (i 1) : EReal) := by
  refine (dats m 0 c).arrAt_eq_of_after_last 6 t0_7 (by decide +kernel) _ fun j => ?_
  blk_simp
  rw [after0_6, Pipeline.eq_sum_fin_of_reset_step_apply_last (fun n h => (outsAt0 m c n h).2.2) 8 (k0_pay7 (F := Ideal)) _
    (fun t h j => dv_first m c t h j) (fun t h j => dv_next m c t h j) (le_of_eq N_0) t0_7 rfl j]
  exact (congrArg₂ (· + ·) (zero_v j) (sum_gradV m c (j 0) (j 1))).trans (zero_add (M := EReal) _)

end Cert.KernelIdeal.Value

end
-- ==== Proof.Reference.lean ====
/- What the reference's arrays hold at an index, stage by stage. -/
module

public import proofs.«01_k».proof.Proof.Blocks
public import proofs.«01_k».proof.Proof.Gen.ReferenceIdeal.Run

@[expose] public section

set_option maxRecDepth 16384

noncomputable section

namespace Cert.ReferenceIdeal.Stage

open Cert.ReferenceIdeal Cert.ReferenceIdeal.Gen Cert.Row Cert.Grad Idealize.ShloMosaic
open Idealize.ShloMosaic.TcCoe Idealize.SL.Sem

abbrev Scores := FVec Ideal S1x4x4096x256 .f32
abbrev PerRow := FVec Ideal S1x4x4096x1 .f32

/-- The heads side by side become an axis of their own. -/
def split (x : Wide 4096) : FVec Ideal S1x4096x4x128 .f32 :=
  shapeCast _ (extf .f32 (x : FVec Ideal S4096x512 .bf16) bitsLt_bf16_f32) shapeCasts_S4096x512_S1x4096x4x128
def splitK (x : Wide 256) : FVec Ideal S1x256x4x128 .f32 :=
  shapeCast _ (extf .f32 (x : FVec Ideal S256x512 .bf16) bitsLt_bf16_f32) shapeCasts_S256x512_S1x256x4x128

def constant4 (w : BitVec 32) : Scores := broadcastInDim S1x4x4096x256 ![] bcast_S_S1x4x4096x256 (constant S_ .f32 w)
def spread (x : PerRow) : Scores := broadcastInDim S1x4x4096x256 ![0, 1, 2, 3] bcast_S1x4x4096x1_S1x4x4096x256_0_1_2_3 x
def column (x : FVec Ideal S1x4x4096 .f32) : PerRow := broadcastInDim S1x4x4096x1 ![0, 1, 2] bcast_S1x4x4096_S1x4x4096x1_0_1_2 x

/-- The scaled scores. -/
def scores (q : Wide 4096) (k : Wide 256) : Scores :=
  mulf (Host.dotGeneral dot_S1x4096x4x128_S1x256x4x128_S1x4x4096x256_3_3_1_1_02_02 none (split q) (splitK k)) (constant4 0x3DB504F3#32)

/-- The rows' largest scores. -/
def peaks (s : Scores) : FVec Ideal S1x4x4096 .f32 :=
  Host.reduce FloatOps.maximumf s (constant S_ .f32 0xFF800000#32) reducesTo_S1x4x4096x256_S1x4x4096_d3 h_S_

/-- The exponentials of a row's scores less its largest one. -/
def weights (s : Scores) : Scores :=
  Host.exp (subf s (spread (column (maximumf (broadcastInDim S1x4x4096 ![] bcast_S_S1x4x4096 (constant S_ .f32 0xFF800000#32)) (peaks s)))))

/-- Their sums. -/
def totals (e : Scores) : PerRow :=
  column (Host.reduceAdd e (constant S_ .f32 0x00000000#32) reducesTo_S1x4x4096x256_S1x4x4096_d3 h_S_)

/-- The output's gradient, its axes in the order head, dimension, row. -/
def turned (g : Wide 4096) : FVec Ideal S1x4x128x4096 .f32 :=
  transpose S1x4x128x4096 [0, 2, 3, 1] (split g) transposes_S1x4096x4x128_S1x4x128x4096_0_2_3_1

/-- The gradient at the probabilities. -/
def dprobs (g : Wide 4096) (v : Wide 256) : Scores :=
  Host.dotGeneral dot_S1x4x128x4096_S1x256x4x128_S1x4x4096x256_2_3_3_1_01_02 none (turned g) (splitK v)

/-- The gradient at the rows' sums. -/
def dtotals (p e : Scores) (l : PerRow) : FVec Ideal S4x4096 .f32 :=
  Host.reduceAdd (Host.negf (shapeCast _ (Host.reduceAdd (mulf (mulf p (spread (Host.divf
    (broadcastInDim S1x4x4096x1 ![] bcast_S_S1x4x4096x1 (constant S_ .f32 0x3F800000#32)) (mulf l l)))) e)
    (constant S_ .f32 0x00000000#32) reducesTo_S1x4x4096x256_S1x4x4096_d3 h_S_) shapeCasts_S1x4x4096_S1x4x4096x1))
    (constant S_ .f32 0x00000000#32) reducesTo_S1x4x4096x1_S4x4096_d0_3 h_S_

/-- The gradient at the unscaled scores. -/
def dscores (p e : Scores) (l : PerRow) : Scores :=
  mulf (mulf (addf (Host.divf p (spread l)) (broadcastInDim S1x4x4096x256 ![0, 1, 2] bcast_S1x4x4096_S1x4x4096x256_0_1_2
    (broadcastInDim S1x4x4096 ![1, 2] bcast_S4x4096_S1x4x4096_1_2 (dtotals p e l)))) e) (constant4 0x3DB504F3#32)

/-- The queries', the keys' and the values' gradients of the scores' one. -/
def outQ (d : Scores) (k : Wide 256) : FVec Ideal S4096x512 .bf16 :=
  truncf .bf16 (shapeCast _ (transpose S1x4096x4x128 [0, 2, 1, 3] (Host.dotGeneral dot_S1x4x4096x256_S1x256x4x128_S1x4x4096x128_3_1_2_3_01_02 none d (splitK k))
    transposes_S1x4x4096x128_S1x4096x4x128_0_2_1_3) shapeCasts_S1x4096x4x128_S4096x512) bitsLt_bf16_f32
def outK (d : Scores) (q : Wide 4096) : FVec Ideal S256x512 .f32 :=
  shapeCast _ (transpose S1x256x4x128 [0, 2, 1, 3] (Host.dotGeneral dot_S1x4x4096x256_S1x4096x4x128_S1x4x256x128_2_1_3_3_01_02 none d (split q))
    transposes_S1x4x256x128_S1x256x4x128_0_2_1_3) shapeCasts_S1x256x4x128_S256x512
def outV (g : Wide 4096) (e : Scores) (l : PerRow) : FVec Ideal S256x512 .f32 :=
  shapeCast _ (transpose S1x256x4x128 [0, 3, 1, 2] (Host.dotGeneral dot_S1x4x128x4096_S1x4x4096x256_S1x4x128x256_3_2_2_3_01_01 none (turned g)
    (Host.divf e (spread l))) transposes_S1x4x128x256_S1x256x4x128_0_3_1_2) shapeCasts_S1x256x4x128_S256x512

variable (q : Wide 4096) (k v : Wide 256) (g : Wide 4096)

/-- A head's tokens, as rows. -/
abbrev tok (x : Wide 256) (h : Fin 4) : Fin 256 → Fin 128 → EReal := fun m => hrow x h m

theorem split_at (x : Wide 4096) (r : Fin 4096) (h : Fin 4) (d : Fin 128) : split x (ix4 0 r h d) = hrow x h r d := by
  have e : lane h d = ⟨h.val * 128 + d.val, by omega⟩ := Fin.ext (congrArg (· + d.val) (Nat.mul_comm 128 h.val))
  unfold hrow; rw [e]; pointwise [split]
theorem splitK_at (x : Wide 256) (r : Fin 256) (h : Fin 4) (d : Fin 128) : splitK x (ix4 0 r h d) = hrow x h r d := by
  have e : lane h d = ⟨h.val * 128 + d.val, by omega⟩ := Fin.ext (congrArg (· + d.val) (Nat.mul_comm 128 h.val))
  unfold hrow; rw [e]; pointwise [splitK]

theorem scores_at (h : Fin 4) (r : Fin 4096) (a : Fin 256) :
    scores q k (ix4 0 h r a) = score (hrow q h r) (tok k h) a := by
  unfold score scale; pointwise [scores, constant4, split_at, splitK_at]

theorem peaks_at (h : Fin 4) (r : Fin 4096) : peaks (scores q k) (ix3 0 h r) = peak (hrow q h r) (tok k h) := by
  have e : peaks (scores q k) (ix3 0 h r) = Finset.univ.fold max lowest fun a => scores q k (ix4 0 h r a) := by
    unfold lowest; pointwise [peaks]
  rw [e]
  exact congrArg (Finset.univ.fold max lowest) (funext fun a => scores_at q k h r a)

theorem max_lowest (x : EReal) : max (Ideal.ofBits .f32 0xFF800000#32) x = x := by
  rw [show Ideal.ofBits .f32 0xFF800000#32 = ⊥ from lowest_eq]; exact max_eq_right bot_le

theorem spread_at (x : PerRow) (h : Fin 4) (r : Fin 4096) (a : Fin 256) : spread x (ix4 0 h r a) = x (ix4 0 h r 0) := by
  pointwise [spread]
theorem column_at (x : FVec Ideal S1x4x4096 .f32) (h : Fin 4) (r : Fin 4096) : column x (ix4 0 h r 0) = x (ix3 0 h r) := by
  pointwise [column]
theorem clip_at (x : FVec Ideal S1x4x4096 .f32) (h : Fin 4) (r : Fin 4096) :
    maximumf (broadcastInDim S1x4x4096 ![] bcast_S_S1x4x4096 (constant S_ .f32 0xFF800000#32)) x (ix3 0 h r) = x (ix3 0 h r) := by
  refine Eq.trans ?_ (max_lowest (x (ix3 0 h r)))
  pointwise
theorem exp_at (s y : Scores) (h : Fin 4) (r : Fin 4096) (a : Fin 256) :
    Host.exp (subf s y) (ix4 0 h r a) = Ideal.exp (s (ix4 0 h r a) - y (ix4 0 h r a)) := by
  pointwise

theorem weights_at (h : Fin 4) (r : Fin 4096) (a : Fin 256) :
    weights (scores q k) (ix4 0 h r a) = weight (hrow q h r) (tok k h) a := by
  unfold weights weight
  rw [exp_at, spread_at, column_at, clip_at, peaks_at, scores_at]

theorem totals_at (h : Fin 4) (r : Fin 4096) :
    totals (weights (scores q k)) (ix4 0 h r 0) = total (hrow q h r) (tok k h) := by
  unfold total; pointwise [totals, column, weights_at]

theorem dprobs_at (h : Fin 4) (r : Fin 4096) (a : Fin 256) :
    dprobs g v (ix4 0 h r a) = dprob (tok v h) (hrow g h r) a := by
  unfold dprob; pointwise [dprobs, turned, split_at, splitK_at]

/-- A sum over the first and the last of four axes, both of one element, is that element. -/
theorem sum_unit (x : PerRow) (h : Fin 4) (r : Fin 4096) :
    Host.reduceAdd x (constant S_ .f32 0x00000000#32) reducesTo_S1x4x4096x1_S4x4096_d0_3 h_S_ (ix2 h r) = x (ix4 0 h r 0) := by
  have hf : ∀ i : S1x4x4096x1.Idx, reducesTo_S1x4x4096x1_S4x4096_d0_3.drop i = ix2 h r ↔ i = ix4 0 h r 0 := fun i => by
    constructor
    · intro e
      have e0 : (i 1 : ℕ) = h := congrArg Fin.val (congrFun e 0)
      have e1 : (i 2 : ℕ) = r := congrArg Fin.val (congrFun e 1)
      funext a
      match a with
      | ⟨0, _⟩ => exact Subsingleton.elim (α := Fin 1) _ _
      | ⟨1, _⟩ => exact Fin.ext e0
      | ⟨2, _⟩ => exact Fin.ext e1
      | ⟨3, _⟩ => exact Subsingleton.elim (α := Fin 1) _ _
    · intro e
      rw [e]
      funext b
      match b with
      | ⟨0, _⟩ => rfl
      | ⟨1, _⟩ => rfl
  rw [Host.reduceAdd_apply]
  show Ideal.hostReduceAdd _ _ _ _ = _
  unfold Ideal.hostReduceAdd
  rw [Finset.filter_congr (fun i _ => hf i), Finset.filter_eq', if_pos (Finset.mem_univ _), Finset.sum_singleton]
  exact (congrArg (· + x (ix4 0 h r 0)) (show constant (F := Ideal) S_ .f32 0x00000000#32 (Shape.Idx.first h_S_) = (0 : EReal) by
    pointwise)).trans (zero_add (M := EReal) _)

theorem dtotals_at (h : Fin 4) (r : Fin 4096) :
    dtotals (dprobs g v) (weights (scores q k)) (totals (weights (scores q k))) (ix2 h r)
      = -∑ l, dprob (tok v h) (hrow g h r) l * Ideal.div 1 (total (hrow q h r) (tok k h) * total (hrow q h r) (tok k h)) * weight (hrow q h r) (tok k h) l := by
  unfold dtotals
  rw [sum_unit]
  pointwise [spread, weights_at, totals_at, dprobs_at]

theorem dscores_at (h : Fin 4) (r : Fin 4096) (a : Fin 256) :
    dscores (dprobs g v) (weights (scores q k)) (totals (weights (scores q k))) (ix4 0 h r a)
      = dscoreLong (hrow q h r) (tok k h) (tok v h) (hrow g h r) a := by
  unfold dscoreLong scale; pointwise [dscores, constant4, spread, weights_at, totals_at, dprobs_at, dtotals_at]

/-- A column of a wide array is the entry of its head. -/
theorem hrow_head {n : ℕ} (x : Wide n) (l : Fin 512) (r : Fin n) :
    hrow x ⟨l.val / 128, by omega⟩ r ⟨l.val % 128, by omega⟩ = x (ix2 r l) := by
  have e : lane ⟨l.val / 128, by omega⟩ ⟨l.val % 128, by omega⟩ = l := Fin.ext (Nat.div_add_mod l.val 128)
  unfold hrow; rw [e]

/-- The queries' gradient of the reference. -/
theorem outQ_at (d : Scores) (r : Fin 4096) (l : Fin 512) :
    outQ d k (ix2 r l) = ∑ a : Fin 256, d (ix4 0 (head l) r a) * k (ix2 a l) := by
  pointwise [outQ, splitK_at, hrow_head, head]
theorem outK_at (d : Scores) (a : Fin 256) (l : Fin 512) :
    outK d q (ix2 a l) = ∑ r : Fin 4096, d (ix4 0 (head l) r a) * q (ix2 r l) := by
  pointwise [outK, split_at, hrow_head, head]
theorem outV_at (e : Scores) (t : PerRow) (a : Fin 256) (l : Fin 512) :
    outV g e t (ix2 a l) = ∑ r : Fin 4096, g (ix2 r l) * Ideal.div (e (ix4 0 (head l) r a)) (t (ix4 0 (head l) r 0)) := by
  pointwise [outV, turned, split_at, spread, hrow_head, head]

/-- Every element of an array is finite. -/
def AllFinite {n : ℕ} (x : Wide n) : Prop := ∀ r l, Finite (x (ix2 r l))

theorem AllFinite.row {n : ℕ} {x : Wide n} (hx : AllFinite x) (h : Fin 4) (r : Fin n) (d : Fin 128) : Finite (hrow x h r d) :=
  hx r (lane h d)

theorem gradQ_eq (hq : AllFinite q) (hk : AllFinite k) (r : Fin 4096) (l : Fin 512) :
    outQ (dscores (dprobs g v) (weights (scores q k)) (totals (weights (scores q k)))) k (ix2 r l) = gradQ q k v g r l := by
  rw [outQ_at]
  refine Finset.sum_congr rfl fun a _ => ?_
  rw [dscores_at, ← dscore_eq_long (hq.row _ _) (fun m => hk.row _ m)]

theorem gradK_eq (hq : AllFinite q) (hk : AllFinite k) (a : Fin 256) (l : Fin 512) :
    outK (dscores (dprobs g v) (weights (scores q k)) (totals (weights (scores q k)))) q (ix2 a l) = gradK q k v g a l := by
  rw [outK_at]
  refine Finset.sum_congr rfl fun r _ => ?_
  rw [dscores_at, ← dscore_eq_long (hq.row _ _) (fun m => hk.row _ m)]

theorem gradV_eq (hq : AllFinite q) (hk : AllFinite k) (a : Fin 256) (l : Fin 512) :
    outV g (weights (scores q k)) (totals (weights (scores q k))) (ix2 a l) = gradV q k g a l := by
  rw [outV_at]
  refine Finset.sum_congr rfl fun r _ => ?_
  rw [weights_at, totals_at, ← prob_eq_div (hq.row _ _) (fun m => hk.row _ m)]
  exact mul_comm _ _

end Cert.ReferenceIdeal.Stage

end
-- ==== Proof.Equation.lean ====
/- The kernel's three arrays and the reference's are the same, for finite queries and keys. -/
module

public import proofs.«01_k».proof.Defs
public import proofs.«01_k».proof.Proof.Arrays
public import proofs.«01_k».proof.Proof.Reference
public import Idealize.ShloMosaic.Lib.Claim

@[expose] public section

set_option maxRecDepth 16384

noncomputable section

namespace Cert.Proof

open Idealize.ShloMosaic Idealize.SL.Sem Cert.Row Cert.Grad Cert.ReferenceIdeal.Stage

instance facts_finite_scores : Cert.Pre_finite_scores.Facts := ⟨by decide, by decide, by decide⟩

/-- A number whose absolute value is less than +∞ is finite. -/
theorem finite_of_abs {x : EReal} (h : max x (-x) < ⊤) : Finite x := by
  refine ⟨fun e => ?_, fun e => ?_⟩ <;> · subst e; simp at h

theorem inf_eq : Ideal.ofBits .f32 0x7F800000#32 = ⊤ := by simp [Ideal.ofBits, Ideal.ieee]

theorem lt_top_of_bit {x : EReal} (h : BitVec.ofBool (decide (x < Ideal.ofBits .f32 0x7F800000#32)) = 1#1) : x < ⊤ := by
  rw [inf_eq] at h
  by_contra hx
  rw [decide_eq_false hx] at h
  exact absurd h (by decide)

/-- The precondition, read: every element of the queries and of the keys is finite. -/
theorem finite_of_pre (q : Wide 4096) (k v : Wide 256) (g : Wide 4096)
    (h : Cert.Pre_finite_scores.fn (F := Ideal) q k v g = fun _ => 1#1) : AllFinite q ∧ AllFinite k := by
  have e : ∀ (i : Fin 4352) (l : Fin 512), Cert.Pre_finite_scores.fn (F := Ideal) q k v g (ix2 i l) = 1#1 := fun i l => congrFun h _
  refine ⟨fun r l => finite_of_abs (lt_top_of_bit ?_), fun r l => finite_of_abs (lt_top_of_bit ?_)⟩
  · have e := e ⟨r.val, by omega⟩ l
    pointwise [Cert.Pre_finite_scores.fn] at e
    exact e
  · have e := e ⟨4096 + r.val, by omega⟩ l
    pointwise [Cert.Pre_finite_scores.fn] at e
    exact e

variable (m' : (ℓ : Loc Cert.ReferenceIdeal.nD Cert.ReferenceIdeal.τ Cert.ReferenceIdeal.sig) → Buf (Elt Ideal) ℓ) (c : Dev Cert.ReferenceIdeal.nD)

/-- The reference's argument arrays. -/
abbrev rq : Wide 4096 := m' ((c.tc : Thread Cert.ReferenceIdeal.nD Cert.ReferenceIdeal.τ).loc Cert.ReferenceIdeal.main_arg0)
abbrev rk : Wide 256 := m' ((c.tc : Thread Cert.ReferenceIdeal.nD Cert.ReferenceIdeal.τ).loc Cert.ReferenceIdeal.main_arg1)
abbrev rv : Wide 256 := m' ((c.tc : Thread Cert.ReferenceIdeal.nD Cert.ReferenceIdeal.τ).loc Cert.ReferenceIdeal.main_arg2)
abbrev rg : Wide 4096 := m' ((c.tc : Thread Cert.ReferenceIdeal.nD Cert.ReferenceIdeal.τ).loc Cert.ReferenceIdeal.main_arg3)

/-- Its weights and its gradient at the scores, of argument arrays. -/
abbrev wts (q : Wide 4096) (k : Wide 256) : Scores := weights (scores q k)
abbrev dsc (q : Wide 4096) (k v : Wide 256) (g : Wide 4096) : Scores := dscores (dprobs g v) (wts q k) (totals (wts q k))

theorem out0_eq : Cert.ReferenceIdeal.Value.res_out0 (F := Ideal) m' c = outQ (dsc (rq m' c) (rk m' c) (rv m' c) (rg m' c)) (rk m' c) := rfl
theorem out1_eq : Cert.ReferenceIdeal.Value.res_out1 (F := Ideal) m' c = outK (dsc (rq m' c) (rk m' c) (rv m' c) (rg m' c)) (rq m' c) := rfl

/-- The three gradients as whole arrays. -/
def wholeQ (q : Wide 4096) (k v : Wide 256) (g : Wide 4096) : Wide 4096 := fun i => gradQ q k v g (i 0) (i 1)
def wholeK (q : Wide 4096) (k v : Wide 256) (g : Wide 4096) : Wide 256 := fun i => gradK q k v g (i 0) (i 1)
def wholeV (q : Wide 4096) (k : Wide 256) (g : Wide 4096) : Wide 256 := fun i => gradV q k g (i 0) (i 1)

theorem all_outQ {q g : Wide 4096} {k v : Wide 256} (hq : AllFinite q) (hk : AllFinite k) :
    outQ (dsc q k v g) k = wholeQ q k v g := by
  funext i; idx_vars i; exact gradQ_eq q k v g hq hk _ _
theorem all_outK {q g : Wide 4096} {k v : Wide 256} (hq : AllFinite q) (hk : AllFinite k) :
    outK (dsc q k v g) q = wholeK q k v g := by
  funext i; idx_vars i; exact gradK_eq q k v g hq hk _ _
theorem all_outV {q g : Wide 4096} {k : Wide 256} (hq : AllFinite q) (hk : AllFinite k) :
    outV g (wts q k) (totals (wts q k)) = wholeV q k g := by
  funext i; idx_vars i; exact gradV_eq q k g hq hk _ _

open Cert.KernelIdeal.Value (aq ak av ag final_dq final_dk final_dv)

/-- From the same finite queries and keys, both programs end with the attention's three gradients. -/
theorem cross_attention : Cert.algebraic_KernelIdeal_ReferenceIdeal_pre_finite_scores := by
  intro m g m' g' hpre hargs
  have hf : ∀ c, AllFinite (aq m c) ∧ AllFinite (ak m c) := fun c => finite_of_pre _ _ _ _ (hpre c)
  refine ⟨fun c => wholeQ (aq m c) (ak m c) (av m c) (ag m c), fun c => wholeK (aq m c) (ak m c) (av m c) (ag m c),
    fun c => wholeV (aq m c) (ak m c) (ag m c), ?_, ?_⟩
  · refine (θ_run _ _ _).mono (fun r h c => ?_) (Cert.KernelIdeal.Value.run_blocks m g)
    obtain ⟨h0, h1, h2, ha⟩ := h c
    exact ⟨h0.trans (final_dq m c), h1.trans (final_dk m c), h2.trans (final_dv m c), ha⟩
  · refine (θ_run _ _ _).mono (fun r h c => ?_) (Cert.ReferenceIdeal.Value.run m' g')
    obtain ⟨h0, h1, h2, ha⟩ := h c
    obtain ⟨e0, e1, e2, e3⟩ := hargs c
    have eq0 : rq m' c = aq m c := e0
    have eq1 : rk m' c = ak m c := e1
    have eq2 : rv m' c = av m c := e2
    have eq3 : rg m' c = ag m c := e3
    have hV : outV (rg m' c) (wts (rq m' c) (rk m' c)) (totals (wts (rq m' c) (rk m' c))) = wholeV (aq m c) (ak m c) (ag m c) := by
      rw [eq0, eq1, eq3]; exact all_outV (hf c).1 (hf c).2
    have hQ : outQ (dsc (rq m' c) (rk m' c) (rv m' c) (rg m' c)) (rk m' c) = wholeQ (aq m c) (ak m c) (av m c) (ag m c) := by
      rw [eq0, eq1, eq2, eq3]; exact all_outQ (hf c).1 (hf c).2
    have hK : outK (dsc (rq m' c) (rk m' c) (rv m' c) (rg m' c)) (rq m' c) = wholeK (aq m c) (ak m c) (av m c) (ag m c) := by
      rw [eq0, eq1, eq2, eq3]; exact all_outK (hf c).1 (hf c).2
    exact ⟨h0.trans ((out0_eq m' c).trans hQ), h1.trans ((out1_eq m' c).trans hK), h2.trans hV, ha⟩

end Cert.Proof

end
-- ==== Proof.Feed.lean ====
/- The gated feed-forward layer, feature by feature. Its 5632 hidden features are held as eight shards of 704. -/
module

public import proofs.«01_k».proof.Proof.Math
public import Idealize.ShloMosaic.Lib.Pointwise
public import Idealize.ShloMosaic.Lib.Pipeline.ValueKit

@[expose] public section

noncomputable section

namespace Cert.Feed

open Idealize.ShloMosaic

/-- The layer's input, its weights into the hidden features, its weights out of them, the hidden features, these
    transposed, and the layer's result. -/
abbrev Rows := FVec Ideal (⟨2, ![4096, 2048]⟩ : Shape) .bf16
abbrev WIn := FVec Ideal (⟨3, ![8, 2048, 704]⟩ : Shape) .bf16
abbrev WOut := FVec Ideal (⟨3, ![8, 704, 2048]⟩ : Shape) .bf16
abbrev Hid := FVec Ideal (⟨3, ![8, 4096, 704]⟩ : Shape) .bf16
abbrev HidT := FVec Ideal (⟨3, ![8, 704, 4096]⟩ : Shape) .bf16
abbrev Res := FVec Ideal (⟨2, ![4096, 2048]⟩ : Shape) .f32

/-- The logistic function. -/
def sigmoid (a : EReal) : EReal := Ideal.div 1 (1 + Ideal.exp (-a))

/-- Feature `f` of shard `s` at row `r`, before the gate. -/
def lin (h : Rows) (w : WIn) (r : Fin 4096) (s : Fin 8) (f : Fin 704) : EReal := ∑ d : Fin 2048, h (ix2 r d) * w (ix3 s d f)

/-- The same, gated. -/
def hid (h : Rows) (wg wu : WIn) (r : Fin 4096) (s : Fin 8) (f : Fin 704) : EReal :=
  lin h wg r s f * sigmoid (lin h wg r s f) * lin h wu r s f

/-- What a shard adds to the layer's result. -/
def share (h : Rows) (wg wu : WIn) (wd : WOut) (r : Fin 4096) (l : Fin 2048) (s : Fin 8) : EReal :=
  ∑ f : Fin 704, hid h wg wu r s f * wd (ix3 s f l)

/-- The arrays: the hidden features before the gate, gated and transposed, and the result. -/
def linA (h : Rows) (w : WIn) : Hid := fun i => lin h w (i 1) (i 0) (i 2)
def hidT (h : Rows) (wg wu : WIn) : HidT := fun i => hid h wg wu (i 2) (i 0) (i 1)
def result (h : Rows) (wg wu : WIn) (wd : WOut) : Res := fun i => ∑ s : Fin 8, share h wg wu wd (i 0) (i 1) s

/-- Feature `f` of shard `s` among all of them. -/
def feat (s : Fin 8) (f : Fin 704) : Fin 5632 := ⟨s.val * 704 + f.val, by omega⟩

theorem sum_feat (g : Fin 5632 → EReal) : ∑ s : Fin 8, ∑ f : Fin 704, g (feat s f) = ∑ j, g j :=
  Fin.sum_mul_add_congr fun s f hl => rfl

end Cert.Feed

end
-- ==== Proof.GateMath.lean ====
/- The gradient of the gated feed-forward layer, feature by feature, and the two forms of the gate's derivative. -/
module

public import proofs.«01_k».proof.Proof.Feed

@[expose] public section

noncomputable section

namespace Cert.Feed

open Idealize.ShloMosaic Cert.Row

/-- The gradient at a gated feature: the result's gradient through the outgoing weights. -/
def down (dm : Rows) (wd : WOut) (r : Fin 4096) (s : Fin 8) (f : Fin 704) : EReal := ∑ l : Fin 2048, dm (ix2 r l) * wd (ix3 s f l)

/-- The gradients at the gate's two arguments `a` and `b`, of the gradient `g` at `a * sigmoid a * b`. -/
def dGate (g a b : EReal) : EReal := g * b * (sigmoid a * (1 + a * (1 - sigmoid a)))
def dUp (g a : EReal) : EReal := g * (a * sigmoid a)

/-- The gradient at the gate's first argument as differentiation gives it: the two factors holding `a` one after the other. -/
def dGateLong (g a b : EReal) : EReal := g * b * sigmoid a + a * (g * b) * (sigmoid a * (1 - sigmoid a))

theorem sigmoid_finite {a : EReal} (h : Finite a) : Finite (sigmoid a) := by
  obtain ⟨x, rfl⟩ := h.exists
  have e : Ideal.exp (-(x : EReal)) = ((Real.exp (-x) : ℝ) : EReal) := by rw [← EReal.coe_neg]; rfl
  have hp : (1 + Real.exp (-x) : ℝ) ≠ 0 := by positivity
  have hs : (1 : EReal) + ((Real.exp (-x) : ℝ) : EReal) = ((1 + Real.exp (-x) : ℝ) : EReal) := by push_cast; rfl
  have hd : sigmoid (x : EReal) = (((1 + Real.exp (-x))⁻¹ : ℝ) : EReal) := by
    unfold sigmoid Ideal.div
    rw [e, hs, if_neg (by exact_mod_cast hp), one_mul, EReal.coe_inv]
  rw [hd]
  exact finite_coe _

theorem dGate_eq {g a b : EReal} (hg : Finite g) (ha : Finite a) (hb : Finite b) : dGateLong g a b = dGate g a b := by
  obtain ⟨s, hs⟩ := (sigmoid_finite ha).exists
  obtain ⟨g, rfl⟩ := hg.exists
  obtain ⟨b, rfl⟩ := hb.exists
  obtain ⟨x, hx⟩ := ha.exists
  unfold dGateLong dGate
  rw [hs, hx]
  norm_cast
  congr 1
  ring

section
variable (h : Rows) (wg wu : WIn) (wd : WOut) (dm : Rows)

/-- The gradients at the two hidden products. -/
def dA (r : Fin 4096) (s : Fin 8) (f : Fin 704) : EReal := dGate (down dm wd r s f) (lin h wg r s f) (lin h wu r s f)
def dB (r : Fin 4096) (s : Fin 8) (f : Fin 704) : EReal := dUp (down dm wd r s f) (lin h wg r s f)

/-- What a shard adds to the gradient in the layer's input. -/
def dShare (r : Fin 4096) (d : Fin 2048) (s : Fin 8) : EReal :=
  ∑ f : Fin 704, dA h wg wu wd dm r s f * wg (ix3 s d f) + ∑ f : Fin 704, dB h wg wd dm r s f * wu (ix3 s d f)

/-- The arrays: the two gradients transposed, and the gradient in the input. -/
def dAT : HidT := fun i => dA h wg wu wd dm (i 2) (i 0) (i 1)
def dBT : HidT := fun i => dB h wg wd dm (i 2) (i 0) (i 1)
def dH : Res := fun i => ∑ s : Fin 8, dShare h wg wu wd dm (i 0) (i 1) s

end

/-- Every element is finite. -/
structure AllFinite (h : Rows) (wg wu : WIn) (wd : WOut) (dm : Rows) : Prop where
  h : ∀ r d, Finite (h (ix2 r d))
  wg : ∀ s d f, Finite (wg (ix3 s d f))
  wu : ∀ s d f, Finite (wu (ix3 s d f))
  wd : ∀ s f l, Finite (wd (ix3 s f l))
  dm : ∀ r l, Finite (dm (ix2 r l))

variable {h : Rows} {wg wu : WIn} {wd : WOut} {dm : Rows}

theorem AllFinite.gate (a : AllFinite h wg wu wd dm) (r : Fin 4096) (s : Fin 8) (f : Fin 704) : Finite (lin h wg r s f) :=
  Finite.sum _ _ fun d => (a.h r d).mul (a.wg s d f)
theorem AllFinite.up (a : AllFinite h wg wu wd dm) (r : Fin 4096) (s : Fin 8) (f : Fin 704) : Finite (lin h wu r s f) :=
  Finite.sum _ _ fun d => (a.h r d).mul (a.wu s d f)
theorem AllFinite.down (a : AllFinite h wg wu wd dm) (r : Fin 4096) (s : Fin 8) (f : Fin 704) : Finite (down dm wd r s f) :=
  Finite.sum _ _ fun l => (a.dm r l).mul (a.wd s f l)

end Cert.Feed

end
-- ==== Proof.GateBlocks.lean ====
/- What one grid point of the feed-forward's backward kernel leaves in its output buffers. -/
module

public import proofs.«01_k».proof.Proof.Gen.GateIdeal.Value
public import proofs.«01_k».proof.Proof.GateMath
public import Idealize.ShloMosaic.Lib.Pipeline.ReadBack

@[expose] public section

set_option maxRecDepth 16384

noncomputable section

namespace Cert.GateIdeal.Value

open Cert.GateIdeal Cert.GateIdeal.Gen Cert.Feed Idealize.ShloMosaic
open Idealize.ShloMosaic.TcCoe Idealize.SL.Sem

section
variable (g : FVec Ideal S512x2048 .bf16) (v : FVec Ideal S1x704x2048 .bf16) (a b : FVec Ideal S1x512x704 .bf16)
variable (u w : FVec Ideal S1x2048x704 .bf16) (r : Fin 512) (f : Fin 704) (d : Fin 2048)

/-- The gradient at a gated feature of a block of rows, and at the gate's two arguments. -/
def bDown : EReal := ∑ l : Fin 2048, g (ix2 r l) * v (ix3 0 f l)
def bDA : EReal := dGate (bDown g v r f) (a (ix3 0 r f)) (b (ix3 0 r f))
def bDB : EReal := dUp (bDown g v r f) (a (ix3 0 r f))

theorem down_at : k0_pay5 (F := Ideal) g v (ix2 r f) = bDown g v r f := by pointwise [k0_pay5, bDown]
theorem gate_at : k0_pay6 (F := Ideal) a (ix2 r f) = a (ix3 0 r f) := by pointwise [k0_pay6]
theorem sigmoid_at : k0_pay7 (F := Ideal) a (ix2 r f) = sigmoid (a (ix3 0 r f)) := by
  pointwise [k0_pay7, gate_at, sigmoid]
  simp [Ideal.ofBits_one_f32, Ideal.ofBits_zero]
theorem da_at : k0_pay8 (F := Ideal) g v a b (ix2 r f) = bDA g v a b r f := by
  pointwise [k0_pay8, down_at, gate_at, sigmoid_at, bDA, dGate]
theorem db_at : k0_pay9 (F := Ideal) g v a (ix2 r f) = bDB g v a r f := by
  pointwise [k0_pay9, down_at, gate_at, sigmoid_at, bDB, dUp]
theorem daT_at : k0_pay10 (F := Ideal) g v a b (ix3 0 f r) = bDA g v a b r f := by pointwise [k0_pay10, da_at]
theorem dbT_at : k0_pay1 (F := Ideal) (k0_pay11 (F := Ideal) g v a) (ix3 0 f r) = bDB g v a r f := by
  pointwise [k0_pay1, k0_pay11, db_at]

theorem back_at (p q : FVec Ideal S512x704 .f32) : k0_pay2 (F := Ideal) p q u w (ix2 r d)
    = (∑ f : Fin 704, p (ix2 r f) * u (ix3 0 d f) + ∑ f : Fin 704, q (ix2 r f) * w (ix3 0 d f) : EReal) := by pointwise [k0_pay2]

/-- What the block adds to the gradient in the input. -/
def bShare : EReal := ∑ f : Fin 704, bDA g v a b r f * u (ix3 0 d f) + ∑ f : Fin 704, bDB g v a r f * w (ix3 0 d f)

theorem share_at : k0_pay3 (F := Ideal) (k0_pay8 (F := Ideal) g v a b) (k0_pay9 (F := Ideal) g v a) u w (ix2 r d)
    = bShare g v a b u w r d := by
  pointwise [k0_pay3, back_at, da_at, db_at, bShare]
theorem add_at (p : FVec Ideal S512x2048 .f32) :
    k0_pay4 (F := Ideal) (k0_pay8 (F := Ideal) g v a b) (k0_pay9 (F := Ideal) g v a) u w p (ix2 r d)
      = p (ix2 r d) + bShare g v a b u w r d := by
  pointwise [k0_pay4, back_at, da_at, db_at, bShare]

end

variable (m : (ℓ : Loc nD τ sig) → Buf (Elt Ideal) ℓ) (c : Dev nD)

/-- The blocks of a point. -/
abbrev bdm (t : Fin cfg0.N) : FVec Ideal S512x2048 .bf16 := iblk m c 0 t
abbrev ba (t : Fin cfg0.N) : FVec Ideal S1x512x704 .bf16 := iblk m c 1 t
abbrev bb (t : Fin cfg0.N) : FVec Ideal S1x512x704 .bf16 := iblk m c 2 t
abbrev bg (t : Fin cfg0.N) : FVec Ideal S1x2048x704 .bf16 := iblk m c 3 t
abbrev bu (t : Fin cfg0.N) : FVec Ideal S1x2048x704 .bf16 := iblk m c 4 t
abbrev bd (t : Fin cfg0.N) : FVec Ideal S1x704x2048 .bf16 := iblk m c 5 t

/-- The three cases of a point: a row tile's first shard, a middle one, the last. -/
theorem cases3 (t : Fin cfg0.N) (P : Prop) (hA : t.val % 8 = 0 → ¬1 ≤ t.val % 8 → ¬t.val % 8 = 7 → P)
    (hB : ¬t.val % 8 = 0 → 1 ≤ t.val % 8 → ¬t.val % 8 = 7 → P) (hC : ¬t.val % 8 = 0 → 1 ≤ t.val % 8 → t.val % 8 = 7 → P) : P := by
  by_cases h0 : t.val % 8 = 0
  · exact hA h0 (by omega) (by omega)
  · by_cases h2 : t.val % 8 = 7
    · exact hC h0 (by omega) h2
    · exact hB h0 (by omega) h2

theorem daT_point (t : Fin cfg0.N) (f : Fin 704) (r : Fin 512) :
    ((outsAt0 m c t.val t.isLt).1 (ix3 0 f r) : EReal) = bDA (bdm m c t) (bd m c t) (ba m c t) (bb m c t) r f := by
  refine Eq.trans ?_ (daT_at _ _ _ _ r f)
  refine cases3 t _ (fun h0 h1 h2 => ?_) (fun h0 h1 h2 => ?_) (fun h0 h1 h2 => ?_)
  · rw [outsAt0_A m c t h0 h1 h2]; dsimp only; frame_open; frame_out
  · rw [outsAt0_B m c t h0 h1 h2]; dsimp only; frame_open; frame_out
  · rw [outsAt0_C m c t h0 h1 h2]; dsimp only; frame_open; frame_out

theorem dbT_point (t : Fin cfg0.N) (f : Fin 704) (r : Fin 512) :
    ((outsAt0 m c t.val t.isLt).2.1 (ix3 0 f r) : EReal) = bDB (bdm m c t) (bd m c t) (ba m c t) r f := by
  refine Eq.trans ?_ (dbT_at _ _ _ r f)
  refine cases3 t _ (fun h0 h1 h2 => ?_) (fun h0 h1 h2 => ?_) (fun h0 h1 h2 => ?_)
  · rw [outsAt0_A m c t h0 h1 h2]; dsimp only; frame_open; frame_out
  · rw [outsAt0_B m c t h0 h1 h2]; dsimp only; frame_open; frame_out
  · rw [outsAt0_C m c t h0 h1 h2]; dsimp only; frame_open; frame_out

/-- The running sum: started at a row tile's first shard, added to at the others. -/
theorem sum_first (t : Fin cfg0.N) (h0 : t.val % 8 = 0) (r : Fin 512) (d : Fin 2048) :
    ((outsAt0 m c t.val t.isLt).2.2.2 (ix2 r d) : EReal)
      = bShare (bdm m c t) (bd m c t) (ba m c t) (bb m c t) (bg m c t) (bu m c t) r d := by
  refine Eq.trans ?_ (share_at _ _ _ _ _ _ r d)
  rw [outsAt0_A m c t h0 (by omega) (by omega)]; dsimp only; frame_open; frame_out

theorem sum_next (t : Fin cfg0.N) (h0 : ¬t.val % 8 = 0) (r : Fin 512) (d : Fin 2048) :
    ((outsAt0 m c t.val t.isLt).2.2.2 (ix2 r d) : EReal)
      = (outsAt0 m c (t.val - 1) (Nat.lt_of_le_of_lt (Nat.sub_le _ _) t.isLt)).2.2.2 (ix2 r d)
        + bShare (bdm m c t) (bd m c t) (ba m c t) (bb m c t) (bg m c t) (bu m c t) r d := by
  refine Eq.trans ?_ (add_at _ _ _ _ _ _ r d _)
  by_cases h2 : t.val % 8 = 7
  · rw [outsAt0_C m c t h0 (by omega) h2]; dsimp only; frame_open; frame_out; rw [read_unread_whole]
  · rw [outsAt0_B m c t h0 (by omega) h2]; dsimp only; frame_open; frame_out; rw [read_unread_whole]

/-- At a row tile's last shard the sum is the tile's result. -/
theorem res_point (t : Fin cfg0.N) (h2 : t.val % 8 = 7) (r : Fin 512) (d : Fin 2048) :
    ((outsAt0 m c t.val t.isLt).2.2.1 (ix2 r d) : EReal) = (outsAt0 m c t.val t.isLt).2.2.2 (ix2 r d) := by
  rw [outsAt0_C m c t (by omega) (by omega) h2]; dsimp only; frame_open; frame_out

end Cert.GateIdeal.Value

end
-- ==== Proof.GateArrays.lean ====
/- What the feed-forward's backward kernel's three result arrays hold. -/
module

public import proofs.«01_k».proof.Proof.GateBlocks

@[expose] public section

set_option maxRecDepth 16384

noncomputable section

namespace Cert.GateIdeal.Value

open Cert.GateIdeal Cert.GateIdeal.Gen Cert.Feed Idealize.ShloMosaic
open Idealize.ShloMosaic.TcCoe Idealize.SL.Sem

variable (m : (ℓ : Loc nD τ sig) → Buf (Elt Ideal) ℓ) (c : Dev nD)

/-- The argument arrays. -/
abbrev ah : Rows := m ((c.tc : Thread nD τ).loc main_arg0)
abbrev ag : WIn := m ((c.tc : Thread nD τ).loc main_arg1)
abbrev au : WIn := m ((c.tc : Thread nD τ).loc main_arg2)
abbrev ad : WOut := m ((c.tc : Thread nD τ).loc main_arg3)
abbrev adm : Rows := m ((c.tc : Thread nD τ).loc main_arg4)

/-- The hidden features before the gate, as the program forms them ahead of the kernel. -/
def hostLin (h : Rows) (w : WIn) : Hid :=
  truncf .bf16 (transpose S8x4096x704 [0, 2, 1] (Host.dotGeneral dot_S8x2048x704_S4096x2048_S8x704x4096_1_1_02_0_n_n none
    (w : FVec Ideal S8x2048x704 .bf16) (h : FVec Ideal S4096x2048 .bf16)) transposes_S8x704x4096_S8x4096x704_0_2_1) bitsLt_bf16_f32

theorem hostLin_sum (h : Rows) (w : WIn) (s : Fin 8) (r : Fin 4096) (f : Fin 704) :
    hostLin h w (ix3 s r f) = (∑ d : Fin 2048, w (ix3 s d f) * h (ix2 r d) : EReal) := by pointwise [hostLin]
theorem hostLin_at (h : Rows) (w : WIn) (s : Fin 8) (r : Fin 4096) (f : Fin 704) : hostLin h w (ix3 s r f) = lin h w r s f :=
  (hostLin_sum h w s r f).trans (Finset.sum_congr rfl fun _ _ => mul_comm (G := EReal) _ _)

theorem V_a : V m c main_v2 = hostLin (ah m c) (ag m c) := by
  show StableHlo.after hostOps0 _ _ = _
  simp only [hostOps0]; after_results_simp <;> rfl
theorem V_b : V m c main_v5 = hostLin (ah m c) (au m c) := by
  show StableHlo.after hostOps0 _ _ = _
  simp only [hostOps0]; after_results_simp <;> rfl

/-- Which block each window is at, at a point. -/
theorem idx_val : ∀ t : Fin cfg0.N, win0_0.index t = ![t.val / 8, 0] ∧ win0_1.index t = ![t.val % 8, t.val / 8, 0]
    ∧ win0_2.index t = ![t.val % 8, t.val / 8, 0] ∧ win0_3.index t = ![t.val % 8, 0, 0] ∧ win0_4.index t = ![t.val % 8, 0, 0]
    ∧ win0_5.index t = ![t.val % 8, 0, 0] ∧ win0_6.index t = ![t.val % 8, 0, t.val / 8] ∧ win0_7.index t = ![t.val % 8, 0, t.val / 8]
    ∧ win0_8.index t = ![t.val / 8, 0] :=
  (by decide +kernel : ∀ t : Fin grid0.N, _)

theorem point_lt (t : Fin cfg0.N) : t.val < 64 := Nat.lt_of_lt_of_eq t.isLt N_0

/-- Row `r` of the block of point `t`, and the point's shard. -/
def rowOf (t : Fin cfg0.N) (r : Fin 512) : Fin 4096 := ⟨t.val / 8 * 512 + r.val, by have := point_lt t; omega⟩
def shard (t : Fin cfg0.N) : Fin 8 := ⟨t.val % 8, Nat.mod_lt _ (by decide)⟩

theorem bdm_at (t : Fin cfg0.N) (r : Fin 512) (l : Fin 2048) : bdm m c t (ix2 r l) = adm m c (ix2 (rowOf t r) l) := by
  have e : bdm m c t = ((cfg0.win 0).blk t).view.read (Elt Ideal) (adm m c) :=
    congrArg (fun x => ((cfg0.win 0).blk t).view.read (Elt Ideal) x) (V_main_arg4 m c)
  rw [e]; unfold rowOf; blk_ext! [idx_val t]
theorem ba_at (t : Fin cfg0.N) (r : Fin 512) (f : Fin 704) : ba m c t (ix3 0 r f) = lin (ah m c) (ag m c) (rowOf t r) (shard t) f := by
  have e : ba m c t = ((cfg0.win 1).blk t).view.read (Elt Ideal) (hostLin (ah m c) (ag m c)) :=
    congrArg (fun x => ((cfg0.win 1).blk t).view.read (Elt Ideal) x) (V_a m c)
  refine Eq.trans ?_ (hostLin_at _ _ (shard t) (rowOf t r) f)
  rw [e]; unfold rowOf shard; generalize hostLin _ _ = x; blk_ext! [idx_val t]
theorem bb_at (t : Fin cfg0.N) (r : Fin 512) (f : Fin 704) : bb m c t (ix3 0 r f) = lin (ah m c) (au m c) (rowOf t r) (shard t) f := by
  have e : bb m c t = ((cfg0.win 2).blk t).view.read (Elt Ideal) (hostLin (ah m c) (au m c)) :=
    congrArg (fun x => ((cfg0.win 2).blk t).view.read (Elt Ideal) x) (V_b m c)
  refine Eq.trans ?_ (hostLin_at _ _ (shard t) (rowOf t r) f)
  rw [e]; unfold rowOf shard; generalize hostLin _ _ = x; blk_ext! [idx_val t]
theorem bg_at (t : Fin cfg0.N) (d : Fin 2048) (f : Fin 704) : bg m c t (ix3 0 d f) = ag m c (ix3 (shard t) d f) := by
  have e : bg m c t = ((cfg0.win 3).blk t).view.read (Elt Ideal) (ag m c) :=
    congrArg (fun x => ((cfg0.win 3).blk t).view.read (Elt Ideal) x) (V_main_arg1 m c)
  rw [e]; unfold shard; blk_ext! [idx_val t]
theorem bu_at (t : Fin cfg0.N) (d : Fin 2048) (f : Fin 704) : bu m c t (ix3 0 d f) = au m c (ix3 (shard t) d f) := by
  have e : bu m c t = ((cfg0.win 4).blk t).view.read (Elt Ideal) (au m c) :=
    congrArg (fun x => ((cfg0.win 4).blk t).view.read (Elt Ideal) x) (V_main_arg2 m c)
  rw [e]; unfold shard; blk_ext! [idx_val t]
theorem bd_at (t : Fin cfg0.N) (f : Fin 704) (l : Fin 2048) : bd m c t (ix3 0 f l) = ad m c (ix3 (shard t) f l) := by
  have e : bd m c t = ((cfg0.win 5).blk t).view.read (Elt Ideal) (ad m c) :=
    congrArg (fun x => ((cfg0.win 5).blk t).view.read (Elt Ideal) x) (V_main_arg3 m c)
  rw [e]; unfold shard; blk_ext! [idx_val t]

theorem bDown_eq (t : Fin cfg0.N) (r : Fin 512) (f : Fin 704) :
    bDown (bdm m c t) (bd m c t) r f = down (adm m c) (ad m c) (rowOf t r) (shard t) f :=
  Finset.sum_congr rfl fun l _ => by rw [bdm_at, bd_at]
theorem bDA_eq (t : Fin cfg0.N) (r : Fin 512) (f : Fin 704) : bDA (bdm m c t) (bd m c t) (ba m c t) (bb m c t) r f
    = dA (ah m c) (ag m c) (au m c) (ad m c) (adm m c) (rowOf t r) (shard t) f := by
  unfold bDA dA; rw [bDown_eq, ba_at, bb_at]
theorem bDB_eq (t : Fin cfg0.N) (r : Fin 512) (f : Fin 704) : bDB (bdm m c t) (bd m c t) (ba m c t) r f
    = dB (ah m c) (ag m c) (ad m c) (adm m c) (rowOf t r) (shard t) f := by
  unfold bDB dB; rw [bDown_eq, ba_at]
theorem bShare_eq (t : Fin cfg0.N) (r : Fin 512) (d : Fin 2048) :
    bShare (bdm m c t) (bd m c t) (ba m c t) (bb m c t) (bg m c t) (bu m c t) r d
      = dShare (ah m c) (ag m c) (au m c) (ad m c) (adm m c) (rowOf t r) d (shard t) :=
  congrArg₂ (· + ·) (Finset.sum_congr rfl fun f _ => by rw [bDA_eq, bg_at]) (Finset.sum_congr rfl fun f _ => by rw [bDB_eq, bu_at])

/-- A block's index has its one place on the unit axis. -/
theorem ix3_of {a b : ℕ} (y : (⟨3, ![1, a, b]⟩ : Shape).Idx) : ∃ (p : Fin a) (q : Fin b), y = ix3 0 p q :=
  ⟨y 1, y 2, by funext k; fin_cases k; exacts [Subsingleton.elim (α := Fin 1) _ _, rfl, rfl]⟩

/-- The gradients at the two hidden products, -/
theorem final_da : (dats m 0 c).arrAt 6 cfg0.N = dAT (ah m c) (ag m c) (au m c) (ad m c) (adm m c) := by
  refine (dats m 0 c).arrAt_eq_of_covers 6 _ (by decide +kernel) fun t hf y => ?_
  blk_simp [idx_val t]
  rw [after0_6]
  obtain ⟨f, r, rfl⟩ := ix3_of (a := 704) (b := 512) y
  have e0 : (win0_6.blk t).view.emb (ix3 0 f r) 0 = shard t := Fin.ext (by simp [shard, idx_val t])
  have e1 : (win0_6.blk t).view.emb (ix3 0 f r) 1 = f := Fin.ext (by simp [idx_val t])
  have e2 : (win0_6.blk t).view.emb (ix3 0 f r) 2 = rowOf t r := Fin.ext (by simp [rowOf, idx_val t])
  unfold dAT
  rw [e0, e1, e2]
  exact (daT_point m c t f r).trans (bDA_eq m c t r f)

theorem final_db : (dats m 0 c).arrAt 7 cfg0.N = dBT (ah m c) (ag m c) (ad m c) (adm m c) := by
  refine (dats m 0 c).arrAt_eq_of_covers 7 _ (by decide +kernel) fun t hf y => ?_
  blk_simp [idx_val t]
  rw [after0_7]
  obtain ⟨f, r, rfl⟩ := ix3_of (a := 704) (b := 512) y
  have e0 : (win0_7.blk t).view.emb (ix3 0 f r) 0 = shard t := Fin.ext (by simp [shard, idx_val t])
  have e1 : (win0_7.blk t).view.emb (ix3 0 f r) 1 = f := Fin.ext (by simp [idx_val t])
  have e2 : (win0_7.blk t).view.emb (ix3 0 f r) 2 = rowOf t r := Fin.ext (by simp [rowOf, idx_val t])
  unfold dBT
  rw [e0, e1, e2]
  exact (dbT_point m c t f r).trans (bDB_eq m c t r f)

/-- and the gradient in the layer's input. -/
theorem final_dh : (dats m 0 c).arrAt 8 cfg0.N = dH (ah m c) (ag m c) (au m c) (ad m c) (adm m c) := by
  refine (dats m 0 c).arrAt_eq_of_covers 8 _ (by decide +kernel) fun t hf y => ?_
  blk_simp [idx_val t]
  rw [after0_8]
  have h7 : t.val % 8 = 7 := (flush0_8 t).mp hf
  obtain ⟨r, d, rfl⟩ : ∃ (r : Fin 512) (d : Fin 2048), y = ix2 r d := ⟨y 0, y 1, by funext a; fin_cases a <;> rfl⟩
  have e0 : (win0_8.blk t).view.emb (ix2 r d) 0 = rowOf t r := Fin.ext (by simp [rowOf, idx_val t])
  have e1 : (win0_8.blk t).view.emb (ix2 r d) 1 = d := Fin.ext (by simp [idx_val t])
  unfold dH
  rw [e0, e1, res_point m c t h7 r d]
  refine (Pipeline.eq_sum_fin_of_reset_step_apply_of_flush (M := EReal) (ι := Fin 512 × Fin 2048)
    (fun n h i => (outsAt0 m c n h).2.2.2 (ix2 i.1 i.2)) 8 (fun _ => 0)
    (fun t i => bShare (bdm m c t) (bd m c t) (ba m c t) (bb m c t) (bg m c t) (bu m c t) i.1 i.2)
    (fun t h i => (sum_first m c t h i.1 i.2).trans (zero_add (M := EReal) _).symm)
    (fun t h i => sum_next m c t h i.1 i.2) t h7 (r, d)).trans ?_
  refine (zero_add (M := EReal) _).trans (Finset.sum_congr rfl fun s _ => ?_)
  have es : shard ⟨8 * (t.val / 8) + s.val, Pipeline.run_point_lt_of_flush t h7 s⟩ = s := Fin.ext (by simp only [shard]; omega)
  have er : rowOf ⟨8 * (t.val / 8) + s.val, Pipeline.run_point_lt_of_flush t h7 s⟩ r = rowOf t r :=
    Fin.ext (by simp only [rowOf]; omega)
  rw [bShare_eq, es, er]

end Cert.GateIdeal.Value

end
-- ==== Proof.FfnBlocks.lean ====
/- What one grid point of the feed-forward kernel leaves in its output buffers. -/
module

public import proofs.«01_k».proof.Proof.Gen.FfnIdeal.Value
public import proofs.«01_k».proof.Proof.Feed
public import Idealize.ShloMosaic.Lib.Pipeline.ReadBack

@[expose] public section

set_option maxRecDepth 16384

noncomputable section

namespace Cert.FfnIdeal.Value

open Cert.FfnIdeal Cert.FfnIdeal.Gen Cert.Feed Idealize.ShloMosaic
open Idealize.ShloMosaic.TcCoe Idealize.SL.Sem

section
variable (x : FVec Ideal S512x2048 .bf16) (u w : FVec Ideal S1x2048x704 .bf16) (v : FVec Ideal S1x704x2048 .bf16)
variable (r : Fin 512) (f : Fin 704) (l : Fin 2048)

/-- A hidden feature of a block of rows. -/
def bLin : EReal := ∑ d : Fin 2048, x (ix2 r d) * u (ix3 0 d f)
def bHid : EReal := bLin x u r f * sigmoid (bLin x u r f) * bLin x w r f

theorem gate_at : k0_pay4 (F := Ideal) x u (ix2 r f) = bLin x u r f := by pointwise [k0_pay4, bLin]
theorem up_at : k0_pay5 (F := Ideal) x u (ix2 r f) = bLin x u r f := by pointwise [k0_pay5, bLin]

theorem hid_at : k0_pay6 (F := Ideal) x u w (ix2 r f) = bHid x u w r f := by
  pointwise [k0_pay6, gate_at, up_at, bHid, sigmoid]
  simp [Ideal.ofBits_one_f32, Ideal.ofBits_zero]

theorem hidB_at : k0_pay7 (F := Ideal) x u w (ix2 r f) = bHid x u w r f := by pointwise [k0_pay7, hid_at]
theorem a_at : k0_pay8 (F := Ideal) x u (ix3 0 r f) = bLin x u r f := by pointwise [k0_pay8, gate_at]
theorem b_at : k0_pay9 (F := Ideal) x u (ix3 0 r f) = bLin x u r f := by pointwise [k0_pay9, up_at]
theorem hidT_at : k0_pay10 (F := Ideal) x u w (ix3 0 f r) = bHid x u w r f := by pointwise [k0_pay10, hid_at]

theorem out_at (y : FVec Ideal S512x704 .bf16) :
    k0_pay1 (F := Ideal) y v (ix2 r l) = ∑ f : Fin 704, y (ix2 r f) * v (ix3 0 f l) := by pointwise [k0_pay1]

/-- What the block adds to the result. -/
def bShare : EReal := ∑ f : Fin 704, bHid x u w r f * v (ix3 0 f l)

theorem share_at : k0_pay2 (F := Ideal) (k0_pay7 (F := Ideal) x u w) v (ix2 r l) = bShare x u w v r l := by
  pointwise [k0_pay2, out_at, hidB_at, bShare]
theorem add_at (p : FVec Ideal S512x2048 .f32) :
    k0_pay3 (F := Ideal) (k0_pay7 (F := Ideal) x u w) v p (ix2 r l) = p (ix2 r l) + bShare x u w v r l := by
  pointwise [k0_pay3, out_at, hidB_at, bShare]

end

variable (m : (ℓ : Loc nD τ sig) → Buf (Elt Ideal) ℓ) (c : Dev nD)

/-- The blocks of a point. -/
abbrev bh (t : Fin cfg0.N) : FVec Ideal S512x2048 .bf16 := iblk m c 0 t
abbrev bg (t : Fin cfg0.N) : FVec Ideal S1x2048x704 .bf16 := iblk m c 1 t
abbrev bu (t : Fin cfg0.N) : FVec Ideal S1x2048x704 .bf16 := iblk m c 2 t
abbrev bd (t : Fin cfg0.N) : FVec Ideal S1x704x2048 .bf16 := iblk m c 3 t

/-- The three cases of a point: a row tile's first shard, a middle one, the last. -/
theorem cases3 (t : Fin cfg0.N) (P : Prop) (hA : t.val % 8 = 0 → ¬1 ≤ t.val % 8 → ¬t.val % 8 = 7 → P)
    (hB : ¬t.val % 8 = 0 → 1 ≤ t.val % 8 → ¬t.val % 8 = 7 → P) (hC : ¬t.val % 8 = 0 → 1 ≤ t.val % 8 → t.val % 8 = 7 → P) : P := by
  by_cases h0 : t.val % 8 = 0
  · exact hA h0 (by omega) (by omega)
  · by_cases h2 : t.val % 8 = 7
    · exact hC h0 (by omega) h2
    · exact hB h0 (by omega) h2

theorem a_point (t : Fin cfg0.N) (r : Fin 512) (f : Fin 704) :
    ((outsAt0 m c t.val t.isLt).1 (ix3 0 r f) : EReal) = bLin (bh m c t) (bg m c t) r f := by
  refine Eq.trans ?_ (a_at _ _ r f)
  refine cases3 t _ (fun h0 h1 h2 => ?_) (fun h0 h1 h2 => ?_) (fun h0 h1 h2 => ?_)
  · rw [outsAt0_A m c t h0 h1 h2]; dsimp only; frame_open; frame_out
  · rw [outsAt0_B m c t h0 h1 h2]; dsimp only; frame_open; frame_out
  · rw [outsAt0_C m c t h0 h1 h2]; dsimp only; frame_open; frame_out

theorem b_point (t : Fin cfg0.N) (r : Fin 512) (f : Fin 704) :
    ((outsAt0 m c t.val t.isLt).2.1 (ix3 0 r f) : EReal) = bLin (bh m c t) (bu m c t) r f := by
  refine Eq.trans ?_ (b_at _ _ r f)
  refine cases3 t _ (fun h0 h1 h2 => ?_) (fun h0 h1 h2 => ?_) (fun h0 h1 h2 => ?_)
  · rw [outsAt0_A m c t h0 h1 h2]; dsimp only; frame_open; frame_out
  · rw [outsAt0_B m c t h0 h1 h2]; dsimp only; frame_open; frame_out
  · rw [outsAt0_C m c t h0 h1 h2]; dsimp only; frame_open; frame_out

theorem hidT_point (t : Fin cfg0.N) (f : Fin 704) (r : Fin 512) :
    ((outsAt0 m c t.val t.isLt).2.2.1 (ix3 0 f r) : EReal) = bHid (bh m c t) (bg m c t) (bu m c t) r f := by
  refine Eq.trans ?_ (hidT_at _ _ _ r f)
  refine cases3 t _ (fun h0 h1 h2 => ?_) (fun h0 h1 h2 => ?_) (fun h0 h1 h2 => ?_)
  · rw [outsAt0_A m c t h0 h1 h2]; dsimp only; frame_open; frame_out
  · rw [outsAt0_B m c t h0 h1 h2]; dsimp only; frame_open; frame_out
  · rw [outsAt0_C m c t h0 h1 h2]; dsimp only; frame_open; frame_out

/-- The running sum: started at a row tile's first shard, added to at the others. -/
theorem sum_first (t : Fin cfg0.N) (h0 : t.val % 8 = 0) (r : Fin 512) (l : Fin 2048) :
    ((outsAt0 m c t.val t.isLt).2.2.2.2 (ix2 r l) : EReal) = bShare (bh m c t) (bg m c t) (bu m c t) (bd m c t) r l := by
  refine Eq.trans ?_ (share_at _ _ _ _ r l)
  rw [outsAt0_A m c t h0 (by omega) (by omega)]; dsimp only; frame_open; frame_out

theorem sum_next (t : Fin cfg0.N) (h0 : ¬t.val % 8 = 0) (r : Fin 512) (l : Fin 2048) :
    ((outsAt0 m c t.val t.isLt).2.2.2.2 (ix2 r l) : EReal)
      = (outsAt0 m c (t.val - 1) (Nat.lt_of_le_of_lt (Nat.sub_le _ _) t.isLt)).2.2.2.2 (ix2 r l)
        + bShare (bh m c t) (bg m c t) (bu m c t) (bd m c t) r l := by
  refine Eq.trans ?_ (add_at _ _ _ _ r l _)
  by_cases h2 : t.val % 8 = 7
  · rw [outsAt0_C m c t h0 (by omega) h2]; dsimp only; frame_open; frame_out; rw [read_unread_whole]
  · rw [outsAt0_B m c t h0 (by omega) h2]; dsimp only; frame_open; frame_out; rw [read_unread_whole]

/-- At a row tile's last shard the sum is the tile's result. -/
theorem res_point (t : Fin cfg0.N) (h2 : t.val % 8 = 7) (r : Fin 512) (l : Fin 2048) :
    ((outsAt0 m c t.val t.isLt).2.2.2.1 (ix2 r l) : EReal) = (outsAt0 m c t.val t.isLt).2.2.2.2 (ix2 r l) := by
  rw [outsAt0_C m c t (by omega) (by omega) h2]; dsimp only; frame_open; frame_out

end Cert.FfnIdeal.Value

end
-- ==== Proof.FfnArrays.lean ====
/- What the feed-forward kernel's four result arrays hold. -/
module

public import proofs.«01_k».proof.Proof.FfnBlocks

@[expose] public section

set_option maxRecDepth 16384

noncomputable section

namespace Cert.FfnIdeal.Value

open Cert.FfnIdeal Cert.FfnIdeal.Gen Cert.Feed Idealize.ShloMosaic
open Idealize.ShloMosaic.TcCoe Idealize.SL.Sem

variable (m : (ℓ : Loc nD τ sig) → Buf (Elt Ideal) ℓ) (c : Dev nD)

/-- The argument arrays. -/
abbrev ah : Rows := m ((c.tc : Thread nD τ).loc main_arg0)
abbrev ag : WIn := m ((c.tc : Thread nD τ).loc main_arg1)
abbrev au : WIn := m ((c.tc : Thread nD τ).loc main_arg2)
abbrev ad : WOut := m ((c.tc : Thread nD τ).loc main_arg3)

/-- Which block each window is at, at a point. -/
theorem idx_val : ∀ t : Fin cfg0.N, win0_0.index t = ![t.val / 8, 0] ∧ win0_1.index t = ![t.val % 8, 0, 0]
    ∧ win0_2.index t = ![t.val % 8, 0, 0] ∧ win0_3.index t = ![t.val % 8, 0, 0] ∧ win0_4.index t = ![t.val % 8, t.val / 8, 0]
    ∧ win0_5.index t = ![t.val % 8, t.val / 8, 0] ∧ win0_6.index t = ![t.val % 8, 0, t.val / 8] ∧ win0_7.index t = ![t.val / 8, 0] :=
  (by decide +kernel : ∀ t : Fin grid0.N, _)

theorem point_lt (t : Fin cfg0.N) : t.val < 64 := Nat.lt_of_lt_of_eq t.isLt N_0

/-- Row `r` of the block of point `t`, and the point's shard. -/
def rowOf (t : Fin cfg0.N) (r : Fin 512) : Fin 4096 := ⟨t.val / 8 * 512 + r.val, by have := point_lt t; omega⟩
def shard (t : Fin cfg0.N) : Fin 8 := ⟨t.val % 8, Nat.mod_lt _ (by decide)⟩

theorem bh_at (t : Fin cfg0.N) (r : Fin 512) (d : Fin 2048) : bh m c t (ix2 r d) = ah m c (ix2 (rowOf t r) d) := by
  unfold rowOf; blk_ext! [iblk, V, idx_val t]
theorem bg_at (t : Fin cfg0.N) (d : Fin 2048) (f : Fin 704) : bg m c t (ix3 0 d f) = ag m c (ix3 (shard t) d f) := by
  unfold shard; blk_ext! [iblk, V, idx_val t]
theorem bu_at (t : Fin cfg0.N) (d : Fin 2048) (f : Fin 704) : bu m c t (ix3 0 d f) = au m c (ix3 (shard t) d f) := by
  unfold shard; blk_ext! [iblk, V, idx_val t]
theorem bd_at (t : Fin cfg0.N) (f : Fin 704) (l : Fin 2048) : bd m c t (ix3 0 f l) = ad m c (ix3 (shard t) f l) := by
  unfold shard; blk_ext! [iblk, V, idx_val t]

theorem bLin_g (t : Fin cfg0.N) (r : Fin 512) (f : Fin 704) :
    bLin (bh m c t) (bg m c t) r f = lin (ah m c) (ag m c) (rowOf t r) (shard t) f :=
  Finset.sum_congr rfl fun d _ => by rw [bh_at, bg_at]
theorem bLin_u (t : Fin cfg0.N) (r : Fin 512) (f : Fin 704) :
    bLin (bh m c t) (bu m c t) r f = lin (ah m c) (au m c) (rowOf t r) (shard t) f :=
  Finset.sum_congr rfl fun d _ => by rw [bh_at, bu_at]
theorem bHid_eq (t : Fin cfg0.N) (r : Fin 512) (f : Fin 704) :
    bHid (bh m c t) (bg m c t) (bu m c t) r f = hid (ah m c) (ag m c) (au m c) (rowOf t r) (shard t) f := by
  unfold bHid hid; rw [bLin_g, bLin_u]
theorem bShare_eq (t : Fin cfg0.N) (r : Fin 512) (l : Fin 2048) :
    bShare (bh m c t) (bg m c t) (bu m c t) (bd m c t) r l = share (ah m c) (ag m c) (au m c) (ad m c) (rowOf t r) l (shard t) :=
  Finset.sum_congr rfl fun f _ => by rw [bHid_eq, bd_at]

/-- A block's index has its one place on the unit axis. -/
theorem ix3_of {a b : ℕ} (y : (⟨3, ![1, a, b]⟩ : Shape).Idx) : ∃ (p : Fin a) (q : Fin b), y = ix3 0 p q :=
  ⟨y 1, y 2, by funext k; fin_cases k; exacts [Subsingleton.elim (α := Fin 1) _ _, rfl, rfl]⟩

/-- The hidden features before the gate, -/
theorem final_a : (dats m 0 c).arrAt 4 cfg0.N = linA (ah m c) (ag m c) := by
  refine (dats m 0 c).arrAt_eq_of_covers 4 _ (by decide +kernel) fun t hf y => ?_
  blk_simp [idx_val t]
  rw [after0_4]
  obtain ⟨r, f, rfl⟩ := ix3_of (a := 512) (b := 704) y
  have e0 : (win0_4.blk t).view.emb (ix3 0 r f) 0 = shard t := Fin.ext (by simp [shard, idx_val t])
  have e1 : (win0_4.blk t).view.emb (ix3 0 r f) 1 = rowOf t r := Fin.ext (by simp [rowOf, idx_val t])
  have e2 : (win0_4.blk t).view.emb (ix3 0 r f) 2 = f := Fin.ext (by simp [idx_val t])
  unfold linA
  rw [e0, e1, e2]
  exact (a_point m c t r f).trans (bLin_g m c t r f)

theorem final_b : (dats m 0 c).arrAt 5 cfg0.N = linA (ah m c) (au m c) := by
  refine (dats m 0 c).arrAt_eq_of_covers 5 _ (by decide +kernel) fun t hf y => ?_
  blk_simp [idx_val t]
  rw [after0_5]
  obtain ⟨r, f, rfl⟩ := ix3_of (a := 512) (b := 704) y
  have e0 : (win0_5.blk t).view.emb (ix3 0 r f) 0 = shard t := Fin.ext (by simp [shard, idx_val t])
  have e1 : (win0_5.blk t).view.emb (ix3 0 r f) 1 = rowOf t r := Fin.ext (by simp [rowOf, idx_val t])
  have e2 : (win0_5.blk t).view.emb (ix3 0 r f) 2 = f := Fin.ext (by simp [idx_val t])
  unfold linA
  rw [e0, e1, e2]
  exact (b_point m c t r f).trans (bLin_u m c t r f)

/-- gated and transposed, -/
theorem final_hidT : (dats m 0 c).arrAt 6 cfg0.N = hidT (ah m c) (ag m c) (au m c) := by
  refine (dats m 0 c).arrAt_eq_of_covers 6 _ (by decide +kernel) fun t hf y => ?_
  blk_simp [idx_val t]
  rw [after0_6]
  obtain ⟨f, r, rfl⟩ := ix3_of (a := 704) (b := 512) y
  have e0 : (win0_6.blk t).view.emb (ix3 0 f r) 0 = shard t := Fin.ext (by simp [shard, idx_val t])
  have e1 : (win0_6.blk t).view.emb (ix3 0 f r) 1 = f := Fin.ext (by simp [idx_val t])
  have e2 : (win0_6.blk t).view.emb (ix3 0 f r) 2 = rowOf t r := Fin.ext (by simp [rowOf, idx_val t])
  unfold hidT
  rw [e0, e1, e2]
  exact (hidT_point m c t f r).trans (bHid_eq m c t r f)

/-- and the layer's result. -/
theorem final_result : (dats m 0 c).arrAt 7 cfg0.N = result (ah m c) (ag m c) (au m c) (ad m c) := by
  refine (dats m 0 c).arrAt_eq_of_covers 7 _ (by decide +kernel) fun t hf y => ?_
  blk_simp [idx_val t]
  rw [after0_7]
  have h7 : t.val % 8 = 7 := (flush0_7 t).mp hf
  obtain ⟨r, l, rfl⟩ : ∃ (r : Fin 512) (l : Fin 2048), y = ix2 r l := ⟨y 0, y 1, by funext a; fin_cases a <;> rfl⟩
  have e0 : (win0_7.blk t).view.emb (ix2 r l) 0 = rowOf t r := Fin.ext (by simp [rowOf, idx_val t])
  have e1 : (win0_7.blk t).view.emb (ix2 r l) 1 = l := Fin.ext (by simp [idx_val t])
  unfold result
  rw [e0, e1, res_point m c t h7 r l]
  refine (Pipeline.eq_sum_fin_of_reset_step_apply_of_flush (M := EReal) (ι := Fin 512 × Fin 2048)
    (fun n h i => (outsAt0 m c n h).2.2.2.2 (ix2 i.1 i.2)) 8 (fun _ => 0)
    (fun t i => bShare (bh m c t) (bg m c t) (bu m c t) (bd m c t) i.1 i.2)
    (fun t h i => (sum_first m c t h i.1 i.2).trans (zero_add (M := EReal) _).symm)
    (fun t h i => sum_next m c t h i.1 i.2) t h7 (r, l)).trans ?_
  refine (zero_add (M := EReal) _).trans (Finset.sum_congr rfl fun s _ => ?_)
  have es : shard ⟨8 * (t.val / 8) + s.val, Pipeline.run_point_lt_of_flush t h7 s⟩ = s := Fin.ext (by simp only [shard]; omega)
  have er : rowOf ⟨8 * (t.val / 8) + s.val, Pipeline.run_point_lt_of_flush t h7 s⟩ r = rowOf t r :=
    Fin.ext (by simp only [rowOf]; omega)
  rw [bShare_eq, es, er]

end Cert.FfnIdeal.Value

end
-- ==== Proof.FfnEquation.lean ====
/- The feed-forward layer: the reference's arrays are the kernel's. -/
module

public import proofs.«01_k».proof.Defs
public import proofs.«01_k».proof.Proof.FfnArrays
public import proofs.«01_k».proof.Proof.Gen.FfnReferenceIdeal.Run
public import Idealize.ShloMosaic.Lib.Claim

@[expose] public section

set_option maxRecDepth 16384

noncomputable section

namespace Cert.FfnReferenceIdeal.Stage

open Cert.FfnReferenceIdeal Cert.FfnReferenceIdeal.Gen Cert.Feed Idealize.ShloMosaic
open Idealize.ShloMosaic.TcCoe Idealize.SL.Sem

/-- The shards' features side by side. -/
def full (w : WIn) : FVec Ideal S2048x5632 .f32 :=
  shapeCast _ (transpose S2048x8x704 [1, 0, 2] (extf .f32 (w : FVec Ideal S8x2048x704 .bf16) bitsLt_bf16_f32)
    transposes_S8x2048x704_S2048x8x704_1_0_2) shapeCasts_S2048x8x704_S2048x5632
def fullOut (w : WOut) : FVec Ideal S5632x2048 .f32 :=
  shapeCast _ (extf .f32 (w : FVec Ideal S8x704x2048 .bf16) bitsLt_bf16_f32) shapeCasts_S8x704x2048_S5632x2048

/-- The features before the gate. -/
def product (h : Rows) (w : WIn) : FVec Ideal S4096x5632 .f32 :=
  Host.dotGeneral dot_S4096x2048_S2048x5632_S4096x5632_1_0_0_1_n_n none (extf .f32 (h : FVec Ideal S4096x2048 .bf16) bitsLt_bf16_f32) (full w)

def ones : FVec Ideal S4096x5632 .f32 := broadcastInDim S4096x5632 ![] bcast_S_S4096x5632 (constant S_ .f32 0x3F800000#32)

/-- The features gated. -/
def gated (a b : FVec Ideal S4096x5632 .f32) : FVec Ideal S4096x5632 .f32 :=
  mulf (mulf a (Host.divf ones (addf ones (Host.exp (Host.negf a))))) b

/-- The results: features by shard, features by shard transposed, and the product with the outgoing weights. -/
def byShard (a : FVec Ideal S4096x5632 .f32) : Hid :=
  truncf .bf16 (transpose S8x4096x704 [1, 0, 2] (shapeCast _ a shapeCasts_S4096x5632_S4096x8x704) transposes_S4096x8x704_S8x4096x704_1_0_2) bitsLt_bf16_f32
def byShardT (a : FVec Ideal S4096x5632 .f32) : HidT :=
  truncf .bf16 (shapeCast _ (transpose S5632x4096 [1, 0] a transposes_S4096x5632_S5632x4096_1_0) shapeCasts_S5632x4096_S8x704x4096) bitsLt_bf16_f32
def out (a : FVec Ideal S4096x5632 .f32) (w : WOut) : Res :=
  Host.dotGeneral dot_S4096x5632_S5632x2048_S4096x2048_1_0_0_1_n_n none a (fullOut w)

theorem full_at (w : WIn) (d : Fin 2048) (s : Fin 8) (f : Fin 704) : full w (ix2 d (feat s f)) = w (ix3 s d f) := by
  unfold feat; pointwise [full]
theorem fullOut_at (w : WOut) (s : Fin 8) (f : Fin 704) (l : Fin 2048) : fullOut w (ix2 (feat s f) l) = w (ix3 s f l) := by
  unfold feat; pointwise [fullOut]
theorem product_sum (h : Rows) (w : WIn) (r : Fin 4096) (j : Fin 5632) :
    product h w (ix2 r j) = (∑ d : Fin 2048, h (ix2 r d) * full w (ix2 d j) : EReal) := by pointwise [product]
theorem product_at (h : Rows) (w : WIn) (r : Fin 4096) (s : Fin 8) (f : Fin 704) : product h w (ix2 r (feat s f)) = lin h w r s f :=
  (product_sum h w r _).trans (Finset.sum_congr rfl fun d _ => by rw [full_at])

theorem ones_at (r : Fin 4096) (j : Fin 5632) : ones (ix2 r j) = (1 : EReal) := by
  pointwise [ones]
theorem gated_at (a b : FVec Ideal S4096x5632 .f32) (r : Fin 4096) (j : Fin 5632) :
    gated a b (ix2 r j) = (a (ix2 r j) * sigmoid (a (ix2 r j)) * b (ix2 r j) : EReal) := by
  pointwise [gated, ones_at, sigmoid]

theorem byShard_at (a : FVec Ideal S4096x5632 .f32) (s : Fin 8) (r : Fin 4096) (f : Fin 704) :
    byShard a (ix3 s r f) = a (ix2 r (feat s f)) := by unfold feat; pointwise [byShard]
theorem byShardT_at (a : FVec Ideal S4096x5632 .f32) (s : Fin 8) (f : Fin 704) (r : Fin 4096) :
    byShardT a (ix3 s f r) = a (ix2 r (feat s f)) := by unfold feat; pointwise [byShardT]
theorem out_sum (a : FVec Ideal S4096x5632 .f32) (w : WOut) (r : Fin 4096) (l : Fin 2048) :
    out a w (ix2 r l) = (∑ j : Fin 5632, a (ix2 r j) * fullOut w (ix2 j l) : EReal) := by pointwise [out]

theorem ix3_eta {a b c : ℕ} (i : (⟨3, ![a, b, c]⟩ : Shape).Idx) : i = ix3 (i 0) (i 1) (i 2) := by
  funext k; fin_cases k <;> rfl

variable (h : Rows) (wg wu : WIn) (wd : WOut)

theorem features_eq (w : WIn) : byShard (product h w) = linA h w := by
  funext i
  obtain ⟨s, r, f, rfl⟩ : ∃ (s : Fin 8) (r : Fin 4096) (f : Fin 704), i = ix3 s r f := ⟨i 0, i 1, i 2, ix3_eta i⟩
  exact (byShard_at _ s r f).trans (product_at h w r s f)

theorem hidden_at (r : Fin 4096) (s : Fin 8) (f : Fin 704) :
    gated (product h wg) (product h wu) (ix2 r (feat s f)) = hid h wg wu r s f := by
  rw [gated_at, product_at, product_at, hid]

theorem hidden_eq : byShardT (gated (product h wg) (product h wu)) = hidT h wg wu := by
  funext i
  obtain ⟨s, f, r, rfl⟩ : ∃ (s : Fin 8) (f : Fin 704) (r : Fin 4096), i = ix3 s f r := ⟨i 0, i 1, i 2, ix3_eta i⟩
  exact (byShardT_at _ s f r).trans (hidden_at h wg wu r s f)

theorem result_eq : out (gated (product h wg) (product h wu)) wd = result h wg wu wd := by
  funext i
  obtain ⟨r, l, rfl⟩ : ∃ (r : Fin 4096) (l : Fin 2048), i = ix2 r l := ⟨i 0, i 1, by funext a; fin_cases a <;> rfl⟩
  refine (out_sum _ _ r l).trans ((sum_feat _).symm.trans ?_)
  refine Finset.sum_congr rfl fun s _ => Finset.sum_congr rfl fun f _ => ?_
  rw [hidden_at, fullOut_at]
  rfl

end Cert.FfnReferenceIdeal.Stage

namespace Cert.Proof

open Idealize.ShloMosaic Idealize.SL.Sem Cert.Feed Cert.FfnReferenceIdeal.Stage
open Cert.FfnIdeal.Value (ah ag au ad final_a final_b final_hidT final_result)

/-- From the same arguments, both programs end with the same hidden features and the same result. -/
theorem feed_forward : Cert.algebraic_FfnIdeal_FfnReferenceIdeal := by
  intro m g m' g' _ hargs
  refine ⟨fun c => linA (ah m c) (ag m c), fun c => linA (ah m c) (au m c), fun c => hidT (ah m c) (ag m c) (au m c),
    fun c => result (ah m c) (ag m c) (au m c) (ad m c), ?_, ?_⟩
  · refine (θ_run _ _ _).mono (fun r h c => ?_) (Cert.FfnIdeal.Value.run_blocks m g)
    obtain ⟨h0, h1, h2, h3, ha⟩ := h c
    exact ⟨h0.trans (final_a m c), h1.trans (final_b m c), h2.trans (final_hidT m c), h3.trans (final_result m c), ha⟩
  · refine (θ_run _ _ _).mono (fun r h c => ?_) (Cert.FfnReferenceIdeal.Value.run m' g')
    obtain ⟨h0, h1, h2, h3, ha⟩ := h c
    obtain ⟨e0, e1, e2, e3⟩ := hargs c
    refine ⟨h0.trans ?_, h1.trans ?_, h2.trans ?_, h3.trans ?_, ha⟩
    · refine (features_eq _ _).trans ?_
      exact congrArg₂ linA e0 e1
    · refine (features_eq _ _).trans ?_
      exact congrArg₂ linA e0 e2
    · refine (hidden_eq _ _ _).trans ?_
      have e : ∀ {a a' : Rows} {b b' c c' : WIn}, a = a' → b = b' → c = c' → hidT a b c = hidT a' b' c' := by rintro _ _ _ _ _ _ rfl rfl rfl; rfl
      exact e e0 e1 e2
    · refine (result_eq _ _ _ _).trans ?_
      have e : ∀ {a a' : Rows} {b b' c c' : WIn} {d d' : WOut}, a = a' → b = b' → c = c' → d = d' →
          result a b c d = result a' b' c' d' := by rintro _ _ _ _ _ _ _ _ rfl rfl rfl rfl; rfl
      exact e e0 e1 e2 e3

end Cert.Proof

end
-- ==== Proof.GateEquation.lean ====
/- The gradient of the feed-forward layer: the reference's arrays are the kernel's, from finite arguments. -/
module

public import proofs.«01_k».proof.Defs
public import proofs.«01_k».proof.Proof.Equation
public import proofs.«01_k».proof.Proof.GateArrays
public import proofs.«01_k».proof.Proof.FfnEquation
public import proofs.«01_k».proof.Proof.Gen.GateReferenceIdeal.Run
public import Idealize.ShloMosaic.Lib.Claim

@[expose] public section

set_option maxRecDepth 16384

noncomputable section

namespace Cert.GateReferenceIdeal.Stage

open Cert.GateReferenceIdeal Cert.GateReferenceIdeal.Gen Cert.Feed Idealize.ShloMosaic
open Cert.FfnReferenceIdeal.Stage (full fullOut product ones byShardT full_at fullOut_at product_at ones_at byShardT_at ix3_eta)
open Idealize.ShloMosaic.TcCoe Idealize.SL.Sem

/-- All features at all rows. -/
abbrev Features := FVec Ideal S4096x5632 .f32

/-- The gradient at the gated features. -/
def downAll (dm : Rows) (wd : WOut) : Features :=
  Host.dotGeneral dot_S4096x2048_S5632x2048_S4096x5632_1_1_0_0_n_n none (extf .f32 (dm : FVec Ideal S4096x2048 .bf16) bitsLt_bf16_f32) (fullOut wd)

/-- The logistic function of the features. -/
def sigmoids (a : Features) : Features := Host.divf ones (addf ones (Host.exp (Host.negf a)))

/-- The gradients at the gate's arguments. -/
def gradA (g a b : Features) : Features :=
  addf (mulf (mulf g b) (sigmoids a)) (mulf (mulf a (mulf g b)) (mulf (sigmoids a) (subf ones (sigmoids a))))
def gradB (g a : Features) : Features := mulf (mulf a (sigmoids a)) g

/-- The gradient in the layer's input. -/
def back (p q : Features) (wg wu : WIn) : Res :=
  addf (Host.dotGeneral dot_S4096x5632_S2048x5632_S4096x2048_1_1_0_0_n_n none q (full wu))
    (Host.dotGeneral dot_S4096x5632_S2048x5632_S4096x2048_1_1_0_0_n_n none p (full wg))

theorem downAll_sum (dm : Rows) (wd : WOut) (r : Fin 4096) (j : Fin 5632) :
    downAll dm wd (ix2 r j) = (∑ l : Fin 2048, dm (ix2 r l) * fullOut wd (ix2 j l) : EReal) := by pointwise [downAll]
theorem downAll_at (dm : Rows) (wd : WOut) (r : Fin 4096) (s : Fin 8) (f : Fin 704) :
    downAll dm wd (ix2 r (feat s f)) = down dm wd r s f :=
  (downAll_sum dm wd r _).trans (Finset.sum_congr rfl fun l _ => by rw [fullOut_at])

theorem sigmoids_at (a : Features) (r : Fin 4096) (j : Fin 5632) : sigmoids a (ix2 r j) = sigmoid (a (ix2 r j)) := by
  pointwise [sigmoids, ones_at, sigmoid]
theorem gradA_at (g a b : Features) (r : Fin 4096) (j : Fin 5632) :
    gradA g a b (ix2 r j) = dGateLong (g (ix2 r j)) (a (ix2 r j)) (b (ix2 r j)) := by
  pointwise [gradA, ones_at, sigmoids_at, dGateLong]
theorem gradB_at (g a : Features) (r : Fin 4096) (j : Fin 5632) : gradB g a (ix2 r j) = dUp (g (ix2 r j)) (a (ix2 r j)) := by
  pointwise [gradB, sigmoids_at, dUp]
  exact mul_comm (G := EReal) _ _

theorem back_sum (p q : Features) (wg wu : WIn) (r : Fin 4096) (d : Fin 2048) : back p q wg wu (ix2 r d)
    = (∑ j : Fin 5632, q (ix2 r j) * full wu (ix2 d j) + ∑ j : Fin 5632, p (ix2 r j) * full wg (ix2 d j) : EReal) := by pointwise [back]

section
variable {h : Rows} {wg wu : WIn} {wd : WOut} {dm : Rows} (fin : AllFinite h wg wu wd dm)

/-- The reference's two gradients, of its arguments. -/
abbrev refA (h : Rows) (wg wu : WIn) (wd : WOut) (dm : Rows) : Features := gradA (downAll dm wd) (product h wg) (product h wu)
abbrev refB (h : Rows) (wg : WIn) (wd : WOut) (dm : Rows) : Features := gradB (downAll dm wd) (product h wg)

include fin in
theorem refA_at (r : Fin 4096) (s : Fin 8) (f : Fin 704) : refA h wg wu wd dm (ix2 r (feat s f)) = dA h wg wu wd dm r s f := by
  unfold refA
  rw [gradA_at, downAll_at, product_at, product_at]
  exact dGate_eq (fin.down r s f) (fin.gate r s f) (fin.up r s f)
theorem refB_at (r : Fin 4096) (s : Fin 8) (f : Fin 704) : refB h wg wd dm (ix2 r (feat s f)) = dB h wg wd dm r s f := by
  unfold refB
  rw [gradB_at, downAll_at, product_at, dB]

include fin in
theorem da_eq : byShardT (refA h wg wu wd dm) = dAT h wg wu wd dm := by
  funext i
  obtain ⟨s, f, r, rfl⟩ : ∃ (s : Fin 8) (f : Fin 704) (r : Fin 4096), i = ix3 s f r := ⟨i 0, i 1, i 2, ix3_eta i⟩
  exact (byShardT_at _ s f r).trans (refA_at fin r s f)
theorem db_eq : byShardT (refB h wg wd dm) = dBT h wg wd dm := by
  funext i
  obtain ⟨s, f, r, rfl⟩ : ∃ (s : Fin 8) (f : Fin 704) (r : Fin 4096), i = ix3 s f r := ⟨i 0, i 1, i 2, ix3_eta i⟩
  exact (byShardT_at _ s f r).trans (refB_at r s f)

include fin in
theorem dh_eq : back (refA h wg wu wd dm) (refB h wg wd dm) wg wu = dH h wg wu wd dm := by
  funext i
  obtain ⟨r, d, rfl⟩ : ∃ (r : Fin 4096) (d : Fin 2048), i = ix2 r d := ⟨i 0, i 1, by funext a; fin_cases a <;> rfl⟩
  refine (back_sum _ _ _ _ r d).trans ((add_comm (G := EReal) _ _).trans ?_)
  rw [← sum_feat, ← sum_feat, ← Finset.sum_add_distrib]
  refine Finset.sum_congr rfl fun s _ => congrArg₂ (· + ·) (Finset.sum_congr rfl fun f _ => ?_) (Finset.sum_congr rfl fun f _ => ?_)
  · rw [refA_at fin, full_at]; rfl
  · rw [refB_at, full_at]; rfl

end

end Cert.GateReferenceIdeal.Stage

namespace Cert.Proof

open Idealize.ShloMosaic Idealize.SL.Sem Cert.Row Cert.Feed Cert.GateReferenceIdeal.Stage
open Cert.FfnReferenceIdeal.Stage (byShardT)
open Cert.GateIdeal.Value (ah ag au ad adm final_da final_db final_dh)

instance facts_finite_feed : Cert.Pre_finite_feed.Facts := ⟨by decide, by decide, by decide, by decide, by decide⟩

section
open Cert.Pre_finite_feed

/-- The precondition's matrices: the weights' features as rows, and every argument's rows one below the other. -/
def rowsOut (w : WOut) : FVec Ideal S5632x2048 .bf16 := shapeCast S5632x2048 (w : FVec Ideal S8x704x2048 .bf16) Facts.shapeCasts_S8x704x2048_S5632x2048
def rowsIn (w : WIn) : FVec Ideal S5632x2048 .bf16 :=
  rowsOut (transpose S8x704x2048 [0, 2, 1] (w : FVec Ideal S8x2048x704 .bf16) Facts.transposes_S8x2048x704_S8x704x2048_0_2_1)
def below (a b : FVec Ideal S4096x2048 .bf16) (c d e : FVec Ideal S5632x2048 .bf16) : FVec Ideal S25088x2048 .bf16 :=
  concatenate S25088x2048 0 [⟨S4096x2048, a⟩, ⟨S4096x2048, b⟩, ⟨S5632x2048, c⟩, ⟨S5632x2048, d⟩, ⟨S5632x2048, e⟩]
    Facts.concatenates_S4096x2048_S4096x2048_S5632x2048_S5632x2048_S5632x2048_S25088x2048_d0

theorem rowsOut_at (w : WOut) (s : Fin 8) (f : Fin 704) (l : Fin 2048) : rowsOut w (ix2 (feat s f) l) = w (ix3 s f l) := by
  unfold feat; pointwise [rowsOut]
theorem rowsIn_at (w : WIn) (s : Fin 8) (f : Fin 704) (l : Fin 2048) : rowsIn w (ix2 (feat s f) l) = w (ix3 s l f) :=
  (rowsOut_at _ s f l).trans (by pointwise)

theorem below_at (a b : FVec Ideal S4096x2048 .bf16) (c d e : FVec Ideal S5632x2048 .bf16) (i : Fin 25088) (l : Fin 2048) :
    below a b c d e (ix2 i l)
      = if h1 : i.val < 4096 then a (ix2 ⟨i.val, h1⟩ l) else if h2 : i.val - 4096 < 4096 then b (ix2 ⟨i.val - 4096, h2⟩ l)
        else if h3 : i.val - 4096 - 4096 < 5632 then c (ix2 ⟨i.val - 4096 - 4096, h3⟩ l)
        else if h4 : i.val - 4096 - 4096 - 5632 < 5632 then d (ix2 ⟨i.val - 4096 - 4096 - 5632, h4⟩ l)
        else e (ix2 ⟨i.val - 4096 - 4096 - 5632 - 5632, by omega⟩ l) := by
  pointwise [below]

/-- The precondition, read: every element of every argument is finite. -/
theorem finite_of_feed (h : Rows) (wg wu : WIn) (wd : WOut) (dm : Rows)
    (hp : Cert.Pre_finite_feed.fn (F := Ideal) h wg wu wd dm = fun _ => 1#1) : AllFinite h wg wu wd dm := by
  have e : ∀ (i : Fin 25088) (l : Fin 2048), Finite (below h dm (rowsOut wd) (rowsIn wg) (rowsIn wu) (ix2 i l)) := fun i l =>
    finite_of_abs (lt_top_of_bit (congrFun hp (ix2 i l)))
  simp only [below_at] at e
  refine ⟨fun r l => ?_, fun s l f => ?_, fun s l f => ?_, fun s f l => ?_, fun r l => ?_⟩
  · obtain ⟨i, hi⟩ : ∃ i : Fin 25088, i.val = r.val := ⟨⟨r.val, by omega⟩, rfl⟩
    have e := e i l
    rw [dif_pos (by omega)] at e
    simp only [hi] at e
    exact e
  · obtain ⟨i, hi⟩ : ∃ i : Fin 25088, i.val = 13824 + (s.val * 704 + f.val) := ⟨⟨13824 + (s.val * 704 + f.val), by omega⟩, rfl⟩
    have e := e i l
    rw [dif_neg (by omega), dif_neg (by omega), dif_neg (by omega), dif_pos (by omega)] at e
    simp only [show i.val - 4096 - 4096 - 5632 = s.val * 704 + f.val by omega] at e
    exact (rowsIn_at wg s f l) ▸ e
  · obtain ⟨i, hi⟩ : ∃ i : Fin 25088, i.val = 19456 + (s.val * 704 + f.val) := ⟨⟨19456 + (s.val * 704 + f.val), by omega⟩, rfl⟩
    have e := e i l
    rw [dif_neg (by omega), dif_neg (by omega), dif_neg (by omega), dif_neg (by omega)] at e
    simp only [show i.val - 4096 - 4096 - 5632 - 5632 = s.val * 704 + f.val by omega] at e
    exact (rowsIn_at wu s f l) ▸ e
  · obtain ⟨i, hi⟩ : ∃ i : Fin 25088, i.val = 8192 + (s.val * 704 + f.val) := ⟨⟨8192 + (s.val * 704 + f.val), by omega⟩, rfl⟩
    have e := e i l
    rw [dif_neg (by omega), dif_neg (by omega), dif_pos (by omega)] at e
    simp only [show i.val - 4096 - 4096 = s.val * 704 + f.val by omega] at e
    exact (rowsOut_at wd s f l) ▸ e
  · obtain ⟨i, hi⟩ : ∃ i : Fin 25088, i.val = 4096 + r.val := ⟨⟨4096 + r.val, by omega⟩, rfl⟩
    have e := e i l
    rw [dif_neg (by omega), dif_pos (by omega)] at e
    simp only [show i.val - 4096 = r.val by omega] at e
    exact e

end

/-- A function of five arrays, at equal arrays. -/
theorem congr_feed {β : Type} (F : Rows → WIn → WIn → WOut → Rows → β) {h h' : Rows} {wg wg' wu wu' : WIn} {wd wd' : WOut} {dm dm' : Rows}
    (e0 : h = h') (e1 : wg = wg') (e2 : wu = wu') (e3 : wd = wd') (e4 : dm = dm') : F h wg wu wd dm = F h' wg' wu' wd' dm' := by
  subst e0 e1 e2 e3 e4; rfl

/-- From the same finite arguments, both programs end with the same gradients. -/
theorem feed_gradient : Cert.algebraic_GateIdeal_GateReferenceIdeal_pre_finite_feed := by
  intro m g m' g' hpre hargs
  have fin : ∀ c, AllFinite (ah m c) (ag m c) (au m c) (ad m c) (adm m c) := fun c => finite_of_feed _ _ _ _ _ (hpre c)
  refine ⟨fun c => dAT (ah m c) (ag m c) (au m c) (ad m c) (adm m c), fun c => dBT (ah m c) (ag m c) (ad m c) (adm m c),
    fun c => dH (ah m c) (ag m c) (au m c) (ad m c) (adm m c), ?_, ?_⟩
  · refine (θ_run _ _ _).mono (fun r h c => ?_) (Cert.GateIdeal.Value.run_blocks m g)
    obtain ⟨h0, h1, h2, ha⟩ := h c
    exact ⟨h0.trans (final_da m c), h1.trans (final_db m c), h2.trans (final_dh m c), ha⟩
  · refine (θ_run _ _ _).mono (fun r h c => ?_) (Cert.GateReferenceIdeal.Value.run m' g')
    obtain ⟨h0, h1, h2, ha⟩ := h c
    obtain ⟨e0, e1, e2, e3, e4⟩ := hargs c
    refine ⟨h0.trans ?_, h1.trans ?_, h2.trans ?_, ha⟩
    · refine Eq.trans ?_ (da_eq (fin c))
      exact congr_feed (fun h wg wu wd dm => byShardT (refA h wg wu wd dm)) e0 e1 e2 e3 e4
    · refine Eq.trans ?_ db_eq
      exact congr_feed (fun h wg _ wd dm => byShardT (refB h wg wd dm)) e0 e1 e2 e3 e4
    · refine Eq.trans ?_ (dh_eq (fin c))
      exact congr_feed (fun h wg wu wd dm => back (refA h wg wu wd dm) (refB h wg wd dm) wg wu) e0 e1 e2 e3 e4

end Cert.Proof

end
-- ==== Proof.WgradEquation.lean ====
/- The gradient of a weight matrix of the feed-forward layer: the kernel forms it shard by shard, the reference as one
   product; both give the sum over the rows of an activation's cotangent times the layer's input. -/
module

public import proofs.«01_k».proof.Defs
public import proofs.«01_k».proof.Proof.Gen.WgradIdeal.Value
public import proofs.«01_k».proof.Proof.Gen.WgradReferenceIdeal.Run
public import Idealize.ShloMosaic.Lib.Claim
public import Idealize.ShloMosaic.Lib.Pointwise
public import Idealize.ShloMosaic.Lib.Pipeline.ValueKit

@[expose] public section

set_option maxRecDepth 16384

noncomputable section

namespace Cert.WgradIdeal.Value

open Cert.WgradIdeal Cert.WgradIdeal.Gen Idealize.ShloMosaic
open Idealize.ShloMosaic.TcCoe Idealize.SL.Sem

abbrev Acts := FVec Ideal S8x704x4096 .bf16
abbrev Rows := FVec Ideal S4096x2048 .bf16
abbrev Grads := FVec Ideal S8x704x2048 .bf16

/-- The gradient of the weights, shard by shard: feature `f` of shard `s` at input column `d`. -/
def wgrad (act : Acts) (x : Rows) : Grads := fun i => (∑ r : Fin 4096, act (ix3 (i 0) (i 1) r) * x (ix2 r (i 2)) : EReal)

/-- What one grid point computes of the blocks it reads. -/
theorem point_at (a : FVec Ideal S1x704x4096 .bf16) (x : Rows) (f : Fin 704) (d : Fin 2048) :
    k0_pay1 (F := Ideal) a x (ix3 0 f d) = (∑ r : Fin 4096, a (ix3 0 f r) * x (ix2 r d) : EReal) := by
  pointwise [k0_pay1]

variable (m : (ℓ : Loc nD τ sig) → Buf (Elt Ideal) ℓ) (c : Dev nD)

/-- The argument arrays. -/
abbrev aAct : Acts := m ((c.tc : Thread nD τ).loc main_arg0)
abbrev aX : Rows := m ((c.tc : Thread nD τ).loc main_arg1)

theorem idx_val : ∀ t : Fin cfg0.N, win0_0.index t = ![t.val, 0, 0] ∧ win0_1.index t = ![0, 0] ∧ win0_2.index t = ![t.val, 0, 0] :=
  (by decide +kernel : ∀ t : Fin grid0.N, _)

/-- The shard of a point. -/
def shard (t : Fin cfg0.N) : Fin 8 := ⟨t.val, Nat.lt_of_lt_of_eq t.isLt N_0⟩

abbrev bAct (t : Fin cfg0.N) : FVec Ideal S1x704x4096 .bf16 := iblk m c 0 t
abbrev bX (t : Fin cfg0.N) : Rows := iblk m c 1 t

theorem bAct_at (t : Fin cfg0.N) (f : Fin 704) (r : Fin 4096) : bAct m c t (ix3 0 f r) = aAct m c (ix3 (shard t) f r) := by
  unfold shard; blk_ext! [iblk, V, idx_val t]
theorem bX_eq (t : Fin cfg0.N) : bX m c t = aX m c := by
  funext j; idx_vars j; blk_ext! [iblk, V, idx_val t]

/-- The kernel's array. -/
theorem final_wgrad : (dats m 0 c).arrAt 2 cfg0.N = wgrad (aAct m c) (aX m c) := by
  refine (dats m 0 c).arrAt_eq_of_covers 2 _ (by decide +kernel) fun t hf y => ?_
  blk_simp [idx_val t]
  rw [after0_2]
  obtain ⟨f, d, rfl⟩ : ∃ (f : Fin 704) (d : Fin 2048), y = ix3 0 f d :=
    ⟨y 1, y 2, by funext a; fin_cases a; exacts [Subsingleton.elim (α := Fin 1) _ _, rfl, rfl]⟩
  have e0 : (win0_2.blk t).view.emb (ix3 0 f d) 0 = shard t := Fin.ext (by simp [shard, idx_val t])
  have e1 : (win0_2.blk t).view.emb (ix3 0 f d) 1 = f := Fin.ext (by simp [idx_val t])
  have e2 : (win0_2.blk t).view.emb (ix3 0 f d) 2 = d := Fin.ext (by simp [idx_val t])
  unfold wgrad
  rw [e0, e1, e2]
  unfold out0_2
  frame_out
  refine (point_at (bAct m c t) (bX m c t) f d).trans (Finset.sum_congr rfl fun r _ => ?_)
  rw [bAct_at, bX_eq]

end Cert.WgradIdeal.Value

namespace Cert.WgradReferenceIdeal.Stage

open Cert.WgradReferenceIdeal Cert.WgradReferenceIdeal.Gen Idealize.ShloMosaic Cert.WgradIdeal.Value
open Idealize.ShloMosaic.TcCoe Idealize.SL.Sem

/-- The reference's array, of its arguments. -/
def grads (act : Acts) (x : Rows) : Grads :=
  truncf .bf16 (shapeCast _ (transpose S5632x2048 [1, 0] (transpose S2048x5632 [1, 0]
    (Host.dotGeneral dot_S4096x5632_S4096x2048_S5632x2048_0_0_1_1_n_n none (transpose S4096x5632 [1, 0]
      (shapeCast _ (extf .f32 (act : FVec Ideal S8x704x4096 .bf16) bitsLt_bf16_f32) shapeCasts_S8x704x4096_S5632x4096) transposes_S5632x4096_S4096x5632_1_0)
      (extf .f32 (x : FVec Ideal S4096x2048 .bf16) bitsLt_bf16_f32)) transposes_S5632x2048_S2048x5632_1_0) transposes_S2048x5632_S5632x2048_1_0)
    shapeCasts_S5632x2048_S8x704x2048) bitsLt_bf16_f32

theorem grads_eq (act : Acts) (x : Rows) : grads act x = wgrad act x := by
  funext i
  idx_vars i
  pointwise [grads, wgrad]

end Cert.WgradReferenceIdeal.Stage

namespace Cert.Proof

open Idealize.ShloMosaic Idealize.SL.Sem Cert.WgradReferenceIdeal.Stage
open Cert.WgradIdeal.Value (aAct aX wgrad final_wgrad Acts Rows)

/-- From the same arguments, both programs end with the gradient of the weights. -/
theorem weight_gradient : Cert.algebraic_WgradIdeal_WgradReferenceIdeal := by
  intro m g m' g' _ hargs
  refine ⟨fun c => wgrad (aAct m c) (aX m c), ?_, ?_⟩
  · refine (θ_run _ _ _).mono (fun r h c => ?_) (Cert.WgradIdeal.Value.run_blocks m g)
    obtain ⟨h0, ha⟩ := h c
    exact ⟨h0.trans (final_wgrad m c), ha⟩
  · refine (θ_run _ _ _).mono (fun r h c => ?_) (Cert.WgradReferenceIdeal.Value.run m' g')
    obtain ⟨h0, ha⟩ := h c
    obtain ⟨e0, e1⟩ := hargs c
    refine ⟨h0.trans ?_, ha⟩
    refine (grads_eq _ _).trans ?_
    exact congrArg₂ wgrad e0 e1

end Cert.Proof

end
-- ==== Proof.AttnMath.lean ====
/- The arithmetic of one row of an attention with a sink: a softmax over 256 masked scores and one score more, its
   probabilities and its gradient, over the extended reals; and the rotation of a head's first sixteen lanes. -/
module

public import proofs.«01_k».proof.Proof.Math

@[expose] public section

noncomputable section

namespace Cert.Sink

open Idealize.ShloMosaic Cert.Row

/-- The factor the scores are scaled by, and its inverse's. -/
def eighth : EReal := Ideal.ofBits .f32 0x3E000000#32
def eight : EReal := Ideal.ofBits .f32 0x41000000#32

theorem eighth_eq : eighth = ((1 / 8 : ℝ) : EReal) := by
  unfold eighth; simp [Ideal.ofBits, Ideal.ieee, -EReal.coe_mul]; norm_num
theorem eight_eq : eight = ((8 : ℝ) : EReal) := by
  unfold eight; simp [Ideal.ofBits, Ideal.ieee, -EReal.coe_mul]; norm_num

/-! ## The softmax of one row -/

section
variable (x : Fin 256 → EReal) (s : EReal) (dp : Fin 256 → EReal)

/-- The largest of the row's scores, the sink among them. -/
def top : EReal := max (Finset.univ.fold max lowest x) s
/-- The exponential of a score less the largest one, and of the sink's. -/
def wt (j : Fin 256) : EReal := Ideal.exp (x j - top x s)
def wsink : EReal := Ideal.exp (s - top x s)
/-- The sum of the weights. -/
def tot : EReal := (∑ j, wt x s j) + wsink x s
/-- The probability of a token, and of the sink. -/
def pr (j : Fin 256) : EReal := wt x s j * Ideal.div 1 (tot x s)
def prs : EReal := wsink x s * Ideal.div 1 (tot x s)
/-- The mean of the gradients at the probabilities. -/
def mean : EReal := ∑ j, pr x s j * dp j
/-- The gradient at the unscaled score of a token. -/
def ds (j : Fin 256) : EReal := pr x s j * (dp j - mean x s dp) * eighth

/-- The gradient at a score, of a token and of the sink, through the quotient of the weight by the sum. -/
def through (j : Fin 256) : EReal :=
  (Ideal.div (dp j) (tot x s) + -∑ l, dp l * Ideal.div 1 (tot x s * tot x s) * wt x s l) * wt x s j
def throughSink : EReal :=
  (Ideal.div 0 (tot x s) + -∑ l, dp l * Ideal.div 1 (tot x s * tot x s) * wt x s l) * wsink x s
end

/-- Every score is a real number or masked. -/
def Open (x : Fin 256 → EReal) : Prop := ∀ j, x j = ⊥ ∨ Finite (x j)

section
variable {x : Fin 256 → EReal} {s : EReal} (hx : Open x) (hs : Finite s)
include hx hs

theorem top_finite : Finite (top x s) := by
  refine ⟨ne_of_lt (max_lt ?_ (lt_of_le_of_ne le_top hs.1)), ne_of_gt (lt_of_lt_of_le (lt_of_le_of_ne bot_le hs.2.symm) (le_max_right _ _))⟩
  refine (Finset.fold_max_lt _).mpr ⟨by rw [lowest_eq]; exact bot_lt_top, fun j _ => ?_⟩
  rcases hx j with h | h
  · rw [h]; exact bot_lt_top
  · exact lt_of_le_of_ne le_top h.1

theorem wsink_pos : ∃ a : ℝ, 0 < a ∧ wsink x s = (a : EReal) := by
  obtain ⟨r, hr⟩ := (hs.sub (top_finite hx hs)).exists
  exact ⟨Real.exp r, Real.exp_pos r, by unfold wsink; rw [hr]; rfl⟩

/-- A masked token has no weight. -/
theorem wt_masked {j : Fin 256} (h : x j = ⊥) : wt x s j = 0 := by
  obtain ⟨r, hr⟩ := (top_finite hx hs).exists
  unfold wt; rw [h, hr]; rfl

theorem wt_real (j : Fin 256) : ∃ a : ℝ, 0 ≤ a ∧ wt x s j = (a : EReal) := by
  rcases hx j with h | h
  · exact ⟨0, le_rfl, wt_masked hx hs h⟩
  · obtain ⟨r, hr⟩ := (h.sub (top_finite hx hs)).exists
    exact ⟨Real.exp r, (Real.exp_pos r).le, by unfold wt; rw [hr]; rfl⟩

theorem tot_pos : ∃ a : ℝ, 0 < a ∧ tot x s = (a : EReal) := by
  choose w hw hwe using wt_real hx hs
  obtain ⟨b, hb, hbe⟩ := wsink_pos hx hs
  refine ⟨(∑ j, w j) + b, add_pos_of_nonneg_of_pos (Finset.sum_nonneg fun j _ => hw j) hb, ?_⟩
  unfold tot
  simp only [hwe, hbe]
  rw [EReal.coe_add]
  exact congrArg (· + (b : EReal)) (map_sum (⟨⟨fun r : ℝ => (r : EReal), rfl⟩, fun a b => EReal.coe_add a b⟩ : ℝ →+ EReal) w Finset.univ).symm

/-- The probability is the quotient. -/
theorem pr_eq_div (j : Fin 256) : pr x s j = Ideal.div (wt x s j) (tot x s) := by
  obtain ⟨L, hL, hLe⟩ := tot_pos hx hs
  exact Ideal.mul_one_div (by rw [hLe]; exact_mod_cast hL.ne')

theorem pr_masked {j : Fin 256} (h : x j = ⊥) : pr x s j = 0 := by
  unfold pr; rw [wt_masked hx hs h, zero_mul]

theorem pr_real (j : Fin 256) : ∃ a : ℝ, 0 ≤ a ∧ pr x s j = (a : EReal) := by
  obtain ⟨L, hL, hLe⟩ := tot_pos hx hs
  obtain ⟨w, hw, hwe⟩ := wt_real hx hs j
  refine ⟨w * L⁻¹, mul_nonneg hw (inv_pos.mpr hL).le, ?_⟩
  unfold pr
  rw [hwe, hLe, Ideal.div, if_neg (by exact_mod_cast hL.ne'), one_mul]
  rfl

/-- The mean does not see the gradients at masked tokens. -/
theorem mean_congr {dp dp' : Fin 256 → EReal} (h : ∀ j, x j ≠ ⊥ → dp j = dp' j) : mean x s dp = mean x s dp' := by
  refine Finset.sum_congr rfl fun j _ => ?_
  by_cases hj : x j = ⊥
  · rw [pr_masked hx hs hj, zero_mul, zero_mul]
  · rw [h j hj]

theorem ds_congr {dp dp' : Fin 256 → EReal} (h : ∀ j, x j ≠ ⊥ → dp j = dp' j) (j : Fin 256) : ds x s dp j = ds x s dp' j := by
  unfold ds
  by_cases hj : x j = ⊥
  · simp only [pr_masked hx hs hj, zero_mul]
  · rw [h j hj, mean_congr hx hs h]

theorem ds_masked (dp : Fin 256 → EReal) {j : Fin 256} (h : x j = ⊥) : ds x s dp j = 0 := by
  unfold ds; rw [pr_masked hx hs h, zero_mul, zero_mul]

theorem through_masked (dp : Fin 256 → EReal) {j : Fin 256} (h : x j = ⊥) : through x s dp j = 0 := by
  unfold through; rw [wt_masked hx hs h, mul_zero]

theorem mean_finite {dp : Fin 256 → EReal} (h : ∀ j, Finite (dp j)) : Finite (mean x s dp) :=
  Finite.sum _ _ fun j => by obtain ⟨a, _, e⟩ := pr_real hx hs j; rw [e]; exact (finite_coe a).mul (h j)

theorem prs_finite : Finite (prs x s) := by
  obtain ⟨L, hL, hLe⟩ := tot_pos hx hs
  obtain ⟨w, hw, hwe⟩ := wsink_pos hx hs
  unfold prs
  rw [hwe, hLe, Ideal.div, if_neg (by exact_mod_cast hL.ne'), one_mul]
  exact (finite_coe w).mul (finite_coe L⁻¹)

/-- A weight times the long form's sum is the short form's mean times the weight's share. -/
theorem share_mul (dp : Fin 256 → EReal) (u : ℝ) (hu : 0 ≤ u) :
    (u : EReal) * ∑ l, dp l * Ideal.div 1 (tot x s * tot x s) * wt x s l = (u : EReal) * Ideal.div 1 (tot x s) * mean x s dp := by
  obtain ⟨L, hL, hLe⟩ := tot_pos hx hs
  choose w hw hwe using wt_real hx hs
  have hinv : ∀ r : ℝ, r ≠ 0 → Ideal.div 1 (r : EReal) = ((r⁻¹ : ℝ) : EReal) := fun r hr => by
    unfold Ideal.div
    rw [if_neg (by exact_mod_cast hr), one_mul]; rfl
  unfold mean pr
  simp only [hwe, hLe]
  rw [show ((L : EReal) * (L : EReal)) = ((L * L : ℝ) : EReal) from (EReal.coe_mul L L).symm, hinv L hL.ne',
    hinv (L * L) (mul_pos hL hL).ne', ← EReal.coe_mul u L⁻¹,
    mul_sum (by exact_mod_cast hu) (EReal.coe_ne_top _),
    mul_sum (by exact_mod_cast (mul_nonneg hu (inv_pos.mpr hL).le)) (EReal.coe_ne_top _)]
  refine Finset.sum_congr rfl fun l _ => ?_
  rw [mul_inv, EReal.coe_mul, EReal.coe_mul]
  ac_rfl

/-- The two forms of the gradient at a score agree, whatever the gradients at the probabilities are. -/
theorem through_eq (dp : Fin 256 → EReal) (j : Fin 256) : through x s dp j * eighth = ds x s dp j := by
  obtain ⟨L, hL, hLe⟩ := tot_pos hx hs
  obtain ⟨w, hw, hwe⟩ := wt_real hx hs j
  obtain ⟨p, hp, hpe⟩ := pr_real hx hs j
  have hL0 : tot x s ≠ 0 := by rw [hLe]; exact_mod_cast hL.ne'
  unfold ds through
  congr 1
  rw [sub_eq_add_neg, hpe, EReal.left_distrib_of_nonneg_of_ne_top (by exact_mod_cast hp) (EReal.coe_ne_top _), hwe, mul_comm _ (w : EReal),
    EReal.left_distrib_of_nonneg_of_ne_top (by exact_mod_cast hw) (EReal.coe_ne_top _), mul_neg, mul_neg, share_mul hx hs dp w hw,
    ← hwe, ← hpe, ← Ideal.mul_one_div hL0]
  unfold pr
  congr 1
  ac_rfl

theorem throughSink_eq (dp : Fin 256 → EReal) : throughSink x s dp = -(prs x s * mean x s dp) := by
  obtain ⟨L, hL, hLe⟩ := tot_pos hx hs
  obtain ⟨w, hw, hwe⟩ := wsink_pos hx hs
  have h0 : Ideal.div 0 (tot x s) = 0 := by
    rw [hLe, Ideal.div, if_neg (by exact_mod_cast hL.ne'), zero_mul]
  unfold throughSink prs
  rw [h0, zero_add, mul_comm, hwe, mul_neg, share_mul hx hs dp w hw.le]
end

/-! ## The rotation of a head -/

/-- A head of 64 lanes whose first sixteen are eight planes, each turned by its angle. -/
def turn (x : Fin 64 → EReal) (co si : Fin 8 → EReal) (d : Fin 64) : EReal :=
  if h : d.val < 8 then x d * co ⟨d.val, h⟩ - x ⟨d.val + 8, by omega⟩ * si ⟨d.val, h⟩
  else if h' : d.val < 16 then x d * co ⟨d.val - 8, by omega⟩ + x ⟨d.val - 8, by omega⟩ * si ⟨d.val - 8, by omega⟩
  else x d

/-- The gradient of `turn`: the planes turned back. -/
def unturn (x : Fin 64 → EReal) (co si : Fin 8 → EReal) (d : Fin 64) : EReal :=
  if h : d.val < 8 then x ⟨d.val + 8, by omega⟩ * si ⟨d.val, h⟩ + x d * co ⟨d.val, h⟩
  else if h' : d.val < 16 then x d * co ⟨d.val - 8, by omega⟩ + (-x ⟨d.val - 8, by omega⟩) * si ⟨d.val - 8, by omega⟩
  else x d

theorem unturn_zero (co si : Fin 8 → EReal) (d : Fin 64) : unturn (fun _ => 0) co si d = 0 := by
  unfold unturn; split_ifs <;> simp

theorem turn_finite {x : Fin 64 → EReal} {co si : Fin 8 → EReal} (hx : ∀ d, Finite (x d)) (hc : ∀ d, Finite (co d)) (hs : ∀ d, Finite (si d))
    (d : Fin 64) : Finite (turn x co si d) := by
  unfold turn
  split_ifs
  · exact ((hx _).mul (hc _)).sub ((hx _).mul (hs _))
  · exact ((hx _).mul (hc _)).add ((hx _).mul (hs _))
  · exact hx d

end Cert.Sink

end
-- ==== Proof.AttnRow.lean ====
/- One head of one block of queries: the kernel's vectors between the scores and the gradients, read at an index, are
   the softmax with a sink of the row's masked scores. -/
module

public import proofs.«01_k».proof.Proof.Gen.AttnIdeal.Skeleton
public import proofs.«01_k».proof.Proof.AttnMath
public import Idealize.ShloMosaic.Lib.Pointwise
public import Idealize.ShloMosaic.Lib.WordCmp

@[expose] public section

set_option maxRecDepth 16384

noncomputable section

namespace Cert.AttnIdeal.Heads

open Cert.AttnIdeal Cert.AttnIdeal.Gen Cert.Row Idealize.ShloMosaic
open Idealize.ShloMosaic.TcCoe Idealize.SL.Sem

abbrev Mask := IVec S128x256 1

variable (M : Mask) (kk vv : FVec Ideal S256x64 .bf16) (qq gg : FVec Ideal S128x64 .bf16) (s : Ideal .f32)
  (sc : FVec Ideal S128x256 .f32) (w : Ideal .f32)

/-- A row's scores, masked. -/
def maskedRow (i : Fin 128) (j : Fin 256) : EReal := if M (ix2 i j) = 1#1 then sc (ix2 i j) else w

/-- A row's gradients at the probabilities. -/
def dpRow (i : Fin 128) (j : Fin 256) : EReal := ∑ d, gg (ix2 i d) * vv (ix2 j d)

theorem pay16_at (i : Fin 128) (j : Fin 256) : k0_pay16 M sc w (ix2 i j) = maskedRow M sc w i j := by
  pointwise [k0_pay16, maskedRow]
  rfl
theorem pay17_at (i : Fin 128) (j : Fin 1) : k0_pay17 M s sc w (ix2 i j) = Sink.top (maskedRow M sc w i) s := by
  pointwise [k0_pay17, pay16_at, Sink.top]
  rfl
theorem pay18_at (i : Fin 128) (j : Fin 256) : k0_pay18 M s sc w (ix2 i j) = Sink.wt (maskedRow M sc w i) s j := by
  pointwise [k0_pay18, pay16_at, pay17_at, Sink.wt]
theorem pay19_at (i : Fin 128) (j : Fin 1) : k0_pay19 M s sc w (ix2 i j) = Sink.wsink (maskedRow M sc w i) s := by
  pointwise [k0_pay19, pay17_at, Sink.wsink]
theorem pay20_at (i : Fin 128) (j : Fin 1) : k0_pay20 M s sc w (ix2 i j) = Ideal.div 1 (Sink.tot (maskedRow M sc w i) s) := by
  pointwise [k0_pay20, pay18_at, pay19_at, Sink.tot]
theorem pay21_at (i : Fin 128) (j : Fin 256) : k0_pay21 M s sc w (ix2 i j) = Sink.pr (maskedRow M sc w i) s j := by
  pointwise [k0_pay21, pay18_at, pay20_at, Sink.pr]
theorem pay23_at (i : Fin 128) (j : Fin 256) : k0_pay23 vv gg (ix2 i j) = dpRow vv gg i j := by
  pointwise [k0_pay23, dpRow]
theorem pay24_at (i : Fin 128) (j : Fin 1) :
    k0_pay24 M vv gg s sc w (ix2 i j) = Sink.mean (maskedRow M sc w i) s (dpRow vv gg i) := by
  pointwise [k0_pay24, pay21_at, pay23_at, Sink.mean]
theorem pay25_at (i : Fin 128) (j : Fin 256) :
    k0_pay25 M vv gg s sc w (ix2 i j) = Sink.ds (maskedRow M sc w i) s (dpRow vv gg i) j := by
  pointwise [k0_pay25, pay21_at, pay23_at, pay24_at, Sink.ds]
  rfl
/-- The gradient at a head's queries, at its keys and at its values. -/
theorem pay26_at (i : Fin 128) (d : Fin 64) :
    k0_pay26 M kk vv gg s sc w (ix2 i d) = ∑ j, Sink.ds (maskedRow M sc w i) s (dpRow vv gg i) j * kk (ix2 j d) := by
  pointwise [k0_pay26, pay25_at]
theorem pay27_at (p : FVec Ideal S64x256 .f32) (d : Fin 64) (j : Fin 256) :
    k0_pay27 M vv p qq gg s sc w (ix2 d j)
      = p (ix2 d j) + ∑ i, qq (ix2 i d) * Sink.ds (maskedRow M sc w i) s (dpRow vv gg i) j := by
  pointwise [k0_pay27, pay25_at]
theorem pay22_at (p : FVec Ideal S64x256 .f32) (d : Fin 64) (j : Fin 256) :
    k0_pay22 M p gg s sc w (ix2 d j) = p (ix2 d j) + ∑ i, gg (ix2 i d) * Sink.pr (maskedRow M sc w i) s j := by
  pointwise [k0_pay22, pay21_at]

/-- The gradient at a head's sink. -/
def sinkSum : EReal := 0 - ∑ i : Fin 128, Sink.prs (maskedRow M sc w i) s * Sink.mean (maskedRow M sc w i) s (dpRow vv gg i)

/-- What a head adds to the row of the gradients at the sinks: its own, at its own lane. -/
def sinkStep (n : BitVec 32) (p : FVec Ideal S1x128 .f32) : FVec Ideal S1x128 .f32 :=
  addf p (select (cmpi .eq (iota .tc S1x128 32 [1] iota_S1x128_d1_w32) (broadcast S1x128 n))
    (broadcastTo S1x128 (shapeCast S1x1 (subf (broadcast S1x1 (Scalar.ofBits .f32 0x00000000#32))
      (shapeCast S1x1 (multiReduction .add [0] S1 (mulf (mulf (k0_pay19 M s sc w) (k0_pay20 M s sc w)) (k0_pay24 M vv gg s sc w))
        0x00000000#32 reduces_S128x1_S1 (.inl rfl) rfl) shapeCasts_S1_S1x1)) shapeCasts_S1x1_S1x1) broadcasts_S1x1_S1x128)
    (broadcast S1x128 (Scalar.ofBits .f32 0x00000000#32)))

theorem sinkStep_at (n : ℕ) (hn : n < 16) (p : FVec Ideal S1x128 .f32) (l : Fin 128) :
    sinkStep M vv gg s sc w (BitVec.ofNat 32 n) p (ix2 0 l) = p (ix2 0 l) + if l.val = n then sinkSum M vv gg s sc w else 0 := by
  pointwise [sinkStep, pay19_at, pay20_at, pay24_at, sinkSum, Sink.prs]
  have := l.isLt
  simp (disch := word_cmp_side) only [hlo_ix]

/-- The mask: key `j` of the window counts for query `i` when it is neither later nor 128 or more earlier, and when
    there is a block before this one or the key is in this one. -/
theorem pay7_at (n : ℕ) (hn : n < 32) (i : Fin 128) (j : Fin 256) :
    k0_pay7 (BitVec.ofNat 32 n) (ix2 i j) = 1#1 ↔ j.val ≤ i.val + 128 ∧ i.val < j.val ∧ (0 < n ∨ 128 ≤ j.val) := by
  pointwise [k0_pay7]
  have := i.isLt
  have := j.isLt
  have e : IntOp.addi (BitVec.ofNat 32 i.val) 128#32 = BitVec.ofNat 32 (i.val + 128) := by
    unfold IntOp.addi; exact (BitVec.ofNat_add ..).symm
  have e' : Scalar.cmpi CmpIPredicate.sgt (BitVec.ofNat 32 n) 0#32 = BitVec.ofBool (decide (0 < n)) := by
    show IntOp.cmpi CmpIPredicate.sgt (BitVec.ofNat 32 n) 0#32 = _
    word_cmp
  rw [e, e']
  simp (disch := word_cmp_side) only [hlo_ix]
  tauto

end Cert.AttnIdeal.Heads

end
-- ==== Proof.AttnHeads.lean ====
/- The block of one group of 128 queries, as the sixteen heads' vectors make it. -/
module

public import proofs.«01_k».proof.Proof.AttnRow

@[expose] public section

set_option maxRecDepth 16384

noncomputable section

namespace Cert.AttnIdeal.Heads

open Cert.AttnIdeal Cert.AttnIdeal.Gen Cert.Row Idealize.ShloMosaic
open Idealize.ShloMosaic.TcCoe Idealize.SL.Sem

/-- The sinks of the sixteen heads. -/
abbrev Sinks := Fin 16 → Ideal .f32

theorem slices_head : ∀ h : Fin 16, S128x1024.Slices ![0, 64 * h.val] S128x64 := by decide
theorem slices_kv : ∀ e : Fin 2, S256x128.Slices ![0, 64 * e.val] S256x64 := by decide

/-- Head `h` of the sixteen side by side. -/
def headOf (x : FVec Ideal S128x1024 .bf16) (h : Fin 16) : FVec Ideal S128x64 .bf16 :=
  extractStridedSlice S128x64 ![0, 64 * h.val] x (slices_head h)
/-- Key and value head `e` of the two side by side. -/
def kvOf (x : FVec Ideal S256x128 .bf16) (e : Fin 2) : FVec Ideal S256x64 .bf16 :=
  extractStridedSlice S256x64 ![0, 64 * e.val] x (slices_kv e)
/-- The key and value head that query head `h` reads. -/
def kvHead (h : Fin 16) : Fin 2 := ⟨h.val / 8, by omega⟩

/-- The score of a masked token. -/
def masked : Ideal .f32 := Named.named κ "mask" 0xF149F2CA#32

variable (q g : FVec Ideal S128x1024 .bf16) (k v : FVec Ideal S256x128 .bf16) (M : Mask) (s : Sinks)

/-- The scores of head `h`. -/
def raw (h : Fin 16) : FVec Ideal S128x256 .f32 :=
  matmul dot_S128x64_S256x64_S128x256_1_1_0_0_n_n none (headOf q h) (kvOf k (kvHead h)) (constant S128x256 .f32 0x00000000#32)
/-- The gradient at head `h`'s rotated queries. -/
def dqHead (h : Fin 16) : FVec Ideal S128x64 .f32 :=
  k0_pay26 M (kvOf k (kvHead h)) (kvOf v (kvHead h)) (headOf g h) (s h) (raw q k h) masked
/-- What head `h` adds to the gradient at its rotated keys. -/
def dkStep (h : Fin 16) (p : FVec Ideal S64x256 .f32) : FVec Ideal S64x256 .f32 :=
  k0_pay27 M (kvOf v (kvHead h)) p (headOf q h) (headOf g h) (s h) (raw q k h) masked
/-- What head `h` adds to the gradient at its values. -/
def dvStep (h : Fin 16) (p : FVec Ideal S64x256 .f32) : FVec Ideal S64x256 .f32 :=
  k0_pay22 M p (headOf g h) (s h) (raw q k h) masked
/-- Sixteen heads side by side. -/
def heads16 (f : Fin 16 → FVec Ideal S128x64 .f32) : FVec Ideal S128x1024 .f32 :=
  concatenate S128x1024 1 [⟨S128x64, f 0⟩, ⟨S128x64, f 1⟩, ⟨S128x64, f 2⟩, ⟨S128x64, f 3⟩, ⟨S128x64, f 4⟩, ⟨S128x64, f 5⟩, ⟨S128x64, f 6⟩,
    ⟨S128x64, f 7⟩, ⟨S128x64, f 8⟩, ⟨S128x64, f 9⟩, ⟨S128x64, f 10⟩, ⟨S128x64, f 11⟩, ⟨S128x64, f 12⟩, ⟨S128x64, f 13⟩, ⟨S128x64, f 14⟩,
    ⟨S128x64, f 15⟩]
    concatenates_S128x64_S128x64_S128x64_S128x64_S128x64_S128x64_S128x64_S128x64_S128x64_S128x64_S128x64_S128x64_S128x64_S128x64_S128x64_S128x64_S128x1024_d1
/-- The three parts of the table of the rotation: the factors of a lane itself, of the lane eight on and of the lane eight back. -/
def tabC (tab : FVec Ideal S128x384 .f32) : FVec Ideal S128x128 .f32 :=
  extractStridedSlice S128x128 ![0, 0] (shapeCast S128x384 tab shapeCasts_S128x384_S128x384) slices_S128x384_o0_0_S128x128
def tabM (tab : FVec Ideal S128x384 .f32) : FVec Ideal S128x128 .f32 :=
  extractStridedSlice S128x128 ![0, 128] (shapeCast S128x384 tab shapeCasts_S128x384_S128x384) slices_S128x384_o0_128_S128x128
def tabP (tab : FVec Ideal S128x384 .f32) : FVec Ideal S128x128 .f32 :=
  extractStridedSlice S128x128 ![0, 256] (shapeCast S128x384 tab shapeCasts_S128x384_S128x384) slices_S128x384_o0_256_S128x128
/-- A vector of two heads, repeated for sixteen. -/
def tile8 (x : FVec Ideal S128x128 .f32) : FVec Ideal S128x1024 .f32 :=
  concatenate S128x1024 1 [⟨S128x128, x⟩, ⟨S128x128, x⟩, ⟨S128x128, x⟩, ⟨S128x128, x⟩, ⟨S128x128, x⟩, ⟨S128x128, x⟩, ⟨S128x128, x⟩, ⟨S128x128, x⟩]
    concatenates_S128x128_S128x128_S128x128_S128x128_S128x128_S128x128_S128x128_S128x128_S128x1024_d1
/-- The rotation of sixteen heads. -/
def spinQ (w : BitVec 32) (x : FVec Ideal S128x1024 .f32) (tab : FVec Ideal S128x384 .f32) : FVec Ideal S128x1024 .f32 :=
  addf (mulf x (tile8 (tabC tab))) (mulf (broadcast S128x1024 (Scalar.ofBits .f32 w))
    (addf (mulf (dynamicRotate 1 1016#32 none x rotates_S128x1024_d1) (tile8 (tabM tab)))
      (mulf (dynamicRotate 1 8#32 none x rotates_S128x1024_d1) (tile8 (tabP tab)))))
/-- The rotation of two heads. -/
def spinK (w : BitVec 32) (x : FVec Ideal S128x128 .f32) (tab : FVec Ideal S128x384 .f32) : FVec Ideal S128x128 .f32 :=
  addf (mulf x (tabC tab)) (mulf (broadcast S128x128 (Scalar.ofBits .f32 w))
    (addf (mulf (dynamicRotate 1 120#32 none x rotates_S128x128_d1) (tabM tab))
      (mulf (dynamicRotate 1 8#32 none x rotates_S128x128_d1) (tabP tab))))

/-- The block of the gradient at the queries. -/
def dqBlock (tab : FVec Ideal S128x384 .f32) : FVec Ideal S128x1024 .bf16 :=
  truncf .bf16 (spinQ 0xBF800000#32 (heads16 (dqHead q g k v M s)) tab) bitsLt_bf16_f32

/-- The heads of one key and value head, one after another. -/
def eightHeads (f : Fin 16 → FVec Ideal S64x256 .f32 → FVec Ideal S64x256 .f32) (e : Fin 2) : FVec Ideal S64x256 .f32 :=
  let hd (a : Fin 8) : Fin 16 := ⟨8 * e.val + a.val, by omega⟩
  f (hd 7) (f (hd 6) (f (hd 5) (f (hd 4) (f (hd 3) (f (hd 2) (f (hd 1) (f (hd 0)
    (broadcast S64x256 (Scalar.ofBits .f32 0x00000000#32)))))))))
/-- Two heads below each other, turned to lie side by side. -/
def standing (f : Fin 2 → FVec Ideal S64x256 .f32) : FVec Ideal S256x128 .f32 :=
  transpose S256x128 [1, 0] (concatenate S128x256 0 [⟨S64x256, f 0⟩, ⟨S64x256, f 1⟩] concatenates_S64x256_S64x256_S128x256_d0)
    transposes_S128x256_p1_0_S256x128
/-- The gradient at the rotated keys of a window. -/
def dkWindow : FVec Ideal S256x128 .f32 :=
  mulf (standing (eightHeads (dkStep q g k v M s))) (broadcast S256x128 (Scalar.ofBits .f32 0x41000000#32))
/-- The block of the gradients at a window's keys and values, side by side. -/
def dkvBlock (tabp tab : FVec Ideal S128x384 .f32) : FVec Ideal S1x256x256 .f32 :=
  shapeCast S1x256x256 (concatenate S256x256 1
    [⟨S256x128, concatenate S256x128 0
      [⟨S128x128, spinK 0xBF800000#32 (extractStridedSlice S128x128 ![0, 0] (dkWindow q g k v M s) slices_S256x128_o0_0_S128x128) tabp⟩,
       ⟨S128x128, spinK 0xBF800000#32 (extractStridedSlice S128x128 ![128, 0] (dkWindow q g k v M s) slices_S256x128_o128_0_S128x128) tab⟩]
      concatenates_S128x128_S128x128_S256x128_d0⟩,
     ⟨S256x128, standing (eightHeads (dvStep q g k M s))⟩]
    concatenates_S256x128_S256x128_S256x256_d1) shapeCasts_S256x256_S1x256x256
/-- What head `h` adds to the row of the gradients at the sinks. -/
def sinkHead (h : Fin 16) (p : FVec Ideal S1x128 .f32) : FVec Ideal S1x128 .f32 :=
  sinkStep M (kvOf v (kvHead h)) (headOf g h) (s h) (raw q k h) masked (BitVec.ofNat 32 h.val) p
/-- A block's row of the gradients at the sinks. -/
def sinkBlock : FVec Ideal S1x128 .f32 :=
  sinkHead q g k v M s 15 (sinkHead q g k v M s 14 (sinkHead q g k v M s 13 (sinkHead q g k v M s 12 (sinkHead q g k v M s 11
    (sinkHead q g k v M s 10 (sinkHead q g k v M s 9 (sinkHead q g k v M s 8 (sinkHead q g k v M s 7 (sinkHead q g k v M s 6
      (sinkHead q g k v M s 5 (sinkHead q g k v M s 4 (sinkHead q g k v M s 3 (sinkHead q g k v M s 2 (sinkHead q g k v M s 1
        (sinkHead q g k v M s 0 (broadcast S1x128 (Scalar.ofBits .f32 0x00000000#32)))))))))))))))))

end Cert.AttnIdeal.Heads

end
-- ==== Proof.AttnPoint.lean ====
/- What one grid point stores, as the heads' vectors of the blocks it reads. -/
module

public import proofs.«01_k».proof.Proof.Gen.AttnIdeal.Value
public import proofs.«01_k».proof.Proof.AttnHeads
public import Idealize.ShloMosaic.Lib.Pipeline.ValueKit
public import Idealize.ShloMosaic.Lib.Pipeline.ReadBack

@[expose] public section

set_option maxRecDepth 16384

noncomputable section

namespace Cert.AttnIdeal.Value

open Cert.AttnIdeal Cert.AttnIdeal.Gen Cert.Row Idealize.ShloMosaic Heads
open Idealize.ShloMosaic.TcCoe Idealize.SL.Sem

variable (m : (ℓ : Loc nD τ sig) → Buf (Elt Ideal) ℓ) (c : Dev nD)

/-- The blocks the heads read at a grid point: the sinks, the rotated and scaled queries, the rotated keys of the
    window, its values, the mask. -/
theorem in_sinks : ∀ (h : Fin 16) (a : Fin 2), (![0, h.val] : Fin 2 → ℕ) a + (![1, 1] : Fin 2 → ℕ) a ≤ S1x16.size a := by decide
def bsink (t : Fin cfg0.N) (h : Fin 16) : Ideal .f32 :=
  View.ld (S := S1x16) (Val := Elt Ideal) (e' := .f32) (iblk m c 7 t) (Rect.unit (s := S1x16) ![0, h.val] ![1, 1] (in_sinks h))
    (Shape.Idx.first (s := ⟨2, ![1, 1]⟩) (by decide))
def bq (t : Fin cfg0.N) : FVec Ideal S128x1024 .bf16 := k0_pay1 (X0_0 m c t) (iblk m c 5 t)
def bk (t : Fin cfg0.N) : FVec Ideal S256x128 .bf16 := k0_pay5 (k0_pay2 (iblk m c 2 t) (iblk m c 6 t)) (iblk m c 1 t) (k0_pay3 (iblk m c 5 t)) (k0_pay4 (iblk m c 5 t))
def bv (t : Fin cfg0.N) : FVec Ideal S256x128 .bf16 := k0_pay6 (iblk m c 4 t) (iblk m c 3 t)
def bm (t : Fin cfg0.N) : Mask := k0_pay7 (BitVec.ofNat 32 (grid0.coords t 0))

/-- The gradient at a block's queries. -/
theorem dq_point (t : Fin cfg0.N) (j) :
    (outsAt0 m c t.val t.isLt).1 j
      = dqBlock (bq m c t) (iblk m c 8 t) (bk m c t) (bv m c t) (bm t) (bsink m c t) (iblk m c 5 t) j := by
  by_cases ht : t.val % 32 = 0
  · rw [outsAt0_A m c t ht]
    dsimp only
    frame_out
    rfl
  · rw [outsAt0_B m c t ht]
    dsimp only
    frame_out
    rfl

/-- The gradients at its window's keys and values. -/
theorem dkv_point (t : Fin cfg0.N) (j) :
    (outsAt0 m c t.val t.isLt).2.1 j
      = dkvBlock (bq m c t) (iblk m c 8 t) (bk m c t) (bv m c t) (bm t) (bsink m c t) (iblk m c 6 t) (iblk m c 5 t) j := by
  by_cases ht : t.val % 32 = 0
  · rw [outsAt0_A m c t ht]
    dsimp only
    frame_out
    rfl
  · rw [outsAt0_B m c t ht]
    dsimp only
    frame_out
    rfl

/-- The block's row of the gradients at the sinks. -/
def srow (t : Fin cfg0.N) : FVec Ideal S1x128 .f32 :=
  sinkBlock (bq m c t) (iblk m c 8 t) (bk m c t) (bv m c t) (bm t) (bsink m c t)

/-- The row of the gradients at the sinks starts at zero … -/
theorem ds_first (t : Fin cfg0.N) (ht : t.val % 32 = 0) (l : Fin 128) :
    (outsAt0 m c t.val t.isLt).2.2 (ix2 0 l) = srow m c t (ix2 0 l) := by
  rw [outsAt0_A m c t ht]
  dsimp only
  frame_out
  refine Eq.trans (b := k0_pay286 (srow m c t) (k0_pay285 (F := Ideal)) (ix2 0 l)) rfl ?_
  pointwise [k0_pay286, k0_pay285]

/-- … and gains a block's at every point. -/
theorem ds_step (t : Fin cfg0.N) (ht : ¬t.val % 32 = 0) (l : Fin 128) :
    (outsAt0 m c t.val t.isLt).2.2 (ix2 0 l)
      = (outsAt0 m c (t.val - 1) (Nat.lt_of_le_of_lt (Nat.sub_le _ _) t.isLt)).2.2 (ix2 0 l) + srow m c t (ix2 0 l) := by
  rw [outsAt0_B m c t ht]
  dsimp only
  frame_out
  refine Eq.trans (b := k0_pay286 (srow m c t)
    (outsAt0 m c (t.val - 1) (Nat.lt_of_le_of_lt (Nat.sub_le _ _) t.isLt)).2.2 (ix2 0 l)) rfl ?_
  pointwise [k0_pay286]

end Cert.AttnIdeal.Value

end
-- ==== Proof.AttnIndex.lean ====
/- The heads' vectors of a block read at an index: rotations, heads side by side, sums over the heads of a key head. -/
module

public import proofs.«01_k».proof.Proof.AttnHeads
public import Idealize.ShloMosaic.Lib.Pipeline.Value

@[expose] public section

set_option maxRecDepth 16384

noncomputable section

namespace Cert.AttnIdeal.Heads

open Cert.AttnIdeal Cert.AttnIdeal.Gen Cert.Row Idealize.ShloMosaic
open Idealize.ShloMosaic.TcCoe Idealize.SL.Sem

/-- Lane `d` of head `h` of sixteen, and of two. -/
def lane16 (h : Fin 16) (d : Fin 64) : Fin 1024 := ⟨64 * h.val + d.val, by omega⟩
def lane2 (e : Fin 2) (d : Fin 64) : Fin 128 := ⟨64 * e.val + d.val, by omega⟩

theorem headOf_at (x : FVec Ideal S128x1024 .bf16) (h : Fin 16) (i : Fin 128) (d : Fin 64) :
    headOf x h (ix2 i d) = x (ix2 i (lane16 h d)) := by
  pointwise [headOf, lane16]
theorem kvOf_at (x : FVec Ideal S256x128 .bf16) (e : Fin 2) (i : Fin 256) (d : Fin 64) :
    kvOf x e (ix2 i d) = x (ix2 i (lane2 e d)) := by
  pointwise [kvOf, lane2]

theorem heads16_at (f : Fin 16 → FVec Ideal S128x64 .f32) (h : Fin 16) (i : Fin 128) (d : Fin 64) :
    heads16 f (ix2 i (lane16 h d)) = f h (ix2 i d) := by
  have hd := d.isLt
  have hv : ((ix2 i (lane16 h d) : S128x1024.Idx) 1).val = 64 * h.val + d.val := rfl
  refine (show heads16 f = concatenate S128x1024 1 (List.ofFn fun n : Fin 16 => (⟨S128x64, f n⟩ : (s : Shape) × (s.Idx → Ideal .f32))) _
    from rfl) ▸ concatenate_ofFn_apply (t := S128x1024) (s₁ := S128x64) 1 f _ rfl 64 rfl _ h ?_ (ix2 i d) ?_ ?_
  · rw [hv]; omega
  · rw [hv]; show d.val = _; omega
  · intro b hb
    fin_cases b
    · rfl
    · exact absurd rfl hb

theorem tile8_at (x : FVec Ideal S128x128 .f32) (h : Fin 16) (i : Fin 128) (d : Fin 64) :
    tile8 x (ix2 i (lane16 h d)) = x (ix2 i (lane2 ⟨h.val % 2, by omega⟩ d)) := by
  have hd := d.isLt
  have hv : ((ix2 i (lane16 h d) : S128x1024.Idx) 1).val = 64 * h.val + d.val := rfl
  refine (show tile8 x = concatenate S128x1024 1 (List.ofFn fun _ : Fin 8 => (⟨S128x128, x⟩ : (s : Shape) × (s.Idx → Ideal .f32))) _
    from rfl) ▸ concatenate_ofFn_apply (t := S128x1024) (s₁ := S128x128) 1
      (fun _ => x) _ rfl 128 rfl _ ⟨h.val / 2, by have := h.isLt; omega⟩ ?_ (ix2 i (lane2 ⟨h.val % 2, by omega⟩ d)) ?_ ?_
  · rw [hv]; show _ = h.val / 2; omega
  · rw [hv]; show 64 * (h.val % 2) + d.val = _; omega
  · intro b hb
    fin_cases b
    · rfl
    · exact absurd rfl hb

theorem tabC_at (tab : FVec Ideal S128x384 .f32) (i l : Fin 128) : tabC tab (ix2 i l) = tab (ix2 i ⟨l.val, by omega⟩) := by
  pointwise [tabC]
theorem tabM_at (tab : FVec Ideal S128x384 .f32) (i l : Fin 128) : tabM tab (ix2 i l) = tab (ix2 i ⟨128 + l.val, by omega⟩) := by
  pointwise [tabM]
theorem tabP_at (tab : FVec Ideal S128x384 .f32) (i l : Fin 128) : tabP tab (ix2 i l) = tab (ix2 i ⟨256 + l.val, by omega⟩) := by
  pointwise [tabP]

/-- The table of a rotation by the planes' cosines and sines. -/
structure Table (tab : FVec Ideal S128x384 .f32) (co si : Fin 128 → Fin 8 → EReal) : Prop where
  self : ∀ i e d, tab (ix2 i ⟨(lane2 e d).val, by omega⟩)
    = if h : d.val < 8 then co i ⟨d.val, h⟩ else if h' : d.val < 16 then co i ⟨d.val - 8, by omega⟩ else 1
  on : ∀ i e d, tab (ix2 i ⟨128 + (lane2 e d).val, by omega⟩) = if h : d.val < 8 then -si i ⟨d.val, h⟩ else 0
  back : ∀ i e d, tab (ix2 i ⟨256 + (lane2 e d).val, by omega⟩)
    = if d.val < 8 then 0 else if h' : d.val < 16 then si i ⟨d.val - 8, by omega⟩ else 0

/-- A lane from itself, the lane eight on and the lane eight back. -/
theorem turn_of (x : Fin 64 → EReal) (co si : Fin 8 → EReal) (d : Fin 64) (a b : EReal)
    (ha : ∀ h : d.val < 8, a = x ⟨d.val + 8, by omega⟩) (hb : ∀ h : 8 ≤ d.val, b = x ⟨d.val - 8, by omega⟩) :
    (x d * if h : d.val < 8 then co ⟨d.val, h⟩ else if h' : d.val < 16 then co ⟨d.val - 8, by omega⟩ else 1)
      + 1 * (a * (if h : d.val < 8 then -si ⟨d.val, h⟩ else 0)
        + b * if d.val < 8 then 0 else if h' : d.val < 16 then si ⟨d.val - 8, by omega⟩ else 0) = Sink.turn x co si d := by
  unfold Sink.turn
  by_cases h : d.val < 8
  · simp only [dif_pos h, if_pos h, mul_zero, add_zero, one_mul, ha h, mul_neg, sub_eq_add_neg]
  · by_cases h' : d.val < 16
    · simp only [dif_neg h, if_neg h, dif_pos h', mul_zero, zero_add, one_mul, hb (by omega)]
    · simp only [dif_neg h, if_neg h, dif_neg h', mul_zero, add_zero, mul_one]

theorem unturn_of (x : Fin 64 → EReal) (co si : Fin 8 → EReal) (d : Fin 64) (a b : EReal)
    (ha : ∀ h : d.val < 8, a = x ⟨d.val + 8, by omega⟩) (hb : ∀ h : 8 ≤ d.val, b = x ⟨d.val - 8, by omega⟩) :
    (x d * if h : d.val < 8 then co ⟨d.val, h⟩ else if h' : d.val < 16 then co ⟨d.val - 8, by omega⟩ else 1)
      + -1 * (a * (if h : d.val < 8 then -si ⟨d.val, h⟩ else 0)
        + b * if d.val < 8 then 0 else if h' : d.val < 16 then si ⟨d.val - 8, by omega⟩ else 0) = Sink.unturn x co si d := by
  unfold Sink.unturn
  by_cases h : d.val < 8
  · simp only [dif_pos h, if_pos h, mul_zero, add_zero, ha h, mul_neg, neg_mul, one_mul, neg_neg]
    exact add_comm _ _
  · by_cases h' : d.val < 16
    · simp only [dif_neg h, if_neg h, dif_pos h', mul_zero, zero_add, neg_mul, one_mul, hb (by omega)]
    · simp only [dif_neg h, if_neg h, dif_neg h', mul_zero, add_zero, mul_one]

theorem minus_one : Ideal.ofBits .f32 0xBF800000#32 = (-1 : EReal) := by
  simp [Ideal.ofBits, Ideal.ieee, -EReal.coe_mul]; norm_num

section
variable {tab : FVec Ideal S128x384 .f32} {co si : Fin 128 → Fin 8 → EReal} (T : Table tab co si)
include T

theorem spinK_turn (x : FVec Ideal S128x128 .f32) (i : Fin 128) (e : Fin 2) (d : Fin 64) :
    spinK 0x3F800000#32 x tab (ix2 i (lane2 e d)) = Sink.turn (fun d => x (ix2 i (lane2 e d))) (co i) (si i) d := by
  have hd := d.isLt
  pointwise [spinK, tabC_at, tabM_at, tabP_at]
  simp only [T.self, T.on, T.back]
  exact (congrArg₂ (· + ·) rfl (one_mul _).symm).trans (turn_of (fun d => x (ix2 i (lane2 e d))) (co i) (si i) d _ _
    (fun h => congrArg x (congrArg (ix2 i) (Fin.ext (by simp only [lane2]; omega))))
    (fun h => congrArg x (congrArg (ix2 i) (Fin.ext (by simp only [lane2]; omega)))))
theorem spinK_unturn (x : FVec Ideal S128x128 .f32) (i : Fin 128) (e : Fin 2) (d : Fin 64) :
    spinK 0xBF800000#32 x tab (ix2 i (lane2 e d)) = Sink.unturn (fun d => x (ix2 i (lane2 e d))) (co i) (si i) d := by
  have hd := d.isLt
  pointwise [spinK, tabC_at, tabM_at, tabP_at]
  simp only [T.self, T.on, T.back, minus_one]
  exact unturn_of (fun d => x (ix2 i (lane2 e d))) (co i) (si i) d _ _
    (fun h => congrArg x (congrArg (ix2 i) (Fin.ext (by simp only [lane2]; omega))))
    (fun h => congrArg x (congrArg (ix2 i) (Fin.ext (by simp only [lane2]; omega))))
theorem spinQ_turn (x : FVec Ideal S128x1024 .f32) (i : Fin 128) (e : Fin 16) (d : Fin 64) :
    spinQ 0x3F800000#32 x tab (ix2 i (lane16 e d)) = Sink.turn (fun d => x (ix2 i (lane16 e d))) (co i) (si i) d := by
  have hd := d.isLt
  pointwise [spinQ, tile8_at, tabC_at, tabM_at, tabP_at]
  simp only [T.self, T.on, T.back]
  exact (congrArg₂ (· + ·) rfl (one_mul _).symm).trans (turn_of (fun d => x (ix2 i (lane16 e d))) (co i) (si i) d _ _
    (fun h => congrArg x (congrArg (ix2 i) (Fin.ext (by simp only [lane16]; omega))))
    (fun h => congrArg x (congrArg (ix2 i) (Fin.ext (by simp only [lane16]; omega)))))
theorem spinQ_unturn (x : FVec Ideal S128x1024 .f32) (i : Fin 128) (e : Fin 16) (d : Fin 64) :
    spinQ 0xBF800000#32 x tab (ix2 i (lane16 e d)) = Sink.unturn (fun d => x (ix2 i (lane16 e d))) (co i) (si i) d := by
  have hd := d.isLt
  pointwise [spinQ, tile8_at, tabC_at, tabM_at, tabP_at]
  simp only [T.self, T.on, T.back, minus_one]
  exact unturn_of (fun d => x (ix2 i (lane16 e d))) (co i) (si i) d _ _
    (fun h => congrArg x (congrArg (ix2 i) (Fin.ext (by simp only [lane16]; omega))))
    (fun h => congrArg x (congrArg (ix2 i) (Fin.ext (by simp only [lane16]; omega))))
end

/-! ## The block's gradients -/

theorem masked_eq : masked = (⊥ : EReal) := IdealRules.named_const.ideal_named_scalar _ _ _ _ rfl

section
variable (q g : FVec Ideal S128x1024 .bf16) (k v : FVec Ideal S256x128 .bf16) (M : Mask) (s : Sinks)

/-- The scores of a query's row, masked, and the gradients at its probabilities. -/
def scores (h : Fin 16) (i : Fin 128) (j : Fin 256) : EReal :=
  if M (ix2 i j) = 1#1 then ∑ d, q (ix2 i (lane16 h d)) * k (ix2 j (lane2 (kvHead h) d)) else ⊥
def dps (h : Fin 16) (i : Fin 128) (j : Fin 256) : EReal := ∑ d, g (ix2 i (lane16 h d)) * v (ix2 j (lane2 (kvHead h) d))

theorem maskedRow_eq (h : Fin 16) (i : Fin 128) : maskedRow M (raw q k h) masked i = scores q k M h i := by
  funext j
  unfold maskedRow scores
  rw [masked_eq]
  pointwise [raw, headOf_at, kvOf_at]
theorem dpRow_eq (h : Fin 16) (i : Fin 128) : dpRow (kvOf v (kvHead h)) (headOf g h) i = dps g v h i := by
  funext j
  pointwise [dpRow, dps, headOf_at, kvOf_at]

theorem dqBlock_at {tab : FVec Ideal S128x384 .f32} {co si : Fin 128 → Fin 8 → EReal} (T : Table tab co si) (h : Fin 16) (i : Fin 128) (d : Fin 64) :
    dqBlock q g k v M s tab (ix2 i (lane16 h d))
      = Sink.unturn (fun d => ∑ j, Sink.ds (scores q k M h i) (s h) (dps g v h i) j * k (ix2 j (lane2 (kvHead h) d))) (co i) (si i) d := by
  refine Eq.trans (by pointwise [dqBlock]) (spinQ_unturn T (heads16 (dqHead q g k v M s)) i h d) |>.trans ?_
  simp only [heads16_at, dqHead, pay26_at, maskedRow_eq, dpRow_eq, kvOf_at]

/-- Query head `a` of the eight that read key and value head `e`. -/
def qHead (e : Fin 2) (a : Fin 8) : Fin 16 := ⟨8 * e.val + a.val, by omega⟩

theorem eightHeads_at (f : Fin 16 → FVec Ideal S64x256 .f32 → FVec Ideal S64x256 .f32) (F : Fin 16 → Fin 64 → Fin 256 → EReal)
    (hf : ∀ h p d j, f h p (ix2 d j) = (p (ix2 d j) : EReal) + F h d j) (e : Fin 2) (d : Fin 64) (j : Fin 256) :
    eightHeads f e (ix2 d j) = ∑ a, F (qHead e a) d j := by
  unfold eightHeads
  dsimp only
  simp only [hf]
  pointwise
  rw [Fin.sum_univ_eight]
  rfl

theorem standing_at (f : Fin 2 → FVec Ideal S64x256 .f32) (j : Fin 256) (e : Fin 2) (d : Fin 64) :
    standing f (ix2 j (lane2 e d)) = f e (ix2 d j) := by
  have hd := d.isLt
  pointwise [standing, lane2]
  fin_cases e
  · dsimp only
    rw [dif_pos (by omega)]
    exact congrArg (f 0) (congrArg (ix2 · j) (Fin.ext (by dsimp only; omega)))
  · dsimp only
    rw [dif_neg (by omega)]
    exact congrArg (f 1) (congrArg (ix2 · j) (Fin.ext (by dsimp only; omega)))

/-- The gradient at a rotated key, and at a value. -/
def dkAt (j : Fin 256) (e : Fin 2) (d : Fin 64) : EReal :=
  (∑ a, ∑ i, q (ix2 i (lane16 (qHead e a) d)) * Sink.ds (scores q k M (qHead e a) i) (s (qHead e a)) (dps g v (qHead e a) i) j) * Sink.eight
def dvAt (j : Fin 256) (e : Fin 2) (d : Fin 64) : EReal :=
  ∑ a, ∑ i, g (ix2 i (lane16 (qHead e a) d)) * Sink.pr (scores q k M (qHead e a) i) (s (qHead e a)) j

theorem dkWindow_at (j : Fin 256) (e : Fin 2) (d : Fin 64) : dkWindow q g k v M s (ix2 j (lane2 e d)) = dkAt q g k v M s j e d := by
  refine Eq.trans (b := (standing (eightHeads (dkStep q g k v M s)) (ix2 j (lane2 e d)) : EReal) * Sink.eight) (by pointwise [dkWindow, Sink.eight]) ?_
  unfold dkAt
  rw [standing_at, eightHeads_at _ (fun h d j => ∑ i, q (ix2 i (lane16 h d)) * Sink.ds (scores q k M h i) (s h) (dps g v h i) j)
    (fun h p d j => by simp only [dkStep, pay27_at, maskedRow_eq, dpRow_eq, headOf_at])]
theorem dvWindow_at (j : Fin 256) (e : Fin 2) (d : Fin 64) :
    standing (eightHeads (dvStep q g k M s)) (ix2 j (lane2 e d)) = dvAt q g k M s j e d := by
  unfold dvAt
  rw [standing_at, eightHeads_at _ (fun h d j => ∑ i, g (ix2 i (lane16 h d)) * Sink.pr (scores q k M h i) (s h) j)
    (fun h p d j => by simp only [dvStep, pay22_at, maskedRow_eq, headOf_at])]

section
variable {tabp tab : FVec Ideal S128x384 .f32} {cop sip co si : Fin 128 → Fin 8 → EReal} (Tp : Table tabp cop sip) (T : Table tab co si)
include Tp T

theorem dkvBlock_prev (j : Fin 128) (e : Fin 2) (d : Fin 64) :
    dkvBlock q g k v M s tabp tab (ix3 0 ⟨j.val, by omega⟩ ⟨(lane2 e d).val, by omega⟩)
      = Sink.unturn (fun d => dkAt q g k v M s ⟨j.val, by omega⟩ e d) (cop j) (sip j) d := by
  have hj := j.isLt
  have hl := (lane2 e d).isLt
  pointwise [dkvBlock]
  refine (spinK_unturn Tp _ j e d).trans (congrArg (fun f => Sink.unturn f (cop j) (sip j) d) (funext fun d => ?_))
  refine Eq.trans (by pointwise) (dkWindow_at q g k v M s ⟨j.val, by omega⟩ e d)

theorem dkvBlock_cur (j : Fin 128) (e : Fin 2) (d : Fin 64) :
    dkvBlock q g k v M s tabp tab (ix3 0 ⟨128 + j.val, by omega⟩ ⟨(lane2 e d).val, by omega⟩)
      = Sink.unturn (fun d => dkAt q g k v M s ⟨128 + j.val, by omega⟩ e d) (co j) (si j) d := by
  have hj := j.isLt
  have hl := (lane2 e d).isLt
  pointwise [dkvBlock]
  refine (spinK_unturn T _ j e d).trans (congrArg (fun f => Sink.unturn f (co j) (si j) d) (funext fun d => ?_))
  refine Eq.trans (by pointwise) (dkWindow_at q g k v M s ⟨128 + j.val, by omega⟩ e d)
end

theorem dkvBlock_values (tabp tab : FVec Ideal S128x384 .f32) (j : Fin 256) (e : Fin 2) (d : Fin 64) :
    dkvBlock q g k v M s tabp tab (ix3 0 j ⟨128 + (lane2 e d).val, by omega⟩) = dvAt q g k M s j e d := by
  have hl := (lane2 e d).isLt
  pointwise [dkvBlock]
  exact dvWindow_at q g k M s j e d

/-- The gradient at the sink of a head, from one block. -/
def sinkAt (h : Fin 16) : EReal :=
  0 - ∑ i : Fin 128, Sink.prs (scores q k M h i) (s h) * Sink.mean (scores q k M h i) (s h) (dps g v h i)

theorem sinkHead_at (h : Fin 16) (p : FVec Ideal S1x128 .f32) (l : Fin 128) :
    sinkHead q g k v M s h p (ix2 0 l) = (p (ix2 0 l) : EReal) + if l.val = h.val then sinkAt q g k v M s h else 0 := by
  unfold sinkHead
  rw [sinkStep_at _ _ _ _ _ _ _ h.isLt]
  simp only [sinkSum, sinkAt, maskedRow_eq, dpRow_eq]

theorem sinkBlock_at (l : Fin 128) :
    sinkBlock q g k v M s (ix2 0 l) = if h : l.val < 16 then sinkAt q g k v M s ⟨l.val, h⟩ else 0 := by
  have e : sinkBlock q g k v M s (ix2 0 l) = ∑ h : Fin 16, if l.val = h.val then sinkAt q g k v M s h else 0 := by
    unfold sinkBlock
    simp only [sinkHead_at]
    pointwise
    simp only [Fin.sum_univ_succ, Fin.sum_univ_zero, add_zero, ← add_assoc]
    rfl
  rw [e]
  split_ifs with h
  · rw [Finset.sum_eq_single ⟨l.val, h⟩ (fun b _ hb => if_neg fun hl => hb (Fin.ext hl.symm)) (fun hn => absurd (Finset.mem_univ _) hn), if_pos rfl]
  · exact Finset.sum_eq_zero fun b _ => if_neg (by have := b.isLt; omega)
end

end Cert.AttnIdeal.Heads

end
-- ==== Proof.AttnSpec.lean ====
/- The gradient of a windowed attention with sinks as one function of its rows: 4096 rows of sixteen query heads and of
   two key and value heads, in blocks of 128; each block of queries sees its own block of keys and the one before it. -/
module

public import proofs.«01_k».proof.Proof.AttnMath

@[expose] public section

noncomputable section

namespace Cert.Sink

open Idealize.ShloMosaic Cert.Row

/-- The angle a plane is turned by at a row, its cosine and its sine. -/
def angle (r : Fin 4096) (f : Fin 8) : EReal :=
  (FloatOps.sitofp (F := Ideal) FTy.f32 (BitVec.ofNat 32 r.val) : EReal) * Ideal.pow (Ideal.ofBits FTy.f32 1223959552#32)
    (Ideal.div (-(FloatOps.sitofp (F := Ideal) FTy.f32 (BitVec.ofNat 32 f.val) : EReal) * Ideal.ofBits FTy.f32 1073741824#32)
      (Ideal.ofBits FTy.f32 1098907648#32))
def co (r : Fin 4096) (f : Fin 8) : EReal := Ideal.cos (angle r f)
def si (r : Fin 4096) (f : Fin 8) : EReal := Ideal.sin (angle r f)

theorem angle_real (r : Fin 4096) (f : Fin 8) : ∃ a : ℝ, angle r f = (a : EReal) := by
  have e1 : Ideal.ofBits FTy.f32 1223959552#32 = ((500000 : ℝ) : EReal) := by
    simp [Ideal.ofBits, Ideal.ieee, -EReal.coe_mul]; norm_num
  have e2 : Ideal.ofBits FTy.f32 1073741824#32 = ((2 : ℝ) : EReal) := by
    simp [Ideal.ofBits, Ideal.ieee, -EReal.coe_mul]; norm_num
  have e3 : Ideal.ofBits FTy.f32 1098907648#32 = ((16 : ℝ) : EReal) := by
    simp [Ideal.ofBits, Ideal.ieee, -EReal.coe_mul]; norm_num
  have h : ∀ n : ℕ, ∃ a : ℝ, (FloatOps.sitofp (F := Ideal) FTy.f32 (BitVec.ofNat 32 n) : EReal) = (a : EReal) := fun n => ⟨_, rfl⟩
  obtain ⟨a, ha⟩ := h r.val
  obtain ⟨b, hb⟩ := h f.val
  unfold angle
  rw [ha, hb, e1, e2, e3, ← EReal.coe_neg, ← EReal.coe_mul, Ideal.div, if_neg (by norm_num)]
  rw [show ((-b * 2 : ℝ) : EReal) * (((16 : ℝ) : EReal))⁻¹ = ((-b * 2 * (16 : ℝ)⁻¹ : ℝ) : EReal) from rfl, Ideal.pow_coe_coe, ← EReal.coe_mul]
  exact ⟨_, rfl⟩
theorem co_finite (r : Fin 4096) (f : Fin 8) : Finite (co r f) := by
  obtain ⟨a, e⟩ := angle_real r f
  unfold co; rw [e, Ideal.cos_coe]; exact finite_coe _
theorem si_finite (r : Fin 4096) (f : Fin 8) : Finite (si r f) := by
  obtain ⟨a, e⟩ := angle_real r f
  unfold si; rw [e, Ideal.sin_coe]; exact finite_coe _

/-- Row `i` of block `n`, and the row at place `j` of its window (where there is no block before, the block's own). -/
def rowQ (n : Fin 32) (i : Fin 128) : Fin 4096 := ⟨128 * n.val + i.val, by omega⟩
def rowK (n : Fin 32) (j : Fin 256) : Fin 4096 :=
  if h : j.val < 128 then ⟨128 * (n.val - 1) + j.val, by omega⟩ else ⟨128 * n.val + (j.val - 128), by omega⟩

/-- Place `j` of the window of block `n` is a token that row `i` sees. -/
def sees (n : Fin 32) (i : Fin 128) (j : Fin 256) : Prop := j.val ≤ i.val + 128 ∧ i.val < j.val ∧ (0 < n.val ∨ 128 ≤ j.val)
instance (n : Fin 32) (i : Fin 128) (j : Fin 256) : Decidable (sees n i j) := inferInstanceAs (Decidable (_ ∧ _))

/-- The key and value head of a query head, and the query heads of a key and value head. -/
def kvHead (h : Fin 16) : Fin 2 := ⟨h.val / 8, by omega⟩
def qHead (e : Fin 2) (a : Fin 8) : Fin 16 := ⟨8 * e.val + a.val, by omega⟩

section
variable (Q G : Fin 4096 → Fin 16 → Fin 64 → EReal) (K V : Fin 4096 → Fin 2 → Fin 64 → EReal) (S : Fin 16 → EReal)

/-- The rotated queries and keys. -/
def rq (r : Fin 4096) (h : Fin 16) (d : Fin 64) : EReal := turn (Q r h) (co r) (si r) d
def rk (r : Fin 4096) (e : Fin 2) (d : Fin 64) : EReal := turn (K r e) (co r) (si r) d

/-- The masked scores of a row and the gradients at its probabilities. -/
def scoreRow (n : Fin 32) (h : Fin 16) (i : Fin 128) (j : Fin 256) : EReal :=
  if sees n i j then ∑ d, rq Q (rowQ n i) h d * eighth * rk K (rowK n j) (kvHead h) d else ⊥
def dpRow (n : Fin 32) (h : Fin 16) (i : Fin 128) (j : Fin 256) : EReal := ∑ d, G (rowQ n i) h d * V (rowK n j) (kvHead h) d
/-- The gradients at the unscaled scores of a row. -/
def dsRow (n : Fin 32) (h : Fin 16) (i : Fin 128) (j : Fin 256) : EReal := ds (scoreRow Q K n h i) (S h) (dpRow G V n h i) j

/-- The gradient at a query. -/
def gradQ (n : Fin 32) (i : Fin 128) (h : Fin 16) (d : Fin 64) : EReal :=
  unturn (fun d => ∑ j, dsRow Q G K V S n h i j * rk K (rowK n j) (kvHead h) d) (co (rowQ n i)) (si (rowQ n i)) d
/-- The gradient at a key of a block's window. -/
def gradK (n : Fin 32) (j : Fin 256) (e : Fin 2) (d : Fin 64) : EReal :=
  unturn (fun d => (∑ a, ∑ i, rq Q (rowQ n i) (qHead e a) d * eighth * dsRow Q G K V S n (qHead e a) i j) * eight)
    (co (rowK n j)) (si (rowK n j)) d
/-- The gradient at a value of a block's window. -/
def gradV (n : Fin 32) (j : Fin 256) (e : Fin 2) (d : Fin 64) : EReal :=
  ∑ a, ∑ i, G (rowQ n i) (qHead e a) d * pr (scoreRow Q K n (qHead e a) i) (S (qHead e a)) j
/-- The gradient at a sink. -/
def gradS (h : Fin 16) : EReal :=
  ∑ n, (0 - ∑ i, prs (scoreRow Q K n h i) (S h) * mean (scoreRow Q K n h i) (S h) (dpRow G V n h i))

/-! The result arrays: queries head by head, each window's keys then values head by head, the sinks with zeros behind. -/
def dqAt (r : Fin 4096) (l : Fin 1024) : EReal :=
  gradQ Q G K V S ⟨r.val / 128, by omega⟩ ⟨r.val % 128, by omega⟩ ⟨l.val / 64, by omega⟩ ⟨l.val % 64, by omega⟩
def dkvAt (n : Fin 32) (j l : Fin 256) : EReal :=
  if h : l.val < 128 then gradK Q G K V S n j ⟨l.val / 64, by omega⟩ ⟨l.val % 64, by omega⟩
  else gradV Q G K S n j ⟨(l.val - 128) / 64, by omega⟩ ⟨(l.val - 128) % 64, by omega⟩
def dsinkAt (l : Fin 128) : EReal := if h : l.val < 16 then gradS Q G K V S ⟨l.val, h⟩ else 0
end

end Cert.Sink

end
-- ==== Proof.AttnTable.lean ====
/- The table of the rotation that the program forms ahead of the kernel, read at an index: a row's cosines and sines. -/
module

public import proofs.«01_k».proof.Proof.AttnPoint
public import proofs.«01_k».proof.Proof.AttnIndex
public import proofs.«01_k».proof.Proof.AttnSpec

@[expose] public section

set_option maxRecDepth 16384

noncomputable section

namespace Cert.AttnIdeal.Value

open Cert.AttnIdeal Cert.AttnIdeal.Gen Cert.Row Idealize.ShloMosaic Heads
open Idealize.ShloMosaic.TcCoe Idealize.SL.Sem

variable (m : (ℓ : Loc nD τ sig) → Buf (Elt Ideal) ℓ) (c : Dev nD)

/-- The angle of a plane at a row, its cosine and its sine. -/
def angles : FVec Ideal S4096x8 .f32 :=
  mulf (broadcastInDim S4096x8 ![0, 1] bcast_S4096x1_S4096x8_0_1 (broadcastInDim S4096x1 ![0] bcast_S4096_S4096x1_0 (sitofp .f32 (iotaInDim S4096 32 0))))
    (broadcastInDim S4096x8 ![0, 1] bcast_S1x8_S4096x8_0_1 (broadcastInDim S1x8 ![1] bcast_S8_S1x8_1
      (Host.powf (broadcastInDim S8 ![] bcast_S_S8 (constant S_ .f32 0x48F42400#32))
        (Host.divf (mulf (Host.negf (sitofp .f32 (iotaInDim S8 32 0))) (broadcastInDim S8 ![] bcast_S_S8 (constant S_ .f32 0x40000000#32)))
          (broadcastInDim S8 ![] bcast_S_S8 (constant S_ .f32 0x41800000#32))))))
def twice (x : FVec Ideal S4096x64 .f32) : FVec Ideal S4096x128 .f32 :=
  shapeCast S4096x128 (broadcastInDim S1x4096x2x64 ![0, 1, 2, 3] bcast_S1x4096x1x64_S1x4096x2x64_0_1_2_3
    (shapeCast S1x4096x1x64 x shapeCasts_S4096x64_S1x4096x1x64)) shapeCasts_S1x4096x2x64_S4096x128
def self64 : FVec Ideal S4096x64 .f32 :=
  concatenate S4096x64 1 [⟨S4096x8, Host.cos angles⟩, ⟨S4096x8, Host.cos angles⟩,
    ⟨S4096x48, broadcastInDim S4096x48 ![] bcast_S_S4096x48 (constant S_ .f32 0x3F800000#32)⟩] concatenates_S4096x8_S4096x8_S4096x48_S4096x64_d1
def on64 : FVec Ideal S4096x64 .f32 :=
  concatenate S4096x64 1 [⟨S4096x8, Host.negf (Host.sin angles)⟩,
    ⟨S4096x56, broadcastInDim S4096x56 ![] bcast_S_S4096x56 (constant S_ .f32 0x00000000#32)⟩] concatenates_S4096x8_S4096x56_S4096x64_d1
def back64 : FVec Ideal S4096x64 .f32 :=
  concatenate S4096x64 1 [⟨S4096x8, broadcastInDim S4096x8 ![] bcast_S_S4096x8 (constant S_ .f32 0x00000000#32)⟩, ⟨S4096x8, Host.sin angles⟩,
    ⟨S4096x48, broadcastInDim S4096x48 ![] bcast_S_S4096x48 (constant S_ .f32 0x00000000#32)⟩] concatenates_S4096x8_S4096x8_S4096x48_S4096x64_d1
def table : FVec Ideal S4096x384 .f32 :=
  concatenate S4096x384 1 [⟨S4096x128, twice self64⟩, ⟨S4096x128, twice on64⟩, ⟨S4096x128, twice back64⟩]
    concatenates_S4096x128_S4096x128_S4096x128_S4096x384_d1

theorem V_table : V m c main_v33 = table := by
  show StableHlo.after hostOps0 _ _ = _
  simp only [hostOps0]; after_results_simp <;> rfl

theorem cos_at (r : Fin 4096) (f : Fin 8) : (Host.cos angles) (ix2 r f) = Sink.co r f := by
  pointwise [angles]
  rfl
theorem sin_at (r : Fin 4096) (f : Fin 8) : (Host.sin angles) (ix2 r f) = Sink.si r f := by
  pointwise [angles]
  rfl

theorem twice_at (x : FVec Ideal S4096x64 .f32) (r : Fin 4096) (e : Fin 2) (d : Fin 64) : twice x (ix2 r (lane2 e d)) = x (ix2 r d) := by
  pointwise [twice, lane2]

theorem self_at (r : Fin 4096) (e : Fin 2) (d : Fin 64) : table (ix2 r ⟨(lane2 e d).val, by omega⟩)
    = if h : d.val < 8 then Sink.co r ⟨d.val, h⟩ else if h' : d.val < 16 then Sink.co r ⟨d.val - 8, by omega⟩ else 1 := by
  have hl := (lane2 e d).isLt
  refine Eq.trans (b := twice self64 (ix2 r (lane2 e d))) (by pointwise [table]) ((twice_at _ r e d).trans ?_)
  pointwise [self64, cos_at]
  have hd : (d.val - 8 < 8) ↔ d.val < 16 := by omega
  simp only [hd]
theorem on_at (r : Fin 4096) (e : Fin 2) (d : Fin 64) :
    table (ix2 r ⟨128 + (lane2 e d).val, by omega⟩) = if h : d.val < 8 then -Sink.si r ⟨d.val, h⟩ else 0 := by
  have hl := (lane2 e d).isLt
  refine Eq.trans (b := twice on64 (ix2 r (lane2 e d))) (by pointwise [table]) ((twice_at _ r e d).trans ?_)
  pointwise [on64, sin_at]
theorem back_at (r : Fin 4096) (e : Fin 2) (d : Fin 64) : table (ix2 r ⟨256 + (lane2 e d).val, by omega⟩)
    = if d.val < 8 then 0 else if h' : d.val < 16 then Sink.si r ⟨d.val - 8, by omega⟩ else 0 := by
  have hl := (lane2 e d).isLt
  have h1 : ¬256 + (lane2 e d).val < 128 := by omega
  have h2 : ¬256 + (lane2 e d).val - 128 < 128 := by omega
  have h3 : 256 + (lane2 e d).val - 128 - 128 = (lane2 e d).val := by omega
  refine Eq.trans (b := twice back64 (ix2 r (lane2 e d))) ?_ ((twice_at _ r e d).trans ?_)
  · pointwise [table]
    rw [dif_neg h1, dif_neg h2]
    exact congrArg (fun l => twice back64 (ix2 r l)) (Fin.ext h3)
  pointwise [back64, sin_at]
  have hd : (d.val - 8 < 8) ↔ d.val < 16 := by omega
  simp only [hd]
  split_ifs <;> rfl

end Cert.AttnIdeal.Value

end
-- ==== Proof.AttnArrays.lean ====
/- What the kernel's three result arrays hold: the gradients of the windowed attention. -/
module

public import proofs.«01_k».proof.Proof.AttnTable

@[expose] public section

set_option maxRecDepth 16384

noncomputable section

namespace Cert.AttnIdeal.Value

open Cert.AttnIdeal Cert.AttnIdeal.Gen Cert.Row Idealize.ShloMosaic Heads
open Idealize.ShloMosaic.TcCoe Idealize.SL.Sem

variable (m : (ℓ : Loc nD τ sig) → Buf (Elt Ideal) ℓ) (c : Dev nD)

/-- The argument arrays. -/
abbrev az : FVec Ideal S4096x3328 .f32 := m ((c.tc : Thread nD τ).loc main_arg0)
abbrev asink : FVec Ideal S1x16 .f32 := m ((c.tc : Thread nD τ).loc main_arg1)
abbrev ag : FVec Ideal S4096x2048 .bf16 := m ((c.tc : Thread nD τ).loc main_arg2)

/-- Their queries, keys, values and sinks, and the weights of the result. -/
def Q (r : Fin 4096) (h : Fin 16) (d : Fin 64) : EReal := az m c (ix2 r ⟨(lane16 h d).val, by omega⟩)
def K (r : Fin 4096) (e : Fin 2) (d : Fin 64) : EReal := az m c (ix2 r ⟨3072 + (lane2 e d).val, by omega⟩)
def V' (r : Fin 4096) (e : Fin 2) (d : Fin 64) : EReal := az m c (ix2 r ⟨3200 + (lane2 e d).val, by omega⟩)
def S (h : Fin 16) : EReal := asink m c (ix2 0 h)
def G (r : Fin 4096) (h : Fin 16) (d : Fin 64) : EReal := ag m c (ix2 r ⟨(lane16 h d).val, by omega⟩)

/-- Which block each window is at, at a point. -/
theorem idx_val : ∀ t : Fin cfg0.N, win0_0.index t = ![t.val, 0] ∧ win0_1.index t = ![t.val, 24] ∧ win0_2.index t = ![t.val - 1, 24]
    ∧ win0_3.index t = ![t.val, 25] ∧ win0_4.index t = ![t.val - 1, 25] ∧ win0_5.index t = ![t.val, 0] ∧ win0_6.index t = ![t.val - 1, 0]
    ∧ win0_7.index t = ![0, 0] ∧ win0_8.index t = ![t.val, 0] ∧ win0_9.index t = ![t.val, 0] ∧ win0_10.index t = ![t.val, 0, 0] :=
  (by decide +kernel : ∀ t : Fin grid0.N, _)

theorem point_lt (t : Fin cfg0.N) : t.val < 32 := Nat.lt_of_lt_of_eq t.isLt N_0
def pt (t : Fin cfg0.N) : Fin 32 := ⟨t.val, point_lt t⟩
theorem coords_val : ∀ t : Fin cfg0.N, (grid0.coords t 0).val = t.val := (by decide +kernel : ∀ t : Fin grid0.N, _)

open Sink (rowQ rowK)

/-- Row `i` of the block before the block `n` (of block `n` where there is none). -/
def rowP (n : Fin 32) (i : Fin 128) : Fin 4096 := ⟨128 * (n.val - 1) + i.val, by omega⟩

theorem b0_at (t : Fin cfg0.N) (i : Fin 128) (l : Fin 1024) : X0_0 m c t (ix2 i l) = az m c (ix2 (rowQ (pt t) i) ⟨l.val, by omega⟩) := by
  unfold X0_0 Pipeline.Window.fill
  rw [dif_pos (moved0_0 t _)]
  unfold rowQ pt; blk_ext! [iblk, V, idx_val t]
theorem b1_at (t : Fin cfg0.N) (i l : Fin 128) : (iblk m c 1 t : FVec Ideal S128x128 .f32) (ix2 i l) = az m c (ix2 (rowQ (pt t) i) ⟨3072 + l.val, by omega⟩) := by
  unfold rowQ pt; blk_ext! [iblk, V, idx_val t]
theorem b2_at (t : Fin cfg0.N) (i l : Fin 128) : (iblk m c 2 t : FVec Ideal S128x128 .f32) (ix2 i l) = az m c (ix2 (rowP (pt t) i) ⟨3072 + l.val, by omega⟩) := by
  unfold rowP pt; blk_ext! [iblk, V, idx_val t]
theorem b3_at (t : Fin cfg0.N) (i l : Fin 128) : (iblk m c 3 t : FVec Ideal S128x128 .f32) (ix2 i l) = az m c (ix2 (rowQ (pt t) i) ⟨3200 + l.val, by omega⟩) := by
  unfold rowQ pt; blk_ext! [iblk, V, idx_val t]
theorem b4_at (t : Fin cfg0.N) (i l : Fin 128) : (iblk m c 4 t : FVec Ideal S128x128 .f32) (ix2 i l) = az m c (ix2 (rowP (pt t) i) ⟨3200 + l.val, by omega⟩) := by
  unfold rowP pt; blk_ext! [iblk, V, idx_val t]
theorem b5_at (t : Fin cfg0.N) (i : Fin 128) (l : Fin 384) : (iblk m c 5 t : FVec Ideal S128x384 .f32) (ix2 i l) = table (ix2 (rowQ (pt t) i) l) := by
  have e : iblk m c 5 t = ((cfg0.win 5).blk t).view.read (Elt Ideal) table :=
    congrArg (fun x => ((cfg0.win 5).blk t).view.read (Elt Ideal) x) (V_table m c)
  rw [e]
  generalize table = T
  unfold rowQ pt; blk_ext! [idx_val t]
theorem b6_at (t : Fin cfg0.N) (i : Fin 128) (l : Fin 384) : (iblk m c 6 t : FVec Ideal S128x384 .f32) (ix2 i l) = table (ix2 (rowP (pt t) i) l) := by
  have e : iblk m c 6 t = ((cfg0.win 6).blk t).view.read (Elt Ideal) table :=
    congrArg (fun x => ((cfg0.win 6).blk t).view.read (Elt Ideal) x) (V_table m c)
  rw [e]
  generalize table = T
  unfold rowP pt; blk_ext! [idx_val t]
theorem b8_at (t : Fin cfg0.N) (i : Fin 128) (l : Fin 1024) :
    (iblk m c 8 t : FVec Ideal S128x1024 .bf16) (ix2 i l) = ag m c (ix2 (rowQ (pt t) i) ⟨l.val, by omega⟩) := by
  unfold rowQ pt; blk_ext! [iblk, V, idx_val t]
theorem b7_at (t : Fin cfg0.N) (i : Fin 1) (l : Fin 16) :
    (iblk m c 7 t : FVec Ideal S1x16 .f32) (ix2 i l) = asink m c (ix2 i l) := by
  blk_ext! [iblk, V, idx_val t]
theorem bsink_at (t : Fin cfg0.N) (h : Fin 16) : bsink m c t h = S m c h := by
  unfold bsink S
  rw [← b7_at m c t]
  refine congrArg (iblk m c 7 t) ?_
  funext a; fin_cases a <;> rfl

/-- The tables of a block and of the block before it. -/
theorem tableQ (t : Fin cfg0.N) : Table (iblk m c 5 t) (fun i => Sink.co (rowQ (pt t) i)) (fun i => Sink.si (rowQ (pt t) i)) :=
  ⟨fun i e d => (b5_at m c t i _).trans (self_at _ e d), fun i e d => (b5_at m c t i _).trans (on_at _ e d),
    fun i e d => (b5_at m c t i _).trans (back_at _ e d)⟩
theorem tableP (t : Fin cfg0.N) : Table (iblk m c 6 t) (fun i => Sink.co (rowP (pt t) i)) (fun i => Sink.si (rowP (pt t) i)) :=
  ⟨fun i e d => (b6_at m c t i _).trans (self_at _ e d), fun i e d => (b6_at m c t i _).trans (on_at _ e d),
    fun i e d => (b6_at m c t i _).trans (back_at _ e d)⟩

theorem bg_at (t : Fin cfg0.N) (i : Fin 128) (h : Fin 16) (d : Fin 64) :
    (iblk m c 8 t : FVec Ideal S128x1024 .bf16) (ix2 i (lane16 h d)) = G m c (rowQ (pt t) i) h d := b8_at m c t i _

theorem bq_at (t : Fin cfg0.N) (i : Fin 128) (h : Fin 16) (d : Fin 64) :
    bq m c t (ix2 i (lane16 h d)) = Sink.rq (Q m c) (rowQ (pt t) i) h d * Sink.eighth := by
  refine Eq.trans (b := (spinQ 0x3F800000#32 (X0_0 m c t) (iblk m c 5 t) (ix2 i (lane16 h d)) : EReal) * Sink.eighth) rfl ?_
  rw [spinQ_turn (tableQ m c t)]
  unfold Sink.rq
  simp only [b0_at]
  rfl

theorem rowK_low (n : Fin 32) (j : Fin 256) (h : j.val < 128) : rowK n j = rowP n ⟨j.val, h⟩ := dif_pos h
theorem rowK_high (n : Fin 32) (j : Fin 256) (h : ¬j.val < 128) : rowK n j = rowQ n ⟨j.val - 128, by omega⟩ := dif_neg h

theorem bk_at (t : Fin cfg0.N) (j : Fin 256) (e : Fin 2) (d : Fin 64) :
    bk m c t (ix2 j (lane2 e d)) = Sink.rk (K m c) (rowK (pt t) j) e d := by
  refine Eq.trans (b := truncf .bf16 (concatenate S256x128 0 [⟨S128x128, spinK 0x3F800000#32 (iblk m c 2 t) (iblk m c 6 t)⟩,
    ⟨S128x128, spinK 0x3F800000#32 (iblk m c 1 t) (iblk m c 5 t)⟩] concatenates_S128x128_S128x128_S256x128_d0) bitsLt_bf16_f32 (ix2 j (lane2 e d))) rfl ?_
  pointwise
  unfold Sink.rk
  by_cases h : j.val < 128
  · rw [dif_pos h, rowK_low _ _ h, spinK_turn (tableP m c t)]
    simp only [b2_at]
    rfl
  · rw [dif_neg h, rowK_high _ _ h, spinK_turn (tableQ m c t)]
    simp only [b1_at]
    rfl

theorem bv_at (t : Fin cfg0.N) (j : Fin 256) (e : Fin 2) (d : Fin 64) :
    bv m c t (ix2 j (lane2 e d)) = V' m c (rowK (pt t) j) e d := by
  unfold bv
  pointwise [k0_pay6]
  by_cases h : j.val < 128
  · rw [dif_pos h, rowK_low _ _ h]; exact b4_at m c t _ _
  · rw [dif_neg h, rowK_high _ _ h]; exact b3_at m c t _ _

theorem scores_eq (t : Fin cfg0.N) (h : Fin 16) (i : Fin 128) :
    scores (bq m c t) (bk m c t) (bm t) h i = Sink.scoreRow (Q m c) (K m c) (pt t) h i := by
  funext j
  unfold scores Sink.scoreRow
  have e : bm t (ix2 i j) = 1#1 ↔ Sink.sees (pt t) i j := by
    unfold bm; rw [coords_val t]; exact pay7_at t.val (point_lt t) i j
  rw [if_congr e rfl rfl]
  simp only [bq_at, bk_at]
  rfl
theorem dps_eq (t : Fin cfg0.N) (h : Fin 16) (i : Fin 128) :
    dps (iblk m c 8 t) (bv m c t) h i = Sink.dpRow (G m c) (V' m c) (pt t) h i := by
  funext j
  unfold dps Sink.dpRow
  simp only [bg_at, bv_at]
  rfl

/-- What a point stores. -/
theorem dq_at (t : Fin cfg0.N) (i : Fin 128) (h : Fin 16) (d : Fin 64) :
    (outsAt0 m c t.val t.isLt).1 (ix2 i (lane16 h d)) = Sink.gradQ (Q m c) (G m c) (K m c) (V' m c) (S m c) (pt t) i h d := by
  rw [dq_point, dqBlock_at _ _ _ _ _ _ (tableQ m c t)]
  unfold Sink.gradQ Sink.dsRow
  simp only [scores_eq, dps_eq, bsink_at, bk_at]
  rfl
theorem dk_eq (t : Fin cfg0.N) (j : Fin 256) (e : Fin 2) (d : Fin 64) :
    dkAt (bq m c t) (iblk m c 8 t) (bk m c t) (bv m c t) (bm t) (bsink m c t) j e d
      = (∑ a, ∑ i, Sink.rq (Q m c) (rowQ (pt t) i) (Sink.qHead e a) d * Sink.eighth
          * Sink.dsRow (Q m c) (G m c) (K m c) (V' m c) (S m c) (pt t) (Sink.qHead e a) i j) * Sink.eight := by
  unfold dkAt Sink.dsRow
  simp only [scores_eq, dps_eq, bsink_at, bq_at]
  rfl
theorem dk_at (t : Fin cfg0.N) (j : Fin 256) (e : Fin 2) (d : Fin 64) :
    (outsAt0 m c t.val t.isLt).2.1 (ix3 0 j ⟨(lane2 e d).val, by omega⟩)
      = Sink.gradK (Q m c) (G m c) (K m c) (V' m c) (S m c) (pt t) j e d := by
  rw [dkv_point]
  unfold Sink.gradK
  by_cases h : j.val < 128
  · rw [rowK_low _ _ h]
    refine (dkvBlock_prev _ _ _ _ _ _ (tableP m c t) (tableQ m c t) ⟨j.val, h⟩ e d).trans ?_
    simp only [dk_eq]
  · rw [rowK_high _ _ h]
    have ej : (⟨128 + (j.val - 128), by omega⟩ : Fin 256) = j := Fin.ext (by dsimp only; omega)
    refine Eq.trans (by rw [ej]) ((dkvBlock_cur _ _ _ _ _ _ (tableP m c t) (tableQ m c t) ⟨j.val - 128, by omega⟩ e d).trans ?_)
    simp only [dk_eq, ej]
theorem dv_at (t : Fin cfg0.N) (j : Fin 256) (e : Fin 2) (d : Fin 64) :
    (outsAt0 m c t.val t.isLt).2.1 (ix3 0 j ⟨128 + (lane2 e d).val, by omega⟩)
      = Sink.gradV (Q m c) (G m c) (K m c) (S m c) (pt t) j e d := by
  rw [dkv_point, dkvBlock_values]
  unfold dvAt Sink.gradV
  simp only [scores_eq, bsink_at, bg_at]
  rfl
theorem srow_at (t : Fin cfg0.N) (l : Fin 128) :
    srow m c t (ix2 0 l) = if h : l.val < 16 then
      0 - ∑ i, Sink.prs (Sink.scoreRow (Q m c) (K m c) (pt t) ⟨l.val, h⟩ i) (S m c ⟨l.val, h⟩)
        * Sink.mean (Sink.scoreRow (Q m c) (K m c) (pt t) ⟨l.val, h⟩ i) (S m c ⟨l.val, h⟩) (Sink.dpRow (G m c) (V' m c) (pt t) ⟨l.val, h⟩ i)
      else 0 := by
  unfold srow
  rw [sinkBlock_at]
  unfold sinkAt
  simp only [scores_eq, dps_eq, bsink_at]

/-! ## The result arrays -/

theorem rows (n : Fin 32) (i : Fin 128) (l : Fin 1024) : Sink.dqAt (Q m c) (G m c) (K m c) (V' m c) (S m c) (rowQ n i) l
    = Sink.gradQ (Q m c) (G m c) (K m c) (V' m c) (S m c) n i ⟨l.val / 64, by omega⟩ ⟨l.val % 64, by omega⟩ := by
  unfold Sink.dqAt rowQ
  congr 1
  · exact Fin.ext (by dsimp only; omega)
  · exact Fin.ext (by dsimp only; omega)

theorem final_dq : (dats m 0 c).arrAt 9 cfg0.N
    = (fun x => Sink.dqAt (Q m c) (G m c) (K m c) (V' m c) (S m c) (x 0) (x 1) : FVec Ideal S4096x1024 .bf16) := by
  refine (dats m 0 c).arrAt_eq_of_covers 9 _ (by decide +kernel) fun t hf y => ?_
  blk_simp [idx_val t]; rw [after0_9]
  obtain ⟨r, l, rfl⟩ : ∃ (r : Fin 128) (l : Fin 1024), y = ix2 r l := ⟨y 0, y 1, by funext a; fin_cases a <;> rfl⟩
  have e0 : (win0_9.blk t).view.emb (ix2 r l) 0 = rowQ (pt t) r := Fin.ext (by simp [rowQ, pt, idx_val t, Nat.mul_comm])
  have e1 : (win0_9.blk t).view.emb (ix2 r l) 1 = l := Fin.ext (by simp [idx_val t])
  rw [e0, e1, rows, ← dq_at]
  refine congrArg ((outsAt0 m c t.val t.isLt).1) (congrArg (ix2 r) (Fin.ext ?_))
  simp only [lane16]; omega

theorem final_dkv : (dats m 0 c).arrAt 10 cfg0.N
    = (fun x => Sink.dkvAt (Q m c) (G m c) (K m c) (V' m c) (S m c) (x 0) (x 1) (x 2) : FVec Ideal S32x256x256 .f32) := by
  refine (dats m 0 c).arrAt_eq_of_covers 10 _ (by decide +kernel) fun t hf y => ?_
  blk_simp [idx_val t]; rw [after0_10]
  obtain ⟨j, l, rfl⟩ : ∃ (j : Fin 256) (l : Fin 256), y = ix3 0 j l :=
    ⟨y 1, y 2, by funext a; fin_cases a; exacts [Subsingleton.elim (α := Fin 1) _ _, rfl, rfl]⟩
  have e0 : (win0_10.blk t).view.emb (ix3 0 j l) 0 = pt t := Fin.ext (by simp [pt, idx_val t])
  have e1 : (win0_10.blk t).view.emb (ix3 0 j l) 1 = j := Fin.ext (by simp [idx_val t])
  have e2 : (win0_10.blk t).view.emb (ix3 0 j l) 2 = l := Fin.ext (by simp [idx_val t])
  rw [e0, e1, e2]
  unfold Sink.dkvAt
  split_ifs with h
  · rw [← dk_at]
    refine congrArg ((outsAt0 m c t.val t.isLt).2.1) (congrArg (ix3 0 j) (Fin.ext ?_))
    simp only [lane2]; omega
  · rw [← dv_at]
    refine congrArg ((outsAt0 m c t.val t.isLt).2.1) (congrArg (ix3 0 j) (Fin.ext ?_))
    simp only [lane2]; omega

/-- The last point. -/
def tLast : Fin cfg0.N := ⟨31, Nat.lt_of_lt_of_eq (by norm_num) N_0.symm⟩

theorem sum_ds (l : Fin 128) : (outsAt0 m c tLast.val tLast.isLt).2.2 (ix2 0 l) = ∑ t, srow m c t (ix2 0 l) := by
  have h := Pipeline.eq_sum_fin_of_reset_step_apply_last (M := EReal) (fun n h (l : Fin 128) => (outsAt0 m c n h).2.2 (ix2 0 l)) 32
    (fun _ => 0) (fun t l => srow m c t (ix2 0 l)) (fun t h l => (ds_first m c t h l).trans (zero_add (M := EReal) _).symm)
    (fun t h l => ds_step m c t h l) (le_of_eq N_0) tLast (Nat.add_comm 31 1 ▸ N_0.symm) l
  exact h.trans (zero_add (M := EReal) _)

theorem final_ds : (dats m 0 c).arrAt 11 cfg0.N
    = (fun x => Sink.dsinkAt (Q m c) (G m c) (K m c) (V' m c) (S m c) (x 1) : FVec Ideal S1x128 .f32) := by
  refine (dats m 0 c).arrAt_eq_of_after_last 11 tLast (by decide +kernel) _ fun j => ?_
  obtain ⟨l, rfl⟩ : ∃ l : Fin 128, j = ix2 0 l :=
    ⟨j 1, by funext a; fin_cases a; exacts [Subsingleton.elim (α := Fin 1) _ _, rfl]⟩
  blk_simp
  rw [after0_11]
  refine (sum_ds m c l).trans ?_
  simp only [srow_at]
  show _ = Sink.dsinkAt _ _ _ _ _ l
  unfold Sink.dsinkAt Sink.gradS
  split_ifs with h
  · exact Fintype.sum_equiv (finCongr N_0) _ _ fun t => rfl
  · exact Finset.sum_eq_zero fun t _ => rfl

end Cert.AttnIdeal.Value

end
-- ==== Proof.AttnRefRows.lean ====
/- The reference's rows: its rotated queries, and each block's window of keys and values, rows of zeros before the first. -/
module

public import proofs.«01_k».proof.Proof.AttnSpec
public import proofs.«01_k».proof.Proof.Gen.AttnReferenceIdeal.Run
public import Idealize.ShloMosaic.Lib.WordCmp

@[expose] public section

set_option maxRecDepth 16384

noncomputable section

namespace Cert.AttnReferenceIdeal.Stage

open Cert.AttnReferenceIdeal Cert.AttnReferenceIdeal.Gen Cert.AttnReferenceIdeal.Value Cert.Row Cert.Sink Idealize.ShloMosaic
open Idealize.ShloMosaic.TcCoe Idealize.SL.Sem

variable (V0 : Valuation τ sig (Elt Ideal))

/-- The argument arrays. -/
abbrev az : FVec Ideal S4096x3328 .f32 := V0 (Proc.devRef .tc main_arg0)
abbrev asink : FVec Ideal S1x16 .f32 := V0 (Proc.devRef .tc main_arg1)
abbrev ag : FVec Ideal S4096x2048 .bf16 := V0 (Proc.devRef .tc main_arg2)

/-- Their queries, keys, values and sinks, and the weights of the result. -/
def Q (r : Fin 4096) (h : Fin 16) (d : Fin 64) : EReal := az V0 (ix2 r ⟨64 * h.val + d.val, by omega⟩)
def K (r : Fin 4096) (e : Fin 2) (d : Fin 64) : EReal := az V0 (ix2 r ⟨3072 + (64 * e.val + d.val), by omega⟩)
def V' (r : Fin 4096) (e : Fin 2) (d : Fin 64) : EReal := az V0 (ix2 r ⟨3200 + (64 * e.val + d.val), by omega⟩)
def S (h : Fin 16) : EReal := asink V0 (ix2 0 h)
def G (r : Fin 4096) (h : Fin 16) (d : Fin 64) : EReal := ag V0 (ix2 r ⟨64 * h.val + d.val, by omega⟩)

/-- Place `j` of the window of block `n` is before the first row. -/
def before (n : Fin 32) (j : Fin 256) : Prop := n.val = 0 ∧ j.val < 128
instance (n : Fin 32) (j : Fin 256) : Decidable (before n j) := inferInstanceAs (Decidable (_ ∧ _))

theorem not_sees {n : Fin 32} {j : Fin 256} (h : before n j) (i : Fin 128) : ¬sees n i j := fun hs => by
  have := hs.2.2; have := h.1; have := h.2; omega

theorem queries_at (r : Fin 4096) (h : Fin 16) (d : Fin 64) : res_main_v33 V0 (ix3 r h d) = Q V0 r h d := by
  pointwise [res_main_v33]
  exact congrArg (fun l => az V0 (ix2 r l)) (Fin.ext (by dsimp only; omega))
theorem angles_at (r : Fin 4096) (f : Fin 8) : res_main_v28 V0 (ix2 r f) = angle r f := by
  pointwise [res_main_v28]
  rfl
theorem cos_at (r : Fin 4096) (f : Fin 8) : res_main_v30 V0 (ix3 r 0 f) = co r f := by
  unfold co; pointwise [res_main_v30, angles_at]
theorem sin_at (r : Fin 4096) (f : Fin 8) : res_main_v32 V0 (ix3 r 0 f) = si r f := by
  unfold si; pointwise [res_main_v32, angles_at]

theorem rq_at (n : Fin 32) (i : Fin 128) (e : Fin 2) (a : Fin 8) (d : Fin 64) :
    res_main_v74 V0 (ix5 n i e a d) = rq (Q V0) (rowQ n i) (qHead e a) d := by
  have hd := d.isLt
  have eR : ∀ h, (⟨n.val * 128 + i.val, h⟩ : Fin 4096) = rowQ n i := fun _ => Fin.ext (by simp only [rowQ]; omega)
  have eH : ∀ h, (⟨e.val * 8 + a.val, h⟩ : Fin 16) = qHead e a := fun _ => Fin.ext (by simp only [qHead]; omega)
  unfold rq turn
  pointwise [res_main_v74, res_main_v34, res_main_v35, queries_at, cos_at, sin_at]
  simp only [eR, eH]
  by_cases h : d.val < 8
  · simp only [dif_pos h, Nat.add_comm 8]
  · by_cases h' : d.val < 16
    · have h2 : d.val - 8 < 8 := by omega
      have e1 : 8 + (d.val - 8) = d.val := by omega
      simp only [dif_neg h, dif_pos h', dif_pos h2, e1]
    · have h2 : ¬d.val - 8 < 8 := by omega
      have e1 : 16 + (d.val - 8 - 8) = d.val := by omega
      simp only [dif_neg h, dif_neg h', dif_neg h2, e1]

theorem zero_word : (FloatOps.sitofp (F := Ideal) FTy.f32 0#32 : EReal) = 0 := by
  show (((0#32 : BitVec 32).toInt : ℝ) : EReal) = 0
  norm_num

/-- An array of blocks with a block of zeros before the first, its rows those of an array of 4096. -/
theorem padded (x : Fin 4096 → EReal) (b : Fin 33) (i : Fin 128) :
    (if h : 128 ≤ b.val * 128 + i.val ∧ b.val * 128 + i.val - 128 < 4096 then x ⟨b.val * 128 + i.val - 128, h.2⟩
      else (FloatOps.sitofp (F := Ideal) FTy.f32 0#32 : EReal))
    = if h : b.val = 0 then 0 else x ⟨128 * (b.val - 1) + i.val, by omega⟩ := by
  by_cases h : b.val = 0
  · rw [dif_pos h, dif_neg (by omega), zero_word]
  · rw [dif_neg h, dif_pos (by omega)]
    exact congrArg x (Fin.ext (by dsimp only; omega))

/-- A block's window is the block before it and the block. -/
theorem windowed (x : Fin 4096 → EReal) (n : Fin 32) (j : Fin 256) :
    (if h : j.val < 128 then if h' : n.val = 0 then 0 else x ⟨128 * (n.val - 1) + j.val, by omega⟩
      else if h' : 1 + n.val = 0 then 0 else x ⟨128 * n.val + (j.val - 128), by omega⟩)
    = if before n j then 0 else x (rowK n j) := by
  unfold rowK
  by_cases h : j.val < 128
  · by_cases h' : n.val = 0
    · rw [dif_pos h, dif_pos h', if_pos (show before n j from ⟨h', h⟩)]
    · rw [dif_pos h, dif_neg h', if_neg (fun e : before n j => h' e.1), dif_pos h]
  · rw [dif_neg h, dif_neg (by omega), if_neg (fun e : before n j => h e.2), dif_neg h]

theorem padK_at (b : Fin 33) (i l : Fin 128) :
    res_main_v6 V0 (ix3 b i l) = if h : b.val = 0 then 0 else az V0 (ix2 ⟨128 * (b.val - 1) + i.val, by omega⟩ ⟨3072 + l.val, by omega⟩) := by
  pointwise [res_main_v6]
  exact padded (fun r => az V0 (ix2 r ⟨3072 + l.val, by omega⟩)) b i
theorem padV_at (b : Fin 33) (i l : Fin 128) :
    res_main_v11 V0 (ix3 b i l) = if h : b.val = 0 then 0 else az V0 (ix2 ⟨128 * (b.val - 1) + i.val, by omega⟩ ⟨3200 + l.val, by omega⟩) := by
  pointwise [res_main_v11]
  exact padded (fun r => az V0 (ix2 r ⟨3200 + l.val, by omega⟩)) b i
/-- A table of the rows in blocks, a block of zeros before the first. -/
def padTable (x : FVec Ideal S4096x1x8 .f32) : FVec Ideal S33x128x1x8 .f32 :=
  shapeCast _ (pad S4224x1x8 ![128, 0, 0] ![0, 0, 0] ![0, 0, 0] x (sitofp .f32 (constantI S_ 32 0#32)) pads_S4096x1x8_S4224x1x8_12800_000_000 h_S_)
    shapeCasts_S4224x1x8_S33x128x1x8
theorem padTable_at (x : FVec Ideal S4096x1x8 .f32) (b : Fin 33) (i : Fin 128) (f : Fin 8) :
    padTable x (ix4 b i 0 f) = if h : b.val = 0 then 0 else x (ix3 ⟨128 * (b.val - 1) + i.val, by omega⟩ 0 f) := by
  pointwise [padTable]
  exact padded (fun r => x (ix3 r 0 f)) b i
theorem padC_at (b : Fin 33) (i : Fin 128) (f : Fin 8) :
    res_main_v50 V0 (ix4 b i 0 f) = if h : b.val = 0 then 0 else co ⟨128 * (b.val - 1) + i.val, by omega⟩ f := by
  refine (padTable_at (res_main_v30 V0) b i f).trans ?_
  simp only [cos_at]
theorem padS_at (b : Fin 33) (i : Fin 128) (f : Fin 8) :
    res_main_v55 V0 (ix4 b i 0 f) = if h : b.val = 0 then 0 else si ⟨128 * (b.val - 1) + i.val, by omega⟩ f := by
  refine (padTable_at (res_main_v32 V0) b i f).trans ?_
  simp only [sin_at]

theorem keys_at (n : Fin 32) (j : Fin 256) (e : Fin 2) (d : Fin 64) :
    res_main_v48 V0 (ix4 n j e d) = if before n j then 0 else K V0 (rowK n j) e d := by
  have hd := d.isLt
  pointwise [res_main_v48, padK_at]
  simp only [Nat.mul_comm e.val 64]
  exact windowed (fun r => az V0 (ix2 r ⟨3072 + (64 * e.val + d.val), by omega⟩)) n j
theorem values_at (n : Fin 32) (j : Fin 256) (e : Fin 2) (d : Fin 64) :
    res_main_v73 V0 (ix4 n j e d) = if before n j then 0 else V' V0 (rowK n j) e d := by
  have hd := d.isLt
  pointwise [res_main_v73, padV_at]
  simp only [Nat.mul_comm e.val 64]
  exact windowed (fun r => az V0 (ix2 r ⟨3200 + (64 * e.val + d.val), by omega⟩)) n j
theorem cosK_at (n : Fin 32) (j : Fin 256) (f : Fin 8) :
    res_main_v53 V0 (ix4 n j 0 f) = if before n j then 0 else co (rowK n j) f := by
  pointwise [res_main_v53, padC_at]
  exact windowed (fun r => co r f) n j
theorem sinK_at (n : Fin 32) (j : Fin 256) (f : Fin 8) :
    res_main_v58 V0 (ix4 n j 0 f) = if before n j then 0 else si (rowK n j) f := by
  pointwise [res_main_v58, padS_at]
  exact windowed (fun r => si r f) n j

theorem rk_at (n : Fin 32) (j : Fin 256) (e : Fin 2) (d : Fin 64) :
    res_main_v72 V0 (ix4 n j e d) = if before n j then 0 else rk (K V0) (rowK n j) e d := by
  have hd := d.isLt
  unfold rk turn
  pointwise [res_main_v72, res_main_v59, res_main_v60, keys_at, cosK_at, sinK_at]
  by_cases hb : before n j
  · simp only [if_pos hb, zero_mul, mul_zero, sub_zero, add_zero, dite_eq_ite, ite_self]
  simp only [if_neg hb]
  by_cases h : d.val < 8
  · simp only [dif_pos h, Nat.add_comm 8]
  · by_cases h' : d.val < 16
    · have h2 : d.val - 8 < 8 := by omega
      have e1 : 8 + (d.val - 8) = d.val := by omega
      simp only [dif_neg h, dif_pos h', dif_pos h2, e1]
    · have h2 : ¬d.val - 8 < 8 := by omega
      have e1 : 16 + (d.val - 8 - 8) = d.val := by omega
      simp only [dif_neg h, dif_neg h', dif_neg h2, e1]

/-- The mask. -/
theorem mask_at (n : Fin 32) (e : Fin 2) (a : Fin 8) (i : Fin 128) (j : Fin 256) :
    res_main_v108_1 V0 (ix5 n e a i j) = 1#1 ↔ sees n i j := by
  have hj := j.isLt
  have hi := i.isLt
  have hn := n.isLt
  pointwise [res_main_v108_1, res_main_v87, res_main_v82]
  have e0 : IntOp.addi (BitVec.ofNat 32 i.val) 128#32 = BitVec.ofNat 32 (i.val + 128) := by
    unfold IntOp.addi; exact (BitVec.ofNat_add ..).symm
  have e1 : (IntOp.subi (BitVec.ofNat 32 (i.val + 128)) (BitVec.ofNat 32 j.val)).toInt = (i.val + 128 : ℤ) - j.val := by
    have hk : ∀ k, k < 1024 → (BitVec.ofNat 32 k).toInt = k := fun k hk => by
      rw [BitVec.toInt_eq_toNat_of_lt (by rw [BitVec.toNat_ofNat]; omega), BitVec.toNat_ofNat]; omega
    unfold IntOp.subi
    rw [BitVec.toInt_sub, hk _ (by omega), hk _ (by omega)]
    simp only [Int.bmod]; omega
  rw [e0]
  generalize IntOp.subi (BitVec.ofNat 32 (i.val + 128)) (BitVec.ofNat 32 j.val) = w at e1 ⊢
  have e2 : IntOp.cmpi CmpIPredicate.sge w 0#32 = BitVec.ofBool (decide (j.val ≤ i.val + 128)) := by
    show BitVec.ofBool (BitVec.sle 0#32 w) = _
    rw [BitVec.sle_eq_decide, e1, show (0#32 : BitVec 32).toInt = 0 from rfl]
    congr 2; apply propext; omega
  have e3 : IntOp.cmpi CmpIPredicate.slt w 128#32 = BitVec.ofBool (decide (i.val < j.val)) := by
    show BitVec.ofBool (BitVec.slt w 128#32) = _
    rw [BitVec.slt_eq_decide, e1, show (128#32 : BitVec 32).toInt = 128 from rfl]
    congr 2; apply propext; omega
  rw [e2, e3]
  unfold sees
  simp (disch := word_cmp_side) only [hlo_ix]
  have eb : ∀ b : Bool, BitVec.ofBool b = 1#1 ↔ b = true := by decide
  rw [eb]
  simp only [Bool.and_eq_true, Bool.or_eq_true, decide_eq_true_eq]
  tauto

end Cert.AttnReferenceIdeal.Stage

end
-- ==== Proof.AttnRefScores.lean ====
/- The reference's softmax and the gradients at its scores: each row is 256 tokens and the sink. -/
module

public import proofs.«01_k».proof.Proof.AttnRefRows

@[expose] public section

set_option maxRecDepth 16384

noncomputable section

namespace Cert.AttnReferenceIdeal.Stage

open Cert.AttnReferenceIdeal Cert.AttnReferenceIdeal.Gen Cert.AttnReferenceIdeal.Value Cert.Row Cert.Sink Idealize.ShloMosaic
open Idealize.ShloMosaic.TcCoe Idealize.SL.Sem

variable (V0 : Valuation τ sig (Elt Ideal)) (n : Fin 32) (e : Fin 2) (a : Fin 8) (i : Fin 128)

/-- A token's place in a row of the tokens and the sink, and the sink's. -/
def tk (j : Fin 256) : Fin 257 := ⟨j.val, by omega⟩
def sk : Fin 257 := ⟨256, by omega⟩

theorem sum_row (f : Fin 257 → EReal) : ∑ l, f l = (∑ j, f (tk j)) + f sk := Fin.sum_univ_castSucc f
theorem max_row (f : Fin 257 → EReal) : Finset.univ.fold max lowest f = max (Finset.univ.fold max lowest fun j => f (tk j)) (f sk) := by
  refine eq_of_forall_ge_iff fun c => ?_
  rw [max_le_iff, Finset.fold_max_le, Finset.fold_max_le]
  constructor
  · exact fun h => ⟨⟨h.1, fun j _ => h.2 _ (Finset.mem_univ _)⟩, h.2 _ (Finset.mem_univ _)⟩
  · refine fun h => ⟨h.1.1, fun l _ => ?_⟩
    by_cases hl : l.val < 256
    · exact h.1.2 ⟨l.val, hl⟩ (Finset.mem_univ _)
    · have : l = sk := Fin.ext (by simp only [sk]; omega)
      rw [this]; exact h.2

theorem qHead_kv : kvHead (qHead e a) = e := Fin.ext (by simp only [kvHead, qHead]; omega)

theorem scaled (x y : Fin 64 → EReal) : (∑ d, y d * x d) * eighth = ∑ d, x d * eighth * y d := by
  rw [mul_comm, mul_sum (by rw [eighth_eq]; exact_mod_cast (by norm_num : (0 : ℝ) ≤ 1 / 8)) (by rw [eighth_eq]; exact EReal.coe_ne_top _)]
  refine Finset.sum_congr rfl fun d _ => ?_
  rw [mul_comm (y d), ← mul_assoc, mul_comm eighth]

abbrev xr : Fin 256 → EReal := scoreRow (Q V0) (K V0) n (qHead e a) i
abbrev sr : EReal := S V0 (qHead e a)

/-! ## The stages, of any arrays: tokens, the tokens and the sink, one number a row -/

abbrev Toks := FVec Ideal S32x2x8x128x256 .f32
abbrev Rows := FVec Ideal S32x2x8x128x257 .f32
abbrev Per := FVec Ideal S32x2x8x128 .f32
abbrev PerOne := FVec Ideal S32x2x8x128x1 .f32

def spread (t : PerOne) : Rows := broadcastInDim S32x2x8x128x257 ![0, 1, 2, 3, 4] bcast_S32x2x8x128x1_S32x2x8x128x257_0_1_2_3_4 t
def column (t : Per) : PerOne := broadcastInDim S32x2x8x128x1 ![0, 1, 2, 3] bcast_S32x2x8x128_S32x2x8x128x1_0_1_2_3 t
def sums (x : Rows) : Per := Host.reduceAdd x (constant S_ .f32 0x00000000#32) reducesTo_S32x2x8x128x257_S32x2x8x128_d4 h_S_
def peaks (x : Rows) : Per := Host.reduce FloatOps.maximumf x (constant S_ .f32 0xFF800000#32) reducesTo_S32x2x8x128x257_S32x2x8x128_d4 h_S_
def exps (x : Rows) (p : Per) : Rows := Host.exp (subf x (spread (column
  (maximumf (broadcastInDim S32x2x8x128 ![] bcast_S_S32x2x8x128 (constant S_ .f32 0xFF800000#32)) p))))
def probs (w : Rows) (t : PerOne) : Toks :=
  extractStridedSlice S32x2x8x128x256 ![0, 0, 0, 0, 0] (Host.divf w (spread t)) slices_S32x2x8x128x257_S32x2x8x128x256_0_0_0_0_0
def noSink (p : Toks) : Rows := pad S32x2x8x128x257 ![0, 0, 0, 0, 0] ![0, 0, 0, 0, 1] ![0, 0, 0, 0, 0] p (constant S_ .f32 0x00000000#32)
  pads_S32x2x8x128x256_S32x2x8x128x257_000_000_000_000_010 h_S_
def shares (p w : Rows) (t : PerOne) : Per := sums (mulf (mulf p (spread (Host.divf
  (broadcastInDim S32x2x8x128x1 ![] bcast_S_S32x2x8x128x1 (constant S_ .f32 0x3F800000#32)) (mulf t t)))) w)
def back (p w : Rows) (t : PerOne) : Rows := mulf (addf (Host.divf p (spread t)) (broadcastInDim S32x2x8x128x257 ![0, 1, 2, 3]
  bcast_S32x2x8x128_S32x2x8x128x257_0_1_2_3 (Host.reduceAdd (Host.negf (shapeCast _ (shares p w t) shapeCasts_S32x2x8x128_S32x2x8x128x1))
    (constant S_ .f32 0x00000000#32) reducesTo_S32x2x8x128x1_S32x2x8x128_d4 h_S_))) w

theorem spread_at (t : PerOne) (l : Fin 257) : spread t (ix5 n e a i l) = t (ix5 n e a i 0) := by
  pointwise [spread]
theorem column_at (t : Per) : column t (ix5 n e a i 0) = t (ix4 n e a i) := by
  pointwise [column]
theorem sums_at (x : Rows) : sums x (ix4 n e a i) = ∑ l : Fin 257, (x (ix5 n e a i l) : EReal) := by
  pointwise [sums]
theorem peaks_at (x : Rows) : peaks x (ix4 n e a i) = Finset.univ.fold max lowest fun l : Fin 257 => (x (ix5 n e a i l) : EReal) := by
  unfold lowest; pointwise [peaks]
theorem exps_at (x : Rows) (p : Per) (l : Fin 257) :
    exps x p (ix5 n e a i l) = Ideal.exp ((x (ix5 n e a i l) : EReal) - p (ix4 n e a i)) := by
  have h : exps x p (ix5 n e a i l) = Ideal.exp ((x (ix5 n e a i l) : EReal) - max lowest (p (ix4 n e a i))) := by
    unfold lowest; pointwise [exps, spread_at, column_at]
  rw [h, lowest_eq, max_eq_right bot_le]
theorem probs_at (w : Rows) (t : PerOne) (j : Fin 256) :
    probs w t (ix5 n e a i j) = Ideal.div (w (ix5 n e a i (tk j))) (t (ix5 n e a i 0)) := by
  unfold tk; pointwise [probs, spread_at]
theorem noSink_tk (p : Toks) (j : Fin 256) : noSink p (ix5 n e a i (tk j)) = p (ix5 n e a i j) := by
  have hj := j.isLt
  unfold tk; pointwise [noSink]
theorem noSink_sk (p : Toks) : noSink p (ix5 n e a i sk) = (0 : EReal) := by
  unfold sk; pointwise [noSink]
theorem shares_at (p w : Rows) (t : PerOne) : shares p w t (ix4 n e a i)
    = ∑ l : Fin 257, (p (ix5 n e a i l) : EReal) * Ideal.div 1 ((t (ix5 n e a i 0) : EReal) * t (ix5 n e a i 0)) * w (ix5 n e a i l) := by
  unfold shares
  rw [sums_at]
  pointwise [spread_at]
theorem back_at (p w : Rows) (t : PerOne) (l : Fin 257) : back p w t (ix5 n e a i l)
    = (Ideal.div (p (ix5 n e a i l)) (t (ix5 n e a i 0)) + -(shares p w t (ix4 n e a i) : EReal)) * w (ix5 n e a i l) := by
  pointwise [back, spread_at]
  rw [Fin.sum_univ_one]

/-! ## The reference's values -/

abbrev v112 : Rows := res_main_v112 V0
abbrev v113 : Per := res_main_v113 V0
abbrev v133 : Rows := res_main_v133 V0
abbrev v135 : PerOne := res_main_v135 V0
abbrev v150 : Rows := res_main_v150 V0
abbrev v162 : Rows := res_main_v162 V0

theorem score_at (j : Fin 256) : v112 V0 (ix5 n e a i (tk j)) = xr V0 n e a i j := by
  have hj := j.isLt
  have h : v112 V0 (ix5 n e a i (tk j)) = if sees n i j then
      (∑ d, (if before n j then 0 else rk (K V0) (rowK n j) e d) * rq (Q V0) (rowQ n i) (qHead e a) d) * eighth else lowest := by
    unfold tk eighth lowest
    pointwise [res_main_v112, rq_at, rk_at]
    exact if_congr (mask_at V0 n e a i j) rfl rfl
  rw [h]
  unfold xr scoreRow
  by_cases hs : sees n i j
  · rw [if_pos hs, if_pos hs, qHead_kv]
    simp only [if_neg (fun hb => not_sees hb i hs : ¬before n j)]
    exact scaled _ _
  · rw [if_neg hs, if_neg hs, lowest_eq]
theorem sink_at : v112 V0 (ix5 n e a i sk) = sr V0 e a := by
  unfold sk
  pointwise [res_main_v112]
  exact congrArg (fun l => asink V0 (ix2 0 l)) (Fin.ext (by simp only [qHead]; omega))

theorem peak_at : v113 V0 (ix4 n e a i) = top (xr V0 n e a i) (sr V0 e a) := by
  refine (peaks_at n e a i (v112 V0)).trans ?_
  rw [max_row]
  simp only [score_at, sink_at]
  rfl
theorem wt_at (j : Fin 256) : v133 V0 (ix5 n e a i (tk j)) = wt (xr V0 n e a i) (sr V0 e a) j := by
  refine (exps_at n e a i (v112 V0) (v113 V0) (tk j)).trans ?_
  rw [score_at, peak_at]; rfl
theorem wsink_at : v133 V0 (ix5 n e a i sk) = wsink (xr V0 n e a i) (sr V0 e a) := by
  refine (exps_at n e a i (v112 V0) (v113 V0) sk).trans ?_
  rw [sink_at, peak_at]; rfl
theorem tot_at : v135 V0 (ix5 n e a i 0) = tot (xr V0 n e a i) (sr V0 e a) := by
  refine (column_at n e a i (sums (v133 V0))).trans ?_
  rw [sums_at, sum_row]
  simp only [wt_at, wsink_at]
  rfl
theorem pr_at (j : Fin 256) : (res_main_v141 V0 : Toks) (ix5 n e a i j)
    = Ideal.div (wt (xr V0 n e a i) (sr V0 e a) j) (tot (xr V0 n e a i) (sr V0 e a)) := by
  refine (probs_at n e a i (v133 V0) (v135 V0) j).trans ?_
  rw [wt_at, tot_at]

theorem weights_at (d : Fin 64) : (res_main_v146 V0 : FVec Ideal S32x2x64x8x128 .f32) (ix5 n e d a i) = G V0 (rowQ n i) (qHead e a) d := by
  have hd := d.isLt
  pointwise [res_main_v146]
  exact congrArg (ag V0) (congrArg₂ ix2 (Fin.ext (by simp only [rowQ]; omega)) (Fin.ext (by simp only [qHead]; omega)))

/-- The gradient at a row's probabilities, from the reference's values. -/
def dpr (j : Fin 256) : EReal :=
  ∑ d, G V0 (rowQ n i) (qHead e a) d * if before n j then 0 else V' V0 (rowK n j) e d
theorem dp_at (j : Fin 256) : v150 V0 (ix5 n e a i (tk j)) = dpr V0 n e a i j := by
  refine (noSink_tk n e a i (Host.dotGeneral (F := Ideal) dot_S32x2x64x8x128_S32x256x2x64_S32x2x8x128x256_2_3_34_1_01_02 none (res_main_v146 V0)
    (res_main_v73 V0)) j).trans ?_
  unfold dpr
  pointwise [weights_at, values_at]
theorem dps_at : v150 V0 (ix5 n e a i sk) = (0 : EReal) := noSink_sk n e a i _

theorem shares_eq : shares (v150 V0) (v133 V0) (v135 V0) (ix4 n e a i) = ∑ j, dpr V0 n e a i j
    * Ideal.div 1 (tot (xr V0 n e a i) (sr V0 e a) * tot (xr V0 n e a i) (sr V0 e a)) * wt (xr V0 n e a i) (sr V0 e a) j := by
  rw [shares_at, sum_row]
  simp only [dp_at, dps_at, tot_at, wt_at, zero_mul, add_zero]
theorem through_at (j : Fin 256) : v162 V0 (ix5 n e a i (tk j)) = through (xr V0 n e a i) (sr V0 e a) (dpr V0 n e a i) j := by
  refine (back_at n e a i (v150 V0) (v133 V0) (v135 V0) (tk j)).trans ?_
  rw [shares_eq, dp_at, wt_at, tot_at]; rfl
theorem throughSink_at : v162 V0 (ix5 n e a i sk) = throughSink (xr V0 n e a i) (sr V0 e a) (dpr V0 n e a i) := by
  refine (back_at n e a i (v150 V0) (v133 V0) (v135 V0) sk).trans ?_
  rw [shares_eq, dps_at, wsink_at, tot_at]; rfl

/-! ## Where the arguments are finite -/

/-- Every query, key, value and sink is finite, and every weight of the result. -/
structure FiniteRows : Prop where
  q : ∀ r h d, Finite (Q V0 r h d)
  k : ∀ r e d, Finite (K V0 r e d)
  v : ∀ r e d, Finite (V' V0 r e d)
  s : ∀ h, Finite (S V0 h)
  g : ∀ r h d, Finite (G V0 r h d)
variable {V0} (hf : FiniteRows V0)
include hf

theorem open_row : Open (xr V0 n e a i) := fun j => by
  unfold xr scoreRow
  by_cases h : sees n i j
  · rw [if_pos h]
    refine .inr (Finite.sum _ _ fun d => ((turn_finite (hf.q _ _) (co_finite _) (si_finite _) d).mul ?_).mul
      (turn_finite (hf.k _ _) (co_finite _) (si_finite _) d))
    rw [eighth_eq]; exact finite_coe _
  · rw [if_neg h]; exact .inl rfl

theorem dpr_eq (j : Fin 256) (h : xr V0 n e a i j ≠ ⊥) : dpr V0 n e a i j = dpRow (G V0) (V' V0) n (qHead e a) i j := by
  have hb : ¬before n j := fun hb => h (if_neg (not_sees hb i))
  unfold dpr dpRow
  simp only [if_neg hb, qHead_kv]

/-- The gradient at the unscaled scores. -/
theorem ds_at (j : Fin 256) : (res_main_v172 V0 : FVec Ideal S32x2x256x128x8 .f32) (ix5 n e j i a)
    = dsRow (Q V0) (G V0) (K V0) (V' V0) (S V0) n (qHead e a) i j := by
  have h : (res_main_v172 V0 : FVec Ideal S32x2x256x128x8 .f32) (ix5 n e j i a)
      = if sees n i j then (v162 V0 (ix5 n e a i (tk j)) : EReal) * eighth else 0 := by
    unfold tk eighth
    pointwise [res_main_v172]
    exact if_congr (mask_at V0 n e a i j) rfl rfl
  rw [h, through_at]
  have ho := open_row n e a i hf
  have hs := hf.s (qHead e a)
  unfold dsRow
  rw [← ds_congr ho hs (dpr_eq n e a i hf)]
  by_cases h : sees n i j
  · rw [if_pos h, through_eq ho hs]
  · rw [if_neg h, ds_masked ho hs _ (if_neg h)]

end Cert.AttnReferenceIdeal.Stage

end
-- ==== Proof.AttnRefGrads.lean ====
/- The reference's three results are the gradients of the windowed attention, for finite rows and sinks. -/
module

public import proofs.«01_k».proof.Proof.AttnRefScores

@[expose] public section

set_option maxRecDepth 16384

noncomputable section

namespace Cert.AttnReferenceIdeal.Stage

open Cert.AttnReferenceIdeal Cert.AttnReferenceIdeal.Gen Cert.AttnReferenceIdeal.Value Cert.Row Cert.Sink Idealize.ShloMosaic
open Idealize.ShloMosaic.TcCoe Idealize.SL.Sem

/-! ## The rotation undone -/

abbrev QHeads := FVec Ideal S4096x16x64 .f32
abbrev KHeads := FVec Ideal S32x256x2x64 .f32

/-- Of queries' gradients and the rows' tables; of keys' gradients and the windows' tables. -/
def unspinQ (x : QHeads) (c s : FVec Ideal S4096x1x8 .f32) : FVec Ideal S4096x1024 .bf16 :=
  truncf .bf16 (shapeCast _ (addf (addf (pad S4096x16x64 ![0, 0, 16] ![0, 0, 0] ![0, 0, 0]
    (extractStridedSlice S4096x16x48 ![0, 0, 16] x slices_S4096x16x64_S4096x16x48_0_0_16) (constant S_ .f32 0x00000000#32)
    pads_S4096x16x48_S4096x16x64_000_000_1600 h_S_)
    (pad S4096x16x64 ![0, 0, 8] ![0, 0, 48] ![0, 0, 0] (addf
      (mulf (extractStridedSlice S4096x16x8 ![0, 0, 8] x slices_S4096x16x64_S4096x16x8_0_0_8)
        (broadcastInDim S4096x16x8 ![0, 1, 2] bcast_S4096x1x8_S4096x16x8_0_1_2 c))
      (mulf (Host.negf (extractStridedSlice S4096x16x8 ![0, 0, 0] x slices_S4096x16x64_S4096x16x8_0_0_0))
        (broadcastInDim S4096x16x8 ![0, 1, 2] bcast_S4096x1x8_S4096x16x8_0_1_2 s))) (constant S_ .f32 0x00000000#32)
      pads_S4096x16x8_S4096x16x64_000_000_8480 h_S_))
    (pad S4096x16x64 ![0, 0, 0] ![0, 0, 56] ![0, 0, 0] (addf
      (mulf (extractStridedSlice S4096x16x8 ![0, 0, 8] x slices_S4096x16x64_S4096x16x8_0_0_8)
        (broadcastInDim S4096x16x8 ![0, 1, 2] bcast_S4096x1x8_S4096x16x8_0_1_2 s))
      (mulf (extractStridedSlice S4096x16x8 ![0, 0, 0] x slices_S4096x16x64_S4096x16x8_0_0_0)
        (broadcastInDim S4096x16x8 ![0, 1, 2] bcast_S4096x1x8_S4096x16x8_0_1_2 c))) (constant S_ .f32 0x00000000#32)
      pads_S4096x16x8_S4096x16x64_000_000_0560 h_S_)) shapeCasts_S4096x16x64_S4096x1024) bitsLt_bf16_f32
def unspinK (x : KHeads) (c s : FVec Ideal S32x256x1x8 .f32) : FVec Ideal S32x256x128 .f32 :=
  shapeCast _ (addf (addf (pad S32x256x2x64 ![0, 0, 0, 16] ![0, 0, 0, 0] ![0, 0, 0, 0]
    (extractStridedSlice S32x256x2x48 ![0, 0, 0, 16] x slices_S32x256x2x64_S32x256x2x48_0_0_0_16) (constant S_ .f32 0x00000000#32)
    pads_S32x256x2x48_S32x256x2x64_000_000_000_1600 h_S_)
    (pad S32x256x2x64 ![0, 0, 0, 8] ![0, 0, 0, 48] ![0, 0, 0, 0] (addf
      (mulf (extractStridedSlice S32x256x2x8 ![0, 0, 0, 8] x slices_S32x256x2x64_S32x256x2x8_0_0_0_8)
        (broadcastInDim S32x256x2x8 ![0, 1, 2, 3] bcast_S32x256x1x8_S32x256x2x8_0_1_2_3 c))
      (mulf (Host.negf (extractStridedSlice S32x256x2x8 ![0, 0, 0, 0] x slices_S32x256x2x64_S32x256x2x8_0_0_0_0))
        (broadcastInDim S32x256x2x8 ![0, 1, 2, 3] bcast_S32x256x1x8_S32x256x2x8_0_1_2_3 s))) (constant S_ .f32 0x00000000#32)
      pads_S32x256x2x8_S32x256x2x64_000_000_000_8480 h_S_))
    (pad S32x256x2x64 ![0, 0, 0, 0] ![0, 0, 0, 56] ![0, 0, 0, 0] (addf
      (mulf (extractStridedSlice S32x256x2x8 ![0, 0, 0, 8] x slices_S32x256x2x64_S32x256x2x8_0_0_0_8)
        (broadcastInDim S32x256x2x8 ![0, 1, 2, 3] bcast_S32x256x1x8_S32x256x2x8_0_1_2_3 s))
      (mulf (extractStridedSlice S32x256x2x8 ![0, 0, 0, 0] x slices_S32x256x2x64_S32x256x2x8_0_0_0_0)
        (broadcastInDim S32x256x2x8 ![0, 1, 2, 3] bcast_S32x256x1x8_S32x256x2x8_0_1_2_3 c))) (constant S_ .f32 0x00000000#32)
      pads_S32x256x2x8_S32x256x2x64_000_000_000_0560 h_S_)) shapeCasts_S32x256x2x64_S32x256x128

/-- The three pieces of an undone rotation, each with zeros about it, add up to it. -/
theorem pieces (x : Fin 64 → EReal) (c s : Fin 8 → EReal) (d : Fin 64) :
    (((if h : 16 ≤ d.val ∧ d.val - 16 < 48 then x ⟨16 + (d.val - 16), by omega⟩ else 0)
      + if h : 8 ≤ d.val ∧ d.val - 8 < 8 then
          x ⟨8 + (d.val - 8), by omega⟩ * c ⟨d.val - 8, h.2⟩ + -x ⟨d.val - 8, by omega⟩ * s ⟨d.val - 8, h.2⟩ else 0)
      + if h : d.val < 8 then x ⟨8 + d.val, by omega⟩ * s ⟨d.val, h⟩ + x d * c ⟨d.val, h⟩ else 0) = unturn x c s d := by
  unfold unturn
  by_cases h : d.val < 8
  · have h1 : ¬(16 ≤ d.val ∧ d.val - 16 < 48) := by omega
    have h2 : ¬(8 ≤ d.val ∧ d.val - 8 < 8) := by omega
    simp only [dif_pos h, dif_neg h1, dif_neg h2, zero_add, Nat.add_comm 8]
  · by_cases h' : d.val < 16
    · have h1 : ¬(16 ≤ d.val ∧ d.val - 16 < 48) := by omega
      have h2 : 8 ≤ d.val ∧ d.val - 8 < 8 := by omega
      have e : 8 + (d.val - 8) = d.val := by omega
      simp only [dif_neg h, dif_pos h', dif_neg h1, dif_pos h2, zero_add, add_zero, e]
    · have h1 : 16 ≤ d.val ∧ d.val - 16 < 48 := by omega
      have h2 : ¬(8 ≤ d.val ∧ d.val - 8 < 8) := by omega
      have e : 16 + (d.val - 16) = d.val := by omega
      simp only [dif_neg h, dif_neg h', dif_pos h1, dif_neg h2, add_zero, e]

theorem unspinQ_at (x : QHeads) (c s : FVec Ideal S4096x1x8 .f32) (r : Fin 4096) (h : Fin 16) (d : Fin 64) :
    unspinQ x c s (ix2 r ⟨64 * h.val + d.val, by omega⟩)
      = unturn (fun d => x (ix3 r h d)) (fun f => c (ix3 r 0 f)) (fun f => s (ix3 r 0 f)) d := by
  have hd := d.isLt
  have hh := h.isLt
  pointwise [unspinQ]
  exact pieces (fun d => x (ix3 r h d)) (fun f => c (ix3 r 0 f)) (fun f => s (ix3 r 0 f)) d
theorem unspinK_at (x : KHeads) (c s : FVec Ideal S32x256x1x8 .f32) (n : Fin 32) (j : Fin 256) (e : Fin 2) (d : Fin 64) :
    unspinK x c s (ix3 n j ⟨64 * e.val + d.val, by omega⟩)
      = unturn (fun d => x (ix4 n j e d)) (fun f => c (ix4 n j 0 f)) (fun f => s (ix4 n j 0 f)) d := by
  have hd := d.isLt
  have hh := e.isLt
  pointwise [unspinK]
  exact pieces (fun d => x (ix4 n j e d)) (fun f => c (ix4 n j 0 f)) (fun f => s (ix4 n j 0 f)) d

/-- A sum over the first and the last two of five axes, the last of one element. -/
theorem sum_034 {n0 n3 : ℕ} (h : (⟨5, ![n0, 2, 8, n3, 1]⟩ : Shape).ReducesTo [0, 3, 4] ⟨2, ![2, 8]⟩)
    (x : FVec Ideal ⟨5, ![n0, 2, 8, n3, 1]⟩ .f32) (e : Fin 2) (a : Fin 8) :
    Host.reduceAdd x (constant S_ .f32 0x00000000#32) h h_S_ (ix2 e a) = ∑ n : Fin n0, ∑ i : Fin n3, (x (ix5 n e a i 0) : EReal) := by
  have hf : ∀ i : (⟨5, ![n0, 2, 8, n3, 1]⟩ : Shape).Idx, h.drop i = ix2 e a ↔ ∃ k : Fin n0 × Fin n3, ix5 k.1 e a k.2 0 = i := fun i => by
    constructor
    · intro hi
      have e0 : (i 1 : ℕ) = e := congrArg Fin.val (congrFun hi 0)
      have e1 : (i 2 : ℕ) = a := congrArg Fin.val (congrFun hi 1)
      refine ⟨(i 0, i 3), ?_⟩
      funext b
      match b with
      | ⟨0, _⟩ => rfl
      | ⟨1, _⟩ => exact Fin.ext e0.symm
      | ⟨2, _⟩ => exact Fin.ext e1.symm
      | ⟨3, _⟩ => rfl
      | ⟨4, _⟩ => exact Subsingleton.elim (α := Fin 1) _ _
    · rintro ⟨k, rfl⟩
      funext b
      match b with
      | ⟨0, _⟩ => rfl
      | ⟨1, _⟩ => rfl
  rw [Host.reduceAdd_apply]
  show Ideal.hostReduceAdd _ _ _ _ = _
  unfold Ideal.hostReduceAdd
  rw [Finset.sum_filter_eq_sum_of_fiber _ _ (fun _ _ he => Prod.ext (congrFun he 0) (congrFun he 3)) hf, Fintype.sum_prod_type]
  exact (congrArg (· + ∑ n : Fin n0, ∑ i : Fin n3, (x (ix5 n e a i 0) : EReal))
    (show constant (F := Ideal) S_ .f32 0x00000000#32 (Shape.Idx.first h_S_) = (0 : EReal) by pointwise)).trans (zero_add (M := EReal) _)

theorem neg_sum {n : ℕ} (f : Fin n → EReal) (h : ∀ i, Finite (f i)) : ∑ i, -f i = -∑ i, f i := by
  classical
  induction (Finset.univ : Finset (Fin n)) using Finset.induction with
  | empty => simp
  | insert a s ha ih =>
    rw [Finset.sum_insert ha, Finset.sum_insert ha, ih, EReal.neg_add (.inl (h a).2) (.inl (h a).1), sub_eq_add_neg]

/-! ## The gradients -/

theorem qHead_self (h : Fin 16) : qHead (kvHead h) ⟨h.val % 8, by omega⟩ = h := Fin.ext (by simp only [qHead, kvHead]; omega)
theorem rowQ_self (r : Fin 4096) : rowQ ⟨r.val / 128, by omega⟩ ⟨r.val % 128, by omega⟩ = r := Fin.ext (by simp only [rowQ]; omega)

theorem eight_eighth (x y : EReal) : eight * (x * eighth * y) = y * x := by
  have h : eight * eighth = 1 := by rw [eight_eq, eighth_eq, ← EReal.coe_mul]; norm_num
  calc eight * (x * eighth * y) = (eight * eighth) * (y * x) := by ac_rfl
    _ = y * x := by rw [h, one_mul]

variable {V0 : Valuation τ sig (Elt Ideal)} (hf : FiniteRows V0)

/-- The values' gradients of the reference, in the windows. -/
def dvr (V0 : Valuation τ sig (Elt Ideal)) : KHeads := transpose S32x256x2x64 [0, 3, 1, 2]
  (Host.dotGeneral (φ₁ := .f32) (φ₂ := .f32) dot_S32x2x64x8x128_S32x2x8x128x256_S32x2x64x256_34_23_2_4_01_01 none
    (res_main_v146 V0) (res_main_v141 V0)) transposes_S32x2x64x256_S32x256x2x64_0_3_1_2

include hf

theorem ds_before (n : Fin 32) (h : Fin 16) (i : Fin 128) {j : Fin 256} (hb : before n j) :
    dsRow (Q V0) (G V0) (K V0) (V' V0) (S V0) n h i j = 0 := by
  have ho := open_row n (kvHead h) ⟨h.val % 8, by omega⟩ i hf
  unfold xr at ho
  rw [qHead_self] at ho
  exact ds_masked ho (hf.s h) _ (if_neg (not_sees hb i))

theorem dv_at (n : Fin 32) (j : Fin 256) (e : Fin 2) (d : Fin 64) : dvr V0 (ix4 n j e d) = gradV (Q V0) (G V0) (K V0) (S V0) n j e d := by
  have h : dvr V0 (ix4 n j e d) = ∑ i, ∑ a, G V0 (rowQ n i) (qHead e a) d
      * Ideal.div (wt (xr V0 n e a i) (sr V0 e a) j) (tot (xr V0 n e a i) (sr V0 e a)) := by
    pointwise [dvr, weights_at, pr_at]
    first | rfl | exact Finset.sum_comm
  rw [h, Finset.sum_comm]
  unfold gradV
  refine Finset.sum_congr rfl fun a _ => Finset.sum_congr rfl fun i _ => ?_
  rw [← pr_eq_div (open_row n e a i hf) (hf.s _)]

theorem dkr_at (n : Fin 32) (j : Fin 256) (e : Fin 2) (d : Fin 64) : (res_main_v176 V0 : KHeads) (ix4 n j e d)
    = ∑ i, ∑ a, dsRow (Q V0) (G V0) (K V0) (V' V0) (S V0) n (qHead e a) i j * rq (Q V0) (rowQ n i) (qHead e a) d := by
  pointwise [res_main_v176, ds_at _ _ _ _ hf, rq_at]
theorem dqr_at (n : Fin 32) (i : Fin 128) (e : Fin 2) (a : Fin 8) (d : Fin 64) : (res_main_v177 V0 : QHeads) (ix3 (rowQ n i) (qHead e a) d)
    = ∑ j, dsRow (Q V0) (G V0) (K V0) (V' V0) (S V0) n (qHead e a) i j * rk (K V0) (rowK n j) e d := by
  have hd := d.isLt
  have h : @Eq EReal ((res_main_v177 V0 : QHeads) (ix3 (rowQ n i) (qHead e a) d)) (∑ j, HMul.hMul (α := EReal) (β := EReal)
      ((res_main_v172 V0 : FVec Ideal S32x2x256x128x8 .f32) (ix5 n e j i a)) ((res_main_v72 V0 : KHeads) (ix4 n j e d))) := by
    unfold rowQ qHead
    pointwise [res_main_v177]
  refine h.trans (Finset.sum_congr rfl fun j _ => ?_)
  rw [ds_at n e a i hf, rk_at]
  by_cases hb : before n j
  · rw [ds_before hf n _ i hb, zero_mul, zero_mul]
  · rw [if_neg hb]

theorem dq_at (n : Fin 32) (i : Fin 128) (h : Fin 16) (d : Fin 64) :
    unspinQ (res_main_v177 V0) (res_main_v30 V0) (res_main_v32 V0) (ix2 (rowQ n i) ⟨64 * h.val + d.val, by omega⟩)
      = gradQ (Q V0) (G V0) (K V0) (V' V0) (S V0) n i h d := by
  refine (unspinQ_at (res_main_v177 V0) (res_main_v30 V0) (res_main_v32 V0) _ h d).trans ?_
  have hx : ∀ d, (res_main_v177 V0 : QHeads) (ix3 (rowQ n i) h d)
      = ∑ j, dsRow (Q V0) (G V0) (K V0) (V' V0) (S V0) n h i j * rk (K V0) (rowK n j) (kvHead h) d := fun d => by
    have e := dqr_at hf n i (kvHead h) ⟨h.val % 8, by omega⟩ d
    rwa [qHead_self] at e
  unfold gradQ
  simp only [hx, cos_at, sin_at]

theorem dk_at (n : Fin 32) (j : Fin 256) (e : Fin 2) (d : Fin 64) :
    unspinK (res_main_v176 V0) (res_main_v53 V0) (res_main_v58 V0) (ix3 n j ⟨64 * e.val + d.val, by omega⟩)
      = gradK (Q V0) (G V0) (K V0) (V' V0) (S V0) n j e d := by
  refine (unspinK_at (res_main_v176 V0) (res_main_v53 V0) (res_main_v58 V0) n j e d).trans ?_
  unfold gradK
  by_cases hb : before n j
  · simp only [dkr_at hf, ds_before hf n _ _ hb, zero_mul, mul_zero, Finset.sum_const_zero, unturn_zero]
  have hx : ∀ d, @Eq EReal ((res_main_v176 V0 : KHeads) (ix4 n j e d)) ((∑ a, ∑ i, rq (Q V0) (rowQ n i) (qHead e a) d * eighth
      * dsRow (Q V0) (G V0) (K V0) (V' V0) (S V0) n (qHead e a) i j) * eight) := fun d => by
    have h0 : (0 : EReal) ≤ eight := by rw [eight_eq]; exact_mod_cast (by norm_num : (0 : ℝ) ≤ 8)
    have ht : eight ≠ ⊤ := by rw [eight_eq]; exact EReal.coe_ne_top _
    rw [dkr_at hf, Finset.sum_comm, mul_comm, mul_sum h0 ht]
    refine Finset.sum_congr rfl fun a _ => ?_
    rw [mul_sum h0 ht]
    exact Finset.sum_congr rfl fun i _ => (eight_eighth _ _).symm
  simp only [hx, cosK_at, sinK_at, if_neg hb]

/-- The gradient at a sink. -/
theorem ds_sum (e : Fin 2) (a : Fin 8) :
    ∑ n, ∑ i, throughSink (xr V0 n e a i) (sr V0 e a) (dpr V0 n e a i) = gradS (Q V0) (G V0) (K V0) (V' V0) (S V0) (qHead e a) := by
  unfold gradS
  refine Finset.sum_congr rfl fun n _ => ?_
  have hs := hf.s (qHead e a)
  have hm : ∀ i, Finite (prs (xr V0 n e a i) (sr V0 e a) * mean (xr V0 n e a i) (sr V0 e a) (dpRow (G V0) (V' V0) n (qHead e a) i)) := fun i =>
    (prs_finite (open_row n e a i hf) hs).mul (mean_finite (open_row n e a i hf) hs fun j =>
      Finite.sum _ _ fun d => (hf.g _ _ _).mul (hf.v _ _ _))
  rw [zero_sub, ← neg_sum _ hm]
  refine Finset.sum_congr rfl fun i _ => ?_
  rw [throughSink_eq (open_row n e a i hf) hs, mean_congr (open_row n e a i hf) hs (dpr_eq n e a i hf)]

/-! ## The three arrays -/

omit hf

/-- The two halves of a window's gradients, side by side. -/
def halves (k v : FVec Ideal S32x256x128 .f32) : FVec Ideal S32x256x256 .f32 :=
  concatenate S32x256x256 2 [⟨S32x256x128, k⟩, ⟨S32x256x128, v⟩] concatenates_S32x256x128_S32x256x128_S32x256x256_d2

theorem halves_at (k v : FVec Ideal S32x256x128 .f32) (n : Fin 32) (j l : Fin 256) :
    halves k v (ix3 n j l) = if h : l.val < 128 then k (ix3 n j ⟨l.val, h⟩) else v (ix3 n j ⟨l.val - 128, by omega⟩) := by
  have hl := l.isLt
  pointwise [halves]

/-- Two heads' lanes in one row. -/
def flat (x : KHeads) : FVec Ideal S32x256x128 .f32 := shapeCast _ x shapeCasts_S32x256x2x64_S32x256x128

theorem flat_at (x : KHeads) (n : Fin 32) (j : Fin 256) (e : Fin 2) (d : Fin 64) :
    flat x (ix3 n j ⟨64 * e.val + d.val, by omega⟩) = x (ix4 n j e d) := by
  have hd := d.isLt
  pointwise [flat]

/-- The sinks' gradients, summed, in sixteen lanes of a row of zeros. -/
def sinkRow (x : Rows) : FVec Ideal S1x128 .f32 :=
  concatenate S1x128 1 [⟨S1x16, (shapeCast _ (Host.reduceAdd (broadcastInDim S1x2x8x1x1 ![1, 2] bcast_S2x8_S1x2x8x1x1_1_2
    (Host.reduceAdd (extractStridedSlice S32x2x8x128x1 ![0, 0, 0, 0, 256] x slices_S32x2x8x128x257_S32x2x8x128x1_0_0_0_0_256)
      (constant S_ .f32 0x00000000#32) reducesTo_S32x2x8x128x1_S2x8_d0_3_4 h_S_)) (constant S_ .f32 0x00000000#32)
      reducesTo_S1x2x8x1x1_S2x8_d0_3_4 h_S_) shapeCasts_S2x8_S1x16)⟩,
    ⟨S1x112, (broadcastInDim S1x112 ![] bcast_S_S1x112 (constant S_ .f32 0x00000000#32))⟩] concatenates_S1x16_S1x112_S1x128_d1

theorem sinkRow_at (x : Rows) (l : Fin 128) : sinkRow x (ix2 0 l) = if h : l.val < 16 then
    ∑ n : Fin 32, ∑ i : Fin 128, x (ix5 n ⟨l.val / 8, by omega⟩ ⟨l.val % 8, by omega⟩ i sk) else 0 := by
  have hl := l.isLt
  pointwise [sinkRow, sum_034, sk]
  simp only [Finset.univ_unique, Finset.sum_singleton]

include hf

theorem out_dq : unspinQ (res_main_v177 V0) (res_main_v30 V0) (res_main_v32 V0)
    = fun x => dqAt (Q V0) (G V0) (K V0) (V' V0) (S V0) (x 0) (x 1) := by
  funext x
  obtain ⟨r, l, rfl⟩ : ∃ (r : Fin 4096) (l : Fin 1024), x = ix2 r l := ⟨x 0, x 1, by funext a; fin_cases a <;> rfl⟩
  show _ = dqAt _ _ _ _ _ r l
  unfold dqAt
  rw [← dq_at hf]
  exact congrArg _ (congrArg₂ ix2 (rowQ_self r).symm (Fin.ext (by dsimp only; omega)))

theorem out_dkv : halves (unspinK (res_main_v176 V0) (res_main_v53 V0) (res_main_v58 V0)) (flat (dvr V0))
    = fun x => dkvAt (Q V0) (G V0) (K V0) (V' V0) (S V0) (x 0) (x 1) (x 2) := by
  funext x
  obtain ⟨n, j, l, rfl⟩ : ∃ (n : Fin 32) (j l : Fin 256), x = ix3 n j l := ⟨x 0, x 1, x 2, by funext a; fin_cases a <;> rfl⟩
  show _ = dkvAt _ _ _ _ _ n j l
  unfold dkvAt
  rw [halves_at]
  split_ifs with h
  · rw [← dk_at hf]
    exact congrArg _ (congrArg (ix3 n j) (Fin.ext (by dsimp only; omega)))
  · rw [← dv_at hf, ← flat_at (dvr V0)]
    exact congrArg _ (congrArg (ix3 n j) (Fin.ext (by dsimp only; omega)))

theorem out_ds : sinkRow (v162 V0) = fun x => dsinkAt (Q V0) (G V0) (K V0) (V' V0) (S V0) (x 1) := by
  funext x
  obtain ⟨l, rfl⟩ : ∃ l : Fin 128, x = ix2 0 l := ⟨x 1, by funext a; fin_cases a; exacts [Subsingleton.elim (α := Fin 1) _ _, rfl]⟩
  show _ = dsinkAt _ _ _ _ _ l
  unfold dsinkAt
  refine (sinkRow_at (v162 V0) l).trans ?_
  split_ifs with h
  · simp only [throughSink_at]
    refine (ds_sum hf _ _).trans (congrArg _ (Fin.ext ?_))
    simp only [qHead]; omega
  · rfl

end Cert.AttnReferenceIdeal.Stage

end
-- ==== Proof.AttnEquation.lean ====
/- The kernel's three arrays and the reference's are the same, for finite rows and sinks. -/
module

public import proofs.«01_k».proof.Defs
public import proofs.«01_k».proof.Proof.AttnArrays
public import proofs.«01_k».proof.Proof.AttnRefGrads
public import proofs.«01_k».proof.Proof.Equation

@[expose] public section

set_option maxRecDepth 16384

noncomputable section

namespace Cert.Proof

open Idealize.ShloMosaic Idealize.SL.Sem Cert.Row Cert.AttnReferenceIdeal.Stage

instance facts_finite_attention : Cert.Pre_finite_attention.Facts :=
  ⟨by decide, by decide, by decide, by decide, by decide, by decide, by decide, by decide, by decide, by decide, by decide, by decide⟩

theorem and_one {a b : BitVec 1} (h : IntOp.andi a b = 1#1) : a = 1#1 ∧ b = 1#1 := by revert a b; decide

abbrev Proj := FVec Ideal ⟨2, ![4096, 3328]⟩ .f32
abbrev Sinks := FVec Ideal ⟨2, ![1, 16]⟩ .f32
abbrev Outs := FVec Ideal ⟨2, ![4096, 2048]⟩ .bf16

/-- What the precondition says at one place: four numbers are finite. -/
theorem finite_at (z : Proj) (s : Sinks) (g : Outs) (h : Cert.Pre_finite_attention.fn (F := Ideal) z s g = fun _ => 1#1) (r : Fin 4096) (l : Fin 1024) :
    Finite (z (ix2 r ⟨l.val, by omega⟩)) ∧ Finite (z (ix2 r ⟨3072 + l.val % 256, by omega⟩)) ∧ Finite (g (ix2 r ⟨l.val, by omega⟩))
      ∧ Finite (s (ix2 0 ⟨l.val / 64, by omega⟩)) := by
  have e : Cert.Pre_finite_attention.fn (F := Ideal) z s g (ix2 r l) = 1#1 := congrFun h _
  have hl := l.isLt
  pointwise [Cert.Pre_finite_attention.fn, Cert.Pre_finite_attention.fn_part1] at e
  obtain ⟨⟨⟨e0, e1⟩, e2⟩, e3⟩ := (and_one e).imp_left fun e => (and_one e).imp_left and_one
  exact ⟨finite_of_abs (lt_top_of_bit e0), finite_of_abs (lt_top_of_bit e1), finite_of_abs (lt_top_of_bit e2), finite_of_abs (lt_top_of_bit e3)⟩

open Cert.AttnIdeal.Value (final_dq final_dkv final_ds)
open Idealize.ShloMosaic.StableHlo (launchContents)

/-- From the same finite rows and sinks, both programs end with the windowed attention's gradients. -/
theorem windowed_attention : Cert.algebraic_AttnIdeal_AttnReferenceIdeal_pre_finite_attention := by
  intro m g m' g' hpre hargs
  refine ⟨fun c => (fun x => Sink.dqAt (Cert.AttnIdeal.Value.Q m c) (Cert.AttnIdeal.Value.G m c) (Cert.AttnIdeal.Value.K m c)
      (Cert.AttnIdeal.Value.V' m c) (Cert.AttnIdeal.Value.S m c) (x 0) (x 1) : FVec Ideal ⟨2, ![4096, 1024]⟩ .bf16),
    fun c => (fun x => Sink.dkvAt (Cert.AttnIdeal.Value.Q m c) (Cert.AttnIdeal.Value.G m c) (Cert.AttnIdeal.Value.K m c)
      (Cert.AttnIdeal.Value.V' m c) (Cert.AttnIdeal.Value.S m c) (x 0) (x 1) (x 2) : FVec Ideal ⟨3, ![32, 256, 256]⟩ .f32),
    fun c => (fun x => Sink.dsinkAt (Cert.AttnIdeal.Value.Q m c) (Cert.AttnIdeal.Value.G m c) (Cert.AttnIdeal.Value.K m c)
      (Cert.AttnIdeal.Value.V' m c) (Cert.AttnIdeal.Value.S m c) (x 1) : FVec Ideal ⟨2, ![1, 128]⟩ .f32), ?_, ?_⟩
  · refine (θ_run _ _ _).mono (fun r h c => ?_) (Cert.AttnIdeal.Value.run_blocks m g)
    obtain ⟨h0, h1, h2, ha⟩ := h c
    exact ⟨h0.trans (final_dq m c), h1.trans (final_dkv m c), h2.trans (final_ds m c), ha⟩
  · refine (θ_run _ _ _).mono (fun r h c => ?_) (Cert.AttnReferenceIdeal.Value.run m' g')
    obtain ⟨h0, h1, h2, ha⟩ := h c
    obtain ⟨e0, e1, e2⟩ := hargs c
    have hp := finite_at _ _ _ (hpre c)
    have eQ : Q (launchContents m' c) = Cert.AttnIdeal.Value.Q m c := by funext r h d; exact congrFun e0 _
    have eK : K (launchContents m' c) = Cert.AttnIdeal.Value.K m c := by funext r h d; exact congrFun e0 _
    have eV : V' (launchContents m' c) = Cert.AttnIdeal.Value.V' m c := by funext r h d; exact congrFun e0 _
    have eS : S (launchContents m' c) = Cert.AttnIdeal.Value.S m c := by funext h; exact congrFun e1 _
    have eG : G (launchContents m' c) = Cert.AttnIdeal.Value.G m c := by funext r h d; exact congrFun e2 _
    have hf : FiniteRows (launchContents m' c) := by
      refine ⟨?_, ?_, ?_, ?_, ?_⟩
      · rw [eQ]; intro r h d
        exact (hp r ⟨64 * h.val + d.val, by omega⟩).1
      · rw [eK]; intro r e d
        have h := (hp r ⟨64 * e.val + d.val, by omega⟩).2.1
        have hd : (64 * e.val + d.val) % 256 = 64 * e.val + d.val := by omega
        simp only [hd] at h
        exact h
      · rw [eV]; intro r e d
        have h := (hp r ⟨128 + (64 * e.val + d.val), by omega⟩).2.1
        have hd : 3072 + (128 + (64 * e.val + d.val)) % 256 = 3200 + (64 * e.val + d.val) := by omega
        simp only [hd] at h
        exact h
      · rw [eS]; intro h
        have e := (hp 0 ⟨64 * h.val, by omega⟩).2.2.2
        have hd : 64 * h.val / 64 = h.val := by omega
        simp only [hd] at e
        exact e
      · rw [eG]; intro r h d
        exact (hp r ⟨64 * h.val + d.val, by omega⟩).2.2.1
    have o0 := out_dq hf
    have o1 := out_dkv hf
    have o2 := out_ds hf
    rw [eQ, eK, eV, eS, eG] at o0 o1 o2
    exact ⟨h0.trans o0, h1.trans o1, h2.trans o2, ha⟩

end Cert.Proof

end
-- ==== Proof.Product.lean ====
/- Products of two arrays, element by element: rows by columns, rows by rows, columns by columns. -/
module

public import Idealize.ShloMosaic.Lib.Pointwise

@[expose] public section

noncomputable section

namespace Cert.Product

open Idealize.ShloMosaic

abbrev Grid (a b : ℕ) : Shape := ⟨2, ![a, b]⟩

variable {a b n : ℕ} {p q : FTy} (o : FTy)

/-- Rows of the first array by columns of the second, -/
def rowCol (x : FVec Ideal (Grid a n) p) (y : FVec Ideal (Grid n b) q) : FVec Ideal (Grid a b) o :=
  fun i => (∑ k : Fin n, x (ix2 (i 0) k) * y (ix2 k (i 1)) : EReal)

/-- rows by rows, -/
def rowRow (x : FVec Ideal (Grid a n) p) (y : FVec Ideal (Grid b n) q) : FVec Ideal (Grid a b) o :=
  fun i => (∑ k : Fin n, x (ix2 (i 0) k) * y (ix2 (i 1) k) : EReal)

/-- columns by columns. -/
def colCol (x : FVec Ideal (Grid n a) p) (y : FVec Ideal (Grid n b) q) : FVec Ideal (Grid a b) o :=
  fun i => (∑ k : Fin n, x (ix2 k (i 0)) * y (ix2 k (i 1)) : EReal)

/-- An index of a grid is its two places. -/
theorem ix2_of (y : (Grid a b).Idx) : ∃ (i : Fin a) (j : Fin b), y = ix2 i j :=
  ⟨y 0, y 1, by funext k; fin_cases k <;> rfl⟩

/-- Place `k` of slice `s`. -/
def slice {a n : ℕ} (s : Fin a) (k : Fin n) : Fin (a * n) :=
  ⟨s.val * n + k.val, by
    have h := Nat.mul_le_mul_right n (Nat.succ_le_of_lt s.isLt)
    have := k.isLt
    rw [Nat.succ_mul] at h
    omega⟩

/-- A sum taken slice by slice is the sum. -/
theorem sum_slices {a n : ℕ} (f : Fin (a * n) → EReal) : ∑ s : Fin a, ∑ k : Fin n, f (slice s k) = ∑ k, f k := by
  rw [← Fintype.sum_prod_type' (f := fun s k => f (slice s k))]
  refine Fintype.sum_equiv finProdFinEquiv _ _ fun x => congrArg f (Fin.ext ?_)
  simp only [slice, finProdFinEquiv_apply_val]
  rw [Nat.mul_comm, Nat.add_comm]

end Cert.Product

end
-- ==== Proof.ProjDxEquation.lean ====
/- The cotangent of the rows entering the mixer's first projection: rows of the projection's cotangent by rows of the weights. -/
module

public import proofs.«01_k».proof.Defs
public import proofs.«01_k».proof.Proof.Product
public import proofs.«01_k».proof.Proof.Gen.ProjDxIdeal.Value
public import proofs.«01_k».proof.Proof.Gen.ProjDxReferenceIdeal.Run
public import Idealize.ShloMosaic.Lib.Claim
public import Idealize.ShloMosaic.Lib.Pipeline.ValueKit

@[expose] public section

set_option maxRecDepth 16384

noncomputable section

namespace Cert.ProjDxIdeal.Value

open Cert.ProjDxIdeal Cert.ProjDxIdeal.Gen Cert.Product Idealize.ShloMosaic
open Idealize.ShloMosaic.TcCoe Idealize.SL.Sem

abbrev A := FVec Ideal S4096x3328 .bf16
abbrev B := FVec Ideal S2048x3328 .bf16
abbrev O := FVec Ideal S4096x2048 .f32

/-- The rows' cotangent, from the projection's cotangent and the weights. -/
def backRows (x : A) (y : B) : O := rowRow .f32 x y

/-- What one grid point computes of the blocks it reads. -/
theorem point_at (x : FVec Ideal S512x3328 .bf16) (y : FVec Ideal S1024x3328 .bf16) (i : Fin 512) (j : Fin 1024) :
    k0_pay1 (F := Ideal) x y (ix2 i j) = (∑ k : Fin 3328, x (ix2 i k) * y (ix2 j k) : EReal) := by
  pointwise [k0_pay1]

variable (m : (ℓ : Loc nD τ sig) → Buf (Elt Ideal) ℓ) (c : Dev nD)

/-- The argument arrays. -/
abbrev argA : A := m ((c.tc : Thread nD τ).loc main_arg0)
abbrev argB : B := m ((c.tc : Thread nD τ).loc main_arg1)

/-- Which block each window is at, at a point. -/
theorem idx_val : ∀ t : Fin cfg0.N, win0_0.index t = ![t.val % 8, 0] ∧ win0_1.index t = ![t.val / 8, 0] ∧ win0_2.index t = ![t.val % 8, t.val / 8] :=
  (by decide +kernel : ∀ t : Fin grid0.N, _)

theorem point_lt (t : Fin cfg0.N) : t.val < 16 := Nat.lt_of_lt_of_eq t.isLt N_0

/-- Row `i` and column `j` of the block of a point. -/
def rowOf (t : Fin cfg0.N) (i : Fin 512) : Fin 4096 := ⟨t.val % 8 * 512 + i.val, by have := point_lt t; omega⟩
def colOf (t : Fin cfg0.N) (j : Fin 1024) : Fin 2048 := ⟨t.val / 8 * 1024 + j.val, by have := point_lt t; omega⟩

abbrev blkA (t : Fin cfg0.N) : FVec Ideal S512x3328 .bf16 := iblk m c 0 t
abbrev blkB (t : Fin cfg0.N) : FVec Ideal S1024x3328 .bf16 := iblk m c 1 t

theorem blkA_at (t : Fin cfg0.N) (i : Fin 512) (k : Fin 3328) : blkA m c t (ix2 i k) = argA m c (ix2 (rowOf t i) k) := by
  unfold rowOf; blk_ext! [iblk, V, idx_val t]
theorem blkB_at (t : Fin cfg0.N) (j : Fin 1024) (k : Fin 3328) : blkB m c t (ix2 j k) = argB m c (ix2 (colOf t j) k) := by
  unfold colOf; blk_ext! [iblk, V, idx_val t]

/-- The kernel's array. -/
theorem final : (dats m 0 c).arrAt 2 cfg0.N = backRows (argA m c) (argB m c) := by
  refine (dats m 0 c).arrAt_eq_of_covers 2 _ (by decide +kernel) fun t hf y => ?_
  blk_simp [idx_val t]
  rw [after0_2]
  obtain ⟨i, j, rfl⟩ := ix2_of (a := 512) (b := 1024) y
  have e0 : (win0_2.blk t).view.emb (ix2 i j) 0 = rowOf t i := Fin.ext (by simp [rowOf, idx_val t])
  have e1 : (win0_2.blk t).view.emb (ix2 i j) 1 = colOf t j := Fin.ext (by simp [colOf, idx_val t])
  unfold backRows rowRow
  rw [e0, e1]
  unfold out0_2
  frame_out
  refine (point_at (blkA m c t) (blkB m c t) i j).trans (Finset.sum_congr rfl fun k _ => ?_)
  rw [blkA_at, blkB_at]

end Cert.ProjDxIdeal.Value

namespace Cert.ProjDxReferenceIdeal.Stage

open Cert.ProjDxReferenceIdeal Cert.ProjDxReferenceIdeal.Gen Cert.Product Idealize.ShloMosaic Cert.ProjDxIdeal.Value
open Idealize.ShloMosaic.TcCoe Idealize.SL.Sem

/-- The reference's array, of its arguments. -/
def result (x : A) (y : B) : O :=
  Host.dotGeneral dot_S4096x3328_S2048x3328_S4096x2048_1_1_0_0_n_n none (extf .f32 (x : FVec Ideal S4096x3328 .bf16) bitsLt_bf16_f32)
    (extf .f32 (y : FVec Ideal S2048x3328 .bf16) bitsLt_bf16_f32)

theorem result_eq (x : A) (y : B) : result x y = backRows x y := by
  funext i
  obtain ⟨i, j, rfl⟩ := ix2_of (a := 4096) (b := 2048) i
  pointwise [result, backRows, rowRow]

end Cert.ProjDxReferenceIdeal.Stage

namespace Cert.Proof

open Idealize.ShloMosaic Idealize.SL.Sem
open Cert.ProjDxIdeal.Value (argA argB backRows final)
open Cert.ProjDxReferenceIdeal.Stage (result_eq)

/-- From the same arguments, both programs end with the cotangent of the projected rows. -/
theorem projection_rows_gradient : Cert.algebraic_ProjDxIdeal_ProjDxReferenceIdeal := by
  intro m g m' g' _ hargs
  refine ⟨fun c => backRows (argA m c) (argB m c), ?_, ?_⟩
  · refine (θ_run _ _ _).mono (fun r h c => ?_) (Cert.ProjDxIdeal.Value.run_blocks m g)
    obtain ⟨h0, ha⟩ := h c
    exact ⟨h0.trans (final m c), ha⟩
  · refine (θ_run _ _ _).mono (fun r h c => ?_) (Cert.ProjDxReferenceIdeal.Value.run m' g')
    obtain ⟨h0, ha⟩ := h c
    obtain ⟨e0, e1⟩ := hargs c
    refine ⟨h0.trans ?_, ha⟩
    exact (result_eq _ _).trans (congrArg₂ backRows e0 e1)

end Cert.Proof

end
-- ==== Proof.ProjDwEquation.lean ====
/- The gradient of the weights of the mixer's first projection: the transposed rows by the projection's cotangent. -/
module

public import proofs.«01_k».proof.Defs
public import proofs.«01_k».proof.Proof.Product
public import proofs.«01_k».proof.Proof.Gen.ProjDwIdeal.Value
public import proofs.«01_k».proof.Proof.Gen.ProjDwReferenceIdeal.Run
public import Idealize.ShloMosaic.Lib.Claim
public import Idealize.ShloMosaic.Lib.Pipeline.ValueKit

@[expose] public section

set_option maxRecDepth 16384

noncomputable section

namespace Cert.ProjDwIdeal.Value

open Cert.ProjDwIdeal Cert.ProjDwIdeal.Gen Cert.Product Idealize.ShloMosaic
open Idealize.ShloMosaic.TcCoe Idealize.SL.Sem

abbrev A := FVec Ideal S2048x4096 .bf16
abbrev B := FVec Ideal S4096x3328 .bf16
abbrev O := FVec Ideal S2048x3328 .bf16

/-- The weights' gradient, from the transposed rows and the projection's cotangent. -/
def wgrad (x : A) (y : B) : O := rowCol .bf16 x y

/-- What one grid point computes of the blocks it reads. -/
theorem point_at (x : FVec Ideal S1024x4096 .bf16) (y : FVec Ideal S4096x256 .bf16) (i : Fin 1024) (j : Fin 256) :
    k0_pay1 (F := Ideal) x y (ix2 i j) = (∑ k : Fin 4096, x (ix2 i k) * y (ix2 k j) : EReal) := by
  pointwise [k0_pay1]

variable (m : (ℓ : Loc nD τ sig) → Buf (Elt Ideal) ℓ) (c : Dev nD)

/-- The argument arrays. -/
abbrev argA : A := m ((c.tc : Thread nD τ).loc main_arg0)
abbrev argB : B := m ((c.tc : Thread nD τ).loc main_arg1)

/-- Which block each window is at, at a point. -/
theorem idx_val : ∀ t : Fin cfg0.N, win0_0.index t = ![t.val / 13, 0] ∧ win0_1.index t = ![0, t.val % 13] ∧ win0_2.index t = ![t.val / 13, t.val % 13] :=
  (by decide +kernel : ∀ t : Fin grid0.N, _)

theorem point_lt (t : Fin cfg0.N) : t.val < 26 := Nat.lt_of_lt_of_eq t.isLt N_0

/-- Row `i` and column `j` of the block of a point. -/
def rowOf (t : Fin cfg0.N) (i : Fin 1024) : Fin 2048 := ⟨t.val / 13 * 1024 + i.val, by have := point_lt t; omega⟩
def colOf (t : Fin cfg0.N) (j : Fin 256) : Fin 3328 := ⟨t.val % 13 * 256 + j.val, by have := point_lt t; omega⟩

abbrev blkA (t : Fin cfg0.N) : FVec Ideal S1024x4096 .bf16 := iblk m c 0 t
abbrev blkB (t : Fin cfg0.N) : FVec Ideal S4096x256 .bf16 := iblk m c 1 t

theorem blkA_at (t : Fin cfg0.N) (i : Fin 1024) (k : Fin 4096) : blkA m c t (ix2 i k) = argA m c (ix2 (rowOf t i) k) := by
  unfold rowOf; blk_ext! [iblk, V, idx_val t]
theorem blkB_at (t : Fin cfg0.N) (j : Fin 256) (k : Fin 4096) : blkB m c t (ix2 k j) = argB m c (ix2 k (colOf t j)) := by
  unfold colOf; blk_ext! [iblk, V, idx_val t]

/-- The kernel's array. -/
theorem final : (dats m 0 c).arrAt 2 cfg0.N = wgrad (argA m c) (argB m c) := by
  refine (dats m 0 c).arrAt_eq_of_covers 2 _ (by decide +kernel) fun t hf y => ?_
  blk_simp [idx_val t]
  rw [after0_2]
  obtain ⟨i, j, rfl⟩ := ix2_of (a := 1024) (b := 256) y
  have e0 : (win0_2.blk t).view.emb (ix2 i j) 0 = rowOf t i := Fin.ext (by simp [rowOf, idx_val t])
  have e1 : (win0_2.blk t).view.emb (ix2 i j) 1 = colOf t j := Fin.ext (by simp [colOf, idx_val t])
  unfold wgrad rowCol
  rw [e0, e1]
  unfold out0_2
  frame_out
  refine (point_at (blkA m c t) (blkB m c t) i j).trans (Finset.sum_congr rfl fun k _ => ?_)
  rw [blkA_at, blkB_at]

end Cert.ProjDwIdeal.Value

namespace Cert.ProjDwReferenceIdeal.Stage

open Cert.ProjDwReferenceIdeal Cert.ProjDwReferenceIdeal.Gen Cert.Product Idealize.ShloMosaic Cert.ProjDwIdeal.Value
open Idealize.ShloMosaic.TcCoe Idealize.SL.Sem

/-- The reference's array, of its arguments. -/
def result (x : A) (y : B) : O :=
  truncf .bf16 (transpose S2048x3328 [1, 0] (Host.dotGeneral dot_S4096x3328_S4096x2048_S3328x2048_0_0_1_1_n_n none
    (extf .f32 (y : FVec Ideal S4096x3328 .bf16) bitsLt_bf16_f32)
    (extf .f32 (transpose S4096x2048 [1, 0] (x : FVec Ideal S2048x4096 .bf16) transposes_S2048x4096_S4096x2048_1_0) bitsLt_bf16_f32))
    transposes_S3328x2048_S2048x3328_1_0) bitsLt_bf16_f32

theorem result_eq (x : A) (y : B) : result x y = wgrad x y := by
  funext i
  obtain ⟨i, j, rfl⟩ := ix2_of (a := 2048) (b := 3328) i
  pointwise [result, wgrad, rowCol, mul_comm (G := EReal)]

end Cert.ProjDwReferenceIdeal.Stage

namespace Cert.Proof

open Idealize.ShloMosaic Idealize.SL.Sem
open Cert.ProjDwIdeal.Value (argA argB wgrad final)
open Cert.ProjDwReferenceIdeal.Stage (result_eq)

/-- From the same arguments, both programs end with the gradient of the projection's weights. -/
theorem projection_weight_gradient : Cert.algebraic_ProjDwIdeal_ProjDwReferenceIdeal := by
  intro m g m' g' _ hargs
  refine ⟨fun c => wgrad (argA m c) (argB m c), ?_, ?_⟩
  · refine (θ_run _ _ _).mono (fun r h c => ?_) (Cert.ProjDwIdeal.Value.run_blocks m g)
    obtain ⟨h0, ha⟩ := h c
    exact ⟨h0.trans (final m c), ha⟩
  · refine (θ_run _ _ _).mono (fun r h c => ?_) (Cert.ProjDwReferenceIdeal.Value.run m' g')
    obtain ⟨h0, ha⟩ := h c
    obtain ⟨e0, e1⟩ := hargs c
    refine ⟨h0.trans ?_, ha⟩
    exact (result_eq _ _).trans (congrArg₂ wgrad e0 e1)

end Cert.Proof

end
-- ==== Proof.MixDxEquation.lean ====
/- The cotangent of the rows entering the mixer's last projection: rows of the projection's cotangent by rows of the weights. -/
module

public import proofs.«01_k».proof.Defs
public import proofs.«01_k».proof.Proof.Product
public import proofs.«01_k».proof.Proof.Gen.MixDxIdeal.Value
public import proofs.«01_k».proof.Proof.Gen.MixDxReferenceIdeal.Run
public import Idealize.ShloMosaic.Lib.Claim
public import Idealize.ShloMosaic.Lib.Pipeline.ValueKit

@[expose] public section

set_option maxRecDepth 16384

noncomputable section

namespace Cert.MixDxIdeal.Value

open Cert.MixDxIdeal Cert.MixDxIdeal.Gen Cert.Product Idealize.ShloMosaic
open Idealize.ShloMosaic.TcCoe Idealize.SL.Sem

abbrev A := FVec Ideal S4096x2048 .bf16
abbrev B := FVec Ideal S2048x2048 .bf16
abbrev O := FVec Ideal S4096x2048 .bf16

/-- The rows' cotangent, from the projection's cotangent and the weights. -/
def backRows (x : A) (y : B) : O := rowRow .bf16 x y

/-- What one grid point computes of the blocks it reads. -/
theorem point_at (x : FVec Ideal S512x2048 .bf16) (y : FVec Ideal S2048x2048 .bf16) (i : Fin 512) (j : Fin 2048) :
    k0_pay1 (F := Ideal) x y (ix2 i j) = (∑ k : Fin 2048, x (ix2 i k) * y (ix2 j k) : EReal) := by
  pointwise [k0_pay1]

variable (m : (ℓ : Loc nD τ sig) → Buf (Elt Ideal) ℓ) (c : Dev nD)

/-- The argument arrays. -/
abbrev argA : A := m ((c.tc : Thread nD τ).loc main_arg0)
abbrev argB : B := m ((c.tc : Thread nD τ).loc main_arg1)

/-- Which block each window is at, at a point. -/
theorem idx_val : ∀ t : Fin cfg0.N, win0_0.index t = ![t.val, 0] ∧ win0_1.index t = ![0, 0] ∧ win0_2.index t = ![t.val, 0] :=
  (by decide +kernel : ∀ t : Fin grid0.N, _)

theorem point_lt (t : Fin cfg0.N) : t.val < 8 := Nat.lt_of_lt_of_eq t.isLt N_0

/-- Row `i` and column `j` of the block of a point. -/
def rowOf (t : Fin cfg0.N) (i : Fin 512) : Fin 4096 := ⟨t.val * 512 + i.val, by have := point_lt t; omega⟩
def colOf (_t : Fin cfg0.N) (j : Fin 2048) : Fin 2048 := j

abbrev blkA (t : Fin cfg0.N) : FVec Ideal S512x2048 .bf16 := iblk m c 0 t
abbrev blkB (t : Fin cfg0.N) : FVec Ideal S2048x2048 .bf16 := iblk m c 1 t

theorem blkA_at (t : Fin cfg0.N) (i : Fin 512) (k : Fin 2048) : blkA m c t (ix2 i k) = argA m c (ix2 (rowOf t i) k) := by
  unfold rowOf; blk_ext! [iblk, V, idx_val t]
theorem blkB_at (t : Fin cfg0.N) (j : Fin 2048) (k : Fin 2048) : blkB m c t (ix2 j k) = argB m c (ix2 (colOf t j) k) := by
  unfold colOf; blk_ext! [iblk, V, idx_val t]

/-- The kernel's array. -/
theorem final : (dats m 0 c).arrAt 2 cfg0.N = backRows (argA m c) (argB m c) := by
  refine (dats m 0 c).arrAt_eq_of_covers 2 _ (by decide +kernel) fun t hf y => ?_
  blk_simp [idx_val t]
  rw [after0_2]
  obtain ⟨i, j, rfl⟩ := ix2_of (a := 512) (b := 2048) y
  have e0 : (win0_2.blk t).view.emb (ix2 i j) 0 = rowOf t i := Fin.ext (by simp [rowOf, idx_val t])
  have e1 : (win0_2.blk t).view.emb (ix2 i j) 1 = colOf t j := Fin.ext (by simp [colOf, idx_val t])
  unfold backRows rowRow
  rw [e0, e1]
  unfold out0_2
  frame_out
  refine (point_at (blkA m c t) (blkB m c t) i j).trans (Finset.sum_congr rfl fun k _ => ?_)
  rw [blkA_at, blkB_at]

end Cert.MixDxIdeal.Value

namespace Cert.MixDxReferenceIdeal.Stage

open Cert.MixDxReferenceIdeal Cert.MixDxReferenceIdeal.Gen Cert.Product Idealize.ShloMosaic Cert.MixDxIdeal.Value
open Idealize.ShloMosaic.TcCoe Idealize.SL.Sem

/-- The reference's array, of its arguments. -/
def result (x : A) (y : B) : O :=
  truncf .bf16 (Host.dotGeneral dot_S4096x2048_S2048x2048_S4096x2048_1_1_0_0_n_n none (extf .f32 (x : FVec Ideal S4096x2048 .bf16) bitsLt_bf16_f32)
    (extf .f32 (y : FVec Ideal S2048x2048 .bf16) bitsLt_bf16_f32)) bitsLt_bf16_f32

theorem result_eq (x : A) (y : B) : result x y = backRows x y := by
  funext i
  obtain ⟨i, j, rfl⟩ := ix2_of (a := 4096) (b := 2048) i
  pointwise [result, backRows, rowRow]

end Cert.MixDxReferenceIdeal.Stage

namespace Cert.Proof

open Idealize.ShloMosaic Idealize.SL.Sem
open Cert.MixDxIdeal.Value (argA argB backRows final)
open Cert.MixDxReferenceIdeal.Stage (result_eq)

/-- From the same arguments, both programs end with the cotangent of the mixed rows. -/
theorem mixed_rows_gradient : Cert.algebraic_MixDxIdeal_MixDxReferenceIdeal := by
  intro m g m' g' _ hargs
  refine ⟨fun c => backRows (argA m c) (argB m c), ?_, ?_⟩
  · refine (θ_run _ _ _).mono (fun r h c => ?_) (Cert.MixDxIdeal.Value.run_blocks m g)
    obtain ⟨h0, ha⟩ := h c
    exact ⟨h0.trans (final m c), ha⟩
  · refine (θ_run _ _ _).mono (fun r h c => ?_) (Cert.MixDxReferenceIdeal.Value.run m' g')
    obtain ⟨h0, ha⟩ := h c
    obtain ⟨e0, e1⟩ := hargs c
    refine ⟨h0.trans ?_, ha⟩
    exact (result_eq _ _).trans (congrArg₂ backRows e0 e1)

end Cert.Proof

end
-- ==== Proof.MixDwEquation.lean ====
/- The gradient of the weights of the mixer's last projection, summed over slices of the rows: columns of the rows by columns of
   the projection's cotangent. -/
module

public import proofs.«01_k».proof.Defs
public import proofs.«01_k».proof.Proof.Product
public import proofs.«01_k».proof.Proof.Gen.MixDwIdeal.Value
public import proofs.«01_k».proof.Proof.Gen.MixDwReferenceIdeal.Run
public import Idealize.ShloMosaic.Lib.Claim
public import Idealize.ShloMosaic.Lib.Pipeline.ValueKit
public import Idealize.ShloMosaic.Lib.Pipeline.ReadBack

@[expose] public section

set_option maxRecDepth 16384

noncomputable section

namespace Cert.MixDwIdeal.Value

open Cert.MixDwIdeal Cert.MixDwIdeal.Gen Cert.Product Idealize.ShloMosaic
open Idealize.ShloMosaic.TcCoe Idealize.SL.Sem

abbrev A := FVec Ideal S4096x2048 .bf16
abbrev B := FVec Ideal S4096x2048 .bf16
abbrev O := FVec Ideal S2048x2048 .bf16

/-- The weights' gradient, from the rows and the projection's cotangent. -/
def wgrad (x : A) (y : B) : O := colCol .bf16 x y

section
variable (x : FVec Ideal S512x1024 .bf16) (y : FVec Ideal S512x1024 .bf16) (i : Fin 1024) (j : Fin 1024)

/-- What one slice of the rows adds. -/
def share : EReal := ∑ k : Fin 512, x (ix2 k i) * y (ix2 k j)

theorem prod_at : k0_pay1 (F := Ideal) x y (ix2 i j) = share x y i j := by pointwise [k0_pay1, share]
theorem share_at : k0_pay2 (F := Ideal) x y (ix2 i j) = share x y i j := by pointwise [k0_pay2, prod_at]
theorem add_at (p : FVec Ideal S1024x1024 .f32) : k0_pay3 (F := Ideal) x y p (ix2 i j) = p (ix2 i j) + share x y i j := by
  pointwise [k0_pay3, prod_at]

end

variable (m : (ℓ : Loc nD τ sig) → Buf (Elt Ideal) ℓ) (c : Dev nD)

/-- The argument arrays. -/
abbrev argA : A := m ((c.tc : Thread nD τ).loc main_arg0)
abbrev argB : B := m ((c.tc : Thread nD τ).loc main_arg1)

/-- The blocks of a point. -/
abbrev blkA (t : Fin cfg0.N) : FVec Ideal S512x1024 .bf16 := iblk m c 0 t
abbrev blkB (t : Fin cfg0.N) : FVec Ideal S512x1024 .bf16 := iblk m c 1 t

/-- The running sum: started at a tile's first slice, added to at the others. -/
theorem sum_first (t : Fin cfg0.N) (h0 : t.val % 8 = 0) (i : Fin 1024) (j : Fin 1024) :
    ((outsAt0 m c t.val t.isLt).2 (ix2 i j) : EReal) = share (blkA m c t) (blkB m c t) i j := by
  refine Eq.trans ?_ (share_at _ _ i j)
  rw [outsAt0_A m c t h0 (by omega) (by omega)]; dsimp only; frame_open; frame_out

theorem sum_next (t : Fin cfg0.N) (h0 : ¬t.val % 8 = 0) (i : Fin 1024) (j : Fin 1024) :
    ((outsAt0 m c t.val t.isLt).2 (ix2 i j) : EReal)
      = (outsAt0 m c (t.val - 1) (Nat.lt_of_le_of_lt (Nat.sub_le _ _) t.isLt)).2 (ix2 i j) + share (blkA m c t) (blkB m c t) i j := by
  refine Eq.trans ?_ (add_at _ _ i j _)
  by_cases h2 : t.val % 8 = 7
  · rw [outsAt0_C m c t h0 (by omega) h2]; dsimp only; frame_open; frame_out; rw [read_unread_whole]
  · rw [outsAt0_B m c t h0 (by omega) h2]; dsimp only; frame_open; frame_out; rw [read_unread_whole]

/-- At a tile's last slice the sum is the tile's result. -/
theorem res_point (t : Fin cfg0.N) (h2 : t.val % 8 = 7) (i : Fin 1024) (j : Fin 1024) :
    ((outsAt0 m c t.val t.isLt).1 (ix2 i j) : EReal) = (outsAt0 m c t.val t.isLt).2 (ix2 i j) := by
  rw [outsAt0_C m c t (by omega) (by omega) h2]; dsimp only; frame_open; frame_out
  pointwise [k0_pay4]

/-- Which block each window is at, at a point. -/
theorem idx_val : ∀ t : Fin cfg0.N, win0_0.index t = ![t.val % 8, t.val / 16] ∧ win0_1.index t = ![t.val % 8, t.val / 8 % 2] ∧ win0_2.index t = ![t.val / 16, t.val / 8 % 2] :=
  (by decide +kernel : ∀ t : Fin grid0.N, _)

theorem point_lt (t : Fin cfg0.N) : t.val < 32 := Nat.lt_of_lt_of_eq t.isLt N_0

/-- Row `i` and column `j` of the tile of a point, and row `k` of its slice. -/
def rowOf (t : Fin cfg0.N) (i : Fin 1024) : Fin 2048 := ⟨t.val / 16 * 1024 + i.val, by have := point_lt t; omega⟩
def colOf (t : Fin cfg0.N) (j : Fin 1024) : Fin 2048 := ⟨t.val / 8 % 2 * 1024 + j.val, by have := point_lt t; omega⟩
def sliceOf (t : Fin cfg0.N) (k : Fin 512) : Fin (8 * 512) := ⟨t.val % 8 * 512 + k.val, by omega⟩

theorem blkA_at (t : Fin cfg0.N) (i : Fin 1024) (k : Fin 512) : blkA m c t (ix2 k i) = argA m c (ix2 (sliceOf t k) (rowOf t i)) := by
  unfold rowOf sliceOf; blk_ext! [iblk, V, idx_val t]
theorem blkB_at (t : Fin cfg0.N) (j : Fin 1024) (k : Fin 512) : blkB m c t (ix2 k j) = argB m c (ix2 (sliceOf t k) (colOf t j)) := by
  unfold colOf sliceOf; blk_ext! [iblk, V, idx_val t]

/-- The kernel's array. -/
theorem final : (dats m 0 c).arrAt 2 cfg0.N = wgrad (argA m c) (argB m c) := by
  refine (dats m 0 c).arrAt_eq_of_covers 2 _ (by decide +kernel) fun t hf y => ?_
  blk_simp [idx_val t]
  rw [after0_2]
  have h7 : t.val % 8 = 7 := (flush0_2 t).mp hf
  obtain ⟨i, j, rfl⟩ := ix2_of (a := 1024) (b := 1024) y
  have e0 : (win0_2.blk t).view.emb (ix2 i j) 0 = rowOf t i := Fin.ext (by simp [rowOf, idx_val t])
  have e1 : (win0_2.blk t).view.emb (ix2 i j) 1 = colOf t j := Fin.ext (by simp [colOf, idx_val t])
  unfold wgrad colCol
  rw [e0, e1, res_point m c t h7 i j]
  refine (Pipeline.eq_sum_fin_of_reset_step_apply_of_flush (M := EReal) (ι := Fin 1024 × Fin 1024)
    (fun n h i => (outsAt0 m c n h).2 (ix2 i.1 i.2)) 8 (fun _ => 0)
    (fun t i => share (blkA m c t) (blkB m c t) i.1 i.2)
    (fun t h i => (sum_first m c t h i.1 i.2).trans (zero_add (M := EReal) _).symm)
    (fun t h i => sum_next m c t h i.1 i.2) t h7 (i, j)).trans ?_
  refine (zero_add (M := EReal) _).trans ?_
  refine Eq.trans (Finset.sum_congr rfl fun s _ => Finset.sum_congr rfl fun k _ => ?_)
    (sum_slices (n := 512) (fun k : Fin (8 * 512) => (argA m c (ix2 k (rowOf t i)) * argB m c (ix2 k (colOf t j)) : EReal)))
  have es : sliceOf ⟨8 * (t.val / 8) + s.val, Pipeline.run_point_lt_of_flush t h7 s⟩ k = slice s k := Fin.ext (by simp only [sliceOf, slice]; omega)
  have er : rowOf ⟨8 * (t.val / 8) + s.val, Pipeline.run_point_lt_of_flush t h7 s⟩ i = rowOf t i := Fin.ext (by simp only [rowOf]; omega)
  have ec : colOf ⟨8 * (t.val / 8) + s.val, Pipeline.run_point_lt_of_flush t h7 s⟩ j = colOf t j := Fin.ext (by simp only [colOf]; omega)
  rw [blkA_at, blkB_at, es, er, ec]

end Cert.MixDwIdeal.Value

namespace Cert.MixDwReferenceIdeal.Stage

open Cert.MixDwReferenceIdeal Cert.MixDwReferenceIdeal.Gen Cert.Product Idealize.ShloMosaic Cert.MixDwIdeal.Value
open Idealize.ShloMosaic.TcCoe Idealize.SL.Sem

/-- The reference's array, of its arguments. -/
def result (x : A) (y : B) : O :=
  truncf .bf16 (transpose S2048x2048 [1, 0] (Host.dotGeneral dot_S4096x2048_S4096x2048_S2048x2048_0_0_1_1_n_n none
    (extf .f32 (y : FVec Ideal S4096x2048 .bf16) bitsLt_bf16_f32)
    (extf .f32 (x : FVec Ideal S4096x2048 .bf16) bitsLt_bf16_f32))
    transposes_S2048x2048_S2048x2048_1_0) bitsLt_bf16_f32

theorem result_eq (x : A) (y : B) : result x y = wgrad x y := by
  funext i
  obtain ⟨i, j, rfl⟩ := ix2_of (a := 2048) (b := 2048) i
  pointwise [result, wgrad, colCol, mul_comm (G := EReal)]

end Cert.MixDwReferenceIdeal.Stage

namespace Cert.Proof

open Idealize.ShloMosaic Idealize.SL.Sem
open Cert.MixDwIdeal.Value (argA argB wgrad final)
open Cert.MixDwReferenceIdeal.Stage (result_eq)

/-- From the same arguments, both programs end with the gradient of the projection's weights. -/
theorem mixed_weight_gradient : Cert.algebraic_MixDwIdeal_MixDwReferenceIdeal := by
  intro m g m' g' _ hargs
  refine ⟨fun c => wgrad (argA m c) (argB m c), ?_, ?_⟩
  · refine (θ_run _ _ _).mono (fun r h c => ?_) (Cert.MixDwIdeal.Value.run_blocks m g)
    obtain ⟨h0, ha⟩ := h c
    exact ⟨h0.trans (final m c), ha⟩
  · refine (θ_run _ _ _).mono (fun r h c => ?_) (Cert.MixDwReferenceIdeal.Value.run m' g')
    obtain ⟨h0, ha⟩ := h c
    obtain ⟨e0, e1⟩ := hargs c
    refine ⟨h0.trans ?_, ha⟩
    exact (result_eq _ _).trans (congrArg₂ wgrad e0 e1)

end Cert.Proof

end
-- ==== Proof.ProjEquation.lean ====
/- The mixer's first projection: rows by columns of the weights. -/
module

public import proofs.«01_k».proof.Defs
public import proofs.«01_k».proof.Proof.Product
public import proofs.«01_k».proof.Proof.Gen.ProjIdeal.Value
public import proofs.«01_k».proof.Proof.Gen.ProjReferenceIdeal.Run
public import Idealize.ShloMosaic.Lib.Claim
public import Idealize.ShloMosaic.Lib.Pipeline.ValueKit

@[expose] public section

set_option maxRecDepth 16384

noncomputable section

namespace Cert.ProjIdeal.Value

open Cert.ProjIdeal Cert.ProjIdeal.Gen Cert.Product Idealize.ShloMosaic
open Idealize.ShloMosaic.TcCoe Idealize.SL.Sem

abbrev A := FVec Ideal S4096x2048 .bf16
abbrev B := FVec Ideal S2048x3328 .bf16
abbrev O := FVec Ideal S4096x3328 .f32

/-- The projected rows. -/
def project (x : A) (y : B) : O := rowCol .f32 x y

/-- What one grid point computes of the blocks it reads. -/
theorem point_at (x : FVec Ideal S512x2048 .bf16) (y : FVec Ideal S2048x1664 .bf16) (i : Fin 512) (j : Fin 1664) :
    k0_pay1 (F := Ideal) x y (ix2 i j) = (∑ k : Fin 2048, x (ix2 i k) * y (ix2 k j) : EReal) := by
  pointwise [k0_pay1]

variable (m : (ℓ : Loc nD τ sig) → Buf (Elt Ideal) ℓ) (c : Dev nD)

/-- The argument arrays. -/
abbrev argA : A := m ((c.tc : Thread nD τ).loc main_arg0)
abbrev argB : B := m ((c.tc : Thread nD τ).loc main_arg1)

/-- Which block each window is at, at a point. -/
theorem idx_val : ∀ t : Fin cfg0.N, win0_0.index t = ![t.val % 8, 0] ∧ win0_1.index t = ![0, t.val / 8] ∧ win0_2.index t = ![t.val % 8, t.val / 8] :=
  (by decide +kernel : ∀ t : Fin grid0.N, _)

theorem point_lt (t : Fin cfg0.N) : t.val < 16 := Nat.lt_of_lt_of_eq t.isLt N_0

/-- Row `i` and column `j` of the block of a point. -/
def rowOf (t : Fin cfg0.N) (i : Fin 512) : Fin 4096 := ⟨t.val % 8 * 512 + i.val, by have := point_lt t; omega⟩
def colOf (t : Fin cfg0.N) (j : Fin 1664) : Fin 3328 := ⟨t.val / 8 * 1664 + j.val, by have := point_lt t; omega⟩

abbrev blkA (t : Fin cfg0.N) : FVec Ideal S512x2048 .bf16 := iblk m c 0 t
abbrev blkB (t : Fin cfg0.N) : FVec Ideal S2048x1664 .bf16 := iblk m c 1 t

theorem blkA_at (t : Fin cfg0.N) (i : Fin 512) (k : Fin 2048) : blkA m c t (ix2 i k) = argA m c (ix2 (rowOf t i) k) := by
  unfold rowOf; blk_ext! [iblk, V, idx_val t]
theorem blkB_at (t : Fin cfg0.N) (j : Fin 1664) (k : Fin 2048) : blkB m c t (ix2 k j) = argB m c (ix2 k (colOf t j)) := by
  unfold colOf; blk_ext! [iblk, V, idx_val t]

/-- The kernel's array. -/
theorem final : (dats m 0 c).arrAt 2 cfg0.N = project (argA m c) (argB m c) := by
  refine (dats m 0 c).arrAt_eq_of_covers 2 _ (by decide +kernel) fun t hf y => ?_
  blk_simp [idx_val t]
  rw [after0_2]
  obtain ⟨i, j, rfl⟩ := ix2_of (a := 512) (b := 1664) y
  have e0 : (win0_2.blk t).view.emb (ix2 i j) 0 = rowOf t i := Fin.ext (by simp [rowOf, idx_val t])
  have e1 : (win0_2.blk t).view.emb (ix2 i j) 1 = colOf t j := Fin.ext (by simp [colOf, idx_val t])
  unfold project rowCol
  rw [e0, e1]
  unfold out0_2
  frame_out
  refine (point_at (blkA m c t) (blkB m c t) i j).trans (Finset.sum_congr rfl fun k _ => ?_)
  rw [blkA_at, blkB_at]

end Cert.ProjIdeal.Value

namespace Cert.ProjReferenceIdeal.Stage

open Cert.ProjReferenceIdeal Cert.ProjReferenceIdeal.Gen Cert.Product Idealize.ShloMosaic Cert.ProjIdeal.Value
open Idealize.ShloMosaic.TcCoe Idealize.SL.Sem

/-- The reference's array, of its arguments. -/
def result (x : A) (y : B) : O :=
  Host.dotGeneral dot_S4096x2048_S2048x3328_S4096x3328_1_0_0_1_n_n none (extf .f32 (x : FVec Ideal S4096x2048 .bf16) bitsLt_bf16_f32)
    (extf .f32 (y : FVec Ideal S2048x3328 .bf16) bitsLt_bf16_f32)

theorem result_eq (x : A) (y : B) : result x y = project x y := by
  funext i
  obtain ⟨i, j, rfl⟩ := ix2_of (a := 4096) (b := 3328) i
  pointwise [result, project, rowCol]

end Cert.ProjReferenceIdeal.Stage

namespace Cert.Proof

open Idealize.ShloMosaic Idealize.SL.Sem
open Cert.ProjIdeal.Value (argA argB project final)
open Cert.ProjReferenceIdeal.Stage (result_eq)

/-- From the same arguments, both programs end with the projected rows. -/
theorem projection : Cert.algebraic_ProjIdeal_ProjReferenceIdeal := by
  intro m g m' g' _ hargs
  refine ⟨fun c => project (argA m c) (argB m c), ?_, ?_⟩
  · refine (θ_run _ _ _).mono (fun r h c => ?_) (Cert.ProjIdeal.Value.run_blocks m g)
    obtain ⟨h0, ha⟩ := h c
    exact ⟨h0.trans (final m c), ha⟩
  · refine (θ_run _ _ _).mono (fun r h c => ?_) (Cert.ProjReferenceIdeal.Value.run m' g')
    obtain ⟨h0, ha⟩ := h c
    obtain ⟨e0, e1⟩ := hargs c
    refine ⟨h0.trans ?_, ha⟩
    exact (result_eq _ _).trans (congrArg₂ project e0 e1)

end Cert.Proof

end
-- ==== Proof.MixEquation.lean ====
/- The mixer's last projection: rows by columns of the weights. -/
module

public import proofs.«01_k».proof.Defs
public import proofs.«01_k».proof.Proof.Product
public import proofs.«01_k».proof.Proof.Gen.MixIdeal.Value
public import proofs.«01_k».proof.Proof.Gen.MixReferenceIdeal.Run
public import Idealize.ShloMosaic.Lib.Claim
public import Idealize.ShloMosaic.Lib.Pipeline.ValueKit

@[expose] public section

set_option maxRecDepth 16384

noncomputable section

namespace Cert.MixIdeal.Value

open Cert.MixIdeal Cert.MixIdeal.Gen Cert.Product Idealize.ShloMosaic
open Idealize.ShloMosaic.TcCoe Idealize.SL.Sem

abbrev A := FVec Ideal S4096x2048 .bf16
abbrev B := FVec Ideal S2048x2048 .bf16
abbrev O := FVec Ideal S4096x2048 .f32

/-- The projected rows. -/
def project (x : A) (y : B) : O := rowCol .f32 x y

/-- What one grid point computes of the blocks it reads. -/
theorem point_at (x : FVec Ideal S512x2048 .bf16) (y : FVec Ideal S2048x2048 .bf16) (i : Fin 512) (j : Fin 2048) :
    k0_pay1 (F := Ideal) x y (ix2 i j) = (∑ k : Fin 2048, x (ix2 i k) * y (ix2 k j) : EReal) := by
  pointwise [k0_pay1]

variable (m : (ℓ : Loc nD τ sig) → Buf (Elt Ideal) ℓ) (c : Dev nD)

/-- The argument arrays. -/
abbrev argA : A := m ((c.tc : Thread nD τ).loc main_arg0)
abbrev argB : B := m ((c.tc : Thread nD τ).loc main_arg1)

/-- Which block each window is at, at a point. -/
theorem idx_val : ∀ t : Fin cfg0.N, win0_0.index t = ![t.val, 0] ∧ win0_1.index t = ![0, 0] ∧ win0_2.index t = ![t.val, 0] :=
  (by decide +kernel : ∀ t : Fin grid0.N, _)

theorem point_lt (t : Fin cfg0.N) : t.val < 8 := Nat.lt_of_lt_of_eq t.isLt N_0

/-- Row `i` and column `j` of the block of a point. -/
def rowOf (t : Fin cfg0.N) (i : Fin 512) : Fin 4096 := ⟨t.val * 512 + i.val, by have := point_lt t; omega⟩
def colOf (_t : Fin cfg0.N) (j : Fin 2048) : Fin 2048 := j

abbrev blkA (t : Fin cfg0.N) : FVec Ideal S512x2048 .bf16 := iblk m c 0 t
abbrev blkB (t : Fin cfg0.N) : FVec Ideal S2048x2048 .bf16 := iblk m c 1 t

theorem blkA_at (t : Fin cfg0.N) (i : Fin 512) (k : Fin 2048) : blkA m c t (ix2 i k) = argA m c (ix2 (rowOf t i) k) := by
  unfold rowOf; blk_ext! [iblk, V, idx_val t]
theorem blkB_at (t : Fin cfg0.N) (j : Fin 2048) (k : Fin 2048) : blkB m c t (ix2 k j) = argB m c (ix2 k (colOf t j)) := by
  unfold colOf; blk_ext! [iblk, V, idx_val t]

/-- The kernel's array. -/
theorem final : (dats m 0 c).arrAt 2 cfg0.N = project (argA m c) (argB m c) := by
  refine (dats m 0 c).arrAt_eq_of_covers 2 _ (by decide +kernel) fun t hf y => ?_
  blk_simp [idx_val t]
  rw [after0_2]
  obtain ⟨i, j, rfl⟩ := ix2_of (a := 512) (b := 2048) y
  have e0 : (win0_2.blk t).view.emb (ix2 i j) 0 = rowOf t i := Fin.ext (by simp [rowOf, idx_val t])
  have e1 : (win0_2.blk t).view.emb (ix2 i j) 1 = colOf t j := Fin.ext (by simp [colOf, idx_val t])
  unfold project rowCol
  rw [e0, e1]
  unfold out0_2
  frame_out
  refine (point_at (blkA m c t) (blkB m c t) i j).trans (Finset.sum_congr rfl fun k _ => ?_)
  rw [blkA_at, blkB_at]

end Cert.MixIdeal.Value

namespace Cert.MixReferenceIdeal.Stage

open Cert.MixReferenceIdeal Cert.MixReferenceIdeal.Gen Cert.Product Idealize.ShloMosaic Cert.MixIdeal.Value
open Idealize.ShloMosaic.TcCoe Idealize.SL.Sem

/-- The reference's array, of its arguments. -/
def result (x : A) (y : B) : O :=
  Host.dotGeneral dot_S4096x2048_S2048x2048_S4096x2048_1_0_0_1_n_n none (extf .f32 (x : FVec Ideal S4096x2048 .bf16) bitsLt_bf16_f32)
    (extf .f32 (y : FVec Ideal S2048x2048 .bf16) bitsLt_bf16_f32)

theorem result_eq (x : A) (y : B) : result x y = project x y := by
  funext i
  obtain ⟨i, j, rfl⟩ := ix2_of (a := 4096) (b := 2048) i
  pointwise [result, project, rowCol]

end Cert.MixReferenceIdeal.Stage

namespace Cert.Proof

open Idealize.ShloMosaic Idealize.SL.Sem
open Cert.MixIdeal.Value (argA argB project final)
open Cert.MixReferenceIdeal.Stage (result_eq)

/-- From the same arguments, both programs end with the projected rows. -/
theorem mixed_projection : Cert.algebraic_MixIdeal_MixReferenceIdeal := by
  intro m g m' g' _ hargs
  refine ⟨fun c => project (argA m c) (argB m c), ?_, ?_⟩
  · refine (θ_run _ _ _).mono (fun r h c => ?_) (Cert.MixIdeal.Value.run_blocks m g)
    obtain ⟨h0, ha⟩ := h c
    exact ⟨h0.trans (final m c), ha⟩
  · refine (θ_run _ _ _).mono (fun r h c => ?_) (Cert.MixReferenceIdeal.Value.run m' g')
    obtain ⟨h0, ha⟩ := h c
    obtain ⟨e0, e1⟩ := hargs c
    refine ⟨h0.trans ?_, ha⟩
    exact (result_eq _ _).trans (congrArg₂ project e0 e1)

end Cert.Proof

end
-- ==== Proof.XDhEquation.lean ====
/- The cotangent of the rows entering the cross-attention's query projection: rows of the queries' cotangent by rows of the weights. -/
module

public import proofs.«01_k».proof.Defs
public import proofs.«01_k».proof.Proof.Product
public import proofs.«01_k».proof.Proof.Gen.XDhIdeal.Value
public import proofs.«01_k».proof.Proof.Gen.XDhReferenceIdeal.Run
public import Idealize.ShloMosaic.Lib.Claim
public import Idealize.ShloMosaic.Lib.Pipeline.ValueKit

@[expose] public section

set_option maxRecDepth 16384

noncomputable section

namespace Cert.XDhIdeal.Value

open Cert.XDhIdeal Cert.XDhIdeal.Gen Cert.Product Idealize.ShloMosaic
open Idealize.ShloMosaic.TcCoe Idealize.SL.Sem

abbrev A := FVec Ideal S4096x512 .bf16
abbrev B := FVec Ideal S2048x512 .bf16
abbrev O := FVec Ideal S4096x2048 .f32

/-- The rows' cotangent, from the queries' cotangent and the weights. -/
def backRows (x : A) (y : B) : O := rowRow .f32 x y

/-- What one grid point computes of the blocks it reads. -/
theorem point_at (x : FVec Ideal S512x512 .bf16) (y : FVec Ideal S2048x512 .bf16) (i : Fin 512) (j : Fin 2048) :
    k0_pay1 (F := Ideal) x y (ix2 i j) = (∑ k : Fin 512, x (ix2 i k) * y (ix2 j k) : EReal) := by
  pointwise [k0_pay1]

variable (m : (ℓ : Loc nD τ sig) → Buf (Elt Ideal) ℓ) (c : Dev nD)

/-- The argument arrays. -/
abbrev argA : A := m ((c.tc : Thread nD τ).loc main_arg0)
abbrev argB : B := m ((c.tc : Thread nD τ).loc main_arg1)

/-- Which block each window is at, at a point. -/
theorem idx_val : ∀ t : Fin cfg0.N, win0_0.index t = ![t.val, 0] ∧ win0_1.index t = ![0, 0] ∧ win0_2.index t = ![t.val, 0] :=
  (by decide +kernel : ∀ t : Fin grid0.N, _)

theorem point_lt (t : Fin cfg0.N) : t.val < 8 := Nat.lt_of_lt_of_eq t.isLt N_0

/-- Row `i` and column `j` of the block of a point. -/
def rowOf (t : Fin cfg0.N) (i : Fin 512) : Fin 4096 := ⟨t.val * 512 + i.val, by have := point_lt t; omega⟩
def colOf (_t : Fin cfg0.N) (j : Fin 2048) : Fin 2048 := j

abbrev blkA (t : Fin cfg0.N) : FVec Ideal S512x512 .bf16 := iblk m c 0 t
abbrev blkB (t : Fin cfg0.N) : FVec Ideal S2048x512 .bf16 := iblk m c 1 t

theorem blkA_at (t : Fin cfg0.N) (i : Fin 512) (k : Fin 512) : blkA m c t (ix2 i k) = argA m c (ix2 (rowOf t i) k) := by
  unfold rowOf; blk_ext! [iblk, V, idx_val t]
theorem blkB_at (t : Fin cfg0.N) (j : Fin 2048) (k : Fin 512) : blkB m c t (ix2 j k) = argB m c (ix2 (colOf t j) k) := by
  unfold colOf; blk_ext! [iblk, V, idx_val t]

/-- The kernel's array. -/
theorem final : (dats m 0 c).arrAt 2 cfg0.N = backRows (argA m c) (argB m c) := by
  refine (dats m 0 c).arrAt_eq_of_covers 2 _ (by decide +kernel) fun t hf y => ?_
  blk_simp [idx_val t]
  rw [after0_2]
  obtain ⟨i, j, rfl⟩ := ix2_of (a := 512) (b := 2048) y
  have e0 : (win0_2.blk t).view.emb (ix2 i j) 0 = rowOf t i := Fin.ext (by simp [rowOf, idx_val t])
  have e1 : (win0_2.blk t).view.emb (ix2 i j) 1 = colOf t j := Fin.ext (by simp [colOf, idx_val t])
  unfold backRows rowRow
  rw [e0, e1]
  unfold out0_2
  frame_out
  refine (point_at (blkA m c t) (blkB m c t) i j).trans (Finset.sum_congr rfl fun k _ => ?_)
  rw [blkA_at, blkB_at]

end Cert.XDhIdeal.Value

namespace Cert.XDhReferenceIdeal.Stage

open Cert.XDhReferenceIdeal Cert.XDhReferenceIdeal.Gen Cert.Product Idealize.ShloMosaic Cert.XDhIdeal.Value
open Idealize.ShloMosaic.TcCoe Idealize.SL.Sem

/-- The reference's array, of its arguments. -/
def result (x : A) (y : B) : O :=
  Host.dotGeneral dot_S4096x512_S2048x512_S4096x2048_1_1_0_0_n_n none (extf .f32 (x : FVec Ideal S4096x512 .bf16) bitsLt_bf16_f32)
    (extf .f32 (y : FVec Ideal S2048x512 .bf16) bitsLt_bf16_f32)

theorem result_eq (x : A) (y : B) : result x y = backRows x y := by
  funext i
  obtain ⟨i, j, rfl⟩ := ix2_of (a := 4096) (b := 2048) i
  pointwise [result, backRows, rowRow]

end Cert.XDhReferenceIdeal.Stage

namespace Cert.Proof

open Idealize.ShloMosaic Idealize.SL.Sem
open Cert.XDhIdeal.Value (argA argB backRows final)
open Cert.XDhReferenceIdeal.Stage (result_eq)

/-- From the same arguments, both programs end with the cotangent of the rows. -/
theorem query_rows_gradient : Cert.algebraic_XDhIdeal_XDhReferenceIdeal := by
  intro m g m' g' _ hargs
  refine ⟨fun c => backRows (argA m c) (argB m c), ?_, ?_⟩
  · refine (θ_run _ _ _).mono (fun r h c => ?_) (Cert.XDhIdeal.Value.run_blocks m g)
    obtain ⟨h0, ha⟩ := h c
    exact ⟨h0.trans (final m c), ha⟩
  · refine (θ_run _ _ _).mono (fun r h c => ?_) (Cert.XDhReferenceIdeal.Value.run m' g')
    obtain ⟨h0, ha⟩ := h c
    obtain ⟨e0, e1⟩ := hargs c
    refine ⟨h0.trans ?_, ha⟩
    exact (result_eq _ _).trans (congrArg₂ backRows e0 e1)

end Cert.Proof

end
-- ==== Proof.XDoEquation.lean ====
/- The cotangent of the rows entering the cross-attention's last projection: rows of the projection's cotangent by rows of the weights. -/
module

public import proofs.«01_k».proof.Defs
public import proofs.«01_k».proof.Proof.Product
public import proofs.«01_k».proof.Proof.Gen.XDoIdeal.Value
public import proofs.«01_k».proof.Proof.Gen.XDoReferenceIdeal.Run
public import Idealize.ShloMosaic.Lib.Claim
public import Idealize.ShloMosaic.Lib.Pipeline.ValueKit

@[expose] public section

set_option maxRecDepth 16384

noncomputable section

namespace Cert.XDoIdeal.Value

open Cert.XDoIdeal Cert.XDoIdeal.Gen Cert.Product Idealize.ShloMosaic
open Idealize.ShloMosaic.TcCoe Idealize.SL.Sem

abbrev A := FVec Ideal S4096x2048 .bf16
abbrev B := FVec Ideal S512x2048 .bf16
abbrev O := FVec Ideal S4096x512 .bf16

/-- The rows' cotangent, from the projection's cotangent and the weights. -/
def backRows (x : A) (y : B) : O := rowRow .bf16 x y

/-- What one grid point computes of the blocks it reads. -/
theorem point_at (x : FVec Ideal S512x2048 .bf16) (y : FVec Ideal S512x2048 .bf16) (i : Fin 512) (j : Fin 512) :
    k0_pay1 (F := Ideal) x y (ix2 i j) = (∑ k : Fin 2048, x (ix2 i k) * y (ix2 j k) : EReal) := by
  pointwise [k0_pay1]

variable (m : (ℓ : Loc nD τ sig) → Buf (Elt Ideal) ℓ) (c : Dev nD)

/-- The argument arrays. -/
abbrev argA : A := m ((c.tc : Thread nD τ).loc main_arg0)
abbrev argB : B := m ((c.tc : Thread nD τ).loc main_arg1)

/-- Which block each window is at, at a point. -/
theorem idx_val : ∀ t : Fin cfg0.N, win0_0.index t = ![t.val, 0] ∧ win0_1.index t = ![0, 0] ∧ win0_2.index t = ![t.val, 0] :=
  (by decide +kernel : ∀ t : Fin grid0.N, _)

theorem point_lt (t : Fin cfg0.N) : t.val < 8 := Nat.lt_of_lt_of_eq t.isLt N_0

/-- Row `i` and column `j` of the block of a point. -/
def rowOf (t : Fin cfg0.N) (i : Fin 512) : Fin 4096 := ⟨t.val * 512 + i.val, by have := point_lt t; omega⟩
def colOf (_t : Fin cfg0.N) (j : Fin 512) : Fin 512 := j

abbrev blkA (t : Fin cfg0.N) : FVec Ideal S512x2048 .bf16 := iblk m c 0 t
abbrev blkB (t : Fin cfg0.N) : FVec Ideal S512x2048 .bf16 := iblk m c 1 t

theorem blkA_at (t : Fin cfg0.N) (i : Fin 512) (k : Fin 2048) : blkA m c t (ix2 i k) = argA m c (ix2 (rowOf t i) k) := by
  unfold rowOf; blk_ext! [iblk, V, idx_val t]
theorem blkB_at (t : Fin cfg0.N) (j : Fin 512) (k : Fin 2048) : blkB m c t (ix2 j k) = argB m c (ix2 (colOf t j) k) := by
  unfold colOf; blk_ext! [iblk, V, idx_val t]

/-- The kernel's array. -/
theorem final : (dats m 0 c).arrAt 2 cfg0.N = backRows (argA m c) (argB m c) := by
  refine (dats m 0 c).arrAt_eq_of_covers 2 _ (by decide +kernel) fun t hf y => ?_
  blk_simp [idx_val t]
  rw [after0_2]
  obtain ⟨i, j, rfl⟩ := ix2_of (a := 512) (b := 512) y
  have e0 : (win0_2.blk t).view.emb (ix2 i j) 0 = rowOf t i := Fin.ext (by simp [rowOf, idx_val t])
  have e1 : (win0_2.blk t).view.emb (ix2 i j) 1 = colOf t j := Fin.ext (by simp [colOf, idx_val t])
  unfold backRows rowRow
  rw [e0, e1]
  unfold out0_2
  frame_out
  refine (point_at (blkA m c t) (blkB m c t) i j).trans (Finset.sum_congr rfl fun k _ => ?_)
  rw [blkA_at, blkB_at]

end Cert.XDoIdeal.Value

namespace Cert.XDoReferenceIdeal.Stage

open Cert.XDoReferenceIdeal Cert.XDoReferenceIdeal.Gen Cert.Product Idealize.ShloMosaic Cert.XDoIdeal.Value
open Idealize.ShloMosaic.TcCoe Idealize.SL.Sem

/-- The reference's array, of its arguments. -/
def result (x : A) (y : B) : O :=
  truncf .bf16 (Host.dotGeneral dot_S4096x2048_S512x2048_S4096x512_1_1_0_0_n_n none (extf .f32 (x : FVec Ideal S4096x2048 .bf16) bitsLt_bf16_f32)
    (extf .f32 (y : FVec Ideal S512x2048 .bf16) bitsLt_bf16_f32)) bitsLt_bf16_f32

theorem result_eq (x : A) (y : B) : result x y = backRows x y := by
  funext i
  obtain ⟨i, j, rfl⟩ := ix2_of (a := 4096) (b := 512) i
  pointwise [result, backRows, rowRow]

end Cert.XDoReferenceIdeal.Stage

namespace Cert.Proof

open Idealize.ShloMosaic Idealize.SL.Sem
open Cert.XDoIdeal.Value (argA argB backRows final)
open Cert.XDoReferenceIdeal.Stage (result_eq)

/-- From the same arguments, both programs end with the cotangent of the attended rows. -/
theorem attended_rows_gradient : Cert.algebraic_XDoIdeal_XDoReferenceIdeal := by
  intro m g m' g' _ hargs
  refine ⟨fun c => backRows (argA m c) (argB m c), ?_, ?_⟩
  · refine (θ_run _ _ _).mono (fun r h c => ?_) (Cert.XDoIdeal.Value.run_blocks m g)
    obtain ⟨h0, ha⟩ := h c
    exact ⟨h0.trans (final m c), ha⟩
  · refine (θ_run _ _ _).mono (fun r h c => ?_) (Cert.XDoReferenceIdeal.Value.run m' g')
    obtain ⟨h0, ha⟩ := h c
    obtain ⟨e0, e1⟩ := hargs c
    refine ⟨h0.trans ?_, ha⟩
    exact (result_eq _ _).trans (congrArg₂ backRows e0 e1)

end Cert.Proof

end
-- ==== Proof.XDwqEquation.lean ====
/- The gradient of the weights of the cross-attention's query projection, summed over slices of the rows: the transposed rows by
   the queries' cotangent. -/
module

public import proofs.«01_k».proof.Defs
public import proofs.«01_k».proof.Proof.Product
public import proofs.«01_k».proof.Proof.Gen.XDwqIdeal.Value
public import proofs.«01_k».proof.Proof.Gen.XDwqReferenceIdeal.Run
public import Idealize.ShloMosaic.Lib.Claim
public import Idealize.ShloMosaic.Lib.Pipeline.ValueKit
public import Idealize.ShloMosaic.Lib.Pipeline.ReadBack

@[expose] public section

set_option maxRecDepth 16384

noncomputable section

namespace Cert.XDwqIdeal.Value

open Cert.XDwqIdeal Cert.XDwqIdeal.Gen Cert.Product Idealize.ShloMosaic
open Idealize.ShloMosaic.TcCoe Idealize.SL.Sem

abbrev A := FVec Ideal S2048x4096 .bf16
abbrev B := FVec Ideal S4096x512 .bf16
abbrev O := FVec Ideal S2048x512 .bf16

/-- The weights' gradient, from the transposed rows and the queries' cotangent. -/
def wgrad (x : A) (y : B) : O := rowCol .bf16 x y

section
variable (x : FVec Ideal S1024x512 .bf16) (y : FVec Ideal S512x512 .bf16) (i : Fin 1024) (j : Fin 512)

/-- What one slice of the rows adds. -/
def share : EReal := ∑ k : Fin 512, x (ix2 i k) * y (ix2 k j)

theorem prod_at : k0_pay1 (F := Ideal) x y (ix2 i j) = share x y i j := by pointwise [k0_pay1, share]
theorem share_at : k0_pay2 (F := Ideal) x y (ix2 i j) = share x y i j := by pointwise [k0_pay2, prod_at]
theorem add_at (p : FVec Ideal S1024x512 .f32) : k0_pay3 (F := Ideal) x y p (ix2 i j) = p (ix2 i j) + share x y i j := by
  pointwise [k0_pay3, prod_at]

end

variable (m : (ℓ : Loc nD τ sig) → Buf (Elt Ideal) ℓ) (c : Dev nD)

/-- The argument arrays. -/
abbrev argA : A := m ((c.tc : Thread nD τ).loc main_arg0)
abbrev argB : B := m ((c.tc : Thread nD τ).loc main_arg1)

/-- The blocks of a point. -/
abbrev blkA (t : Fin cfg0.N) : FVec Ideal S1024x512 .bf16 := iblk m c 0 t
abbrev blkB (t : Fin cfg0.N) : FVec Ideal S512x512 .bf16 := iblk m c 1 t

/-- The running sum: started at a tile's first slice, added to at the others. -/
theorem sum_first (t : Fin cfg0.N) (h0 : t.val % 8 = 0) (i : Fin 1024) (j : Fin 512) :
    ((outsAt0 m c t.val t.isLt).2 (ix2 i j) : EReal) = share (blkA m c t) (blkB m c t) i j := by
  refine Eq.trans ?_ (share_at _ _ i j)
  rw [outsAt0_A m c t h0 (by omega) (by omega)]; dsimp only; frame_open; frame_out

theorem sum_next (t : Fin cfg0.N) (h0 : ¬t.val % 8 = 0) (i : Fin 1024) (j : Fin 512) :
    ((outsAt0 m c t.val t.isLt).2 (ix2 i j) : EReal)
      = (outsAt0 m c (t.val - 1) (Nat.lt_of_le_of_lt (Nat.sub_le _ _) t.isLt)).2 (ix2 i j) + share (blkA m c t) (blkB m c t) i j := by
  refine Eq.trans ?_ (add_at _ _ i j _)
  by_cases h2 : t.val % 8 = 7
  · rw [outsAt0_C m c t h0 (by omega) h2]; dsimp only; frame_open; frame_out; rw [read_unread_whole]
  · rw [outsAt0_B m c t h0 (by omega) h2]; dsimp only; frame_open; frame_out; rw [read_unread_whole]

/-- At a tile's last slice the sum is the tile's result. -/
theorem res_point (t : Fin cfg0.N) (h2 : t.val % 8 = 7) (i : Fin 1024) (j : Fin 512) :
    ((outsAt0 m c t.val t.isLt).1 (ix2 i j) : EReal) = (outsAt0 m c t.val t.isLt).2 (ix2 i j) := by
  rw [outsAt0_C m c t (by omega) (by omega) h2]; dsimp only; frame_open; frame_out
  pointwise [k0_pay4]

/-- Which block each window is at, at a point. -/
theorem idx_val : ∀ t : Fin cfg0.N, win0_0.index t = ![t.val / 8, t.val % 8] ∧ win0_1.index t = ![t.val % 8, 0] ∧ win0_2.index t = ![t.val / 8, 0] :=
  (by decide +kernel : ∀ t : Fin grid0.N, _)

theorem point_lt (t : Fin cfg0.N) : t.val < 16 := Nat.lt_of_lt_of_eq t.isLt N_0

/-- Row `i` and column `j` of the tile of a point, and row `k` of its slice. -/
def rowOf (t : Fin cfg0.N) (i : Fin 1024) : Fin 2048 := ⟨t.val / 8 * 1024 + i.val, by have := point_lt t; omega⟩
def colOf (_t : Fin cfg0.N) (j : Fin 512) : Fin 512 := j
def sliceOf (t : Fin cfg0.N) (k : Fin 512) : Fin (8 * 512) := ⟨t.val % 8 * 512 + k.val, by omega⟩

theorem blkA_at (t : Fin cfg0.N) (i : Fin 1024) (k : Fin 512) : blkA m c t (ix2 i k) = argA m c (ix2 (rowOf t i) (sliceOf t k)) := by
  unfold rowOf sliceOf; blk_ext! [iblk, V, idx_val t]
theorem blkB_at (t : Fin cfg0.N) (j : Fin 512) (k : Fin 512) : blkB m c t (ix2 k j) = argB m c (ix2 (sliceOf t k) (colOf t j)) := by
  unfold colOf sliceOf; blk_ext! [iblk, V, idx_val t]

/-- The kernel's array. -/
theorem final : (dats m 0 c).arrAt 2 cfg0.N = wgrad (argA m c) (argB m c) := by
  refine (dats m 0 c).arrAt_eq_of_covers 2 _ (by decide +kernel) fun t hf y => ?_
  blk_simp [idx_val t]
  rw [after0_2]
  have h7 : t.val % 8 = 7 := (flush0_2 t).mp hf
  obtain ⟨i, j, rfl⟩ := ix2_of (a := 1024) (b := 512) y
  have e0 : (win0_2.blk t).view.emb (ix2 i j) 0 = rowOf t i := Fin.ext (by simp [rowOf, idx_val t])
  have e1 : (win0_2.blk t).view.emb (ix2 i j) 1 = colOf t j := Fin.ext (by simp [colOf, idx_val t])
  unfold wgrad rowCol
  rw [e0, e1, res_point m c t h7 i j]
  refine (Pipeline.eq_sum_fin_of_reset_step_apply_of_flush (M := EReal) (ι := Fin 1024 × Fin 512)
    (fun n h i => (outsAt0 m c n h).2 (ix2 i.1 i.2)) 8 (fun _ => 0)
    (fun t i => share (blkA m c t) (blkB m c t) i.1 i.2)
    (fun t h i => (sum_first m c t h i.1 i.2).trans (zero_add (M := EReal) _).symm)
    (fun t h i => sum_next m c t h i.1 i.2) t h7 (i, j)).trans ?_
  refine (zero_add (M := EReal) _).trans ?_
  refine Eq.trans (Finset.sum_congr rfl fun s _ => Finset.sum_congr rfl fun k _ => ?_)
    (sum_slices (n := 512) (fun k : Fin (8 * 512) => (argA m c (ix2 (rowOf t i) k) * argB m c (ix2 k (colOf t j)) : EReal)))
  have es : sliceOf ⟨8 * (t.val / 8) + s.val, Pipeline.run_point_lt_of_flush t h7 s⟩ k = slice s k := Fin.ext (by simp only [sliceOf, slice]; omega)
  have er : rowOf ⟨8 * (t.val / 8) + s.val, Pipeline.run_point_lt_of_flush t h7 s⟩ i = rowOf t i := Fin.ext (by simp only [rowOf]; omega)
  have ec : colOf ⟨8 * (t.val / 8) + s.val, Pipeline.run_point_lt_of_flush t h7 s⟩ j = colOf t j := rfl
  rw [blkA_at, blkB_at, es, er, ec]

end Cert.XDwqIdeal.Value

namespace Cert.XDwqReferenceIdeal.Stage

open Cert.XDwqReferenceIdeal Cert.XDwqReferenceIdeal.Gen Cert.Product Idealize.ShloMosaic Cert.XDwqIdeal.Value
open Idealize.ShloMosaic.TcCoe Idealize.SL.Sem

/-- The reference's array, of its arguments. -/
def result (x : A) (y : B) : O :=
  truncf .bf16 (transpose S2048x512 [1, 0] (Host.dotGeneral dot_S4096x512_S4096x2048_S512x2048_0_0_1_1_n_n none
    (extf .f32 (y : FVec Ideal S4096x512 .bf16) bitsLt_bf16_f32)
    (extf .f32 (transpose S4096x2048 [1, 0] (x : FVec Ideal S2048x4096 .bf16) transposes_S2048x4096_S4096x2048_1_0) bitsLt_bf16_f32))
    transposes_S512x2048_S2048x512_1_0) bitsLt_bf16_f32

theorem result_eq (x : A) (y : B) : result x y = wgrad x y := by
  funext i
  obtain ⟨i, j, rfl⟩ := ix2_of (a := 2048) (b := 512) i
  pointwise [result, wgrad, rowCol, mul_comm (G := EReal)]

end Cert.XDwqReferenceIdeal.Stage

namespace Cert.Proof

open Idealize.ShloMosaic Idealize.SL.Sem
open Cert.XDwqIdeal.Value (argA argB wgrad final)
open Cert.XDwqReferenceIdeal.Stage (result_eq)

/-- From the same arguments, both programs end with the gradient of the projection's weights. -/
theorem query_weight_gradient : Cert.algebraic_XDwqIdeal_XDwqReferenceIdeal := by
  intro m g m' g' _ hargs
  refine ⟨fun c => wgrad (argA m c) (argB m c), ?_, ?_⟩
  · refine (θ_run _ _ _).mono (fun r h c => ?_) (Cert.XDwqIdeal.Value.run_blocks m g)
    obtain ⟨h0, ha⟩ := h c
    exact ⟨h0.trans (final m c), ha⟩
  · refine (θ_run _ _ _).mono (fun r h c => ?_) (Cert.XDwqReferenceIdeal.Value.run m' g')
    obtain ⟨h0, ha⟩ := h c
    obtain ⟨e0, e1⟩ := hargs c
    refine ⟨h0.trans ?_, ha⟩
    exact (result_eq _ _).trans (congrArg₂ wgrad e0 e1)

end Cert.Proof

end
-- ==== Proof.XDwoEquation.lean ====
/- The gradient of the weights of the cross-attention's last projection, summed over slices of the rows: columns of the rows by
   columns of the projection's cotangent. -/
module

public import proofs.«01_k».proof.Defs
public import proofs.«01_k».proof.Proof.Product
public import proofs.«01_k».proof.Proof.Gen.XDwoIdeal.Value
public import proofs.«01_k».proof.Proof.Gen.XDwoReferenceIdeal.Run
public import Idealize.ShloMosaic.Lib.Claim
public import Idealize.ShloMosaic.Lib.Pipeline.ValueKit
public import Idealize.ShloMosaic.Lib.Pipeline.ReadBack

@[expose] public section

set_option maxRecDepth 16384

noncomputable section

namespace Cert.XDwoIdeal.Value

open Cert.XDwoIdeal Cert.XDwoIdeal.Gen Cert.Product Idealize.ShloMosaic
open Idealize.ShloMosaic.TcCoe Idealize.SL.Sem

abbrev A := FVec Ideal S4096x512 .bf16
abbrev B := FVec Ideal S4096x2048 .bf16
abbrev O := FVec Ideal S512x2048 .bf16

/-- The weights' gradient, from the rows and the projection's cotangent. -/
def wgrad (x : A) (y : B) : O := colCol .bf16 x y

section
variable (x : FVec Ideal S512x512 .bf16) (y : FVec Ideal S512x2048 .bf16) (i : Fin 512) (j : Fin 2048)

/-- What one slice of the rows adds. -/
def share : EReal := ∑ k : Fin 512, x (ix2 k i) * y (ix2 k j)

theorem prod_at : k0_pay1 (F := Ideal) x y (ix2 i j) = share x y i j := by pointwise [k0_pay1, share]
theorem share_at : k0_pay2 (F := Ideal) x y (ix2 i j) = share x y i j := by pointwise [k0_pay2, prod_at]
theorem add_at (p : FVec Ideal S512x2048 .f32) : k0_pay3 (F := Ideal) x y p (ix2 i j) = p (ix2 i j) + share x y i j := by
  pointwise [k0_pay3, prod_at]

end

variable (m : (ℓ : Loc nD τ sig) → Buf (Elt Ideal) ℓ) (c : Dev nD)

/-- The argument arrays. -/
abbrev argA : A := m ((c.tc : Thread nD τ).loc main_arg0)
abbrev argB : B := m ((c.tc : Thread nD τ).loc main_arg1)

/-- The blocks of a point. -/
abbrev blkA (t : Fin cfg0.N) : FVec Ideal S512x512 .bf16 := iblk m c 0 t
abbrev blkB (t : Fin cfg0.N) : FVec Ideal S512x2048 .bf16 := iblk m c 1 t

/-- The running sum: started at a tile's first slice, added to at the others. -/
theorem sum_first (t : Fin cfg0.N) (h0 : t.val % 8 = 0) (i : Fin 512) (j : Fin 2048) :
    ((outsAt0 m c t.val t.isLt).2 (ix2 i j) : EReal) = share (blkA m c t) (blkB m c t) i j := by
  refine Eq.trans ?_ (share_at _ _ i j)
  have hN : t.val < 8 := Nat.lt_of_lt_of_eq t.isLt N_0
  rw [outsAt0_A m c t h0 (by omega) (by omega)]; dsimp only; frame_open; frame_out

theorem sum_next (t : Fin cfg0.N) (h0 : ¬t.val % 8 = 0) (i : Fin 512) (j : Fin 2048) :
    ((outsAt0 m c t.val t.isLt).2 (ix2 i j) : EReal)
      = (outsAt0 m c (t.val - 1) (Nat.lt_of_le_of_lt (Nat.sub_le _ _) t.isLt)).2 (ix2 i j) + share (blkA m c t) (blkB m c t) i j := by
  refine Eq.trans ?_ (add_at _ _ i j _)
  by_cases h2 : t.val % 8 = 7
  · rw [outsAt0_C m c t h0 (by omega) h2]; dsimp only; frame_open; frame_out; rw [read_unread_whole]
  · rw [outsAt0_B m c t h0 (by omega) h2]; dsimp only; frame_open; frame_out; rw [read_unread_whole]

/-- At a tile's last slice the sum is the tile's result. -/
theorem res_point (t : Fin cfg0.N) (h2 : t.val % 8 = 7) (i : Fin 512) (j : Fin 2048) :
    ((outsAt0 m c t.val t.isLt).1 (ix2 i j) : EReal) = (outsAt0 m c t.val t.isLt).2 (ix2 i j) := by
  rw [outsAt0_C m c t (by omega) (by omega) h2]; dsimp only; frame_open; frame_out
  pointwise [k0_pay4]

/-- Which block each window is at, at a point. -/
theorem idx_val : ∀ t : Fin cfg0.N, win0_0.index t = ![t.val % 8, 0] ∧ win0_1.index t = ![t.val % 8, 0] ∧ win0_2.index t = ![0, 0] :=
  (by decide +kernel : ∀ t : Fin grid0.N, _)

theorem point_lt (t : Fin cfg0.N) : t.val < 8 := Nat.lt_of_lt_of_eq t.isLt N_0

/-- Row `i` and column `j` of the tile of a point, and row `k` of its slice. -/
def rowOf (_t : Fin cfg0.N) (i : Fin 512) : Fin 512 := i
def colOf (_t : Fin cfg0.N) (j : Fin 2048) : Fin 2048 := j
def sliceOf (t : Fin cfg0.N) (k : Fin 512) : Fin (8 * 512) := ⟨t.val % 8 * 512 + k.val, by omega⟩

theorem blkA_at (t : Fin cfg0.N) (i : Fin 512) (k : Fin 512) : blkA m c t (ix2 k i) = argA m c (ix2 (sliceOf t k) (rowOf t i)) := by
  unfold rowOf sliceOf; blk_ext! [iblk, V, idx_val t]
theorem blkB_at (t : Fin cfg0.N) (j : Fin 2048) (k : Fin 512) : blkB m c t (ix2 k j) = argB m c (ix2 (sliceOf t k) (colOf t j)) := by
  unfold colOf sliceOf; blk_ext! [iblk, V, idx_val t]

/-- The kernel's array. -/
theorem final : (dats m 0 c).arrAt 2 cfg0.N = wgrad (argA m c) (argB m c) := by
  refine (dats m 0 c).arrAt_eq_of_covers 2 _ (by decide +kernel) fun t hf y => ?_
  blk_simp [idx_val t]
  rw [after0_2]
  have h7 : t.val % 8 = 7 := (flush0_2 t).mp hf
  obtain ⟨i, j, rfl⟩ := ix2_of (a := 512) (b := 2048) y
  have e0 : (win0_2.blk t).view.emb (ix2 i j) 0 = rowOf t i := Fin.ext (by simp [rowOf, idx_val t])
  have e1 : (win0_2.blk t).view.emb (ix2 i j) 1 = colOf t j := Fin.ext (by simp [colOf, idx_val t])
  unfold wgrad colCol
  rw [e0, e1, res_point m c t h7 i j]
  refine (Pipeline.eq_sum_fin_of_reset_step_apply_of_flush (M := EReal) (ι := Fin 512 × Fin 2048)
    (fun n h i => (outsAt0 m c n h).2 (ix2 i.1 i.2)) 8 (fun _ => 0)
    (fun t i => share (blkA m c t) (blkB m c t) i.1 i.2)
    (fun t h i => (sum_first m c t h i.1 i.2).trans (zero_add (M := EReal) _).symm)
    (fun t h i => sum_next m c t h i.1 i.2) t h7 (i, j)).trans ?_
  refine (zero_add (M := EReal) _).trans ?_
  refine Eq.trans (Finset.sum_congr rfl fun s _ => Finset.sum_congr rfl fun k _ => ?_)
    (sum_slices (n := 512) (fun k : Fin (8 * 512) => (argA m c (ix2 k (rowOf t i)) * argB m c (ix2 k (colOf t j)) : EReal)))
  have es : sliceOf ⟨8 * (t.val / 8) + s.val, Pipeline.run_point_lt_of_flush t h7 s⟩ k = slice s k := Fin.ext (by simp only [sliceOf, slice]; omega)
  have er : rowOf ⟨8 * (t.val / 8) + s.val, Pipeline.run_point_lt_of_flush t h7 s⟩ i = rowOf t i := rfl
  have ec : colOf ⟨8 * (t.val / 8) + s.val, Pipeline.run_point_lt_of_flush t h7 s⟩ j = colOf t j := rfl
  rw [blkA_at, blkB_at, es, er, ec]

end Cert.XDwoIdeal.Value

namespace Cert.XDwoReferenceIdeal.Stage

open Cert.XDwoReferenceIdeal Cert.XDwoReferenceIdeal.Gen Cert.Product Idealize.ShloMosaic Cert.XDwoIdeal.Value
open Idealize.ShloMosaic.TcCoe Idealize.SL.Sem

/-- The reference's array, of its arguments. -/
def result (x : A) (y : B) : O :=
  truncf .bf16 (transpose S512x2048 [1, 0] (Host.dotGeneral dot_S4096x2048_S4096x512_S2048x512_0_0_1_1_n_n none
    (extf .f32 (y : FVec Ideal S4096x2048 .bf16) bitsLt_bf16_f32)
    (extf .f32 (x : FVec Ideal S4096x512 .bf16) bitsLt_bf16_f32))
    transposes_S2048x512_S512x2048_1_0) bitsLt_bf16_f32

theorem result_eq (x : A) (y : B) : result x y = wgrad x y := by
  funext i
  obtain ⟨i, j, rfl⟩ := ix2_of (a := 512) (b := 2048) i
  pointwise [result, wgrad, colCol, mul_comm (G := EReal)]

end Cert.XDwoReferenceIdeal.Stage

namespace Cert.Proof

open Idealize.ShloMosaic Idealize.SL.Sem
open Cert.XDwoIdeal.Value (argA argB wgrad final)
open Cert.XDwoReferenceIdeal.Stage (result_eq)

/-- From the same arguments, both programs end with the gradient of the projection's weights. -/
theorem attended_weight_gradient : Cert.algebraic_XDwoIdeal_XDwoReferenceIdeal := by
  intro m g m' g' _ hargs
  refine ⟨fun c => wgrad (argA m c) (argB m c), ?_, ?_⟩
  · refine (θ_run _ _ _).mono (fun r h c => ?_) (Cert.XDwoIdeal.Value.run_blocks m g)
    obtain ⟨h0, ha⟩ := h c
    exact ⟨h0.trans (final m c), ha⟩
  · refine (θ_run _ _ _).mono (fun r h c => ?_) (Cert.XDwoReferenceIdeal.Value.run m' g')
    obtain ⟨h0, ha⟩ := h c
    obtain ⟨e0, e1⟩ := hargs c
    refine ⟨h0.trans ?_, ha⟩
    exact (result_eq _ _).trans (congrArg₂ wgrad e0 e1)

end Cert.Proof

end
-- ==== Proof.XqEquation.lean ====
/- The cross-attention's query projection: rows by columns of the weights. -/
module

public import proofs.«01_k».proof.Defs
public import proofs.«01_k».proof.Proof.Product
public import proofs.«01_k».proof.Proof.Gen.XqIdeal.Value
public import proofs.«01_k».proof.Proof.Gen.XqReferenceIdeal.Run
public import Idealize.ShloMosaic.Lib.Claim
public import Idealize.ShloMosaic.Lib.Pipeline.ValueKit

@[expose] public section

set_option maxRecDepth 16384

noncomputable section

namespace Cert.XqIdeal.Value

open Cert.XqIdeal Cert.XqIdeal.Gen Cert.Product Idealize.ShloMosaic
open Idealize.ShloMosaic.TcCoe Idealize.SL.Sem

abbrev A := FVec Ideal S4096x2048 .bf16
abbrev B := FVec Ideal S2048x512 .bf16
abbrev O := FVec Ideal S4096x512 .bf16

/-- The queries. -/
def project (x : A) (y : B) : O := rowCol .bf16 x y

/-- What one grid point computes of the blocks it reads. -/
theorem point_at (x : FVec Ideal S512x2048 .bf16) (y : FVec Ideal S2048x512 .bf16) (i : Fin 512) (j : Fin 512) :
    k0_pay1 (F := Ideal) x y (ix2 i j) = (∑ k : Fin 2048, x (ix2 i k) * y (ix2 k j) : EReal) := by
  pointwise [k0_pay1]

variable (m : (ℓ : Loc nD τ sig) → Buf (Elt Ideal) ℓ) (c : Dev nD)

/-- The argument arrays. -/
abbrev argA : A := m ((c.tc : Thread nD τ).loc main_arg0)
abbrev argB : B := m ((c.tc : Thread nD τ).loc main_arg1)

/-- Which block each window is at, at a point. -/
theorem idx_val : ∀ t : Fin cfg0.N, win0_0.index t = ![t.val, 0] ∧ win0_1.index t = ![0, 0] ∧ win0_2.index t = ![t.val, 0] :=
  (by decide +kernel : ∀ t : Fin grid0.N, _)

theorem point_lt (t : Fin cfg0.N) : t.val < 8 := Nat.lt_of_lt_of_eq t.isLt N_0

/-- Row `i` and column `j` of the block of a point. -/
def rowOf (t : Fin cfg0.N) (i : Fin 512) : Fin 4096 := ⟨t.val * 512 + i.val, by have := point_lt t; omega⟩
def colOf (_t : Fin cfg0.N) (j : Fin 512) : Fin 512 := j

abbrev blkA (t : Fin cfg0.N) : FVec Ideal S512x2048 .bf16 := iblk m c 0 t
abbrev blkB (t : Fin cfg0.N) : FVec Ideal S2048x512 .bf16 := iblk m c 1 t

theorem blkA_at (t : Fin cfg0.N) (i : Fin 512) (k : Fin 2048) : blkA m c t (ix2 i k) = argA m c (ix2 (rowOf t i) k) := by
  unfold rowOf; blk_ext! [iblk, V, idx_val t]
theorem blkB_at (t : Fin cfg0.N) (j : Fin 512) (k : Fin 2048) : blkB m c t (ix2 k j) = argB m c (ix2 k (colOf t j)) := by
  unfold colOf; blk_ext! [iblk, V, idx_val t]

/-- The kernel's array. -/
theorem final : (dats m 0 c).arrAt 2 cfg0.N = project (argA m c) (argB m c) := by
  refine (dats m 0 c).arrAt_eq_of_covers 2 _ (by decide +kernel) fun t hf y => ?_
  blk_simp [idx_val t]
  rw [after0_2]
  obtain ⟨i, j, rfl⟩ := ix2_of (a := 512) (b := 512) y
  have e0 : (win0_2.blk t).view.emb (ix2 i j) 0 = rowOf t i := Fin.ext (by simp [rowOf, idx_val t])
  have e1 : (win0_2.blk t).view.emb (ix2 i j) 1 = colOf t j := Fin.ext (by simp [colOf, idx_val t])
  unfold project rowCol
  rw [e0, e1]
  unfold out0_2
  frame_out
  refine (point_at (blkA m c t) (blkB m c t) i j).trans (Finset.sum_congr rfl fun k _ => ?_)
  rw [blkA_at, blkB_at]

end Cert.XqIdeal.Value

namespace Cert.XqReferenceIdeal.Stage

open Cert.XqReferenceIdeal Cert.XqReferenceIdeal.Gen Cert.Product Idealize.ShloMosaic Cert.XqIdeal.Value
open Idealize.ShloMosaic.TcCoe Idealize.SL.Sem

/-- The reference's array, of its arguments. -/
def result (x : A) (y : B) : O :=
  truncf .bf16 (Host.dotGeneral dot_S4096x2048_S2048x512_S4096x512_1_0_0_1_n_n none (extf .f32 (x : FVec Ideal S4096x2048 .bf16) bitsLt_bf16_f32)
    (extf .f32 (y : FVec Ideal S2048x512 .bf16) bitsLt_bf16_f32)) bitsLt_bf16_f32

theorem result_eq (x : A) (y : B) : result x y = project x y := by
  funext i
  obtain ⟨i, j, rfl⟩ := ix2_of (a := 4096) (b := 512) i
  pointwise [result, project, rowCol]

end Cert.XqReferenceIdeal.Stage

namespace Cert.Proof

open Idealize.ShloMosaic Idealize.SL.Sem
open Cert.XqIdeal.Value (argA argB project final)
open Cert.XqReferenceIdeal.Stage (result_eq)

/-- From the same arguments, both programs end with the queries. -/
theorem query_projection : Cert.algebraic_XqIdeal_XqReferenceIdeal := by
  intro m g m' g' _ hargs
  refine ⟨fun c => project (argA m c) (argB m c), ?_, ?_⟩
  · refine (θ_run _ _ _).mono (fun r h c => ?_) (Cert.XqIdeal.Value.run_blocks m g)
    obtain ⟨h0, ha⟩ := h c
    exact ⟨h0.trans (final m c), ha⟩
  · refine (θ_run _ _ _).mono (fun r h c => ?_) (Cert.XqReferenceIdeal.Value.run m' g')
    obtain ⟨h0, ha⟩ := h c
    obtain ⟨e0, e1⟩ := hargs c
    refine ⟨h0.trans ?_, ha⟩
    exact (result_eq _ _).trans (congrArg₂ project e0 e1)

end Cert.Proof

end
-- ==== Proof.XoEquation.lean ====
/- The cross-attention's last projection: rows by columns of the weights. -/
module

public import proofs.«01_k».proof.Defs
public import proofs.«01_k».proof.Proof.Product
public import proofs.«01_k».proof.Proof.Gen.XoIdeal.Value
public import proofs.«01_k».proof.Proof.Gen.XoReferenceIdeal.Run
public import Idealize.ShloMosaic.Lib.Claim
public import Idealize.ShloMosaic.Lib.Pipeline.ValueKit

@[expose] public section

set_option maxRecDepth 16384

noncomputable section

namespace Cert.XoIdeal.Value

open Cert.XoIdeal Cert.XoIdeal.Gen Cert.Product Idealize.ShloMosaic
open Idealize.ShloMosaic.TcCoe Idealize.SL.Sem

abbrev A := FVec Ideal S4096x512 .bf16
abbrev B := FVec Ideal S512x2048 .bf16
abbrev O := FVec Ideal S4096x2048 .f32

/-- The projected rows. -/
def project (x : A) (y : B) : O := rowCol .f32 x y

/-- What one grid point computes of the blocks it reads. -/
theorem point_at (x : FVec Ideal S512x512 .bf16) (y : FVec Ideal S512x2048 .bf16) (i : Fin 512) (j : Fin 2048) :
    k0_pay1 (F := Ideal) x y (ix2 i j) = (∑ k : Fin 512, x (ix2 i k) * y (ix2 k j) : EReal) := by
  pointwise [k0_pay1]

variable (m : (ℓ : Loc nD τ sig) → Buf (Elt Ideal) ℓ) (c : Dev nD)

/-- The argument arrays. -/
abbrev argA : A := m ((c.tc : Thread nD τ).loc main_arg0)
abbrev argB : B := m ((c.tc : Thread nD τ).loc main_arg1)

/-- Which block each window is at, at a point. -/
theorem idx_val : ∀ t : Fin cfg0.N, win0_0.index t = ![t.val, 0] ∧ win0_1.index t = ![0, 0] ∧ win0_2.index t = ![t.val, 0] :=
  (by decide +kernel : ∀ t : Fin grid0.N, _)

theorem point_lt (t : Fin cfg0.N) : t.val < 8 := Nat.lt_of_lt_of_eq t.isLt N_0

/-- Row `i` and column `j` of the block of a point. -/
def rowOf (t : Fin cfg0.N) (i : Fin 512) : Fin 4096 := ⟨t.val * 512 + i.val, by have := point_lt t; omega⟩
def colOf (_t : Fin cfg0.N) (j : Fin 2048) : Fin 2048 := j

abbrev blkA (t : Fin cfg0.N) : FVec Ideal S512x512 .bf16 := iblk m c 0 t
abbrev blkB (t : Fin cfg0.N) : FVec Ideal S512x2048 .bf16 := iblk m c 1 t

theorem blkA_at (t : Fin cfg0.N) (i : Fin 512) (k : Fin 512) : blkA m c t (ix2 i k) = argA m c (ix2 (rowOf t i) k) := by
  unfold rowOf; blk_ext! [iblk, V, idx_val t]
theorem blkB_at (t : Fin cfg0.N) (j : Fin 2048) (k : Fin 512) : blkB m c t (ix2 k j) = argB m c (ix2 k (colOf t j)) := by
  unfold colOf; blk_ext! [iblk, V, idx_val t]

/-- The kernel's array. -/
theorem final : (dats m 0 c).arrAt 2 cfg0.N = project (argA m c) (argB m c) := by
  refine (dats m 0 c).arrAt_eq_of_covers 2 _ (by decide +kernel) fun t hf y => ?_
  blk_simp [idx_val t]
  rw [after0_2]
  obtain ⟨i, j, rfl⟩ := ix2_of (a := 512) (b := 2048) y
  have e0 : (win0_2.blk t).view.emb (ix2 i j) 0 = rowOf t i := Fin.ext (by simp [rowOf, idx_val t])
  have e1 : (win0_2.blk t).view.emb (ix2 i j) 1 = colOf t j := Fin.ext (by simp [colOf, idx_val t])
  unfold project rowCol
  rw [e0, e1]
  unfold out0_2
  frame_out
  refine (point_at (blkA m c t) (blkB m c t) i j).trans (Finset.sum_congr rfl fun k _ => ?_)
  rw [blkA_at, blkB_at]

end Cert.XoIdeal.Value

namespace Cert.XoReferenceIdeal.Stage

open Cert.XoReferenceIdeal Cert.XoReferenceIdeal.Gen Cert.Product Idealize.ShloMosaic Cert.XoIdeal.Value
open Idealize.ShloMosaic.TcCoe Idealize.SL.Sem

/-- The reference's array, of its arguments. -/
def result (x : A) (y : B) : O :=
  Host.dotGeneral dot_S4096x512_S512x2048_S4096x2048_1_0_0_1_n_n none (extf .f32 (x : FVec Ideal S4096x512 .bf16) bitsLt_bf16_f32)
    (extf .f32 (y : FVec Ideal S512x2048 .bf16) bitsLt_bf16_f32)

theorem result_eq (x : A) (y : B) : result x y = project x y := by
  funext i
  obtain ⟨i, j, rfl⟩ := ix2_of (a := 4096) (b := 2048) i
  pointwise [result, project, rowCol]

end Cert.XoReferenceIdeal.Stage

namespace Cert.Proof

open Idealize.ShloMosaic Idealize.SL.Sem
open Cert.XoIdeal.Value (argA argB project final)
open Cert.XoReferenceIdeal.Stage (result_eq)

/-- From the same arguments, both programs end with the projected rows. -/
theorem attended_projection : Cert.algebraic_XoIdeal_XoReferenceIdeal := by
  intro m g m' g' _ hargs
  refine ⟨fun c => project (argA m c) (argB m c), ?_, ?_⟩
  · refine (θ_run _ _ _).mono (fun r h c => ?_) (Cert.XoIdeal.Value.run_blocks m g)
    obtain ⟨h0, ha⟩ := h c
    exact ⟨h0.trans (final m c), ha⟩
  · refine (θ_run _ _ _).mono (fun r h c => ?_) (Cert.XoReferenceIdeal.Value.run m' g')
    obtain ⟨h0, ha⟩ := h c
    obtain ⟨e0, e1⟩ := hargs c
    refine ⟨h0.trans ?_, ha⟩
    exact (result_eq _ _).trans (congrArg₂ project e0 e1)

end Cert.Proof

end
-- ==== Proof.MemDwEquation.lean ====
/- The gradient of the weights of a projection of the memory tokens: columns of the tokens by columns of the cotangent. -/
module

public import proofs.«01_k».proof.Defs
public import proofs.«01_k».proof.Proof.Product
public import proofs.«01_k».proof.Proof.Gen.MemDwIdeal.Value
public import proofs.«01_k».proof.Proof.Gen.MemDwReferenceIdeal.Run
public import Idealize.ShloMosaic.Lib.Claim
public import Idealize.ShloMosaic.Lib.Pipeline.ValueKit

@[expose] public section

set_option maxRecDepth 16384

noncomputable section

namespace Cert.MemDwIdeal.Value

open Cert.MemDwIdeal Cert.MemDwIdeal.Gen Cert.Product Idealize.ShloMosaic
open Idealize.ShloMosaic.TcCoe Idealize.SL.Sem

abbrev A := FVec Ideal S256x2048 .bf16
abbrev B := FVec Ideal S256x512 .bf16
abbrev O := FVec Ideal S2048x512 .bf16

/-- The weights' gradient, from the tokens and the projection's cotangent. -/
def wgrad (x : A) (y : B) : O := colCol .bf16 x y

/-- What one grid point computes of the blocks it reads. -/
theorem point_at (x : FVec Ideal S256x1024 .bf16) (y : FVec Ideal S256x512 .bf16) (i : Fin 1024) (j : Fin 512) :
    k0_pay1 (F := Ideal) x y (ix2 i j) = (∑ k : Fin 256, x (ix2 k i) * y (ix2 k j) : EReal) := by
  pointwise [k0_pay1]

variable (m : (ℓ : Loc nD τ sig) → Buf (Elt Ideal) ℓ) (c : Dev nD)

/-- The argument arrays. -/
abbrev argA : A := m ((c.tc : Thread nD τ).loc main_arg0)
abbrev argB : B := m ((c.tc : Thread nD τ).loc main_arg1)

/-- Which block each window is at, at a point. -/
theorem idx_val : ∀ t : Fin cfg0.N, win0_0.index t = ![0, t.val] ∧ win0_1.index t = ![0, 0] ∧ win0_2.index t = ![t.val, 0] :=
  (by decide +kernel : ∀ t : Fin grid0.N, _)

theorem point_lt (t : Fin cfg0.N) : t.val < 2 := Nat.lt_of_lt_of_eq t.isLt N_0

/-- Row `i` and column `j` of the block of a point. -/
def rowOf (t : Fin cfg0.N) (i : Fin 1024) : Fin 2048 := ⟨t.val * 1024 + i.val, by have := point_lt t; omega⟩
def colOf (_t : Fin cfg0.N) (j : Fin 512) : Fin 512 := j

abbrev blkA (t : Fin cfg0.N) : FVec Ideal S256x1024 .bf16 := iblk m c 0 t
abbrev blkB (t : Fin cfg0.N) : FVec Ideal S256x512 .bf16 := iblk m c 1 t

theorem blkA_at (t : Fin cfg0.N) (i : Fin 1024) (k : Fin 256) : blkA m c t (ix2 k i) = argA m c (ix2 k (rowOf t i)) := by
  unfold rowOf; blk_ext! [iblk, V, idx_val t]
theorem blkB_at (t : Fin cfg0.N) (j : Fin 512) (k : Fin 256) : blkB m c t (ix2 k j) = argB m c (ix2 k (colOf t j)) := by
  unfold colOf; blk_ext! [iblk, V, idx_val t]

/-- The kernel's array. -/
theorem final : (dats m 0 c).arrAt 2 cfg0.N = wgrad (argA m c) (argB m c) := by
  refine (dats m 0 c).arrAt_eq_of_covers 2 _ (by decide +kernel) fun t hf y => ?_
  blk_simp [idx_val t]
  rw [after0_2]
  obtain ⟨i, j, rfl⟩ := ix2_of (a := 1024) (b := 512) y
  have e0 : (win0_2.blk t).view.emb (ix2 i j) 0 = rowOf t i := Fin.ext (by simp [rowOf, idx_val t])
  have e1 : (win0_2.blk t).view.emb (ix2 i j) 1 = colOf t j := Fin.ext (by simp [colOf, idx_val t])
  unfold wgrad colCol
  rw [e0, e1]
  unfold out0_2
  frame_out
  refine (point_at (blkA m c t) (blkB m c t) i j).trans (Finset.sum_congr rfl fun k _ => ?_)
  rw [blkA_at, blkB_at]

end Cert.MemDwIdeal.Value

namespace Cert.MemDwReferenceIdeal.Stage

open Cert.MemDwReferenceIdeal Cert.MemDwReferenceIdeal.Gen Cert.Product Idealize.ShloMosaic Cert.MemDwIdeal.Value
open Idealize.ShloMosaic.TcCoe Idealize.SL.Sem

/-- The reference's array, of its arguments. -/
def result (x : A) (y : B) : O :=
  truncf .bf16 (transpose S2048x512 [1, 0] (Host.dotGeneral dot_S256x512_S256x2048_S512x2048_0_0_1_1_n_n none
    (extf .f32 (y : FVec Ideal S256x512 .bf16) bitsLt_bf16_f32)
    (extf .f32 (x : FVec Ideal S256x2048 .bf16) bitsLt_bf16_f32))
    transposes_S512x2048_S2048x512_1_0) bitsLt_bf16_f32

theorem result_eq (x : A) (y : B) : result x y = wgrad x y := by
  funext i
  obtain ⟨i, j, rfl⟩ := ix2_of (a := 2048) (b := 512) i
  pointwise [result, wgrad, colCol, mul_comm (G := EReal)]

end Cert.MemDwReferenceIdeal.Stage

namespace Cert.Proof

open Idealize.ShloMosaic Idealize.SL.Sem
open Cert.MemDwIdeal.Value (argA argB wgrad final)
open Cert.MemDwReferenceIdeal.Stage (result_eq)

/-- From the same arguments, both programs end with the gradient of the projection's weights. -/
theorem memory_weight_gradient : Cert.algebraic_MemDwIdeal_MemDwReferenceIdeal := by
  intro m g m' g' _ hargs
  refine ⟨fun c => wgrad (argA m c) (argB m c), ?_, ?_⟩
  · refine (θ_run _ _ _).mono (fun r h c => ?_) (Cert.MemDwIdeal.Value.run_blocks m g)
    obtain ⟨h0, ha⟩ := h c
    exact ⟨h0.trans (final m c), ha⟩
  · refine (θ_run _ _ _).mono (fun r h c => ?_) (Cert.MemDwReferenceIdeal.Value.run m' g')
    obtain ⟨h0, ha⟩ := h c
    obtain ⟨e0, e1⟩ := hargs c
    refine ⟨h0.trans ?_, ha⟩
    exact (result_eq _ _).trans (congrArg₂ wgrad e0 e1)

end Cert.Proof

end
-- ==== Proof.MemDxEquation.lean ====
/- The cotangent of the memory tokens: rows of the cotangent of the keys and values by rows of the weights. -/
module

public import proofs.«01_k».proof.Defs
public import proofs.«01_k».proof.Proof.Product
public import proofs.«01_k».proof.Proof.Gen.MemDxIdeal.Value
public import proofs.«01_k».proof.Proof.Gen.MemDxReferenceIdeal.Run
public import Idealize.ShloMosaic.Lib.Claim
public import Idealize.ShloMosaic.Lib.Pipeline.ValueKit

@[expose] public section

set_option maxRecDepth 16384

noncomputable section

namespace Cert.MemDxIdeal.Value

open Cert.MemDxIdeal Cert.MemDxIdeal.Gen Cert.Product Idealize.ShloMosaic
open Idealize.ShloMosaic.TcCoe Idealize.SL.Sem

abbrev A := FVec Ideal S256x1024 .bf16
abbrev B := FVec Ideal S2048x1024 .bf16
abbrev O := FVec Ideal S256x2048 .f32

/-- The tokens' cotangent, from that of the keys and values and the weights. -/
def backRows (x : A) (y : B) : O := rowRow .f32 x y

/-- What one grid point computes of the blocks it reads. -/
theorem point_at (x : FVec Ideal S256x1024 .bf16) (y : FVec Ideal S2048x1024 .bf16) (i : Fin 256) (j : Fin 2048) :
    k0_pay1 (F := Ideal) x y (ix2 i j) = (∑ k : Fin 1024, x (ix2 i k) * y (ix2 j k) : EReal) := by
  pointwise [k0_pay1]

variable (m : (ℓ : Loc nD τ sig) → Buf (Elt Ideal) ℓ) (c : Dev nD)

/-- The argument arrays. -/
abbrev argA : A := m ((c.tc : Thread nD τ).loc main_arg0)
abbrev argB : B := m ((c.tc : Thread nD τ).loc main_arg1)

/-- Which block each window is at, at a point. -/
theorem idx_val : ∀ t : Fin cfg0.N, win0_0.index t = ![t.val, 0] ∧ win0_1.index t = ![0, 0] ∧ win0_2.index t = ![t.val, 0] :=
  (by decide +kernel : ∀ t : Fin grid0.N, _)

theorem point_lt (t : Fin cfg0.N) : t.val < 1 := Nat.lt_of_lt_of_eq t.isLt N_0

/-- Row `i` and column `j` of the block of a point. -/
def rowOf (t : Fin cfg0.N) (i : Fin 256) : Fin 256 := ⟨t.val * 256 + i.val, by have := point_lt t; omega⟩
def colOf (_t : Fin cfg0.N) (j : Fin 2048) : Fin 2048 := j

abbrev blkA (t : Fin cfg0.N) : FVec Ideal S256x1024 .bf16 := iblk m c 0 t
abbrev blkB (t : Fin cfg0.N) : FVec Ideal S2048x1024 .bf16 := iblk m c 1 t

theorem blkA_at (t : Fin cfg0.N) (i : Fin 256) (k : Fin 1024) : blkA m c t (ix2 i k) = argA m c (ix2 (rowOf t i) k) := by
  unfold rowOf; blk_ext! [iblk, V, idx_val t]
theorem blkB_at (t : Fin cfg0.N) (j : Fin 2048) (k : Fin 1024) : blkB m c t (ix2 j k) = argB m c (ix2 (colOf t j) k) := by
  unfold colOf; blk_ext! [iblk, V, idx_val t]

/-- The kernel's array. -/
theorem final : (dats m 0 c).arrAt 2 cfg0.N = backRows (argA m c) (argB m c) := by
  refine (dats m 0 c).arrAt_eq_of_covers 2 _ (by decide +kernel) fun t hf y => ?_
  blk_simp [idx_val t]
  rw [after0_2]
  obtain ⟨i, j, rfl⟩ := ix2_of (a := 256) (b := 2048) y
  have e0 : (win0_2.blk t).view.emb (ix2 i j) 0 = rowOf t i := Fin.ext (by simp [rowOf, idx_val t])
  have e1 : (win0_2.blk t).view.emb (ix2 i j) 1 = colOf t j := Fin.ext (by simp [colOf, idx_val t])
  unfold backRows rowRow
  rw [e0, e1]
  unfold out0_2
  frame_out
  refine (point_at (blkA m c t) (blkB m c t) i j).trans (Finset.sum_congr rfl fun k _ => ?_)
  rw [blkA_at, blkB_at]

end Cert.MemDxIdeal.Value

namespace Cert.MemDxReferenceIdeal.Stage

open Cert.MemDxReferenceIdeal Cert.MemDxReferenceIdeal.Gen Cert.Product Idealize.ShloMosaic Cert.MemDxIdeal.Value
open Idealize.ShloMosaic.TcCoe Idealize.SL.Sem

/-- The reference's array, of its arguments. -/
def result (x : A) (y : B) : O :=
  Host.dotGeneral dot_S256x1024_S2048x1024_S256x2048_1_1_0_0_n_n none (extf .f32 (x : FVec Ideal S256x1024 .bf16) bitsLt_bf16_f32)
    (extf .f32 (y : FVec Ideal S2048x1024 .bf16) bitsLt_bf16_f32)

theorem result_eq (x : A) (y : B) : result x y = backRows x y := by
  funext i
  obtain ⟨i, j, rfl⟩ := ix2_of (a := 256) (b := 2048) i
  pointwise [result, backRows, rowRow]

end Cert.MemDxReferenceIdeal.Stage

namespace Cert.Proof

open Idealize.ShloMosaic Idealize.SL.Sem
open Cert.MemDxIdeal.Value (argA argB backRows final)
open Cert.MemDxReferenceIdeal.Stage (result_eq)

/-- From the same arguments, both programs end with the cotangent of the memory tokens. -/
theorem memory_gradient : Cert.algebraic_MemDxIdeal_MemDxReferenceIdeal := by
  intro m g m' g' _ hargs
  refine ⟨fun c => backRows (argA m c) (argB m c), ?_, ?_⟩
  · refine (θ_run _ _ _).mono (fun r h c => ?_) (Cert.MemDxIdeal.Value.run_blocks m g)
    obtain ⟨h0, ha⟩ := h c
    exact ⟨h0.trans (final m c), ha⟩
  · refine (θ_run _ _ _).mono (fun r h c => ?_) (Cert.MemDxReferenceIdeal.Value.run m' g')
    obtain ⟨h0, ha⟩ := h c
    obtain ⟨e0, e1⟩ := hargs c
    refine ⟨h0.trans ?_, ha⟩
    exact (result_eq _ _).trans (congrArg₂ backRows e0 e1)

end Cert.Proof

end
-- ==== Proof.MemEquation.lean ====
/- A projection of the memory tokens: rows by columns of the weights. -/
module

public import proofs.«01_k».proof.Defs
public import proofs.«01_k».proof.Proof.Product
public import proofs.«01_k».proof.Proof.Gen.MemIdeal.Value
public import proofs.«01_k».proof.Proof.Gen.MemReferenceIdeal.Run
public import Idealize.ShloMosaic.Lib.Claim
public import Idealize.ShloMosaic.Lib.Pipeline.ValueKit

@[expose] public section

set_option maxRecDepth 16384

noncomputable section

namespace Cert.MemIdeal.Value

open Cert.MemIdeal Cert.MemIdeal.Gen Cert.Product Idealize.ShloMosaic
open Idealize.ShloMosaic.TcCoe Idealize.SL.Sem

abbrev A := FVec Ideal S256x2048 .bf16
abbrev B := FVec Ideal S2048x512 .bf16
abbrev O := FVec Ideal S256x512 .bf16

/-- The keys, or the values. -/
def project (x : A) (y : B) : O := rowCol .bf16 x y

/-- What one grid point computes of the blocks it reads. -/
theorem point_at (x : FVec Ideal S256x2048 .bf16) (y : FVec Ideal S2048x512 .bf16) (i : Fin 256) (j : Fin 512) :
    k0_pay1 (F := Ideal) x y (ix2 i j) = (∑ k : Fin 2048, x (ix2 i k) * y (ix2 k j) : EReal) := by
  pointwise [k0_pay1]

variable (m : (ℓ : Loc nD τ sig) → Buf (Elt Ideal) ℓ) (c : Dev nD)

/-- The argument arrays. -/
abbrev argA : A := m ((c.tc : Thread nD τ).loc main_arg0)
abbrev argB : B := m ((c.tc : Thread nD τ).loc main_arg1)

/-- Which block each window is at, at a point. -/
theorem idx_val : ∀ t : Fin cfg0.N, win0_0.index t = ![t.val, 0] ∧ win0_1.index t = ![0, 0] ∧ win0_2.index t = ![t.val, 0] :=
  (by decide +kernel : ∀ t : Fin grid0.N, _)

theorem point_lt (t : Fin cfg0.N) : t.val < 1 := Nat.lt_of_lt_of_eq t.isLt N_0

/-- Row `i` and column `j` of the block of a point. -/
def rowOf (t : Fin cfg0.N) (i : Fin 256) : Fin 256 := ⟨t.val * 256 + i.val, by have := point_lt t; omega⟩
def colOf (_t : Fin cfg0.N) (j : Fin 512) : Fin 512 := j

abbrev blkA (t : Fin cfg0.N) : FVec Ideal S256x2048 .bf16 := iblk m c 0 t
abbrev blkB (t : Fin cfg0.N) : FVec Ideal S2048x512 .bf16 := iblk m c 1 t

theorem blkA_at (t : Fin cfg0.N) (i : Fin 256) (k : Fin 2048) : blkA m c t (ix2 i k) = argA m c (ix2 (rowOf t i) k) := by
  unfold rowOf; blk_ext! [iblk, V, idx_val t]
theorem blkB_at (t : Fin cfg0.N) (j : Fin 512) (k : Fin 2048) : blkB m c t (ix2 k j) = argB m c (ix2 k (colOf t j)) := by
  unfold colOf; blk_ext! [iblk, V, idx_val t]

/-- The kernel's array. -/
theorem final : (dats m 0 c).arrAt 2 cfg0.N = project (argA m c) (argB m c) := by
  refine (dats m 0 c).arrAt_eq_of_covers 2 _ (by decide +kernel) fun t hf y => ?_
  blk_simp [idx_val t]
  rw [after0_2]
  obtain ⟨i, j, rfl⟩ := ix2_of (a := 256) (b := 512) y
  have e0 : (win0_2.blk t).view.emb (ix2 i j) 0 = rowOf t i := Fin.ext (by simp [rowOf, idx_val t])
  have e1 : (win0_2.blk t).view.emb (ix2 i j) 1 = colOf t j := Fin.ext (by simp [colOf, idx_val t])
  unfold project rowCol
  rw [e0, e1]
  unfold out0_2
  frame_out
  refine (point_at (blkA m c t) (blkB m c t) i j).trans (Finset.sum_congr rfl fun k _ => ?_)
  rw [blkA_at, blkB_at]

end Cert.MemIdeal.Value

namespace Cert.MemReferenceIdeal.Stage

open Cert.MemReferenceIdeal Cert.MemReferenceIdeal.Gen Cert.Product Idealize.ShloMosaic Cert.MemIdeal.Value
open Idealize.ShloMosaic.TcCoe Idealize.SL.Sem

/-- The reference's array, of its arguments. -/
def result (x : A) (y : B) : O :=
  truncf .bf16 (Host.dotGeneral dot_S256x2048_S2048x512_S256x512_1_0_0_1_n_n none (extf .f32 (x : FVec Ideal S256x2048 .bf16) bitsLt_bf16_f32)
    (extf .f32 (y : FVec Ideal S2048x512 .bf16) bitsLt_bf16_f32)) bitsLt_bf16_f32

theorem result_eq (x : A) (y : B) : result x y = project x y := by
  funext i
  obtain ⟨i, j, rfl⟩ := ix2_of (a := 256) (b := 512) i
  pointwise [result, project, rowCol]

end Cert.MemReferenceIdeal.Stage

namespace Cert.Proof

open Idealize.ShloMosaic Idealize.SL.Sem
open Cert.MemIdeal.Value (argA argB project final)
open Cert.MemReferenceIdeal.Stage (result_eq)

/-- From the same arguments, both programs end with the projected tokens. -/
theorem memory_projection : Cert.algebraic_MemIdeal_MemReferenceIdeal := by
  intro m g m' g' _ hargs
  refine ⟨fun c => project (argA m c) (argB m c), ?_, ?_⟩
  · refine (θ_run _ _ _).mono (fun r h c => ?_) (Cert.MemIdeal.Value.run_blocks m g)
    obtain ⟨h0, ha⟩ := h c
    exact ⟨h0.trans (final m c), ha⟩
  · refine (θ_run _ _ _).mono (fun r h c => ?_) (Cert.MemReferenceIdeal.Value.run m' g')
    obtain ⟨h0, ha⟩ := h c
    obtain ⟨e0, e1⟩ := hargs c
    refine ⟨h0.trans ?_, ha⟩
    exact (result_eq _ _).trans (congrArg₂ project e0 e1)

end Cert.Proof

end
-- ==== Proof.Groups.lean ====
/- The four groups of 512 columns of the pooled rows. -/
module

public import Idealize.ShloMosaic.Lib.Pointwise

@[expose] public section

noncomputable section

namespace Cert.Group

open Idealize.ShloMosaic

/-- Column `c` of group `g`. -/
def lane (g : Fin 4) (c : Fin 512) : Fin 2048 := ⟨g.val * 512 + c.val, by omega⟩

/-- The group a column is in, and its place there. -/
def group (l : Fin 2048) : Fin 4 := ⟨l.val / 512, by omega⟩
def place (l : Fin 2048) : Fin 512 := ⟨l.val % 512, Nat.mod_lt _ (by decide)⟩

theorem group_lane (g : Fin 4) (c : Fin 512) : group (lane g c) = g := Fin.ext (by simp only [group, lane]; omega)
theorem place_lane (g : Fin 4) (c : Fin 512) : place (lane g c) = c := Fin.ext (by simp only [place, lane]; omega)
theorem lane_of (l : Fin 2048) : lane (group l) (place l) = l := Fin.ext (by simp only [group, place, lane]; omega)

/-- An index of the four groups' weights is its three places. -/
theorem ix3_of (y : (⟨3, ![4, 512, 512]⟩ : Shape).Idx) : ∃ (g : Fin 4) (i j : Fin 512), y = ix3 g i j :=
  ⟨y 0, y 1, y 2, by funext k; fin_cases k <;> rfl⟩

abbrev Rows (n : ℕ) (p : FTy) := FVec Ideal ⟨2, ![n, 2048]⟩ p
abbrev Weights := FVec Ideal ⟨3, ![4, 512, 512]⟩ .bf16
abbrev Scale := FVec Ideal ⟨2, ![1, 2048]⟩ .f32

variable {n : ℕ} {p : FTy}

/-- The scaled cotangent of the mixed rows. -/
def dyAt (dm : Rows n .f32) (s : Scale) (r : Fin n) (l : Fin 2048) : EReal := dm (ix2 r l) * s (ix2 0 l)

/-- The cotangent of the pooled rows: each group's scaled cotangent by the rows of the group's weights. -/
def dpAt (dm : Rows n .f32) (w : Weights) (s : Scale) (r : Fin n) (l : Fin 2048) : EReal :=
  ∑ d : Fin 512, dyAt dm s r (lane (group l) d) * w (ix3 (group l) (place l) d)

/-- The pooled rows' projection: each group's columns by the columns of the group's weights. -/
def prodAt (x : Rows n .bf16) (w : Weights) (r : Fin n) (l : Fin 2048) : EReal :=
  ∑ c : Fin 512, x (ix2 r (lane (group l) c)) * w (ix3 (group l) c (place l))

/-- The gradient of the scale: what the rows of a column add up to. -/
def dsAt (dm : Rows n .f32) (x : Rows n .bf16) (w : Weights) (l : Fin 2048) : EReal :=
  ∑ r : Fin n, dm (ix2 r l) * prodAt x w r l

end Cert.Group

end
-- ==== Proof.PoolDxEquation.lean ====
/- The gradients that leave the pooled rows' projections: the cotangent of the pooled rows, the scaled cotangent, and the gradient
   of the scale, which is added up over sixteen blocks of the rows. -/
module

public import proofs.«01_k».proof.Defs
public import proofs.«01_k».proof.Proof.Product
public import proofs.«01_k».proof.Proof.Groups
public import proofs.«01_k».proof.Proof.Gen.PoolDxIdeal.Value
public import proofs.«01_k».proof.Proof.Gen.PoolDxReferenceIdeal.Run
public import Idealize.ShloMosaic.Lib.Claim
public import Idealize.ShloMosaic.Lib.Pipeline.ValueKit
public import Idealize.ShloMosaic.Lib.Pipeline.ReadBack

@[expose] public section

set_option maxRecDepth 16384

noncomputable section

namespace Cert.PoolDxIdeal.Value

open Cert.PoolDxIdeal Cert.PoolDxIdeal.Gen Cert.Product Cert.Group Idealize.ShloMosaic
open Idealize.ShloMosaic.TcCoe Idealize.SL.Sem

abbrev Piece := FVec Ideal S256x512 .f32

/-- A load of a group's weights, at an element, -/
theorem ld_group (w : Weights) (g : Fin 4) (o : ℕ) (ho : o = g.val)
    (inb : ∀ a, (![o, 0, 0] : Fin 3 → ℕ) a + (![1, 512, 512] : Fin 3 → ℕ) a ≤ S4x512x512.size a) (i j : Fin 512) :
    View.ld (Val := Elt Ideal) (S := S4x512x512) (e' := .bf16) w (Rect.unit (s := S4x512x512) ![o, 0, 0] ![1, 512, 512] inb) (ix3 0 i j)
      = w (ix3 g i j) := by
  refine View.ld_unit_apply_of (Val := Elt Ideal) (e := .bf16) w _ _ inb (ix3 0 i j) (ix3 g i j) fun a => ?_
  subst ho
  fin_cases a
  · rfl
  · show i.val = 0 + i.val; omega
  · show j.val = 0 + j.val; omega

/-- and of a group's columns of a block of the pooled rows. -/
theorem ld_lane (x : Rows 256 .bf16) (g : Fin 4) (o : ℕ) (ho : o = g.val * 512)
    (inb : ∀ a, (![0, o] : Fin 2 → ℕ) a + (![256, 512] : Fin 2 → ℕ) a ≤ S256x2048.size a) (r : Fin 256) (d : Fin 512) :
    View.ld (Val := Elt Ideal) (S := S256x2048) (e' := .bf16) x (Rect.unit (s := S256x2048) ![0, o] ![256, 512] inb) (ix2 r d)
      = x (ix2 r (lane g d)) := by
  refine View.ld_unit_apply_of (Val := Elt Ideal) (e := .bf16) x _ _ inb (ix2 r d) (ix2 r (lane g d)) fun a => ?_
  subst ho
  fin_cases a
  · show r.val = 0 + r.val; omega
  · rfl

/-- Four groups' pieces put side by side, -/
def joined (a b e f : Piece) : FVec Ideal S256x2048 .f32 :=
  concatenate S256x2048 1 [⟨S256x512, a⟩, ⟨S256x512, b⟩, ⟨S256x512, e⟩, ⟨S256x512, f⟩]
    concatenates_S256x512_S256x512_S256x512_S256x512_S256x2048_d1

/-- at an element. -/
theorem joined_at (G : Fin 256 → Fin 2048 → EReal) (a b e f : Piece)
    (ha : ∀ r d, a (ix2 r d) = G r (lane 0 d)) (hb : ∀ r d, b (ix2 r d) = G r (lane 1 d))
    (he : ∀ r d, e (ix2 r d) = G r (lane 2 d)) (hf : ∀ r d, f (ix2 r d) = G r (lane 3 d)) (r : Fin 256) (l : Fin 2048) :
    (joined a b e f (ix2 r l) : EReal) = G r l := by
  pointwise [joined]
  simp only [ha, hb, he, hf]
  split_ifs <;> exact congrArg (G r) (Fin.ext (by simp only [lane, Fin.val_zero, Fin.val_one, Fin.val_two, Fin.isValue]; omega))

section
variable (dm : Rows 256 .f32) (x : Rows 256 .bf16) (w : Weights) (s : Scale) (v : FVec Ideal S1x512x512 .bf16) (r : Fin 256) (c : Fin 512)

theorem dy_at (l : Fin 2048) : k0_pay4 (F := Ideal) dm s (ix2 r l) = dyAt dm s r l := by
  unfold dyAt; pointwise [k0_pay4]

/-- The product of a group's scaled cotangent by the rows of its weights. -/
def back (y : FVec Ideal S256x2048 .bf16) (o : ℕ) (h : S256x2048.Slices ![0, o] S256x512) : Piece :=
  matmul dot_S256x512_S512x512_S256x512_1_1_0_0_n_n none (extractStridedSlice S256x512 ![0, o] y h)
    (shapeCast S512x512 v shapeCasts_S1x512x512_S512x512) (constant S256x512 .f32 0x00000000#32)

theorem back_at (g : Fin 4) (o : ℕ) (ho : o = g.val * 512) (h : S256x2048.Slices ![0, o] S256x512)
    (hv : ∀ i j, v (ix3 0 i j) = w (ix3 g i j)) : (back v (k0_pay4 dm s) o h (ix2 r c) : EReal) = dpAt dm w s r (lane g c) := by
  unfold dpAt
  rw [group_lane, place_lane]
  simp only [← hv, ← dy_at]
  subst ho
  pointwise [back]
  rfl

/-- The product of a group's pooled rows by the columns of its weights. -/
theorem proj_at (g : Fin 4) (u : FVec Ideal S256x512 .bf16) (hu : ∀ r d, u (ix2 r d) = x (ix2 r (lane g d)))
    (hv : ∀ i j, v (ix3 0 i j) = w (ix3 g i j)) : k0_pay5 (F := Ideal) u v (ix2 r c) = prodAt x w r (lane g c) := by
  unfold prodAt
  rw [group_lane, place_lane]
  simp only [← hv, ← hu]
  pointwise [k0_pay5]

/-- What a block of the rows adds to the scale's gradient. -/
def added (a b e f : Piece) (p : Scale) : FVec Ideal S1x2048 .f32 :=
  addf (shapeCast S1x2048 p shapeCasts_S1x2048_S1x2048) (shapeCast S1x2048 (multiReduction .add [0] S2048 (mulf dm (joined a b e f))
    0x00000000#32 reduces_S256x2048_S2048 (.inl rfl) rfl) shapeCasts_S2048_S1x2048)

theorem added_at (a b e f : Piece) (p : Scale) (l : Fin 2048) :
    (added dm a b e f p (ix2 0 l) : EReal) = p (ix2 0 l) + ∑ r : Fin 256, dm (ix2 r l) * joined a b e f (ix2 r l) := by
  pointwise [added]

end

variable (m : (ℓ : Loc nD τ sig) → Buf (Elt Ideal) ℓ) (c : Dev nD)

/-- The argument arrays. -/
abbrev argM : Rows 4096 .f32 := m ((c.tc : Thread nD τ).loc main_arg0)
abbrev argX : Rows 4096 .bf16 := m ((c.tc : Thread nD τ).loc main_arg1)
abbrev argW : Weights := m ((c.tc : Thread nD τ).loc main_arg2)
abbrev argS : Scale := m ((c.tc : Thread nD τ).loc main_arg3)

/-- The blocks of a point. -/
abbrev blkM (t : Fin cfg0.N) : Rows 256 .f32 := iblk m c 0 t
abbrev blkX (t : Fin cfg0.N) : Rows 256 .bf16 := iblk m c 1 t
abbrev blkW (t : Fin cfg0.N) : Weights := iblk m c 2 t
abbrev blkS (t : Fin cfg0.N) : Scale := iblk m c 3 t

/-- The cotangent of the pooled rows, after a point. -/
theorem dp_point (t : Fin cfg0.N) (r : Fin 256) (l : Fin 2048) :
    ((outsAt0 m c t.val t.isLt).1 (ix2 r l) : EReal) = dpAt (blkM m c t) (blkW m c t) (blkS m c t) r l := by
  refine Eq.trans ?_ (joined_at (dpAt (blkM m c t) (blkW m c t) (blkS m c t)) _ _ _ _
    (fun r d => back_at _ _ _ (View.ld (Val := Elt Ideal) (S := S4x512x512) (e' := .bf16) (blkW m c t) (Rect.unit (s := S4x512x512) ![0, 0, 0] ![1, 512, 512] inb_S4x512x512_S1x512x512_0_0_0)) r d 0 0 rfl slices_S256x2048_o0_0_S256x512 (ld_group _ 0 0 rfl _))
    (fun r d => back_at _ _ _ (View.ld (Val := Elt Ideal) (S := S4x512x512) (e' := .bf16) (blkW m c t) (Rect.unit (s := S4x512x512) ![1, 0, 0] ![1, 512, 512] inb_S4x512x512_S1x512x512_1_0_0)) r d 1 512 rfl slices_S256x2048_o0_512_S256x512 (ld_group _ 1 1 rfl _))
    (fun r d => back_at _ _ _ (View.ld (Val := Elt Ideal) (S := S4x512x512) (e' := .bf16) (blkW m c t) (Rect.unit (s := S4x512x512) ![2, 0, 0] ![1, 512, 512] inb_S4x512x512_S1x512x512_2_0_0)) r d 2 1024 rfl slices_S256x2048_o0_1024_S256x512 (ld_group _ 2 2 rfl _))
    (fun r d => back_at _ _ _ (View.ld (Val := Elt Ideal) (S := S4x512x512) (e' := .bf16) (blkW m c t) (Rect.unit (s := S4x512x512) ![3, 0, 0] ![1, 512, 512] inb_S4x512x512_S1x512x512_3_0_0)) r d 3 1536 rfl slices_S256x2048_o0_1536_S256x512 (ld_group _ 3 3 rfl _)) r l)
  by_cases ht : t.val % 16 = 0
  · rw [outsAt0_A m c t ht]; dsimp only; frame_open; frame_out
    rfl
  · rw [outsAt0_B m c t ht]; dsimp only; frame_open; frame_out
    rfl

/-- The scaled cotangent, after a point. -/
theorem dy_point (t : Fin cfg0.N) (r : Fin 256) (l : Fin 2048) :
    ((outsAt0 m c t.val t.isLt).2.1 (ix2 r l) : EReal) = dyAt (blkM m c t) (blkS m c t) r l := by
  refine Eq.trans ?_ (dy_at _ _ r l)
  by_cases ht : t.val % 16 = 0
  · rw [outsAt0_A m c t ht]; dsimp only; frame_open; frame_out
  · rw [outsAt0_B m c t ht]; dsimp only; frame_open; frame_out

/-- One block's columns of the pooled rows' projection. -/
theorem joined_proj (t : Fin cfg0.N) (r : Fin 256) (l : Fin 2048) :
    (joined
      (k0_pay5 (View.ld (Val := Elt Ideal) (S := S256x2048) (e' := .bf16) (blkX m c t) (Rect.unit (s := S256x2048) ![0, 0] ![256, 512] inb_S256x2048_S256x512_0_0)) (View.ld (Val := Elt Ideal) (S := S4x512x512) (e' := .bf16) (blkW m c t) (Rect.unit (s := S4x512x512) ![0, 0, 0] ![1, 512, 512] inb_S4x512x512_S1x512x512_0_0_0)))
      (k0_pay5 (View.ld (Val := Elt Ideal) (S := S256x2048) (e' := .bf16) (blkX m c t) (Rect.unit (s := S256x2048) ![0, 512] ![256, 512] inb_S256x2048_S256x512_0_512)) (View.ld (Val := Elt Ideal) (S := S4x512x512) (e' := .bf16) (blkW m c t) (Rect.unit (s := S4x512x512) ![1, 0, 0] ![1, 512, 512] inb_S4x512x512_S1x512x512_1_0_0)))
      (k0_pay5 (View.ld (Val := Elt Ideal) (S := S256x2048) (e' := .bf16) (blkX m c t) (Rect.unit (s := S256x2048) ![0, 1024] ![256, 512] inb_S256x2048_S256x512_0_1024)) (View.ld (Val := Elt Ideal) (S := S4x512x512) (e' := .bf16) (blkW m c t) (Rect.unit (s := S4x512x512) ![2, 0, 0] ![1, 512, 512] inb_S4x512x512_S1x512x512_2_0_0)))
      (k0_pay5 (View.ld (Val := Elt Ideal) (S := S256x2048) (e' := .bf16) (blkX m c t) (Rect.unit (s := S256x2048) ![0, 1536] ![256, 512] inb_S256x2048_S256x512_0_1536)) (View.ld (Val := Elt Ideal) (S := S4x512x512) (e' := .bf16) (blkW m c t) (Rect.unit (s := S4x512x512) ![3, 0, 0] ![1, 512, 512] inb_S4x512x512_S1x512x512_3_0_0)))
      (ix2 r l) : EReal) = prodAt (blkX m c t) (blkW m c t) r l :=
  joined_at (prodAt (blkX m c t) (blkW m c t)) _ _ _ _
    (fun r d => proj_at _ _ _ r d 0 _ (ld_lane _ 0 0 rfl _) (ld_group _ 0 0 rfl _))
    (fun r d => proj_at _ _ _ r d 1 _ (ld_lane _ 1 512 rfl _) (ld_group _ 1 1 rfl _))
    (fun r d => proj_at _ _ _ r d 2 _ (ld_lane _ 2 1024 rfl _) (ld_group _ 2 2 rfl _))
    (fun r d => proj_at _ _ _ r d 3 _ (ld_lane _ 3 1536 rfl _) (ld_group _ 3 3 rfl _)) r l

/-- The scale's gradient: started at the first block, added to at the others. -/
theorem ds_first (t : Fin cfg0.N) (ht : t.val % 16 = 0) (l : Fin 2048) :
    ((outsAt0 m c t.val t.isLt).2.2 (ix2 0 l) : EReal)
      = k0_pay2 (F := Ideal) (ix2 0 l) + dsAt (blkM m c t) (blkX m c t) (blkW m c t) l := by
  unfold dsAt
  simp only [← joined_proj]
  refine Eq.trans ?_ (added_at _ _ _ _ _ _ l)
  rw [outsAt0_A m c t ht]; dsimp only; frame_open
  simp (disch := decide) only [↓ View.readCov_skip, ↓ View.readCov_cons_toLoadRect, ↓ View.readCov_fill]
  frame_out
  rfl

theorem ds_next (t : Fin cfg0.N) (ht : ¬t.val % 16 = 0) (l : Fin 2048) :
    ((outsAt0 m c t.val t.isLt).2.2 (ix2 0 l) : EReal)
      = (outsAt0 m c (t.val - 1) (Nat.lt_of_le_of_lt (Nat.sub_le _ _) t.isLt)).2.2 (ix2 0 l) + dsAt (blkM m c t) (blkX m c t) (blkW m c t) l := by
  unfold dsAt
  simp only [← joined_proj]
  refine Eq.trans ?_ (added_at _ _ _ _ _ _ l)
  rw [outsAt0_B m c t ht]; dsimp only; frame_open
  frame_out
  rfl

/-- Which block each window is at, at a point. -/
theorem idx_val : ∀ t : Fin cfg0.N, win0_0.index t = ![t.val, 0] ∧ win0_1.index t = ![t.val, 0] ∧ win0_2.index t = ![0, 0, 0] ∧ win0_3.index t = ![0, 0]
    ∧ win0_4.index t = ![t.val, 0] ∧ win0_5.index t = ![t.val, 0] :=
  (by decide +kernel : ∀ t : Fin grid0.N, _)

theorem point_lt (t : Fin cfg0.N) : t.val < 16 := Nat.lt_of_lt_of_eq t.isLt N_0

/-- Row `r` of the block of a point. -/
def rowOf (t : Fin cfg0.N) (r : Fin 256) : Fin (16 * 256) := ⟨t.val * 256 + r.val, by have := point_lt t; omega⟩

theorem blkM_at (t : Fin cfg0.N) (r : Fin 256) (l : Fin 2048) : blkM m c t (ix2 r l) = argM m c (ix2 (rowOf t r) l) := by
  unfold rowOf; blk_ext! [iblk, V, idx_val t]
theorem blkX_at (t : Fin cfg0.N) (r : Fin 256) (l : Fin 2048) : blkX m c t (ix2 r l) = argX m c (ix2 (rowOf t r) l) := by
  unfold rowOf; blk_ext! [iblk, V, idx_val t]
theorem blkW_at (t : Fin cfg0.N) (g : Fin 4) (i j : Fin 512) : blkW m c t (ix3 g i j) = argW m c (ix3 g i j) := by
  blk_ext! [iblk, V, idx_val t]
theorem blkS_at (t : Fin cfg0.N) (l : Fin 2048) : blkS m c t (ix2 0 l) = argS m c (ix2 0 l) := by
  blk_ext! [iblk, V, idx_val t]

/-- The three results, of the argument arrays. -/
def dpArr (dm : Rows 4096 .f32) (w : Weights) (s : Scale) : Rows 4096 .f32 := fun i => dpAt dm w s (i 0) (i 1)
def dyArr (dm : Rows 4096 .f32) (s : Scale) : Rows 4096 .bf16 := fun i => dyAt dm s (i 0) (i 1)
def dsArr (dm : Rows 4096 .f32) (x : Rows 4096 .bf16) (w : Weights) : Scale := fun i => dsAt dm x w (i 1)

/-- The kernel's arrays. -/
theorem final_dp : (dats m 0 c).arrAt 4 cfg0.N = dpArr (argM m c) (argW m c) (argS m c) := by
  refine (dats m 0 c).arrAt_eq_of_covers 4 _ (by decide +kernel) fun t _ y => ?_
  blk_simp [idx_val t]
  rw [after0_4]
  obtain ⟨i, j, rfl⟩ := ix2_of (a := 256) (b := 2048) y
  have e0 : (win0_4.blk t).view.emb (ix2 i j) 0 = rowOf t i := Fin.ext (by simp [rowOf, idx_val t])
  have e1 : (win0_4.blk t).view.emb (ix2 i j) 1 = j := Fin.ext (by simp [idx_val t])
  unfold dpArr
  rw [e0, e1, dp_point m c t i j]
  unfold dpAt dyAt
  simp only [blkM_at, blkW_at, blkS_at]

theorem final_dy : (dats m 0 c).arrAt 5 cfg0.N = dyArr (argM m c) (argS m c) := by
  refine (dats m 0 c).arrAt_eq_of_covers 5 _ (by decide +kernel) fun t _ y => ?_
  blk_simp [idx_val t]
  rw [after0_5]
  obtain ⟨i, j, rfl⟩ := ix2_of (a := 256) (b := 2048) y
  have e0 : (win0_5.blk t).view.emb (ix2 i j) 0 = rowOf t i := Fin.ext (by simp [rowOf, idx_val t])
  have e1 : (win0_5.blk t).view.emb (ix2 i j) 1 = j := Fin.ext (by simp [idx_val t])
  unfold dyArr
  rw [e0, e1, dy_point m c t i j]
  unfold dyAt
  rw [blkM_at, blkS_at]

/-- The last point. -/
def tLast : Fin cfg0.N := ⟨15, Nat.lt_of_lt_of_eq (by decide) N_0.symm⟩

theorem final_ds : (dats m 0 c).arrAt 6 cfg0.N = dsArr (argM m c) (argX m c) (argW m c) := by
  refine (dats m 0 c).arrAt_eq_of_after_last 6 tLast (by decide +kernel) _ fun j => ?_
  obtain ⟨l, rfl⟩ : ∃ l : Fin 2048, j = ix2 0 l :=
    ⟨j 1, by funext a; fin_cases a; exacts [Subsingleton.elim (α := Fin 1) _ _, rfl]⟩
  blk_simp
  rw [after0_6]
  refine (Pipeline.eq_sum_fin_of_reset_step_apply_last (M := EReal) (fun n h l => (outsAt0 m c n h).2.2 (ix2 0 l)) 16
    (fun _ => 0) (fun t l => dsAt (blkM m c t) (blkX m c t) (blkW m c t) l)
    (fun t h l => (ds_first m c t h l).trans (congrArg (· + _) (by pointwise [k0_pay2])))
    (fun t h l => ds_next m c t h l) (le_of_eq N_0) tLast rfl l).trans ?_
  refine (zero_add (M := EReal) _).trans ?_
  show _ = dsAt (argM m c) (argX m c) (argW m c) l
  unfold dsAt
  refine Eq.trans ?_ (sum_slices (a := 16) (n := 256) (fun k : Fin (16 * 256) => (argM m c (ix2 k l) * prodAt (argX m c) (argW m c) k l : EReal)))
  refine Fintype.sum_equiv (finCongr N_0) _ _ fun t => Finset.sum_congr rfl fun r _ => ?_
  show _ = (argM m c (ix2 (rowOf t r) l) * prodAt (argX m c) (argW m c) (rowOf t r) l : EReal)
  unfold prodAt
  simp only [blkM_at, blkX_at, blkW_at]

end Cert.PoolDxIdeal.Value

namespace Cert.PoolDxReferenceIdeal.Stage

open Cert.PoolDxReferenceIdeal Cert.PoolDxReferenceIdeal.Gen Cert.Product Cert.Group Idealize.ShloMosaic Cert.PoolDxIdeal.Value
open Idealize.ShloMosaic.TcCoe Idealize.SL.Sem

variable (dm : Rows 4096 .f32) (x : Rows 4096 .bf16) (w : Weights) (s : Scale)

/-- The reference's arrays, of its arguments. -/
def scaled : FVec Ideal S4096x2048 .f32 :=
  mulf (dm : FVec Ideal S4096x2048 .f32) (broadcastInDim S4096x2048 ![0, 1] bcast_S1x2048_S4096x2048_0_1 (s : FVec Ideal S1x2048 .f32))
def weights : FVec Ideal S4x512x512 .f32 := extf .f32 (w : FVec Ideal S4x512x512 .bf16) bitsLt_bf16_f32
def resultDp : Rows 4096 .f32 :=
  shapeCast _ (transpose S4096x4x512 [1, 0, 2] (Host.dotGeneral dot_S4x512x4096_S4x512x512_S4x4096x512_1_2_2_1_0_0 none
    (transpose S4x512x4096 [1, 2, 0] (shapeCast _ (scaled dm s) shapeCasts_S4096x2048_S4096x4x512) transposes_S4096x4x512_S4x512x4096_1_2_0)
    (weights w)) transposes_S4x4096x512_S4096x4x512_1_0_2) shapeCasts_S4096x4x512_S4096x2048
def resultDy : Rows 4096 .bf16 := truncf .bf16 (scaled dm s) bitsLt_bf16_f32
def products : FVec Ideal S4096x4x512 .f32 :=
  transpose S4096x4x512 [2, 0, 1] (Host.dotGeneral dot_S4x512x512_S4096x4x512_S4x512x4096_1_2_2_0_0_1 none (weights w)
    (shapeCast _ (extf .f32 (x : FVec Ideal S4096x2048 .bf16) bitsLt_bf16_f32) shapeCasts_S4096x2048_S4096x4x512))
    transposes_S4x512x4096_S4096x4x512_2_0_1
def resultDs : Scale :=
  shapeCast _ (Host.reduceAdd (mulf (shapeCast _ (products x w) shapeCasts_S4096x4x512_S4096x2048) (dm : FVec Ideal S4096x2048 .f32))
    (constant S_ .f32 0x00000000#32) reducesTo_S4096x2048_S2048_d0 h_S_) shapeCasts_S2048_S1x2048

theorem scaled_at (r : Fin 4096) (l : Fin 2048) : (scaled dm s (ix2 r l) : EReal) = dyAt dm s r l := by
  unfold dyAt; pointwise [scaled]
theorem weights_at (g : Fin 4) (i j : Fin 512) : (weights w (ix3 g i j) : EReal) = w (ix3 g i j) := by pointwise [weights]

theorem dy_eq : resultDy dm s = dyArr dm s := by
  funext i
  obtain ⟨r, l, rfl⟩ := ix2_of (a := 4096) (b := 2048) i
  pointwise [resultDy, scaled_at]
  rfl

theorem dp_eq : resultDp dm w s = dpArr dm w s := by
  funext i
  obtain ⟨r, l, rfl⟩ := ix2_of (a := 4096) (b := 2048) i
  show _ = dpAt dm w s r l
  unfold dpAt group place lane
  pointwise [resultDp, scaled_at, weights_at]

theorem products_at (r : Fin 4096) (g : Fin 4) (d : Fin 512) : (products x w (ix3 r g d) : EReal) = prodAt x w r (lane g d) := by
  unfold prodAt
  rw [group_lane, place_lane]
  unfold lane
  pointwise [products, weights_at, mul_comm (G := EReal)]

theorem ds_eq : resultDs dm x w = dsArr dm x w := by
  funext i
  obtain ⟨z, l, rfl⟩ := ix2_of (a := 1) (b := 2048) i
  show _ = dsAt dm x w l
  unfold dsAt
  have e : ∀ r : Fin 4096, prodAt x w r l = products x w (ix3 r (group l) (place l)) := fun r => by rw [products_at, lane_of]
  simp only [e]
  unfold group place
  pointwise [resultDs, mul_comm (G := EReal)]

end Cert.PoolDxReferenceIdeal.Stage

namespace Cert.Proof

open Idealize.ShloMosaic Idealize.SL.Sem
open Cert.PoolDxIdeal.Value (argM argX argW argS dpArr dyArr dsArr final_dp final_dy final_ds)
open Cert.PoolDxReferenceIdeal.Stage (dp_eq dy_eq ds_eq)

/-- From the same arguments, both programs end with the same three gradients. -/
theorem pool_rows_gradient : Cert.algebraic_PoolDxIdeal_PoolDxReferenceIdeal := by
  intro m g m' g' _ hargs
  refine ⟨fun c => dpArr (argM m c) (argW m c) (argS m c), fun c => dyArr (argM m c) (argS m c), fun c => dsArr (argM m c) (argX m c) (argW m c), ?_, ?_⟩
  · refine (θ_run _ _ _).mono (fun r h c => ?_) (Cert.PoolDxIdeal.Value.run_blocks m g)
    obtain ⟨h0, h1, h2, ha⟩ := h c
    exact ⟨h0.trans (final_dp m c), h1.trans (final_dy m c), h2.trans (final_ds m c), ha⟩
  · refine (θ_run _ _ _).mono (fun r h c => ?_) (Cert.PoolDxReferenceIdeal.Value.run m' g')
    obtain ⟨h0, h1, h2, ha⟩ := h c
    obtain ⟨e0, e1, e2, e3⟩ := hargs c
    refine ⟨h0.trans ?_, h1.trans ?_, h2.trans ?_, ha⟩
    · rw [e0, e2, e3]; exact dp_eq _ _ _
    · rw [e0, e3]; exact dy_eq _ _
    · rw [e0, e1, e2]; exact ds_eq _ _ _

end Cert.Proof

end
-- ==== Proof.PoolDwEquation.lean ====
/- The gradient of the pooled rows' projections, one per group of 512 columns, summed over slices of the rows: columns of the
   pooled rows by columns of the projections' cotangent. -/
module

public import proofs.«01_k».proof.Defs
public import proofs.«01_k».proof.Proof.Product
public import proofs.«01_k».proof.Proof.Groups
public import proofs.«01_k».proof.Proof.Gen.PoolDwIdeal.Value
public import proofs.«01_k».proof.Proof.Gen.PoolDwReferenceIdeal.Run
public import Idealize.ShloMosaic.Lib.Claim
public import Idealize.ShloMosaic.Lib.Pipeline.ValueKit
public import Idealize.ShloMosaic.Lib.Pipeline.ReadBack

@[expose] public section

set_option maxRecDepth 16384

noncomputable section

namespace Cert.PoolDwIdeal.Value

open Cert.PoolDwIdeal Cert.PoolDwIdeal.Gen Cert.Product Cert.Group Idealize.ShloMosaic
open Idealize.ShloMosaic.TcCoe Idealize.SL.Sem

abbrev A := FVec Ideal S4096x2048 .bf16
abbrev B := FVec Ideal S4096x2048 .bf16
abbrev O := FVec Ideal S4x512x512 .f32

/-- The weights' gradients, from the pooled rows and the projections' cotangent. -/
def wgrad (x : A) (y : B) : O := fun i => (∑ k : Fin 4096, x (ix2 k (lane (i 0) (i 1))) * y (ix2 k (lane (i 0) (i 2))) : EReal)

section
variable (x : FVec Ideal S512x512 .bf16) (y : FVec Ideal S512x512 .bf16) (i : Fin 512) (j : Fin 512)

/-- What one slice of the rows adds. -/
def share : EReal := ∑ k : Fin 512, x (ix2 k i) * y (ix2 k j)

theorem prod_at : k0_pay1 (F := Ideal) x y (ix2 i j) = share x y i j := by pointwise [k0_pay1, share]
theorem share_at : k0_pay2 (F := Ideal) x y (ix2 i j) = share x y i j := by pointwise [k0_pay2, prod_at]
theorem add_at (p : FVec Ideal S512x512 .f32) : k0_pay3 (F := Ideal) x y p (ix2 i j) = p (ix2 i j) + share x y i j := by
  pointwise [k0_pay3, prod_at]

end

variable (m : (ℓ : Loc nD τ sig) → Buf (Elt Ideal) ℓ) (c : Dev nD)

/-- The argument arrays. -/
abbrev argA : A := m ((c.tc : Thread nD τ).loc main_arg0)
abbrev argB : B := m ((c.tc : Thread nD τ).loc main_arg1)

/-- The blocks of a point. -/
abbrev blkA (t : Fin cfg0.N) : FVec Ideal S512x512 .bf16 := iblk m c 0 t
abbrev blkB (t : Fin cfg0.N) : FVec Ideal S512x512 .bf16 := iblk m c 1 t

/-- The running sum: started at a tile's first slice, added to at the others. -/
theorem sum_first (t : Fin cfg0.N) (h0 : t.val % 8 = 0) (i : Fin 512) (j : Fin 512) :
    ((outsAt0 m c t.val t.isLt).2 (ix2 i j) : EReal) = share (blkA m c t) (blkB m c t) i j := by
  refine Eq.trans ?_ (share_at _ _ i j)
  rw [outsAt0_A m c t h0 (by omega) (by omega)]; dsimp only; frame_open; frame_out

theorem sum_next (t : Fin cfg0.N) (h0 : ¬t.val % 8 = 0) (i : Fin 512) (j : Fin 512) :
    ((outsAt0 m c t.val t.isLt).2 (ix2 i j) : EReal)
      = (outsAt0 m c (t.val - 1) (Nat.lt_of_le_of_lt (Nat.sub_le _ _) t.isLt)).2 (ix2 i j) + share (blkA m c t) (blkB m c t) i j := by
  refine Eq.trans ?_ (add_at _ _ i j _)
  by_cases h2 : t.val % 8 = 7
  · rw [outsAt0_C m c t h0 (by omega) h2]; dsimp only; frame_open; frame_out; rw [read_unread_whole]
  · rw [outsAt0_B m c t h0 (by omega) h2]; dsimp only; frame_open; frame_out; rw [read_unread_whole]

/-- At a tile's last slice the sum is the tile's result. -/
theorem res_point (t : Fin cfg0.N) (h2 : t.val % 8 = 7) (i : Fin 512) (j : Fin 512) :
    ((outsAt0 m c t.val t.isLt).1 (ix3 0 i j) : EReal) = (outsAt0 m c t.val t.isLt).2 (ix2 i j) := by
  rw [outsAt0_C m c t (by omega) (by omega) h2]; dsimp only; frame_open; frame_out
  pointwise [k0_pay4]

/-- Which block each window is at, at a point. -/
theorem idx_val : ∀ t : Fin cfg0.N, win0_0.index t = ![t.val % 8, t.val / 8] ∧ win0_1.index t = ![t.val % 8, t.val / 8] ∧ win0_2.index t = ![t.val / 8, 0, 0] :=
  (by decide +kernel : ∀ t : Fin grid0.N, _)

theorem point_lt (t : Fin cfg0.N) : t.val < 32 := Nat.lt_of_lt_of_eq t.isLt N_0

/-- The group of a point, and row `k` of its slice. -/
def groupOf (t : Fin cfg0.N) : Fin 4 := ⟨t.val / 8, by have := point_lt t; omega⟩
def sliceOf (t : Fin cfg0.N) (k : Fin 512) : Fin (8 * 512) := ⟨t.val % 8 * 512 + k.val, by omega⟩

theorem blkA_at (t : Fin cfg0.N) (i : Fin 512) (k : Fin 512) : blkA m c t (ix2 k i) = argA m c (ix2 (sliceOf t k) (lane (groupOf t) i)) := by
  unfold lane groupOf sliceOf; blk_ext! [iblk, V, idx_val t]
theorem blkB_at (t : Fin cfg0.N) (j : Fin 512) (k : Fin 512) : blkB m c t (ix2 k j) = argB m c (ix2 (sliceOf t k) (lane (groupOf t) j)) := by
  unfold lane groupOf sliceOf; blk_ext! [iblk, V, idx_val t]

/-- The kernel's array. -/
theorem final : (dats m 0 c).arrAt 2 cfg0.N = wgrad (argA m c) (argB m c) := by
  refine (dats m 0 c).arrAt_eq_of_covers 2 _ (by decide +kernel) fun t hf y => ?_
  blk_simp [idx_val t]
  rw [after0_2]
  have h7 : t.val % 8 = 7 := (flush0_2 t).mp hf
  obtain ⟨i, j, rfl⟩ : ∃ (i j : Fin 512), y = ix3 0 i j :=
    ⟨y 1, y 2, by funext a; fin_cases a; exacts [Subsingleton.elim (α := Fin 1) _ _, rfl, rfl]⟩
  have e0 : (win0_2.blk t).view.emb (ix3 0 i j) 0 = groupOf t := Fin.ext (by simp [groupOf, idx_val t])
  have e1 : (win0_2.blk t).view.emb (ix3 0 i j) 1 = i := Fin.ext (by simp [idx_val t])
  have e2 : (win0_2.blk t).view.emb (ix3 0 i j) 2 = j := Fin.ext (by simp [idx_val t])
  unfold wgrad
  rw [e0, e1, e2, res_point m c t h7 i j]
  refine (Pipeline.eq_sum_fin_of_reset_step_apply_of_flush (M := EReal) (ι := Fin 512 × Fin 512)
    (fun n h i => (outsAt0 m c n h).2 (ix2 i.1 i.2)) 8 (fun _ => 0)
    (fun t i => share (blkA m c t) (blkB m c t) i.1 i.2)
    (fun t h i => (sum_first m c t h i.1 i.2).trans (zero_add (M := EReal) _).symm)
    (fun t h i => sum_next m c t h i.1 i.2) t h7 (i, j)).trans ?_
  refine (zero_add (M := EReal) _).trans ?_
  refine Eq.trans (Finset.sum_congr rfl fun s _ => Finset.sum_congr rfl fun k _ => ?_)
    (sum_slices (n := 512) (fun k : Fin (8 * 512) => (argA m c (ix2 k (lane (groupOf t) i)) * argB m c (ix2 k (lane (groupOf t) j)) : EReal)))
  have es : sliceOf ⟨8 * (t.val / 8) + s.val, Pipeline.run_point_lt_of_flush t h7 s⟩ k = slice s k := Fin.ext (by simp only [sliceOf, slice]; omega)
  have eg : groupOf ⟨8 * (t.val / 8) + s.val, Pipeline.run_point_lt_of_flush t h7 s⟩ = groupOf t := Fin.ext (by simp only [groupOf]; omega)
  rw [blkA_at, blkB_at, es, eg]

end Cert.PoolDwIdeal.Value

namespace Cert.PoolDwReferenceIdeal.Stage

open Cert.PoolDwReferenceIdeal Cert.PoolDwReferenceIdeal.Gen Cert.Product Cert.Group Idealize.ShloMosaic Cert.PoolDwIdeal.Value
open Idealize.ShloMosaic.TcCoe Idealize.SL.Sem

/-- The reference's array, of its arguments. -/
def result (x : A) (y : B) : O :=
  transpose S4x512x512 [0, 2, 1] (Host.dotGeneral dot_S4x512x4096_S4096x4x512_S4x512x512_2_0_1_2_0_1 none
    (transpose S4x512x4096 [1, 2, 0] (shapeCast _ (extf .f32 (y : FVec Ideal S4096x2048 .bf16) bitsLt_bf16_f32) shapeCasts_S4096x2048_S4096x4x512)
      transposes_S4096x4x512_S4x512x4096_1_2_0)
    (shapeCast _ (extf .f32 (x : FVec Ideal S4096x2048 .bf16) bitsLt_bf16_f32) shapeCasts_S4096x2048_S4096x4x512))
    transposes_S4x512x512_S4x512x512_0_2_1

theorem result_eq (x : A) (y : B) : result x y = wgrad x y := by
  funext i
  obtain ⟨g, i, j, rfl⟩ := ix3_of i
  refine Eq.trans (b := (∑ k : Fin 4096, y (ix2 k (lane g j)) * x (ix2 k (lane g i)) : EReal)) ?_
    (Finset.sum_congr rfl fun k _ => mul_comm (G := EReal) _ _)
  unfold lane
  pointwise [result]

end Cert.PoolDwReferenceIdeal.Stage

namespace Cert.Proof

open Idealize.ShloMosaic Idealize.SL.Sem
open Cert.PoolDwIdeal.Value (argA argB wgrad final)
open Cert.PoolDwReferenceIdeal.Stage (result_eq)

/-- From the same arguments, both programs end with the gradients of the projections' weights. -/
theorem pool_weight_gradient : Cert.algebraic_PoolDwIdeal_PoolDwReferenceIdeal := by
  intro m g m' g' _ hargs
  refine ⟨fun c => wgrad (argA m c) (argB m c), ?_, ?_⟩
  · refine (θ_run _ _ _).mono (fun r h c => ?_) (Cert.PoolDwIdeal.Value.run_blocks m g)
    obtain ⟨h0, ha⟩ := h c
    exact ⟨h0.trans (final m c), ha⟩
  · refine (θ_run _ _ _).mono (fun r h c => ?_) (Cert.PoolDwReferenceIdeal.Value.run m' g')
    obtain ⟨h0, ha⟩ := h c
    obtain ⟨e0, e1⟩ := hargs c
    refine ⟨h0.trans ?_, ha⟩
    exact (result_eq _ _).trans (congrArg₂ wgrad e0 e1)

end Cert.Proof

end
-- ==== Proof.XattnEquation.lean ====
/- The cross-attention's forward pass: every head's rows are sums of the values by the softmax of the row's scaled scores. -/
module

public import proofs.«01_k».proof.Defs
public import proofs.«01_k».proof.Proof.Equation
public import proofs.«01_k».proof.Proof.Product
public import proofs.«01_k».proof.Proof.Gen.XattnIdeal.Value
public import proofs.«01_k».proof.Proof.Gen.XattnReferenceIdeal.Run

@[expose] public section

set_option maxRecDepth 16384

noncomputable section

namespace Cert.XattnIdeal.Value

open Cert.XattnIdeal Cert.XattnIdeal.Gen Cert.Row Cert.Grad Cert.Product Idealize.ShloMosaic
open Cert.KernelIdeal.Heads (row)
open Cert.KernelIdeal.Value (cols colsK row_cols row_colsK ld_head side_by_side)
open Idealize.ShloMosaic.TcCoe Idealize.SL.Sem

/-- The attended values. -/
def attend {n : ℕ} (q : Wide n) (k v : Wide 256) (r : Fin n) (l : Fin 512) : EReal :=
  ∑ a, prob (hrow q (head l) r) (hrow k (head l)) a * v (ix2 a l)

/-- As a whole array. -/
def attended (q : Wide 4096) (k v : Wide 256) : Wide 4096 := fun i => attend q k v (i 0) (i 1)

section
variable (q : FVec Ideal S512x128 .bf16) (k v : FVec Ideal S256x128 .bf16)

theorem probs_at (r : Fin 512) (a : Fin 256) : k0_pay3 (F := Ideal) q k (ix2 r a) = prob (row q r) (row k) a := by
  pointwise [k0_pay3]
  rfl

theorem out_at (r : Fin 512) (d : Fin 128) :
    k0_pay4 (F := Ideal) (k0_pay3 (F := Ideal) q k) v (ix2 r d) = ∑ a, prob (row q r) (row k) a * v (ix2 a d) := by
  pointwise [k0_pay4, probs_at]

/-! The other heads are the same operations. -/

theorem out_0 : k0_pay2 (F := Ideal) q k v = k0_pay4 (F := Ideal) (k0_pay3 (F := Ideal) q k) v := rfl
theorem out_2 : k0_pay5 (F := Ideal) q k v = k0_pay4 (F := Ideal) (k0_pay3 (F := Ideal) q k) v := rfl
theorem probs_3 : k0_pay6 (F := Ideal) q k = k0_pay3 (F := Ideal) q k := rfl

end

/-- A head's columns. -/
theorem head_out (q : FVec Ideal S512x512 .bf16) (k v : FVec Ideal S256x512 .bf16) (h : Fin 4) (o : ℕ) (ho : o = 128 * h.val)
    (iq : ∀ a, (![0, o] : Fin 2 → ℕ) a + (![512, 128] : Fin 2 → ℕ) a ≤ S512x512.size a)
    (ik : ∀ a, (![0, o] : Fin 2 → ℕ) a + (![256, 128] : Fin 2 → ℕ) a ≤ S256x512.size a) (r : Fin 512) (d : Fin 128) :
    k0_pay4 (F := Ideal) (k0_pay3 (F := Ideal) (cols o iq q) (colsK (e := .bf16) o ik k)) (colsK (e := .bf16) o ik v) (ix2 r d)
      = attend q k v r (lane h d) := by
  refine (out_at _ _ _ r d).trans (Finset.sum_congr rfl fun a _ => ?_)
  rw [row_cols q h o ho iq, row_colsK k h o ho ik, head_lane]
  exact congrArg _ (ld_head (e := .bf16) v h o ho ik a d)

/-- The four heads' columns side by side. -/
theorem block_at (a b e : FVec Ideal S512x128 .f32) (p : FVec Ideal S512x256 .bf16) (w : FVec Ideal S256x128 .bf16) (j : S512x512.Idx) :
    k0_pay1 (F := Ideal) a b e p w j
      = concatenate S512x512 1 [⟨S512x128, a⟩, ⟨S512x128, b⟩, ⟨S512x128, e⟩, ⟨S512x128, k0_pay4 (F := Ideal) p w⟩]
          concatenates_S512x128_S512x128_S512x128_S512x128_S512x512_d1 j := rfl

theorem out_point (q : FVec Ideal S512x512 .bf16) (k v : FVec Ideal S256x512 .bf16) (r : Fin 512) (l : Fin 512) :
    (out0_3 (F := Ideal) q k v (ix2 r l) : EReal) = attend q k v r l := by
  frame_out
  exact (block_at _ _ _ _ _ _).trans (side_by_side (attend q k v) _ _ _ _
    (fun r d => head_out _ _ _ 0 0 rfl _ _ r d) (fun r d => head_out _ _ _ 1 128 rfl _ _ r d)
    (fun r d => head_out _ _ _ 2 256 rfl _ _ r d) (fun r d => head_out _ _ _ 3 384 rfl _ _ r d) r l)

variable (m : (ℓ : Loc nD τ sig) → Buf (Elt Ideal) ℓ) (c : Dev nD)

/-- The argument arrays. -/
abbrev argQ : Wide 4096 := m ((c.tc : Thread nD τ).loc main_arg0)
abbrev argK : Wide 256 := m ((c.tc : Thread nD τ).loc main_arg1)
abbrev argV : Wide 256 := m ((c.tc : Thread nD τ).loc main_arg2)

/-- The blocks of a point. -/
abbrev blkQ (t : Fin cfg0.N) : Wide 512 := iblk m c 0 t
abbrev blkK (t : Fin cfg0.N) : Wide 256 := iblk m c 1 t
abbrev blkV (t : Fin cfg0.N) : Wide 256 := iblk m c 2 t

/-- Which block each window is at, at a point. -/
theorem idx_val : ∀ t : Fin cfg0.N, win0_0.index t = ![t.val, 0] ∧ win0_1.index t = ![0, 0] ∧ win0_2.index t = ![0, 0] ∧ win0_3.index t = ![t.val, 0] :=
  (by decide +kernel : ∀ t : Fin grid0.N, _)

theorem point_lt (t : Fin cfg0.N) : t.val < 8 := Nat.lt_of_lt_of_eq t.isLt N_0

/-- Row `r` of the block of a point. -/
def rowOf (t : Fin cfg0.N) (r : Fin 512) : Fin 4096 := ⟨t.val * 512 + r.val, by have := point_lt t; omega⟩

theorem blkQ_at (t : Fin cfg0.N) (r : Fin 512) (l : Fin 512) : blkQ m c t (ix2 r l) = argQ m c (ix2 (rowOf t r) l) := by
  unfold rowOf; blk_ext! [iblk, V, idx_val t]
theorem blkK_at (t : Fin cfg0.N) (a : Fin 256) (l : Fin 512) : blkK m c t (ix2 a l) = argK m c (ix2 a l) := by
  blk_ext! [iblk, V, idx_val t]
theorem blkV_at (t : Fin cfg0.N) (a : Fin 256) (l : Fin 512) : blkV m c t (ix2 a l) = argV m c (ix2 a l) := by
  blk_ext! [iblk, V, idx_val t]

/-- The kernel's array. -/
theorem final : (dats m 0 c).arrAt 3 cfg0.N = attended (argQ m c) (argK m c) (argV m c) := by
  refine (dats m 0 c).arrAt_eq_of_covers 3 _ (by decide +kernel) fun t _ y => ?_
  blk_simp [idx_val t]
  rw [after0_3]
  obtain ⟨i, j, rfl⟩ := ix2_of (a := 512) (b := 512) y
  have e0 : (win0_3.blk t).view.emb (ix2 i j) 0 = rowOf t i := Fin.ext (by simp [rowOf, idx_val t])
  have e1 : (win0_3.blk t).view.emb (ix2 i j) 1 = j := Fin.ext (by simp [idx_val t])
  unfold attended
  rw [e0, e1]
  refine (out_point _ _ _ i j).trans ?_
  show attend (blkQ m c t) (blkK m c t) (blkV m c t) i j = _
  unfold attend hrow
  simp only [blkQ_at, blkK_at, blkV_at]

end Cert.XattnIdeal.Value

namespace Cert.XattnReferenceIdeal.Stage

open Cert.XattnReferenceIdeal Cert.XattnReferenceIdeal.Gen Cert.Product Cert.Row Cert.Grad Idealize.ShloMosaic
open Cert.ReferenceIdeal.Stage
open Cert.XattnIdeal.Value (attend attended)
open Idealize.ShloMosaic.TcCoe Idealize.SL.Sem

/-- The reference's array, of its arguments. -/
def result (q : Wide 4096) (k v : Wide 256) : Wide 4096 :=
  truncf .bf16 (shapeCast _ (transpose S1x4096x4x128 [0, 3, 1, 2]
    (Host.dotGeneral dot_S1x256x4x128_S1x4x4096x256_S1x4x128x4096_1_3_3_2_02_01 none (splitK v)
      (Host.divf (weights (scores q k)) (spread (totals (weights (scores q k))))))
    transposes_S1x4x128x4096_S1x4096x4x128_0_3_1_2) shapeCasts_S1x4096x4x128_S4096x512) bitsLt_bf16_f32

theorem result_at (q : Wide 4096) (k v : Wide 256) (r : Fin 4096) (l : Fin 512) :
    (result q k v (ix2 r l) : EReal)
      = ∑ a : Fin 256, v (ix2 a l) * Ideal.div (weight (hrow q (head l) r) (tok k (head l)) a) (total (hrow q (head l) r) (tok k (head l))) := by
  pointwise [result, splitK_at, spread, weights_at, totals_at, hrow_head, head]

theorem result_eq {q : Wide 4096} {k : Wide 256} (v : Wide 256) (hq : AllFinite q) (hk : AllFinite k) : result q k v = attended q k v := by
  funext i
  obtain ⟨r, l, rfl⟩ := ix2_of (a := 4096) (b := 512) i
  refine (result_at q k v r l).trans ?_
  show _ = attend q k v r l
  unfold attend
  refine (Finset.sum_congr rfl fun a _ => ?_)
  rw [← prob_eq_div (hq.row _ _) (fun m => hk.row _ m)]
  exact mul_comm (G := EReal) _ _

end Cert.XattnReferenceIdeal.Stage

namespace Cert.Proof

open Idealize.ShloMosaic Idealize.SL.Sem Cert.Row Cert.Grad Cert.ReferenceIdeal.Stage
open Cert.XattnIdeal.Value (argQ argK argV attended final)
open Cert.XattnReferenceIdeal.Stage (result result_eq)

instance facts_finite_rows : Cert.Pre_finite_rows.Facts := ⟨by decide, by decide, by decide⟩

/-- The precondition, read: every element of the queries and of the keys is finite. -/
theorem finite_of_rows (q : Wide 4096) (k v : Wide 256)
    (h : Cert.Pre_finite_rows.fn (F := Ideal) q k v = fun _ => 1#1) : AllFinite q ∧ AllFinite k := by
  have e : ∀ (i : Fin 4352) (l : Fin 512), Cert.Pre_finite_rows.fn (F := Ideal) q k v (ix2 i l) = 1#1 := fun i l => congrFun h _
  refine ⟨fun r l => finite_of_abs (lt_top_of_bit ?_), fun r l => finite_of_abs (lt_top_of_bit ?_)⟩
  · have e := e ⟨r.val, by omega⟩ l
    pointwise [Cert.Pre_finite_rows.fn] at e
    exact e
  · have e := e ⟨4096 + r.val, by omega⟩ l
    pointwise [Cert.Pre_finite_rows.fn] at e
    exact e

/-- From the same finite queries and keys, both programs end with the attended values. -/
theorem attended_values : Cert.algebraic_XattnIdeal_XattnReferenceIdeal_pre_finite_rows := by
  intro m g m' g' hpre hargs
  have hf : ∀ c, AllFinite (argQ m c) ∧ AllFinite (argK m c) := fun c => finite_of_rows _ _ _ (hpre c)
  refine ⟨fun c => attended (argQ m c) (argK m c) (argV m c), ?_, ?_⟩
  · refine (θ_run _ _ _).mono (fun r h c => ?_) (Cert.XattnIdeal.Value.run_blocks m g)
    obtain ⟨h0, ha⟩ := h c
    exact ⟨h0.trans (final m c), ha⟩
  · refine (θ_run _ _ _).mono (fun r h c => ?_) (Cert.XattnReferenceIdeal.Value.run m' g')
    obtain ⟨h0, ha⟩ := h c
    obtain ⟨e0, e1, e2⟩ := hargs c
    refine ⟨h0.trans ?_, ha⟩
    rw [e0, e1, e2]
    exact result_eq _ (hf c).1 (hf c).2

end Cert.Proof

end
-- ==== Proof.RowNorm.lean ====
/- A row divided by the root of its mean square and scaled, feature by feature, and the way back through that: two ways of writing
   it, and why they agree for any extended reals. -/
module

public import proofs.«01_k».proof.Proof.Product
public import proofs.«01_k».proof.Proof.Math

@[expose] public section

noncomputable section

namespace Cert.Norm

open Idealize.ShloMosaic Cert.Product

abbrev Rows (n : ℕ) := FVec Ideal (Grid n 2048) .f32
abbrev Gain := FVec Ideal (Grid 1 2048) .f32

/-- The number of features, and what is added to the mean square. -/
def width : EReal := Ideal.ofBits .f32 0x45000000#32
def eps : EReal := Ideal.ofBits .f32 0x358637BD#32

/-- The mean square of a row with a little added, and the reciprocal of its root. -/
def square (x : Fin 2048 → EReal) : EReal := Ideal.div (∑ d, x d * x d) width + eps
def rstd (x : Fin 2048 → EReal) : EReal := Ideal.rsqrt (square x)

/-- A feature of the normed row. -/
def normed (x : Fin 2048 → EReal) (g : Gain) (l : Fin 2048) : EReal := x l * rstd x * g (ix2 0 l)

/-- Row `r` of some rows. -/
def row {n : ℕ} (x : Rows n) (r : Fin n) (l : Fin 2048) : EReal := x (ix2 r l)

/-- The rows plus other rows normed. -/
def added {n : ℕ} (x m : Rows n) (g : Gain) (r : Fin n) (l : Fin 2048) : EReal := x (ix2 r l) + normed (row m r) g l

/-! ## The constants -/

theorem width_eq : width = ((2048 : ℝ) : EReal) := by
  unfold width
  simp [Ideal.ofBits, Ideal.ieee, -EReal.coe_mul]
  norm_num

theorem div_width (x : EReal) : Ideal.div x width = x * ((2048⁻¹ : ℝ) : EReal) := by
  rw [width_eq]
  unfold Ideal.div
  rw [if_neg (by norm_num), EReal.coe_inv]

theorem eps_pos : ∃ e : ℝ, 0 < e ∧ eps = (e : EReal) := by
  refine ⟨eps.toReal, ?_, ?_⟩ <;> unfold eps <;> simp [Ideal.ofBits, Ideal.ieee, -EReal.coe_mul]

/-- Minus a half. -/
def minusHalf : EReal := Ideal.ofBits .f32 0xBF000000#32

theorem minusHalf_eq : minusHalf = ((-(1 / 2) : ℝ) : EReal) := by
  unfold minusHalf
  simp [Ideal.ofBits, Ideal.ieee, -EReal.coe_mul, -EReal.coe_neg]
  norm_num

/-! ## The way back -/

/-- The cotangent of a row's feature, of the cotangent of the row before it is scaled: its excess over the row's share of it. -/
def back (x w : Fin 2048 → EReal) (l : Fin 2048) : EReal :=
  rstd x * (w l - x l * rstd x * Ideal.div (∑ d, w d * (x d * rstd x)) width)

/-- What reaches a feature's square. -/
def slope (x w : Fin 2048 → EReal) : EReal :=
  Ideal.div ((∑ d, x d * w d) * (minusHalf * Ideal.div (rstd x) (square x))) width

/-- The same cotangent, once straight and once through each factor of the feature's square. -/
def backLong (x w : Fin 2048 → EReal) (l : Fin 2048) : EReal := w l * rstd x + x l * slope x w + slope x w * x l

theorem self_nonneg (x : EReal) : 0 ≤ x * x := by
  induction x with
  | bot => simp
  | top => simp
  | coe r => rw [← EReal.coe_mul]; exact_mod_cast mul_self_nonneg r

/-- The mean square with a little added is infinite or a positive number. -/
theorem square_cases (x : Fin 2048 → EReal) : square x = ⊤ ∨ ∃ v : ℝ, 0 < v ∧ square x = (v : EReal) := by
  obtain ⟨e, he, hee⟩ := eps_pos
  unfold square
  rw [div_width, hee]
  have h0 : (0 : EReal) ≤ ∑ d, x d * x d := Finset.sum_nonneg fun d _ => self_nonneg (x d)
  generalize (∑ d, x d * x d) = a at h0 ⊢
  induction a with
  | bot => simp at h0
  | top => left; rw [EReal.top_mul_coe_of_pos (by norm_num), EReal.top_add_coe]
  | coe r =>
    right
    have hr : 0 ≤ r := by exact_mod_cast h0
    exact ⟨r * 2048⁻¹ + e, by positivity, by rw [← EReal.coe_mul, ← EReal.coe_add]⟩

theorem back_eq (x w : Fin 2048 → EReal) (l : Fin 2048) : backLong x w l = back x w l := by
  unfold backLong back slope rstd
  rcases square_cases x with h | ⟨v, hv, h⟩
  · rw [h, div_width, div_width, show Ideal.rsqrt ⊤ = 0 from rfl]
    simp [Ideal.div]
  · have hr : Ideal.rsqrt (v : EReal) = (((Real.sqrt v)⁻¹ : ℝ) : EReal) := by
      show (if v < 0 then ⊥ else if v = 0 then ⊤ else (((Real.sqrt v)⁻¹ : ℝ) : EReal)) = _
      rw [if_neg hv.le.not_gt, if_neg hv.ne']
    have hρ : 0 < (Real.sqrt v)⁻¹ := inv_pos.mpr (Real.sqrt_pos.mpr hv)
    have hρρ : (Real.sqrt v)⁻¹ * (Real.sqrt v)⁻¹ = v⁻¹ := by rw [← mul_inv, Real.mul_self_sqrt hv.le]
    rw [h, hr, div_width, div_width, minusHalf_eq]
    generalize (Real.sqrt v)⁻¹ = ρ at hρ hρρ ⊢
    have hd : Ideal.div (ρ : EReal) (v : EReal) = ((ρ * v⁻¹ : ℝ) : EReal) := by
      unfold Ideal.div
      rw [if_neg (by exact_mod_cast hv.ne'), EReal.coe_mul, EReal.coe_inv]
    have hρ0 : (0 : EReal) ≤ (ρ : EReal) := by exact_mod_cast hρ.le
    have hs : (∑ d, w d * (x d * (ρ : EReal))) = (ρ : EReal) * ∑ d, x d * w d := by
      rw [Cert.Row.mul_sum hρ0 (EReal.coe_ne_top _)]
      exact Finset.sum_congr rfl fun d _ => by ac_rfl
    rw [hd, hs]
    generalize (∑ d, x d * w d) = S
    have e1 : (ρ : EReal) * (x l * (ρ : EReal) * ((ρ : EReal) * S * ((2048⁻¹ : ℝ) : EReal)))
        = ((ρ * ρ * ρ * 2048⁻¹ : ℝ) : EReal) * (x l * S) := by
      simp only [EReal.coe_mul]; ac_rfl
    have e2 : S * (((-(1 / 2) : ℝ) : EReal) * ((ρ * v⁻¹ : ℝ) : EReal)) * ((2048⁻¹ : ℝ) : EReal)
        = -(((1 / 2 * (ρ * v⁻¹) * 2048⁻¹ : ℝ) : EReal) * S) := by
      rw [EReal.coe_neg, neg_mul, mul_neg, neg_mul]
      simp only [EReal.coe_mul]
      congr 1
      ac_rfl
    have e3 : x l * -(((1 / 2 * (ρ * v⁻¹) * 2048⁻¹ : ℝ) : EReal) * S) = -(((1 / 2 * (ρ * v⁻¹) * 2048⁻¹ : ℝ) : EReal) * (x l * S)) := by
      rw [mul_neg]; congr 1; ac_rfl
    have e4 : -(((1 / 2 * (ρ * v⁻¹) * 2048⁻¹ : ℝ) : EReal) * S) * x l = -(((1 / 2 * (ρ * v⁻¹) * 2048⁻¹ : ℝ) : EReal) * (x l * S)) := by
      rw [neg_mul]; congr 1; ac_rfl
    have hc : 0 ≤ 1 / 2 * (ρ * v⁻¹) * 2048⁻¹ := by positivity
    have e5 : ρ * ρ * ρ * 2048⁻¹ = 1 / 2 * (ρ * v⁻¹) * 2048⁻¹ + 1 / 2 * (ρ * v⁻¹) * 2048⁻¹ := by rw [hρρ]; ring
    rw [e2, e3, e4, sub_eq_add_neg, EReal.left_distrib_of_nonneg_of_ne_top hρ0 (EReal.coe_ne_top _), mul_neg, e1, e5,
      EReal.coe_add, EReal.right_distrib_of_nonneg (by exact_mod_cast hc) (by exact_mod_cast hc), mul_comm (w l), add_assoc]
    congr 1
    generalize x l * S = P
    have hp : ∀ y : EReal, -y + -y = -(y + y) := fun y => by
      induction y with
      | bot => simp
      | top => simp
      | coe r => norm_cast; ring_nf
    exact hp _

end Cert.Norm

end
-- ==== Proof.NormDxEquation.lean ====
/- The way back through the norm at a sub-layer's input and on through the norm of the sub-layer before: the cotangents of the
   trunk's rows and of that sub-layer's rows, and the gradients of the two gains, which are added up over sixteen blocks of the rows. -/
module

public import proofs.«01_k».proof.Defs
public import proofs.«01_k».proof.Proof.RowNorm
public import proofs.«01_k».proof.Proof.Gen.NormDxIdeal.Value
public import proofs.«01_k».proof.Proof.Gen.NormDxReferenceIdeal.Run
public import Idealize.ShloMosaic.Lib.Claim
public import Idealize.ShloMosaic.Lib.Pipeline.ValueKit
public import Idealize.ShloMosaic.Lib.Pipeline.ReadBack

@[expose] public section

set_option maxRecDepth 16384

noncomputable section

namespace Cert.NormDxIdeal.Value

open Cert.NormDxIdeal Cert.NormDxIdeal.Gen Cert.Norm Cert.Product Idealize.ShloMosaic
open Idealize.ShloMosaic.TcCoe Idealize.SL.Sem

/-- A row's cotangent, times the gain. -/
def gained (w : Fin 2048 → EReal) (g : Gain) (l : Fin 2048) : EReal := w l * g (ix2 0 l)

section
variable {n : ℕ} (u : Rows n) (g : Gain) (h x m : Rows n) (p : Gain) (r : Fin n) (l : Fin 2048)

/-- The cotangent of the trunk's rows. -/
def duAt : EReal := back (row u r) (gained (row h r) g) l + x (ix2 r l)

/-- The cotangent of the sub-layer's rows. -/
def dmAt : EReal := back (row m r) (gained (duAt u g h x r) p) l

/-- The gradients of the two gains. -/
def dgAt : EReal := ∑ r : Fin n, row h r l * (row u r l * rstd (row u r))
def dpAt : EReal := ∑ r : Fin n, duAt u g h x r l * (row m r l * rstd (row m r))

end

section
variable (u : Rows 256) (g : Gain) (h x m : Rows 256) (p a : Gain) (r : Fin 256) (l : Fin 2048)

theorem one_at : k0_pay3 (F := Ideal) h (ix2 r l) = row h r l := by
  pointwise [k0_pay3]
  rfl

theorem unit_at : k0_pay5 (F := Ideal) u (ix2 r l) = row u r l * rstd (row u r) := by
  pointwise [k0_pay5, k0_pay4]
  rfl

theorem unitM_at : k0_pay11 (F := Ideal) m (ix2 r l) = row m r l * rstd (row m r) := by
  pointwise [k0_pay11, k0_pay10]
  rfl

theorem rstd_at : k0_pay4 (F := Ideal) u (ix2 r 0) = rstd (row u r) := by
  pointwise [k0_pay4]
  rfl

theorem rstdM_at : k0_pay10 (F := Ideal) m (ix2 r 0) = rstd (row m r) := by
  pointwise [k0_pay10]
  rfl

theorem back_at : k0_pay7 (F := Ideal) u g h (ix2 r l) = back (row u r) (gained (row h r) g) l := by
  pointwise [k0_pay7, one_at, unit_at, rstd_at]
  rfl

theorem du_at : k0_pay8 (F := Ideal) (k0_pay7 u g h) x (ix2 r l) = duAt u g h x r l := by
  pointwise [k0_pay8, back_at]
  rfl

theorem duOne_at : k0_pay9 (F := Ideal) (k0_pay7 u g h) x (ix2 r l) = duAt u g h x r l := by
  pointwise [k0_pay9, du_at]

theorem dm_at : k0_pay13 (F := Ideal) (k0_pay7 u g h) x m p (ix2 r l) = dmAt u g h x m p r l := by
  pointwise [k0_pay13, duOne_at, unitM_at, rstdM_at]
  rfl

theorem dg_at : k0_pay6 (F := Ideal) u h a (ix2 0 l) = (a (ix2 0 l) + dgAt u h l : EReal) := by
  pointwise [k0_pay6, one_at, unit_at]
  rfl

theorem dp_at : k0_pay12 (F := Ideal) (k0_pay7 u g h) x m a (ix2 0 l) = (a (ix2 0 l) + dpAt u g h x m l : EReal) := by
  pointwise [k0_pay12, duOne_at, unitM_at]
  rfl

end

variable (m : (ℓ : Loc nD τ sig) → Buf (Elt Ideal) ℓ) (c : Dev nD)

/-- The argument arrays. -/
abbrev argU : Rows 4096 := m ((c.tc : Thread nD τ).loc main_arg0)
abbrev argG : Gain := m ((c.tc : Thread nD τ).loc main_arg1)
abbrev argH : Rows 4096 := m ((c.tc : Thread nD τ).loc main_arg2)
abbrev argX : Rows 4096 := m ((c.tc : Thread nD τ).loc main_arg3)
abbrev argM : Rows 4096 := m ((c.tc : Thread nD τ).loc main_arg4)
abbrev argP : Gain := m ((c.tc : Thread nD τ).loc main_arg5)

/-- The blocks of a point. -/
abbrev blkU (t : Fin cfg0.N) : Rows 256 := iblk m c 0 t
abbrev blkG (t : Fin cfg0.N) : Gain := iblk m c 1 t
abbrev blkH (t : Fin cfg0.N) : Rows 256 := iblk m c 2 t
abbrev blkX (t : Fin cfg0.N) : Rows 256 := iblk m c 3 t
abbrev blkM (t : Fin cfg0.N) : Rows 256 := iblk m c 4 t
abbrev blkP (t : Fin cfg0.N) : Gain := iblk m c 5 t

/-- Which block each window is at, at a point. -/
theorem idx_val : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![0, 0] ∧ win0_6.index t = ![t.val, 0] ∧ win0_8.index t = ![t.val, 0] :=
  (by decide +kernel : ∀ t : Fin grid0.N, _)

theorem point_lt (t : Fin cfg0.N) : t.val < 16 := Nat.lt_of_lt_of_eq t.isLt N_0

/-- Row `r` of the block of a point. -/
def rowOf (t : Fin cfg0.N) (r : Fin 256) : Fin (16 * 256) := ⟨t.val * 256 + r.val, by have := point_lt t; omega⟩

theorem blkU_at (t : Fin cfg0.N) (r : Fin 256) (l : Fin 2048) : blkU m c t (ix2 r l) = argU m c (ix2 (rowOf t r) l) := by
  unfold rowOf; blk_ext! [iblk, V, idx_val t]
theorem blkG_at (t : Fin cfg0.N) (l : Fin 2048) : blkG m c t (ix2 0 l) = argG m c (ix2 0 l) := by
  blk_ext! [iblk, V, idx_val t]
theorem blkH_at (t : Fin cfg0.N) (r : Fin 256) (l : Fin 2048) : blkH m c t (ix2 r l) = argH m c (ix2 (rowOf t r) l) := by
  unfold rowOf; blk_ext! [iblk, V, idx_val t]
theorem blkX_at (t : Fin cfg0.N) (r : Fin 256) (l : Fin 2048) : blkX m c t (ix2 r l) = argX m c (ix2 (rowOf t r) l) := by
  unfold rowOf; blk_ext! [iblk, V, idx_val t]
theorem blkM_at (t : Fin cfg0.N) (r : Fin 256) (l : Fin 2048) : blkM m c t (ix2 r l) = argM m c (ix2 (rowOf t r) l) := by
  unfold rowOf; blk_ext! [iblk, V, idx_val t]
theorem blkP_at (t : Fin cfg0.N) (l : Fin 2048) : blkP m c t (ix2 0 l) = argP m c (ix2 0 l) := by
  blk_ext! [iblk, V, idx_val t]

/-- The rows of a point's block are rows of the arrays. -/
theorem rowU (t : Fin cfg0.N) (r : Fin 256) : row (blkU m c t) r = row (argU m c) (rowOf t r) := funext fun l => blkU_at m c t r l
theorem rowH (t : Fin cfg0.N) (r : Fin 256) : row (blkH m c t) r = row (argH m c) (rowOf t r) := funext fun l => blkH_at m c t r l
theorem rowM (t : Fin cfg0.N) (r : Fin 256) : row (blkM m c t) r = row (argM m c) (rowOf t r) := funext fun l => blkM_at m c t r l
theorem gainedG (t : Fin cfg0.N) (w : Fin 2048 → EReal) : gained w (blkG m c t) = gained w (argG m c) := funext fun l => by
  unfold gained; rw [blkG_at]
theorem gainedP (t : Fin cfg0.N) (w : Fin 2048 → EReal) : gained w (blkP m c t) = gained w (argP m c) := funext fun l => by
  unfold gained; rw [blkP_at]
theorem duBlock (t : Fin cfg0.N) (r : Fin 256) :
    duAt (blkU m c t) (blkG m c t) (blkH m c t) (blkX m c t) r = duAt (argU m c) (argG m c) (argH m c) (argX m c) (rowOf t r) := funext fun l => by
  unfold duAt; rw [rowU, rowH, gainedG, blkX_at]

/-- The two cotangents, after a point. -/
theorem du_point (t : Fin cfg0.N) (r : Fin 256) (l : Fin 2048) :
    ((outsAt0 m c t.val t.isLt).1 (ix2 r l) : EReal) = duAt (blkU m c t) (blkG m c t) (blkH m c t) (blkX m c t) r l := by
  refine Eq.trans ?_ (du_at _ _ _ _ r l)
  by_cases ht : t.val % 16 = 0
  · rw [outsAt0_A m c t ht]; dsimp only; frame_open; frame_out
  · rw [outsAt0_B m c t ht]; dsimp only; frame_open; frame_out

theorem dm_point (t : Fin cfg0.N) (r : Fin 256) (l : Fin 2048) :
    ((outsAt0 m c t.val t.isLt).2.2.1 (ix2 r l) : EReal)
      = dmAt (blkU m c t) (blkG m c t) (blkH m c t) (blkX m c t) (blkM m c t) (blkP m c t) r l := by
  refine Eq.trans ?_ (dm_at _ _ _ _ _ _ r l)
  by_cases ht : t.val % 16 = 0
  · rw [outsAt0_A m c t ht]; dsimp only; frame_open; frame_out
  · rw [outsAt0_B m c t ht]; dsimp only; frame_open; frame_out

/-- The gains' gradients: started at the first block, added to at the others. -/
theorem dg_first (t : Fin cfg0.N) (ht : t.val % 16 = 0) (l : Fin 2048) :
    ((outsAt0 m c t.val t.isLt).2.1 (ix2 0 l) : EReal) = k0_pay1 (F := Ideal) (ix2 0 l) + dgAt (blkU m c t) (blkH m c t) l := by
  refine Eq.trans ?_ (dg_at _ _ _ l)
  rw [outsAt0_A m c t ht]; dsimp only; frame_open
  simp (disch := decide) only [↓ View.readCov_skip, ↓ View.readCov_cons_toLoadRect, ↓ View.readCov_fill]
  frame_out

theorem dg_next (t : Fin cfg0.N) (ht : ¬t.val % 16 = 0) (l : Fin 2048) :
    ((outsAt0 m c t.val t.isLt).2.1 (ix2 0 l) : EReal)
      = (outsAt0 m c (t.val - 1) (Nat.lt_of_le_of_lt (Nat.sub_le _ _) t.isLt)).2.1 (ix2 0 l) + dgAt (blkU m c t) (blkH m c t) l := by
  refine Eq.trans ?_ (dg_at _ _ _ l)
  rw [outsAt0_B m c t ht]; dsimp only; frame_open; frame_out

theorem dp_first (t : Fin cfg0.N) (ht : t.val % 16 = 0) (l : Fin 2048) :
    ((outsAt0 m c t.val t.isLt).2.2.2 (ix2 0 l) : EReal)
      = k0_pay2 (F := Ideal) (ix2 0 l) + dpAt (blkU m c t) (blkG m c t) (blkH m c t) (blkX m c t) (blkM m c t) l := by
  refine Eq.trans ?_ (dp_at _ _ _ _ _ _ l)
  rw [outsAt0_A m c t ht]; dsimp only; frame_open
  simp (disch := decide) only [↓ View.readCov_skip, ↓ View.readCov_cons_toLoadRect, ↓ View.readCov_fill]
  frame_out

theorem dp_next (t : Fin cfg0.N) (ht : ¬t.val % 16 = 0) (l : Fin 2048) :
    ((outsAt0 m c t.val t.isLt).2.2.2 (ix2 0 l) : EReal)
      = (outsAt0 m c (t.val - 1) (Nat.lt_of_le_of_lt (Nat.sub_le _ _) t.isLt)).2.2.2 (ix2 0 l)
        + dpAt (blkU m c t) (blkG m c t) (blkH m c t) (blkX m c t) (blkM m c t) l := by
  refine Eq.trans ?_ (dp_at _ _ _ _ _ _ l)
  rw [outsAt0_B m c t ht]; dsimp only; frame_open; frame_out

/-- The four results, of the argument arrays. -/
def duArr (u : Rows 4096) (g : Gain) (h x : Rows 4096) : Rows 4096 := fun i => duAt u g h x (i 0) (i 1)
def dgArr (u h : Rows 4096) : Gain := fun i => dgAt u h (i 1)
def dmArr (u : Rows 4096) (g : Gain) (h x m : Rows 4096) (p : Gain) : FVec Ideal (Grid 4096 2048) .bf16 := fun i => dmAt u g h x m p (i 0) (i 1)
def dpArr (u : Rows 4096) (g : Gain) (h x m : Rows 4096) : Gain := fun i => dpAt u g h x m (i 1)

/-- The kernel's arrays. -/
theorem final_du : (dats m 0 c).arrAt 6 cfg0.N = duArr (argU m c) (argG m c) (argH m c) (argX m c) := by
  refine (dats m 0 c).arrAt_eq_of_covers 6 _ (by decide +kernel) fun t _ y => ?_
  blk_simp [idx_val t]
  rw [after0_6]
  obtain ⟨i, j, rfl⟩ := ix2_of (a := 256) (b := 2048) y
  have e0 : (win0_6.blk t).view.emb (ix2 i j) 0 = rowOf t i := Fin.ext (by simp [rowOf, idx_val t])
  have e1 : (win0_6.blk t).view.emb (ix2 i j) 1 = j := Fin.ext (by simp [idx_val t])
  unfold duArr
  rw [e0, e1, du_point m c t i j]
  rw [duBlock]

theorem final_dm : (dats m 0 c).arrAt 8 cfg0.N = dmArr (argU m c) (argG m c) (argH m c) (argX m c) (argM m c) (argP m c) := by
  refine (dats m 0 c).arrAt_eq_of_covers 8 _ (by decide +kernel) fun t _ y => ?_
  blk_simp [idx_val t]
  rw [after0_8]
  obtain ⟨i, j, rfl⟩ := ix2_of (a := 256) (b := 2048) y
  have e0 : (win0_8.blk t).view.emb (ix2 i j) 0 = rowOf t i := Fin.ext (by simp [rowOf, idx_val t])
  have e1 : (win0_8.blk t).view.emb (ix2 i j) 1 = j := Fin.ext (by simp [idx_val t])
  unfold dmArr
  rw [e0, e1, dm_point m c t i j]
  unfold dmAt
  rw [duBlock, rowM, gainedP]

/-- The last point. -/
def tLast : Fin cfg0.N := ⟨15, Nat.lt_of_lt_of_eq (by decide) N_0.symm⟩

theorem final_dg : (dats m 0 c).arrAt 7 cfg0.N = dgArr (argU m c) (argH m c) := by
  refine (dats m 0 c).arrAt_eq_of_after_last 7 tLast (by decide +kernel) _ fun j => ?_
  obtain ⟨l, rfl⟩ : ∃ l : Fin 2048, j = ix2 0 l :=
    ⟨j 1, by funext a; fin_cases a; exacts [Subsingleton.elim (α := Fin 1) _ _, rfl]⟩
  blk_simp
  rw [after0_7]
  refine (Pipeline.eq_sum_fin_of_reset_step_apply_last (M := EReal) (fun n h l => (outsAt0 m c n h).2.1 (ix2 0 l)) 16
    (fun _ => 0) (fun t l => dgAt (blkU m c t) (blkH m c t) l)
    (fun t h l => (dg_first m c t h l).trans (congrArg (· + _) (by pointwise [k0_pay1])))
    (fun t h l => dg_next m c t h l) (le_of_eq N_0) tLast rfl l).trans ?_
  refine (zero_add (M := EReal) _).trans ?_
  show _ = dgAt (argU m c) (argH m c) l
  unfold dgAt
  refine Eq.trans ?_ (sum_slices (a := 16) (n := 256) (fun k : Fin (16 * 256) => (row (argH m c) k l * (row (argU m c) k l * rstd (row (argU m c) k)) : EReal)))
  refine Fintype.sum_equiv (finCongr N_0) _ _ fun t => Finset.sum_congr rfl fun r _ => ?_
  show _ = (row (argH m c) (rowOf t r) l * (row (argU m c) (rowOf t r) l * rstd (row (argU m c) (rowOf t r))) : EReal)
  rw [rowU, rowH]

theorem final_dp : (dats m 0 c).arrAt 9 cfg0.N = dpArr (argU m c) (argG m c) (argH m c) (argX m c) (argM m c) := by
  refine (dats m 0 c).arrAt_eq_of_after_last 9 tLast (by decide +kernel) _ fun j => ?_
  obtain ⟨l, rfl⟩ : ∃ l : Fin 2048, j = ix2 0 l :=
    ⟨j 1, by funext a; fin_cases a; exacts [Subsingleton.elim (α := Fin 1) _ _, rfl]⟩
  blk_simp
  rw [after0_9]
  refine (Pipeline.eq_sum_fin_of_reset_step_apply_last (M := EReal) (fun n h l => (outsAt0 m c n h).2.2.2 (ix2 0 l)) 16
    (fun _ => 0) (fun t l => dpAt (blkU m c t) (blkG m c t) (blkH m c t) (blkX m c t) (blkM m c t) l)
    (fun t h l => (dp_first m c t h l).trans (congrArg (· + _) (by pointwise [k0_pay2])))
    (fun t h l => dp_next m c t h l) (le_of_eq N_0) tLast rfl l).trans ?_
  refine (zero_add (M := EReal) _).trans ?_
  show _ = dpAt (argU m c) (argG m c) (argH m c) (argX m c) (argM m c) l
  unfold dpAt
  refine Eq.trans ?_ (sum_slices (a := 16) (n := 256) (fun k : Fin (16 * 256) => (duAt (argU m c) (argG m c) (argH m c) (argX m c) k l * (row (argM m c) k l * rstd (row (argM m c) k)) : EReal)))
  refine Fintype.sum_equiv (finCongr N_0) _ _ fun t => Finset.sum_congr rfl fun r _ => ?_
  show _ = (duAt (argU m c) (argG m c) (argH m c) (argX m c) (rowOf t r) l * (row (argM m c) (rowOf t r) l * rstd (row (argM m c) (rowOf t r))) : EReal)
  rw [duBlock, rowM]

end Cert.NormDxIdeal.Value

namespace Cert.NormDxReferenceIdeal.Stage

open Cert.NormDxReferenceIdeal Cert.NormDxReferenceIdeal.Gen Cert.Norm Cert.Product Idealize.ShloMosaic
open Cert.NormDxIdeal.Value (gained duAt dgAt dmAt dpAt duArr dgArr dmArr dpArr)
open Idealize.ShloMosaic.TcCoe Idealize.SL.Sem

abbrev All := FVec Ideal S4096x2048 .f32
abbrev Column := FVec Ideal S4096x1 .f32

/-- A constant for every row, the rows' mean squares with a little added, and the reciprocals of their roots. -/
def every (b : BitVec 32) : Column := broadcastInDim S4096x1 ![] bcast_S_S4096x1 (constant S_ .f32 b)
def sums (x : All) : FVec Ideal S4096 .f32 := Host.reduceAdd x (constant S_ .f32 0x00000000#32) reducesTo_S4096x2048_S4096_d1 h_S_
def squares (x : All) : Column := addf (Host.divf (broadcastInDim S4096x1 ![0] bcast_S4096_S4096x1_0 (sums (mulf x x))) (every 0x45000000#32)) (every 0x358637BD#32)
def roots (x : All) : Column := Host.rsqrt (squares x)

/-- What reaches the rows' squares, and the cotangent of the rows. -/
def slopes (x w : All) : FVec Ideal S4096 .f32 :=
  Host.reduceAdd (Host.divf (mulf (shapeCast _ (sums (mulf x w)) shapeCasts_S4096_S4096x1) (mulf (every 0xBF000000#32) (Host.divf (roots x) (squares x))))
    (every 0x45000000#32)) (constant S_ .f32 0x00000000#32) reducesTo_S4096x1_S4096_d1 h_S_
def backs (x w : All) : All :=
  addf (addf (mulf w (broadcastInDim S4096x2048 ![0, 1] bcast_S4096x1_S4096x2048_0_1 (roots x)))
    (mulf x (broadcastInDim S4096x2048 ![0] bcast_S4096_S4096x2048_0 (slopes x w))))
    (mulf (broadcastInDim S4096x2048 ![0] bcast_S4096_S4096x2048_0 (slopes x w)) x)
def gains (w : All) (g : FVec Ideal S1x2048 .f32) : All := mulf w (broadcastInDim S4096x2048 ![0, 1] bcast_S1x2048_S4096x2048_0_1 g)
def gainSum (x w : All) : Gain :=
  shapeCast _ (Host.reduceAdd (mulf (mulf x (broadcastInDim S4096x2048 ![0, 1] bcast_S4096x1_S4096x2048_0_1 (roots x))) w)
    (constant S_ .f32 0x00000000#32) reducesTo_S4096x2048_S2048_d0 h_S_) shapeCasts_S2048_S1x2048

/-- The reference's arrays, of its arguments. -/
def resultDu (u : Rows 4096) (g : Gain) (h x : Rows 4096) : Rows 4096 := addf (backs u (gains h g)) (x : All)
def resultDm (u : Rows 4096) (g : Gain) (h x m : Rows 4096) (p : Gain) : FVec Ideal (Grid 4096 2048) .bf16 :=
  truncf .bf16 (backs m (gains (resultDu u g h x) p)) bitsLt_bf16_f32

section
variable (x w : Rows 4096) (g : Gain) (r : Fin 4096) (l : Fin 2048)

theorem squares_at (z : Fin 1) : (squares x (ix2 r z) : EReal) = square (row x r) := by
  pointwise [squares, sums, every]
  rfl
theorem roots_at (z : Fin 1) : (roots x (ix2 r z) : EReal) = rstd (row x r) := by
  pointwise [roots, squares_at]
  rfl
theorem slopes_at : (slopes x w (ix1 r) : EReal) = slope (row x r) (row w r) := by
  pointwise [slopes, sums, every, squares_at, roots_at]
  exact Fin.sum_univ_one (M := EReal) _
theorem backs_at : (backs x w (ix2 r l) : EReal) = back (row x r) (row w r) l := by
  refine Eq.trans ?_ (back_eq _ _ l)
  pointwise [backs, slopes_at, roots_at]
  rfl
theorem gains_row : row (gains w g) r = gained (row w r) g := by
  funext d
  show (gains w g (ix2 r d) : EReal) = _
  pointwise [gains]
  rfl
theorem gainSum_at : (gainSum x w (ix2 0 l) : EReal) = ∑ k : Fin 4096, row w k l * (row x k l * rstd (row x k)) := by
  pointwise [gainSum, roots_at]
  exact Finset.sum_congr rfl fun k _ => mul_comm (G := EReal) _ _

end

section
variable (u : Rows 4096) (g : Gain) (h x m : Rows 4096) (p : Gain)

theorem du_eq : resultDu u g h x = duArr u g h x := by
  funext i
  obtain ⟨r, l, rfl⟩ := ix2_of (a := 4096) (b := 2048) i
  pointwise [resultDu, backs_at, gains_row]
  rfl

theorem dm_eq : resultDm u g h x m p = dmArr u g h x m p := by
  unfold resultDm
  rw [du_eq]
  funext i
  obtain ⟨r, l, rfl⟩ := ix2_of (a := 4096) (b := 2048) i
  pointwise [backs_at, gains_row]
  rfl

theorem dg_eq : gainSum u h = dgArr u h := by
  funext i
  obtain ⟨z, l, rfl⟩ := ix2_of (a := 1) (b := 2048) i
  obtain rfl : z = 0 := Subsingleton.elim _ _
  exact gainSum_at u h l

theorem dp_eq : gainSum m (resultDu u g h x) = dpArr u g h x m := by
  rw [du_eq]
  funext i
  obtain ⟨z, l, rfl⟩ := ix2_of (a := 1) (b := 2048) i
  obtain rfl : z = 0 := Subsingleton.elim _ _
  exact gainSum_at m (duArr u g h x) l

end

end Cert.NormDxReferenceIdeal.Stage

namespace Cert.Proof

open Idealize.ShloMosaic Idealize.SL.Sem
open Cert.NormDxIdeal.Value
open Cert.NormDxReferenceIdeal.Stage (du_eq dg_eq dm_eq dp_eq)

/-- From the same arguments, both programs end with the same two cotangents and the same two gradients. -/
theorem norm_gradient : Cert.algebraic_NormDxIdeal_NormDxReferenceIdeal := by
  intro m g m' g' _ hargs
  refine ⟨fun c => duArr (argU m c) (argG m c) (argH m c) (argX m c), fun c => dgArr (argU m c) (argH m c),
    fun c => dmArr (argU m c) (argG m c) (argH m c) (argX m c) (argM m c) (argP m c),
    fun c => dpArr (argU m c) (argG m c) (argH m c) (argX m c) (argM m c), ?_, ?_⟩
  · refine (θ_run _ _ _).mono (fun r h c => ?_) (Cert.NormDxIdeal.Value.run_blocks m g)
    obtain ⟨h0, h1, h2, h3, ha⟩ := h c
    exact ⟨h0.trans (final_du m c), h1.trans (final_dg m c), h2.trans (final_dm m c), h3.trans (final_dp m c), ha⟩
  · refine (θ_run _ _ _).mono (fun r h c => ?_) (Cert.NormDxReferenceIdeal.Value.run m' g')
    obtain ⟨h0, h1, h2, h3, ha⟩ := h c
    obtain ⟨e0, e1, e2, e3, e4, e5⟩ := hargs c
    refine ⟨h0.trans ?_, h1.trans ?_, h2.trans ?_, h3.trans ?_, ha⟩
    · rw [e0, e1, e2, e3]; exact du_eq _ _ _ _
    · rw [e0, e2]; exact dg_eq _ _
    · unfold Cert.NormDxReferenceIdeal.Value.res_main_v69
      rw [e0, e1, e2, e3, e4, e5]; exact dm_eq _ _ _ _ _ _
    · unfold Cert.NormDxReferenceIdeal.Value.res_main_v52
      rw [e0, e1, e2, e3, e4]; exact dp_eq _ _ _ _ _

end Cert.Proof

end
-- ==== Proof.ResidEquation.lean ====
/- A sub-layer's normed rows added to the trunk, and the sum normed for the next sub-layer, as rows and transposed. -/
module

public import proofs.«01_k».proof.Defs
public import proofs.«01_k».proof.Proof.RowNorm
public import proofs.«01_k».proof.Proof.Gen.ResidIdeal.Value
public import proofs.«01_k».proof.Proof.Gen.ResidReferenceIdeal.Run
public import Idealize.ShloMosaic.Lib.Claim
public import Idealize.ShloMosaic.Lib.Pipeline.ValueKit

@[expose] public section

set_option maxRecDepth 16384

noncomputable section

namespace Cert.ResidIdeal.Value

open Cert.ResidIdeal Cert.ResidIdeal.Gen Cert.Norm Cert.Product Idealize.ShloMosaic
open Idealize.ShloMosaic.TcCoe Idealize.SL.Sem

/-- The arrays: the trunk's new rows, and those normed. -/
def trunk (x m : Rows 4096) (g : Gain) : Rows 4096 := fun i => added x m g (i 0) (i 1)
def next (x m : Rows 4096) (g h : Gain) : FVec Ideal (Grid 4096 2048) .bf16 := fun i => normed (added x m g (i 0)) h (i 1)
def nextT (x m : Rows 4096) (g h : Gain) : FVec Ideal (Grid 2048 4096) .bf16 := fun i => normed (added x m g (i 1)) h (i 0)

section
variable (x m : Rows 256) (g h : Gain) (r : Fin 256) (l : Fin 2048)

theorem trunk_at : k0_pay1 (F := Ideal) m x g (ix2 r l) = added x m g r l := by
  pointwise [k0_pay1]
  rfl

theorem next_at : k0_pay2 (F := Ideal) m x g h (ix2 r l) = normed (added x m g r) h l := by
  pointwise [k0_pay2, trunk_at]
  rfl

theorem rows_at : k0_pay3 (F := Ideal) m x g h (ix2 r l) = normed (added x m g r) h l := by
  pointwise [k0_pay3, next_at]
theorem cols_at : k0_pay4 (F := Ideal) m x g h (ix2 l r) = normed (added x m g r) h l := by
  pointwise [k0_pay4, next_at]

end

variable (m : (ℓ : Loc nD τ sig) → Buf (Elt Ideal) ℓ) (c : Dev nD)

/-- The argument arrays. -/
abbrev argX : Rows 4096 := m ((c.tc : Thread nD τ).loc main_arg0)
abbrev argM : Rows 4096 := m ((c.tc : Thread nD τ).loc main_arg1)
abbrev argG : Gain := m ((c.tc : Thread nD τ).loc main_arg2)
abbrev argN : Gain := m ((c.tc : Thread nD τ).loc main_arg3)

/-- The blocks of a point. -/
abbrev blkX (t : Fin cfg0.N) : Rows 256 := iblk m c 0 t
abbrev blkM (t : Fin cfg0.N) : Rows 256 := iblk m c 1 t
abbrev blkG (t : Fin cfg0.N) : Gain := iblk m c 2 t
abbrev blkN (t : Fin cfg0.N) : Gain := iblk m c 3 t

/-- Which block each window is at, at a point. -/
theorem idx_val : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![t.val, 0] ∧ win0_6.index t = ![0, t.val] :=
  (by decide +kernel : ∀ t : Fin grid0.N, _)

theorem point_lt (t : Fin cfg0.N) : t.val < 16 := Nat.lt_of_lt_of_eq t.isLt N_0

/-- Row `r` of the block of a point. -/
def rowOf (t : Fin cfg0.N) (r : Fin 256) : Fin 4096 := ⟨t.val * 256 + r.val, by have := point_lt t; omega⟩

theorem blkX_at (t : Fin cfg0.N) (r : Fin 256) (l : Fin 2048) : blkX m c t (ix2 r l) = argX m c (ix2 (rowOf t r) l) := by
  unfold rowOf; blk_ext! [iblk, V, idx_val t]
theorem blkM_at (t : Fin cfg0.N) (r : Fin 256) (l : Fin 2048) : blkM m c t (ix2 r l) = argM m c (ix2 (rowOf t r) l) := by
  unfold rowOf; blk_ext! [iblk, V, idx_val t]
theorem blkG_at (t : Fin cfg0.N) (l : Fin 2048) : blkG m c t (ix2 0 l) = argG m c (ix2 0 l) := by
  blk_ext! [iblk, V, idx_val t]
theorem blkN_at (t : Fin cfg0.N) (l : Fin 2048) : blkN m c t (ix2 0 l) = argN m c (ix2 0 l) := by
  blk_ext! [iblk, V, idx_val t]

/-- The kernel's arrays. -/
theorem final_trunk : (dats m 0 c).arrAt 4 cfg0.N = trunk (argX m c) (argM m c) (argG m c) := by
  refine (dats m 0 c).arrAt_eq_of_covers 4 _ (by decide +kernel) fun t _ y => ?_
  blk_simp [idx_val t]
  rw [after0_4]
  obtain ⟨i, j, rfl⟩ := ix2_of (a := 256) (b := 2048) y
  have e0 : (win0_4.blk t).view.emb (ix2 i j) 0 = rowOf t i := Fin.ext (by simp [rowOf, idx_val t])
  have e1 : (win0_4.blk t).view.emb (ix2 i j) 1 = j := Fin.ext (by simp [rowOf, idx_val t])
  unfold trunk
  rw [e0, e1]
  unfold out0_4
  frame_out
  refine (trunk_at (blkX m c t) (blkM m c t) (blkG m c t) i j).trans ?_
  unfold added normed rstd square row
  simp only [blkX_at, blkM_at, blkG_at]

theorem final_next : (dats m 0 c).arrAt 5 cfg0.N = next (argX m c) (argM m c) (argG m c) (argN m c) := by
  refine (dats m 0 c).arrAt_eq_of_covers 5 _ (by decide +kernel) fun t _ y => ?_
  blk_simp [idx_val t]
  rw [after0_5]
  obtain ⟨i, j, rfl⟩ := ix2_of (a := 256) (b := 2048) y
  have e0 : (win0_5.blk t).view.emb (ix2 i j) 0 = rowOf t i := Fin.ext (by simp [rowOf, idx_val t])
  have e1 : (win0_5.blk t).view.emb (ix2 i j) 1 = j := Fin.ext (by simp [rowOf, idx_val t])
  unfold next
  rw [e0, e1]
  unfold out0_5
  frame_out
  refine (rows_at (blkX m c t) (blkM m c t) (blkG m c t) (blkN m c t) i j).trans ?_
  unfold normed rstd square added normed rstd square row
  simp only [blkX_at, blkM_at, blkG_at, blkN_at]

theorem final_nextT : (dats m 0 c).arrAt 6 cfg0.N = nextT (argX m c) (argM m c) (argG m c) (argN m c) := by
  refine (dats m 0 c).arrAt_eq_of_covers 6 _ (by decide +kernel) fun t _ y => ?_
  blk_simp [idx_val t]
  rw [after0_6]
  obtain ⟨i, j, rfl⟩ := ix2_of (a := 2048) (b := 256) y
  have e0 : (win0_6.blk t).view.emb (ix2 i j) 0 = i := Fin.ext (by simp [rowOf, idx_val t])
  have e1 : (win0_6.blk t).view.emb (ix2 i j) 1 = rowOf t j := Fin.ext (by simp [rowOf, idx_val t])
  unfold nextT
  rw [e0, e1]
  unfold out0_6
  frame_out
  refine (cols_at (blkX m c t) (blkM m c t) (blkG m c t) (blkN m c t) j i).trans ?_
  unfold normed rstd square added normed rstd square row
  simp only [blkX_at, blkM_at, blkG_at, blkN_at]

end Cert.ResidIdeal.Value

namespace Cert.ResidReferenceIdeal.Stage

open Cert.ResidReferenceIdeal Cert.ResidReferenceIdeal.Gen Cert.Norm Cert.Product Idealize.ShloMosaic
open Cert.ResidIdeal.Value (trunk next nextT)
open Idealize.ShloMosaic.TcCoe Idealize.SL.Sem

/-- A norm as the reference writes it. -/
def norm (x : FVec Ideal S4096x2048 .f32) (g : FVec Ideal S1x2048 .f32) : FVec Ideal S4096x2048 .f32 :=
  mulf (mulf x (broadcastInDim S4096x2048 ![0, 1] bcast_S4096x1_S4096x2048_0_1
    (Host.rsqrt (addf (Host.divf (broadcastInDim S4096x1 ![0] bcast_S4096_S4096x1_0 (Host.reduceAdd (mulf x x)
      (constant S_ .f32 0x00000000#32) reducesTo_S4096x2048_S4096_d1 h_S_)) (broadcastInDim S4096x1 ![] bcast_S_S4096x1 (constant S_ .f32 0x45000000#32)))
      (broadcastInDim S4096x1 ![] bcast_S_S4096x1 (constant S_ .f32 0x358637BD#32))))))
    (broadcastInDim S4096x2048 ![0, 1] bcast_S1x2048_S4096x2048_0_1 g)

/-- The reference's arrays, of its arguments. -/
def resultX (x m : Rows 4096) (g : Gain) : Rows 4096 := addf (x : FVec Ideal S4096x2048 .f32) (norm m g)
def resultH (x m : Rows 4096) (g h : Gain) : FVec Ideal (Grid 4096 2048) .bf16 := truncf .bf16 (norm (resultX x m g) h) bitsLt_bf16_f32
def resultT (x m : Rows 4096) (g h : Gain) : FVec Ideal (Grid 2048 4096) .bf16 :=
  transpose S2048x4096 [1, 0] (resultH x m g h : FVec Ideal S4096x2048 .bf16) transposes_S4096x2048_S2048x4096_1_0

theorem norm_at (x : Rows 4096) (g : Gain) (r : Fin 4096) (l : Fin 2048) : (norm x g (ix2 r l) : EReal) = normed (row x r) g l := by
  pointwise [norm]
  rfl

section
variable (x m : Rows 4096) (g h : Gain)

theorem trunk_eq : resultX x m g = trunk x m g := by
  funext i
  obtain ⟨r, l, rfl⟩ := ix2_of (a := 4096) (b := 2048) i
  pointwise [resultX, norm_at]
  rfl

theorem next_eq : resultH x m g h = next x m g h := by
  unfold resultH
  rw [trunk_eq]
  funext i
  obtain ⟨r, l, rfl⟩ := ix2_of (a := 4096) (b := 2048) i
  pointwise [norm_at]
  rfl

theorem nextT_eq : resultT x m g h = nextT x m g h := by
  unfold resultT
  rw [next_eq]
  funext i
  obtain ⟨l, r, rfl⟩ := ix2_of (a := 2048) (b := 4096) i
  pointwise
  rfl

end

end Cert.ResidReferenceIdeal.Stage

namespace Cert.Proof

open Idealize.ShloMosaic Idealize.SL.Sem
open Cert.ResidIdeal.Value (argX argM argG argN trunk next nextT final_trunk final_next final_nextT)
open Cert.ResidReferenceIdeal.Stage (trunk_eq next_eq nextT_eq)

/-- From the same arguments, both programs end with the trunk's new rows and with those normed. -/
theorem trunk_rows : Cert.algebraic_ResidIdeal_ResidReferenceIdeal := by
  intro m g m' g' _ hargs
  refine ⟨fun c => trunk (argX m c) (argM m c) (argG m c), fun c => next (argX m c) (argM m c) (argG m c) (argN m c),
    fun c => nextT (argX m c) (argM m c) (argG m c) (argN m c), ?_, ?_⟩
  · refine (θ_run _ _ _).mono (fun r h c => ?_) (Cert.ResidIdeal.Value.run_blocks m g)
    obtain ⟨h0, h1, h2, ha⟩ := h c
    exact ⟨h0.trans (final_trunk m c), h1.trans (final_next m c), h2.trans (final_nextT m c), ha⟩
  · refine (θ_run _ _ _).mono (fun r h c => ?_) (Cert.ResidReferenceIdeal.Value.run m' g')
    obtain ⟨h0, h1, h2, ha⟩ := h c
    obtain ⟨e0, e1, e2, e3⟩ := hargs c
    refine ⟨h0.trans ?_, h1.trans ?_, h2.trans ?_, ha⟩
    · rw [e0, e1, e2]; exact trunk_eq _ _ _
    · rw [e0, e1, e2, e3]; exact next_eq _ _ _ _
    · rw [e0, e1, e2, e3]; exact nextT_eq _ _ _ _

end Cert.Proof

end
-- ==== Proof.NormEquation.lean ====
/- The norm of the trunk's rows. -/
module

public import proofs.«01_k».proof.Defs
public import proofs.«01_k».proof.Proof.RowNorm
public import proofs.«01_k».proof.Proof.Gen.NormIdeal.Value
public import proofs.«01_k».proof.Proof.Gen.NormReferenceIdeal.Run
public import Idealize.ShloMosaic.Lib.Claim
public import Idealize.ShloMosaic.Lib.Pipeline.ValueKit

@[expose] public section

set_option maxRecDepth 16384

noncomputable section

namespace Cert.NormIdeal.Value

open Cert.NormIdeal Cert.NormIdeal.Gen Cert.Norm Cert.Product Idealize.ShloMosaic
open Idealize.ShloMosaic.TcCoe Idealize.SL.Sem

/-- The normed rows. -/
def normedRows (x : Rows 4096) (g : Gain) : FVec Ideal (Grid 4096 2048) .bf16 := fun i => normed (row x (i 0)) g (i 1)

theorem point_at (x : Rows 256) (g : Gain) (r : Fin 256) (l : Fin 2048) : k0_pay1 (F := Ideal) x g (ix2 r l) = normed (row x r) g l := by
  pointwise [k0_pay1]
  rfl

variable (m : (ℓ : Loc nD τ sig) → Buf (Elt Ideal) ℓ) (c : Dev nD)

/-- The argument arrays. -/
abbrev argX : Rows 4096 := m ((c.tc : Thread nD τ).loc main_arg0)
abbrev argG : Gain := m ((c.tc : Thread nD τ).loc main_arg1)

/-- The blocks of a point. -/
abbrev blkX (t : Fin cfg0.N) : Rows 256 := iblk m c 0 t
abbrev blkG (t : Fin cfg0.N) : Gain := iblk m c 1 t

/-- Which block each window is at, at a point. -/
theorem idx_val : ∀ t : Fin cfg0.N, win0_0.index t = ![t.val, 0] ∧ win0_1.index t = ![0, 0] ∧ win0_2.index t = ![t.val, 0] :=
  (by decide +kernel : ∀ t : Fin grid0.N, _)

theorem point_lt (t : Fin cfg0.N) : t.val < 16 := Nat.lt_of_lt_of_eq t.isLt N_0

/-- Row `r` of the block of a point. -/
def rowOf (t : Fin cfg0.N) (r : Fin 256) : Fin 4096 := ⟨t.val * 256 + r.val, by have := point_lt t; omega⟩

theorem blkX_at (t : Fin cfg0.N) (r : Fin 256) (l : Fin 2048) : blkX m c t (ix2 r l) = argX m c (ix2 (rowOf t r) l) := by
  unfold rowOf; blk_ext! [iblk, V, idx_val t]
theorem blkG_at (t : Fin cfg0.N) (l : Fin 2048) : blkG m c t (ix2 0 l) = argG m c (ix2 0 l) := by
  blk_ext! [iblk, V, idx_val t]

/-- The kernel's array. -/
theorem final : (dats m 0 c).arrAt 2 cfg0.N = normedRows (argX m c) (argG m c) := by
  refine (dats m 0 c).arrAt_eq_of_covers 2 _ (by decide +kernel) fun t _ y => ?_
  blk_simp [idx_val t]
  rw [after0_2]
  obtain ⟨i, j, rfl⟩ := ix2_of (a := 256) (b := 2048) y
  have e0 : (win0_2.blk t).view.emb (ix2 i j) 0 = rowOf t i := Fin.ext (by simp [rowOf, idx_val t])
  have e1 : (win0_2.blk t).view.emb (ix2 i j) 1 = j := Fin.ext (by simp [idx_val t])
  unfold normedRows
  rw [e0, e1]
  unfold out0_2
  frame_out
  refine (point_at (blkX m c t) (blkG m c t) i j).trans ?_
  unfold normed rstd square row
  simp only [blkX_at, blkG_at]

end Cert.NormIdeal.Value

namespace Cert.NormReferenceIdeal.Stage

open Cert.NormReferenceIdeal Cert.NormReferenceIdeal.Gen Cert.Norm Cert.Product Idealize.ShloMosaic
open Cert.NormIdeal.Value (normedRows)
open Idealize.ShloMosaic.TcCoe Idealize.SL.Sem

/-- The reference's array, of its arguments. -/
def result (x : Rows 4096) (g : Gain) : FVec Ideal (Grid 4096 2048) .bf16 :=
  truncf .bf16 (mulf (mulf (x : FVec Ideal S4096x2048 .f32) (broadcastInDim S4096x2048 ![0, 1] bcast_S4096x1_S4096x2048_0_1
    (Host.rsqrt (addf (Host.divf (broadcastInDim S4096x1 ![0] bcast_S4096_S4096x1_0 (Host.reduceAdd (mulf (x : FVec Ideal S4096x2048 .f32) x)
      (constant S_ .f32 0x00000000#32) reducesTo_S4096x2048_S4096_d1 h_S_)) (broadcastInDim S4096x1 ![] bcast_S_S4096x1 (constant S_ .f32 0x45000000#32)))
      (broadcastInDim S4096x1 ![] bcast_S_S4096x1 (constant S_ .f32 0x358637BD#32))))))
    (broadcastInDim S4096x2048 ![0, 1] bcast_S1x2048_S4096x2048_0_1 (g : FVec Ideal S1x2048 .f32))) bitsLt_bf16_f32

theorem result_eq (x : Rows 4096) (g : Gain) : result x g = normedRows x g := by
  funext i
  obtain ⟨r, l, rfl⟩ := ix2_of (a := 4096) (b := 2048) i
  pointwise [result]
  rfl

end Cert.NormReferenceIdeal.Stage

namespace Cert.Proof

open Idealize.ShloMosaic Idealize.SL.Sem
open Cert.NormIdeal.Value (argX argG normedRows final)
open Cert.NormReferenceIdeal.Stage (result_eq)

/-- From the same arguments, both programs end with the normed rows. -/
theorem normed_rows : Cert.algebraic_NormIdeal_NormReferenceIdeal := by
  intro m g m' g' _ hargs
  refine ⟨fun c => normedRows (argX m c) (argG m c), ?_, ?_⟩
  · refine (θ_run _ _ _).mono (fun r h c => ?_) (Cert.NormIdeal.Value.run_blocks m g)
    obtain ⟨h0, ha⟩ := h c
    exact ⟨h0.trans (final m c), ha⟩
  · refine (θ_run _ _ _).mono (fun r h c => ?_) (Cert.NormReferenceIdeal.Value.run m' g')
    obtain ⟨h0, ha⟩ := h c
    obtain ⟨e0, e1⟩ := hargs c
    refine ⟨h0.trans ?_, ha⟩
    exact (result_eq _ _).trans (congrArg₂ normedRows e0 e1)

end Cert.Proof

end
-- ==== Proof.LossEquation.lean ====
/- The loss of the trunk's last rows, and its gradient. -/
module

public import proofs.«01_k».proof.Defs
public import proofs.«01_k».proof.Proof.RowNorm
public import proofs.«01_k».proof.Proof.Gen.LossIdeal.Value
public import proofs.«01_k».proof.Proof.Gen.LossReferenceIdeal.Run
public import Idealize.ShloMosaic.Lib.Claim
public import Idealize.ShloMosaic.Lib.Pipeline.ValueKit
public import Idealize.ShloMosaic.Lib.Pipeline.ReadBack

@[expose] public section

set_option maxRecDepth 16384

noncomputable section

namespace Cert.LossIdeal.Value

open Cert.LossIdeal Cert.LossIdeal.Gen Cert.Norm Cert.Product Idealize.ShloMosaic
open Idealize.ShloMosaic.TcCoe Idealize.SL.Sem

/-- The factors: a row's share of its mean, and that times a half. -/
def perFeature : EReal := Ideal.ofBits .f32 0x3A000000#32
def halfPer : EReal := Ideal.ofBits .f32 0x39800000#32

/-- What a feature is off by. -/
def off {n : ℕ} (y t : Rows n) (r : Fin n) (l : Fin 2048) : EReal := y (ix2 r l) - t (ix2 r l)

/-- The sum of a feature's squares. -/
def squares {n : ℕ} (y t : Rows n) (l : Fin 2048) : EReal := ∑ r : Fin n, off y t r l * off y t r l

/-- The arrays: the gradient in the rows, and the loss. -/
def dyArr (y t : Rows 4096) : Rows 4096 := fun i => off y t (i 0) (i 1) * perFeature
def lossArr (y t : Rows 4096) : FVec Ideal (Grid 1 1) .f32 := fun _ => halfPer * ∑ l : Fin 2048, squares y t l

section
variable (y t : Rows 256) (r : Fin 256) (l : Fin 2048)

theorem dy_at : k0_pay2 (F := Ideal) y t (ix2 r l) = off y t r l * perFeature := by
  unfold off perFeature; pointwise [k0_pay2, k0_pay1]

theorem acc_at (p : Gain) : k0_pay4 (F := Ideal) y t p (ix2 0 l) = (p (ix2 0 l) + squares y t l : EReal) := by
  unfold squares off; pointwise [k0_pay4, k0_pay1]

theorem loss_at (p : Gain) : k0_pay5 (F := Ideal) p (ix2 0 0) = halfPer * ∑ d : Fin 2048, (p (ix2 0 d) : EReal) := by
  unfold halfPer; pointwise [k0_pay5]

end

variable (m : (ℓ : Loc nD τ sig) → Buf (Elt Ideal) ℓ) (c : Dev nD)

/-- The argument arrays. -/
abbrev argY : Rows 4096 := m ((c.tc : Thread nD τ).loc main_arg0)
abbrev argT : Rows 4096 := m ((c.tc : Thread nD τ).loc main_arg1)

/-- The blocks of a point. -/
abbrev blkY (t : Fin cfg0.N) : Rows 256 := iblk m c 0 t
abbrev blkT (t : Fin cfg0.N) : Rows 256 := iblk m c 1 t

/-- Which block each window is at, at a point. -/
theorem idx_val : ∀ t : Fin cfg0.N, win0_0.index t = ![t.val, 0] ∧ win0_1.index t = ![t.val, 0] ∧ win0_2.index t = ![t.val, 0] :=
  (by decide +kernel : ∀ t : Fin grid0.N, _)

theorem point_lt (t : Fin cfg0.N) : t.val < 16 := Nat.lt_of_lt_of_eq t.isLt N_0

/-- Row `r` of the block of a point. -/
def rowOf (t : Fin cfg0.N) (r : Fin 256) : Fin (16 * 256) := ⟨t.val * 256 + r.val, by have := point_lt t; omega⟩

theorem blkY_at (t : Fin cfg0.N) (r : Fin 256) (l : Fin 2048) : blkY m c t (ix2 r l) = argY m c (ix2 (rowOf t r) l) := by
  unfold rowOf; blk_ext! [iblk, V, idx_val t]
theorem blkT_at (t : Fin cfg0.N) (r : Fin 256) (l : Fin 2048) : blkT m c t (ix2 r l) = argT m c (ix2 (rowOf t r) l) := by
  unfold rowOf; blk_ext! [iblk, V, idx_val t]

/-- The gradient, after a point. -/
theorem dy_point (t : Fin cfg0.N) (r : Fin 256) (l : Fin 2048) :
    ((outsAt0 m c t.val t.isLt).1 (ix2 r l) : EReal) = off (blkY m c t) (blkT m c t) r l * perFeature := by
  refine Eq.trans ?_ (dy_at _ _ r l)
  by_cases h0 : t.val % 16 = 0
  · rw [outsAt0_A m c t h0 (by omega)]; dsimp only; frame_open; frame_out
  · by_cases h1 : t.val % 16 = 15
    · rw [outsAt0_C m c t h0 h1]; dsimp only; frame_open; frame_out
    · rw [outsAt0_B m c t h0 h1]; dsimp only; frame_open; frame_out

/-- The squares' sums: started at the first block, added to at the others. -/
theorem acc_first (t : Fin cfg0.N) (h0 : t.val % 16 = 0) (l : Fin 2048) :
    ((outsAt0 m c t.val t.isLt).2.2 (ix2 0 l) : EReal) = k0_pay3 (F := Ideal) (ix2 0 l) + squares (blkY m c t) (blkT m c t) l := by
  refine Eq.trans ?_ (acc_at _ _ l _)
  rw [outsAt0_A m c t h0 (by omega)]; dsimp only; frame_open
  simp (disch := decide) only [↓ View.readCov_skip, ↓ View.readCov_cons_toLoadRect, ↓ View.readCov_fill]
  frame_out

theorem acc_next (t : Fin cfg0.N) (h0 : ¬t.val % 16 = 0) (l : Fin 2048) :
    ((outsAt0 m c t.val t.isLt).2.2 (ix2 0 l) : EReal)
      = (outsAt0 m c (t.val - 1) (Nat.lt_of_le_of_lt (Nat.sub_le _ _) t.isLt)).2.2 (ix2 0 l) + squares (blkY m c t) (blkT m c t) l := by
  refine Eq.trans ?_ (acc_at _ _ l _)
  by_cases h1 : t.val % 16 = 15
  · rw [outsAt0_C m c t h0 h1]; dsimp only; frame_open; frame_out; rw [read_unread_whole]
  · rw [outsAt0_B m c t h0 h1]; dsimp only; frame_open; frame_out; rw [read_unread_whole]

/-- The last point. -/
def tLast : Fin cfg0.N := ⟨15, Nat.lt_of_lt_of_eq (by decide) N_0.symm⟩

theorem acc_last (l : Fin 2048) : ((outsAt0 m c tLast.val tLast.isLt).2.2 (ix2 0 l) : EReal) = squares (argY m c) (argT m c) l := by
  refine (Pipeline.eq_sum_fin_of_reset_step_apply_last (M := EReal) (fun n h l => (outsAt0 m c n h).2.2 (ix2 0 l)) 16
    (fun _ => 0) (fun t l => squares (blkY m c t) (blkT m c t) l)
    (fun t h l => (acc_first m c t h l).trans (congrArg (· + _) (by pointwise [k0_pay3])))
    (fun t h l => acc_next m c t h l) (le_of_eq N_0) tLast rfl l).trans ?_
  refine (zero_add (M := EReal) _).trans ?_
  unfold squares
  refine Eq.trans ?_ (sum_slices (a := 16) (n := 256) (fun k : Fin (16 * 256) => (off (argY m c) (argT m c) k l * off (argY m c) (argT m c) k l : EReal)))
  refine Fintype.sum_equiv (finCongr N_0) _ _ fun t => Finset.sum_congr rfl fun r _ => ?_
  show _ = (off (argY m c) (argT m c) (rowOf t r) l * off (argY m c) (argT m c) (rowOf t r) l : EReal)
  unfold off
  simp only [blkY_at, blkT_at]

/-- The last point's loss is that of the sums it leaves. -/
theorem loss_point : ((outsAt0 m c tLast.val tLast.isLt).2.1 (ix2 0 0) : EReal)
    = halfPer * ∑ d : Fin 2048, ((outsAt0 m c tLast.val tLast.isLt).2.2 (ix2 0 d) : EReal) := by
  refine Eq.trans ?_ (loss_at _)
  rw [outsAt0_C m c tLast (by decide) (by decide)]; dsimp only; frame_open
  simp (disch := decide) only [↓ View.readCov_skip, ↓ View.readCov_cons_toLoadRect, ↓ View.readCov_fill]
  frame_out

/-- The kernel's arrays. -/
theorem final_dy : (dats m 0 c).arrAt 2 cfg0.N = dyArr (argY m c) (argT m c) := by
  refine (dats m 0 c).arrAt_eq_of_covers 2 _ (by decide +kernel) fun t _ y => ?_
  blk_simp [idx_val t]
  rw [after0_2]
  obtain ⟨i, j, rfl⟩ := ix2_of (a := 256) (b := 2048) y
  have e0 : (win0_2.blk t).view.emb (ix2 i j) 0 = rowOf t i := Fin.ext (by simp [rowOf, idx_val t])
  have e1 : (win0_2.blk t).view.emb (ix2 i j) 1 = j := Fin.ext (by simp [idx_val t])
  unfold dyArr
  rw [e0, e1, dy_point m c t i j]
  unfold off
  rw [blkY_at, blkT_at]

theorem final_loss : (dats m 0 c).arrAt 3 cfg0.N = lossArr (argY m c) (argT m c) := by
  refine (dats m 0 c).arrAt_eq_of_after_last 3 tLast (by decide +kernel) _ fun j => ?_
  obtain rfl : j = ix2 0 0 := by funext a; fin_cases a <;> exact Subsingleton.elim (α := Fin 1) _ _
  blk_simp
  rw [after0_3]
  refine (loss_point m c).trans ?_
  simp only [acc_last]
  rfl

end Cert.LossIdeal.Value

namespace Cert.LossReferenceIdeal.Stage

open Cert.LossReferenceIdeal Cert.LossReferenceIdeal.Gen Cert.Norm Cert.Product Idealize.ShloMosaic
open Cert.LossIdeal.Value (dyArr lossArr off squares perFeature halfPer)
open Idealize.ShloMosaic.TcCoe Idealize.SL.Sem

/-- The reference's arrays, of its arguments. -/
def errors (y t : Rows 4096) : FVec Ideal S4096x2048 .f32 := subf (y : FVec Ideal S4096x2048 .f32) t
def resultDy (y t : Rows 4096) : Rows 4096 :=
  mulf (broadcastInDim S4096x2048 ![0] bcast_S4096_S4096x2048_0 (Host.divf (broadcastInDim S4096 ![] bcast_S_S4096
    (mulf (constant S_ .f32 0x3F000000#32) (constant S_ .f32 0x3F800000#32))) (broadcastInDim S4096 ![] bcast_S_S4096 (constant S_ .f32 0x45000000#32))))
    (mulf (broadcastInDim S4096x2048 ![] bcast_S_S4096x2048 (constant S_ .f32 0x40000000#32)) (errors y t))
def resultLoss (y t : Rows 4096) : FVec Ideal (Grid 1 1) .f32 :=
  shapeCast _ (mulf (constant S_ .f32 0x3F000000#32) (Host.reduceAdd (Host.divf (Host.reduceAdd (mulf (errors y t) (errors y t))
    (constant S_ .f32 0x00000000#32) reducesTo_S4096x2048_S4096_d1 h_S_) (broadcastInDim S4096 ![] bcast_S_S4096 (constant S_ .f32 0x45000000#32)))
    (constant S_ .f32 0x00000000#32) reducesTo_S4096_S_d0 h_S_)) shapeCasts_S_S1x1

variable (y t : Rows 4096)

theorem errors_at (r : Fin 4096) (l : Fin 2048) : (errors y t (ix2 r l) : EReal) = off y t r l := by
  unfold off; pointwise [errors]

/-- The constants, as numbers. -/
def half : EReal := Ideal.ofBits .f32 0x3F000000#32
def two : EReal := Ideal.ofBits .f32 0x40000000#32

theorem half_eq : half = ((1 / 2 : ℝ) : EReal) := by
  unfold half
  simp [Ideal.ofBits, Ideal.ieee, -EReal.coe_mul]
  norm_num
theorem two_eq : two = ((2 : ℝ) : EReal) := by
  unfold two
  simp [Ideal.ofBits, Ideal.ieee, -EReal.coe_mul]
  norm_num
theorem perFeature_eq : perFeature = ((2048⁻¹ : ℝ) : EReal) := by
  unfold perFeature
  simp [Ideal.ofBits, Ideal.ieee, -EReal.coe_mul]
  norm_num
theorem halfPer_eq : halfPer = ((4096⁻¹ : ℝ) : EReal) := by
  unfold halfPer
  simp [Ideal.ofBits, Ideal.ieee, -EReal.coe_mul]
  norm_num

theorem dy_eq : resultDy y t = dyArr y t := by
  funext i
  obtain ⟨r, l, rfl⟩ := ix2_of (a := 4096) (b := 2048) i
  show _ = off y t r l * perFeature
  pointwise [resultDy, errors_at]
  show Ideal.div half width * (two * off y t r l) = _
  rw [div_width, half_eq, two_eq, perFeature_eq, ← mul_assoc, ← EReal.coe_mul, ← EReal.coe_mul, mul_comm]
  norm_num

theorem loss_eq : resultLoss y t = lossArr y t := by
  funext i
  obtain ⟨a, b, rfl⟩ := ix2_of (a := 1) (b := 1) i
  show _ = halfPer * ∑ l : Fin 2048, squares y t l
  pointwise [resultLoss, errors_at]
  show half * ∑ r : Fin 4096, Ideal.div (∑ l : Fin 2048, off y t r l * off y t r l) width = _
  unfold squares
  rw [Finset.sum_comm]
  simp only [div_width, mul_comm (G := EReal) _ ((2048⁻¹ : ℝ) : EReal)]
  rw [← Cert.Row.mul_sum (by exact_mod_cast (by norm_num : (0 : ℝ) ≤ 2048⁻¹)) (EReal.coe_ne_top _), ← mul_assoc, half_eq, halfPer_eq, ← EReal.coe_mul]
  norm_num

end Cert.LossReferenceIdeal.Stage

namespace Cert.Proof

open Idealize.ShloMosaic Idealize.SL.Sem
open Cert.LossIdeal.Value (argY argT dyArr lossArr final_dy final_loss)
open Cert.LossReferenceIdeal.Stage (dy_eq loss_eq)

/-- From the same arguments, both programs end with the same gradient and the same loss. -/
theorem loss_and_gradient : Cert.algebraic_LossIdeal_LossReferenceIdeal := by
  intro m g m' g' _ hargs
  refine ⟨fun c => dyArr (argY m c) (argT m c), fun c => lossArr (argY m c) (argT m c), ?_, ?_⟩
  · refine (θ_run _ _ _).mono (fun r h c => ?_) (Cert.LossIdeal.Value.run_blocks m g)
    obtain ⟨h0, h1, ha⟩ := h c
    exact ⟨h0.trans (final_dy m c), h1.trans (final_loss m c), ha⟩
  · refine (θ_run _ _ _).mono (fun r h c => ?_) (Cert.LossReferenceIdeal.Value.run m' g')
    obtain ⟨h0, h1, ha⟩ := h c
    obtain ⟨e0, e1⟩ := hargs c
    refine ⟨h0.trans ?_, h1.trans ?_, ha⟩
    · rw [e0, e1]; exact dy_eq _ _
    · rw [e0, e1]; exact loss_eq _ _

end Cert.Proof

end
-- ==== Proof.AssembleEquation.lean ====
/- The cotangent of the mixer's first projection, put together from its parts. -/
module

public import proofs.«01_k».proof.Defs
public import proofs.«01_k».proof.Proof.Product
public import proofs.«01_k».proof.Proof.Gen.AssembleIdeal.Value
public import proofs.«01_k».proof.Proof.Gen.AssembleReferenceIdeal.Run
public import Idealize.ShloMosaic.Lib.Claim
public import Idealize.ShloMosaic.Lib.Pointwise
public import Idealize.ShloMosaic.Lib.Pipeline.ValueKit

@[expose] public section

set_option maxRecDepth 16384

noncomputable section

namespace Cert.AssembleIdeal.Value

open Cert.AssembleIdeal Cert.AssembleIdeal.Gen Cert.Product Idealize.ShloMosaic
open Idealize.ShloMosaic.TcCoe Idealize.SL.Sem

/-- A part of 1024 columns; the windows of k and v, two blocks of rows each; the whole. -/
abbrev Part (n : ℕ) : Type := FVec Ideal (Grid n 1024) .bf16
abbrev Windows : Type := FVec Ideal S32x256x256 .f32
abbrev Whole (n : ℕ) : Type := FVec Ideal (Grid n 3328) .bf16

/-- Row `i` of block `n`. -/
def rowAt (n : Fin 32) (i : Fin 128) : Fin 4096 := ⟨n.val * 128 + i.val, by omega⟩

/-- A block's rows of k and v: the second half of its own window, and the first half of the next one. -/
def later (w : Windows) (n : Fin 32) (i : Fin 128) (l : Fin 256) : EReal :=
  if h : n.val < 31 then w (ix3 ⟨n.val + 1, by omega⟩ ⟨i.val, by omega⟩ l) else 0
def pairs (w : Windows) (n : Fin 32) (i : Fin 128) (l : Fin 256) : EReal :=
  w (ix3 n ⟨128 + i.val, by omega⟩ l) + later w n i l

/-- Four parts side by side. -/
def beside (q u v : Fin 1024 → EReal) (k : Fin 256 → EReal) (l : Fin 3328) : EReal :=
  if h : l.val < 1024 then q ⟨l.val, h⟩ else if h : l.val < 2048 then u ⟨l.val - 1024, by omega⟩
  else if h : l.val < 3072 then v ⟨l.val - 2048, by omega⟩ else k ⟨l.val - 3072, by omega⟩

section
variable (q u v : Fin 1024 → EReal) (k : Fin 256 → EReal)

theorem beside_q (a : Fin 1024) (l : Fin 3328) (h : l.val = a.val) : beside q u v k l = q a := by
  have ha := a.isLt
  unfold beside
  rw [dif_pos (by omega)]
  exact congrArg q (Fin.ext h)
theorem beside_u (a : Fin 1024) (l : Fin 3328) (h : l.val = 1024 + a.val) : beside q u v k l = u a := by
  have ha := a.isLt
  unfold beside
  rw [dif_neg (by omega), dif_pos (by omega)]
  exact congrArg u (Fin.ext (by show l.val - 1024 = a.val; omega))
theorem beside_v (a : Fin 1024) (l : Fin 3328) (h : l.val = 2048 + a.val) : beside q u v k l = v a := by
  have ha := a.isLt
  unfold beside
  rw [dif_neg (by omega), dif_neg (by omega), dif_pos (by omega)]
  exact congrArg v (Fin.ext (by show l.val - 2048 = a.val; omega))
theorem beside_k (a : Fin 256) (l : Fin 3328) (h : l.val = 3072 + a.val) : beside q u v k l = k a := by
  have ha := a.isLt
  unfold beside
  rw [dif_neg (by omega), dif_neg (by omega), dif_neg (by omega)]
  exact congrArg k (Fin.ext (by show l.val - 3072 = a.val; omega))
end

/-- The array: row by row, the parts side by side. -/
def wholeRow (q : Part 4096) (w : Windows) (u v : Part 4096) (n : Fin 32) (i : Fin 128) (l : Fin 3328) : EReal :=
  beside (fun a => q (ix2 (rowAt n i) a)) (fun a => u (ix2 (rowAt n i) a)) (fun a => v (ix2 (rowAt n i) a)) (pairs w n i) l
def whole (q : Part 4096) (w : Windows) (u v : Part 4096) : Whole 4096 :=
  fun j => wholeRow q w u v ⟨(j 0).val / 128, by have := (j 0).isLt; simp at this; omega⟩ ⟨(j 0).val % 128, by omega⟩ (j 1)

theorem whole_at (q : Part 4096) (w : Windows) (u v : Part 4096) (n : Fin 32) (i : Fin 128) (l : Fin 3328) :
    whole q w u v (ix2 (rowAt n i) l) = wholeRow q w u v n i l := by
  have hi := i.isLt
  have e0 : (⟨(n.val * 128 + i.val) / 128, by omega⟩ : Fin 32) = n := Fin.ext (by show (n.val * 128 + i.val) / 128 = n.val; omega)
  have e1 : (⟨(n.val * 128 + i.val) % 128, by omega⟩ : Fin 128) = i := Fin.ext (by show (n.val * 128 + i.val) % 128 = i.val; omega)
  show wholeRow q w u v ⟨(n.val * 128 + i.val) / 128, _⟩ ⟨(n.val * 128 + i.val) % 128, _⟩ l = _
  rw [e0, e1]

/-- A row is a row of a block. -/
theorem row_of (r : Fin 4096) : ∃ (n : Fin 32) (i : Fin 128), r = rowAt n i :=
  ⟨⟨r.val / 128, by omega⟩, ⟨r.val % 128, by omega⟩, Fin.ext (by show r.val = r.val / 128 * 128 + r.val % 128; omega)⟩

/-- Whether a block has one after it. -/
theorem not_last : ∀ n : Fin 32, Scalar.cmpi .slt (BitVec.ofNat 32 n.val) 31#32 = BitVec.ofBool (decide (n.val < 31)) := by decide

theorem sum_at (t : grid0.Coords) (n : Fin 32) (hn : (t 0).val = n.val) (a b : FVec Ideal S1x128x256 .f32) (i : Fin 128) (l : Fin 256) :
    (k0_pay1 (F := Ideal) t a b (ix2 i l) : EReal) = a (ix3 0 i l) + if n.val < 31 then (b (ix3 0 i l) : EReal) else 0 := by
  pointwise [k0_pay1]
  rw [hn, not_last]
  by_cases h : n.val < 31
  · simp [h, Scalar.select]
  · simp [h, Scalar.select]

variable (m : (ℓ : Loc nD τ sig) → Buf (Elt Ideal) ℓ) (c : Dev nD)

/-- The argument arrays. -/
abbrev argQ : Part 4096 := m ((c.tc : Thread nD τ).loc main_arg0)
abbrev argW : Windows := m ((c.tc : Thread nD τ).loc main_arg1)
abbrev argU : Part 4096 := m ((c.tc : Thread nD τ).loc main_arg2)
abbrev argV : Part 4096 := m ((c.tc : Thread nD τ).loc main_arg3)

/-- Which block each window is at, at a point. -/
theorem idx_val : ∀ t : Fin cfg0.N, win0_0.index t = ![t.val, 0] ∧ win0_1.index t = ![t.val, 0, 0] ∧ win0_2.index t = ![min (t.val + 1) 31, 0, 0]
    ∧ win0_3.index t = ![t.val, 0] ∧ win0_4.index t = ![t.val, 0] ∧ win0_5.index t = ![t.val, 0] :=
  (by decide +kernel : ∀ t : Fin grid0.N, _)

theorem point_lt (t : Fin cfg0.N) : t.val < 32 := Nat.lt_of_lt_of_eq t.isLt N_0
def pt (t : Fin cfg0.N) : Fin 32 := ⟨t.val, point_lt t⟩
theorem coords_val : ∀ t : Fin cfg0.N, (grid0.coords t 0).val = t.val := (by decide +kernel : ∀ t : Fin grid0.N, _)

/-- The blocks of a point. -/
abbrev blkQ (t : Fin cfg0.N) : Part 128 := iblk m c 0 t
abbrev blkOwn (t : Fin cfg0.N) : FVec Ideal S1x256x256 .f32 := iblk m c 1 t
abbrev blkNext (t : Fin cfg0.N) : FVec Ideal S1x256x256 .f32 := iblk m c 2 t
abbrev blkU (t : Fin cfg0.N) : Part 128 := iblk m c 3 t
abbrev blkV (t : Fin cfg0.N) : Part 128 := iblk m c 4 t

theorem blkQ_at (t : Fin cfg0.N) (i : Fin 128) (l : Fin 1024) : blkQ m c t (ix2 i l) = argQ m c (ix2 (rowAt (pt t) i) l) := by
  unfold rowAt pt; blk_ext! [iblk, V, idx_val t]
theorem blkU_at (t : Fin cfg0.N) (i : Fin 128) (l : Fin 1024) : blkU m c t (ix2 i l) = argU m c (ix2 (rowAt (pt t) i) l) := by
  unfold rowAt pt; blk_ext! [iblk, V, idx_val t]
theorem blkV_at (t : Fin cfg0.N) (i : Fin 128) (l : Fin 1024) : blkV m c t (ix2 i l) = argV m c (ix2 (rowAt (pt t) i) l) := by
  unfold rowAt pt; blk_ext! [iblk, V, idx_val t]
theorem blkOwn_at (t : Fin cfg0.N) (i l : Fin 256) : blkOwn m c t (ix3 0 i l) = argW m c (ix3 (pt t) i l) := by
  unfold pt; blk_ext! [iblk, V, idx_val t]
theorem blkNext_at (t : Fin cfg0.N) (i l : Fin 256) : blkNext m c t (ix3 0 i l) = argW m c (ix3 ⟨min (t.val + 1) 31, by omega⟩ i l) := by
  blk_ext! [iblk, V, idx_val t]

/-- A place of a part, in the whole. -/
theorem place {w o : ℕ} (x : (⟨2, ![128, w]⟩ : Shape).Idx) (j : (⟨2, ![128, 3328]⟩ : Shape).Idx)
    (h0 : (j 0).val = (x 0).val) (h1 : (j 1).val = o + (x 1).val) :
    ∃ (a : Fin 128) (b : Fin w) (l : Fin 3328), x = ix2 a b ∧ j = ix2 a l ∧ l.val = o + b.val := by
  refine ⟨x 0, x 1, j 1, funext fun a => ?_, funext fun a => ?_, h1⟩
  · fin_cases a <;> rfl
  · fin_cases a
    · exact Fin.ext h0
    · rfl

/-- The halves of a window. -/
theorem ld_second (x : FVec Ideal S1x256x256 .f32) (i : Fin 128) (l : Fin 256) :
    View.ld (Val := Elt Ideal) (S := S1x256x256) (e' := .f32) x (Rect.unit ![0, 128, 0] ![1, 128, 256] inb_S1x256x256_S1x128x256_0_128_0) (ix3 0 i l)
      = x (ix3 0 ⟨128 + i.val, by omega⟩ l) := by
  pointwise []
theorem ld_first (x : FVec Ideal S1x256x256 .f32) (i : Fin 128) (l : Fin 256) :
    View.ld (Val := Elt Ideal) (S := S1x256x256) (e' := .f32) x (Rect.unit ![0, 0, 0] ![1, 128, 256] inb_S1x256x256_S1x128x256_0_0_0) (ix3 0 i l)
      = x (ix3 0 ⟨i.val, by omega⟩ l) := by
  pointwise []

/-- The four parts are the whole. -/
theorem cover (k : FVec Ideal S128x256 .bf16) (v u q : FVec Ideal S128x1024 .bf16) (j : S128x3328.Idx) :
    ∃ p ∈ ([⟨Rect.unit ![0, 3072] ![128, 256] inb_S128x3328_S128x256_0_3072, k⟩, ⟨Rect.unit ![0, 2048] ![128, 1024] inb_S128x3328_S128x1024_0_2048, v⟩,
      ⟨Rect.unit ![0, 1024] ![128, 1024] inb_S128x3328_S128x1024_0_1024, u⟩, ⟨Rect.unit ![0, 0] ![128, 1024] inb_S128x3328_S128x1024_0_0, q⟩] :
        List (View.Piece (Elt Ideal) S128x3328 .bf16)), j ∈ p.1.set :=
  View.cover_of_tiledBy _ ![128, 256] (by sl_kernel_rfl) j

/-- What a point leaves. -/
theorem point_at (t : Fin cfg0.N) (j : S128x3328.Idx) :
    (outsAt0 m c t j : EReal) = wholeRow (argQ m c) (argW m c) (argU m c) (argV m c) (pt t) (j 0) (j 1) := by
  unfold outsAt0 out0_A_5
  dsimp only
  frame_open
  frame_out
  canon_tiles x hx using cover _ _ _ _ j
  · obtain ⟨a, b, l, rfl, rfl, hl⟩ := place (w := 256) (o := 3072) x j hx0 hx1
    show _ = wholeRow (argQ m c) (argW m c) (argU m c) (argV m c) (pt t) a l
    unfold wholeRow
    rw [beside_k _ _ _ _ b l hl]
    refine (sum_at _ (pt t) (coords_val t) _ _ a b).trans ?_
    rw [ld_second, ld_first]
    unfold pairs later
    refine congrArg₂ (fun x y : EReal => x + y) (blkOwn_at m c t _ b) ?_
    by_cases h : (pt t).val < 31
    · rw [if_pos h, dif_pos h]
      refine (blkNext_at m c t _ b).trans (congrArg (fun n => argW m c (ix3 n _ b)) (Fin.ext ?_))
      have h' : t.val < 31 := h
      show min (t.val + 1) 31 = t.val + 1
      omega
    · rw [if_neg h, dif_neg h]
  · obtain ⟨a, b, l, rfl, rfl, hl⟩ := place (w := 1024) (o := 2048) x j hx0 hx1
    show _ = wholeRow (argQ m c) (argW m c) (argU m c) (argV m c) (pt t) a l
    unfold wholeRow
    rw [beside_v _ _ _ _ b l hl]
    exact blkV_at m c t a b
  · obtain ⟨a, b, l, rfl, rfl, hl⟩ := place (w := 1024) (o := 1024) x j hx0 hx1
    show _ = wholeRow (argQ m c) (argW m c) (argU m c) (argV m c) (pt t) a l
    unfold wholeRow
    rw [beside_u _ _ _ _ b l hl]
    exact blkU_at m c t a b
  · obtain ⟨a, b, l, rfl, rfl, hl⟩ := place (w := 1024) (o := 0) x j hx0 (by omega)
    show _ = wholeRow (argQ m c) (argW m c) (argU m c) (argV m c) (pt t) a l
    unfold wholeRow
    rw [beside_q _ _ _ _ b l (by omega)]
    exact blkQ_at m c t a b

/-- The kernel's array. -/
theorem final : (dats m 0 c).arrAt 5 cfg0.N = whole (argQ m c) (argW m c) (argU m c) (argV m c) := by
  refine (dats m 0 c).arrAt_eq_of_covers 5 _ (by decide +kernel) fun t _ y => ?_
  blk_simp [idx_val t]
  rw [after0_5]
  obtain ⟨i, j, rfl⟩ := ix2_of (a := 128) (b := 3328) y
  have e : (win0_5.blk t).view.emb (ix2 i j) = ix2 (rowAt (pt t) i) j := by
    funext a
    fin_cases a
    · exact Fin.ext (by simp [rowAt, pt, idx_val t])
    · exact Fin.ext (by simp [idx_val t])
  rw [e, whole_at]
  exact point_at m c t (ix2 i j)

end Cert.AssembleIdeal.Value

namespace Cert.AssembleReferenceIdeal.Stage

open Cert.AssembleReferenceIdeal Cert.AssembleReferenceIdeal.Gen Cert.Product Idealize.ShloMosaic
open Cert.AssembleIdeal.Value (Part Windows Whole later pairs rowAt row_of beside_q beside_u beside_v beside_k whole whole_at wholeRow)
open Idealize.ShloMosaic.TcCoe Idealize.SL.Sem

/-- The reference's arrays, of its arguments: the first halves of the windows, each at the block before it; the sums; the whole. -/
def moved (w : Windows) : FVec Ideal S32x128x256 .f32 :=
  pad S32x128x256 ![0, 0, 0] ![1, 0, 0] ![0, 0, 0] (extractStridedSlice S31x128x256 ![1, 0, 0] w slices_S32x256x256_S31x128x256_1_0_0)
    (sitofp .f32 (constantI S_ 32 0#32)) pads_S31x128x256_S32x128x256_010_000_000 h_S_
def sums (w : Windows) : FVec Ideal S4096x256 .bf16 :=
  truncf .bf16 (shapeCast _ (addf (extractStridedSlice S32x128x256 ![0, 128, 0] w slices_S32x256x256_S32x128x256_0_128_0) (moved w))
    shapeCasts_S32x128x256_S4096x256) bitsLt_bf16_f32
def result (q : Part 4096) (w : Windows) (u v : Part 4096) : Whole 4096 :=
  concatenate S4096x3328 1 [⟨S4096x1024, q⟩, ⟨S4096x1024, u⟩, ⟨S4096x1024, v⟩, ⟨S4096x256, sums w⟩]
    concatenates_S4096x1024_S4096x1024_S4096x1024_S4096x256_S4096x3328_d1

theorem zero_int : FloatOps.sitofp (F := Ideal) FTy.f32 0#32 = (0 : EReal) := by
  show ((((0#32 : BitVec 32).toInt : ℝ)) : EReal) = 0
  simp

theorem moved_at (w : Windows) (n : Fin 32) (i : Fin 128) (l : Fin 256) : (moved w (ix3 n i l) : EReal) = later w n i l := by
  unfold later
  pointwise [moved]
  by_cases h : n.val < 31
  · rw [dif_pos h, dif_pos h]
    exact congrArg (fun k => (w (ix3 k _ l) : EReal)) (Fin.ext (Nat.add_comm _ _))
  · rw [dif_neg h, dif_neg h]
    exact zero_int

theorem sums_at (w : Windows) (n : Fin 32) (i : Fin 128) (l : Fin 256) : (sums w (ix2 (rowAt n i) l) : EReal) = pairs w n i l := by
  unfold pairs rowAt
  pointwise [sums, moved_at]

theorem result_eq (q : Part 4096) (w : Windows) (u v : Part 4096) : result q w u v = whole q w u v := by
  funext j
  obtain ⟨r, l, rfl⟩ := ix2_of (a := 4096) (b := 3328) j
  obtain ⟨n, i, rfl⟩ := row_of r
  rw [whole_at]
  pointwise [result]
  unfold wholeRow
  by_cases h0 : l.val < 1024
  · rw [dif_pos h0]
    exact Eq.trans (by rfl) (beside_q _ _ _ _ ⟨l.val, h0⟩ l rfl).symm
  rw [dif_neg h0]
  by_cases h1 : l.val - 1024 < 1024
  · rw [dif_pos h1]
    exact Eq.trans (by rfl) (beside_u _ _ _ _ ⟨l.val - 1024, h1⟩ l (by show l.val = 1024 + (l.val - 1024); omega)).symm
  rw [dif_neg h1]
  by_cases h2 : l.val - 1024 - 1024 < 1024
  · rw [dif_pos h2]
    exact Eq.trans (by rfl) (beside_v _ _ _ _ ⟨l.val - 1024 - 1024, h2⟩ l (by show l.val = 2048 + (l.val - 1024 - 1024); omega)).symm
  rw [dif_neg h2]
  exact (sums_at w n i _).trans (beside_k _ _ _ _ ⟨l.val - 1024 - 1024 - 1024, by omega⟩ l (by show l.val = 3072 + (l.val - 1024 - 1024 - 1024); omega)).symm

end Cert.AssembleReferenceIdeal.Stage

namespace Cert.Proof

open Idealize.ShloMosaic Idealize.SL.Sem
open Cert.AssembleIdeal.Value (argQ argW argU argV whole final)
open Cert.AssembleReferenceIdeal.Stage (result_eq)

/-- From the same arguments, both programs end with the same cotangent. -/
theorem assembled : Cert.algebraic_AssembleIdeal_AssembleReferenceIdeal := by
  intro m g m' g' _ hargs
  refine ⟨fun c => whole (argQ m c) (argW m c) (argU m c) (argV m c), ?_, ?_⟩
  · refine (θ_run _ _ _).mono (fun r h c => ?_) (Cert.AssembleIdeal.Value.run_blocks m g)
    obtain ⟨h0, ha⟩ := h c
    exact ⟨h0.trans (final m c), ha⟩
  · refine (θ_run _ _ _).mono (fun r h c => ?_) (Cert.AssembleReferenceIdeal.Value.run m' g')
    obtain ⟨h0, ha⟩ := h c
    obtain ⟨e0, e1, e2, e3⟩ := hargs c
    refine ⟨h0.trans ?_, ha⟩
    rw [e0, e1, e2, e3]
    exact result_eq _ _ _ _

end Cert.Proof

end
-- ==== Proof.lean ====
module

public import proofs.«01_k».proof.Defs
public import proofs.«01_k».proof.Proof.Gen.Kernel.Frame
public import proofs.«01_k».proof.Proof.Gen.KernelIdeal.Frame
public import proofs.«01_k».proof.Proof.Equation
public import proofs.«01_k».proof.Proof.Gen.Gate.Frame
public import proofs.«01_k».proof.Proof.GateEquation
public import proofs.«01_k».proof.Proof.Gen.Wgrad.Frame
public import proofs.«01_k».proof.Proof.WgradEquation
public import proofs.«01_k».proof.Proof.Gen.Ffn.Frame
public import proofs.«01_k».proof.Proof.FfnEquation
public import proofs.«01_k».proof.Proof.Gen.Attn.Frame
public import proofs.«01_k».proof.Proof.AttnEquation
public import proofs.«01_k».proof.Proof.ProjDxEquation
public import proofs.«01_k».proof.Proof.ProjDwEquation
public import proofs.«01_k».proof.Proof.MixDxEquation
public import proofs.«01_k».proof.Proof.MixDwEquation
public import proofs.«01_k».proof.Proof.ProjEquation
public import proofs.«01_k».proof.Proof.MixEquation
public import proofs.«01_k».proof.Proof.XDhEquation
public import proofs.«01_k».proof.Proof.XDoEquation
public import proofs.«01_k».proof.Proof.XDwqEquation
public import proofs.«01_k».proof.Proof.XDwoEquation
public import proofs.«01_k».proof.Proof.XqEquation
public import proofs.«01_k».proof.Proof.XoEquation
public import proofs.«01_k».proof.Proof.MemDwEquation
public import proofs.«01_k».proof.Proof.MemDxEquation
public import proofs.«01_k».proof.Proof.MemEquation
public import proofs.«01_k».proof.Proof.PoolDxEquation
public import proofs.«01_k».proof.Proof.PoolDwEquation
public import proofs.«01_k».proof.Proof.XattnEquation
public import proofs.«01_k».proof.Proof.NormDxEquation
public import proofs.«01_k».proof.Proof.ResidEquation
public import proofs.«01_k».proof.Proof.NormEquation
public import proofs.«01_k».proof.Proof.LossEquation
public import proofs.«01_k».proof.Proof.AssembleEquation
public import proofs.«01_k».proof.Proof.Gen.ProjDx.Frame
public import proofs.«01_k».proof.Proof.Gen.ProjDxIdeal.Frame
public import proofs.«01_k».proof.Proof.Gen.ProjDxIdeal.Value
public import proofs.«01_k».proof.Proof.Gen.ProjDxReferenceIdeal.Run
public import proofs.«01_k».proof.Proof.Gen.ProjDw.Frame
public import proofs.«01_k».proof.Proof.Gen.ProjDwIdeal.Frame
public import proofs.«01_k».proof.Proof.Gen.ProjDwIdeal.Value
public import proofs.«01_k».proof.Proof.Gen.ProjDwReferenceIdeal.Run
public import proofs.«01_k».proof.Proof.Gen.MixDx.Frame
public import proofs.«01_k».proof.Proof.Gen.MixDxIdeal.Frame
public import proofs.«01_k».proof.Proof.Gen.MixDxIdeal.Value
public import proofs.«01_k».proof.Proof.Gen.MixDxReferenceIdeal.Run
public import proofs.«01_k».proof.Proof.Gen.MixDw.Frame
public import proofs.«01_k».proof.Proof.Gen.MixDwIdeal.Frame
public import proofs.«01_k».proof.Proof.Gen.MixDwIdeal.Value
public import proofs.«01_k».proof.Proof.Gen.MixDwReferenceIdeal.Run
public import proofs.«01_k».proof.Proof.Gen.Proj.Frame
public import proofs.«01_k».proof.Proof.Gen.ProjIdeal.Frame
public import proofs.«01_k».proof.Proof.Gen.ProjIdeal.Value
public import proofs.«01_k».proof.Proof.Gen.ProjReferenceIdeal.Run
public import proofs.«01_k».proof.Proof.Gen.Mix.Frame
public import proofs.«01_k».proof.Proof.Gen.MixIdeal.Frame
public import proofs.«01_k».proof.Proof.Gen.MixIdeal.Value
public import proofs.«01_k».proof.Proof.Gen.XDh.Frame
public import proofs.«01_k».proof.Proof.Gen.XDhIdeal.Frame
public import proofs.«01_k».proof.Proof.Gen.XDhIdeal.Value
public import proofs.«01_k».proof.Proof.Gen.XDhReferenceIdeal.Run
public import proofs.«01_k».proof.Proof.Gen.XDo.Frame
public import proofs.«01_k».proof.Proof.Gen.XDoIdeal.Frame
public import proofs.«01_k».proof.Proof.Gen.XDoIdeal.Value
public import proofs.«01_k».proof.Proof.Gen.XDoReferenceIdeal.Run
public import proofs.«01_k».proof.Proof.Gen.XDwq.Frame
public import proofs.«01_k».proof.Proof.Gen.XDwqIdeal.Frame
public import proofs.«01_k».proof.Proof.Gen.XDwqIdeal.Value
public import proofs.«01_k».proof.Proof.Gen.XDwqReferenceIdeal.Run
public import proofs.«01_k».proof.Proof.Gen.XDwo.Frame
public import proofs.«01_k».proof.Proof.Gen.XDwoIdeal.Frame
public import proofs.«01_k».proof.Proof.Gen.XDwoIdeal.Value
public import proofs.«01_k».proof.Proof.Gen.XDwoReferenceIdeal.Run
public import proofs.«01_k».proof.Proof.Gen.Xq.Frame
public import proofs.«01_k».proof.Proof.Gen.XqIdeal.Frame
public import proofs.«01_k».proof.Proof.Gen.XqIdeal.Value
public import proofs.«01_k».proof.Proof.Gen.XqReferenceIdeal.Run
public import proofs.«01_k».proof.Proof.Gen.Xo.Frame
public import proofs.«01_k».proof.Proof.Gen.XoIdeal.Frame
public import proofs.«01_k».proof.Proof.Gen.XoIdeal.Value
public import proofs.«01_k».proof.Proof.Gen.XoReferenceIdeal.Run
public import proofs.«01_k».proof.Proof.Gen.MemDw.Frame
public import proofs.«01_k».proof.Proof.Gen.MemDwIdeal.Frame
public import proofs.«01_k».proof.Proof.Gen.MemDwIdeal.Value
public import proofs.«01_k».proof.Proof.Gen.MemDwReferenceIdeal.Run
public import proofs.«01_k».proof.Proof.Gen.MemDx.Frame
public import proofs.«01_k».proof.Proof.Gen.MemDxIdeal.Frame
public import proofs.«01_k».proof.Proof.Gen.MemDxIdeal.Value
public import proofs.«01_k».proof.Proof.Gen.MemDxReferenceIdeal.Run
public import proofs.«01_k».proof.Proof.Gen.Mem.Frame
public import proofs.«01_k».proof.Proof.Gen.MemIdeal.Frame
public import proofs.«01_k».proof.Proof.Gen.MemIdeal.Value
public import proofs.«01_k».proof.Proof.Gen.MemReferenceIdeal.Run
public import proofs.«01_k».proof.Proof.Gen.PoolDx.Frame
public import proofs.«01_k».proof.Proof.Gen.PoolDxIdeal.Frame
public import proofs.«01_k».proof.Proof.Gen.PoolDxIdeal.Value
public import proofs.«01_k».proof.Proof.Gen.PoolDxReferenceIdeal.Run
public import proofs.«01_k».proof.Proof.Gen.PoolDw.Frame
public import proofs.«01_k».proof.Proof.Gen.PoolDwIdeal.Frame
public import proofs.«01_k».proof.Proof.Gen.PoolDwIdeal.Value
public import proofs.«01_k».proof.Proof.Gen.PoolDwReferenceIdeal.Run
public import proofs.«01_k».proof.Proof.Gen.Xattn.Frame
public import proofs.«01_k».proof.Proof.Gen.XattnIdeal.Frame
public import proofs.«01_k».proof.Proof.Gen.XattnIdeal.Value
public import proofs.«01_k».proof.Proof.Gen.XattnReferenceIdeal.Run
public import proofs.«01_k».proof.Proof.Gen.MixReferenceIdeal.Run
public import proofs.«01_k».proof.Proof.Gen.NormDx.Frame
public import proofs.«01_k».proof.Proof.Gen.Resid.Frame
public import proofs.«01_k».proof.Proof.Gen.Norm.Frame
public import proofs.«01_k».proof.Proof.Gen.Loss.Frame
public import proofs.«01_k».proof.Proof.Gen.Assemble.Frame

@[expose] public section

noncomputable section

namespace Cert.Proof

open Idealize.ShloMosaic Idealize.SL.Sem

/-- Each reference ends with its arguments unchanged and every counter at zero. -/
theorem reference_frame : Cert.quiescent_ReferenceIdeal := by
  intro m g _
  refine (θ_run _ _ _).mono (fun r h => ⟨fun c => ?_, sem_eq_zero_of_no_sems (by decide) r.2⟩) (Cert.ReferenceIdeal.Value.run m g)
  exact (h c).2.2.2
theorem gate_reference_frame : Cert.quiescent_GateReferenceIdeal := by
  intro m g _
  refine (θ_run _ _ _).mono (fun r h => ⟨fun c => ?_, sem_eq_zero_of_no_sems (by decide) r.2⟩) (Cert.GateReferenceIdeal.Value.run m g)
  exact (h c).2.2.2
theorem wgrad_reference_frame : Cert.quiescent_WgradReferenceIdeal := by
  intro m g _
  refine (θ_run _ _ _).mono (fun r h => ⟨fun c => ?_, sem_eq_zero_of_no_sems (by decide) r.2⟩) (Cert.WgradReferenceIdeal.Value.run m g)
  exact (h c).2
theorem ffn_reference_frame : Cert.quiescent_FfnReferenceIdeal := by
  intro m g _
  refine (θ_run _ _ _).mono (fun r h => ⟨fun c => ?_, sem_eq_zero_of_no_sems (by decide) r.2⟩) (Cert.FfnReferenceIdeal.Value.run m g)
  exact (h c).2.2.2.2
theorem attn_reference_frame : Cert.quiescent_AttnReferenceIdeal := by
  intro m g _
  refine (θ_run _ _ _).mono (fun r h => ⟨fun c => ?_, sem_eq_zero_of_no_sems (by decide) r.2⟩) (Cert.AttnReferenceIdeal.Value.run m g)
  exact (h c).2.2.2
theorem proj_dx_reference_frame : Cert.quiescent_ProjDxReferenceIdeal := by
  intro m g _
  refine (θ_run _ _ _).mono (fun r h => ⟨fun c => ?_, sem_eq_zero_of_no_sems (by decide) r.2⟩) (Cert.ProjDxReferenceIdeal.Value.run m g)
  exact (h c).2
theorem proj_dw_reference_frame : Cert.quiescent_ProjDwReferenceIdeal := by
  intro m g _
  refine (θ_run _ _ _).mono (fun r h => ⟨fun c => ?_, sem_eq_zero_of_no_sems (by decide) r.2⟩) (Cert.ProjDwReferenceIdeal.Value.run m g)
  exact (h c).2
theorem mix_dx_reference_frame : Cert.quiescent_MixDxReferenceIdeal := by
  intro m g _
  refine (θ_run _ _ _).mono (fun r h => ⟨fun c => ?_, sem_eq_zero_of_no_sems (by decide) r.2⟩) (Cert.MixDxReferenceIdeal.Value.run m g)
  exact (h c).2
theorem mix_dw_reference_frame : Cert.quiescent_MixDwReferenceIdeal := by
  intro m g _
  refine (θ_run _ _ _).mono (fun r h => ⟨fun c => ?_, sem_eq_zero_of_no_sems (by decide) r.2⟩) (Cert.MixDwReferenceIdeal.Value.run m g)
  exact (h c).2
theorem proj_reference_frame : Cert.quiescent_ProjReferenceIdeal := by
  intro m g _
  refine (θ_run _ _ _).mono (fun r h => ⟨fun c => ?_, sem_eq_zero_of_no_sems (by decide) r.2⟩) (Cert.ProjReferenceIdeal.Value.run m g)
  exact (h c).2
theorem mix_reference_frame : Cert.quiescent_MixReferenceIdeal := by
  intro m g _
  refine (θ_run _ _ _).mono (fun r h => ⟨fun c => ?_, sem_eq_zero_of_no_sems (by decide) r.2⟩) (Cert.MixReferenceIdeal.Value.run m g)
  exact (h c).2
theorem x_dh_reference_frame : Cert.quiescent_XDhReferenceIdeal := by
  intro m g _
  refine (θ_run _ _ _).mono (fun r h => ⟨fun c => ?_, sem_eq_zero_of_no_sems (by decide) r.2⟩) (Cert.XDhReferenceIdeal.Value.run m g)
  exact (h c).2
theorem x_do_reference_frame : Cert.quiescent_XDoReferenceIdeal := by
  intro m g _
  refine (θ_run _ _ _).mono (fun r h => ⟨fun c => ?_, sem_eq_zero_of_no_sems (by decide) r.2⟩) (Cert.XDoReferenceIdeal.Value.run m g)
  exact (h c).2
theorem x_dwq_reference_frame : Cert.quiescent_XDwqReferenceIdeal := by
  intro m g _
  refine (θ_run _ _ _).mono (fun r h => ⟨fun c => ?_, sem_eq_zero_of_no_sems (by decide) r.2⟩) (Cert.XDwqReferenceIdeal.Value.run m g)
  exact (h c).2
theorem x_dwo_reference_frame : Cert.quiescent_XDwoReferenceIdeal := by
  intro m g _
  refine (θ_run _ _ _).mono (fun r h => ⟨fun c => ?_, sem_eq_zero_of_no_sems (by decide) r.2⟩) (Cert.XDwoReferenceIdeal.Value.run m g)
  exact (h c).2
theorem xq_reference_frame : Cert.quiescent_XqReferenceIdeal := by
  intro m g _
  refine (θ_run _ _ _).mono (fun r h => ⟨fun c => ?_, sem_eq_zero_of_no_sems (by decide) r.2⟩) (Cert.XqReferenceIdeal.Value.run m g)
  exact (h c).2
theorem xo_reference_frame : Cert.quiescent_XoReferenceIdeal := by
  intro m g _
  refine (θ_run _ _ _).mono (fun r h => ⟨fun c => ?_, sem_eq_zero_of_no_sems (by decide) r.2⟩) (Cert.XoReferenceIdeal.Value.run m g)
  exact (h c).2
theorem mem_dw_reference_frame : Cert.quiescent_MemDwReferenceIdeal := by
  intro m g _
  refine (θ_run _ _ _).mono (fun r h => ⟨fun c => ?_, sem_eq_zero_of_no_sems (by decide) r.2⟩) (Cert.MemDwReferenceIdeal.Value.run m g)
  exact (h c).2
theorem mem_dx_reference_frame : Cert.quiescent_MemDxReferenceIdeal := by
  intro m g _
  refine (θ_run _ _ _).mono (fun r h => ⟨fun c => ?_, sem_eq_zero_of_no_sems (by decide) r.2⟩) (Cert.MemDxReferenceIdeal.Value.run m g)
  exact (h c).2
theorem mem_reference_frame : Cert.quiescent_MemReferenceIdeal := by
  intro m g _
  refine (θ_run _ _ _).mono (fun r h => ⟨fun c => ?_, sem_eq_zero_of_no_sems (by decide) r.2⟩) (Cert.MemReferenceIdeal.Value.run m g)
  exact (h c).2
theorem pool_dx_reference_frame : Cert.quiescent_PoolDxReferenceIdeal := by
  intro m g _
  refine (θ_run _ _ _).mono (fun r h => ⟨fun c => ?_, sem_eq_zero_of_no_sems (by decide) r.2⟩) (Cert.PoolDxReferenceIdeal.Value.run m g)
  exact (h c).2.2.2
theorem pool_dw_reference_frame : Cert.quiescent_PoolDwReferenceIdeal := by
  intro m g _
  refine (θ_run _ _ _).mono (fun r h => ⟨fun c => ?_, sem_eq_zero_of_no_sems (by decide) r.2⟩) (Cert.PoolDwReferenceIdeal.Value.run m g)
  exact (h c).2
theorem xattn_reference_frame : Cert.quiescent_XattnReferenceIdeal := by
  intro m g _
  refine (θ_run _ _ _).mono (fun r h => ⟨fun c => ?_, sem_eq_zero_of_no_sems (by decide) r.2⟩) (Cert.XattnReferenceIdeal.Value.run m g)
  exact (h c).2
theorem norm_dx_reference_frame : Cert.quiescent_NormDxReferenceIdeal := by
  intro m g _
  refine (θ_run _ _ _).mono (fun r h => ⟨fun c => ?_, sem_eq_zero_of_no_sems (by decide) r.2⟩) (Cert.NormDxReferenceIdeal.Value.run m g)
  exact (h c).2.2.2.2
theorem resid_reference_frame : Cert.quiescent_ResidReferenceIdeal := by
  intro m g _
  refine (θ_run _ _ _).mono (fun r h => ⟨fun c => ?_, sem_eq_zero_of_no_sems (by decide) r.2⟩) (Cert.ResidReferenceIdeal.Value.run m g)
  exact (h c).2.2.2
theorem norm_reference_frame : Cert.quiescent_NormReferenceIdeal := by
  intro m g _
  refine (θ_run _ _ _).mono (fun r h => ⟨fun c => ?_, sem_eq_zero_of_no_sems (by decide) r.2⟩) (Cert.NormReferenceIdeal.Value.run m g)
  exact (h c).2
theorem loss_reference_frame : Cert.quiescent_LossReferenceIdeal := by
  intro m g _
  refine (θ_run _ _ _).mono (fun r h => ⟨fun c => ?_, sem_eq_zero_of_no_sems (by decide) r.2⟩) (Cert.LossReferenceIdeal.Value.run m g)
  exact (h c).2.2

theorem assemble_reference_frame : Cert.quiescent_AssembleReferenceIdeal := by
  intro m g _
  refine (θ_run _ _ _).mono (fun r h => ⟨fun c => ?_, sem_eq_zero_of_no_sems (by decide) r.2⟩) (Cert.AssembleReferenceIdeal.Value.run m g)
  exact (h c).2

theorem claim : Cert.Claim :=
  ⟨Cert.Kernel.Gen.facts, Cert.KernelIdeal.Gen.facts, Cert.ReferenceIdeal.Gen.facts,
    Cert.Gate.Gen.facts, Cert.GateIdeal.Gen.facts, Cert.GateReferenceIdeal.Gen.facts,
    Cert.Wgrad.Gen.facts, Cert.WgradIdeal.Gen.facts, Cert.WgradReferenceIdeal.Gen.facts,
    Cert.Ffn.Gen.facts, Cert.FfnIdeal.Gen.facts, Cert.FfnReferenceIdeal.Gen.facts,
    Cert.Attn.Gen.facts, Cert.AttnIdeal.Gen.facts, Cert.AttnReferenceIdeal.Gen.facts,
    Cert.ProjDx.Gen.facts, Cert.ProjDxIdeal.Gen.facts, Cert.ProjDxReferenceIdeal.Gen.facts,
    Cert.ProjDw.Gen.facts, Cert.ProjDwIdeal.Gen.facts, Cert.ProjDwReferenceIdeal.Gen.facts,
    Cert.MixDx.Gen.facts, Cert.MixDxIdeal.Gen.facts, Cert.MixDxReferenceIdeal.Gen.facts,
    Cert.MixDw.Gen.facts, Cert.MixDwIdeal.Gen.facts, Cert.MixDwReferenceIdeal.Gen.facts,
    Cert.Proj.Gen.facts, Cert.ProjIdeal.Gen.facts, Cert.ProjReferenceIdeal.Gen.facts,
    Cert.Mix.Gen.facts, Cert.MixIdeal.Gen.facts, Cert.MixReferenceIdeal.Gen.facts,
    Cert.XDh.Gen.facts, Cert.XDhIdeal.Gen.facts, Cert.XDhReferenceIdeal.Gen.facts,
    Cert.XDo.Gen.facts, Cert.XDoIdeal.Gen.facts, Cert.XDoReferenceIdeal.Gen.facts,
    Cert.XDwq.Gen.facts, Cert.XDwqIdeal.Gen.facts, Cert.XDwqReferenceIdeal.Gen.facts,
    Cert.XDwo.Gen.facts, Cert.XDwoIdeal.Gen.facts, Cert.XDwoReferenceIdeal.Gen.facts,
    Cert.Xq.Gen.facts, Cert.XqIdeal.Gen.facts, Cert.XqReferenceIdeal.Gen.facts,
    Cert.Xo.Gen.facts, Cert.XoIdeal.Gen.facts, Cert.XoReferenceIdeal.Gen.facts,
    Cert.MemDw.Gen.facts, Cert.MemDwIdeal.Gen.facts, Cert.MemDwReferenceIdeal.Gen.facts,
    Cert.MemDx.Gen.facts, Cert.MemDxIdeal.Gen.facts, Cert.MemDxReferenceIdeal.Gen.facts,
    Cert.Mem.Gen.facts, Cert.MemIdeal.Gen.facts, Cert.MemReferenceIdeal.Gen.facts,
    Cert.PoolDx.Gen.facts, Cert.PoolDxIdeal.Gen.facts, Cert.PoolDxReferenceIdeal.Gen.facts,
    Cert.PoolDw.Gen.facts, Cert.PoolDwIdeal.Gen.facts, Cert.PoolDwReferenceIdeal.Gen.facts,
    Cert.Xattn.Gen.facts, Cert.XattnIdeal.Gen.facts, Cert.XattnReferenceIdeal.Gen.facts,
    Cert.NormDx.Gen.facts, Cert.NormDxIdeal.Gen.facts, Cert.NormDxReferenceIdeal.Gen.facts,
    Cert.Resid.Gen.facts, Cert.ResidIdeal.Gen.facts, Cert.ResidReferenceIdeal.Gen.facts,
    Cert.Norm.Gen.facts, Cert.NormIdeal.Gen.facts, Cert.NormReferenceIdeal.Gen.facts,
    Cert.Loss.Gen.facts, Cert.LossIdeal.Gen.facts, Cert.LossReferenceIdeal.Gen.facts,
    Cert.Assemble.Gen.facts, Cert.AssembleIdeal.Gen.facts, Cert.AssembleReferenceIdeal.Gen.facts,
    facts_finite_scores, facts_finite_feed, facts_finite_attention, facts_finite_rows,
    fun m g _ => Cert.Kernel.Gen.frame m g,
    fun m g _ => Cert.KernelIdeal.Gen.frame m g,
    fun m g _ => Cert.KernelIdeal.Gen.frame m g,
    reference_frame,
    fun m g _ => reference_frame m g trivial,
    fun m g _ => Cert.Gate.Gen.frame m g,
    fun m g _ => Cert.GateIdeal.Gen.frame m g,
    fun m g _ => Cert.GateIdeal.Gen.frame m g,
    gate_reference_frame,
    fun m g _ => gate_reference_frame m g trivial,
    fun m g _ => Cert.Wgrad.Gen.frame m g,
    fun m g _ => Cert.WgradIdeal.Gen.frame m g,
    wgrad_reference_frame,
    fun m g _ => Cert.Ffn.Gen.frame m g,
    fun m g _ => Cert.FfnIdeal.Gen.frame m g,
    ffn_reference_frame,
    fun m g _ => Cert.Attn.Gen.frame m g,
    fun m g _ => Cert.AttnIdeal.Gen.frame m g,
    fun m g _ => Cert.AttnIdeal.Gen.frame m g,
    attn_reference_frame,
    fun m g _ => attn_reference_frame m g trivial,
    fun m g _ => Cert.ProjDx.Gen.frame m g,
    fun m g _ => Cert.ProjDxIdeal.Gen.frame m g,
    proj_dx_reference_frame,
    fun m g _ => Cert.ProjDw.Gen.frame m g,
    fun m g _ => Cert.ProjDwIdeal.Gen.frame m g,
    proj_dw_reference_frame,
    fun m g _ => Cert.MixDx.Gen.frame m g,
    fun m g _ => Cert.MixDxIdeal.Gen.frame m g,
    mix_dx_reference_frame,
    fun m g _ => Cert.MixDw.Gen.frame m g,
    fun m g _ => Cert.MixDwIdeal.Gen.frame m g,
    mix_dw_reference_frame,
    fun m g _ => Cert.Proj.Gen.frame m g,
    fun m g _ => Cert.ProjIdeal.Gen.frame m g,
    proj_reference_frame,
    fun m g _ => Cert.Mix.Gen.frame m g,
    fun m g _ => Cert.MixIdeal.Gen.frame m g,
    mix_reference_frame,
    fun m g _ => Cert.XDh.Gen.frame m g,
    fun m g _ => Cert.XDhIdeal.Gen.frame m g,
    x_dh_reference_frame,
    fun m g _ => Cert.XDo.Gen.frame m g,
    fun m g _ => Cert.XDoIdeal.Gen.frame m g,
    x_do_reference_frame,
    fun m g _ => Cert.XDwq.Gen.frame m g,
    fun m g _ => Cert.XDwqIdeal.Gen.frame m g,
    x_dwq_reference_frame,
    fun m g _ => Cert.XDwo.Gen.frame m g,
    fun m g _ => Cert.XDwoIdeal.Gen.frame m g,
    x_dwo_reference_frame,
    fun m g _ => Cert.Xq.Gen.frame m g,
    fun m g _ => Cert.XqIdeal.Gen.frame m g,
    xq_reference_frame,
    fun m g _ => Cert.Xo.Gen.frame m g,
    fun m g _ => Cert.XoIdeal.Gen.frame m g,
    xo_reference_frame,
    fun m g _ => Cert.MemDw.Gen.frame m g,
    fun m g _ => Cert.MemDwIdeal.Gen.frame m g,
    mem_dw_reference_frame,
    fun m g _ => Cert.MemDx.Gen.frame m g,
    fun m g _ => Cert.MemDxIdeal.Gen.frame m g,
    mem_dx_reference_frame,
    fun m g _ => Cert.Mem.Gen.frame m g,
    fun m g _ => Cert.MemIdeal.Gen.frame m g,
    mem_reference_frame,
    fun m g _ => Cert.PoolDx.Gen.frame m g,
    fun m g _ => Cert.PoolDxIdeal.Gen.frame m g,
    pool_dx_reference_frame,
    fun m g _ => Cert.PoolDw.Gen.frame m g,
    fun m g _ => Cert.PoolDwIdeal.Gen.frame m g,
    pool_dw_reference_frame,
    fun m g _ => Cert.Xattn.Gen.frame m g,
    fun m g _ => Cert.XattnIdeal.Gen.frame m g,
    fun m g _ => Cert.XattnIdeal.Gen.frame m g,
    xattn_reference_frame,
    fun m g _ => xattn_reference_frame m g trivial,
    fun m g _ => Cert.NormDx.Gen.frame m g,
    fun m g _ => Cert.NormDxIdeal.Gen.frame m g,
    norm_dx_reference_frame,
    fun m g _ => Cert.Resid.Gen.frame m g,
    fun m g _ => Cert.ResidIdeal.Gen.frame m g,
    resid_reference_frame,
    fun m g _ => Cert.Norm.Gen.frame m g,
    fun m g _ => Cert.NormIdeal.Gen.frame m g,
    norm_reference_frame,
    fun m g _ => Cert.Loss.Gen.frame m g,
    fun m g _ => Cert.LossIdeal.Gen.frame m g,
    loss_reference_frame,
    fun m g _ => Cert.Assemble.Gen.frame m g,
    fun m g _ => Cert.AssembleIdeal.Gen.frame m g,
    assemble_reference_frame,
    trivial, cross_attention,
    trivial, feed_gradient,
    trivial, weight_gradient,
    trivial, feed_forward,
    IdealRules.named_const.statement Cert.AttnIdeal.κ "mask" .f32 0xF149F2CA#32 ⊥ rfl, windowed_attention,
    trivial, projection_rows_gradient,
    trivial, projection_weight_gradient,
    trivial, mixed_rows_gradient,
    trivial, mixed_weight_gradient,
    trivial, projection,
    trivial, mixed_projection,
    trivial, query_rows_gradient,
    trivial, attended_rows_gradient,
    trivial, query_weight_gradient,
    trivial, attended_weight_gradient,
    trivial, query_projection,
    trivial, attended_projection,
    trivial, memory_weight_gradient,
    trivial, memory_gradient,
    trivial, memory_projection,
    trivial, pool_rows_gradient,
    trivial, pool_weight_gradient,
    trivial, attended_values,
    trivial, norm_gradient,
    trivial, trunk_rows,
    trivial, normed_rows,
    trivial, loss_and_gradient,
    trivial, assembled⟩

end Cert.Proof

end
